-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16_10) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v1) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v0) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v28) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v32) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v0) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v3_0)) (v1 : (c : Dev Cert.Kernel13Ideal.nD) → Buf (Elt Ideal) ((c.tc : Thread Cert.Kernel13Ideal.nD Cert.Kernel13Ideal.τ).loc Cert.Kernel13Ideal.main_v3_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v3_0) = v0 c
          ∧ r.2.mem ((c.tc : Thread Cert.Kernel13Ideal.nD Cert.Kernel13Ideal.τ).loc Cert.Kernel13Ideal.main_v3_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v37) = v0 c
          ∧ r.2.mem ((c.tc : Thread Cert.Reference13Ideal.nD Cert.Reference13Ideal.τ).loc Cert.Reference13Ideal.main_v38) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v2_0)) (v1 : (c : Dev Cert.Kernel14Ideal.nD) → Buf (Elt Ideal) ((c.tc : Thread Cert.Kernel14Ideal.nD Cert.Kernel14Ideal.τ).loc Cert.Kernel14Ideal.main_v2_1)) (v2 : (c : Dev Cert.Kernel14Ideal.nD) → Buf (Elt Ideal) ((c.tc : Thread Cert.Kernel14Ideal.nD Cert.Kernel14Ideal.τ).loc Cert.Kernel14Ideal.main_v2_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2_0) = v0 c
          ∧ r.2.mem ((c.tc : Thread Cert.Kernel14Ideal.nD Cert.Kernel14Ideal.τ).loc Cert.Kernel14Ideal.main_v2_1) = v1 c
          ∧ r.2.mem ((c.tc : Thread Cert.Kernel14Ideal.nD Cert.Kernel14Ideal.τ).loc Cert.Kernel14Ideal.main_v2_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v54) = v0 c
          ∧ r.2.mem ((c.tc : Thread Cert.Reference14Ideal.nD Cert.Reference14Ideal.τ).loc Cert.Reference14Ideal.main_v55) = v1 c
          ∧ r.2.mem ((c.tc : Thread Cert.Reference14Ideal.nD Cert.Reference14Ideal.τ).loc Cert.Reference14Ideal.main_v56) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v7) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v4_0)) (v1 : (c : Dev Cert.Kernel17Ideal.nD) → Buf (Elt Ideal) ((c.tc : Thread Cert.Kernel17Ideal.nD Cert.Kernel17Ideal.τ).loc Cert.Kernel17Ideal.main_v4_1)) (v2 : (c : Dev Cert.Kernel17Ideal.nD) → Buf (Elt Ideal) ((c.tc : Thread Cert.Kernel17Ideal.nD Cert.Kernel17Ideal.τ).loc Cert.Kernel17Ideal.main_v4_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v4_0) = v0 c
          ∧ r.2.mem ((c.tc : Thread Cert.Kernel17Ideal.nD Cert.Kernel17Ideal.τ).loc Cert.Kernel17Ideal.main_v4_1) = v1 c
          ∧ r.2.mem ((c.tc : Thread Cert.Kernel17Ideal.nD Cert.Kernel17Ideal.τ).loc Cert.Kernel17Ideal.main_v4_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v24) = v0 c
          ∧ r.2.mem ((c.tc : Thread Cert.Reference17Ideal.nD Cert.Reference17Ideal.τ).loc Cert.Reference17Ideal.main_v25) = v1 c
          ∧ r.2.mem ((c.tc : Thread Cert.Reference17Ideal.nD Cert.Reference17Ideal.τ).loc Cert.Reference17Ideal.main_v26) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v4_0)) (v1 : (c : Dev Cert.Kernel18Ideal.nD) → Buf (Elt Ideal) ((c.tc : Thread Cert.Kernel18Ideal.nD Cert.Kernel18Ideal.τ).loc Cert.Kernel18Ideal.main_v4_1)) (v2 : (c : Dev Cert.Kernel18Ideal.nD) → Buf (Elt Ideal) ((c.tc : Thread Cert.Kernel18Ideal.nD Cert.Kernel18Ideal.τ).loc Cert.Kernel18Ideal.main_v4_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v4_0) = v0 c
          ∧ r.2.mem ((c.tc : Thread Cert.Kernel18Ideal.nD Cert.Kernel18Ideal.τ).loc Cert.Kernel18Ideal.main_v4_1) = v1 c
          ∧ r.2.mem ((c.tc : Thread Cert.Kernel18Ideal.nD Cert.Kernel18Ideal.τ).loc Cert.Kernel18Ideal.main_v4_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v24) = v0 c
          ∧ r.2.mem ((c.tc : Thread Cert.Reference18Ideal.nD Cert.Reference18Ideal.τ).loc Cert.Reference18Ideal.main_v25) = v1 c
          ∧ r.2.mem ((c.tc : Thread Cert.Reference18Ideal.nD Cert.Reference18Ideal.τ).loc Cert.Reference18Ideal.main_v26) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v4_0)) (v1 : (c : Dev Cert.Kernel19Ideal.nD) → Buf (Elt Ideal) ((c.tc : Thread Cert.Kernel19Ideal.nD Cert.Kernel19Ideal.τ).loc Cert.Kernel19Ideal.main_v4_1)) (v2 : (c : Dev Cert.Kernel19Ideal.nD) → Buf (Elt Ideal) ((c.tc : Thread Cert.Kernel19Ideal.nD Cert.Kernel19Ideal.τ).loc Cert.Kernel19Ideal.main_v4_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v4_0) = v0 c
          ∧ r.2.mem ((c.tc : Thread Cert.Kernel19Ideal.nD Cert.Kernel19Ideal.τ).loc Cert.Kernel19Ideal.main_v4_1) = v1 c
          ∧ r.2.mem ((c.tc : Thread Cert.Kernel19Ideal.nD Cert.Kernel19Ideal.τ).loc Cert.Kernel19Ideal.main_v4_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v24) = v0 c
          ∧ r.2.mem ((c.tc : Thread Cert.Reference19Ideal.nD Cert.Reference19Ideal.τ).loc Cert.Reference19Ideal.main_v25) = v1 c
          ∧ r.2.mem ((c.tc : Thread Cert.Reference19Ideal.nD Cert.Reference19Ideal.τ).loc Cert.Reference19Ideal.main_v26) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v23) = v0 c
          ∧ r.2.mem ((c.tc : Thread Cert.Reference20Ideal.nD Cert.Reference20Ideal.τ).loc Cert.Reference20Ideal.main_v4) = v1 c
          ∧ r.2.mem ((c.tc : Thread Cert.Reference20Ideal.nD Cert.Reference20Ideal.τ).loc Cert.Reference20Ideal.main_v10) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v47) = v0 c
          ∧ r.2.mem ((c.tc : Thread Cert.Reference21Ideal.nD Cert.Reference21Ideal.τ).loc Cert.Reference21Ideal.main_v71) = v1 c
          ∧ r.2.mem ((c.tc : Thread Cert.Reference21Ideal.nD Cert.Reference21Ideal.τ).loc Cert.Reference21Ideal.main_v52) = v2 c
          ∧ r.2.mem ((c.tc : Thread Cert.Reference21Ideal.nD Cert.Reference21Ideal.τ).loc Cert.Reference21Ideal.main_v58) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v23)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v23) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v31) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v21)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v21) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v28) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v1)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v1) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v14) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)) →
    ∃ (v0 : (c : Dev Cert.Kernel25Ideal.nD) → Buf (Elt Ideal) ((c.tc : Thread Cert.Kernel25Ideal.nD Cert.Kernel25Ideal.τ).loc Cert.Kernel25Ideal.main_v22)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v22) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v11) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v1)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v1) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v18) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)) →
    ∃ (v0 : (c : Dev Cert.Kernel27Ideal.nD) → Buf (Elt Ideal) ((c.tc : Thread Cert.Kernel27Ideal.nD Cert.Kernel27Ideal.τ).loc Cert.Kernel27Ideal.main_v22)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v22) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v13) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
-- ==== Kernel.lean ====
abbrev S4352x4096 : Shape := ⟨2, ![4352, 4096]⟩
abbrev S1x4096 : Shape := ⟨2, ![1, 4096]⟩
abbrev S256x4096 : Shape := ⟨2, ![256, 4096]⟩
abbrev S1x2048 : Shape := ⟨2, ![1, 2048]⟩
abbrev S8x4096 : Shape := ⟨2, ![8, 4096]⟩
abbrev S8x2048 : Shape := ⟨2, ![8, 2048]⟩

abbrev nBuf : Space → Nat
  | .hbm => 6
  | .vmem => 15
  | .smem => 0
  | _ => 0

abbrev bufTy : (tb : Table) → Fin (tcTables nBuf tb) → BufTy
  | .hbm, ⟨0, _⟩ => ⟨S4352x4096, .f32⟩
  | .hbm, ⟨1, _⟩ => ⟨S1x4096, .f32⟩
  | .hbm, ⟨2, _⟩ => ⟨S4352x4096, .f32⟩
  | .hbm, ⟨3, _⟩ => ⟨S4352x4096, .f32⟩
  | .hbm, ⟨4, _⟩ => ⟨S4352x4096, .f32⟩
  | .hbm, ⟨5, _⟩ => ⟨S8x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | .local _ .vmem, ⟨5, _⟩ => ⟨S1x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .f32⟩
  | .local _ .vmem, ⟨9, _⟩ => ⟨S256x4096, .f32⟩
  | .local _ .vmem, ⟨10, _⟩ => ⟨S1x4096, .f32⟩
  | .local _ .vmem, ⟨11, _⟩ => ⟨S256x4096, .f32⟩
  | .local _ .vmem, ⟨12, _⟩ => ⟨S256x4096, .f32⟩
  | .local _ .vmem, ⟨13, _⟩ => ⟨S8x4096, .f32⟩
  | .local _ .vmem, ⟨14, _⟩ => ⟨S1x4096, .f32⟩
  | _, _ => ⟨S4352x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc1_sem4_0 : DmaSem sig := 12

abbrev nD : Nat := 1
abbrev τ : Topo := Topo.v7x

variable {F : FTy → Type} [FloatOps F]

abbrev grid0 : Pipeline.Grid := ⟨1, ![17], ![false]⟩

@[reducible] def k0_t1_loop : Scf.Loop 32 :=
  let c0_i32_7 : BitVec 32 := 0#32
  let c256_i32 : BitVec 32 := 256#32
  let v7 : BitVec 32 := Scalar.addi c0_i32_7 c256_i32
  let c1_i32 : BitVec 32 := 1#32
  ⟨c0_i32_7, v7, c1_i32⟩
def k0_off1 (k0_t1 : Fin k0_t1_loop.trips) : Fin 2 → Nat :=
  let c0_i32_7 : BitVec 32 := 0#32
  let c1_i32 : BitVec 32 := 1#32
  let arg5 : BitVec 32 := Scf.iv c0_i32_7 c1_i32 k0_t1
  let v18 : Index := Scalar.indexCast arg5
  let c0_13 : Index := 0#32
  ![v18.toNat, 0]
def k0_off2 (k0_t1 : Fin k0_t1_loop.trips) : Fin 2 → Nat :=
  let c0_i32_7 : BitVec 32 := 0#32
  let c1_i32 : BitVec 32 := 1#32
  let arg5 : BitVec 32 := Scf.iv c0_i32_7 c1_i32 k0_t1
  let v24 : Index := Scalar.indexCast arg5
  let c2048_14 : Index := 2048#32
  ![v24.toNat, 2048]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![17], ![false]⟩

@[reducible] def k1_t1_loop : Scf.Loop 32 :=
  let c0_i32_7 : BitVec 32 := 0#32
  let c256_i32 : BitVec 32 := 256#32
  let v8 : BitVec 32 := Scalar.addi c0_i32_7 c256_i32
  let c1_i32 : BitVec 32 := 1#32
  ⟨c0_i32_7, v8, c1_i32⟩
def k1_off1 (k1_t1 : Fin k1_t1_loop.trips) : Fin 2 → Nat :=
  let c255_i32 : BitVec 32 := 255#32
  let c0_i32_7 : BitVec 32 := 0#32
  let c1_i32 : BitVec 32 := 1#32
  let arg7 : BitVec 32 := Scf.iv c0_i32_7 c1_i32 k1_t1
  let v28 : BitVec 32 := Scalar.subi c255_i32 arg7
  let v29 : Index := Scalar.indexCast v28
  let c0_21 : Index := 0#32
  ![v29.toNat, 0]
def k1_off2 (k1_t1 : Fin k1_t1_loop.trips) : Fin 2 → Nat :=
  let c255_i32 : BitVec 32 := 255#32
  let c0_i32_7 : BitVec 32 := 0#32
  let c1_i32 : BitVec 32 := 1#32
  let arg7 : BitVec 32 := Scf.iv c0_i32_7 c1_i32 k1_t1
  let v28 : BitVec 32 := Scalar.subi c255_i32 arg7
  let v32 : Index := Scalar.indexCast v28
  let c2048_22 : Index := 2048#32
  ![v32.toNat, 2048]
def cc1_transform_0 (i : grid1.Coords) : Fin 2 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  ![v0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S8x4096 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]
-- ==== ReferenceIdeal.lean ====
abbrev S4352x4096 : Shape := ⟨2, ![4352, 4096]⟩
abbrev S1x4096 : Shape := ⟨2, ![1, 4096]⟩
abbrev S1x2048 : Shape := ⟨2, ![1, 2048]⟩
abbrev S2048 : Shape := ⟨1, ![2048]⟩
abbrev S_ : Shape := ⟨0, ![]⟩
abbrev S4352x2048 : Shape := ⟨2, ![4352, 2048]⟩
abbrev S4096 : Shape := ⟨1, ![4096]⟩
abbrev S8x4096 : Shape := ⟨2, ![8, 4096]⟩

abbrev nBuf : Space → Nat
  | .hbm => 130
  | .vmem => 0
  | .smem => 0
  | _ => 0

abbrev hbmTy0_0 (i : Nat) : BufTy := match i % 128 with
  | 0 => ⟨S4352x4096, .f32⟩
  | 1 => ⟨S1x4096, .f32⟩
  | 2 => ⟨S4352x4096, .f32⟩
  | 3 => ⟨S1x2048, .f32⟩
  | 4 => ⟨S2048, .f32⟩
  | 5 => ⟨S1x2048, .f32⟩
  | 6 => ⟨S2048, .f32⟩
  | 7 => ⟨S_, .f32⟩
  | 8 => ⟨S2048, .f32⟩
  | 9 => ⟨S_, .f32⟩
  | 10 => ⟨S4352x4096, .f32⟩
  | 11 => ⟨S_, .f32⟩
  | 12 => ⟨S4352x2048, .f32⟩
  | 13 => ⟨S_, .f32⟩
  | 14 => ⟨S4352x2048, .f32⟩
  | 15 => ⟨S_, .i32⟩
  | 16 => ⟨S4352x4096, .f32⟩
  | 17 => ⟨S2048, .f32⟩
  | 18 => ⟨S2048, .f32⟩
  | 19 => ⟨S_, .i32⟩
  | 20 => ⟨S2048, .f32⟩
  | 21 => ⟨S2048, .f32⟩
  | 22 => ⟨S4352x4096, .f32⟩
  | 23 => ⟨S4352x2048, .f32⟩
  | 24 => ⟨S4352x2048, .f32⟩
  | 25 => ⟨S_, .i32⟩
  | 26 => ⟨S_, .i1⟩
  | 27 => ⟨S_, .i32⟩
  | 28 => ⟨S1x4096, .f32⟩
  | 29 => ⟨S4096, .f32⟩
  | 30 => ⟨S2048, .f32⟩
  | 31 => ⟨S2048, .f32⟩
  | 32 => ⟨S2048, .f32⟩
  | 33 => ⟨S2048, .f32⟩
  | 34 => ⟨S2048, .f32⟩
  | 35 => ⟨S2048, .f32⟩
  | 36 => ⟨S2048, .f32⟩
  | 37 => ⟨S2048, .f32⟩
  | 38 => ⟨S2048, .f32⟩
  | 39 => ⟨S2048, .f32⟩
  | 40 => ⟨S4096, .f32⟩
  | 41 => ⟨S1x4096, .f32⟩
  | 42 => ⟨S_, .i32⟩
  | 43 => ⟨S4352x4096, .f32⟩
  | 44 => ⟨S1x2048, .f32⟩
  | 45 => ⟨S_, .i32⟩
  | 46 => ⟨S4352x2048, .f32⟩
  | 47 => ⟨S1x2048, .f32⟩
  | 48 => ⟨S_, .i32⟩
  | 49 => ⟨S4352x2048, .f32⟩
  | 50 => ⟨S_, .i32⟩
  | 51 => ⟨S_, .i32⟩
  | 52 => ⟨S_, .f32⟩
  | 53 => ⟨S2048, .f32⟩
  | 54 => ⟨S_, .f32⟩
  | 55 => ⟨S2048, .f32⟩
  | 56 => ⟨S_, .f32⟩
  | 57 => ⟨S2048, .f32⟩
  | 58 => ⟨S_, .f32⟩
  | 59 => ⟨S2048, .f32⟩
  | 60 => ⟨S_, .f32⟩
  | 61 => ⟨S2048, .f32⟩
  | 62 => ⟨S_, .f32⟩
  | 63 => ⟨S2048, .f32⟩
  | 64 => ⟨S_, .f32⟩
  | 65 => ⟨S4352x4096, .f32⟩
  | 66 => ⟨S_, .i32⟩
  | 67 => ⟨S4352x4096, .f32⟩
  | 68 => ⟨S4352x2048, .f32⟩
  | 69 => ⟨S4352x2048, .f32⟩
  | 70 => ⟨S2048, .f32⟩
  | 71 => ⟨S2048, .f32⟩
  | 72 => ⟨S_, .i32⟩
  | 73 => ⟨S2048, .f32⟩
  | 74 => ⟨S2048, .f32⟩
  | 75 => ⟨S2048, .f32⟩
  | 76 => ⟨S2048, .f32⟩
  | 77 => ⟨S4352x4096, .f32⟩
  | 78 => ⟨S_, .i32⟩
  | 79 => ⟨S_, .i1⟩
  | 80 => ⟨S_, .i32⟩
  | 81 => ⟨S_, .i32⟩
  | 82 => ⟨S_, .i32⟩
  | 83 => ⟨S_, .i32⟩
  | 84 => ⟨S_, .i32⟩
  | 85 => ⟨S1x4096, .f32⟩
  | 86 => ⟨S4096, .f32⟩
  | 87 => ⟨S_, .i32⟩
  | 88 => ⟨S1x2048, .f32⟩
  | 89 => ⟨S2048, .f32⟩
  | 90 => ⟨S_, .i32⟩
  | 91 => ⟨S1x2048, .f32⟩
  | 92 => ⟨S2048, .f32⟩
  | 93 => ⟨S2048, .f32⟩
  | 94 => ⟨S2048, .f32⟩
  | 95 => ⟨S2048, .f32⟩
  | 96 => ⟨S2048, .f32⟩
  | 97 => ⟨S_, .f32⟩
  | 98 => ⟨S4096, .f32⟩
  | 99 => ⟨S2048, .f32⟩
  | 100 => ⟨S2048, .f32⟩
  | 101 => ⟨S2048, .f32⟩
  | 102 => ⟨S2048, .f32⟩
  | 103 => ⟨S2048, .f32⟩
  | 104 => ⟨S2048, .f32⟩
  | 105 => ⟨S_, .f32⟩
  | 106 => ⟨S4096, .f32⟩
  | 107 => ⟨S4096, .f32⟩
  | 108 => ⟨S2048, .f32⟩
  | 109 => ⟨S2048, .f32⟩
  | 110 => ⟨S2048, .f32⟩
  | 111 => ⟨S2048, .f32⟩
  | 112 => ⟨S2048, .f32⟩
  | 113 => ⟨S2048, .f32⟩
  | 114 => ⟨S2048, .f32⟩
  | 115 => ⟨S2048, .f32⟩
  | 116 => ⟨S2048, .f32⟩
  | 117 => ⟨S1x4096, .f32⟩
  | 118 => ⟨S_, .i32⟩
  | 119 => ⟨S4352x4096, .f32⟩
  | 120 => ⟨S_, .i32⟩
  | 121 => ⟨S_, .i32⟩
  | 122 => ⟨S1x2048, .f32⟩
  | 123 => ⟨S_, .f32⟩
  | 124 => ⟨S1x4096, .f32⟩
  | 125 => ⟨S1x2048, .f32⟩
  | 126 => ⟨S_, .f32⟩
  | 127 => ⟨S1x4096, .f32⟩
  | _ => ⟨S4352x4096, .f32⟩

abbrev hbmTy0_1 (i : Nat) : BufTy := match i % 128 with
  | 0 => ⟨S1x4096, .f32⟩
  | 1 => ⟨S8x4096, .f32⟩
  | _ => ⟨S4352x4096, .f32⟩

abbrev hbmTy (i : Nat) : BufTy := match i / 128 with
  | 0 => hbmTy0_0 i
  | 1 => hbmTy0_1 i
  | _ => ⟨S4352x4096, .f32⟩

abbrev bufTy : (tb : Table) → Fin (tcTables nBuf tb) → BufTy
  | .hbm, ⟨i, _⟩ => hbmTy i
  | _, _ => ⟨S4352x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_c : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev main_v8_4 : Ref sig .tc := ⟨.hbm, 20, rfl⟩
abbrev main_v8_5 : Ref sig .tc := ⟨.hbm, 21, rfl⟩
abbrev main_v8_6 : Ref sig .tc := ⟨.hbm, 22, rfl⟩
abbrev main_v8_7 : Ref sig .tc := ⟨.hbm, 23, rfl⟩
abbrev main_v8_8 : Ref sig .tc := ⟨.hbm, 24, rfl⟩
abbrev main_while0c_c_21 : Ref sig .tc := ⟨.hbm, 25, rfl⟩
abbrev main_while0c_v23 : Ref sig .tc := ⟨.hbm, 26, rfl⟩
abbrev main_while0b_call0_c : Ref sig .tc := ⟨.hbm, 27, rfl⟩
abbrev main_while0b_call0_v0 : Ref sig .tc := ⟨.hbm, 28, rfl⟩
abbrev main_while0b_v23 : Ref sig .tc := ⟨.hbm, 29, rfl⟩
abbrev main_while0b_v24 : Ref sig .tc := ⟨.hbm, 30, rfl⟩
abbrev main_while0b_v25 : Ref sig .tc := ⟨.hbm, 31, rfl⟩
abbrev main_while0b_v26 : Ref sig .tc := ⟨.hbm, 32, rfl⟩
abbrev main_while0b_v27 : Ref sig .tc := ⟨.hbm, 33, rfl⟩
abbrev main_while0b_v28 : Ref sig .tc := ⟨.hbm, 34, rfl⟩
abbrev main_while0b_v29 : Ref sig .tc := ⟨.hbm, 35, rfl⟩
abbrev main_while0b_v30 : Ref sig .tc := ⟨.hbm, 36, rfl⟩
abbrev main_while0b_v31 : Ref sig .tc := ⟨.hbm, 37, rfl⟩
abbrev main_while0b_v32 : Ref sig .tc := ⟨.hbm, 38, rfl⟩
abbrev main_while0b_v33 : Ref sig .tc := ⟨.hbm, 39, rfl⟩
abbrev main_while0b_v34 : Ref sig .tc := ⟨.hbm, 40, rfl⟩
abbrev main_while0b_call1_v0 : Ref sig .tc := ⟨.hbm, 41, rfl⟩
abbrev main_while0b_call1_c : Ref sig .tc := ⟨.hbm, 42, rfl⟩
abbrev main_while0b_v35 : Ref sig .tc := ⟨.hbm, 43, rfl⟩
abbrev main_while0b_call2_v0 : Ref sig .tc := ⟨.hbm, 44, rfl⟩
abbrev main_while0b_call2_c : Ref sig .tc := ⟨.hbm, 45, rfl⟩
abbrev main_while0b_v36 : Ref sig .tc := ⟨.hbm, 46, rfl⟩
abbrev main_while0b_call3_v0 : Ref sig .tc := ⟨.hbm, 47, rfl⟩
abbrev main_while0b_call3_c : Ref sig .tc := ⟨.hbm, 48, rfl⟩
abbrev main_while0b_v37 : Ref sig .tc := ⟨.hbm, 49, rfl⟩
abbrev main_while0b_c_21 : Ref sig .tc := ⟨.hbm, 50, rfl⟩
abbrev main_while0b_v38 : Ref sig .tc := ⟨.hbm, 51, rfl⟩
abbrev main_cst_3 : Ref sig .tc := ⟨.hbm, 52, rfl⟩
abbrev main_v9 : Ref sig .tc := ⟨.hbm, 53, rfl⟩
abbrev main_cst_4 : Ref sig .tc := ⟨.hbm, 54, rfl⟩
abbrev main_v10 : Ref sig .tc := ⟨.hbm, 55, rfl⟩
abbrev main_cst_5 : Ref sig .tc := ⟨.hbm, 56, rfl⟩
abbrev main_v11 : Ref sig .tc := ⟨.hbm, 57, rfl⟩
abbrev main_cst_6 : Ref sig .tc := ⟨.hbm, 58, rfl⟩
abbrev main_v12 : Ref sig .tc := ⟨.hbm, 59, rfl⟩
abbrev main_cst_7 : Ref sig .tc := ⟨.hbm, 60, rfl⟩
abbrev main_v13 : Ref sig .tc := ⟨.hbm, 61, rfl⟩
abbrev main_cst_8 : Ref sig .tc := ⟨.hbm, 62, rfl⟩
abbrev main_v14 : Ref sig .tc := ⟨.hbm, 63, rfl⟩
abbrev main_cst_9 : Ref sig .tc := ⟨.hbm, 64, rfl⟩
abbrev main_v15 : Ref sig .tc := ⟨.hbm, 65, rfl⟩
abbrev main_c_10 : Ref sig .tc := ⟨.hbm, 66, rfl⟩
abbrev main_v16_0 : Ref sig .tc := ⟨.hbm, 67, rfl⟩
abbrev main_v16_1 : Ref sig .tc := ⟨.hbm, 68, rfl⟩
abbrev main_v16_2 : Ref sig .tc := ⟨.hbm, 69, rfl⟩
abbrev main_v16_3 : Ref sig .tc := ⟨.hbm, 70, rfl⟩
abbrev main_v16_4 : Ref sig .tc := ⟨.hbm, 71, rfl⟩
abbrev main_v16_5 : Ref sig .tc := ⟨.hbm, 72, rfl⟩
abbrev main_v16_6 : Ref sig .tc := ⟨.hbm, 73, rfl⟩
abbrev main_v16_7 : Ref sig .tc := ⟨.hbm, 74, rfl⟩
abbrev main_v16_8 : Ref sig .tc := ⟨.hbm, 75, rfl⟩
abbrev main_v16_9 : Ref sig .tc := ⟨.hbm, 76, rfl⟩
abbrev main_v16_10 : Ref sig .tc := ⟨.hbm, 77, rfl⟩
abbrev main_while1c_c_23 : Ref sig .tc := ⟨.hbm, 78, rfl⟩
abbrev main_while1c_v23 : Ref sig .tc := ⟨.hbm, 79, rfl⟩
abbrev main_while1b_c_23 : Ref sig .tc := ⟨.hbm, 80, rfl⟩
abbrev main_while1b_v23 : Ref sig .tc := ⟨.hbm, 81, rfl⟩
abbrev main_while1b_c_24 : Ref sig .tc := ⟨.hbm, 82, rfl⟩
abbrev main_while1b_v24 : Ref sig .tc := ⟨.hbm, 83, rfl⟩
abbrev main_while1b_call4_c : Ref sig .tc := ⟨.hbm, 84, rfl⟩
abbrev main_while1b_call4_v0 : Ref sig .tc := ⟨.hbm, 85, rfl⟩
abbrev main_while1b_v25 : Ref sig .tc := ⟨.hbm, 86, rfl⟩
abbrev main_while1b_call5_c : Ref sig .tc := ⟨.hbm, 87, rfl⟩
abbrev main_while1b_call5_v0 : Ref sig .tc := ⟨.hbm, 88, rfl⟩
abbrev main_while1b_v26 : Ref sig .tc := ⟨.hbm, 89, rfl⟩
abbrev main_while1b_call6_c : Ref sig .tc := ⟨.hbm, 90, rfl⟩
abbrev main_while1b_call6_v0 : Ref sig .tc := ⟨.hbm, 91, rfl⟩
abbrev main_while1b_v27 : Ref sig .tc := ⟨.hbm, 92, rfl⟩
abbrev main_while1b_v28 : Ref sig .tc := ⟨.hbm, 93, rfl⟩
abbrev main_while1b_v29 : Ref sig .tc := ⟨.hbm, 94, rfl⟩
abbrev main_while1b_v30 : Ref sig .tc := ⟨.hbm, 95, rfl⟩
abbrev main_while1b_v31 : Ref sig .tc := ⟨.hbm, 96, rfl⟩
abbrev main_while1b_cst_25 : Ref sig .tc := ⟨.hbm, 97, rfl⟩
abbrev main_while1b_v32 : Ref sig .tc := ⟨.hbm, 98, rfl⟩
abbrev main_while1b_v33 : Ref sig .tc := ⟨.hbm, 99, rfl⟩
abbrev main_while1b_v34 : Ref sig .tc := ⟨.hbm, 100, rfl⟩
abbrev main_while1b_v35 : Ref sig .tc := ⟨.hbm, 101, rfl⟩
abbrev main_while1b_v36 : Ref sig .tc := ⟨.hbm, 102, rfl⟩
abbrev main_while1b_v37 : Ref sig .tc := ⟨.hbm, 103, rfl⟩
abbrev main_while1b_v38 : Ref sig .tc := ⟨.hbm, 104, rfl⟩
abbrev main_while1b_cst_26 : Ref sig .tc := ⟨.hbm, 105, rfl⟩
abbrev main_while1b_v39 : Ref sig .tc := ⟨.hbm, 106, rfl⟩
abbrev main_while1b_v40 : Ref sig .tc := ⟨.hbm, 107, rfl⟩
abbrev main_while1b_v41 : Ref sig .tc := ⟨.hbm, 108, rfl⟩
abbrev main_while1b_v42 : Ref sig .tc := ⟨.hbm, 109, rfl⟩
abbrev main_while1b_v43 : Ref sig .tc := ⟨.hbm, 110, rfl⟩
abbrev main_while1b_v44 : Ref sig .tc := ⟨.hbm, 111, rfl⟩
abbrev main_while1b_v45 : Ref sig .tc := ⟨.hbm, 112, rfl⟩
abbrev main_while1b_v46 : Ref sig .tc := ⟨.hbm, 113, rfl⟩
abbrev main_while1b_v47 : Ref sig .tc := ⟨.hbm, 114, rfl⟩
abbrev main_while1b_v48 : Ref sig .tc := ⟨.hbm, 115, rfl⟩
abbrev main_while1b_v49 : Ref sig .tc := ⟨.hbm, 116, rfl⟩
abbrev main_while1b_call7_v0 : Ref sig .tc := ⟨.hbm, 117, rfl⟩
abbrev main_while1b_call7_c : Ref sig .tc := ⟨.hbm, 118, rfl⟩
abbrev main_while1b_v50 : Ref sig .tc := ⟨.hbm, 119, rfl⟩
abbrev main_while1b_c_27 : Ref sig .tc := ⟨.hbm, 120, rfl⟩
abbrev main_while1b_v51 : Ref sig .tc := ⟨.hbm, 121, rfl⟩
abbrev main_v17 : Ref sig .tc := ⟨.hbm, 122, rfl⟩
abbrev main_cst_11 : Ref sig .tc := ⟨.hbm, 123, rfl⟩
abbrev main_v18 : Ref sig .tc := ⟨.hbm, 124, rfl⟩
abbrev main_v19 : Ref sig .tc := ⟨.hbm, 125, rfl⟩
abbrev main_cst_12 : Ref sig .tc := ⟨.hbm, 126, rfl⟩
abbrev main_v20 : Ref sig .tc := ⟨.hbm, 127, rfl⟩
abbrev main_v21 : Ref sig .tc := ⟨.hbm, 128, rfl⟩
abbrev main_v22 : Ref sig .tc := ⟨.hbm, 129, rfl⟩

abbrev nD : Nat := 1
abbrev τ : Topo := Topo.v7x

variable {F : FTy → Type} [FloatOps F]

abbrev main_while0_count : Scf.Loop 32 := ⟨0#32, 4352#32, 1#32⟩

abbrev main_while1_count : Scf.Loop 32 := ⟨0#32, 4352#32, 1#32⟩
-- ==== Kernel2.lean ====
abbrev S4352x2048 : Shape := ⟨2, ![4352, 2048]⟩
abbrev S2048x14336 : Shape := ⟨2, ![2048, 14336]⟩
abbrev S2048x4x3584 : Shape := ⟨3, ![2048, 4, 3584]⟩
abbrev S4x2048x3584 : Shape := ⟨3, ![4, 2048, 3584]⟩
abbrev S4352x14336 : Shape := ⟨2, ![4352, 14336]⟩
abbrev S544x2048 : Shape := ⟨2, ![544, 2048]⟩
abbrev S1x2048x1792 : Shape := ⟨3, ![1, 2048, 1792]⟩
abbrev S544x1792 : Shape := ⟨2, ![544, 1792]⟩
abbrev S2048x1792 : Shape := ⟨2, ![2048, 1792]⟩

abbrev nBuf : Space → Nat
  | .hbm => 7
  | .vmem => 6
  | .smem => 0
  | _ => 0

abbrev bufTy : (tb : Table) → Fin (tcTables nBuf tb) → BufTy
  | .hbm, ⟨0, _⟩ => ⟨S4352x2048, .f32⟩
  | .hbm, ⟨1, _⟩ => ⟨S2048x14336, .f32⟩
  | .hbm, ⟨2, _⟩ => ⟨S4352x2048, .bf16⟩
  | .hbm, ⟨3, _⟩ => ⟨S2048x14336, .bf16⟩
  | .hbm, ⟨4, _⟩ => ⟨S2048x4x3584, .bf16⟩
  | .hbm, ⟨5, _⟩ => ⟨S4x2048x3584, .bf16⟩
  | .hbm, ⟨6, _⟩ => ⟨S4352x14336, .bf16⟩
  | .local _ .vmem, ⟨0, _⟩ => ⟨S544x2048, .bf16⟩
  | .local _ .vmem, ⟨1, _⟩ => ⟨S544x2048, .bf16⟩
  | .local _ .vmem, ⟨2, _⟩ => ⟨S1x2048x1792, .bf16⟩
  | .local _ .vmem, ⟨3, _⟩ => ⟨S1x2048x1792, .bf16⟩
  | .local _ .vmem, ⟨4, _⟩ => ⟨S544x1792, .bf16⟩
  | .local _ .vmem, ⟨5, _⟩ => ⟨S544x1792, .bf16⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S544x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x2048x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S544x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4352x2048 : Shape := ⟨2, ![4352, 2048]⟩
abbrev S2048x14336 : Shape := ⟨2, ![2048, 14336]⟩
abbrev S4352x14336 : Shape := ⟨2, ![4352, 14336]⟩

abbrev nBuf : Space → Nat
  | .hbm => 4
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S2048x14336, .f32⟩
  | .hbm, ⟨2, _⟩ => ⟨S4352x14336, .f32⟩
  | .hbm, ⟨3, _⟩ => ⟨S4352x14336, .bf16⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel3.lean ====
abbrev S4352x14336 : Shape := ⟨2, ![4352, 14336]⟩
abbrev S2048x14336 : Shape := ⟨2, ![2048, 14336]⟩
abbrev S2048x4x3584 : Shape := ⟨3, ![2048, 4, 3584]⟩
abbrev S4x2048x3584 : Shape := ⟨3, ![4, 2048, 3584]⟩
abbrev S4352x2048 : Shape := ⟨2, ![4352, 2048]⟩
abbrev S544x1792 : Shape := ⟨2, ![544, 1792]⟩
abbrev S1x2048x1792 : Shape := ⟨3, ![1, 2048, 1792]⟩
abbrev S544x2048 : Shape := ⟨2, ![544, 2048]⟩
abbrev S2048x1792 : Shape := ⟨2, ![2048, 1792]⟩

abbrev nBuf : Space → Nat
  | .hbm => 7
  | .vmem => 7
  | .smem => 0
  | _ => 0

abbrev bufTy : (tb : Table) → Fin (tcTables nBuf tb) → BufTy
  | .hbm, ⟨0, _⟩ => ⟨S4352x14336, .f32⟩
  | .hbm, ⟨1, _⟩ => ⟨S2048x14336, .f32⟩
  | .hbm, ⟨2, _⟩ => ⟨S4352x14336, .bf16⟩
  | .hbm, ⟨3, _⟩ => ⟨S2048x14336, .bf16⟩
  | .hbm, ⟨4, _⟩ => ⟨S2048x4x3584, .bf16⟩
  | .hbm, ⟨5, _⟩ => ⟨S4x2048x3584, .bf16⟩
  | .hbm, ⟨6, _⟩ => ⟨S4352x2048, .f32⟩
  | .local _ .vmem, ⟨0, _⟩ => ⟨S544x1792, .bf16⟩
  | .local _ .vmem, ⟨1, _⟩ => ⟨S544x1792, .bf16⟩
  | .local _ .vmem, ⟨2, _⟩ => ⟨S1x2048x1792, .bf16⟩
  | .local _ .vmem, ⟨3, _⟩ => ⟨S1x2048x1792, .bf16⟩
  | .local _ .vmem, ⟨4, _⟩ => ⟨S544x2048, .f32⟩
  | .local _ .vmem, ⟨5, _⟩ => ⟨S544x2048, .f32⟩
  | .local _ .vmem, ⟨6, _⟩ => ⟨S544x2048, .f32⟩
  | _, _ => ⟨S4352x14336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S544x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S544x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference3Ideal.lean ====
abbrev S4352x14336 : Shape := ⟨2, ![4352, 14336]⟩
abbrev S2048x14336 : Shape := ⟨2, ![2048, 14336]⟩
abbrev S_ : Shape := ⟨0, ![]⟩
abbrev S4352x2048 : Shape := ⟨2, ![4352, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4352x14336, .f32⟩
  | .hbm, ⟨1, _⟩ => ⟨S2048x14336, .f32⟩
  | .hbm, ⟨2, _⟩ => ⟨S_, .f32⟩
  | .hbm, ⟨3, _⟩ => ⟨S4352x2048, .f32⟩
  | .hbm, ⟨4, _⟩ => ⟨S4352x14336, .f32⟩
  | .hbm, ⟨5, _⟩ => ⟨S4352x2048, .f32⟩
  | _, _ => ⟨S4352x14336, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel4.lean ====
abbrev S4352x2048 : Shape := ⟨2, ![4352, 2048]⟩
abbrev S4352x14336 : Shape := ⟨2, ![4352, 14336]⟩
abbrev S4x2048x3584 : Shape := ⟨3, ![4, 2048, 3584]⟩
abbrev S4352x512 : Shape := ⟨2, ![4352, 512]⟩
abbrev S1x512x512 : Shape := ⟨3, ![1, 512, 512]⟩
abbrev S512x512 : Shape := ⟨2, ![512, 512]⟩

abbrev nBuf : Space → Nat
  | .hbm => 5
  | .vmem => 6
  | .smem => 0
  | _ => 0

abbrev bufTy : (tb : Table) → Fin (tcTables nBuf tb) → BufTy
  | .hbm, ⟨0, _⟩ => ⟨S4352x2048, .f32⟩
  | .hbm, ⟨1, _⟩ => ⟨S4352x14336, .f32⟩
  | .hbm, ⟨2, _⟩ => ⟨S4352x2048, .bf16⟩
  | .hbm, ⟨3, _⟩ => ⟨S4352x14336, .bf16⟩
  | .hbm, ⟨4, _⟩ => ⟨S4x2048x3584, .f32⟩
  | .local _ .vmem, ⟨0, _⟩ => ⟨S4352x512, .bf16⟩
  | .local _ .vmem, ⟨1, _⟩ => ⟨S4352x512, .bf16⟩
  | .local _ .vmem, ⟨2, _⟩ => ⟨S4352x512, .bf16⟩
  | .local _ .vmem, ⟨3, _⟩ => ⟨S4352x512, .bf16⟩
  | .local _ .vmem, ⟨4, _⟩ => ⟨S1x512x512, .f32⟩
  | .local _ .vmem, ⟨5, _⟩ => ⟨S1x512x512, .f32⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 28, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.divsi arg1 c7_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c7_i32 c0_i32_1
  let v7 : BitVec 32 := Scalar.extui v6
  let c0_i32_2 : BitVec 32 := 0#32
  let v8 : BitVec 1 := Scalar.cmpi .slt c7_i32 c0_i32_2
  let v9 : BitVec 32 := Scalar.extui v8
  let v10 : BitVec 32 := Scalar.subi v7 v9
  let v11 : BitVec 1 := Scalar.cmpi .ne v5 v10
  let v12 : BitVec 32 := Scalar.remsi arg1 c7_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c7_i32_4 : BitVec 32 := 7#32
  let c0_i32_5 : BitVec 32 := 0#32
  let v17 : BitVec 1 := Scalar.cmpi .eq c7_i32_4 c0_i32_5
  let c1_i32_6 : BitVec 32 := 1#32
  let v18 : BitVec 32 := Scalar.select v17 c1_i32_6 c7_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S4352x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4352x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4352x2048 : Shape := ⟨2, ![4352, 2048]⟩
abbrev S4352x14336 : Shape := ⟨2, ![4352, 14336]⟩
abbrev S_ : Shape := ⟨0, ![]⟩
abbrev S2048x14336 : Shape := ⟨2, ![2048, 14336]⟩
abbrev S14336x2048 : Shape := ⟨2, ![14336, 2048]⟩
abbrev S2048x4x3584 : Shape := ⟨3, ![2048, 4, 3584]⟩
abbrev S4x2048x3584 : Shape := ⟨3, ![4, 2048, 3584]⟩

abbrev nBuf : Space → Nat
  | .hbm => 9
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S4352x14336, .f32⟩
  | .hbm, ⟨2, _⟩ => ⟨S_, .f32⟩
  | .hbm, ⟨3, _⟩ => ⟨S2048x14336, .f32⟩
  | .hbm, ⟨4, _⟩ => ⟨S4352x14336, .f32⟩
  | .hbm, ⟨5, _⟩ => ⟨S14336x2048, .f32⟩
  | .hbm, ⟨6, _⟩ => ⟨S2048x14336, .f32⟩
  | .hbm, ⟨7, _⟩ => ⟨S2048x4x3584, .f32⟩
  | .hbm, ⟨8, _⟩ => ⟨S4x2048x3584, .f32⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S4352x2048 : Shape := ⟨2, ![4352, 2048]⟩
abbrev S2048x2048 : Shape := ⟨2, ![2048, 2048]⟩
abbrev S544x2048 : Shape := ⟨2, ![544, 2048]⟩
abbrev S2048x512 : Shape := ⟨2, ![2048, 512]⟩
abbrev S544x512 : Shape := ⟨2, ![544, 512]⟩

abbrev nBuf : Space → Nat
  | .hbm => 5
  | .vmem => 6
  | .smem => 0
  | _ => 0

abbrev bufTy : (tb : Table) → Fin (tcTables nBuf tb) → BufTy
  | .hbm, ⟨0, _⟩ => ⟨S4352x2048, .f32⟩
  | .hbm, ⟨1, _⟩ => ⟨S2048x2048, .f32⟩
  | .hbm, ⟨2, _⟩ => ⟨S4352x2048, .bf16⟩
  | .hbm, ⟨3, _⟩ => ⟨S2048x2048, .bf16⟩
  | .hbm, ⟨4, _⟩ => ⟨S4352x2048, .f32⟩
  | .local _ .vmem, ⟨0, _⟩ => ⟨S544x2048, .bf16⟩
  | .local _ .vmem, ⟨1, _⟩ => ⟨S544x2048, .bf16⟩
  | .local _ .vmem, ⟨2, _⟩ => ⟨S2048x512, .bf16⟩
  | .local _ .vmem, ⟨3, _⟩ => ⟨S2048x512, .bf16⟩
  | .local _ .vmem, ⟨4, _⟩ => ⟨S544x512, .f32⟩
  | .local _ .vmem, ⟨5, _⟩ => ⟨S544x512, .f32⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S544x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S544x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4352x2048 : Shape := ⟨2, ![4352, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S2048x2048, .f32⟩
  | .hbm, ⟨2, _⟩ => ⟨S4352x2048, .f32⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel6.lean ====
abbrev S4352x2048 : Shape := ⟨2, ![4352, 2048]⟩
abbrev S2048x2048 : Shape := ⟨2, ![2048, 2048]⟩
abbrev S544x1024 : Shape := ⟨2, ![544, 1024]⟩
abbrev S2048x1024 : Shape := ⟨2, ![2048, 1024]⟩
abbrev S544x2048 : Shape := ⟨2, ![544, 2048]⟩

abbrev nBuf : Space → Nat
  | .hbm => 5
  | .vmem => 7
  | .smem => 0
  | _ => 0

abbrev bufTy : (tb : Table) → Fin (tcTables nBuf tb) → BufTy
  | .hbm, ⟨0, _⟩ => ⟨S4352x2048, .f32⟩
  | .hbm, ⟨1, _⟩ => ⟨S2048x2048, .f32⟩
  | .hbm, ⟨2, _⟩ => ⟨S4352x2048, .bf16⟩
  | .hbm, ⟨3, _⟩ => ⟨S2048x2048, .bf16⟩
  | .hbm, ⟨4, _⟩ => ⟨S4352x2048, .f32⟩
  | .local _ .vmem, ⟨0, _⟩ => ⟨S544x1024, .bf16⟩
  | .local _ .vmem, ⟨1, _⟩ => ⟨S544x1024, .bf16⟩
  | .local _ .vmem, ⟨2, _⟩ => ⟨S2048x1024, .bf16⟩
  | .local _ .vmem, ⟨3, _⟩ => ⟨S2048x1024, .bf16⟩
  | .local _ .vmem, ⟨4, _⟩ => ⟨S544x2048, .f32⟩
  | .local _ .vmem, ⟨5, _⟩ => ⟨S544x2048, .f32⟩
  | .local _ .vmem, ⟨6, _⟩ => ⟨S544x2048, .f32⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S544x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4352x2048 : Shape := ⟨2, ![4352, 2048]⟩
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S2048x2048, .f32⟩
  | .hbm, ⟨2, _⟩ => ⟨S_, .f32⟩
  | .hbm, ⟨3, _⟩ => ⟨S4352x2048, .f32⟩
  | .hbm, ⟨4, _⟩ => ⟨S4352x2048, .f32⟩
  | .hbm, ⟨5, _⟩ => ⟨S4352x2048, .f32⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel7.lean ====
abbrev S4352x2048 : Shape := ⟨2, ![4352, 2048]⟩
abbrev S2048x2048 : Shape := ⟨2, ![2048, 2048]⟩
abbrev S4352x512 : Shape := ⟨2, ![4352, 512]⟩
abbrev S4352x1024 : Shape := ⟨2, ![4352, 1024]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4352x2048, .f32⟩
  | .hbm, ⟨1, _⟩ => ⟨S4352x2048, .f32⟩
  | .hbm, ⟨2, _⟩ => ⟨S4352x2048, .bf16⟩
  | .hbm, ⟨3, _⟩ => ⟨S4352x2048, .bf16⟩
  | .hbm, ⟨4, _⟩ => ⟨S2048x2048, .f32⟩
  | .local _ .vmem, ⟨0, _⟩ => ⟨S4352x512, .bf16⟩
  | .local _ .vmem, ⟨1, _⟩ => ⟨S4352x512, .bf16⟩
  | .local _ .vmem, ⟨2, _⟩ => ⟨S4352x1024, .bf16⟩
  | .local _ .vmem, ⟨3, _⟩ => ⟨S4352x1024, .bf16⟩
  | .local _ .vmem, ⟨4, _⟩ => ⟨S512x1024, .f32⟩
  | .local _ .vmem, ⟨5, _⟩ => ⟨S512x1024, .f32⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4352x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4352x2048 : Shape := ⟨2, ![4352, 2048]⟩
abbrev S_ : Shape := ⟨0, ![]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S4352x2048, .f32⟩
  | .hbm, ⟨2, _⟩ => ⟨S_, .f32⟩
  | .hbm, ⟨3, _⟩ => ⟨S2048x2048, .f32⟩
  | .hbm, ⟨4, _⟩ => ⟨S4352x2048, .f32⟩
  | .hbm, ⟨5, _⟩ => ⟨S2048x2048, .f32⟩
  | .hbm, ⟨6, _⟩ => ⟨S2048x2048, .f32⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S4352x8192 : Shape := ⟨2, ![4352, 8192]⟩
abbrev S2048x2048 : Shape := ⟨2, ![2048, 2048]⟩
abbrev S4352x2048 : Shape := ⟨2, ![4352, 2048]⟩
abbrev S544x2048 : Shape := ⟨2, ![544, 2048]⟩
abbrev S512x2048 : Shape := ⟨2, ![512, 2048]⟩
abbrev S544x512 : Shape := ⟨2, ![544, 512]⟩

abbrev nBuf : Space → Nat
  | .hbm => 5
  | .vmem => 6
  | .smem => 0
  | _ => 0

abbrev bufTy : (tb : Table) → Fin (tcTables nBuf tb) → BufTy
  | .hbm, ⟨0, _⟩ => ⟨S4352x8192, .f32⟩
  | .hbm, ⟨1, _⟩ => ⟨S2048x2048, .f32⟩
  | .hbm, ⟨2, _⟩ => ⟨S4352x8192, .bf16⟩
  | .hbm, ⟨3, _⟩ => ⟨S2048x2048, .bf16⟩
  | .hbm, ⟨4, _⟩ => ⟨S4352x2048, .f32⟩
  | .local _ .vmem, ⟨0, _⟩ => ⟨S544x2048, .bf16⟩
  | .local _ .vmem, ⟨1, _⟩ => ⟨S544x2048, .bf16⟩
  | .local _ .vmem, ⟨2, _⟩ => ⟨S512x2048, .bf16⟩
  | .local _ .vmem, ⟨3, _⟩ => ⟨S512x2048, .bf16⟩
  | .local _ .vmem, ⟨4, _⟩ => ⟨S544x512, .f32⟩
  | .local _ .vmem, ⟨5, _⟩ => ⟨S544x512, .f32⟩
  | _, _ => ⟨S4352x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  ![arg0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S544x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S544x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4352x8192 : Shape := ⟨2, ![4352, 8192]⟩
abbrev S2048x2048 : Shape := ⟨2, ![2048, 2048]⟩
abbrev S_ : Shape := ⟨0, ![]⟩
abbrev S4352x2048 : Shape := ⟨2, ![4352, 2048]⟩
abbrev S4352x512 : Shape := ⟨2, ![4352, 512]⟩
abbrev S512x2048 : Shape := ⟨2, ![512, 2048]⟩

abbrev nBuf : Space → Nat
  | .hbm => 36
  | .vmem => 0
  | .smem => 0
  | _ => 0

abbrev bufTy : (tb : Table) → Fin (tcTables nBuf tb) → BufTy
  | .hbm, ⟨0, _⟩ => ⟨S4352x8192, .f32⟩
  | .hbm, ⟨1, _⟩ => ⟨S2048x2048, .f32⟩
  | .hbm, ⟨2, _⟩ => ⟨S_, .f32⟩
  | .hbm, ⟨3, _⟩ => ⟨S4352x2048, .f32⟩
  | .hbm, ⟨4, _⟩ => ⟨S4352x512, .f32⟩
  | .hbm, ⟨5, _⟩ => ⟨S512x2048, .f32⟩
  | .hbm, ⟨6, _⟩ => ⟨S4352x2048, .f32⟩
  | .hbm, ⟨7, _⟩ => ⟨S4352x512, .f32⟩
  | .hbm, ⟨8, _⟩ => ⟨S512x2048, .f32⟩
  | .hbm, ⟨9, _⟩ => ⟨S4352x2048, .f32⟩
  | .hbm, ⟨10, _⟩ => ⟨S4352x512, .f32⟩
  | .hbm, ⟨11, _⟩ => ⟨S512x2048, .f32⟩
  | .hbm, ⟨12, _⟩ => ⟨S4352x2048, .f32⟩
  | .hbm, ⟨13, _⟩ => ⟨S4352x512, .f32⟩
  | .hbm, ⟨14, _⟩ => ⟨S512x2048, .f32⟩
  | .hbm, ⟨15, _⟩ => ⟨S4352x2048, .f32⟩
  | .hbm, ⟨16, _⟩ => ⟨S4352x8192, .f32⟩
  | .hbm, ⟨17, _⟩ => ⟨S4352x2048, .f32⟩
  | .hbm, ⟨18, _⟩ => ⟨S4352x2048, .f32⟩
  | .hbm, ⟨19, _⟩ => ⟨S4352x2048, .f32⟩
  | .hbm, ⟨20, _⟩ => ⟨S4352x2048, .f32⟩
  | .hbm, ⟨21, _⟩ => ⟨S4352x512, .f32⟩
  | .hbm, ⟨22, _⟩ => ⟨S_, .f32⟩
  | .hbm, ⟨23, _⟩ => ⟨S4352x2048, .f32⟩
  | .hbm, ⟨24, _⟩ => ⟨S4352x512, .f32⟩
  | .hbm, ⟨25, _⟩ => ⟨S_, .f32⟩
  | .hbm, ⟨26, _⟩ => ⟨S4352x2048, .f32⟩
  | .hbm, ⟨27, _⟩ => ⟨S4352x2048, .f32⟩
  | .hbm, ⟨28, _⟩ => ⟨S4352x512, .f32⟩
  | .hbm, ⟨29, _⟩ => ⟨S_, .f32⟩
  | .hbm, ⟨30, _⟩ => ⟨S4352x2048, .f32⟩
  | .hbm, ⟨31, _⟩ => ⟨S4352x2048, .f32⟩
  | .hbm, ⟨32, _⟩ => ⟨S4352x512, .f32⟩
  | .hbm, ⟨33, _⟩ => ⟨S_, .f32⟩
  | .hbm, ⟨34, _⟩ => ⟨S4352x2048, .f32⟩
  | .hbm, ⟨35, _⟩ => ⟨S4352x2048, .f32⟩
  | _, _ => ⟨S4352x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst_0 : Ref sig .tc := ⟨.hbm, 22, rfl⟩
abbrev main_v19 : Ref sig .tc := ⟨.hbm, 23, rfl⟩
abbrev main_v20 : Ref sig .tc := ⟨.hbm, 24, rfl⟩
abbrev main_cst_1 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_2 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_3 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== Kernel9.lean ====
abbrev S4352x2048 : Shape := ⟨2, ![4352, 2048]⟩
abbrev S4352x8192 : Shape := ⟨2, ![4352, 8192]⟩
abbrev S2048x2048 : Shape := ⟨2, ![2048, 2048]⟩
abbrev S4352x512 : Shape := ⟨2, ![4352, 512]⟩
abbrev S4352x1024 : Shape := ⟨2, ![4352, 1024]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4352x2048, .f32⟩
  | .hbm, ⟨1, _⟩ => ⟨S4352x8192, .f32⟩
  | .hbm, ⟨2, _⟩ => ⟨S4352x2048, .bf16⟩
  | .hbm, ⟨3, _⟩ => ⟨S4352x8192, .bf16⟩
  | .hbm, ⟨4, _⟩ => ⟨S2048x2048, .f32⟩
  | .local _ .vmem, ⟨0, _⟩ => ⟨S4352x512, .bf16⟩
  | .local _ .vmem, ⟨1, _⟩ => ⟨S4352x512, .bf16⟩
  | .local _ .vmem, ⟨2, _⟩ => ⟨S4352x1024, .bf16⟩
  | .local _ .vmem, ⟨3, _⟩ => ⟨S4352x1024, .bf16⟩
  | .local _ .vmem, ⟨4, _⟩ => ⟨S512x1024, .f32⟩
  | .local _ .vmem, ⟨5, _⟩ => ⟨S512x1024, .f32⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  ![arg2.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4352x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4352x2048 : Shape := ⟨2, ![4352, 2048]⟩
abbrev S4352x8192 : Shape := ⟨2, ![4352, 8192]⟩
abbrev S_ : Shape := ⟨0, ![]⟩
abbrev S2048x2048 : Shape := ⟨2, ![2048, 2048]⟩
abbrev S4352x512 : Shape := ⟨2, ![4352, 512]⟩
abbrev S512x2048 : Shape := ⟨2, ![512, 2048]⟩
abbrev S2048x512 : Shape := ⟨2, ![2048, 512]⟩

abbrev nBuf : Space → Nat
  | .hbm => 40
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S4352x8192, .f32⟩
  | .hbm, ⟨2, _⟩ => ⟨S_, .f32⟩
  | .hbm, ⟨3, _⟩ => ⟨S2048x2048, .f32⟩
  | .hbm, ⟨4, _⟩ => ⟨S4352x512, .f32⟩
  | .hbm, ⟨5, _⟩ => ⟨S512x2048, .f32⟩
  | .hbm, ⟨6, _⟩ => ⟨S4352x2048, .f32⟩
  | .hbm, ⟨7, _⟩ => ⟨S4352x512, .f32⟩
  | .hbm, ⟨8, _⟩ => ⟨S512x2048, .f32⟩
  | .hbm, ⟨9, _⟩ => ⟨S4352x2048, .f32⟩
  | .hbm, ⟨10, _⟩ => ⟨S4352x512, .f32⟩
  | .hbm, ⟨11, _⟩ => ⟨S512x2048, .f32⟩
  | .hbm, ⟨12, _⟩ => ⟨S4352x2048, .f32⟩
  | .hbm, ⟨13, _⟩ => ⟨S4352x512, .f32⟩
  | .hbm, ⟨14, _⟩ => ⟨S512x2048, .f32⟩
  | .hbm, ⟨15, _⟩ => ⟨S4352x2048, .f32⟩
  | .hbm, ⟨16, _⟩ => ⟨S4352x8192, .f32⟩
  | .hbm, ⟨17, _⟩ => ⟨S4352x2048, .f32⟩
  | .hbm, ⟨18, _⟩ => ⟨S4352x2048, .f32⟩
  | .hbm, ⟨19, _⟩ => ⟨S4352x2048, .f32⟩
  | .hbm, ⟨20, _⟩ => ⟨S4352x2048, .f32⟩
  | .hbm, ⟨21, _⟩ => ⟨S2048x512, .f32⟩
  | .hbm, ⟨22, _⟩ => ⟨S512x2048, .f32⟩
  | .hbm, ⟨23, _⟩ => ⟨S_, .f32⟩
  | .hbm, ⟨24, _⟩ => ⟨S2048x2048, .f32⟩
  | .hbm, ⟨25, _⟩ => ⟨S2048x512, .f32⟩
  | .hbm, ⟨26, _⟩ => ⟨S512x2048, .f32⟩
  | .hbm, ⟨27, _⟩ => ⟨S_, .f32⟩
  | .hbm, ⟨28, _⟩ => ⟨S2048x2048, .f32⟩
  | .hbm, ⟨29, _⟩ => ⟨S2048x2048, .f32⟩
  | .hbm, ⟨30, _⟩ => ⟨S2048x512, .f32⟩
  | .hbm, ⟨31, _⟩ => ⟨S512x2048, .f32⟩
  | .hbm, ⟨32, _⟩ => ⟨S_, .f32⟩
  | .hbm, ⟨33, _⟩ => ⟨S2048x2048, .f32⟩
  | .hbm, ⟨34, _⟩ => ⟨S2048x2048, .f32⟩
  | .hbm, ⟨35, _⟩ => ⟨S2048x512, .f32⟩
  | .hbm, ⟨36, _⟩ => ⟨S512x2048, .f32⟩
  | .hbm, ⟨37, _⟩ => ⟨S_, .f32⟩
  | .hbm, ⟨38, _⟩ => ⟨S2048x2048, .f32⟩
  | .hbm, ⟨39, _⟩ => ⟨S2048x2048, .f32⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_cst_0 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst_1 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_cst_2 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_3 : Ref sig .tc := ⟨.hbm, 37, rfl⟩
abbrev main_v31 : Ref sig .tc := ⟨.hbm, 38, rfl⟩
abbrev main_v32 : Ref sig .tc := ⟨.hbm, 39, rfl⟩

abbrev nD : Nat := 1
abbrev τ : Topo := Topo.v7x

variable {F : FTy → Type} [FloatOps F]
-- ==== Kernel10.lean ====
abbrev S4352x512 : Shape := ⟨2, ![4352, 512]⟩
abbrev S512x1024 : Shape := ⟨2, ![512, 1024]⟩
abbrev S4352x1024 : Shape := ⟨2, ![4352, 1024]⟩
abbrev S544x512 : Shape := ⟨2, ![544, 512]⟩
abbrev S512x512 : Shape := ⟨2, ![512, 512]⟩

abbrev nBuf : Space → Nat
  | .hbm => 5
  | .vmem => 6
  | .smem => 0
  | _ => 0

abbrev bufTy : (tb : Table) → Fin (tcTables nBuf tb) → BufTy
  | .hbm, ⟨0, _⟩ => ⟨S4352x512, .f32⟩
  | .hbm, ⟨1, _⟩ => ⟨S512x1024, .f32⟩
  | .hbm, ⟨2, _⟩ => ⟨S4352x512, .bf16⟩
  | .hbm, ⟨3, _⟩ => ⟨S512x1024, .bf16⟩
  | .hbm, ⟨4, _⟩ => ⟨S4352x1024, .f32⟩
  | .local _ .vmem, ⟨0, _⟩ => ⟨S544x512, .bf16⟩
  | .local _ .vmem, ⟨1, _⟩ => ⟨S544x512, .bf16⟩
  | .local _ .vmem, ⟨2, _⟩ => ⟨S512x512, .bf16⟩
  | .local _ .vmem, ⟨3, _⟩ => ⟨S512x512, .bf16⟩
  | .local _ .vmem, ⟨4, _⟩ => ⟨S544x512, .f32⟩
  | .local _ .vmem, ⟨5, _⟩ => ⟨S544x512, .f32⟩
  | _, _ => ⟨S4352x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S544x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S544x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4352x512 : Shape := ⟨2, ![4352, 512]⟩
abbrev S512x1024 : Shape := ⟨2, ![512, 1024]⟩
abbrev S4352x1024 : Shape := ⟨2, ![4352, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4352x512, .f32⟩
  | .hbm, ⟨1, _⟩ => ⟨S512x1024, .f32⟩
  | .hbm, ⟨2, _⟩ => ⟨S4352x1024, .f32⟩
  | _, _ => ⟨S4352x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel11.lean ====
abbrev S4352x1024 : Shape := ⟨2, ![4352, 1024]⟩
abbrev S512x1024 : Shape := ⟨2, ![512, 1024]⟩
abbrev S4352x512 : Shape := ⟨2, ![4352, 512]⟩
abbrev S544x1024 : Shape := ⟨2, ![544, 1024]⟩
abbrev S544x512 : Shape := ⟨2, ![544, 512]⟩

abbrev nBuf : Space → Nat
  | .hbm => 5
  | .vmem => 5
  | .smem => 0
  | _ => 0

abbrev bufTy : (tb : Table) → Fin (tcTables nBuf tb) → BufTy
  | .hbm, ⟨0, _⟩ => ⟨S4352x1024, .f32⟩
  | .hbm, ⟨1, _⟩ => ⟨S512x1024, .f32⟩
  | .hbm, ⟨2, _⟩ => ⟨S4352x1024, .bf16⟩
  | .hbm, ⟨3, _⟩ => ⟨S512x1024, .bf16⟩
  | .hbm, ⟨4, _⟩ => ⟨S4352x512, .f32⟩
  | .local _ .vmem, ⟨0, _⟩ => ⟨S544x1024, .bf16⟩
  | .local _ .vmem, ⟨1, _⟩ => ⟨S544x1024, .bf16⟩
  | .local _ .vmem, ⟨2, _⟩ => ⟨S512x1024, .bf16⟩
  | .local _ .vmem, ⟨3, _⟩ => ⟨S544x512, .f32⟩
  | .local _ .vmem, ⟨4, _⟩ => ⟨S544x512, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S544x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4352x1024 : Shape := ⟨2, ![4352, 1024]⟩
abbrev S512x1024 : Shape := ⟨2, ![512, 1024]⟩
abbrev S_ : Shape := ⟨0, ![]⟩
abbrev S4352x512 : Shape := ⟨2, ![4352, 512]⟩

abbrev nBuf : Space → Nat
  | .hbm => 6
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S512x1024, .f32⟩
  | .hbm, ⟨2, _⟩ => ⟨S_, .f32⟩
  | .hbm, ⟨3, _⟩ => ⟨S4352x512, .f32⟩
  | .hbm, ⟨4, _⟩ => ⟨S4352x1024, .f32⟩
  | .hbm, ⟨5, _⟩ => ⟨S4352x512, .f32⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel12.lean ====
abbrev S4352x512 : Shape := ⟨2, ![4352, 512]⟩
abbrev S4352x1024 : Shape := ⟨2, ![4352, 1024]⟩
abbrev S512x1024 : Shape := ⟨2, ![512, 1024]⟩

abbrev nBuf : Space → Nat
  | .hbm => 5
  | .vmem => 3
  | .smem => 0
  | _ => 0

abbrev bufTy : (tb : Table) → Fin (tcTables nBuf tb) → BufTy
  | .hbm, ⟨0, _⟩ => ⟨S4352x512, .f32⟩
  | .hbm, ⟨1, _⟩ => ⟨S4352x1024, .f32⟩
  | .hbm, ⟨2, _⟩ => ⟨S4352x512, .bf16⟩
  | .hbm, ⟨3, _⟩ => ⟨S4352x1024, .bf16⟩
  | .hbm, ⟨4, _⟩ => ⟨S512x1024, .f32⟩
  | .local _ .vmem, ⟨0, _⟩ => ⟨S4352x512, .bf16⟩
  | .local _ .vmem, ⟨1, _⟩ => ⟨S4352x1024, .bf16⟩
  | .local _ .vmem, ⟨2, _⟩ => ⟨S512x1024, .f32⟩
  | _, _ => ⟨S4352x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4352x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4352x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference12Ideal.lean ====
abbrev S4352x512 : Shape := ⟨2, ![4352, 512]⟩
abbrev S4352x1024 : Shape := ⟨2, ![4352, 1024]⟩
abbrev S_ : Shape := ⟨0, ![]⟩
abbrev S512x1024 : Shape := ⟨2, ![512, 1024]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S4352x512, .f32⟩
  | .hbm, ⟨1, _⟩ => ⟨S4352x1024, .f32⟩
  | .hbm, ⟨2, _⟩ => ⟨S_, .f32⟩
  | .hbm, ⟨3, _⟩ => ⟨S512x1024, .f32⟩
  | .hbm, ⟨4, _⟩ => ⟨S4352x1024, .f32⟩
  | .hbm, ⟨5, _⟩ => ⟨S1024x512, .f32⟩
  | .hbm, ⟨6, _⟩ => ⟨S512x1024, .f32⟩
  | _, _ => ⟨S4352x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S4352x2048 : Shape := ⟨2, ![4352, 2048]⟩
abbrev S2048x2048 : Shape := ⟨2, ![2048, 2048]⟩
abbrev S4352x14336 : Shape := ⟨2, ![4352, 14336]⟩
abbrev S1x8192 : Shape := ⟨2, ![1, 8192]⟩
abbrev S4352x8192 : Shape := ⟨2, ![4352, 8192]⟩
abbrev S544x512 : Shape := ⟨2, ![544, 512]⟩
abbrev S512x1024 : Shape := ⟨2, ![512, 1024]⟩
abbrev S544x1024 : Shape := ⟨2, ![544, 1024]⟩
abbrev S1x1024 : Shape := ⟨2, ![1, 1024]⟩

abbrev nBuf : Space → Nat
  | .hbm => 9
  | .vmem => 13
  | .smem => 0
  | _ => 0

abbrev bufTy : (tb : Table) → Fin (tcTables nBuf tb) → BufTy
  | .hbm, ⟨0, _⟩ => ⟨S4352x2048, .f32⟩
  | .hbm, ⟨1, _⟩ => ⟨S2048x2048, .f32⟩
  | .hbm, ⟨2, _⟩ => ⟨S4352x14336, .f32⟩
  | .hbm, ⟨3, _⟩ => ⟨S1x8192, .f32⟩
  | .hbm, ⟨4, _⟩ => ⟨S4352x2048, .bf16⟩
  | .hbm, ⟨5, _⟩ => ⟨S2048x2048, .bf16⟩
  | .hbm, ⟨6, _⟩ => ⟨S4352x14336, .bf16⟩
  | .hbm, ⟨7, _⟩ => ⟨S4352x2048, .bf16⟩
  | .hbm, ⟨8, _⟩ => ⟨S4352x8192, .bf16⟩
  | .local _ .vmem, ⟨0, _⟩ => ⟨S544x512, .bf16⟩
  | .local _ .vmem, ⟨1, _⟩ => ⟨S544x512, .bf16⟩
  | .local _ .vmem, ⟨2, _⟩ => ⟨S512x1024, .bf16⟩
  | .local _ .vmem, ⟨3, _⟩ => ⟨S512x1024, .bf16⟩
  | .local _ .vmem, ⟨4, _⟩ => ⟨S544x1024, .bf16⟩
  | .local _ .vmem, ⟨5, _⟩ => ⟨S544x1024, .bf16⟩
  | .local _ .vmem, ⟨6, _⟩ => ⟨S1x1024, .f32⟩
  | .local _ .vmem, ⟨7, _⟩ => ⟨S1x1024, .f32⟩
  | .local _ .vmem, ⟨8, _⟩ => ⟨S544x1024, .bf16⟩
  | .local _ .vmem, ⟨9, _⟩ => ⟨S544x1024, .bf16⟩
  | .local _ .vmem, ⟨10, _⟩ => ⟨S544x1024, .bf16⟩
  | .local _ .vmem, ⟨11, _⟩ => ⟨S544x1024, .bf16⟩
  | .local _ .vmem, ⟨12, _⟩ => ⟨S544x1024, .f32⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v27 : BitVec 1 := Scalar.cmpi .eq arg2 c3_i32
  let v28 : BitVec 32 := Scalar.extui v27
  let c0_i32_15 : BitVec 32 := 0#32
  let v29 : BitVec 1 := Scalar.cmpi .ne v28 c0_i32_15
  v29

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c6_i32 : BitVec 32 := 6#32
  let v1 : BitVec 32 := Scalar.addi c6_i32 v0
  let v2 : BitVec 32 := Scalar.addi v1 arg1
  let c0_i32 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let v1 : BitVec 32 := Scalar.addi v0 arg1
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let v1 : BitVec 32 := Scalar.addi v0 arg1
  let c0_i32 : BitVec 32 := 0#32
  ![arg0.toNat, v1.toNat]

abbrev stage0_0 : Fin 2 → Memref sig .tc .vmem S544x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S544x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S544x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S544x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference13Ideal.lean ====
abbrev S4352x2048 : Shape := ⟨2, ![4352, 2048]⟩
abbrev S2048x2048 : Shape := ⟨2, ![2048, 2048]⟩
abbrev S4352x14336 : Shape := ⟨2, ![4352, 14336]⟩
abbrev S1x8192 : Shape := ⟨2, ![1, 8192]⟩
abbrev S4352x512 : Shape := ⟨2, ![4352, 512]⟩
abbrev S512x2048 : Shape := ⟨2, ![512, 2048]⟩
abbrev S4352x8192 : Shape := ⟨2, ![4352, 8192]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S2048x2048, .f32⟩
  | .hbm, ⟨2, _⟩ => ⟨S4352x14336, .f32⟩
  | .hbm, ⟨3, _⟩ => ⟨S1x8192, .f32⟩
  | .hbm, ⟨4, _⟩ => ⟨S4352x512, .f32⟩
  | .hbm, ⟨5, _⟩ => ⟨S512x2048, .f32⟩
  | .hbm, ⟨6, _⟩ => ⟨S4352x2048, .f32⟩
  | .hbm, ⟨7, _⟩ => ⟨S4352x512, .f32⟩
  | .hbm, ⟨8, _⟩ => ⟨S512x2048, .f32⟩
  | .hbm, ⟨9, _⟩ => ⟨S4352x2048, .f32⟩
  | .hbm, ⟨10, _⟩ => ⟨S4352x512, .f32⟩
  | .hbm, ⟨11, _⟩ => ⟨S512x2048, .f32⟩
  | .hbm, ⟨12, _⟩ => ⟨S4352x2048, .f32⟩
  | .hbm, ⟨13, _⟩ => ⟨S4352x512, .f32⟩
  | .hbm, ⟨14, _⟩ => ⟨S512x2048, .f32⟩
  | .hbm, ⟨15, _⟩ => ⟨S4352x2048, .f32⟩
  | .hbm, ⟨16, _⟩ => ⟨S4352x8192, .f32⟩
  | .hbm, ⟨17, _⟩ => ⟨S4352x8192, .f32⟩
  | .hbm, ⟨18, _⟩ => ⟨S4352x8192, .f32⟩
  | .hbm, ⟨19, _⟩ => ⟨S4352x8192, .f32⟩
  | .hbm, ⟨20, _⟩ => ⟨S4352x8192, .f32⟩
  | .hbm, ⟨21, _⟩ => ⟨S4352x8192, .f32⟩
  | .hbm, ⟨22, _⟩ => ⟨S_, .f32⟩
  | .hbm, ⟨23, _⟩ => ⟨S4352x8192, .f32⟩
  | .hbm, ⟨24, _⟩ => ⟨S4352x8192, .f32⟩
  | .hbm, ⟨25, _⟩ => ⟨S_, .f32⟩
  | .hbm, ⟨26, _⟩ => ⟨S4352x8192, .f32⟩
  | .hbm, ⟨27, _⟩ => ⟨S4352x8192, .f32⟩
  | .hbm, ⟨28, _⟩ => ⟨S4352x2048, .f32⟩
  | .hbm, ⟨29, _⟩ => ⟨S4352x2048, .f32⟩
  | .hbm, ⟨30, _⟩ => ⟨S4352x2048, .f32⟩
  | .hbm, ⟨31, _⟩ => ⟨S4352x2048, .f32⟩
  | .hbm, ⟨32, _⟩ => ⟨S4352x2048, .f32⟩
  | .hbm, ⟨33, _⟩ => ⟨S4352x2048, .f32⟩
  | .hbm, ⟨34, _⟩ => ⟨S4352x2048, .f32⟩
  | .hbm, ⟨35, _⟩ => ⟨S4352x2048, .f32⟩
  | .hbm, ⟨36, _⟩ => ⟨S4352x2048, .f32⟩
  | .hbm, ⟨37, _⟩ => ⟨S4352x2048, .f32⟩
  | .hbm, ⟨38, _⟩ => ⟨S4352x2048, .f32⟩
  | .hbm, ⟨39, _⟩ => ⟨S4352x2048, .f32⟩
  | .hbm, ⟨40, _⟩ => ⟨S4352x2048, .f32⟩
  | .hbm, ⟨41, _⟩ => ⟨S4352x2048, .f32⟩
  | .hbm, ⟨42, _⟩ => ⟨S4352x2048, .f32⟩
  | .hbm, ⟨43, _⟩ => ⟨S4352x2048, .bf16⟩
  | .hbm, ⟨44, _⟩ => ⟨S4352x8192, .bf16⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst : Ref sig .tc := ⟨.hbm, 22, rfl⟩
abbrev main_v18 : Ref sig .tc := ⟨.hbm, 23, rfl⟩
abbrev main_v19 : Ref sig .tc := ⟨.hbm, 24, rfl⟩
abbrev main_cst_0 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩

abbrev nD : Nat := 1
abbrev τ : Topo := Topo.v7x

variable {F : FTy → Type} [FloatOps F]
-- ==== Kernel14.lean ====
abbrev S4352x2048 : Shape := ⟨2, ![4352, 2048]⟩
abbrev S4352x8192 : Shape := ⟨2, ![4352, 8192]⟩
abbrev S4352x14336 : Shape := ⟨2, ![4352, 14336]⟩
abbrev S1x8192 : Shape := ⟨2, ![1, 8192]⟩
abbrev S8x8192 : Shape := ⟨2, ![8, 8192]⟩
abbrev S256x2048 : Shape := ⟨2, ![256, 2048]⟩
abbrev S1x2048 : Shape := ⟨2, ![1, 2048]⟩
abbrev S8x2048 : Shape := ⟨2, ![8, 2048]⟩
abbrev S2048 : Shape := ⟨1, ![2048]⟩

abbrev nBuf : Space → Nat
  | .hbm => 9
  | .vmem => 14
  | .smem => 0
  | _ => 0

abbrev bufTy : (tb : Table) → Fin (tcTables nBuf tb) → BufTy
  | .hbm, ⟨0, _⟩ => ⟨S4352x2048, .f32⟩
  | .hbm, ⟨1, _⟩ => ⟨S4352x8192, .f32⟩
  | .hbm, ⟨2, _⟩ => ⟨S4352x14336, .f32⟩
  | .hbm, ⟨3, _⟩ => ⟨S1x8192, .f32⟩
  | .hbm, ⟨4, _⟩ => ⟨S4352x8192, .bf16⟩
  | .hbm, ⟨5, _⟩ => ⟨S4352x14336, .bf16⟩
  | .hbm, ⟨6, _⟩ => ⟨S4352x8192, .bf16⟩
  | .hbm, ⟨7, _⟩ => ⟨S4352x8192, .bf16⟩
  | .hbm, ⟨8, _⟩ => ⟨S8x8192, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S1x2048, .f32⟩
  | .local _ .vmem, ⟨7, _⟩ => ⟨S1x2048, .f32⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S8x2048, .f32⟩
  | .local _ .vmem, ⟨13, _⟩ => ⟨S8x2048, .f32⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 17], ![false, false]⟩

def k0_cond1 (i : grid0.Coords) : BitVec 1 :=
  let arg1 : BitVec 32 := BitVec.ofNat 32 (i 1).val
  let c0_i32 : BitVec 32 := 0#32
  let v31 : BitVec 1 := Scalar.cmpi .eq arg1 c0_i32
  let v32 : BitVec 32 := Scalar.extui v31
  let c0_i32_15 : BitVec 32 := 0#32
  let v33 : BitVec 1 := Scalar.cmpi .ne v32 c0_i32_15
  v33

def k0_cond2 (i : grid0.Coords) : BitVec 1 :=
  let arg1 : BitVec 32 := BitVec.ofNat 32 (i 1).val
  let c0_i32_16 : BitVec 32 := 0#32
  let v34 : BitVec 1 := Scalar.cmpi .sgt arg1 c0_i32_16
  let v35 : BitVec 32 := Scalar.extui v34
  let c0_i32_17 : BitVec 32 := 0#32
  let v36 : BitVec 1 := Scalar.cmpi .ne v35 c0_i32_17
  v36

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference14Ideal.lean ====
abbrev S4352x2048 : Shape := ⟨2, ![4352, 2048]⟩
abbrev S4352x8192 : Shape := ⟨2, ![4352, 8192]⟩
abbrev S4352x14336 : Shape := ⟨2, ![4352, 14336]⟩
abbrev S1x8192 : Shape := ⟨2, ![1, 8192]⟩
abbrev S_ : Shape := ⟨0, ![]⟩
abbrev S8192 : Shape := ⟨1, ![8192]⟩
abbrev S8x8192 : Shape := ⟨2, ![8, 8192]⟩

abbrev nBuf : Space → Nat
  | .hbm => 73
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S4352x8192, .f32⟩
  | .hbm, ⟨2, _⟩ => ⟨S4352x14336, .f32⟩
  | .hbm, ⟨3, _⟩ => ⟨S1x8192, .f32⟩
  | .hbm, ⟨4, _⟩ => ⟨S4352x8192, .f32⟩
  | .hbm, ⟨5, _⟩ => ⟨S4352x8192, .f32⟩
  | .hbm, ⟨6, _⟩ => ⟨S4352x8192, .f32⟩
  | .hbm, ⟨7, _⟩ => ⟨S4352x8192, .f32⟩
  | .hbm, ⟨8, _⟩ => ⟨S4352x8192, .f32⟩
  | .hbm, ⟨9, _⟩ => ⟨S_, .f32⟩
  | .hbm, ⟨10, _⟩ => ⟨S4352x8192, .f32⟩
  | .hbm, ⟨11, _⟩ => ⟨S4352x8192, .f32⟩
  | .hbm, ⟨12, _⟩ => ⟨S_, .f32⟩
  | .hbm, ⟨13, _⟩ => ⟨S4352x8192, .f32⟩
  | .hbm, ⟨14, _⟩ => ⟨S4352x8192, .f32⟩
  | .hbm, ⟨15, _⟩ => ⟨S_, .f32⟩
  | .hbm, ⟨16, _⟩ => ⟨S4352x8192, .f32⟩
  | .hbm, ⟨17, _⟩ => ⟨S4352x8192, .f32⟩
  | .hbm, ⟨18, _⟩ => ⟨S4352x8192, .f32⟩
  | .hbm, ⟨19, _⟩ => ⟨S4352x2048, .f32⟩
  | .hbm, ⟨20, _⟩ => ⟨S4352x2048, .f32⟩
  | .hbm, ⟨21, _⟩ => ⟨S4352x2048, .f32⟩
  | .hbm, ⟨22, _⟩ => ⟨S4352x2048, .f32⟩
  | .hbm, ⟨23, _⟩ => ⟨S4352x2048, .f32⟩
  | .hbm, ⟨24, _⟩ => ⟨S4352x2048, .f32⟩
  | .hbm, ⟨25, _⟩ => ⟨S4352x2048, .f32⟩
  | .hbm, ⟨26, _⟩ => ⟨S4352x2048, .f32⟩
  | .hbm, ⟨27, _⟩ => ⟨S4352x2048, .f32⟩
  | .hbm, ⟨28, _⟩ => ⟨S4352x2048, .f32⟩
  | .hbm, ⟨29, _⟩ => ⟨S4352x2048, .f32⟩
  | .hbm, ⟨30, _⟩ => ⟨S4352x2048, .f32⟩
  | .hbm, ⟨31, _⟩ => ⟨S4352x2048, .f32⟩
  | .hbm, ⟨32, _⟩ => ⟨S4352x2048, .f32⟩
  | .hbm, ⟨33, _⟩ => ⟨S4352x2048, .f32⟩
  | .hbm, ⟨34, _⟩ => ⟨S4352x2048, .f32⟩
  | .hbm, ⟨35, _⟩ => ⟨S4352x2048, .f32⟩
  | .hbm, ⟨36, _⟩ => ⟨S4352x2048, .f32⟩
  | .hbm, ⟨37, _⟩ => ⟨S4352x2048, .f32⟩
  | .hbm, ⟨38, _⟩ => ⟨S_, .f32⟩
  | .hbm, ⟨39, _⟩ => ⟨S4352x8192, .f32⟩
  | .hbm, ⟨40, _⟩ => ⟨S_, .f32⟩
  | .hbm, ⟨41, _⟩ => ⟨S4352x8192, .f32⟩
  | .hbm, ⟨42, _⟩ => ⟨S4352x2048, .f32⟩
  | .hbm, ⟨43, _⟩ => ⟨S4352x2048, .f32⟩
  | .hbm, ⟨44, _⟩ => ⟨S_, .f32⟩
  | .hbm, ⟨45, _⟩ => ⟨S4352x8192, .f32⟩
  | .hbm, ⟨46, _⟩ => ⟨S4352x8192, .f32⟩
  | .hbm, ⟨47, _⟩ => ⟨S_, .f32⟩
  | .hbm, ⟨48, _⟩ => ⟨S4352x8192, .f32⟩
  | .hbm, ⟨49, _⟩ => ⟨S4352x8192, .f32⟩
  | .hbm, ⟨50, _⟩ => ⟨S4352x2048, .f32⟩
  | .hbm, ⟨51, _⟩ => ⟨S4352x2048, .f32⟩
  | .hbm, ⟨52, _⟩ => ⟨S_, .f32⟩
  | .hbm, ⟨53, _⟩ => ⟨S4352x8192, .f32⟩
  | .hbm, ⟨54, _⟩ => ⟨S4352x8192, .f32⟩
  | .hbm, ⟨55, _⟩ => ⟨S_, .f32⟩
  | .hbm, ⟨56, _⟩ => ⟨S4352x8192, .f32⟩
  | .hbm, ⟨57, _⟩ => ⟨S4352x8192, .f32⟩
  | .hbm, ⟨58, _⟩ => ⟨S4352x2048, .f32⟩
  | .hbm, ⟨59, _⟩ => ⟨S4352x2048, .f32⟩
  | .hbm, ⟨60, _⟩ => ⟨S_, .f32⟩
  | .hbm, ⟨61, _⟩ => ⟨S4352x8192, .f32⟩
  | .hbm, ⟨62, _⟩ => ⟨S4352x8192, .f32⟩
  | .hbm, ⟨63, _⟩ => ⟨S_, .f32⟩
  | .hbm, ⟨64, _⟩ => ⟨S4352x8192, .f32⟩
  | .hbm, ⟨65, _⟩ => ⟨S4352x8192, .f32⟩
  | .hbm, ⟨66, _⟩ => ⟨S4352x8192, .f32⟩
  | .hbm, ⟨67, _⟩ => ⟨S_, .f32⟩
  | .hbm, ⟨68, _⟩ => ⟨S8192, .f32⟩
  | .hbm, ⟨69, _⟩ => ⟨S1x8192, .f32⟩
  | .hbm, ⟨70, _⟩ => ⟨S4352x8192, .bf16⟩
  | .hbm, ⟨71, _⟩ => ⟨S4352x8192, .bf16⟩
  | .hbm, ⟨72, _⟩ => ⟨S8x8192, .f32⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_2 : Ref sig .tc := ⟨.hbm, 38, rfl⟩
abbrev main_v31 : Ref sig .tc := ⟨.hbm, 39, rfl⟩
abbrev main_cst_3 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_4 : Ref sig .tc := ⟨.hbm, 44, rfl⟩
abbrev main_v35 : Ref sig .tc := ⟨.hbm, 45, rfl⟩
abbrev main_v36 : Ref sig .tc := ⟨.hbm, 46, rfl⟩
abbrev main_cst_5 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_6 : Ref sig .tc := ⟨.hbm, 52, rfl⟩
abbrev main_v41 : Ref sig .tc := ⟨.hbm, 53, rfl⟩
abbrev main_v42 : Ref sig .tc := ⟨.hbm, 54, rfl⟩
abbrev main_cst_7 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_8 : Ref sig .tc := ⟨.hbm, 60, rfl⟩
abbrev main_v47 : Ref sig .tc := ⟨.hbm, 61, rfl⟩
abbrev main_v48 : Ref sig .tc := ⟨.hbm, 62, rfl⟩
abbrev main_cst_9 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_10 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩

abbrev nD : Nat := 1
abbrev τ : Topo := Topo.v7x

variable {F : FTy → Type} [FloatOps F]
-- ==== Kernel15.lean ====
abbrev S4352x2048 : Shape := ⟨2, ![4352, 2048]⟩
abbrev S4352x14336 : Shape := ⟨2, ![4352, 14336]⟩
abbrev S256x2048 : Shape := ⟨2, ![256, 2048]⟩
abbrev S256x512 : Shape := ⟨2, ![256, 512]⟩

abbrev nBuf : Space → Nat
  | .hbm => 4
  | .vmem => 12
  | .smem => 0
  | _ => 0

abbrev bufTy : (tb : Table) → Fin (tcTables nBuf tb) → BufTy
  | .hbm, ⟨0, _⟩ => ⟨S4352x2048, .f32⟩
  | .hbm, ⟨1, _⟩ => ⟨S4352x14336, .f32⟩
  | .hbm, ⟨2, _⟩ => ⟨S4352x14336, .bf16⟩
  | .hbm, ⟨3, _⟩ => ⟨S4352x2048, .bf16⟩
  | .local _ .vmem, ⟨0, _⟩ => ⟨S256x2048, .f32⟩
  | .local _ .vmem, ⟨1, _⟩ => ⟨S256x2048, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x2048, .bf16⟩
  | .local _ .vmem, ⟨11, _⟩ => ⟨S256x2048, .bf16⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_4 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference15Ideal.lean ====
abbrev S4352x2048 : Shape := ⟨2, ![4352, 2048]⟩
abbrev S4352x14336 : Shape := ⟨2, ![4352, 14336]⟩
abbrev S4352x512 : Shape := ⟨2, ![4352, 512]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S4352x14336, .f32⟩
  | .hbm, ⟨2, _⟩ => ⟨S4352x512, .f32⟩
  | .hbm, ⟨3, _⟩ => ⟨S4352x512, .f32⟩
  | .hbm, ⟨4, _⟩ => ⟨S4352x512, .f32⟩
  | .hbm, ⟨5, _⟩ => ⟨S4352x512, .f32⟩
  | .hbm, ⟨6, _⟩ => ⟨S4352x2048, .f32⟩
  | .hbm, ⟨7, _⟩ => ⟨S4352x2048, .f32⟩
  | .hbm, ⟨8, _⟩ => ⟨S4352x2048, .f32⟩
  | .hbm, ⟨9, _⟩ => ⟨S_, .f32⟩
  | .hbm, ⟨10, _⟩ => ⟨S4352x2048, .f32⟩
  | .hbm, ⟨11, _⟩ => ⟨S4352x2048, .f32⟩
  | .hbm, ⟨12, _⟩ => ⟨S_, .f32⟩
  | .hbm, ⟨13, _⟩ => ⟨S4352x2048, .f32⟩
  | .hbm, ⟨14, _⟩ => ⟨S4352x2048, .f32⟩
  | .hbm, ⟨15, _⟩ => ⟨S4352x2048, .f32⟩
  | .hbm, ⟨16, _⟩ => ⟨S4352x2048, .f32⟩
  | .hbm, ⟨17, _⟩ => ⟨S4352x2048, .bf16⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== Kernel17.lean ====
abbrev S4x2048x3584 : Shape := ⟨3, ![4, 2048, 3584]⟩
abbrev S8192x3584 : Shape := ⟨2, ![8192, 3584]⟩
abbrev S64x3584 : Shape := ⟨2, ![64, 3584]⟩

abbrev nBuf : Space → Nat
  | .hbm => 11
  | .vmem => 14
  | .smem => 0
  | _ => 0

abbrev bufTy : (tb : Table) → Fin (tcTables nBuf tb) → BufTy
  | .hbm, ⟨0, _⟩ => ⟨S4x2048x3584, .f32⟩
  | .hbm, ⟨1, _⟩ => ⟨S4x2048x3584, .f32⟩
  | .hbm, ⟨2, _⟩ => ⟨S4x2048x3584, .f32⟩
  | .hbm, ⟨3, _⟩ => ⟨S4x2048x3584, .f32⟩
  | .hbm, ⟨4, _⟩ => ⟨S8192x3584, .f32⟩
  | .hbm, ⟨5, _⟩ => ⟨S8192x3584, .f32⟩
  | .hbm, ⟨6, _⟩ => ⟨S8192x3584, .f32⟩
  | .hbm, ⟨7, _⟩ => ⟨S8192x3584, .f32⟩
  | .hbm, ⟨8, _⟩ => ⟨S8192x3584, .f32⟩
  | .hbm, ⟨9, _⟩ => ⟨S8192x3584, .f32⟩
  | .hbm, ⟨10, _⟩ => ⟨S8192x3584, .f32⟩
  | .local _ .vmem, ⟨0, _⟩ => ⟨S64x3584, .f32⟩
  | .local _ .vmem, ⟨1, _⟩ => ⟨S64x3584, .f32⟩
  | .local _ .vmem, ⟨2, _⟩ => ⟨S64x3584, .f32⟩
  | .local _ .vmem, ⟨3, _⟩ => ⟨S64x3584, .f32⟩
  | .local _ .vmem, ⟨4, _⟩ => ⟨S64x3584, .f32⟩
  | .local _ .vmem, ⟨5, _⟩ => ⟨S64x3584, .f32⟩
  | .local _ .vmem, ⟨6, _⟩ => ⟨S64x3584, .f32⟩
  | .local _ .vmem, ⟨7, _⟩ => ⟨S64x3584, .f32⟩
  | .local _ .vmem, ⟨8, _⟩ => ⟨S64x3584, .f32⟩
  | .local _ .vmem, ⟨9, _⟩ => ⟨S64x3584, .f32⟩
  | .local _ .vmem, ⟨10, _⟩ => ⟨S64x3584, .f32⟩
  | .local _ .vmem, ⟨11, _⟩ => ⟨S64x3584, .f32⟩
  | .local _ .vmem, ⟨12, _⟩ => ⟨S64x3584, .f32⟩
  | .local _ .vmem, ⟨13, _⟩ => ⟨S64x3584, .f32⟩
  | _, _ => ⟨S4x2048x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x3584 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x3584 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x3584 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x3584 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x3584 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x3584 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x3584 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference17Ideal.lean ====
abbrev S4x2048x3584 : Shape := ⟨3, ![4, 2048, 3584]⟩
abbrev S_ : Shape := ⟨0, ![]⟩
abbrev S8192x3584 : Shape := ⟨2, ![8192, 3584]⟩

abbrev nBuf : Space → Nat
  | .hbm => 40
  | .vmem => 0
  | .smem => 0
  | _ => 0

abbrev bufTy : (tb : Table) → Fin (tcTables nBuf tb) → BufTy
  | .hbm, ⟨0, _⟩ => ⟨S4x2048x3584, .f32⟩
  | .hbm, ⟨1, _⟩ => ⟨S4x2048x3584, .f32⟩
  | .hbm, ⟨2, _⟩ => ⟨S4x2048x3584, .f32⟩
  | .hbm, ⟨3, _⟩ => ⟨S4x2048x3584, .f32⟩
  | .hbm, ⟨4, _⟩ => ⟨S_, .f32⟩
  | .hbm, ⟨5, _⟩ => ⟨S4x2048x3584, .f32⟩
  | .hbm, ⟨6, _⟩ => ⟨S4x2048x3584, .f32⟩
  | .hbm, ⟨7, _⟩ => ⟨S_, .f32⟩
  | .hbm, ⟨8, _⟩ => ⟨S4x2048x3584, .f32⟩
  | .hbm, ⟨9, _⟩ => ⟨S4x2048x3584, .f32⟩
  | .hbm, ⟨10, _⟩ => ⟨S4x2048x3584, .f32⟩
  | .hbm, ⟨11, _⟩ => ⟨S_, .f32⟩
  | .hbm, ⟨12, _⟩ => ⟨S4x2048x3584, .f32⟩
  | .hbm, ⟨13, _⟩ => ⟨S4x2048x3584, .f32⟩
  | .hbm, ⟨14, _⟩ => ⟨S4x2048x3584, .f32⟩
  | .hbm, ⟨15, _⟩ => ⟨S_, .f32⟩
  | .hbm, ⟨16, _⟩ => ⟨S4x2048x3584, .f32⟩
  | .hbm, ⟨17, _⟩ => ⟨S4x2048x3584, .f32⟩
  | .hbm, ⟨18, _⟩ => ⟨S4x2048x3584, .f32⟩
  | .hbm, ⟨19, _⟩ => ⟨S_, .f32⟩
  | .hbm, ⟨20, _⟩ => ⟨S4x2048x3584, .f32⟩
  | .hbm, ⟨21, _⟩ => ⟨S4x2048x3584, .f32⟩
  | .hbm, ⟨22, _⟩ => ⟨S_, .f32⟩
  | .hbm, ⟨23, _⟩ => ⟨S4x2048x3584, .f32⟩
  | .hbm, ⟨24, _⟩ => ⟨S4x2048x3584, .f32⟩
  | .hbm, ⟨25, _⟩ => ⟨S4x2048x3584, .f32⟩
  | .hbm, ⟨26, _⟩ => ⟨S_, .f32⟩
  | .hbm, ⟨27, _⟩ => ⟨S4x2048x3584, .f32⟩
  | .hbm, ⟨28, _⟩ => ⟨S4x2048x3584, .f32⟩
  | .hbm, ⟨29, _⟩ => ⟨S4x2048x3584, .f32⟩
  | .hbm, ⟨30, _⟩ => ⟨S_, .f32⟩
  | .hbm, ⟨31, _⟩ => ⟨S4x2048x3584, .f32⟩
  | .hbm, ⟨32, _⟩ => ⟨S4x2048x3584, .f32⟩
  | .hbm, ⟨33, _⟩ => ⟨S4x2048x3584, .f32⟩
  | .hbm, ⟨34, _⟩ => ⟨S_, .f32⟩
  | .hbm, ⟨35, _⟩ => ⟨S4x2048x3584, .f32⟩
  | .hbm, ⟨36, _⟩ => ⟨S4x2048x3584, .f32⟩
  | .hbm, ⟨37, _⟩ => ⟨S8192x3584, .f32⟩
  | .hbm, ⟨38, _⟩ => ⟨S8192x3584, .f32⟩
  | .hbm, ⟨39, _⟩ => ⟨S8192x3584, .f32⟩
  | _, _ => ⟨S4x2048x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel18.lean ====
abbrev S4x512x256 : Shape := ⟨3, ![4, 512, 256]⟩
abbrev S2048x256 : Shape := ⟨2, ![2048, 256]⟩
abbrev S256x256 : Shape := ⟨2, ![256, 256]⟩

abbrev nBuf : Space → Nat
  | .hbm => 11
  | .vmem => 14
  | .smem => 0
  | _ => 0

abbrev bufTy : (tb : Table) → Fin (tcTables nBuf tb) → BufTy
  | .hbm, ⟨0, _⟩ => ⟨S4x512x256, .f32⟩
  | .hbm, ⟨1, _⟩ => ⟨S4x512x256, .f32⟩
  | .hbm, ⟨2, _⟩ => ⟨S4x512x256, .f32⟩
  | .hbm, ⟨3, _⟩ => ⟨S4x512x256, .f32⟩
  | .hbm, ⟨4, _⟩ => ⟨S2048x256, .f32⟩
  | .hbm, ⟨5, _⟩ => ⟨S2048x256, .f32⟩
  | .hbm, ⟨6, _⟩ => ⟨S2048x256, .f32⟩
  | .hbm, ⟨7, _⟩ => ⟨S2048x256, .f32⟩
  | .hbm, ⟨8, _⟩ => ⟨S2048x256, .f32⟩
  | .hbm, ⟨9, _⟩ => ⟨S2048x256, .f32⟩
  | .hbm, ⟨10, _⟩ => ⟨S2048x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S4x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference18Ideal.lean ====
abbrev S4x512x256 : Shape := ⟨3, ![4, 512, 256]⟩
abbrev S_ : Shape := ⟨0, ![]⟩
abbrev S2048x256 : Shape := ⟨2, ![2048, 256]⟩

abbrev nBuf : Space → Nat
  | .hbm => 40
  | .vmem => 0
  | .smem => 0
  | _ => 0

abbrev bufTy : (tb : Table) → Fin (tcTables nBuf tb) → BufTy
  | .hbm, ⟨0, _⟩ => ⟨S4x512x256, .f32⟩
  | .hbm, ⟨1, _⟩ => ⟨S4x512x256, .f32⟩
  | .hbm, ⟨2, _⟩ => ⟨S4x512x256, .f32⟩
  | .hbm, ⟨3, _⟩ => ⟨S4x512x256, .f32⟩
  | .hbm, ⟨4, _⟩ => ⟨S_, .f32⟩
  | .hbm, ⟨5, _⟩ => ⟨S4x512x256, .f32⟩
  | .hbm, ⟨6, _⟩ => ⟨S4x512x256, .f32⟩
  | .hbm, ⟨7, _⟩ => ⟨S_, .f32⟩
  | .hbm, ⟨8, _⟩ => ⟨S4x512x256, .f32⟩
  | .hbm, ⟨9, _⟩ => ⟨S4x512x256, .f32⟩
  | .hbm, ⟨10, _⟩ => ⟨S4x512x256, .f32⟩
  | .hbm, ⟨11, _⟩ => ⟨S_, .f32⟩
  | .hbm, ⟨12, _⟩ => ⟨S4x512x256, .f32⟩
  | .hbm, ⟨13, _⟩ => ⟨S4x512x256, .f32⟩
  | .hbm, ⟨14, _⟩ => ⟨S4x512x256, .f32⟩
  | .hbm, ⟨15, _⟩ => ⟨S_, .f32⟩
  | .hbm, ⟨16, _⟩ => ⟨S4x512x256, .f32⟩
  | .hbm, ⟨17, _⟩ => ⟨S4x512x256, .f32⟩
  | .hbm, ⟨18, _⟩ => ⟨S4x512x256, .f32⟩
  | .hbm, ⟨19, _⟩ => ⟨S_, .f32⟩
  | .hbm, ⟨20, _⟩ => ⟨S4x512x256, .f32⟩
  | .hbm, ⟨21, _⟩ => ⟨S4x512x256, .f32⟩
  | .hbm, ⟨22, _⟩ => ⟨S_, .f32⟩
  | .hbm, ⟨23, _⟩ => ⟨S4x512x256, .f32⟩
  | .hbm, ⟨24, _⟩ => ⟨S4x512x256, .f32⟩
  | .hbm, ⟨25, _⟩ => ⟨S4x512x256, .f32⟩
  | .hbm, ⟨26, _⟩ => ⟨S_, .f32⟩
  | .hbm, ⟨27, _⟩ => ⟨S4x512x256, .f32⟩
  | .hbm, ⟨28, _⟩ => ⟨S4x512x256, .f32⟩
  | .hbm, ⟨29, _⟩ => ⟨S4x512x256, .f32⟩
  | .hbm, ⟨30, _⟩ => ⟨S_, .f32⟩
  | .hbm, ⟨31, _⟩ => ⟨S4x512x256, .f32⟩
  | .hbm, ⟨32, _⟩ => ⟨S4x512x256, .f32⟩
  | .hbm, ⟨33, _⟩ => ⟨S4x512x256, .f32⟩
  | .hbm, ⟨34, _⟩ => ⟨S_, .f32⟩
  | .hbm, ⟨35, _⟩ => ⟨S4x512x256, .f32⟩
  | .hbm, ⟨36, _⟩ => ⟨S4x512x256, .f32⟩
  | .hbm, ⟨37, _⟩ => ⟨S2048x256, .f32⟩
  | .hbm, ⟨38, _⟩ => ⟨S2048x256, .f32⟩
  | .hbm, ⟨39, _⟩ => ⟨S2048x256, .f32⟩
  | _, _ => ⟨S4x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel19.lean ====
abbrev S4x512x2048 : Shape := ⟨3, ![4, 512, 2048]⟩
abbrev S2048x2048 : Shape := ⟨2, ![2048, 2048]⟩
abbrev S128x2048 : Shape := ⟨2, ![128, 2048]⟩

abbrev nBuf : Space → Nat
  | .hbm => 11
  | .vmem => 14
  | .smem => 0
  | _ => 0

abbrev bufTy : (tb : Table) → Fin (tcTables nBuf tb) → BufTy
  | .hbm, ⟨0, _⟩ => ⟨S4x512x2048, .f32⟩
  | .hbm, ⟨1, _⟩ => ⟨S4x512x2048, .f32⟩
  | .hbm, ⟨2, _⟩ => ⟨S4x512x2048, .f32⟩
  | .hbm, ⟨3, _⟩ => ⟨S4x512x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S4x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference19Ideal.lean ====
abbrev S4x512x2048 : Shape := ⟨3, ![4, 512, 2048]⟩
abbrev S_ : Shape := ⟨0, ![]⟩
abbrev S2048x2048 : Shape := ⟨2, ![2048, 2048]⟩

abbrev nBuf : Space → Nat
  | .hbm => 40
  | .vmem => 0
  | .smem => 0
  | _ => 0

abbrev bufTy : (tb : Table) → Fin (tcTables nBuf tb) → BufTy
  | .hbm, ⟨0, _⟩ => ⟨S4x512x2048, .f32⟩
  | .hbm, ⟨1, _⟩ => ⟨S4x512x2048, .f32⟩
  | .hbm, ⟨2, _⟩ => ⟨S4x512x2048, .f32⟩
  | .hbm, ⟨3, _⟩ => ⟨S4x512x2048, .f32⟩
  | .hbm, ⟨4, _⟩ => ⟨S_, .f32⟩
  | .hbm, ⟨5, _⟩ => ⟨S4x512x2048, .f32⟩
  | .hbm, ⟨6, _⟩ => ⟨S4x512x2048, .f32⟩
  | .hbm, ⟨7, _⟩ => ⟨S_, .f32⟩
  | .hbm, ⟨8, _⟩ => ⟨S4x512x2048, .f32⟩
  | .hbm, ⟨9, _⟩ => ⟨S4x512x2048, .f32⟩
  | .hbm, ⟨10, _⟩ => ⟨S4x512x2048, .f32⟩
  | .hbm, ⟨11, _⟩ => ⟨S_, .f32⟩
  | .hbm, ⟨12, _⟩ => ⟨S4x512x2048, .f32⟩
  | .hbm, ⟨13, _⟩ => ⟨S4x512x2048, .f32⟩
  | .hbm, ⟨14, _⟩ => ⟨S4x512x2048, .f32⟩
  | .hbm, ⟨15, _⟩ => ⟨S_, .f32⟩
  | .hbm, ⟨16, _⟩ => ⟨S4x512x2048, .f32⟩
  | .hbm, ⟨17, _⟩ => ⟨S4x512x2048, .f32⟩
  | .hbm, ⟨18, _⟩ => ⟨S4x512x2048, .f32⟩
  | .hbm, ⟨19, _⟩ => ⟨S_, .f32⟩
  | .hbm, ⟨20, _⟩ => ⟨S4x512x2048, .f32⟩
  | .hbm, ⟨21, _⟩ => ⟨S4x512x2048, .f32⟩
  | .hbm, ⟨22, _⟩ => ⟨S_, .f32⟩
  | .hbm, ⟨23, _⟩ => ⟨S4x512x2048, .f32⟩
  | .hbm, ⟨24, _⟩ => ⟨S4x512x2048, .f32⟩
  | .hbm, ⟨25, _⟩ => ⟨S4x512x2048, .f32⟩
  | .hbm, ⟨26, _⟩ => ⟨S_, .f32⟩
  | .hbm, ⟨27, _⟩ => ⟨S4x512x2048, .f32⟩
  | .hbm, ⟨28, _⟩ => ⟨S4x512x2048, .f32⟩
  | .hbm, ⟨29, _⟩ => ⟨S4x512x2048, .f32⟩
  | .hbm, ⟨30, _⟩ => ⟨S_, .f32⟩
  | .hbm, ⟨31, _⟩ => ⟨S4x512x2048, .f32⟩
  | .hbm, ⟨32, _⟩ => ⟨S4x512x2048, .f32⟩
  | .hbm, ⟨33, _⟩ => ⟨S4x512x2048, .f32⟩
  | .hbm, ⟨34, _⟩ => ⟨S_, .f32⟩
  | .hbm, ⟨35, _⟩ => ⟨S4x512x2048, .f32⟩
  | .hbm, ⟨36, _⟩ => ⟨S4x512x2048, .f32⟩
  | .hbm, ⟨37, _⟩ => ⟨S2048x2048, .f32⟩
  | .hbm, ⟨38, _⟩ => ⟨S2048x2048, .f32⟩
  | .hbm, ⟨39, _⟩ => ⟨S2048x2048, .f32⟩
  | _, _ => ⟨S4x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel20.lean ====
abbrev S1408x1024 : Shape := ⟨2, ![1408, 1024]⟩
abbrev S128x1024 : Shape := ⟨2, ![128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference20Ideal.lean ====
abbrev S1408x1024 : Shape := ⟨2, ![1408, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S_, .f32⟩
  | .hbm, ⟨5, _⟩ => ⟨S1408x1024, .f32⟩
  | .hbm, ⟨6, _⟩ => ⟨S1408x1024, .f32⟩
  | .hbm, ⟨7, _⟩ => ⟨S_, .f32⟩
  | .hbm, ⟨8, _⟩ => ⟨S1408x1024, .f32⟩
  | .hbm, ⟨9, _⟩ => ⟨S1408x1024, .f32⟩
  | .hbm, ⟨10, _⟩ => ⟨S1408x1024, .f32⟩
  | .hbm, ⟨11, _⟩ => ⟨S_, .f32⟩
  | .hbm, ⟨12, _⟩ => ⟨S1408x1024, .f32⟩
  | .hbm, ⟨13, _⟩ => ⟨S1408x1024, .f32⟩
  | .hbm, ⟨14, _⟩ => ⟨S1408x1024, .f32⟩
  | .hbm, ⟨15, _⟩ => ⟨S_, .f32⟩
  | .hbm, ⟨16, _⟩ => ⟨S1408x1024, .f32⟩
  | .hbm, ⟨17, _⟩ => ⟨S1408x1024, .f32⟩
  | .hbm, ⟨18, _⟩ => ⟨S1408x1024, .f32⟩
  | .hbm, ⟨19, _⟩ => ⟨S_, .f32⟩
  | .hbm, ⟨20, _⟩ => ⟨S1408x1024, .f32⟩
  | .hbm, ⟨21, _⟩ => ⟨S1408x1024, .f32⟩
  | .hbm, ⟨22, _⟩ => ⟨S_, .f32⟩
  | .hbm, ⟨23, _⟩ => ⟨S1408x1024, .f32⟩
  | .hbm, ⟨24, _⟩ => ⟨S1408x1024, .f32⟩
  | .hbm, ⟨25, _⟩ => ⟨S1408x1024, .f32⟩
  | .hbm, ⟨26, _⟩ => ⟨S_, .f32⟩
  | .hbm, ⟨27, _⟩ => ⟨S1408x1024, .f32⟩
  | .hbm, ⟨28, _⟩ => ⟨S1408x1024, .f32⟩
  | .hbm, ⟨29, _⟩ => ⟨S1408x1024, .f32⟩
  | .hbm, ⟨30, _⟩ => ⟨S_, .f32⟩
  | .hbm, ⟨31, _⟩ => ⟨S1408x1024, .f32⟩
  | .hbm, ⟨32, _⟩ => ⟨S1408x1024, .f32⟩
  | .hbm, ⟨33, _⟩ => ⟨S1408x1024, .f32⟩
  | .hbm, ⟨34, _⟩ => ⟨S_, .f32⟩
  | .hbm, ⟨35, _⟩ => ⟨S1408x1024, .f32⟩
  | .hbm, ⟨36, _⟩ => ⟨S1408x1024, .f32⟩
  | _, _ => ⟨S1408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S16x2048 : Shape := ⟨2, ![16, 2048]⟩
abbrev S4x16x1536 : Shape := ⟨3, ![4, 16, 1536]⟩
abbrev S4x2048x1536 : Shape := ⟨3, ![4, 2048, 1536]⟩
abbrev S16x256 : Shape := ⟨2, ![16, 256]⟩
abbrev S1x16x512 : Shape := ⟨3, ![1, 16, 512]⟩
abbrev S1x256x512 : Shape := ⟨3, ![1, 256, 512]⟩
abbrev S16x512 : Shape := ⟨2, ![16, 512]⟩
abbrev S256x512 : Shape := ⟨2, ![256, 512]⟩

abbrev nBuf : Space → Nat
  | .hbm => 9
  | .vmem => 18
  | .smem => 0
  | _ => 0

abbrev bufTy : (tb : Table) → Fin (tcTables nBuf tb) → BufTy
  | .hbm, ⟨0, _⟩ => ⟨S16x2048, .f32⟩
  | .hbm, ⟨1, _⟩ => ⟨S4x16x1536, .f32⟩
  | .hbm, ⟨2, _⟩ => ⟨S4x2048x1536, .f32⟩
  | .hbm, ⟨3, _⟩ => ⟨S4x2048x1536, .f32⟩
  | .hbm, ⟨4, _⟩ => ⟨S4x2048x1536, .f32⟩
  | .hbm, ⟨5, _⟩ => ⟨S4x2048x1536, .f32⟩
  | .hbm, ⟨6, _⟩ => ⟨S4x2048x1536, .f32⟩
  | .hbm, ⟨7, _⟩ => ⟨S4x2048x1536, .f32⟩
  | .hbm, ⟨8, _⟩ => ⟨S4x2048x1536, .f32⟩
  | .local _ .vmem, ⟨0, _⟩ => ⟨S16x256, .f32⟩
  | .local _ .vmem, ⟨1, _⟩ => ⟨S16x256, .f32⟩
  | .local _ .vmem, ⟨2, _⟩ => ⟨S1x16x512, .f32⟩
  | .local _ .vmem, ⟨3, _⟩ => ⟨S1x16x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 8, 3], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Reference21Ideal.lean ====
abbrev S16x2048 : Shape := ⟨2, ![16, 2048]⟩
abbrev S4x16x1536 : Shape := ⟨3, ![4, 16, 1536]⟩
abbrev S4x2048x1536 : Shape := ⟨3, ![4, 2048, 1536]⟩
abbrev S_ : Shape := ⟨0, ![]⟩
abbrev S1x2048x1536 : Shape := ⟨3, ![1, 2048, 1536]⟩
abbrev S2048x1536 : Shape := ⟨2, ![2048, 1536]⟩
abbrev S16x1536 : Shape := ⟨2, ![16, 1536]⟩
abbrev S1x16x1536 : Shape := ⟨3, ![1, 16, 1536]⟩
abbrev S1536x2048 : Shape := ⟨2, ![1536, 2048]⟩

abbrev nBuf : Space → Nat
  | .hbm => 122
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S4x16x1536, .f32⟩
  | .hbm, ⟨2, _⟩ => ⟨S4x2048x1536, .f32⟩
  | .hbm, ⟨3, _⟩ => ⟨S4x2048x1536, .f32⟩
  | .hbm, ⟨4, _⟩ => ⟨S4x2048x1536, .f32⟩
  | .hbm, ⟨5, _⟩ => ⟨S16x2048, .f32⟩
  | .hbm, ⟨6, _⟩ => ⟨S16x2048, .f32⟩
  | .hbm, ⟨7, _⟩ => ⟨S_, .f32⟩
  | .hbm, ⟨8, _⟩ => ⟨S16x2048, .f32⟩
  | .hbm, ⟨9, _⟩ => ⟨S16x2048, .f32⟩
  | .hbm, ⟨10, _⟩ => ⟨S_, .f32⟩
  | .hbm, ⟨11, _⟩ => ⟨S16x2048, .f32⟩
  | .hbm, ⟨12, _⟩ => ⟨S16x2048, .f32⟩
  | .hbm, ⟨13, _⟩ => ⟨S16x2048, .f32⟩
  | .hbm, ⟨14, _⟩ => ⟨S1x2048x1536, .f32⟩
  | .hbm, ⟨15, _⟩ => ⟨S2048x1536, .f32⟩
  | .hbm, ⟨16, _⟩ => ⟨S16x1536, .f32⟩
  | .hbm, ⟨17, _⟩ => ⟨S16x2048, .f32⟩
  | .hbm, ⟨18, _⟩ => ⟨S16x2048, .f32⟩
  | .hbm, ⟨19, _⟩ => ⟨S_, .f32⟩
  | .hbm, ⟨20, _⟩ => ⟨S16x2048, .f32⟩
  | .hbm, ⟨21, _⟩ => ⟨S16x2048, .f32⟩
  | .hbm, ⟨22, _⟩ => ⟨S_, .f32⟩
  | .hbm, ⟨23, _⟩ => ⟨S16x2048, .f32⟩
  | .hbm, ⟨24, _⟩ => ⟨S16x2048, .f32⟩
  | .hbm, ⟨25, _⟩ => ⟨S16x2048, .f32⟩
  | .hbm, ⟨26, _⟩ => ⟨S1x2048x1536, .f32⟩
  | .hbm, ⟨27, _⟩ => ⟨S2048x1536, .f32⟩
  | .hbm, ⟨28, _⟩ => ⟨S16x1536, .f32⟩
  | .hbm, ⟨29, _⟩ => ⟨S16x2048, .f32⟩
  | .hbm, ⟨30, _⟩ => ⟨S16x2048, .f32⟩
  | .hbm, ⟨31, _⟩ => ⟨S_, .f32⟩
  | .hbm, ⟨32, _⟩ => ⟨S16x2048, .f32⟩
  | .hbm, ⟨33, _⟩ => ⟨S16x2048, .f32⟩
  | .hbm, ⟨34, _⟩ => ⟨S_, .f32⟩
  | .hbm, ⟨35, _⟩ => ⟨S16x2048, .f32⟩
  | .hbm, ⟨36, _⟩ => ⟨S16x2048, .f32⟩
  | .hbm, ⟨37, _⟩ => ⟨S16x2048, .f32⟩
  | .hbm, ⟨38, _⟩ => ⟨S1x2048x1536, .f32⟩
  | .hbm, ⟨39, _⟩ => ⟨S2048x1536, .f32⟩
  | .hbm, ⟨40, _⟩ => ⟨S16x1536, .f32⟩
  | .hbm, ⟨41, _⟩ => ⟨S16x2048, .f32⟩
  | .hbm, ⟨42, _⟩ => ⟨S16x2048, .f32⟩
  | .hbm, ⟨43, _⟩ => ⟨S_, .f32⟩
  | .hbm, ⟨44, _⟩ => ⟨S16x2048, .f32⟩
  | .hbm, ⟨45, _⟩ => ⟨S16x2048, .f32⟩
  | .hbm, ⟨46, _⟩ => ⟨S_, .f32⟩
  | .hbm, ⟨47, _⟩ => ⟨S16x2048, .f32⟩
  | .hbm, ⟨48, _⟩ => ⟨S16x2048, .f32⟩
  | .hbm, ⟨49, _⟩ => ⟨S16x2048, .f32⟩
  | .hbm, ⟨50, _⟩ => ⟨S1x2048x1536, .f32⟩
  | .hbm, ⟨51, _⟩ => ⟨S2048x1536, .f32⟩
  | .hbm, ⟨52, _⟩ => ⟨S16x1536, .f32⟩
  | .hbm, ⟨53, _⟩ => ⟨S1x16x1536, .f32⟩
  | .hbm, ⟨54, _⟩ => ⟨S1x16x1536, .f32⟩
  | .hbm, ⟨55, _⟩ => ⟨S1x16x1536, .f32⟩
  | .hbm, ⟨56, _⟩ => ⟨S1x16x1536, .f32⟩
  | .hbm, ⟨57, _⟩ => ⟨S4x16x1536, .f32⟩
  | .hbm, ⟨58, _⟩ => ⟨S1x16x1536, .f32⟩
  | .hbm, ⟨59, _⟩ => ⟨S16x1536, .f32⟩
  | .hbm, ⟨60, _⟩ => ⟨S1x16x1536, .f32⟩
  | .hbm, ⟨61, _⟩ => ⟨S16x1536, .f32⟩
  | .hbm, ⟨62, _⟩ => ⟨S1x16x1536, .f32⟩
  | .hbm, ⟨63, _⟩ => ⟨S16x1536, .f32⟩
  | .hbm, ⟨64, _⟩ => ⟨S1x16x1536, .f32⟩
  | .hbm, ⟨65, _⟩ => ⟨S16x1536, .f32⟩
  | .hbm, ⟨66, _⟩ => ⟨S1536x2048, .f32⟩
  | .hbm, ⟨67, _⟩ => ⟨S2048x1536, .f32⟩
  | .hbm, ⟨68, _⟩ => ⟨S1x2048x1536, .f32⟩
  | .hbm, ⟨69, _⟩ => ⟨S_, .f32⟩
  | .hbm, ⟨70, _⟩ => ⟨S4x2048x1536, .f32⟩
  | .hbm, ⟨71, _⟩ => ⟨S1536x2048, .f32⟩
  | .hbm, ⟨72, _⟩ => ⟨S2048x1536, .f32⟩
  | .hbm, ⟨73, _⟩ => ⟨S1x2048x1536, .f32⟩
  | .hbm, ⟨74, _⟩ => ⟨S_, .f32⟩
  | .hbm, ⟨75, _⟩ => ⟨S4x2048x1536, .f32⟩
  | .hbm, ⟨76, _⟩ => ⟨S4x2048x1536, .f32⟩
  | .hbm, ⟨77, _⟩ => ⟨S1536x2048, .f32⟩
  | .hbm, ⟨78, _⟩ => ⟨S2048x1536, .f32⟩
  | .hbm, ⟨79, _⟩ => ⟨S1x2048x1536, .f32⟩
  | .hbm, ⟨80, _⟩ => ⟨S_, .f32⟩
  | .hbm, ⟨81, _⟩ => ⟨S4x2048x1536, .f32⟩
  | .hbm, ⟨82, _⟩ => ⟨S4x2048x1536, .f32⟩
  | .hbm, ⟨83, _⟩ => ⟨S1536x2048, .f32⟩
  | .hbm, ⟨84, _⟩ => ⟨S2048x1536, .f32⟩
  | .hbm, ⟨85, _⟩ => ⟨S1x2048x1536, .f32⟩
  | .hbm, ⟨86, _⟩ => ⟨S_, .f32⟩
  | .hbm, ⟨87, _⟩ => ⟨S4x2048x1536, .f32⟩
  | .hbm, ⟨88, _⟩ => ⟨S4x2048x1536, .f32⟩
  | .hbm, ⟨89, _⟩ => ⟨S_, .f32⟩
  | .hbm, ⟨90, _⟩ => ⟨S4x2048x1536, .f32⟩
  | .hbm, ⟨91, _⟩ => ⟨S4x2048x1536, .f32⟩
  | .hbm, ⟨92, _⟩ => ⟨S_, .f32⟩
  | .hbm, ⟨93, _⟩ => ⟨S4x2048x1536, .f32⟩
  | .hbm, ⟨94, _⟩ => ⟨S4x2048x1536, .f32⟩
  | .hbm, ⟨95, _⟩ => ⟨S4x2048x1536, .f32⟩
  | .hbm, ⟨96, _⟩ => ⟨S_, .f32⟩
  | .hbm, ⟨97, _⟩ => ⟨S4x2048x1536, .f32⟩
  | .hbm, ⟨98, _⟩ => ⟨S4x2048x1536, .f32⟩
  | .hbm, ⟨99, _⟩ => ⟨S4x2048x1536, .f32⟩
  | .hbm, ⟨100, _⟩ => ⟨S_, .f32⟩
  | .hbm, ⟨101, _⟩ => ⟨S4x2048x1536, .f32⟩
  | .hbm, ⟨102, _⟩ => ⟨S4x2048x1536, .f32⟩
  | .hbm, ⟨103, _⟩ => ⟨S4x2048x1536, .f32⟩
  | .hbm, ⟨104, _⟩ => ⟨S_, .f32⟩
  | .hbm, ⟨105, _⟩ => ⟨S4x2048x1536, .f32⟩
  | .hbm, ⟨106, _⟩ => ⟨S4x2048x1536, .f32⟩
  | .hbm, ⟨107, _⟩ => ⟨S_, .f32⟩
  | .hbm, ⟨108, _⟩ => ⟨S4x2048x1536, .f32⟩
  | .hbm, ⟨109, _⟩ => ⟨S4x2048x1536, .f32⟩
  | .hbm, ⟨110, _⟩ => ⟨S4x2048x1536, .f32⟩
  | .hbm, ⟨111, _⟩ => ⟨S_, .f32⟩
  | .hbm, ⟨112, _⟩ => ⟨S4x2048x1536, .f32⟩
  | .hbm, ⟨113, _⟩ => ⟨S4x2048x1536, .f32⟩
  | .hbm, ⟨114, _⟩ => ⟨S4x2048x1536, .f32⟩
  | .hbm, ⟨115, _⟩ => ⟨S_, .f32⟩
  | .hbm, ⟨116, _⟩ => ⟨S4x2048x1536, .f32⟩
  | .hbm, ⟨117, _⟩ => ⟨S4x2048x1536, .f32⟩
  | .hbm, ⟨118, _⟩ => ⟨S4x2048x1536, .f32⟩
  | .hbm, ⟨119, _⟩ => ⟨S_, .f32⟩
  | .hbm, ⟨120, _⟩ => ⟨S4x2048x1536, .f32⟩
  | .hbm, ⟨121, _⟩ => ⟨S4x2048x1536, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call1_v0 : Ref sig .tc := ⟨.hbm, 17, rfl⟩
abbrev main_call1_v1 : Ref sig .tc := ⟨.hbm, 18, rfl⟩
abbrev main_call1_cst : Ref sig .tc := ⟨.hbm, 19, rfl⟩
abbrev main_call1_v2 : Ref sig .tc := ⟨.hbm, 20, rfl⟩
abbrev main_call1_v3 : Ref sig .tc := ⟨.hbm, 21, rfl⟩
abbrev main_call1_cst_0 : Ref sig .tc := ⟨.hbm, 22, rfl⟩
abbrev main_call1_v4 : Ref sig .tc := ⟨.hbm, 23, rfl⟩
abbrev main_call1_v5 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_call2_v0 : Ref sig .tc := ⟨.hbm, 29, rfl⟩
abbrev main_call2_v1 : Ref sig .tc := ⟨.hbm, 30, rfl⟩
abbrev main_call2_cst : Ref sig .tc := ⟨.hbm, 31, rfl⟩
abbrev main_call2_v2 : Ref sig .tc := ⟨.hbm, 32, rfl⟩
abbrev main_call2_v3 : Ref sig .tc := ⟨.hbm, 33, rfl⟩
abbrev main_call2_cst_0 : Ref sig .tc := ⟨.hbm, 34, rfl⟩
abbrev main_call2_v4 : Ref sig .tc := ⟨.hbm, 35, rfl⟩
abbrev main_call2_v5 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_call3_v0 : Ref sig .tc := ⟨.hbm, 41, rfl⟩
abbrev main_call3_v1 : Ref sig .tc := ⟨.hbm, 42, rfl⟩
abbrev main_call3_cst : Ref sig .tc := ⟨.hbm, 43, rfl⟩
abbrev main_call3_v2 : Ref sig .tc := ⟨.hbm, 44, rfl⟩
abbrev main_call3_v3 : Ref sig .tc := ⟨.hbm, 45, rfl⟩
abbrev main_call3_cst_0 : Ref sig .tc := ⟨.hbm, 46, rfl⟩
abbrev main_call3_v4 : Ref sig .tc := ⟨.hbm, 47, rfl⟩
abbrev main_call3_v5 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_cst : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_cst_0 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_cst_1 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_cst_2 : Ref sig .tc := ⟨.hbm, 86, rfl⟩
abbrev main_v46 : Ref sig .tc := ⟨.hbm, 87, rfl⟩
abbrev main_v47 : Ref sig .tc := ⟨.hbm, 88, rfl⟩
abbrev main_cst_3 : Ref sig .tc := ⟨.hbm, 89, rfl⟩
abbrev main_v48 : Ref sig .tc := ⟨.hbm, 90, rfl⟩
abbrev main_v49 : Ref sig .tc := ⟨.hbm, 91, rfl⟩
abbrev main_cst_4 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_cst_5 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_cst_6 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_cst_7 : Ref sig .tc := ⟨.hbm, 104, rfl⟩
abbrev main_v59 : Ref sig .tc := ⟨.hbm, 105, rfl⟩
abbrev main_v60 : Ref sig .tc := ⟨.hbm, 106, rfl⟩
abbrev main_cst_8 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_cst_9 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_cst_10 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_cst_11 : Ref sig .tc := ⟨.hbm, 119, rfl⟩
abbrev main_v70 : Ref sig .tc := ⟨.hbm, 120, rfl⟩
abbrev main_v71 : Ref sig .tc := ⟨.hbm, 121, rfl⟩

abbrev nD : Nat := 1
abbrev τ : Topo := Topo.v7x

variable {F : FTy → Type} [FloatOps F]
-- ==== Kernel22.lean ====
abbrev S4352x512 : Shape := ⟨2, ![4352, 512]⟩
abbrev S32x16x64 : Shape := ⟨3, ![32, 16, 64]⟩
abbrev S32x64x16 : Shape := ⟨3, ![32, 64, 16]⟩
abbrev S8x8 : Shape := ⟨2, ![8, 8]⟩
abbrev S_ : Shape := ⟨0, ![]⟩
abbrev S1x8x1x8x1 : Shape := ⟨5, ![1, 8, 1, 8, 1]⟩
abbrev S4x8x64x1x16 : Shape := ⟨5, ![4, 8, 64, 1, 16]⟩
abbrev S4x8x64x8x16 : Shape := ⟨5, ![4, 8, 64, 8, 16]⟩
abbrev S4x512x128 : Shape := ⟨3, ![4, 512, 128]⟩
abbrev S8x512x128 : Shape := ⟨3, ![8, 512, 128]⟩
abbrev S4352x4096 : Shape := ⟨2, ![4352, 4096]⟩
abbrev S256x512 : Shape := ⟨2, ![256, 512]⟩
abbrev S256x4096 : Shape := ⟨2, ![256, 4096]⟩
abbrev S256x128 : Shape := ⟨2, ![256, 128]⟩
abbrev S1x512x128 : Shape := ⟨3, ![1, 512, 128]⟩
abbrev S512x128 : Shape := ⟨2, ![512, 128]⟩

abbrev nBuf : Space → Nat
  | .hbm => 39
  | .vmem => 5
  | .smem => 0
  | _ => 0

abbrev bufTy : (tb : Table) → Fin (tcTables nBuf tb) → BufTy
  | .hbm, ⟨0, _⟩ => ⟨S4352x512, .f32⟩
  | .hbm, ⟨1, _⟩ => ⟨S32x16x64, .f32⟩
  | .hbm, ⟨2, _⟩ => ⟨S32x16x64, .f32⟩
  | .hbm, ⟨3, _⟩ => ⟨S4352x512, .bf16⟩
  | .hbm, ⟨4, _⟩ => ⟨S32x64x16, .f32⟩
  | .hbm, ⟨5, _⟩ => ⟨S8x8, .i32⟩
  | .hbm, ⟨6, _⟩ => ⟨S8x8, .i32⟩
  | .hbm, ⟨7, _⟩ => ⟨S_, .i32⟩
  | .hbm, ⟨8, _⟩ => ⟨S8x8, .i32⟩
  | .hbm, ⟨9, _⟩ => ⟨S8x8, .i32⟩
  | .hbm, ⟨10, _⟩ => ⟨S8x8, .i1⟩
  | .hbm, ⟨11, _⟩ => ⟨S1x8x1x8x1, .i1⟩
  | .hbm, ⟨12, _⟩ => ⟨S4x8x64x1x16, .f32⟩
  | .hbm, ⟨13, _⟩ => ⟨S_, .f32⟩
  | .hbm, ⟨14, _⟩ => ⟨S_, .f32⟩
  | .hbm, ⟨15, _⟩ => ⟨S4x8x64x8x16, .i1⟩
  | .hbm, ⟨16, _⟩ => ⟨S4x8x64x8x16, .f32⟩
  | .hbm, ⟨17, _⟩ => ⟨S4x8x64x8x16, .f32⟩
  | .hbm, ⟨18, _⟩ => ⟨S4x8x64x8x16, .f32⟩
  | .hbm, ⟨19, _⟩ => ⟨S4x512x128, .f32⟩
  | .hbm, ⟨20, _⟩ => ⟨S32x64x16, .f32⟩
  | .hbm, ⟨21, _⟩ => ⟨S8x8, .i32⟩
  | .hbm, ⟨22, _⟩ => ⟨S8x8, .i32⟩
  | .hbm, ⟨23, _⟩ => ⟨S_, .i32⟩
  | .hbm, ⟨24, _⟩ => ⟨S8x8, .i32⟩
  | .hbm, ⟨25, _⟩ => ⟨S8x8, .i32⟩
  | .hbm, ⟨26, _⟩ => ⟨S8x8, .i1⟩
  | .hbm, ⟨27, _⟩ => ⟨S1x8x1x8x1, .i1⟩
  | .hbm, ⟨28, _⟩ => ⟨S4x8x64x1x16, .f32⟩
  | .hbm, ⟨29, _⟩ => ⟨S_, .f32⟩
  | .hbm, ⟨30, _⟩ => ⟨S_, .f32⟩
  | .hbm, ⟨31, _⟩ => ⟨S4x8x64x8x16, .i1⟩
  | .hbm, ⟨32, _⟩ => ⟨S4x8x64x8x16, .f32⟩
  | .hbm, ⟨33, _⟩ => ⟨S4x8x64x8x16, .f32⟩
  | .hbm, ⟨34, _⟩ => ⟨S4x8x64x8x16, .f32⟩
  | .hbm, ⟨35, _⟩ => ⟨S4x512x128, .f32⟩
  | .hbm, ⟨36, _⟩ => ⟨S4x512x128, .f32⟩
  | .hbm, ⟨37, _⟩ => ⟨S8x512x128, .f32⟩
  | .hbm, ⟨38, _⟩ => ⟨S4352x4096, .f32⟩
  | .local _ .vmem, ⟨0, _⟩ => ⟨S256x512, .bf16⟩
  | .local _ .vmem, ⟨1, _⟩ => ⟨S256x512, .bf16⟩
  | .local _ .vmem, ⟨2, _⟩ => ⟨S8x512x128, .f32⟩
  | .local _ .vmem, ⟨3, _⟩ => ⟨S256x4096, .f32⟩
  | .local _ .vmem, ⟨4, _⟩ => ⟨S256x4096, .f32⟩
  | _, _ => ⟨S4352x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c16_i32 : BitVec 32 := 16#32
  let v0 : BitVec 32 := Scalar.addi arg0 c16_i32
  let c17_i32 : BitVec 32 := 17#32
  let c0_i32 : BitVec 32 := 0#32
  let v1 : BitVec 1 := Scalar.cmpi .eq c17_i32 c0_i32
  let c1_i32 : BitVec 32 := 1#32
  let v2 : BitVec 32 := Scalar.select v1 c1_i32 c17_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference22Ideal.lean ====
abbrev S4352x512 : Shape := ⟨2, ![4352, 512]⟩
abbrev S32x16x64 : Shape := ⟨3, ![32, 16, 64]⟩
abbrev S_ : Shape := ⟨0, ![]⟩
abbrev S4352x4096 : Shape := ⟨2, ![4352, 4096]⟩
abbrev S4352x2048 : Shape := ⟨2, ![4352, 2048]⟩
abbrev S4352x32x64 : Shape := ⟨3, ![4352, 32, 64]⟩
abbrev S32x16x4352 : Shape := ⟨3, ![32, 16, 4352]⟩
abbrev S4352x32x16 : Shape := ⟨3, ![4352, 32, 16]⟩
abbrev S4096x512 : Shape := ⟨2, ![4096, 512]⟩
abbrev S256x512 : Shape := ⟨2, ![256, 512]⟩
abbrev S32x4352x64 : Shape := ⟨3, ![32, 4352, 64]⟩

abbrev nBuf : Space → Nat
  | .hbm => 40
  | .vmem => 0
  | .smem => 0
  | _ => 0

abbrev bufTy : (tb : Table) → Fin (tcTables nBuf tb) → BufTy
  | .hbm, ⟨0, _⟩ => ⟨S4352x512, .f32⟩
  | .hbm, ⟨1, _⟩ => ⟨S32x16x64, .f32⟩
  | .hbm, ⟨2, _⟩ => ⟨S32x16x64, .f32⟩
  | .hbm, ⟨3, _⟩ => ⟨S_, .f32⟩
  | .hbm, ⟨4, _⟩ => ⟨S4352x4096, .f32⟩
  | .hbm, ⟨5, _⟩ => ⟨S4352x2048, .f32⟩
  | .hbm, ⟨6, _⟩ => ⟨S4352x2048, .f32⟩
  | .hbm, ⟨7, _⟩ => ⟨S4352x32x64, .f32⟩
  | .hbm, ⟨8, _⟩ => ⟨S4352x32x64, .f32⟩
  | .hbm, ⟨9, _⟩ => ⟨S32x16x4352, .f32⟩
  | .hbm, ⟨10, _⟩ => ⟨S4352x32x16, .f32⟩
  | .hbm, ⟨11, _⟩ => ⟨S32x16x4352, .f32⟩
  | .hbm, ⟨12, _⟩ => ⟨S4352x32x16, .f32⟩
  | .hbm, ⟨13, _⟩ => ⟨S4352x32x16, .f32⟩
  | .hbm, ⟨14, _⟩ => ⟨S4352x512, .f32⟩
  | .hbm, ⟨15, _⟩ => ⟨S4096x512, .f32⟩
  | .hbm, ⟨16, _⟩ => ⟨S256x512, .f32⟩
  | .hbm, ⟨17, _⟩ => ⟨S4352x512, .f32⟩
  | .hbm, ⟨18, _⟩ => ⟨S4096x512, .f32⟩
  | .hbm, ⟨19, _⟩ => ⟨S256x512, .f32⟩
  | .hbm, ⟨20, _⟩ => ⟨S_, .f32⟩
  | .hbm, ⟨21, _⟩ => ⟨S4352x512, .f32⟩
  | .hbm, ⟨22, _⟩ => ⟨S_, .f32⟩
  | .hbm, ⟨23, _⟩ => ⟨S4352x512, .f32⟩
  | .hbm, ⟨24, _⟩ => ⟨S4352x512, .f32⟩
  | .hbm, ⟨25, _⟩ => ⟨S4352x32x16, .f32⟩
  | .hbm, ⟨26, _⟩ => ⟨S4352x32x16, .f32⟩
  | .hbm, ⟨27, _⟩ => ⟨S32x16x4352, .f32⟩
  | .hbm, ⟨28, _⟩ => ⟨S32x4352x64, .f32⟩
  | .hbm, ⟨29, _⟩ => ⟨S4352x32x64, .f32⟩
  | .hbm, ⟨30, _⟩ => ⟨S32x16x4352, .f32⟩
  | .hbm, ⟨31, _⟩ => ⟨S32x4352x64, .f32⟩
  | .hbm, ⟨32, _⟩ => ⟨S4352x32x64, .f32⟩
  | .hbm, ⟨33, _⟩ => ⟨S4352x2048, .f32⟩
  | .hbm, ⟨34, _⟩ => ⟨S4352x2048, .f32⟩
  | .hbm, ⟨35, _⟩ => ⟨S_, .f32⟩
  | .hbm, ⟨36, _⟩ => ⟨S4352x4096, .f32⟩
  | .hbm, ⟨37, _⟩ => ⟨S_, .f32⟩
  | .hbm, ⟨38, _⟩ => ⟨S4352x4096, .f32⟩
  | .hbm, ⟨39, _⟩ => ⟨S4352x4096, .f32⟩
  | _, _ => ⟨S4352x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_2 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]
-- ==== Kernel23.lean ====
abbrev S4352x4096 : Shape := ⟨2, ![4352, 4096]⟩
abbrev S32x64x16 : Shape := ⟨3, ![32, 64, 16]⟩
abbrev S32x16x64 : Shape := ⟨3, ![32, 16, 64]⟩
abbrev S8x8 : Shape := ⟨2, ![8, 8]⟩
abbrev S_ : Shape := ⟨0, ![]⟩
abbrev S1x8x1x8x1 : Shape := ⟨5, ![1, 8, 1, 8, 1]⟩
abbrev S4x8x16x1x64 : Shape := ⟨5, ![4, 8, 16, 1, 64]⟩
abbrev S4x8x16x8x64 : Shape := ⟨5, ![4, 8, 16, 8, 64]⟩
abbrev S4x128x512 : Shape := ⟨3, ![4, 128, 512]⟩
abbrev S8x128x512 : Shape := ⟨3, ![8, 128, 512]⟩
abbrev S4352x512 : Shape := ⟨2, ![4352, 512]⟩
abbrev S256x4096 : Shape := ⟨2, ![256, 4096]⟩
abbrev S256x512 : Shape := ⟨2, ![256, 512]⟩
abbrev S1x128x512 : Shape := ⟨3, ![1, 128, 512]⟩
abbrev S128x512 : Shape := ⟨2, ![128, 512]⟩
abbrev S256x128 : Shape := ⟨2, ![256, 128]⟩

abbrev nBuf : Space → Nat
  | .hbm => 37
  | .vmem => 5
  | .smem => 0
  | _ => 0

abbrev bufTy : (tb : Table) → Fin (tcTables nBuf tb) → BufTy
  | .hbm, ⟨0, _⟩ => ⟨S4352x4096, .f32⟩
  | .hbm, ⟨1, _⟩ => ⟨S32x64x16, .f32⟩
  | .hbm, ⟨2, _⟩ => ⟨S32x64x16, .f32⟩
  | .hbm, ⟨3, _⟩ => ⟨S32x16x64, .f32⟩
  | .hbm, ⟨4, _⟩ => ⟨S8x8, .i32⟩
  | .hbm, ⟨5, _⟩ => ⟨S8x8, .i32⟩
  | .hbm, ⟨6, _⟩ => ⟨S_, .i32⟩
  | .hbm, ⟨7, _⟩ => ⟨S8x8, .i32⟩
  | .hbm, ⟨8, _⟩ => ⟨S8x8, .i32⟩
  | .hbm, ⟨9, _⟩ => ⟨S8x8, .i1⟩
  | .hbm, ⟨10, _⟩ => ⟨S1x8x1x8x1, .i1⟩
  | .hbm, ⟨11, _⟩ => ⟨S4x8x16x1x64, .f32⟩
  | .hbm, ⟨12, _⟩ => ⟨S_, .f32⟩
  | .hbm, ⟨13, _⟩ => ⟨S_, .f32⟩
  | .hbm, ⟨14, _⟩ => ⟨S4x8x16x8x64, .i1⟩
  | .hbm, ⟨15, _⟩ => ⟨S4x8x16x8x64, .f32⟩
  | .hbm, ⟨16, _⟩ => ⟨S4x8x16x8x64, .f32⟩
  | .hbm, ⟨17, _⟩ => ⟨S4x8x16x8x64, .f32⟩
  | .hbm, ⟨18, _⟩ => ⟨S4x128x512, .f32⟩
  | .hbm, ⟨19, _⟩ => ⟨S32x16x64, .f32⟩
  | .hbm, ⟨20, _⟩ => ⟨S8x8, .i32⟩
  | .hbm, ⟨21, _⟩ => ⟨S8x8, .i32⟩
  | .hbm, ⟨22, _⟩ => ⟨S_, .i32⟩
  | .hbm, ⟨23, _⟩ => ⟨S8x8, .i32⟩
  | .hbm, ⟨24, _⟩ => ⟨S8x8, .i32⟩
  | .hbm, ⟨25, _⟩ => ⟨S8x8, .i1⟩
  | .hbm, ⟨26, _⟩ => ⟨S1x8x1x8x1, .i1⟩
  | .hbm, ⟨27, _⟩ => ⟨S4x8x16x1x64, .f32⟩
  | .hbm, ⟨28, _⟩ => ⟨S_, .f32⟩
  | .hbm, ⟨29, _⟩ => ⟨S_, .f32⟩
  | .hbm, ⟨30, _⟩ => ⟨S4x8x16x8x64, .i1⟩
  | .hbm, ⟨31, _⟩ => ⟨S4x8x16x8x64, .f32⟩
  | .hbm, ⟨32, _⟩ => ⟨S4x8x16x8x64, .f32⟩
  | .hbm, ⟨33, _⟩ => ⟨S4x8x16x8x64, .f32⟩
  | .hbm, ⟨34, _⟩ => ⟨S4x128x512, .f32⟩
  | .hbm, ⟨35, _⟩ => ⟨S8x128x512, .f32⟩
  | .hbm, ⟨36, _⟩ => ⟨S4352x512, .f32⟩
  | .local _ .vmem, ⟨0, _⟩ => ⟨S256x4096, .f32⟩
  | .local _ .vmem, ⟨1, _⟩ => ⟨S256x4096, .f32⟩
  | .local _ .vmem, ⟨2, _⟩ => ⟨S8x128x512, .f32⟩
  | .local _ .vmem, ⟨3, _⟩ => ⟨S256x512, .f32⟩
  | .local _ .vmem, ⟨4, _⟩ => ⟨S256x512, .f32⟩
  | _, _ => ⟨S4352x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c16_i32 : BitVec 32 := 16#32
  let v0 : BitVec 32 := Scalar.addi arg0 c16_i32
  let c17_i32 : BitVec 32 := 17#32
  let c0_i32 : BitVec 32 := 0#32
  let v1 : BitVec 1 := Scalar.cmpi .eq c17_i32 c0_i32
  let c1_i32 : BitVec 32 := 1#32
  let v2 : BitVec 32 := Scalar.select v1 c1_i32 c17_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference23Ideal.lean ====
abbrev S4352x4096 : Shape := ⟨2, ![4352, 4096]⟩
abbrev S32x64x16 : Shape := ⟨3, ![32, 64, 16]⟩
abbrev S_ : Shape := ⟨0, ![]⟩
abbrev S4352x512 : Shape := ⟨2, ![4352, 512]⟩
abbrev S256x512 : Shape := ⟨2, ![256, 512]⟩
abbrev S4096x512 : Shape := ⟨2, ![4096, 512]⟩
abbrev S4352x32x16 : Shape := ⟨3, ![4352, 32, 16]⟩
abbrev S32x64x4352 : Shape := ⟨3, ![32, 64, 4352]⟩
abbrev S4352x32x64 : Shape := ⟨3, ![4352, 32, 64]⟩
abbrev S4352x2048 : Shape := ⟨2, ![4352, 2048]⟩
abbrev S32x4352x16 : Shape := ⟨3, ![32, 4352, 16]⟩

abbrev nBuf : Space → Nat
  | .hbm => 35
  | .vmem => 0
  | .smem => 0
  | _ => 0

abbrev bufTy : (tb : Table) → Fin (tcTables nBuf tb) → BufTy
  | .hbm, ⟨0, _⟩ => ⟨S4352x4096, .f32⟩
  | .hbm, ⟨1, _⟩ => ⟨S32x64x16, .f32⟩
  | .hbm, ⟨2, _⟩ => ⟨S32x64x16, .f32⟩
  | .hbm, ⟨3, _⟩ => ⟨S_, .f32⟩
  | .hbm, ⟨4, _⟩ => ⟨S4352x512, .f32⟩
  | .hbm, ⟨5, _⟩ => ⟨S256x512, .f32⟩
  | .hbm, ⟨6, _⟩ => ⟨S4096x512, .f32⟩
  | .hbm, ⟨7, _⟩ => ⟨S4352x512, .f32⟩
  | .hbm, ⟨8, _⟩ => ⟨S4352x32x16, .f32⟩
  | .hbm, ⟨9, _⟩ => ⟨S32x64x4352, .f32⟩
  | .hbm, ⟨10, _⟩ => ⟨S4352x32x64, .f32⟩
  | .hbm, ⟨11, _⟩ => ⟨S32x64x4352, .f32⟩
  | .hbm, ⟨12, _⟩ => ⟨S4352x32x64, .f32⟩
  | .hbm, ⟨13, _⟩ => ⟨S4352x2048, .f32⟩
  | .hbm, ⟨14, _⟩ => ⟨S4352x2048, .f32⟩
  | .hbm, ⟨15, _⟩ => ⟨S4352x4096, .f32⟩
  | .hbm, ⟨16, _⟩ => ⟨S4352x2048, .f32⟩
  | .hbm, ⟨17, _⟩ => ⟨S4352x2048, .f32⟩
  | .hbm, ⟨18, _⟩ => ⟨S4352x32x64, .f32⟩
  | .hbm, ⟨19, _⟩ => ⟨S4352x32x64, .f32⟩
  | .hbm, ⟨20, _⟩ => ⟨S32x64x4352, .f32⟩
  | .hbm, ⟨21, _⟩ => ⟨S32x4352x16, .f32⟩
  | .hbm, ⟨22, _⟩ => ⟨S4352x32x16, .f32⟩
  | .hbm, ⟨23, _⟩ => ⟨S32x64x4352, .f32⟩
  | .hbm, ⟨24, _⟩ => ⟨S32x4352x16, .f32⟩
  | .hbm, ⟨25, _⟩ => ⟨S4352x32x16, .f32⟩
  | .hbm, ⟨26, _⟩ => ⟨S4352x32x16, .f32⟩
  | .hbm, ⟨27, _⟩ => ⟨S4352x512, .f32⟩
  | .hbm, ⟨28, _⟩ => ⟨S256x512, .f32⟩
  | .hbm, ⟨29, _⟩ => ⟨S4096x512, .f32⟩
  | .hbm, ⟨30, _⟩ => ⟨S_, .f32⟩
  | .hbm, ⟨31, _⟩ => ⟨S4352x512, .f32⟩
  | .hbm, ⟨32, _⟩ => ⟨S_, .f32⟩
  | .hbm, ⟨33, _⟩ => ⟨S4352x512, .f32⟩
  | .hbm, ⟨34, _⟩ => ⟨S4352x512, .f32⟩
  | _, _ => ⟨S4352x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst_0 : Ref sig .tc := ⟨.hbm, 30, rfl⟩
abbrev main_v26 : Ref sig .tc := ⟨.hbm, 31, rfl⟩
abbrev main_cst_1 : Ref sig .tc := ⟨.hbm, 32, rfl⟩
abbrev main_v27 : Ref sig .tc := ⟨.hbm, 33, rfl⟩
abbrev main_v28 : Ref sig .tc := ⟨.hbm, 34, rfl⟩

abbrev nD : Nat := 1
abbrev τ : Topo := Topo.v7x

variable {F : FTy → Type} [FloatOps F]
-- ==== Kernel24.lean ====
abbrev S4352x14336 : Shape := ⟨2, ![4352, 14336]⟩
abbrev S4352x4096 : Shape := ⟨2, ![4352, 4096]⟩
abbrev S8x128x512 : Shape := ⟨3, ![8, 128, 512]⟩
abbrev S256x512 : Shape := ⟨2, ![256, 512]⟩
abbrev S256x4096 : Shape := ⟨2, ![256, 4096]⟩
abbrev S256x128 : Shape := ⟨2, ![256, 128]⟩
abbrev S1x128x512 : Shape := ⟨3, ![1, 128, 512]⟩
abbrev S128x512 : Shape := ⟨2, ![128, 512]⟩

abbrev nBuf : Space → Nat
  | .hbm => 4
  | .vmem => 5
  | .smem => 0
  | _ => 0

abbrev bufTy : (tb : Table) → Fin (tcTables nBuf tb) → BufTy
  | .hbm, ⟨0, _⟩ => ⟨S4352x14336, .f32⟩
  | .hbm, ⟨1, _⟩ => ⟨S4352x4096, .f32⟩
  | .hbm, ⟨2, _⟩ => ⟨S4352x14336, .bf16⟩
  | .hbm, ⟨3, _⟩ => ⟨S8x128x512, .f32⟩
  | .local _ .vmem, ⟨0, _⟩ => ⟨S256x512, .bf16⟩
  | .local _ .vmem, ⟨1, _⟩ => ⟨S256x512, .bf16⟩
  | .local _ .vmem, ⟨2, _⟩ => ⟨S256x4096, .f32⟩
  | .local _ .vmem, ⟨3, _⟩ => ⟨S256x4096, .f32⟩
  | .local _ .vmem, ⟨4, _⟩ => ⟨S8x128x512, .f32⟩
  | _, _ => ⟨S4352x14336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c16_i32 : BitVec 32 := 16#32
  let v0 : BitVec 32 := Scalar.addi arg0 c16_i32
  let c17_i32 : BitVec 32 := 17#32
  let c0_i32 : BitVec 32 := 0#32
  let v1 : BitVec 1 := Scalar.cmpi .eq c17_i32 c0_i32
  let c1_i32 : BitVec 32 := 1#32
  let v2 : BitVec 32 := Scalar.select v1 c1_i32 c17_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c10_i32 : BitVec 32 := 10#32
  let c0_i32_3 : BitVec 32 := 0#32
  ![v10.toNat, c10_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference24Ideal.lean ====
abbrev S4352x14336 : Shape := ⟨2, ![4352, 14336]⟩
abbrev S4352x4096 : Shape := ⟨2, ![4352, 4096]⟩
abbrev S4352x512 : Shape := ⟨2, ![4352, 512]⟩
abbrev S_ : Shape := ⟨0, ![]⟩
abbrev S8x128x512 : Shape := ⟨3, ![8, 128, 512]⟩
abbrev S256x512 : Shape := ⟨2, ![256, 512]⟩
abbrev S4096x512 : Shape := ⟨2, ![4096, 512]⟩
abbrev S4352x4x128 : Shape := ⟨3, ![4352, 4, 128]⟩
abbrev S2x4x128x512 : Shape := ⟨4, ![2, 4, 128, 512]⟩
abbrev S4x2x512x4352 : Shape := ⟨4, ![4, 2, 512, 4352]⟩
abbrev S4352x2x4x512 : Shape := ⟨4, ![4352, 2, 4, 512]⟩
abbrev S4x2x512x128 : Shape := ⟨4, ![4, 2, 512, 128]⟩

abbrev nBuf : Space → Nat
  | .hbm => 18
  | .vmem => 0
  | .smem => 0
  | _ => 0

abbrev bufTy : (tb : Table) → Fin (tcTables nBuf tb) → BufTy
  | .hbm, ⟨0, _⟩ => ⟨S4352x14336, .f32⟩
  | .hbm, ⟨1, _⟩ => ⟨S4352x4096, .f32⟩
  | .hbm, ⟨2, _⟩ => ⟨S4352x512, .f32⟩
  | .hbm, ⟨3, _⟩ => ⟨S_, .f32⟩
  | .hbm, ⟨4, _⟩ => ⟨S8x128x512, .f32⟩
  | .hbm, ⟨5, _⟩ => ⟨S256x512, .f32⟩
  | .hbm, ⟨6, _⟩ => ⟨S4096x512, .f32⟩
  | .hbm, ⟨7, _⟩ => ⟨S4352x512, .f32⟩
  | .hbm, ⟨8, _⟩ => ⟨S4352x4x128, .f32⟩
  | .hbm, ⟨9, _⟩ => ⟨S2x4x128x512, .f32⟩
  | .hbm, ⟨10, _⟩ => ⟨S4x2x512x4352, .f32⟩
  | .hbm, ⟨11, _⟩ => ⟨S4352x2x4x512, .f32⟩
  | .hbm, ⟨12, _⟩ => ⟨S4352x4096, .f32⟩
  | .hbm, ⟨13, _⟩ => ⟨S4352x2x4x512, .f32⟩
  | .hbm, ⟨14, _⟩ => ⟨S4x2x512x4352, .f32⟩
  | .hbm, ⟨15, _⟩ => ⟨S4x2x512x128, .f32⟩
  | .hbm, ⟨16, _⟩ => ⟨S2x4x128x512, .f32⟩
  | .hbm, ⟨17, _⟩ => ⟨S8x128x512, .f32⟩
  | _, _ => ⟨S4352x14336, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Kernel25.lean ====
abbrev S4352x14336 : Shape := ⟨2, ![4352, 14336]⟩
abbrev S32x64x16 : Shape := ⟨3, ![32, 64, 16]⟩
abbrev S32x16x64 : Shape := ⟨3, ![32, 16, 64]⟩
abbrev S8x8 : Shape := ⟨2, ![8, 8]⟩
abbrev S_ : Shape := ⟨0, ![]⟩
abbrev S1x8x1x8x1 : Shape := ⟨5, ![1, 8, 1, 8, 1]⟩
abbrev S4x8x16x1x64 : Shape := ⟨5, ![4, 8, 16, 1, 64]⟩
abbrev S4x8x16x8x64 : Shape := ⟨5, ![4, 8, 16, 8, 64]⟩
abbrev S4x128x512 : Shape := ⟨3, ![4, 128, 512]⟩
abbrev S8x128x512 : Shape := ⟨3, ![8, 128, 512]⟩
abbrev S4352x4096 : Shape := ⟨2, ![4352, 4096]⟩
abbrev S256x512 : Shape := ⟨2, ![256, 512]⟩
abbrev S256x4096 : Shape := ⟨2, ![256, 4096]⟩
abbrev S256x128 : Shape := ⟨2, ![256, 128]⟩
abbrev S1x128x512 : Shape := ⟨3, ![1, 128, 512]⟩
abbrev S128x512 : Shape := ⟨2, ![128, 512]⟩

abbrev nBuf : Space → Nat
  | .hbm => 38
  | .vmem => 5
  | .smem => 0
  | _ => 0

abbrev bufTy : (tb : Table) → Fin (tcTables nBuf tb) → BufTy
  | .hbm, ⟨0, _⟩ => ⟨S4352x14336, .f32⟩
  | .hbm, ⟨1, _⟩ => ⟨S32x64x16, .f32⟩
  | .hbm, ⟨2, _⟩ => ⟨S32x64x16, .f32⟩
  | .hbm, ⟨3, _⟩ => ⟨S4352x14336, .bf16⟩
  | .hbm, ⟨4, _⟩ => ⟨S32x16x64, .f32⟩
  | .hbm, ⟨5, _⟩ => ⟨S8x8, .i32⟩
  | .hbm, ⟨6, _⟩ => ⟨S8x8, .i32⟩
  | .hbm, ⟨7, _⟩ => ⟨S_, .i32⟩
  | .hbm, ⟨8, _⟩ => ⟨S8x8, .i32⟩
  | .hbm, ⟨9, _⟩ => ⟨S8x8, .i32⟩
  | .hbm, ⟨10, _⟩ => ⟨S8x8, .i1⟩
  | .hbm, ⟨11, _⟩ => ⟨S1x8x1x8x1, .i1⟩
  | .hbm, ⟨12, _⟩ => ⟨S4x8x16x1x64, .f32⟩
  | .hbm, ⟨13, _⟩ => ⟨S_, .f32⟩
  | .hbm, ⟨14, _⟩ => ⟨S_, .f32⟩
  | .hbm, ⟨15, _⟩ => ⟨S4x8x16x8x64, .i1⟩
  | .hbm, ⟨16, _⟩ => ⟨S4x8x16x8x64, .f32⟩
  | .hbm, ⟨17, _⟩ => ⟨S4x8x16x8x64, .f32⟩
  | .hbm, ⟨18, _⟩ => ⟨S4x8x16x8x64, .f32⟩
  | .hbm, ⟨19, _⟩ => ⟨S4x128x512, .f32⟩
  | .hbm, ⟨20, _⟩ => ⟨S32x16x64, .f32⟩
  | .hbm, ⟨21, _⟩ => ⟨S8x8, .i32⟩
  | .hbm, ⟨22, _⟩ => ⟨S8x8, .i32⟩
  | .hbm, ⟨23, _⟩ => ⟨S_, .i32⟩
  | .hbm, ⟨24, _⟩ => ⟨S8x8, .i32⟩
  | .hbm, ⟨25, _⟩ => ⟨S8x8, .i32⟩
  | .hbm, ⟨26, _⟩ => ⟨S8x8, .i1⟩
  | .hbm, ⟨27, _⟩ => ⟨S1x8x1x8x1, .i1⟩
  | .hbm, ⟨28, _⟩ => ⟨S4x8x16x1x64, .f32⟩
  | .hbm, ⟨29, _⟩ => ⟨S_, .f32⟩
  | .hbm, ⟨30, _⟩ => ⟨S_, .f32⟩
  | .hbm, ⟨31, _⟩ => ⟨S4x8x16x8x64, .i1⟩
  | .hbm, ⟨32, _⟩ => ⟨S4x8x16x8x64, .f32⟩
  | .hbm, ⟨33, _⟩ => ⟨S4x8x16x8x64, .f32⟩
  | .hbm, ⟨34, _⟩ => ⟨S4x8x16x8x64, .f32⟩
  | .hbm, ⟨35, _⟩ => ⟨S4x128x512, .f32⟩
  | .hbm, ⟨36, _⟩ => ⟨S8x128x512, .f32⟩
  | .hbm, ⟨37, _⟩ => ⟨S4352x4096, .f32⟩
  | .local _ .vmem, ⟨0, _⟩ => ⟨S256x512, .bf16⟩
  | .local _ .vmem, ⟨1, _⟩ => ⟨S256x512, .bf16⟩
  | .local _ .vmem, ⟨2, _⟩ => ⟨S8x128x512, .f32⟩
  | .local _ .vmem, ⟨3, _⟩ => ⟨S256x4096, .f32⟩
  | .local _ .vmem, ⟨4, _⟩ => ⟨S256x4096, .f32⟩
  | _, _ => ⟨S4352x14336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c16_i32 : BitVec 32 := 16#32
  let v0 : BitVec 32 := Scalar.addi arg0 c16_i32
  let c17_i32 : BitVec 32 := 17#32
  let c0_i32 : BitVec 32 := 0#32
  let v1 : BitVec 1 := Scalar.cmpi .eq c17_i32 c0_i32
  let c1_i32 : BitVec 32 := 1#32
  let v2 : BitVec 32 := Scalar.select v1 c1_i32 c17_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c10_i32 : BitVec 32 := 10#32
  let c0_i32_3 : BitVec 32 := 0#32
  ![v10.toNat, c10_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference25Ideal.lean ====
abbrev S4352x14336 : Shape := ⟨2, ![4352, 14336]⟩
abbrev S32x64x16 : Shape := ⟨3, ![32, 64, 16]⟩
abbrev S4352x512 : Shape := ⟨2, ![4352, 512]⟩
abbrev S256x512 : Shape := ⟨2, ![256, 512]⟩
abbrev S4096x512 : Shape := ⟨2, ![4096, 512]⟩
abbrev S4352x32x16 : Shape := ⟨3, ![4352, 32, 16]⟩
abbrev S32x64x4352 : Shape := ⟨3, ![32, 64, 4352]⟩
abbrev S4352x32x64 : Shape := ⟨3, ![4352, 32, 64]⟩
abbrev S4352x2048 : Shape := ⟨2, ![4352, 2048]⟩
abbrev S4352x4096 : Shape := ⟨2, ![4352, 4096]⟩

abbrev nBuf : Space → Nat
  | .hbm => 15
  | .vmem => 0
  | .smem => 0
  | _ => 0

abbrev bufTy : (tb : Table) → Fin (tcTables nBuf tb) → BufTy
  | .hbm, ⟨0, _⟩ => ⟨S4352x14336, .f32⟩
  | .hbm, ⟨1, _⟩ => ⟨S32x64x16, .f32⟩
  | .hbm, ⟨2, _⟩ => ⟨S32x64x16, .f32⟩
  | .hbm, ⟨3, _⟩ => ⟨S4352x512, .f32⟩
  | .hbm, ⟨4, _⟩ => ⟨S256x512, .f32⟩
  | .hbm, ⟨5, _⟩ => ⟨S4096x512, .f32⟩
  | .hbm, ⟨6, _⟩ => ⟨S4352x512, .f32⟩
  | .hbm, ⟨7, _⟩ => ⟨S4352x32x16, .f32⟩
  | .hbm, ⟨8, _⟩ => ⟨S32x64x4352, .f32⟩
  | .hbm, ⟨9, _⟩ => ⟨S4352x32x64, .f32⟩
  | .hbm, ⟨10, _⟩ => ⟨S32x64x4352, .f32⟩
  | .hbm, ⟨11, _⟩ => ⟨S4352x32x64, .f32⟩
  | .hbm, ⟨12, _⟩ => ⟨S4352x2048, .f32⟩
  | .hbm, ⟨13, _⟩ => ⟨S4352x2048, .f32⟩
  | .hbm, ⟨14, _⟩ => ⟨S4352x4096, .f32⟩
  | _, _ => ⟨S4352x14336, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel26.lean ====
abbrev S4352x4096 : Shape := ⟨2, ![4352, 4096]⟩
abbrev S4352x512 : Shape := ⟨2, ![4352, 512]⟩
abbrev S8x512x128 : Shape := ⟨3, ![8, 512, 128]⟩
abbrev S256x512 : Shape := ⟨2, ![256, 512]⟩
abbrev S256x4096 : Shape := ⟨2, ![256, 4096]⟩
abbrev S256x128 : Shape := ⟨2, ![256, 128]⟩
abbrev S1x512x128 : Shape := ⟨3, ![1, 512, 128]⟩
abbrev S512x128 : Shape := ⟨2, ![512, 128]⟩

abbrev nBuf : Space → Nat
  | .hbm => 4
  | .vmem => 5
  | .smem => 0
  | _ => 0

abbrev bufTy : (tb : Table) → Fin (tcTables nBuf tb) → BufTy
  | .hbm, ⟨0, _⟩ => ⟨S4352x4096, .f32⟩
  | .hbm, ⟨1, _⟩ => ⟨S4352x512, .f32⟩
  | .hbm, ⟨2, _⟩ => ⟨S4352x512, .bf16⟩
  | .hbm, ⟨3, _⟩ => ⟨S8x512x128, .f32⟩
  | .local _ .vmem, ⟨0, _⟩ => ⟨S256x512, .bf16⟩
  | .local _ .vmem, ⟨1, _⟩ => ⟨S256x512, .bf16⟩
  | .local _ .vmem, ⟨2, _⟩ => ⟨S256x4096, .f32⟩
  | .local _ .vmem, ⟨3, _⟩ => ⟨S256x4096, .f32⟩
  | .local _ .vmem, ⟨4, _⟩ => ⟨S8x512x128, .f32⟩
  | _, _ => ⟨S4352x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c16_i32 : BitVec 32 := 16#32
  let v0 : BitVec 32 := Scalar.addi arg0 c16_i32
  let c17_i32 : BitVec 32 := 17#32
  let c0_i32 : BitVec 32 := 0#32
  let v1 : BitVec 1 := Scalar.cmpi .eq c17_i32 c0_i32
  let c1_i32 : BitVec 32 := 1#32
  let v2 : BitVec 32 := Scalar.select v1 c1_i32 c17_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference26Ideal.lean ====
abbrev S4352x4096 : Shape := ⟨2, ![4352, 4096]⟩
abbrev S4352x512 : Shape := ⟨2, ![4352, 512]⟩
abbrev S_ : Shape := ⟨0, ![]⟩
abbrev S8x512x128 : Shape := ⟨3, ![8, 512, 128]⟩
abbrev S4352x2x4x512 : Shape := ⟨4, ![4352, 2, 4, 512]⟩
abbrev S2x4x512x128 : Shape := ⟨4, ![2, 4, 512, 128]⟩
abbrev S4x128x4352 : Shape := ⟨3, ![4, 128, 4352]⟩
abbrev S4352x4x128 : Shape := ⟨3, ![4352, 4, 128]⟩
abbrev S4096x512 : Shape := ⟨2, ![4096, 512]⟩
abbrev S256x512 : Shape := ⟨2, ![256, 512]⟩
abbrev S4x128x2x512 : Shape := ⟨4, ![4, 128, 2, 512]⟩

abbrev nBuf : Space → Nat
  | .hbm => 24
  | .vmem => 0
  | .smem => 0
  | _ => 0

abbrev bufTy : (tb : Table) → Fin (tcTables nBuf tb) → BufTy
  | .hbm, ⟨0, _⟩ => ⟨S4352x4096, .f32⟩
  | .hbm, ⟨1, _⟩ => ⟨S4352x512, .f32⟩
  | .hbm, ⟨2, _⟩ => ⟨S_, .f32⟩
  | .hbm, ⟨3, _⟩ => ⟨S8x512x128, .f32⟩
  | .hbm, ⟨4, _⟩ => ⟨S4352x2x4x512, .f32⟩
  | .hbm, ⟨5, _⟩ => ⟨S2x4x512x128, .f32⟩
  | .hbm, ⟨6, _⟩ => ⟨S4x128x4352, .f32⟩
  | .hbm, ⟨7, _⟩ => ⟨S4352x4x128, .f32⟩
  | .hbm, ⟨8, _⟩ => ⟨S4352x512, .f32⟩
  | .hbm, ⟨9, _⟩ => ⟨S4096x512, .f32⟩
  | .hbm, ⟨10, _⟩ => ⟨S256x512, .f32⟩
  | .hbm, ⟨11, _⟩ => ⟨S4352x512, .f32⟩
  | .hbm, ⟨12, _⟩ => ⟨S4096x512, .f32⟩
  | .hbm, ⟨13, _⟩ => ⟨S256x512, .f32⟩
  | .hbm, ⟨14, _⟩ => ⟨S_, .f32⟩
  | .hbm, ⟨15, _⟩ => ⟨S4352x512, .f32⟩
  | .hbm, ⟨16, _⟩ => ⟨S_, .f32⟩
  | .hbm, ⟨17, _⟩ => ⟨S4352x512, .f32⟩
  | .hbm, ⟨18, _⟩ => ⟨S4352x512, .f32⟩
  | .hbm, ⟨19, _⟩ => ⟨S4352x4x128, .f32⟩
  | .hbm, ⟨20, _⟩ => ⟨S4x128x4352, .f32⟩
  | .hbm, ⟨21, _⟩ => ⟨S4x128x2x512, .f32⟩
  | .hbm, ⟨22, _⟩ => ⟨S2x4x512x128, .f32⟩
  | .hbm, ⟨23, _⟩ => ⟨S8x512x128, .f32⟩
  | _, _ => ⟨S4352x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩

abbrev nD : Nat := 1
abbrev τ : Topo := Topo.v7x

variable {F : FTy → Type} [FloatOps F]
-- ==== Kernel27.lean ====
abbrev S4352x4096 : Shape := ⟨2, ![4352, 4096]⟩
abbrev S32x16x64 : Shape := ⟨3, ![32, 16, 64]⟩
abbrev S32x64x16 : Shape := ⟨3, ![32, 64, 16]⟩
abbrev S8x8 : Shape := ⟨2, ![8, 8]⟩
abbrev S_ : Shape := ⟨0, ![]⟩
abbrev S1x8x1x8x1 : Shape := ⟨5, ![1, 8, 1, 8, 1]⟩
abbrev S4x8x64x1x16 : Shape := ⟨5, ![4, 8, 64, 1, 16]⟩
abbrev S4x8x64x8x16 : Shape := ⟨5, ![4, 8, 64, 8, 16]⟩
abbrev S4x512x128 : Shape := ⟨3, ![4, 512, 128]⟩
abbrev S8x512x128 : Shape := ⟨3, ![8, 512, 128]⟩
abbrev S4352x512 : Shape := ⟨2, ![4352, 512]⟩
abbrev S256x4096 : Shape := ⟨2, ![256, 4096]⟩
abbrev S256x512 : Shape := ⟨2, ![256, 512]⟩
abbrev S1x512x128 : Shape := ⟨3, ![1, 512, 128]⟩
abbrev S512x128 : Shape := ⟨2, ![512, 128]⟩
abbrev S256x128 : Shape := ⟨2, ![256, 128]⟩

abbrev nBuf : Space → Nat
  | .hbm => 38
  | .vmem => 5
  | .smem => 0
  | _ => 0

abbrev bufTy : (tb : Table) → Fin (tcTables nBuf tb) → BufTy
  | .hbm, ⟨0, _⟩ => ⟨S4352x4096, .f32⟩
  | .hbm, ⟨1, _⟩ => ⟨S32x16x64, .f32⟩
  | .hbm, ⟨2, _⟩ => ⟨S32x16x64, .f32⟩
  | .hbm, ⟨3, _⟩ => ⟨S32x64x16, .f32⟩
  | .hbm, ⟨4, _⟩ => ⟨S8x8, .i32⟩
  | .hbm, ⟨5, _⟩ => ⟨S8x8, .i32⟩
  | .hbm, ⟨6, _⟩ => ⟨S_, .i32⟩
  | .hbm, ⟨7, _⟩ => ⟨S8x8, .i32⟩
  | .hbm, ⟨8, _⟩ => ⟨S8x8, .i32⟩
  | .hbm, ⟨9, _⟩ => ⟨S8x8, .i1⟩
  | .hbm, ⟨10, _⟩ => ⟨S1x8x1x8x1, .i1⟩
  | .hbm, ⟨11, _⟩ => ⟨S4x8x64x1x16, .f32⟩
  | .hbm, ⟨12, _⟩ => ⟨S_, .f32⟩
  | .hbm, ⟨13, _⟩ => ⟨S_, .f32⟩
  | .hbm, ⟨14, _⟩ => ⟨S4x8x64x8x16, .i1⟩
  | .hbm, ⟨15, _⟩ => ⟨S4x8x64x8x16, .f32⟩
  | .hbm, ⟨16, _⟩ => ⟨S4x8x64x8x16, .f32⟩
  | .hbm, ⟨17, _⟩ => ⟨S4x8x64x8x16, .f32⟩
  | .hbm, ⟨18, _⟩ => ⟨S4x512x128, .f32⟩
  | .hbm, ⟨19, _⟩ => ⟨S32x64x16, .f32⟩
  | .hbm, ⟨20, _⟩ => ⟨S8x8, .i32⟩
  | .hbm, ⟨21, _⟩ => ⟨S8x8, .i32⟩
  | .hbm, ⟨22, _⟩ => ⟨S_, .i32⟩
  | .hbm, ⟨23, _⟩ => ⟨S8x8, .i32⟩
  | .hbm, ⟨24, _⟩ => ⟨S8x8, .i32⟩
  | .hbm, ⟨25, _⟩ => ⟨S8x8, .i1⟩
  | .hbm, ⟨26, _⟩ => ⟨S1x8x1x8x1, .i1⟩
  | .hbm, ⟨27, _⟩ => ⟨S4x8x64x1x16, .f32⟩
  | .hbm, ⟨28, _⟩ => ⟨S_, .f32⟩
  | .hbm, ⟨29, _⟩ => ⟨S_, .f32⟩
  | .hbm, ⟨30, _⟩ => ⟨S4x8x64x8x16, .i1⟩
  | .hbm, ⟨31, _⟩ => ⟨S4x8x64x8x16, .f32⟩
  | .hbm, ⟨32, _⟩ => ⟨S4x8x64x8x16, .f32⟩
  | .hbm, ⟨33, _⟩ => ⟨S4x8x64x8x16, .f32⟩
  | .hbm, ⟨34, _⟩ => ⟨S4x512x128, .f32⟩
  | .hbm, ⟨35, _⟩ => ⟨S4x512x128, .f32⟩
  | .hbm, ⟨36, _⟩ => ⟨S8x512x128, .f32⟩
  | .hbm, ⟨37, _⟩ => ⟨S4352x512, .f32⟩
  | .local _ .vmem, ⟨0, _⟩ => ⟨S256x4096, .f32⟩
  | .local _ .vmem, ⟨1, _⟩ => ⟨S256x4096, .f32⟩
  | .local _ .vmem, ⟨2, _⟩ => ⟨S8x512x128, .f32⟩
  | .local _ .vmem, ⟨3, _⟩ => ⟨S256x512, .f32⟩
  | .local _ .vmem, ⟨4, _⟩ => ⟨S256x512, .f32⟩
  | _, _ => ⟨S4352x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c16_i32 : BitVec 32 := 16#32
  let v0 : BitVec 32 := Scalar.addi arg0 c16_i32
  let c17_i32 : BitVec 32 := 17#32
  let c0_i32 : BitVec 32 := 0#32
  let v1 : BitVec 1 := Scalar.cmpi .eq c17_i32 c0_i32
  let c1_i32 : BitVec 32 := 1#32
  let v2 : BitVec 32 := Scalar.select v1 c1_i32 c17_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference27Ideal.lean ====
abbrev S4352x4096 : Shape := ⟨2, ![4352, 4096]⟩
abbrev S32x16x64 : Shape := ⟨3, ![32, 16, 64]⟩
abbrev S4352x2048 : Shape := ⟨2, ![4352, 2048]⟩
abbrev S4352x32x64 : Shape := ⟨3, ![4352, 32, 64]⟩
abbrev S32x16x4352 : Shape := ⟨3, ![32, 16, 4352]⟩
abbrev S4352x32x16 : Shape := ⟨3, ![4352, 32, 16]⟩
abbrev S4352x512 : Shape := ⟨2, ![4352, 512]⟩
abbrev S4096x512 : Shape := ⟨2, ![4096, 512]⟩
abbrev S256x512 : Shape := ⟨2, ![256, 512]⟩

abbrev nBuf : Space → Nat
  | .hbm => 17
  | .vmem => 0
  | .smem => 0
  | _ => 0

abbrev bufTy : (tb : Table) → Fin (tcTables nBuf tb) → BufTy
  | .hbm, ⟨0, _⟩ => ⟨S4352x4096, .f32⟩
  | .hbm, ⟨1, _⟩ => ⟨S32x16x64, .f32⟩
  | .hbm, ⟨2, _⟩ => ⟨S32x16x64, .f32⟩
  | .hbm, ⟨3, _⟩ => ⟨S4352x2048, .f32⟩
  | .hbm, ⟨4, _⟩ => ⟨S4352x2048, .f32⟩
  | .hbm, ⟨5, _⟩ => ⟨S4352x32x64, .f32⟩
  | .hbm, ⟨6, _⟩ => ⟨S4352x32x64, .f32⟩
  | .hbm, ⟨7, _⟩ => ⟨S32x16x4352, .f32⟩
  | .hbm, ⟨8, _⟩ => ⟨S4352x32x16, .f32⟩
  | .hbm, ⟨9, _⟩ => ⟨S32x16x64, .f32⟩
  | .hbm, ⟨10, _⟩ => ⟨S32x16x4352, .f32⟩
  | .hbm, ⟨11, _⟩ => ⟨S4352x32x16, .f32⟩
  | .hbm, ⟨12, _⟩ => ⟨S4352x32x16, .f32⟩
  | .hbm, ⟨13, _⟩ => ⟨S4352x512, .f32⟩
  | .hbm, ⟨14, _⟩ => ⟨S4096x512, .f32⟩
  | .hbm, ⟨15, _⟩ => ⟨S256x512, .f32⟩
  | .hbm, ⟨16, _⟩ => ⟨S4352x512, .f32⟩
  | _, _ => ⟨S4352x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Proof.Scan.Rows.lean ====
/- The two halves of a row of 4096 numbers (the real and the imaginary parts of 2048 complex numbers), and the two
   recurrences of the scan and of its gradient on such pairs, over any arithmetic. -/
module

public import proofs.«01_k».proof.Proof.Gen.KernelIdeal.Skeleton
public import Idealize.ShloMosaic.Lib.ValueIdx

@[expose] public section

noncomputable section

namespace Cert.KernelIdeal.Scan

open Cert.KernelIdeal Cert.KernelIdeal.Gen
open Idealize.ShloMosaic Idealize.ShloMosaic.ValueIdx

variable {F : FTy → Type} [FloatOps F]

/-- A row of complex numbers: its real parts and its imaginary parts. -/
abbrev Pair (F : FTy → Type) [FloatOps F] : Type := Vec F S1x2048 .f32 × Vec F S1x2048 .f32

/-- The real parts in row `r` (the left half). -/
def lo {n : ℕ} (x : Vec F ⟨2, ![n, 4096]⟩ .f32) (r : Fin n) : Vec F S1x2048 .f32 :=
  fun y => x (ix2 r ⟨(y 1).val, lt_trans (y 1).isLt (by decide)⟩)

/-- The imaginary parts in row `r` (the right half). -/
def hi {n : ℕ} (x : Vec F ⟨2, ![n, 4096]⟩ .f32) (r : Fin n) : Vec F S1x2048 .f32 :=
  fun y => x (ix2 r ⟨2048 + (y 1).val, by have : (y 1).val < 2048 := (y 1).isLt; omega⟩)

/-- Row `r` as a pair; rows past the end start again from the first, so that the rows are a sequence. -/
def rows {n : ℕ} (hn : 0 < n) (x : Vec F ⟨2, ![n, 4096]⟩ .f32) (r : ℕ) : Pair F :=
  (lo x ⟨r % n, Nat.mod_lt _ hn⟩, hi x ⟨r % n, Nat.mod_lt _ hn⟩)

/-- The array whose row `r` is the pair `p r`. -/
def join {n : ℕ} (p : ℕ → Pair F) : Vec F ⟨2, ![n, 4096]⟩ .f32 := fun y =>
  if h : (y 1).val < 2048 then (p (y 0).val).1 (ix2 (0 : Fin 1) (⟨(y 1).val, h⟩ : Fin 2048))
  else (p (y 0).val).2 (ix2 (0 : Fin 1) (⟨(y 1).val - 2048, by have : (y 1).val < 4096 := (y 1).isLt; omega⟩ : Fin 2048))

theorem join_lo {n : ℕ} (p : ℕ → Pair F) (y : (⟨2, ![n, 4096]⟩ : Shape).Idx) (k : ℕ) (x : S1x2048.Idx) (h0 : (y 0).val = k)
    (h1 : (y 1).val = (x 1).val) : join p y = (p k).1 x := by
  have hx : (x 1).val < 2048 := (x 1).isLt
  subst h0
  unfold join
  rw [dif_pos (by omega)]
  refine congrArg _ (funext fun a => ?_)
  fin_cases a
  · exact Fin.ext (by have : (x 0).val < 1 := (x 0).isLt; show 0 = (x 0).val; omega)
  · exact Fin.ext h1

theorem join_hi {n : ℕ} (p : ℕ → Pair F) (y : (⟨2, ![n, 4096]⟩ : Shape).Idx) (k : ℕ) (x : S1x2048.Idx) (h0 : (y 0).val = k)
    (h1 : (y 1).val = 2048 + (x 1).val) : join p y = (p k).2 x := by
  have hx : (x 1).val < 2048 := (x 1).isLt
  subst h0
  unfold join
  rw [dif_neg (by omega)]
  refine congrArg _ (funext fun a => ?_)
  fin_cases a
  · exact Fin.ext (by have : (x 0).val < 1 := (x 0).isLt; show 0 = (x 0).val; omega)
  · exact Fin.ext (by show (y 1).val - 2048 = (x 1).val; omega)

/-- The rows of an array put together from rows. -/
theorem rows_join {n : ℕ} (hn : 0 < n) (p : ℕ → Pair F) (r : ℕ) (hr : r < n) : rows hn (join (n := n) p) r = p r := by
  unfold rows lo hi
  refine Prod.ext ?_ ?_
  · funext x
    exact join_lo p _ r x (Nat.mod_eq_of_lt hr) rfl
  · funext x
    exact join_hi p _ r x (Nat.mod_eq_of_lt hr) rfl

/-- One step of the scan: `a * s + b` on complex numbers. -/
def fstep (a s b : Pair F) : Pair F := (k0_pay2 a.1 a.2 s.1 s.2 b.1, k0_pay3 a.1 a.2 s.1 s.2 b.2)

/-- The state before step `k` of the scan that starts in `p` and takes in `b 0`, `b 1`, … -/
def fscan (a : Pair F) (b : ℕ → Pair F) (p : Pair F) : ℕ → Pair F
  | 0 => p
  | k + 1 => fstep a (fscan a b p k) (b k)

/-- The scan over `k` steps reads the first `k` inputs only. -/
theorem fscan_congr (a : Pair F) (b b' : ℕ → Pair F) (p : Pair F) (k : ℕ) (h : ∀ i < k, b i = b' i) : fscan a b p k = fscan a b' p k := by
  induction k with
  | zero => rfl
  | succ k ih => rw [fscan, fscan, ih fun i hi => h i (Nat.lt_succ_of_lt hi), h k (Nat.lt_succ_self k)]

/-- A scan goes on from where it stands. -/
theorem fscan_add (a : Pair F) (b : ℕ → Pair F) (p : Pair F) (m k : ℕ) :
    fscan a b p (m + k) = fscan a (fun i => b (m + i)) (fscan a b p m) k := by
  induction k with
  | zero => rfl
  | succ k ih => rw [← Nat.add_assoc, fscan, ih, fscan]

/-- The state of the gradient's recurrence: the gradient that arrives from later steps, and the sum for `abar`. -/
abbrev BState (F : FTy → Type) [FloatOps F] : Type := Pair F × Pair F

/-- One step of the gradient's recurrence, back in time: from the row `g` of the incoming gradient and the row `s` of the
    scan's result. -/
def bstep (a : Pair F) (q : BState F) (g s : Pair F) : BState F :=
  ((k1_pay8 a.1 a.2 q.1.1 q.1.2 g.1, k1_pay9 a.1 a.2 q.1.1 q.1.2 g.2),
   (k1_pay6 q.1.1 q.1.2 q.2.1 s.1 s.2, k1_pay7 q.1.1 q.1.2 q.2.2 s.1 s.2))

/-- The state before step `k` of the gradient's recurrence over the sequences `g`, `s`. -/
def bscan (a : Pair F) (g s : ℕ → Pair F) (q : BState F) : ℕ → BState F
  | 0 => q
  | k + 1 => bstep a (bscan a g s q k) (g k) (s k)

theorem bscan_congr (a : Pair F) (g g' s s' : ℕ → Pair F) (q : BState F) (k : ℕ) (hg : ∀ i < k, g i = g' i) (hs : ∀ i < k, s i = s' i) :
    bscan a g s q k = bscan a g' s' q k := by
  induction k with
  | zero => rfl
  | succ k ih =>
    rw [bscan, bscan, ih (fun i hi => hg i (Nat.lt_succ_of_lt hi)) fun i hi => hs i (Nat.lt_succ_of_lt hi),
      hg k (Nat.lt_succ_self k), hs k (Nat.lt_succ_self k)]

end Cert.KernelIdeal.Scan
-- ==== Proof.Scan.Body0.lean ====
/- One grid point of the forward scan: 256 steps from the state that the scratch row holds. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.Scan.Rows
public import Idealize.ShloMosaic.Lib.WritesUnit
public import Idealize.ShloMosaic.Lib.WholeRead
public import Idealize.ShloMosaic.Lib.VecWindow
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

/-- The rows of an array are sequences from its first row. -/
abbrev rows256 (x : Vec F S256x4096 .f32) : ℕ → Pair F := rows (by decide) x
abbrev row1 (x : Vec F S1x4096 .f32) : Pair F := rows (n := 1) (by decide) x 0

section Reads

variable {sp : Space} {n : ℕ} {m : Memref sig .tc sp ⟨2, ![n, 4096]⟩ .f32}

/-- A load of the left half of row `k` reads the real parts of what the view reads. -/
theorem view_lo (v : View sig .tc sp ⟨2, ![n, 4096]⟩ .f32) (f : v.ty.Contents (Elt F)) (hn : 0 < n) (off : Fin 2 → ℕ) (k : ℕ) (hk : k < n) (ho : off = ![k, 0])
    (inb : ∀ a, off a + S1x2048.size a ≤ (⟨2, ![n, 4096]⟩ : Shape).size a) :
    View.readAt (Elt F) v (Rect.unit (s := ⟨2, ![n, 4096]⟩) off S1x2048.size inb).toLoadRect f = (rows hn (v.read (Elt F) f) k).1 := by
  subst ho
  funext y
  unfold rows lo
  refine congrArg (v.read (Elt F) f) (funext fun a => ?_)
  fin_cases a
  · refine Fin.ext ?_
    have : (y 0).val < 1 := (y 0).isLt
    show k + 1 * (y 0).val = k % n
    rw [Nat.mod_eq_of_lt hk]; omega
  · refine Fin.ext ?_
    show 0 + 1 * (y 1).val = (y 1).val
    omega

theorem load_lo (hm : m.IsWhole) (hn : 0 < n) (x : Vec F ⟨2, ![n, 4096]⟩ .f32) (off : Fin 2 → ℕ) (k : ℕ) (hk : k < n) (ho : off = ![k, 0])
    (inb : ∀ a, off a + S1x2048.size a ≤ (⟨2, ![n, 4096]⟩ : Shape).size a) :
    View.readAt (Elt F) m.view (Rect.unit (s := ⟨2, ![n, 4096]⟩) off S1x2048.size inb).toLoadRect (hm.unread x) = (rows hn x k).1 := by
  rw [view_lo m.view _ hn off k hk ho, hm.read_unread]

/-- A load of the right half of row `k` reads the imaginary parts of what the view reads. -/
theorem view_hi (v : View sig .tc sp ⟨2, ![n, 4096]⟩ .f32) (f : v.ty.Contents (Elt F)) (hn : 0 < n) (off : Fin 2 → ℕ) (k : ℕ) (hk : k < n) (ho : off = ![k, 2048])
    (inb : ∀ a, off a + S1x2048.size a ≤ (⟨2, ![n, 4096]⟩ : Shape).size a) :
    View.readAt (Elt F) v (Rect.unit (s := ⟨2, ![n, 4096]⟩) off S1x2048.size inb).toLoadRect f = (rows hn (v.read (Elt F) f) k).2 := by
  subst ho
  funext y
  unfold rows hi
  refine congrArg (v.read (Elt F) f) (funext fun a => ?_)
  fin_cases a
  · refine Fin.ext ?_
    have : (y 0).val < 1 := (y 0).isLt
    show k + 1 * (y 0).val = k % n
    rw [Nat.mod_eq_of_lt hk]; omega
  · refine Fin.ext ?_
    show 2048 + 1 * (y 1).val = 2048 + (y 1).val
    omega

theorem load_hi (hm : m.IsWhole) (hn : 0 < n) (x : Vec F ⟨2, ![n, 4096]⟩ .f32) (off : Fin 2 → ℕ) (k : ℕ) (hk : k < n) (ho : off = ![k, 2048])
    (inb : ∀ a, off a + S1x2048.size a ≤ (⟨2, ![n, 4096]⟩ : Shape).size a) :
    View.readAt (Elt F) m.view (Rect.unit (s := ⟨2, ![n, 4096]⟩) off S1x2048.size inb).toLoadRect (hm.unread x) = (rows hn x k).2 := by
  rw [view_hi m.view _ hn off k hk ho, hm.read_unread]

/-- After a store of the right half of row `k` over one of the left half, row `k` reads what was stored. -/
theorem read_two (v : View sig .tc sp ⟨2, ![n, 4096]⟩ .f32) (f : v.ty.Contents (Elt F)) (p : ℕ → Pair F) (L : List (View.Piece (Elt F) ⟨2, ![n, 4096]⟩ .f32))
    (off off' : Fin 2 → ℕ) (k : ℕ) (ho : off = ![k, 0]) (ho' : off' = ![k, 2048])
    (inb : ∀ a, off a + S1x2048.size a ≤ (⟨2, ![n, 4096]⟩ : Shape).size a) (inb' : ∀ a, off' a + S1x2048.size a ≤ (⟨2, ![n, 4096]⟩ : Shape).size a)
    (w w' : Vec F S1x2048 .f32) (hw : w = (p k).1) (hw' : w' = (p k).2) (y : (⟨2, ![n, 4096]⟩ : Shape).Idx)
    (hL : (y 0).val ≠ k → v.read (Elt F) (v.writes (Elt F) f L) y = join p y) :
    v.read (Elt F) (v.writes (Elt F) f (⟨Rect.unit (s := ⟨2, ![n, 4096]⟩) off' S1x2048.size inb', w'⟩
      :: ⟨Rect.unit (s := ⟨2, ![n, 4096]⟩) off S1x2048.size inb, w⟩ :: L)) y = join p y := by
  have hy1 : (y 1).val < 4096 := (y 1).isLt
  by_cases hy : (y 0).val = k
  · by_cases h : (y 1).val < 2048
    · rw [View.read_writes_cons_unit_of_not_mem v f inb' w' _ y ho' 1 (Or.inl h),
        View.read_writes_cons_unit_of_mem v f inb w L y (ix2 (0 : Fin 1) (⟨(y 1).val, h⟩ : Fin 2048)) ho
          (Fin.forall_fin_two.mpr ⟨hy, (Nat.zero_add _).symm⟩), hw]
      exact (join_lo p y k _ hy rfl).symm
    · rw [View.read_writes_cons_unit_of_mem v f inb' w' _ y (ix2 (0 : Fin 1) (⟨(y 1).val - 2048, by omega⟩ : Fin 2048)) ho'
          (Fin.forall_fin_two.mpr ⟨hy, by show (y 1).val = 2048 + ((y 1).val - 2048); omega⟩), hw']
      exact (join_hi p y k _ hy (by show (y 1).val = 2048 + ((y 1).val - 2048); omega)).symm
  · have h0 : (y 0).val < k ∨ k + 1 ≤ (y 0).val := by omega
    rw [View.read_writes_cons_unit_of_not_mem v f inb' w' _ y ho' 0 h0, View.read_writes_cons_unit_of_not_mem v f inb w _ y ho 0 h0]
    exact hL hy

end Reads

/-- The scan's first grid point, where the scratch row is set to zero. -/
abbrev first0 (i : grid0.Coords) : Prop := (Scalar.cmpi .ne (Scalar.extui (Scalar.cmpi .eq (BitVec.ofNat 32 (i 0).val) 0#32)) 0#32) = 1#1

section Loop

variable (c : Dev nD) (i : grid0.Coords) (arg1 : Memref sig .tc .vmem S256x4096 .f32) (harg1 : arg1.IsWhole) (arg2 : Memref sig .tc .vmem S1x4096 .f32) (harg2 : arg2.IsWhole) (arg3 : Memref sig .tc .vmem S256x4096 .f32) (harg3 : arg3.IsWhole) (arg4 : Memref sig .tc .vmem S1x4096 .f32) (harg4 : arg4.IsWhole)
  (v3 v4 : Vec F S1x2048 .f32) (x0 : Vec F S256x4096 .f32) (init : Pair F)

/-- What one trip carries on: one step of the scan. -/
theorem trip0_carry (k : Fin k0_t1_loop.trips) (acc : Pair F) :
    tripR_k0_t1 (F := F) Variants.none c none i arg1 harg1 arg2 harg2 arg3 harg3 arg4 harg4 v3 v4 (harg1.unread x0) k acc = fstep (v3, v4) acc (rows256 x0 k.val) := by
  have hk : k.val < 256 := Nat.lt_of_lt_of_le k.isLt k0_t1_abs.2.1
  have e : tripR_k0_t1 (F := F) Variants.none c none i arg1 harg1 arg2 harg2 arg3 harg3 arg4 harg4 v3 v4 (harg1.unread x0) k acc
      = (k0_pay2 v3 v4 acc.1 acc.2 (View.readAt (Elt F) arg1.view (Rect.unit (s := S256x4096) (k0_off1 k) S1x2048.size (k0_off1_inb k)).toLoadRect (harg1.unread x0)),
         k0_pay3 v3 v4 acc.1 acc.2 (View.readAt (Elt F) arg1.view (Rect.unit (s := S256x4096) (k0_off2 k) S1x2048.size (k0_off2_inb k)).toLoadRect (harg1.unread x0))) := by
    unfold tripR_k0_t1 trip_k0_t1; rfl
  rw [e, load_lo harg1 (by decide) x0 (k0_off1 k) k.val hk (k0_off1_eq k), load_hi harg1 (by decide) x0 (k0_off2 k) k.val hk (k0_off2_eq k)]
  rfl

/-- What one trip stores: the two halves of the row. -/
theorem trip0_stores (k : Fin k0_t1_loop.trips) (acc : Pair F) :
    tripL_k0_t1 (F := F) Variants.none c none i arg1 harg1 arg2 harg2 arg3 harg3 arg4 harg4 v3 v4 (harg1.unread x0) k acc
      = [⟨Rect.unit (s := S256x4096) (k0_off2 k) S1x2048.size (k0_off2_inb k), (fstep (v3, v4) acc (rows256 x0 k.val)).2⟩,
         ⟨Rect.unit (s := S256x4096) (k0_off1 k) S1x2048.size (k0_off1_inb k), (fstep (v3, v4) acc (rows256 x0 k.val)).1⟩] := by
  rw [← trip0_carry c i arg1 harg1 arg2 harg2 arg3 harg3 arg4 harg4 v3 v4 x0 k acc]
  unfold tripR_k0_t1 tripL_k0_t1 trip_k0_t1; rfl

/-- The carried value before trip `k` is the scan's state before step `k`. -/
theorem loop0_carry : ∀ k : ℕ, k ≤ 256 →
    (st_k0_t1 (F := F) Variants.none c none i arg1 harg1 arg2 harg2 arg3 harg3 arg4 harg4 v3 v4 (harg1.unread x0) init k).1 = fscan (v3, v4) (rows256 x0) init k
  | 0, _ => rfl
  | k + 1, h => by
    have hk : k < k0_t1_loop.trips := h
    rw [st_k0_t1_succ (F := F) Variants.none c none i arg1 harg1 arg2 harg2 arg3 harg3 arg4 harg4 v3 v4 (harg1.unread x0) init ⟨k, hk⟩, fscan,
      ← loop0_carry k (by omega)]
    exact trip0_carry c i arg1 harg1 arg2 harg2 arg3 harg3 arg4 harg4 v3 v4 x0 ⟨k, hk⟩ _

/-- Before trip `k` the rows before `k` hold the states after their steps. -/
theorem loop0_rows (f : BufTy.Contents (Elt F) arg3.view.ty) : ∀ k : ℕ, k ≤ 256 → ∀ y : S256x4096.Idx, (y 0).val < k →
    arg3.view.read (Elt F) (arg3.view.writes (Elt F) f
      (st_k0_t1 (F := F) Variants.none c none i arg1 harg1 arg2 harg2 arg3 harg3 arg4 harg4 v3 v4 (harg1.unread x0) init k).2) y
      = join (fun r => fscan (v3, v4) (rows256 x0) init (r + 1)) y
  | 0, _, _, hy => absurd hy (Nat.not_lt_zero _)
  | k + 1, h, y, hy => by
    have hk : k < k0_t1_loop.trips := h
    rw [st_k0_t1_succ (F := F) Variants.none c none i arg1 harg1 arg2 harg2 arg3 harg3 arg4 harg4 v3 v4 (harg1.unread x0) init ⟨k, hk⟩]
    show arg3.view.read (Elt F) (arg3.view.writes (Elt F) f (_ ++ _)) y = _
    rw [trip0_stores c i arg1 harg1 arg2 harg2 arg3 harg3 arg4 harg4 v3 v4 x0 ⟨k, hk⟩, loop0_carry c i arg1 harg1 arg2 harg2 arg3 harg3 arg4 harg4 v3 v4 x0 init k (by omega)]
    refine read_two arg3.view f (fun r => fscan (v3, v4) (rows256 x0) init (r + 1)) _ (k0_off1 ⟨k, hk⟩) (k0_off2 ⟨k, hk⟩) k
      (k0_off1_eq _) (k0_off2_eq _) _ _ _ _ rfl rfl y fun hne => ?_
    exact loop0_rows f k (by omega) y (by omega)

end Loop

/-- The block of results of one grid point, entered in the state `p`. -/
def fblock (x1 : Vec F S1x4096 .f32) (x0 : Vec F S256x4096 .f32) (p : Pair F) : Vec F S256x4096 .f32 :=
  join fun r => fscan (row1 x1) (rows256 x0) p (r + 1)

/-- The state that one grid point leaves, as the scratch row. -/
def fcarry (x1 : Vec F S1x4096 .f32) (x0 : Vec F S256x4096 .f32) (p : Pair F) : Vec F S1x4096 .f32 :=
  join fun _ => fscan (row1 x1) (rows256 x0) p 256

/-- The two halves of a row of zeros. -/
def zeroPair : Pair F := row1 (k0_pay1 (F := F))

set_option maxHeartbeats 1000000 in
/-- A later grid point: from a scratch row `xs`, the block and the scratch row of the scan that starts in `xs`. -/
theorem run0_B (c : Dev nD) (i : grid0.Coords) (arg1 : Memref sig .tc .vmem S256x4096 .f32) (harg1 : arg1.IsWhole) (arg2 : Memref sig .tc .vmem S1x4096 .f32) (harg2 : arg2.IsWhole) (arg3 : Memref sig .tc .vmem S256x4096 .f32) (harg3 : arg3.IsWhole) (arg4 : Memref sig .tc .vmem S1x4096 .f32) (harg4 : arg4.IsWhole) (hc : ¬first0 i)
    (x0 : Vec F S256x4096 .f32) (x1 xs : Vec F S1x4096 .f32) (E : Set ℕ) (K : PUnit → sProp 𝕄) :
        iprop(owns (c : Thread nD τ) arg1 fullShare x0 ∗ owns (c : Thread nD τ) arg2 fullShare x1 ∗ (∃ d, owns (c : Thread nD τ) arg3 fullShare d) ∗ owns (c : Thread nD τ) arg4 fullShare xs
            ∗ (iprop(owns (c : Thread nD τ) arg1 fullShare x0 ∗ owns (c : Thread nD τ) arg2 fullShare x1 ∗ owns (c : Thread nD τ) arg3 fullShare (fblock x1 x0 (row1 xs)) ∗ owns (c : Thread nD τ) arg4 fullShare (fcarry x1 x0 (row1 xs))) -∗ K ⟨⟩))
          ⊢ wp frame (wpE (defs₀ (F := F)) Variants.none c none) E (cc0_ssm_scan_fwd i arg1 harg1 arg2 harg2 arg3 harg3 arg4 harg4) K := by
  simp only [cc0_ssm_scan_fwd_eq_skeleton]; unfold cc0_ssm_scan_fwd_skel
  unfold owns
  iintro ⟨⟨%f0, %hf0, H0⟩, ⟨%f1, %hf1, H1⟩, ⟨%d2, %f2, -, H2⟩, ⟨%fs, %hfs, HS⟩, Hk⟩
  obtain rfl := harg1.eq_unread hf0; obtain rfl := harg2.eq_unread hf1; obtain rfl := harg4.eq_unread hfs
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    rw [load_lo harg2 (by decide) x1 ![0, 0] 0 (by decide) rfl, load_hi harg2 (by decide) x1 ![0, 2048] 0 (by decide) rfl,
      load_lo harg4 (by decide) xs ![0, 0] 0 (by decide) rfl, load_hi harg4 (by decide) xs ![0, 2048] 0 (by decide) rfl]
    funext y
    exact loop0_rows c i arg1 harg1 arg2 harg2 arg3 harg3 arg4 harg4 _ _ x0 _ f2 256 le_rfl y (y 0).isLt
  iexists _; isplitr
  swap; · iexact HS
  ipureintro
  rw [load_lo harg2 (by decide) x1 ![0, 0] 0 (by decide) rfl, load_hi harg2 (by decide) x1 ![0, 2048] 0 (by decide) rfl,
    load_lo harg4 (by decide) xs ![0, 0] 0 (by decide) rfl, load_hi harg4 (by decide) xs ![0, 2048] 0 (by decide) rfl]
  funext y
  refine read_two arg4.view _ (fun _ => fscan (row1 x1) (rows256 x0) (row1 xs) 256) [] ![0, 0] ![0, 2048] 0 rfl rfl _ _ _ _ ?_ ?_ y
    fun hne => absurd (Nat.lt_one_iff.mp (y 0).isLt) hne
  · unfold k0_pay4
    rw [shapeCast_self]
    exact congrArg Prod.fst (loop0_carry c i arg1 harg1 arg2 harg2 arg3 harg3 arg4 harg4 _ _ x0 _ 256 le_rfl)
  · unfold k0_pay5
    rw [shapeCast_self]
    exact congrArg Prod.snd (loop0_carry c i arg1 harg1 arg2 harg2 arg3 harg3 arg4 harg4 _ _ x0 _ 256 le_rfl)

set_option maxHeartbeats 1000000 in
/-- The first grid point: whatever the scratch row held, the scan starts from zero. -/
theorem run0_A (c : Dev nD) (i : grid0.Coords) (arg1 : Memref sig .tc .vmem S256x4096 .f32) (harg1 : arg1.IsWhole) (arg2 : Memref sig .tc .vmem S1x4096 .f32) (harg2 : arg2.IsWhole) (arg3 : Memref sig .tc .vmem S256x4096 .f32) (harg3 : arg3.IsWhole) (arg4 : Memref sig .tc .vmem S1x4096 .f32) (harg4 : arg4.IsWhole) (hc : first0 i)
    (x0 : Vec F S256x4096 .f32) (x1 : Vec F S1x4096 .f32) (E : Set ℕ) (K : PUnit → sProp 𝕄) :
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ owns (c : Thread nD τ) arg3 fullShare (fblock x1 x0 zeroPair) ∗ owns (c : Thread nD τ) arg4 fullShare (fcarry x1 x0 zeroPair)) -∗ K ⟨⟩))
          ⊢ wp frame (wpE (defs₀ (F := F)) Variants.none c none) E (cc0_ssm_scan_fwd i arg1 harg1 arg2 harg2 arg3 harg3 arg4 harg4) K := by
  simp only [cc0_ssm_scan_fwd_eq_skeleton]; unfold cc0_ssm_scan_fwd_skel
  unfold owns
  iintro ⟨⟨%f0, %hf0, H0⟩, ⟨%f1, %hf1, H1⟩, ⟨%d2, %f2, -, H2⟩, ⟨%ds, %fs, -, HS⟩, Hk⟩
  obtain rfl := harg1.eq_unread hf0; obtain rfl := harg2.eq_unread hf1
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  have hz : (run0_A.sl.v5 (F := F) c arg4, run0_A.sl.v6 (F := F) c arg4) = zeroPair := by
    unfold run0_A.sl.v5 run0_A.sl.v6 run0_A.sl.HS_1
    unfold View.readCov
    rw [view_lo arg4.view _ (by decide) ![0, 0] 0 (by decide) rfl, view_hi arg4.view _ (by decide) ![0, 2048] 0 (by decide) rfl,
      View.read_writes_full]
    rfl
  isplitl [H2]
  · iexists _; isplitr
    swap; · iexact H2
    ipureintro
    rw [load_lo harg2 (by decide) x1 ![0, 0] 0 (by decide) rfl, load_hi harg2 (by decide) x1 ![0, 2048] 0 (by decide) rfl, hz]
    funext y
    exact loop0_rows c i arg1 harg1 arg2 harg2 arg3 harg3 arg4 harg4 _ _ x0 _ f2 256 le_rfl y (y 0).isLt
  iexists _; isplitr
  swap; · iexact HS
  ipureintro
  rw [load_lo harg2 (by decide) x1 ![0, 0] 0 (by decide) rfl, load_hi harg2 (by decide) x1 ![0, 2048] 0 (by decide) rfl, hz]
  funext y
  refine read_two arg4.view _ (fun _ => fscan (row1 x1) (rows256 x0) zeroPair 256) _ ![0, 0] ![0, 2048] 0 rfl rfl _ _ _ _ ?_ ?_ y
    fun hne => absurd (Nat.lt_one_iff.mp (y 0).isLt) hne
  · unfold k0_pay4
    rw [shapeCast_self]
    exact congrArg Prod.fst (loop0_carry c i arg1 harg1 arg2 harg2 arg3 harg3 arg4 harg4 _ _ x0 _ 256 le_rfl)
  · unfold k0_pay5
    rw [shapeCast_self]
    exact congrArg Prod.snd (loop0_carry c i arg1 harg1 arg2 harg2 arg3 harg3 arg4 harg4 _ _ x0 _ 256 le_rfl)

end Cert.KernelIdeal.Scan
-- ==== Proof.Scan.Region0.lean ====
/- The forward scan's call: what it leaves in its arrays, grid point by grid point. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.Scan.Body0
public import Idealize.ShloMosaic.Lib.WritesUnit
public import Idealize.ShloMosaic.Lib.WholeRead
public import Idealize.ShloMosaic.Lib.VecWindow
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

section Region0

/- The arrays as the call finds them. -/
variable (V : (c : Dev nD) → (b : Ref sig .tc) → Buf (Elt F) ((c : Thread nD τ).loc b))

/-- The block of window `w` at grid point `t`. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The grid point numbered `n`. -/
def pt0 (n : ℕ) : Fin cfg0.N := ⟨n % cfg0.N, Nat.mod_lt _ (by rw [show cfg0.N = 17 from N_0]; decide)⟩
theorem pt0_val (t : Fin cfg0.N) : pt0 t.val = t := Fin.ext (Nat.mod_eq_of_lt t.isLt)

/-- The kernel's condition holds at the first grid point alone. -/
theorem first0_iff : ∀ t : Fin cfg0.N, first0 (grid0.coords t) ↔ t.val % 17 = 0 :=
  (fun t => by
    have ht : t.val < 17 := Nat.lt_of_lt_of_eq t.isLt N_0
    have e0 : (grid0.coords t 0).val = t.val / 1 % 17 := Pipeline.Grid.coords_val t 0 (by decide) rfl
    simp only [first0, e0]
    word_cmp
   : ∀ t : Fin grid0.N, first0 (grid0.coords t) ↔ t.val % 17 = 0)

/-- The scan's state before grid point `n`. -/
def st0 (c : Dev nD) : ℕ → Pair F
  | 0 => zeroPair
  | n + 1 => fscan (row1 (blk0 V c 1 (pt0 n))) (rows256 (blk0 V c 0 (pt0 n))) (st0 c n) 256

/- Each window's staging buffer at point `t`, and that it is a whole buffer. -/
abbrev stg0_0 (t : Fin cfg0.N) : Memref sig .tc .vmem S256x4096 .f32 := win0_0.stage (cfg0.slots t 0)
theorem whole0_0 (t : Fin cfg0.N) : (stg0_0 t).IsWhole := hstage0_0 ((cfg0.slots t 0).cast nbuf0_0)
abbrev stg0_1 (t : Fin cfg0.N) : Memref sig .tc .vmem S1x4096 .f32 := win0_1.stage (cfg0.slots t 1)
theorem whole0_1 (t : Fin cfg0.N) : (stg0_1 t).IsWhole := hstage0_1 ((cfg0.slots t 1).cast nbuf0_1)
abbrev stg0_2 (t : Fin cfg0.N) : Memref sig .tc .vmem S256x4096 .f32 := win0_2.stage (cfg0.slots t 2)
theorem whole0_2 (t : Fin cfg0.N) : (stg0_2 t).IsWhole := hstage0_2 ((cfg0.slots t 2).cast nbuf0_2)

/-- The scratch row. -/
abbrev scr0 : Memref sig .tc .vmem S1x4096 .f32 := Memref.whole cc0_scratch0

/-- The other call's buffers at any contents, beside what is said of this call's scratch row. -/
def rest0 (c : Dev nD) (X : sProp 𝕄) : sProp 𝕄 := iprop(X ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_scratch0), ((c : Thread nD τ).loc cc1_scratch0) ↦{fullShare} f))

/-- What passes from point to point: before the first the scratch row at any contents, before point `n` at the state there. -/
def Phi0 (c : Dev nD) (n : ℕ) : sProp 𝕄 :=
  iprop(rest0 c (if n = 0 then iprop(∃ d, owns (c : Thread nD τ) scr0 fullShare d) else owns (c : Thread nD τ) scr0 fullShare (join fun _ => st0 V c n)) ∗ (∃ r, prngReg c r))

theorem Phi0_zero (c : Dev nD) : Phi0 V c 0 = Pipeline.ΦA spec0 c := by
  unfold Phi0 rest0 Pipeline.ΦA
  rw [if_pos rfl, scopedRest0_eq]; simp only [scr0, owns_whole]; try rfl

theorem Phi0_pos (c : Dev nD) (n : ℕ) (h : n ≠ 0) :
    Phi0 V c n = iprop(rest0 c (owns (c : Thread nD τ) scr0 fullShare (join fun _ => st0 V c n)) ∗ (∃ r, prngReg c r)) := by
  unfold Phi0; rw [if_neg h]

theorem Phi0_forget (c : Dev nD) (n : ℕ) (h : n ≠ 0) : Phi0 V c n ⊢ Pipeline.ΦA spec0 c := by
  rw [Phi0_pos V c n h, ← Phi0_zero V c]
  unfold Phi0 rest0
  rw [if_pos rfl]
  iintro ⟨⟨HS, HR0, HR1, HR2, HR3, HR4, HR5, HR6, HR7, HR8⟩, Hg⟩
  isplitr [Hg]
  swap; · iexact Hg
  isplitl [HS]
  · iexists _; iexact HS
  isplitl [HR0]
  · iexact HR0
  isplitl [HR1]
  · iexact HR1
  isplitl [HR2]
  · iexact HR2
  isplitl [HR3]
  · iexact HR3
  isplitl [HR4]
  · iexact HR4
  isplitl [HR5]
  · iexact HR5
  isplitl [HR6]
  · iexact HR6
  isplitl [HR7]
  · iexact HR7
  iexact HR8

/-- What the call does to its arrays: the inputs' blocks stay, the results' blocks are the body's. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => fblock (blk0 V c 1 t) (blk0 V c 0 t) (st0 V c t.val)
  Φ t := Phi0 V c t.val
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = fblock (blk0 V c 1 t) (blk0 V c 0 t) (st0 V c t.val) := by dsimp only [dat0]

/- Before the body each input's staging buffer holds its block. -/
theorem before0_0 (c : Dev nD) (t : Fin cfg0.N) (d) : (dat0 V c).before 0 t d = blk0 V c 0 t :=
  ((dat0 V c).before_in_eq_fetched 0 rfl (fun _ => rfl) (fun _ _ _ => rfl) (fun t => by rw [after0_0]; unfold Dat.blockOf blk0; rw [A_eq0]; try rfl) t d).trans
    (by unfold Dat.fetched Dat.blockOf blk0; rw [A_eq0]; try rfl)
theorem before0_1 (c : Dev nD) (t : Fin cfg0.N) (d) : (dat0 V c).before 1 t d = blk0 V c 1 t :=
  ((dat0 V c).before_in_eq_fetched 1 rfl (fun _ => rfl) (fun _ _ _ => rfl) (fun t => by rw [after0_1]; unfold Dat.blockOf blk0; rw [A_eq0]; try rfl) t d).trans
    (by unfold Dat.fetched Dat.blockOf blk0; rw [A_eq0]; try rfl)

/- What the body is given at point `t`, and what it gives back. -/
def pre0 (c : Dev nD) (t : Fin cfg0.N) : sProp 𝕄 :=
  iprop((dat0 V c).Φ t.castSucc ∗ (dat0 V c).owesAt () t.castSucc
    ∗ (∃ d, owns (c : Thread nD τ) (stg0_0 t) fullShare ((dat0 V c).before 0 t d))
    ∗ (∃ d, owns (c : Thread nD τ) (stg0_1 t) fullShare ((dat0 V c).before 1 t d))
    ∗ (∃ d, owns (c : Thread nD τ) (stg0_2 t) fullShare ((dat0 V c).before 2 t d)))

def post0 (c : Dev nD) (t : Fin cfg0.N) : sProp 𝕄 :=
  iprop((dat0 V c).Φ t.succ ∗ (dat0 V c).owesAt () t.succ
    ∗ owns (c : Thread nD τ) (stg0_0 t) fullShare ((dat0 V c).after 0 t)
    ∗ owns (c : Thread nD τ) (stg0_1 t) fullShare ((dat0 V c).after 1 t)
    ∗ owns (c : Thread nD τ) (stg0_2 t) fullShare ((dat0 V c).after 2 t))

set_option maxHeartbeats 800000 in
/-- The body at any point. -/
theorem sound0 (c : Dev nD) (t : Fin cfg0.N) :
    pre0 V c t ⊢ wp frame (wpE (defs₀ (F := F)) Variants.none c none) Set.univ (bodyAt0 t) (fun _ => post0 V c t) := by
  have hN : t.val < 17 := lt_of_lt_of_eq t.isLt (show cfg0.N = 17 from N_0)
  unfold pre0 post0 bodyAt0
  simp only [before0_0, before0_1]
  rw [show (dat0 V c).Φ t.succ = Phi0 V c (t.val + 1) from rfl, show (dat0 V c).Φ t.castSucc = Phi0 V c t.val from rfl,
    show (dat0 V c).owesAt () t.succ = (dat0 V c).owesAt () t.castSucc from rfl,
    after0_0, after0_1, after0_2, Phi0_pos V c (t.val + 1) (Nat.succ_ne_zero _)]
  rw [st0, pt0_val]
  by_cases h0 : t.val = 0
  · have hc : first0 (grid0.coords t) := (first0_iff t).mpr (by omega)
    have hp : st0 V c t.val = zeroPair := by rw [h0]; rfl
    rw [hp, show Phi0 V c t.val = Phi0 V c 0 by rw [h0]]
    unfold Phi0 rest0
    rw [if_pos rfl]
    iintro ⟨⟨⟨HS, HR0, HR1, HR2, HR3, HR4, HR5, HR6, HR7, HR8⟩, Hg⟩, Ho, ⟨%d0, H0⟩, ⟨%d1, H1⟩, ⟨%d2, H2⟩⟩
    iapply (run0_A c (grid0.coords t) _ (whole0_0 t) _ (whole0_1 t) _ (whole0_2 t) scr0 (Memref.isWhole_whole _) hc (blk0 V c 0 t) (blk0 V c 1 t) Set.univ _)
    isplitl [H0]; · iexact H0
    isplitl [H1]; · iexact H1
    isplitl [H2]; · iexists _; iexact H2
    isplitl [HS]; · iexact HS
    iintro ⟨H0, H1, H2, HS⟩
    isplitl [HS HR0 HR1 HR2 HR3 HR4 HR5 HR6 HR7 HR8 Hg]
    · isplitr [Hg]
      swap; · iexact Hg
      isplitl [HS]
      · iexact HS
      isplitl [HR0]
      · iexact HR0
      isplitl [HR1]
      · iexact HR1
      isplitl [HR2]
      · iexact HR2
      isplitl [HR3]
      · iexact HR3
      isplitl [HR4]
      · iexact HR4
      isplitl [HR5]
      · iexact HR5
      isplitl [HR6]
      · iexact HR6
      isplitl [HR7]
      · iexact HR7
      iexact HR8
    isplitl [Ho]; · iexact Ho
    isplitl [H0]; · iexact H0
    isplitl [H1]; · iexact H1
    iexact H2
  · have hc : ¬first0 (grid0.coords t) := fun h => h0 (by have := (first0_iff t).mp h; omega)
    rw [Phi0_pos V c t.val h0]
    unfold rest0
    have hr : row1 (join fun _ => st0 V c t.val) = st0 V c t.val := rows_join _ _ 0 (by decide)
    iintro ⟨⟨⟨HS, HR0, HR1, HR2, HR3, HR4, HR5, HR6, HR7, HR8⟩, Hg⟩, Ho, ⟨%d0, H0⟩, ⟨%d1, H1⟩, ⟨%d2, H2⟩⟩
    have hrun := run0_B c (grid0.coords t) _ (whole0_0 t) _ (whole0_1 t) _ (whole0_2 t) scr0 (Memref.isWhole_whole _) hc (blk0 V c 0 t) (blk0 V c 1 t) (join fun _ => st0 V c t.val) Set.univ
    rw [hr] at hrun
    iapply (hrun _)
    isplitl [H0]; · iexact H0
    isplitl [H1]; · iexact H1
    isplitl [H2]; · iexists _; iexact H2
    isplitl [HS]; · iexact HS
    iintro ⟨H0, H1, H2, HS⟩
    isplitl [HS HR0 HR1 HR2 HR3 HR4 HR5 HR6 HR7 HR8 Hg]
    · isplitr [Hg]
      swap; · iexact Hg
      isplitl [HS]
      · iexact HS
      isplitl [HR0]
      · iexact HR0
      isplitl [HR1]
      · iexact HR1
      isplitl [HR2]
      · iexact HR2
      isplitl [HR3]
      · iexact HR3
      isplitl [HR4]
      · iexact HR4
      isplitl [HR5]
      · iexact HR5
      isplitl [HR6]
      · iexact HR6
      isplitl [HR7]
      · iexact HR7
      iexact HR8
    isplitl [Ho]; · iexact Ho
    isplitl [H0]; · iexact H0
    isplitl [H1]; · iexact H1
    iexact H2

theorem row_of_body0 (t : Fin cfg0.N) : defs₀ (F := F) .tc cfg0.body (cfg0.bodyArgs t (cfg0.slots t)) = bodyAt0 t := by
  unfold defs₀; rw [Defs.onTc_tc]

/-- The body does what `dat0` says, at every point. -/
theorem obligation0 (c : Dev nD) : BodyObligation (dat0 (F := F) V c) (defs₀ (F := F)) Variants.none () Set.univ := fun t => by
  rw [bigSep_W0, bigSep_W0, row_of_body0]
  exact triple_restated (sound0 V c t) rfl .rfl fun _ => .rfl

end Region0

end Cert.KernelIdeal.Scan
-- ==== Proof.Scan.Body1.lean ====
/- One grid point of the gradient of the scan: 256 steps back in time from the state that the scratch row holds. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.Scan.Rows
public import proofs.«01_k».proof.Proof.Scan.Body0
public import Idealize.ShloMosaic.Lib.WritesUnit
public import Idealize.ShloMosaic.Lib.WholeRead
public import Idealize.ShloMosaic.Lib.VecWindow
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

/-- The gradient's first grid point, where the scratch row and the sums are set to zero. -/
abbrev first1 (i : grid1.Coords) : Prop := (Scalar.cmpi .ne (Scalar.extui (Scalar.cmpi .eq (BitVec.ofNat 32 (i 0).val) 0#32)) 0#32) = 1#1

section Loop

variable (c : Dev nD) (i : grid1.Coords) (arg1 : Memref sig .tc .vmem S256x4096 .f32) (harg1 : arg1.IsWhole) (arg2 : Memref sig .tc .vmem S256x4096 .f32) (harg2 : arg2.IsWhole) (arg3 : Memref sig .tc .vmem S1x4096 .f32) (harg3 : arg3.IsWhole) (arg4 : Memref sig .tc .vmem S256x4096 .f32) (harg4 : arg4.IsWhole) (arg5 : Memref sig .tc .vmem S8x4096 .f32) (harg5 : arg5.IsWhole) (arg6 : Memref sig .tc .vmem S1x4096 .f32) (harg6 : arg6.IsWhole)
  (v3 v4 : Vec F S1x2048 .f32) (x0 x1 : Vec F S256x4096 .f32) (init : Pair F) (d : Pair F)

/-- The rows of a block from the last to the first. -/
def rev256 (x : Vec F S256x4096 .f32) (k : ℕ) : Pair F := rows256 x (255 - k)

/-- The loop's four carried rows as the recurrence's state. -/
abbrev flat (q : BState F) : Vec F S1x2048 .f32 × Vec F S1x2048 .f32 × FVec F S1x2048 .f32 × FVec F S1x2048 .f32 := (q.1.1, q.1.2, q.2.1, q.2.2)

/-- What one trip carries on: one step of the gradient's recurrence. -/
theorem trip1_carry (k : Fin k1_t1_loop.trips) (q : BState F) :
    tripR_k1_t1 (F := F) Variants.none c none i arg1 harg1 arg2 harg2 arg3 harg3 arg4 harg4 arg5 harg5 arg6 harg6 v3 v4 (harg1.unread x0) (harg2.unread x1) k (flat q)
      = flat (bstep (v3, v4) q (rev256 x0 k.val) (rev256 x1 k.val)) := by
  have hk : k.val < 256 := Nat.lt_of_lt_of_le k.isLt k1_t1_abs.2.1
  have e : tripR_k1_t1 (F := F) Variants.none c none i arg1 harg1 arg2 harg2 arg3 harg3 arg4 harg4 arg5 harg5 arg6 harg6 v3 v4 (harg1.unread x0) (harg2.unread x1) k (flat q)
      = (k1_pay8 v3 v4 q.1.1 q.1.2 (View.readAt (Elt F) arg1.view (Rect.unit (s := S256x4096) (k1_off1 k) S1x2048.size (k1_off1_inb k)).toLoadRect (harg1.unread x0)),
         k1_pay9 v3 v4 q.1.1 q.1.2 (View.readAt (Elt F) arg1.view (Rect.unit (s := S256x4096) (k1_off2 k) S1x2048.size (k1_off2_inb k)).toLoadRect (harg1.unread x0)),
         k1_pay6 q.1.1 q.1.2 q.2.1 (View.readAt (Elt F) arg2.view (Rect.unit (s := S256x4096) (k1_off1 k) S1x2048.size (k1_off1_inb k)).toLoadRect (harg2.unread x1)) (View.readAt (Elt F) arg2.view (Rect.unit (s := S256x4096) (k1_off2 k) S1x2048.size (k1_off2_inb k)).toLoadRect (harg2.unread x1)),
         k1_pay7 q.1.1 q.1.2 q.2.2 (View.readAt (Elt F) arg2.view (Rect.unit (s := S256x4096) (k1_off1 k) S1x2048.size (k1_off1_inb k)).toLoadRect (harg2.unread x1)) (View.readAt (Elt F) arg2.view (Rect.unit (s := S256x4096) (k1_off2 k) S1x2048.size (k1_off2_inb k)).toLoadRect (harg2.unread x1))) := by
    unfold tripR_k1_t1 trip_k1_t1; rfl
  rw [e, load_lo harg1 (by decide) x0 (k1_off1 k) (255 - k.val) (by omega) (k1_off1_eq k), load_hi harg1 (by decide) x0 (k1_off2 k) (255 - k.val) (by omega) (k1_off2_eq k),
    load_lo harg2 (by decide) x1 (k1_off1 k) (255 - k.val) (by omega) (k1_off1_eq k), load_hi harg2 (by decide) x1 (k1_off2 k) (255 - k.val) (by omega) (k1_off2_eq k)]
  rfl

/-- What one trip stores: the two halves of the row. -/
theorem trip1_stores (k : Fin k1_t1_loop.trips) (q : BState F) :
    tripL_k1_t1 (F := F) Variants.none c none i arg1 harg1 arg2 harg2 arg3 harg3 arg4 harg4 arg5 harg5 arg6 harg6 v3 v4 (harg1.unread x0) (harg2.unread x1) k (flat q)
      = [⟨Rect.unit (s := S256x4096) (k1_off2 k) S1x2048.size (k1_off2_inb k), (bstep (v3, v4) q (rev256 x0 k.val) (rev256 x1 k.val)).1.2⟩,
         ⟨Rect.unit (s := S256x4096) (k1_off1 k) S1x2048.size (k1_off1_inb k), (bstep (v3, v4) q (rev256 x0 k.val) (rev256 x1 k.val)).1.1⟩] := by
  have e := trip1_carry c i arg1 harg1 arg2 harg2 arg3 harg3 arg4 harg4 arg5 harg5 arg6 harg6 v3 v4 x0 x1 k q
  have e1 : (bstep (v3, v4) q (rev256 x0 k.val) (rev256 x1 k.val)).1.1 = (tripR_k1_t1 (F := F) Variants.none c none i arg1 harg1 arg2 harg2 arg3 harg3 arg4 harg4 arg5 harg5 arg6 harg6 v3 v4 (harg1.unread x0) (harg2.unread x1) k (flat q)).1 := by rw [e]
  have e2 : (bstep (v3, v4) q (rev256 x0 k.val) (rev256 x1 k.val)).1.2 = (tripR_k1_t1 (F := F) Variants.none c none i arg1 harg1 arg2 harg2 arg3 harg3 arg4 harg4 arg5 harg5 arg6 harg6 v3 v4 (harg1.unread x0) (harg2.unread x1) k (flat q)).2.1 := by rw [e]
  rw [e1, e2]
  unfold tripR_k1_t1 tripL_k1_t1 trip_k1_t1; rfl

/-- The carried value before trip `k` is the recurrence's state before step `k`. -/
theorem loop1_carry (q : BState F) : ∀ k : ℕ, k ≤ 256 →
    (st_k1_t1 (F := F) Variants.none c none i arg1 harg1 arg2 harg2 arg3 harg3 arg4 harg4 arg5 harg5 arg6 harg6 v3 v4 (harg1.unread x0) (harg2.unread x1) (flat q) k).1 = flat (bscan (v3, v4) (rev256 x0) (rev256 x1) q k)
  | 0, _ => rfl
  | k + 1, h => by
    have hk : k < k1_t1_loop.trips := h
    rw [st_k1_t1_succ (F := F) Variants.none c none i arg1 harg1 arg2 harg2 arg3 harg3 arg4 harg4 arg5 harg5 arg6 harg6 v3 v4 (harg1.unread x0) (harg2.unread x1) (flat q) ⟨k, hk⟩, bscan,
      loop1_carry q k (by omega)]
    exact trip1_carry c i arg1 harg1 arg2 harg2 arg3 harg3 arg4 harg4 arg5 harg5 arg6 harg6 v3 v4 x0 x1 ⟨k, hk⟩ _

/-- Before trip `k` the last `k` rows hold the recurrence's states. -/
theorem loop1_rows (q : BState F) (f : BufTy.Contents (Elt F) arg4.view.ty) : ∀ k : ℕ, k ≤ 256 → ∀ y : S256x4096.Idx, 256 ≤ (y 0).val + k →
    arg4.view.read (Elt F) (arg4.view.writes (Elt F) f
      (st_k1_t1 (F := F) Variants.none c none i arg1 harg1 arg2 harg2 arg3 harg3 arg4 harg4 arg5 harg5 arg6 harg6 v3 v4 (harg1.unread x0) (harg2.unread x1) (flat q) k).2) y
      = join (fun r => (bscan (v3, v4) (rev256 x0) (rev256 x1) q (256 - r)).1) y
  | 0, _, y, hy => absurd (show (y 0).val < 256 from (y 0).isLt) (by omega)
  | k + 1, h, y, hy => by
    have hk : k < k1_t1_loop.trips := h
    have e : 256 - (255 - k) = k + 1 := by omega
    rw [st_k1_t1_succ (F := F) Variants.none c none i arg1 harg1 arg2 harg2 arg3 harg3 arg4 harg4 arg5 harg5 arg6 harg6 v3 v4 (harg1.unread x0) (harg2.unread x1) (flat q) ⟨k, hk⟩]
    show arg4.view.read (Elt F) (arg4.view.writes (Elt F) f (_ ++ _)) y = _
    rw [loop1_carry c i arg1 harg1 arg2 harg2 arg3 harg3 arg4 harg4 arg5 harg5 arg6 harg6 v3 v4 x0 x1 q k (by omega), trip1_stores c i arg1 harg1 arg2 harg2 arg3 harg3 arg4 harg4 arg5 harg5 arg6 harg6 v3 v4 x0 x1 ⟨k, hk⟩]
    refine read_two arg4.view f (fun r => (bscan (v3, v4) (rev256 x0) (rev256 x1) q (256 - r)).1) _ (k1_off1 ⟨k, hk⟩) (k1_off2 ⟨k, hk⟩) (255 - k)
      (k1_off1_eq _) (k1_off2_eq _) _ _ _ _ ?_ ?_ y fun hne => ?_
    · show _ = (bscan (v3, v4) (rev256 x0) (rev256 x1) q (256 - (255 - k))).1.1
      rw [e]; rfl
    · show _ = (bscan (v3, v4) (rev256 x0) (rev256 x1) q (256 - (255 - k))).1.2
      rw [e]; rfl
    · exact loop1_rows q f k (by omega) y (by omega)

end Loop

/-- A row of zeros. -/
def zeroRow : Pair F := (k1_pay3, k1_pay3)

/-- The recurrence's state after the 256 steps of one grid point, the sums counted from zero. -/
def bend (x2 : Vec F S1x4096 .f32) (x0 x1 : Vec F S256x4096 .f32) (p : Pair F) : BState F :=
  bscan (row1 x2) (rev256 x0) (rev256 x1) (p, zeroRow) 256

/-- The block of gradients of one grid point, entered in the state `p`. -/
def bblock (x2 : Vec F S1x4096 .f32) (x0 x1 : Vec F S256x4096 .f32) (p : Pair F) : Vec F S256x4096 .f32 :=
  join fun r => (bscan (row1 x2) (rev256 x0) (rev256 x1) (p, zeroRow) (256 - r)).1

/-- The two halves of eight rows. -/
def loRows (x : Vec F S8x4096 .f32) : Vec F S8x2048 .f32 := fun y => x (ix2 (y 0) ⟨(y 1).val, lt_trans (y 1).isLt (by decide)⟩)
def hiRows (x : Vec F S8x4096 .f32) : Vec F S8x2048 .f32 := fun y => x (ix2 (y 0) ⟨2048 + (y 1).val, by have : (y 1).val < 2048 := (y 1).isLt; omega⟩)

/-- A pair added to each of eight rows. -/
def addHalves (x : Vec F S8x4096 .f32) (d : Pair F) : Vec F S8x4096 .f32 := fun y =>
  if h : (y 1).val < 2048 then k1_pay12 d.1 (loRows x) (ix2 (y 0) (⟨(y 1).val, h⟩ : Fin 2048))
  else k1_pay13 d.2 (hiRows x) (ix2 (y 0) (⟨(y 1).val - 2048, by have : (y 1).val < 4096 := (y 1).isLt; omega⟩ : Fin 2048))

/-- The two halves of the zero row that the first grid point stores. -/
def zeroPair1 : Pair F := row1 (k1_pay1 (F := F))

section Eight

variable {sp : Space} (v : View sig .tc sp S8x4096 .f32) (f : v.ty.Contents (Elt F))

/-- A load of the left or the right half of all eight rows. -/
theorem view_loRows (inb : ∀ a, (![0, 0] : Fin 2 → ℕ) a + S8x2048.size a ≤ S8x4096.size a) :
    View.readAt (Elt F) v (Rect.unit (s := S8x4096) ![0, 0] S8x2048.size inb).toLoadRect f = loRows (v.read (Elt F) f) := by
  funext y
  refine congrArg (v.read (Elt F) f) (funext fun a => ?_)
  fin_cases a
  · exact Fin.ext (by show 0 + 1 * (y 0).val = (y 0).val; omega)
  · exact Fin.ext (by show 0 + 1 * (y 1).val = (y 1).val; omega)

theorem view_hiRows (inb : ∀ a, (![0, 2048] : Fin 2 → ℕ) a + S8x2048.size a ≤ S8x4096.size a) :
    View.readAt (Elt F) v (Rect.unit (s := S8x4096) ![0, 2048] S8x2048.size inb).toLoadRect f = hiRows (v.read (Elt F) f) := by
  funext y
  refine congrArg (v.read (Elt F) f) (funext fun a => ?_)
  fin_cases a
  · exact Fin.ext (by show 0 + 1 * (y 0).val = (y 0).val; omega)
  · exact Fin.ext (by show 2048 + 1 * (y 1).val = 2048 + (y 1).val; omega)

/-- A store into the left half leaves the right half. -/
theorem hiRows_store (L : List (View.Piece (Elt F) S8x4096 .f32)) (inb : ∀ a, (![0, 0] : Fin 2 → ℕ) a + S8x2048.size a ≤ S8x4096.size a) (w : Vec F S8x2048 .f32) :
    hiRows (v.read (Elt F) (v.writes (Elt F) f (⟨Rect.unit (s := S8x4096) ![0, 0] S8x2048.size inb, w⟩ :: L)))
      = hiRows (v.read (Elt F) (v.writes (Elt F) f L)) := by
  funext y
  unfold hiRows
  exact View.read_writes_cons_unit_of_not_mem v f inb w L _ rfl 1 (Or.inr (by show 0 + 2048 ≤ 2048 + (y 1).val; omega))

/-- What is read after a store into the left half and one into the right half. -/
theorem read_eight (x : Vec F S8x4096 .f32) (d : Pair F) (L : List (View.Piece (Elt F) S8x4096 .f32))
    (inb : ∀ a, (![0, 0] : Fin 2 → ℕ) a + S8x2048.size a ≤ S8x4096.size a) (inb' : ∀ a, (![0, 2048] : Fin 2 → ℕ) a + S8x2048.size a ≤ S8x4096.size a)
    (w w' : Vec F S8x2048 .f32) (hw : w = k1_pay12 d.1 (loRows x)) (hw' : w' = k1_pay13 d.2 (hiRows x)) :
    v.read (Elt F) (v.writes (Elt F) f (⟨Rect.unit (s := S8x4096) ![0, 2048] S8x2048.size inb', w'⟩
      :: ⟨Rect.unit (s := S8x4096) ![0, 0] S8x2048.size inb, w⟩ :: L)) = addHalves x d := by
  funext y
  have hy1 : (y 1).val < 4096 := (y 1).isLt
  unfold addHalves
  by_cases h : (y 1).val < 2048
  · rw [dif_pos h, View.read_writes_cons_unit_of_not_mem v f inb' w' _ y rfl 1 (Or.inl h),
      View.read_writes_cons_unit_of_mem v f inb w L y (ix2 (y 0) (⟨(y 1).val, h⟩ : Fin 2048)) rfl
        (Fin.forall_fin_two.mpr ⟨(Nat.zero_add _).symm, (Nat.zero_add _).symm⟩), hw]
  · rw [dif_neg h, View.read_writes_cons_unit_of_mem v f inb' w' _ y (ix2 (y 0) (⟨(y 1).val - 2048, by omega⟩ : Fin 2048)) rfl
        (Fin.forall_fin_two.mpr ⟨(Nat.zero_add _).symm, by show (y 1).val = 2048 + ((y 1).val - 2048); omega⟩), hw']

end Eight

set_option maxHeartbeats 1000000 in
/-- A later grid point: from a scratch row `xs` and sums `acc`. -/
theorem run1_B (c : Dev nD) (i : grid1.Coords) (arg1 : Memref sig .tc .vmem S256x4096 .f32) (harg1 : arg1.IsWhole) (arg2 : Memref sig .tc .vmem S256x4096 .f32) (harg2 : arg2.IsWhole) (arg3 : Memref sig .tc .vmem S1x4096 .f32) (harg3 : arg3.IsWhole) (arg4 : Memref sig .tc .vmem S256x4096 .f32) (harg4 : arg4.IsWhole) (arg5 : Memref sig .tc .vmem S8x4096 .f32) (harg5 : arg5.IsWhole) (arg6 : Memref sig .tc .vmem S1x4096 .f32) (harg6 : arg6.IsWhole) (hc : ¬first1 i)
    (x0 x1 : Vec F S256x4096 .f32) (x2 xs : Vec F S1x4096 .f32) (acc : Vec F S8x4096 .f32) (E : Set ℕ) (K : PUnit → sProp 𝕄) :
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare acc ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare (bblock x2 x0 x1 (row1 xs)) ∗ owns (c : Thread nD τ) arg5 fullShare (addHalves acc (bend x2 x0 x1 (row1 xs)).2) ∗ owns (c : Thread nD τ) arg6 fullShare (join fun _ => (bend x2 x0 x1 (row1 xs)).1)) -∗ K ⟨⟩))
          ⊢ wp frame (wpE (defs₀ (F := F)) Variants.none c none) E (cc1_ssm_scan_bwd_fwd i arg1 harg1 arg2 harg2 arg3 harg3 arg4 harg4 arg5 harg5 arg6 harg6) K := by
  simp only [cc1_ssm_scan_bwd_fwd_eq_skeleton]; unfold cc1_ssm_scan_bwd_fwd_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, ⟨%f4, %hf4, H4⟩, ⟨%fs, %hfs, HS⟩, Hk⟩
  obtain rfl := harg1.eq_unread hf0; obtain rfl := harg2.eq_unread hf1; obtain rfl := harg3.eq_unread hf2
  obtain rfl := harg5.eq_unread hf4; obtain rfl := harg6.eq_unread hfs
  sl_exec (disch := first | sl_exact hc)
  simp only [bind_assoc]
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    rw [load_lo harg3 (by decide) x2 ![0, 0] 0 (by decide) rfl, load_hi harg3 (by decide) x2 ![0, 2048] 0 (by decide) rfl,
      load_lo harg6 (by decide) xs ![0, 0] 0 (by decide) rfl, load_hi harg6 (by decide) xs ![0, 2048] 0 (by decide) rfl]
    funext y
    exact loop1_rows c i arg1 harg1 arg2 harg2 arg3 harg3 arg4 harg4 arg5 harg5 arg6 harg6 _ _ x0 x1 ((row1 xs), zeroRow) f3 256 le_rfl y (by omega)
  isplitl [H4]
  · iexists _; isplitr
    swap; · iexact H4
    ipureintro
    rw [load_lo harg3 (by decide) x2 ![0, 0] 0 (by decide) rfl, load_hi harg3 (by decide) x2 ![0, 2048] 0 (by decide) rfl,
      load_lo harg6 (by decide) xs ![0, 0] 0 (by decide) rfl, load_hi harg6 (by decide) xs ![0, 2048] 0 (by decide) rfl]
    refine read_eight arg5.view _ _ _ _ _ _ _ _ ?_ ?_
    · refine congrArg₂ k1_pay12 ?_ ?_
      · exact congrArg (fun q => q.2.2.1) (loop1_carry c i arg1 harg1 arg2 harg2 arg3 harg3 arg4 harg4 arg5 harg5 arg6 harg6 _ _ x0 x1 ((row1 xs), zeroRow) 256 le_rfl)
      · rw [view_loRows, harg5.read_unread]
    · refine congrArg₂ k1_pay13 ?_ ?_
      · exact congrArg (fun q => q.2.2.2) (loop1_carry c i arg1 harg1 arg2 harg2 arg3 harg3 arg4 harg4 arg5 harg5 arg6 harg6 _ _ x0 x1 ((row1 xs), zeroRow) 256 le_rfl)
      · unfold run1_B.sl.x
        rw [view_hiRows, harg5.read_unread]
  iexists _; isplitr
  swap; · iexact HS
  ipureintro
  rw [load_lo harg3 (by decide) x2 ![0, 0] 0 (by decide) rfl, load_hi harg3 (by decide) x2 ![0, 2048] 0 (by decide) rfl,
    load_lo harg6 (by decide) xs ![0, 0] 0 (by decide) rfl, load_hi harg6 (by decide) xs ![0, 2048] 0 (by decide) rfl]
  funext y
  refine read_two arg6.view _ (fun _ => (bend x2 x0 x1 (row1 xs)).1) _ ![0, 0] ![0, 2048] 0 rfl rfl _ _ _ _ ?_ ?_ y
    fun hne => absurd (Nat.lt_one_iff.mp (y 0).isLt) hne
  · unfold k1_pay10
    rw [shapeCast_self]
    exact congrArg (fun q => q.1) (loop1_carry c i arg1 harg1 arg2 harg2 arg3 harg3 arg4 harg4 arg5 harg5 arg6 harg6 _ _ x0 x1 ((row1 xs), zeroRow) 256 le_rfl)
  · unfold k1_pay11
    rw [shapeCast_self]
    exact congrArg (fun q => q.2.1) (loop1_carry c i arg1 harg1 arg2 harg2 arg3 harg3 arg4 harg4 arg5 harg5 arg6 harg6 _ _ x0 x1 ((row1 xs), zeroRow) 256 le_rfl)

set_option maxHeartbeats 1000000 in
/-- The first grid point: whatever the scratch row and the sums held, both start from zero. -/
theorem run1_A (c : Dev nD) (i : grid1.Coords) (arg1 : Memref sig .tc .vmem S256x4096 .f32) (harg1 : arg1.IsWhole) (arg2 : Memref sig .tc .vmem S256x4096 .f32) (harg2 : arg2.IsWhole) (arg3 : Memref sig .tc .vmem S1x4096 .f32) (harg3 : arg3.IsWhole) (arg4 : Memref sig .tc .vmem S256x4096 .f32) (harg4 : arg4.IsWhole) (arg5 : Memref sig .tc .vmem S8x4096 .f32) (harg5 : arg5.IsWhole) (arg6 : Memref sig .tc .vmem S1x4096 .f32) (harg6 : arg6.IsWhole) (hc : first1 i)
    (x0 x1 : Vec F S256x4096 .f32) (x2 : Vec F S1x4096 .f32) (E : Set ℕ) (K : PUnit → sProp 𝕄) :
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare (bblock x2 x0 x1 zeroPair1) ∗ owns (c : Thread nD τ) arg5 fullShare (addHalves (k1_pay2 (F := F)) (bend x2 x0 x1 zeroPair1).2) ∗ owns (c : Thread nD τ) arg6 fullShare (join fun _ => (bend x2 x0 x1 zeroPair1).1)) -∗ K ⟨⟩))
          ⊢ wp frame (wpE (defs₀ (F := F)) Variants.none c none) E (cc1_ssm_scan_bwd_fwd i arg1 harg1 arg2 harg2 arg3 harg3 arg4 harg4 arg5 harg5 arg6 harg6) K := by
  simp only [cc1_ssm_scan_bwd_fwd_eq_skeleton]; unfold cc1_ssm_scan_bwd_fwd_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, ⟨%d4, %f4, -, H4⟩, ⟨%ds, %fs, -, HS⟩, Hk⟩
  obtain rfl := harg1.eq_unread hf0; obtain rfl := harg2.eq_unread hf1; obtain rfl := harg3.eq_unread hf2
  sl_exec (disch := first | sl_exact hc)
  simp only [bind_assoc]
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  have hz : run1_A.sl.v6 (F := F) c arg6 = zeroPair1.1 ∧ run1_A.sl.v7 (F := F) c arg6 = zeroPair1.2 := by
    unfold run1_A.sl.v6 run1_A.sl.v7 run1_A.sl.HS_1
    unfold View.readCov
    rw [view_lo arg6.view _ (by decide) ![0, 0] 0 (by decide) rfl, view_hi arg6.view _ (by decide) ![0, 2048] 0 (by decide) rfl,
      View.read_writes_full]
    exact ⟨rfl, rfl⟩
  isplitl [H3]
  · iexists _; isplitr
    swap; · iexact H3
    ipureintro
    rw [load_lo harg3 (by decide) x2 ![0, 0] 0 (by decide) rfl, load_hi harg3 (by decide) x2 ![0, 2048] 0 (by decide) rfl, hz.1, hz.2]
    funext y
    exact loop1_rows c i arg1 harg1 arg2 harg2 arg3 harg3 arg4 harg4 arg5 harg5 arg6 harg6 _ _ x0 x1 (zeroPair1, zeroRow) f3 256 le_rfl y (by omega)
  isplitl [H4]
  · iexists _; isplitr
    swap; · iexact H4
    ipureintro
    unfold run1_A.sl.H4_2
    rw [load_lo harg3 (by decide) x2 ![0, 0] 0 (by decide) rfl, load_hi harg3 (by decide) x2 ![0, 2048] 0 (by decide) rfl, hz.1, hz.2]
    refine read_eight arg5.view _ _ _ _ _ _ _ _ ?_ ?_
    · refine congrArg₂ k1_pay12 ?_ ?_
      · exact congrArg (fun q => q.2.2.1) (loop1_carry c i arg1 harg1 arg2 harg2 arg3 harg3 arg4 harg4 arg5 harg5 arg6 harg6 _ _ x0 x1 (zeroPair1, zeroRow) 256 le_rfl)
      · unfold run1_A.sl.x
        unfold View.readCov
        rw [view_loRows, View.read_writes_full]
    · refine congrArg₂ k1_pay13 ?_ ?_
      · exact congrArg (fun q => q.2.2.2) (loop1_carry c i arg1 harg1 arg2 harg2 arg3 harg3 arg4 harg4 arg5 harg5 arg6 harg6 _ _ x0 x1 (zeroPair1, zeroRow) 256 le_rfl)
      · unfold run1_A.sl.x_1 run1_A.sl.H4_2
        unfold View.readCov
        rw [view_hiRows]
        exact (hiRows_store arg5.view _ _ _ _).trans (by rw [View.read_writes_full])
  iexists _; isplitr
  swap; · iexact HS
  ipureintro
  rw [load_lo harg3 (by decide) x2 ![0, 0] 0 (by decide) rfl, load_hi harg3 (by decide) x2 ![0, 2048] 0 (by decide) rfl, hz.1, hz.2]
  funext y
  refine read_two arg6.view _ (fun _ => (bend x2 x0 x1 zeroPair1).1) _ ![0, 0] ![0, 2048] 0 rfl rfl _ _ _ _ ?_ ?_ y
    fun hne => absurd (Nat.lt_one_iff.mp (y 0).isLt) hne
  · unfold k1_pay10
    rw [shapeCast_self]
    exact congrArg (fun q => q.1) (loop1_carry c i arg1 harg1 arg2 harg2 arg3 harg3 arg4 harg4 arg5 harg5 arg6 harg6 _ _ x0 x1 (zeroPair1, zeroRow) 256 le_rfl)
  · unfold k1_pay11
    rw [shapeCast_self]
    exact congrArg (fun q => q.2.1) (loop1_carry c i arg1 harg1 arg2 harg2 arg3 harg3 arg4 harg4 arg5 harg5 arg6 harg6 _ _ x0 x1 (zeroPair1, zeroRow) 256 le_rfl)

end Cert.KernelIdeal.Scan
-- ==== Proof.Scan.Region1.lean ====
/- The gradient's call: what it leaves in its arrays, grid point by grid point. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.Scan.Body1
public import Idealize.ShloMosaic.Lib.WritesUnit
public import Idealize.ShloMosaic.Lib.WholeRead
public import Idealize.ShloMosaic.Lib.VecWindow
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

section Region1

/- The arrays as the call finds them. -/
variable (V : (c : Dev nD) → (b : Ref sig .tc) → Buf (Elt F) ((c : Thread nD τ).loc b))

/-- The block of window `w` at grid point `t`. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The grid point numbered `n`. -/
def pt1 (n : ℕ) : Fin cfg1.N := ⟨n % cfg1.N, Nat.mod_lt _ (by rw [show cfg1.N = 17 from N_1]; decide)⟩
theorem pt1_val (t : Fin cfg1.N) : pt1 t.val = t := Fin.ext (Nat.mod_eq_of_lt t.isLt)

/-- The kernel's condition holds at the first grid point alone. -/
theorem first1_iff : ∀ t : Fin cfg1.N, first1 (grid1.coords t) ↔ t.val % 17 = 0 :=
  (fun t => by
    have ht : t.val < 17 := Nat.lt_of_lt_of_eq t.isLt N_1
    have e0 : (grid1.coords t 0).val = t.val / 1 % 17 := Pipeline.Grid.coords_val t 0 (by decide) rfl
    simp only [first1, e0]
    word_cmp
   : ∀ t : Fin grid1.N, first1 (grid1.coords t) ↔ t.val % 17 = 0)

/-- The gradient's state before grid point `n`, and the sums up to there. -/
def st1 (c : Dev nD) : ℕ → Pair F
  | 0 => zeroPair1
  | n + 1 => (bend (blk1 V c 2 (pt1 n)) (blk1 V c 0 (pt1 n)) (blk1 V c 1 (pt1 n)) (st1 c n)).1

def acc1 (c : Dev nD) : ℕ → Vec F S8x4096 .f32
  | 0 => k1_pay2
  | n + 1 => addHalves (acc1 c n) (bend (blk1 V c 2 (pt1 n)) (blk1 V c 0 (pt1 n)) (blk1 V c 1 (pt1 n)) (st1 V c n)).2

/- Each window's staging buffer at point `t`, and that it is a whole buffer. -/
abbrev stg1_0 (t : Fin cfg1.N) : Memref sig .tc .vmem S256x4096 .f32 := win1_0.stage (cfg1.slots t 0)
theorem whole1_0 (t : Fin cfg1.N) : (stg1_0 t).IsWhole := hstage1_0 ((cfg1.slots t 0).cast nbuf1_0)
abbrev stg1_1 (t : Fin cfg1.N) : Memref sig .tc .vmem S256x4096 .f32 := win1_1.stage (cfg1.slots t 1)
theorem whole1_1 (t : Fin cfg1.N) : (stg1_1 t).IsWhole := hstage1_1 ((cfg1.slots t 1).cast nbuf1_1)
abbrev stg1_2 (t : Fin cfg1.N) : Memref sig .tc .vmem S1x4096 .f32 := win1_2.stage (cfg1.slots t 2)
theorem whole1_2 (t : Fin cfg1.N) : (stg1_2 t).IsWhole := hstage1_2 ((cfg1.slots t 2).cast nbuf1_2)
abbrev stg1_3 (t : Fin cfg1.N) : Memref sig .tc .vmem S256x4096 .f32 := win1_3.stage (cfg1.slots t 3)
theorem whole1_3 (t : Fin cfg1.N) : (stg1_3 t).IsWhole := hstage1_3 ((cfg1.slots t 3).cast nbuf1_3)
abbrev stg1_4 (t : Fin cfg1.N) : Memref sig .tc .vmem S8x4096 .f32 := win1_4.stage (cfg1.slots t 4)
theorem whole1_4 (t : Fin cfg1.N) : (stg1_4 t).IsWhole := hstage1_4 ((cfg1.slots t 4).cast nbuf1_4)

/-- The scratch row. -/
abbrev scr1 : Memref sig .tc .vmem S1x4096 .f32 := Memref.whole cc1_scratch0

/-- The other call's buffers at any contents, beside what is said of this call's scratch row. -/
def rest1 (c : Dev nD) (X : sProp 𝕄) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ X)

/-- What passes from point to point: before the first the scratch row at any contents, before point `n` at the state there. -/
def Phi1 (c : Dev nD) (n : ℕ) : sProp 𝕄 :=
  iprop(rest1 c (if n = 0 then iprop(∃ d, owns (c : Thread nD τ) scr1 fullShare d) else owns (c : Thread nD τ) scr1 fullShare (join fun _ => st1 V c n)) ∗ (∃ r, prngReg c r))

theorem Phi1_zero (c : Dev nD) : Phi1 V c 0 = Pipeline.ΦA spec1 c := by
  unfold Phi1 rest1 Pipeline.ΦA
  rw [if_pos rfl, scopedRest1_eq]; simp only [scr1, owns_whole]; try rfl

theorem Phi1_pos (c : Dev nD) (n : ℕ) (h : n ≠ 0) :
    Phi1 V c n = iprop(rest1 c (owns (c : Thread nD τ) scr1 fullShare (join fun _ => st1 V c n)) ∗ (∃ r, prngReg c r)) := by
  unfold Phi1; rw [if_neg h]

theorem Phi1_forget (c : Dev nD) (n : ℕ) (h : n ≠ 0) : Phi1 V c n ⊢ Pipeline.ΦA spec1 c := by
  rw [Phi1_pos V c n h, ← Phi1_zero V c]
  unfold Phi1 rest1
  rw [if_pos rfl]
  iintro ⟨⟨HR0, HR1, HR2, HR3, HR4, HR5, HS⟩, Hg⟩
  isplitr [Hg]
  swap; · iexact Hg
  isplitl [HR0]
  · iexact HR0
  isplitl [HR1]
  · iexact HR1
  isplitl [HR2]
  · iexact HR2
  isplitl [HR3]
  · iexact HR3
  isplitl [HR4]
  · iexact HR4
  isplitl [HR5]
  · iexact HR5
  iexists _; iexact HS

/-- What the call does to its arrays: the inputs' blocks stay, the results' blocks are the body's. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => bblock (blk1 V c 2 t) (blk1 V c 0 t) (blk1 V c 1 t) (st1 V c t.val)
    | ⟨4, _⟩ => acc1 V c (t.val + 1)
  Φ t := Phi1 V c t.val
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = bblock (blk1 V c 2 t) (blk1 V c 0 t) (blk1 V c 1 t) (st1 V c t.val) := by dsimp only [dat1]
theorem after1_4 (c : Dev nD) (t : Fin cfg1.N) : (dat1 V c).after 4 t = acc1 V c (t.val + 1) := by dsimp only [dat1]

/- Before the body each input's staging buffer holds its block. -/
theorem before1_0 (c : Dev nD) (t : Fin cfg1.N) (d) : (dat1 V c).before 0 t d = blk1 V c 0 t :=
  ((dat1 V c).before_in_eq_fetched 0 rfl (fun _ => rfl) (fun _ _ _ => rfl) (fun t => by rw [after1_0]; unfold Dat.blockOf blk1; rw [A_eq1]; try rfl) t d).trans
    (by unfold Dat.fetched Dat.blockOf blk1; rw [A_eq1]; try rfl)
theorem before1_1 (c : Dev nD) (t : Fin cfg1.N) (d) : (dat1 V c).before 1 t d = blk1 V c 1 t :=
  ((dat1 V c).before_in_eq_fetched 1 rfl (fun _ => rfl) (fun _ _ _ => rfl) (fun t => by rw [after1_1]; unfold Dat.blockOf blk1; rw [A_eq1]; try rfl) t d).trans
    (by unfold Dat.fetched Dat.blockOf blk1; rw [A_eq1]; try rfl)
theorem before1_2 (c : Dev nD) (t : Fin cfg1.N) (d) : (dat1 V c).before 2 t d = blk1 V c 2 t :=
  ((dat1 V c).before_in_eq_fetched 2 rfl (fun _ => rfl) (fun _ _ _ => rfl) (fun t => by rw [after1_2]; unfold Dat.blockOf blk1; rw [A_eq1]; try rfl) t d).trans
    (by unfold Dat.fetched Dat.blockOf blk1; rw [A_eq1]; try rfl)
/-- After the first point the sums' staging buffer still holds what the point before left. -/
theorem before1_4 (c : Dev nD) (t : Fin cfg1.N) (h0 : t.val ≠ 0) (d) : (dat1 V c).before 4 t d = acc1 V c t.val := by
  have hN : t.val < 17 := lt_of_lt_of_eq t.isLt (show cfg1.N = 17 from N_1)
  rw [Dat.before_out_kept _ 4 rfl t (by omega) (Bool.eq_false_iff.mpr fun h => by have := (flush1_4 _).mp h; dsimp only at this; omega)
    (fun _ => rfl) (fun _ _ => rfl)]
  rw [after1_4]
  show acc1 V c (t.val - 1 + 1) = _
  rw [Nat.sub_add_cancel (by omega)]

/- What the body is given at point `t`, and what it gives back. -/
def pre1 (c : Dev nD) (t : Fin cfg1.N) : sProp 𝕄 :=
  iprop((dat1 V c).Φ t.castSucc ∗ (dat1 V c).owesAt () t.castSucc
    ∗ (∃ d, owns (c : Thread nD τ) (stg1_0 t) fullShare ((dat1 V c).before 0 t d))
    ∗ (∃ d, owns (c : Thread nD τ) (stg1_1 t) fullShare ((dat1 V c).before 1 t d))
    ∗ (∃ d, owns (c : Thread nD τ) (stg1_2 t) fullShare ((dat1 V c).before 2 t d))
    ∗ (∃ d, owns (c : Thread nD τ) (stg1_3 t) fullShare ((dat1 V c).before 3 t d))
    ∗ (∃ d, owns (c : Thread nD τ) (stg1_4 t) fullShare ((dat1 V c).before 4 t d)))

def post1 (c : Dev nD) (t : Fin cfg1.N) : sProp 𝕄 :=
  iprop((dat1 V c).Φ t.succ ∗ (dat1 V c).owesAt () t.succ
    ∗ owns (c : Thread nD τ) (stg1_0 t) fullShare ((dat1 V c).after 0 t)
    ∗ owns (c : Thread nD τ) (stg1_1 t) fullShare ((dat1 V c).after 1 t)
    ∗ owns (c : Thread nD τ) (stg1_2 t) fullShare ((dat1 V c).after 2 t)
    ∗ owns (c : Thread nD τ) (stg1_3 t) fullShare ((dat1 V c).after 3 t)
    ∗ owns (c : Thread nD τ) (stg1_4 t) fullShare ((dat1 V c).after 4 t))

set_option maxHeartbeats 800000 in
/-- The body at any point. -/
theorem sound1 (c : Dev nD) (t : Fin cfg1.N) :
    pre1 V c t ⊢ wp frame (wpE (defs₀ (F := F)) Variants.none c none) Set.univ (bodyAt1 t) (fun _ => post1 V c t) := by
  have hN : t.val < 17 := lt_of_lt_of_eq t.isLt (show cfg1.N = 17 from N_1)
  unfold pre1 post1 bodyAt1
  simp only [before1_0, before1_1, before1_2]
  rw [show (dat1 V c).Φ t.succ = Phi1 V c (t.val + 1) from rfl, show (dat1 V c).Φ t.castSucc = Phi1 V c t.val from rfl,
    show (dat1 V c).owesAt () t.succ = (dat1 V c).owesAt () t.castSucc from rfl,
    after1_0, after1_1, after1_2, after1_3, after1_4, Phi1_pos V c (t.val + 1) (Nat.succ_ne_zero _)]
  rw [st1, acc1, pt1_val]
  by_cases h0 : t.val = 0
  · have hc : first1 (grid1.coords t) := (first1_iff t).mpr (by omega)
    have hp : st1 V c t.val = zeroPair1 := by rw [h0]; rfl
    have ha : acc1 V c t.val = k1_pay2 := by rw [h0]; rfl
    rw [hp, ha, show Phi1 V c t.val = Phi1 V c 0 by rw [h0]]
    unfold Phi1 rest1
    rw [if_pos rfl]
    iintro ⟨⟨⟨HR0, HR1, HR2, HR3, HR4, HR5, HS⟩, Hg⟩, Ho, ⟨%d0, H0⟩, ⟨%d1, H1⟩, ⟨%d2, H2⟩, ⟨%d3, H3⟩, ⟨%d4, H4⟩⟩
    iapply (run1_A c (grid1.coords t) _ (whole1_0 t) _ (whole1_1 t) _ (whole1_2 t) _ (whole1_3 t) _ (whole1_4 t) scr1 (Memref.isWhole_whole _) hc (blk1 V c 0 t) (blk1 V c 1 t) (blk1 V c 2 t) Set.univ _)
    isplitl [H0]; · iexact H0
    isplitl [H1]; · iexact H1
    isplitl [H2]; · iexact H2
    isplitl [H3]; · iexists _; iexact H3
    isplitl [H4]; · iexists _; iexact H4
    isplitl [HS]; · iexact HS
    iintro ⟨H0, H1, H2, H3, H4, HS⟩
    isplitl [HR0 HR1 HR2 HR3 HR4 HR5 HS Hg]
    · isplitr [Hg]
      swap; · iexact Hg
      isplitl [HR0]
      · iexact HR0
      isplitl [HR1]
      · iexact HR1
      isplitl [HR2]
      · iexact HR2
      isplitl [HR3]
      · iexact HR3
      isplitl [HR4]
      · iexact HR4
      isplitl [HR5]
      · iexact HR5
      iexact HS
    isplitl [Ho]; · iexact Ho
    isplitl [H0]; · iexact H0
    isplitl [H1]; · iexact H1
    isplitl [H2]; · iexact H2
    isplitl [H3]; · iexact H3
    iexact H4
  · have hc : ¬first1 (grid1.coords t) := fun h => h0 (by have := (first1_iff t).mp h; omega)
    rw [Phi1_pos V c t.val h0]
    simp only [before1_4 V c t h0]
    unfold rest1
    have hr : row1 (join fun _ => st1 V c t.val) = st1 V c t.val := rows_join _ _ 0 (by decide)
    iintro ⟨⟨⟨HR0, HR1, HR2, HR3, HR4, HR5, HS⟩, Hg⟩, Ho, ⟨%d0, H0⟩, ⟨%d1, H1⟩, ⟨%d2, H2⟩, ⟨%d3, H3⟩, ⟨%d4, H4⟩⟩
    have hrun := run1_B c (grid1.coords t) _ (whole1_0 t) _ (whole1_1 t) _ (whole1_2 t) _ (whole1_3 t) _ (whole1_4 t) scr1 (Memref.isWhole_whole _) hc (blk1 V c 0 t) (blk1 V c 1 t) (blk1 V c 2 t) (join fun _ => st1 V c t.val) (acc1 V c t.val) Set.univ
    rw [hr] at hrun
    iapply (hrun _)
    isplitl [H0]; · iexact H0
    isplitl [H1]; · iexact H1
    isplitl [H2]; · iexact H2
    isplitl [H3]; · iexists _; iexact H3
    isplitl [H4]; · iexact H4
    isplitl [HS]; · iexact HS
    iintro ⟨H0, H1, H2, H3, H4, HS⟩
    isplitl [HR0 HR1 HR2 HR3 HR4 HR5 HS Hg]
    · isplitr [Hg]
      swap; · iexact Hg
      isplitl [HR0]
      · iexact HR0
      isplitl [HR1]
      · iexact HR1
      isplitl [HR2]
      · iexact HR2
      isplitl [HR3]
      · iexact HR3
      isplitl [HR4]
      · iexact HR4
      isplitl [HR5]
      · iexact HR5
      iexact HS
    isplitl [Ho]; · iexact Ho
    isplitl [H0]; · iexact H0
    isplitl [H1]; · iexact H1
    isplitl [H2]; · iexact H2
    isplitl [H3]; · iexact H3
    iexact H4

theorem row_of_body1 (t : Fin cfg1.N) : defs₀ (F := F) .tc cfg1.body (cfg1.bodyArgs t (cfg1.slots t)) = bodyAt1 t := by
  unfold defs₀; rw [Defs.onTc_tc]

/-- The body does what `dat1` says, at every point. -/
theorem obligation1 (c : Dev nD) : BodyObligation (dat1 (F := F) V c) (defs₀ (F := F)) Variants.none () Set.univ := fun t => by
  rw [bigSep_W1, bigSep_W1, row_of_body1]
  exact triple_restated (sound1 V c t) rfl .rfl fun _ => .rfl

end Region1

end Cert.KernelIdeal.Scan
-- ==== Proof.Scan.Run.lean ====
/- The run of the two calls one after the other, and what it leaves in memory. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.Scan.Region0
public import proofs.«01_k».proof.Proof.Scan.Region1
public import Idealize.ShloMosaic.Lib.WritesUnit
public import Idealize.ShloMosaic.Lib.WholeRead
public import Idealize.ShloMosaic.Lib.VecWindow
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arrays that the program is given. -/
abbrev argRefs : List (Ref sig .tc) := [main_arg0, main_arg1, main_arg2]

/-- The memory at the start, after the first call, and after the second: each call changes its own arrays alone. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev V0 : (c : Dev nD) → (b : Ref sig .tc) → Buf (Elt F) ((c : Thread nD τ).loc b) := fun c b => W0 m ρ c b
/-- After the scan. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- What is no result of the scan's call stays. -/
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩
/-- No given array is a result of the scan's call. -/
theorem argsIn0 : ∀ a ∈ argRefs, ∀ w : Fin cfg0.W, Pipeline.arrRef spec0 w = a → (cfg0.win w).isOut = false :=
  ListAll.forall_mem_of_all_decide (by decide +kernel)
/-- The given arrays after the scan. -/
theorem W1_args (c : Dev nD) : ∀ a ∈ argRefs, W1 m ρ c (Proc.devRef .tc a) = m ((c : Thread nD τ).loc a) :=
  fun a ha => (W1_of m ρ c a (argsIn0 a ha)).trans (W0_args m ρ c a ha)
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the gradient. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- What is no result of the gradient's call stays. -/
theorem W2_of (c : Dev nD) (r : Ref sig .tc) (h : ∀ w : Fin cfg1.W, Pipeline.arrRef spec1 w = r → (cfg1.win w).isOut = false) :
    W2 m ρ c (Proc.devRef .tc r) = W1 m ρ c (Proc.devRef .tc r) := by
  by_cases hw : ∃ w : Fin cfg1.W, Pipeline.arrRef spec1 w = r
  · obtain ⟨w, rfl⟩ := hw
    exact (W2_arr m ρ c w).trans (((dat1 (V1 m ρ) c).arrAt_in w (h w rfl) _).trans (A_eq1 (V1 m ρ) c w))
  · exact W2_of_ne m ρ c r fun w e => hw ⟨w, e⟩
/-- No given array is a result of the gradient's call. -/
theorem argsIn1 : ∀ a ∈ argRefs, ∀ w : Fin cfg1.W, Pipeline.arrRef spec1 w = a → (cfg1.win w).isOut = false :=
  ListAll.forall_mem_of_all_decide (by decide +kernel)
/-- The given arrays after the gradient. -/
theorem W2_args (c : Dev nD) : ∀ a ∈ argRefs, W2 m ρ c (Proc.devRef .tc a) = m ((c : Thread nD τ).loc a) :=
  fun a ha => (W2_of m ρ c a (argsIn1 a ha)).trans (W1_args m ρ c a ha)
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

abbrev adm : (p : Fin 2) → (pcfgs (F := F) p).Adm := fun p => (cfgs p).toPCfg_adm
/-- The two calls, each from the memory that it finds. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
/-- No core waits for another. -/
abbrev L : GSem nD τ sig → Finset Unit := fun _ => ∅
abbrev lv : GSem nD τ sig → Unit → ℕ := fun _ _ => 0
/-- Beside the memory: the random generator's register, and that nothing is owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What holds at the end. -/
abbrev Tₙ (c : Dev nD) : sProp 𝕄 := iprop(StableHlo.held (c : Thread nD τ) (Pipeline.ucRefs τ sig) (W2 m ρ c) ∗ ∃ r, prngReg c r)

set_option backward.isDefEq.respectTransparency.types false in
/-- The scan's call takes the memory from `W0` to `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from Phi0_zero (V0 m ρ) c]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from Phi0_forget (V0 m ρ) c cfg0.N (by rw [show cfg0.N = 17 from N_0]; decide)).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The gradient's call takes the memory from `W1` to `W2`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) (A_eq1 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from Phi1_zero (V1 m ρ) c]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from Phi1_forget (V1 m ρ) c cfg1.N (by rw [show cfg1.N = 17 from N_1]; decide)).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's two parts in order. -/
abbrev segs : List (Pipeline.Seg (pcfgs (F := F)) adm (pdats m ρ) () defs₀ 𝒱₀ L lv) :=
  [ .region (reg0 m ρ),
    .region (reg1 m ρ) ]
/-- The program is these two parts. -/
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- Every run ends, nothing fails, the given arrays are as at the start, the two results hold what the second call wrote back, and every counter is zero. -/
theorem run : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.mem ((c.tc : Thread nD τ).loc main_v1_0) = (dat1 (V1 m ρ) c).arrAt 3 cfg1.N
      ∧ r.2.mem ((c.tc : Thread nD τ).loc main_v1_1) = (dat1 (V1 m ρ) c).arrAt 4 cfg1.N)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz => ⟨(fun c =>
      ⟨⟨(h c _ (mem_uc main_arg0 (by decide))).trans (W2_args m ρ c main_arg0 (by decide)),
       (h c _ (mem_uc main_arg1 (by decide))).trans (W2_args m ρ c main_arg1 (by decide)),
       (h c _ (mem_uc main_arg2 (by decide))).trans (W2_args m ρ c main_arg2 (by decide))⟩,
       (h c _ (mem_uc main_v1_0 (by decide))).trans (W2_arr m ρ c 3),
       (h c _ (mem_uc main_v1_1 (by decide))).trans (W2_arr m ρ c 4)⟩), funext fun g => hz g (.inr (no_unscoped g.2))⟩)

end Cert.KernelIdeal.Scan
-- ==== Proof.Scan.Blocks.lean ====
/-
  The blocks that the two calls read and write, in the coordinates of the whole arrays: point `n` of the scan takes rows
  `256 * n …`, point `n` of its gradient takes the rows `256 * (16 - n) …`.
-/
module

public import proofs.«01_k».proof.Proof.Scan.Run
public import Idealize.ShloMosaic.Lib.Pipeline.ValueKit.Geometry

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic Idealize.ShloMosaic.ValueIdx
open Idealize.ShloMosaic.Pipeline (Dat)

variable {F : FTy → Type} [FloatOps F]
variable (V : (c : Dev nD) → (b : Ref sig .tc) → Buf (Elt F) ((c : Thread nD τ).loc b)) (c : Dev nD)

theorem ix0_0 : ∀ t : Fin cfg0.N, win0_0.index t = ![t.val, 0] := (by decide +kernel : ∀ t : Fin grid0.N, win0_0.index t = ![t.val, 0])
theorem ix0_1 : ∀ t : Fin cfg0.N, win0_1.index t = ![0, 0] := (by decide +kernel : ∀ t : Fin grid0.N, win0_1.index t = ![0, 0])
theorem ix0_2 : ∀ t : Fin cfg0.N, win0_2.index t = ![t.val, 0] := (by decide +kernel : ∀ t : Fin grid0.N, win0_2.index t = ![t.val, 0])
theorem ix1_0 : ∀ t : Fin cfg1.N, win1_0.index t = ![16 - t.val, 0] := (by decide +kernel : ∀ t : Fin grid1.N, win1_0.index t = ![16 - t.val, 0])
theorem ix1_1 : ∀ t : Fin cfg1.N, win1_1.index t = ![16 - t.val, 0] := (by decide +kernel : ∀ t : Fin grid1.N, win1_1.index t = ![16 - t.val, 0])
theorem ix1_2 : ∀ t : Fin cfg1.N, win1_2.index t = ![0, 0] := (by decide +kernel : ∀ t : Fin grid1.N, win1_2.index t = ![0, 0])
theorem ix1_3 : ∀ t : Fin cfg1.N, win1_3.index t = ![16 - t.val, 0] := (by decide +kernel : ∀ t : Fin grid1.N, win1_3.index t = ![16 - t.val, 0])

/-- Row `r` of the block that point `n` of the scan reads. -/
theorem blk0_0_row (n : ℕ) (hn : n < 17) (r : ℕ) (hr : r < 256) :
    rows256 (blk0 V c 0 (pt0 n)) r = rows (n := 4352) (by decide) (V c main_arg0) (256 * n + r) := by
  have hp : (pt0 n).val = n := Nat.mod_eq_of_lt (lt_of_lt_of_eq hn N_0.symm)
  have e := ix0_0 (pt0 n)
  unfold rows lo hi
  refine Prod.ext ?_ ?_
  · funext y
    blk_simp [blk0]
    refine congrArg (V c main_arg0) ?_
    blk_ext [e, hp]
  · funext y
    blk_simp [blk0]
    refine congrArg (V c main_arg0) ?_
    blk_ext [e, hp]

/-- The coefficient row that a point of the scan reads. -/
theorem blk0_1_row (n : ℕ) : row1 (blk0 V c 1 (pt0 n)) = row1 (V c main_arg1) := by
  have e := ix0_1 (pt0 n)
  unfold row1 rows lo hi
  refine Prod.ext ?_ ?_
  · funext y
    blk_simp [blk0]
    refine congrArg (V c main_arg1) ?_
    blk_ext [e]
  · funext y
    blk_simp [blk0]
    refine congrArg (V c main_arg1) ?_
    blk_ext [e]

/-- Row `r`, counted from the last, of the block of the incoming gradient that point `n` reads. -/
theorem blk1_0_row (n : ℕ) (hn : n < 17) (r : ℕ) (hr : r < 256) :
    rev256 (blk1 V c 0 (pt1 n)) r = rows (n := 4352) (by decide) (V c main_arg2) (4351 - (256 * n + r)) := by
  have hp : (pt1 n).val = n := Nat.mod_eq_of_lt (lt_of_lt_of_eq hn N_1.symm)
  have e := ix1_0 (pt1 n)
  unfold rev256 rows256 rows lo hi
  refine Prod.ext ?_ ?_
  · funext y
    blk_simp [blk1]
    refine congrArg (V c main_arg2) ?_
    blk_ext [e, hp]
  · funext y
    blk_simp [blk1]
    refine congrArg (V c main_arg2) ?_
    blk_ext [e, hp]

/-- Row `r`, counted from the last, of the block of the scan's result that point `n` reads. -/
theorem blk1_1_row (n : ℕ) (hn : n < 17) (r : ℕ) (hr : r < 256) :
    rev256 (blk1 V c 1 (pt1 n)) r = rows (n := 4352) (by decide) (V c main_v0) (4351 - (256 * n + r)) := by
  have hp : (pt1 n).val = n := Nat.mod_eq_of_lt (lt_of_lt_of_eq hn N_1.symm)
  have e := ix1_1 (pt1 n)
  unfold rev256 rows256 rows lo hi
  refine Prod.ext ?_ ?_
  · funext y
    blk_simp [blk1]
    refine congrArg (V c main_v0) ?_
    blk_ext [e, hp]
  · funext y
    blk_simp [blk1]
    refine congrArg (V c main_v0) ?_
    blk_ext [e, hp]

/-- The coefficient row that a point of the gradient reads. -/
theorem blk1_2_row (n : ℕ) : row1 (blk1 V c 2 (pt1 n)) = row1 (V c main_arg1) := by
  have e := ix1_2 (pt1 n)
  unfold row1 rows lo hi
  refine Prod.ext ?_ ?_
  · funext y
    blk_simp [blk1]
    refine congrArg (V c main_arg1) ?_
    blk_ext [e]
  · funext y
    blk_simp [blk1]
    refine congrArg (V c main_arg1) ?_
    blk_ext [e]

/-! ## The scan's result -/

theorem join_congr {n n' : ℕ} (p p' : ℕ → Pair F) (y : (⟨2, ![n, 4096]⟩ : Shape).Idx) (y' : (⟨2, ![n', 4096]⟩ : Shape).Idx)
    (h1 : (y 1).val = (y' 1).val) (hp : p (y 0).val = p' (y' 0).val) : join p y = join p' y' := by
  have hy : (y 1).val < 4096 := (y 1).isLt
  by_cases h : (y 1).val < 2048
  · rw [join_lo p y _ (ix2 (0 : Fin 1) (⟨(y 1).val, h⟩ : Fin 2048)) rfl rfl,
      join_lo p' y' _ (ix2 (0 : Fin 1) (⟨(y 1).val, h⟩ : Fin 2048)) rfl h1.symm, hp]
  · rw [join_hi p y _ (ix2 (0 : Fin 1) (⟨(y 1).val - 2048, by omega⟩ : Fin 2048)) rfl (by show (y 1).val = 2048 + ((y 1).val - 2048); omega),
      join_hi p' y' _ (ix2 (0 : Fin 1) (⟨(y 1).val - 2048, by omega⟩ : Fin 2048)) rfl (by show (y' 1).val = 2048 + ((y 1).val - 2048); omega), hp]

/-- The state before row `k` of the whole scan. -/
def sseq (k : ℕ) : Pair F := fscan (row1 (V c main_arg1)) (rows (n := 4352) (by decide) (V c main_arg0)) zeroPair k

/-- The block's scan is a stretch of the whole. -/
theorem fscan_block (n : ℕ) (hn : n < 17) (k : ℕ) (hk : k ≤ 256) :
    fscan (row1 (blk0 V c 1 (pt0 n))) (rows256 (blk0 V c 0 (pt0 n))) (sseq V c (256 * n)) k = sseq V c (256 * n + k) := by
  unfold sseq
  rw [fscan_add, blk0_1_row]
  exact fscan_congr _ _ _ _ _ fun i hi => blk0_0_row V c n hn i (by omega)

theorem st0_eq : ∀ n, n ≤ 17 → st0 V c n = sseq V c (256 * n)
  | 0, _ => rfl
  | n + 1, h => by rw [st0, st0_eq n (by omega), fscan_block V c n (by omega) 256 le_rfl]; rfl

/-- Row `t` of the scan's result is the state after it. -/
theorem scan_result : (dat0 V c).arrAt 2 cfg0.N = join (n := 4352) fun t => sseq V c (t + 1) := by
  refine (dat0 V c).arrAt_eq_of_covers 2 _ (by decide +kernel) fun t hf y => ?_
  have ht : t.val < 17 := Nat.lt_of_lt_of_eq t.isLt N_0
  have e := ix0_2 t
  blk_simp
  rw [after0_2]
  have hy : (y 0).val < 256 := (y 0).isLt
  refine join_congr _ _ _ _ (by blk_simp [e]) ?_
  have hr : (((win0_2.blk t).view.emb y) 0).val = 256 * t.val + (y 0).val := by blk_simp [e]; simp; omega
  show fscan _ _ _ ((y 0).val + 1) = sseq V c ((((win0_2.blk t).view.emb y) 0).val + 1)
  rw [hr, st0_eq V c t.val (by omega)]
  have h := fscan_block V c t.val ht ((y 0).val + 1) (by omega)
  rw [pt0_val t] at h
  exact h

/-! ## The gradient's results -/

/-- The gradient's recurrence without the sums. -/
def lscan (a : Pair F) (g : ℕ → Pair F) (p : Pair F) : ℕ → Pair F
  | 0 => p
  | k + 1 => (k1_pay8 a.1 a.2 (lscan a g p k).1 (lscan a g p k).2 (g k).1, k1_pay9 a.1 a.2 (lscan a g p k).1 (lscan a g p k).2 (g k).2)

theorem bscan_fst (a : Pair F) (g s : ℕ → Pair F) (q : BState F) : ∀ k, (bscan a g s q k).1 = lscan a g q.1 k
  | 0 => rfl
  | k + 1 => by rw [bscan, bstep, lscan, bscan_fst a g s q k]

theorem lscan_congr (a : Pair F) (b b' : ℕ → Pair F) (p : Pair F) (k : ℕ) (h : ∀ i < k, b i = b' i) : lscan a b p k = lscan a b' p k := by
  induction k with
  | zero => rfl
  | succ k ih => rw [lscan, lscan, ih fun i hi => h i (Nat.lt_succ_of_lt hi), h k (Nat.lt_succ_self k)]

theorem lscan_add (a : Pair F) (b : ℕ → Pair F) (p : Pair F) (m k : ℕ) :
    lscan a b p (m + k) = lscan a (fun i => b (m + i)) (lscan a b p m) k := by
  induction k with
  | zero => rfl
  | succ k ih => rw [← Nat.add_assoc, lscan, ih, lscan]

/-- The gradient after `k` rows from the last. -/
def lseq (k : ℕ) : Pair F :=
  lscan (row1 (V c main_arg1)) (fun k => rows (n := 4352) (by decide) (V c main_arg2) (4351 - k)) zeroPair1 k

theorem lscan_block (n : ℕ) (hn : n < 17) (k : ℕ) (hk : k ≤ 256) :
    lscan (row1 (blk1 V c 2 (pt1 n))) (rev256 (blk1 V c 0 (pt1 n))) (lseq V c (256 * n)) k = lseq V c (256 * n + k) := by
  unfold lseq
  rw [lscan_add, blk1_2_row]
  exact lscan_congr _ _ _ _ _ fun i hi => blk1_0_row V c n hn i (by omega)

theorem st1_eq : ∀ n, n ≤ 17 → st1 V c n = lseq V c (256 * n)
  | 0, _ => rfl
  | n + 1, h => by
    rw [st1, bend, bscan_fst, st1_eq n (by omega), lscan_block V c n (by omega) 256 le_rfl]; rfl

/-- Row `t` of the gradient's first result. -/
theorem grad_result : (dat1 V c).arrAt 3 cfg1.N = join (n := 4352) fun t => lseq V c (4352 - t) := by
  refine (dat1 V c).arrAt_eq_of_covers 3 _ (by decide +kernel) fun t hf y => ?_
  have ht : t.val < 17 := Nat.lt_of_lt_of_eq t.isLt N_1
  have e := ix1_3 t
  blk_simp
  rw [after1_3]
  have hy : (y 0).val < 256 := (y 0).isLt
  refine join_congr _ _ _ _ (by blk_simp [e]) ?_
  have hr : (((win1_3.blk t).view.emb y) 0).val = 256 * (16 - t.val) + (y 0).val := by blk_simp [e]; simp; omega
  show (bscan _ _ _ _ (256 - (y 0).val)).1 = lseq V c (4352 - (((win1_3.blk t).view.emb y) 0).val)
  rw [hr, bscan_fst, st1_eq V c t.val (by omega)]
  rw [show 4352 - (256 * (16 - t.val) + (y 0).val) = 256 * t.val + (256 - (y 0).val) by omega]
  have h := lscan_block V c t.val ht (256 - (y 0).val) (by omega)
  rw [pt1_val t] at h
  exact h

/-- The gradient's second result is what the last point leaves in the sums. -/
theorem sum_result : (dat1 V c).arrAt 4 cfg1.N = acc1 V c 17 := by
  refine (dat1 V c).arrAt_eq_of_after_last 4 (⟨16, by decide +kernel⟩ : Fin grid1.N) (by decide +kernel) _ fun j => ?_
  exact congrFun (after1_4 V c (⟨16, by decide +kernel⟩ : Fin grid1.N)) j

end Cert.KernelIdeal.Scan

end
-- ==== Proof.Scan.Scalar.lean ====
/-
  The scan and its gradient at one column, over the extended reals: the state, the gradient with respect to the inputs, and the
  two groupings of the sum that is the gradient with respect to the coefficient.
-/
module

public import Mathlib.Data.EReal.Operations
public import Mathlib.Algebra.BigOperators.Intervals

@[expose] public section

noncomputable section

namespace Cert.Scalar

/-- The state before step `k`, from zero: `s ↦ a * s + b k` on complex numbers given as real and imaginary part. -/
def state (ar ai : EReal) (br bi : ℕ → EReal) : ℕ → EReal × EReal
  | 0 => (0, 0)
  | k + 1 => ((ar * (state ar ai br bi k).1 - ai * (state ar ai br bi k).2) + br k,
      (ar * (state ar ai br bi k).2 + ai * (state ar ai br bi k).1) + bi k)

/-- The gradient with respect to the input after `k` steps from the last row back: `l ↦ g k + conj a * l`. -/
def adj (ar ai : EReal) (gr gi : ℕ → EReal) : ℕ → EReal × EReal
  | 0 => (0, 0)
  | k + 1 => ((gr k + (adj ar ai gr gi k).1 * ar) + (adj ar ai gr gi k).2 * ai,
      (gi k + (adj ar ai gr gi k).2 * ar) - (adj ar ai gr gi k).1 * ai)

/-- What the reference carries to step `k`: the part of the gradient that reaches the state through the later steps. -/
def back (ar ai : EReal) (gr gi : ℕ → EReal) : ℕ → EReal × EReal
  | 0 => (0, 0)
  | k + 1 => (ai * ((back ar ai gr gi k).2 + gi k) + ar * ((back ar ai gr gi k).1 + gr k),
      ar * ((back ar ai gr gi k).2 + gi k) + ai * -((back ar ai gr gi k).1 + gr k))

/-- The carried part and the row of the incoming gradient make the gradient of the row. -/
theorem back_add (ar ai : EReal) (gr gi : ℕ → EReal) : ∀ k,
    (back ar ai gr gi k).1 + gr k = (adj ar ai gr gi (k + 1)).1 ∧ (back ar ai gr gi k).2 + gi k = (adj ar ai gr gi (k + 1)).2
  | 0 => by simp [back, adj]
  | k + 1 => by
    have h := back_add ar ai gr gi k
    constructor
    · rw [back, adj, h.1, h.2]
      show ai * _ + ar * _ + _ = _
      rw [add_comm, add_comm (ai * _), ← add_assoc, EReal.mul_comm ar, EReal.mul_comm ai]
    · rw [back, adj, h.1, h.2]
      show ar * _ + ai * -_ + _ = _
      rw [add_comm, ← add_assoc, EReal.mul_comm ar, mul_neg, EReal.mul_comm ai, ← sub_eq_add_neg]

/-- One term of the gradient of the coefficient: the conjugate of a state times a row's gradient. -/
def term (s l : EReal × EReal) : EReal × EReal := (s.1 * l.1 + s.2 * l.2, s.1 * l.2 - s.2 * l.1)

theorem term_zero_left (l : EReal × EReal) : term (0, 0) l = 0 := by simp [term]
theorem term_zero_right (s : EReal × EReal) : term s (0, 0) = 0 := by simp [term]

/-- The sum over the rows of the state before a row and the row's gradient is the sum of the state after a row and the
    gradient of the next row: the terms are the same but for one that is zero in either sum. -/
theorem sum_shift (S L : ℕ → EReal × EReal) (hS : S 0 = (0, 0)) (hL : L 0 = (0, 0)) (T : ℕ) :
    ∑ k ∈ Finset.range T, term (S (T - 1 - k)) (L (k + 1)) = ∑ k ∈ Finset.range T, term (S (T - k)) (L k) := by
  have h1 : ∑ k ∈ Finset.range (T + 1), term (S (T - k)) (L k) = ∑ k ∈ Finset.range T, term (S (T - k)) (L k) := by
    rw [Finset.sum_range_succ, Nat.sub_self, hS, term_zero_left, add_zero]
  rw [← h1, Finset.sum_range_succ', hL, term_zero_right, add_zero]
  exact Finset.sum_congr rfl fun k _ => by rw [Nat.sub_sub, Nat.add_comm 1 k]

end Cert.Scalar

end
-- ==== Proof.Scan.Cols.lean ====
/-
  The kernel's two results at one column and its partner, over the extended reals, as the scan and its gradient on numbers.
-/
module

public import proofs.«01_k».proof.Proof.Scan.Blocks
public import proofs.«01_k».proof.Proof.Scan.Scalar
public import Idealize.ShloMosaic.PureOps.Ideal.Laws
public import Idealize.ShloMosaic.Lib.ValueLayout

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic Idealize.ShloMosaic.ValueIdx
open Cert.Scalar

/-- Column `i` of a row of complex numbers. -/
def col (p : Pair Ideal) (i : Fin 2048) : EReal × EReal := (p.1 (ix2 0 i), p.2 (ix2 0 i))

theorem col_zero (i : Fin 2048) : col zeroPair i = (0, 0) := by
  have h : ∀ y, (k0_pay1 (F := Ideal)) y = (0 : EReal) := fun y => by
    unfold k0_pay1
    rw [shapeCast_self]
    exact Ideal.ofBits_zero_f32
  exact Prod.ext (h (ix2 0 ⟨i.val, lt_trans i.isLt (by decide)⟩)) (h (ix2 0 ⟨2048 + i.val, by have := i.isLt; omega⟩))
theorem col_zero1 (i : Fin 2048) : col zeroPair1 i = (0, 0) := by
  have h : ∀ y, (k1_pay1 (F := Ideal)) y = (0 : EReal) := fun y => by
    unfold k1_pay1
    rw [shapeCast_self]
    exact Ideal.ofBits_zero_f32
  exact Prod.ext (h (ix2 0 ⟨i.val, lt_trans i.isLt (by decide)⟩)) (h (ix2 0 ⟨2048 + i.val, by have := i.isLt; omega⟩))
theorem col_zeroRow (i : Fin 2048) : col zeroRow i = (0, 0) := by
  have h : ∀ y, (k1_pay3 (F := Ideal)) y = (0 : EReal) := fun y => Ideal.ofBits_zero_f32
  exact Prod.ext (h (ix2 0 i)) (h (ix2 0 i))

theorem pay2_apply (v3 v4 a6 a7 v : Vec Ideal S1x2048 .f32) (y : S1x2048.Idx) :
    (k0_pay2 v3 v4 a6 a7 v y : EReal) = ((v3 y : EReal) * (a6 y : EReal) - (v4 y : EReal) * (a7 y : EReal)) + (v y : EReal) := by
  rfl
theorem pay3_apply (v3 v4 a6 a7 v : Vec Ideal S1x2048 .f32) (y : S1x2048.Idx) :
    (k0_pay3 v3 v4 a6 a7 v y : EReal) = ((v3 y : EReal) * (a7 y : EReal) + (v4 y : EReal) * (a6 y : EReal)) + (v y : EReal) := by
  rfl
theorem pay6_apply (a8 a9 a10 s t : Vec Ideal S1x2048 .f32) (y : S1x2048.Idx) :
    (k1_pay6 a8 a9 a10 s t y : EReal) = ((a10 y : EReal) + (s y : EReal) * (a8 y : EReal)) + (t y : EReal) * (a9 y : EReal) := by
  unfold k1_pay6 k1_pay4 k1_pay5
  simp only [shapeCast_self]
  rfl
theorem pay7_apply (a8 a9 a11 s t : Vec Ideal S1x2048 .f32) (y : S1x2048.Idx) :
    (k1_pay7 a8 a9 a11 s t y : EReal) = ((a11 y : EReal) + (s y : EReal) * (a9 y : EReal)) - (t y : EReal) * (a8 y : EReal) := by
  unfold k1_pay7 k1_pay4 k1_pay5
  simp only [shapeCast_self]
  rfl
theorem pay8_apply (v3 v4 a8 a9 v : Vec Ideal S1x2048 .f32) (y : S1x2048.Idx) :
    (k1_pay8 v3 v4 a8 a9 v y : EReal) = ((v y : EReal) + (v3 y : EReal) * (a8 y : EReal)) + (v4 y : EReal) * (a9 y : EReal) := by
  rfl
theorem pay9_apply (v3 v4 a8 a9 v : Vec Ideal S1x2048 .f32) (y : S1x2048.Idx) :
    (k1_pay9 v3 v4 a8 a9 v y : EReal) = ((v y : EReal) + (v3 y : EReal) * (a9 y : EReal)) - (v4 y : EReal) * (a8 y : EReal) := by
  rfl

/-- The scan at a column. -/
theorem col_fscan (a : Pair Ideal) (b : ℕ → Pair Ideal) (i : Fin 2048) : ∀ k,
    col (fscan a b zeroPair k) i = state (col a i).1 (col a i).2 (fun k => (col (b k) i).1) (fun k => (col (b k) i).2) k
  | 0 => col_zero i
  | k + 1 => by
    have ih := col_fscan a b i k
    rw [state, ← ih]
    exact Prod.ext (pay2_apply ..) (pay3_apply ..)

/-- The gradient's recurrence at a column. -/
theorem col_lscan (a : Pair Ideal) (g : ℕ → Pair Ideal) (i : Fin 2048) : ∀ k,
    col (lscan a g zeroPair1 k) i = adj (col a i).1 (col a i).2 (fun k => (col (g k) i).1) (fun k => (col (g k) i).2) k
  | 0 => col_zero1 i
  | k + 1 => by
    have ih := col_lscan a g i k
    rw [adj, ← ih]
    refine Prod.ext ((pay8_apply ..).trans ?_) ((pay9_apply ..).trans ?_)
    · rw [EReal.mul_comm (a.1 _ : EReal), EReal.mul_comm (a.2 _ : EReal)]; rfl
    · rw [EReal.mul_comm (a.1 _ : EReal), EReal.mul_comm (a.2 _ : EReal)]; rfl

/-- The sums of one grid point at a column. -/
theorem col_bsum (a : Pair Ideal) (g s : ℕ → Pair Ideal) (p : Pair Ideal) (i : Fin 2048) : ∀ k,
    col (bscan a g s (p, zeroRow) k).2 i = ∑ j ∈ Finset.range k, term (col (s j) i) (col (lscan a g p j) i)
  | 0 => by rw [Finset.sum_range_zero]; exact col_zeroRow i
  | k + 1 => by
    rw [Finset.sum_range_succ, ← col_bsum a g s p i k, ← bscan_fst a g s (p, zeroRow) k]
    refine Prod.ext ((pay6_apply ..).trans ?_) ((pay7_apply ..).trans ?_)
    · exact add_assoc _ _ _
    · exact (sub_eq_add_neg _ _).trans ((add_assoc _ _ _).trans (congrArg _ (sub_eq_add_neg _ _).symm))

/-- Column `i` of row `q` of eight rows, with its partner. -/
def col8 (x : Vec Ideal S8x4096 .f32) (q : Fin 8) (i : Fin 2048) : EReal × EReal :=
  (x (ix2 q ⟨i.val, lt_trans i.isLt (by decide)⟩), x (ix2 q ⟨2048 + i.val, by have := i.isLt; omega⟩))

theorem pay12_apply (d : Vec Ideal S1x2048 .f32) (x : Vec Ideal S8x2048 .f32) (q : Fin 8) (i : Fin 2048) :
    (k1_pay12 d x (ix2 q i) : EReal) = (x (ix2 q i) : EReal) + (d (ix2 0 i) : EReal) := by
  unfold k1_pay12
  simp only [shapeCast_self]
  refine congrArg (fun z : EReal => (x (ix2 q i) : EReal) + z) ?_
  exact broadcastTo_1b_ab_apply d _ q i
theorem pay13_apply (d : Vec Ideal S1x2048 .f32) (x : Vec Ideal S8x2048 .f32) (q : Fin 8) (i : Fin 2048) :
    (k1_pay13 d x (ix2 q i) : EReal) = (x (ix2 q i) : EReal) + (d (ix2 0 i) : EReal) := by
  unfold k1_pay13
  simp only [shapeCast_self]
  refine congrArg (fun z : EReal => (x (ix2 q i) : EReal) + z) ?_
  exact broadcastTo_1b_ab_apply d _ q i

theorem col_addHalves (x : Vec Ideal S8x4096 .f32) (d : Pair Ideal) (q : Fin 8) (i : Fin 2048) :
    col8 (addHalves x d) q i = col8 x q i + col d i := by
  have hi := i.isLt
  refine Prod.ext ?_ ?_
  · show (addHalves x d _ : EReal) = _
    unfold addHalves
    rw [dif_pos (show ((ix2 q (⟨i.val, lt_trans i.isLt (by decide)⟩ : Fin 4096) : S8x4096.Idx) 1).val < 2048 from hi)]
    exact pay12_apply d.1 (loRows x) q i
  · show (addHalves x d _ : EReal) = _
    unfold addHalves
    rw [dif_neg (show ¬((ix2 q (⟨2048 + i.val, by omega⟩ : Fin 4096) : S8x4096.Idx) 1).val < 2048 from by show ¬(2048 + i.val < 2048); omega)]
    have e : (⟨2048 + i.val - 2048, by omega⟩ : Fin 2048) = i := Fin.ext (by show 2048 + i.val - 2048 = i.val; omega)
    refine Eq.trans ?_ (pay13_apply d.2 (hiRows x) q i)
    exact congrArg (fun z => (k1_pay13 d.2 (hiRows x) (ix2 q z) : EReal)) e

variable (V : (c : Dev nD) → (b : Ref sig .tc) → Buf (Elt Ideal) ((c : Thread nD τ).loc b)) (c : Dev nD)

/-- The sums after `n` grid points. -/
theorem col_acc (q : Fin 8) (i : Fin 2048) : ∀ n, n ≤ 17 → col8 (acc1 V c n) q i
    = ∑ j ∈ Finset.range (256 * n), term (col (rows (n := 4352) (by decide) (V c main_v0) (4351 - j)) i) (col (lseq V c j) i)
  | 0, _ => by
    rw [Nat.mul_zero, Finset.sum_range_zero]
    exact Prod.ext Ideal.ofBits_zero_f32 Ideal.ofBits_zero_f32
  | n + 1, h => by
    rw [acc1, col_addHalves, col_acc q i n (by omega), Nat.mul_succ, Finset.sum_range_add, bend, col_bsum]
    refine congrArg _ (Finset.sum_congr rfl fun k hk => ?_)
    have hk' := Finset.mem_range.mp hk
    rw [blk1_1_row V c n (by omega) k hk', st1_eq V c n (by omega), lscan_block V c n (by omega) k (by omega)]

end Cert.KernelIdeal.Scan

end
-- ==== Proof.Scan.RefOps.lean ====
/-
  The reference program as lists of host operations: the stretch before the first loop, the first loop's condition and body,
  the stretch between the loops, the second loop's condition and body, and the stretch after it.
-/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead

@[expose] public section

set_option maxRecDepth 100000

noncomputable section

namespace Cert.ReferenceIdeal.Scan

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.Sem
open Idealize.ShloMosaic.StableHlo

variable {F : FTy → Type} [FloatOps F]

/-- The host operations before the first loop. -/
abbrev preOps : List (HloOp τ sig (Elt F)) :=
  [ StableHlo.unary main_arg1 main_v0 ((extractStridedSlice S1x2048 ![0, 0] · slices_S1x4096_S1x2048_0_0) : (⟨S1x4096, .f32⟩ : BufTy).Contents (Elt F) → (⟨S1x2048, .f32⟩ : BufTy).Contents (Elt F)),
    StableHlo.reshape main_v0 main_v1 (rfl : (.f32 : EltTy) = .f32) shapeCasts_S1x2048_S2048,
    StableHlo.unary main_arg1 main_v2 ((extractStridedSlice S1x2048 ![0, 2048] · slices_S1x4096_S1x2048_0_2048) : (⟨S1x4096, .f32⟩ : BufTy).Contents (Elt F) → (⟨S1x2048, .f32⟩ : BufTy).Contents (Elt F)),
    StableHlo.reshape main_v2 main_v3 (rfl : (.f32 : EltTy) = .f32) shapeCasts_S1x2048_S2048,
    StableHlo.nullary main_cst (constant S_ .f32 0x00000000#32),
    StableHlo.unary main_cst main_v4 (broadcastInDim S2048 ![] bcast_S_S2048 : (⟨S_, .f32⟩ : BufTy).Contents (Elt F) → (⟨S2048, .f32⟩ : BufTy).Contents (Elt F)),
    StableHlo.nullary main_cst_0 (constant S_ .f32 0x00000000#32),
    StableHlo.unary main_cst_0 main_v5 (broadcastInDim S4352x4096 ![] bcast_S_S4352x4096 : (⟨S_, .f32⟩ : BufTy).Contents (Elt F) → (⟨S4352x4096, .f32⟩ : BufTy).Contents (Elt F)),
    StableHlo.nullary main_cst_1 (constant S_ .f32 0x00000000#32),
    StableHlo.unary main_cst_1 main_v6 (broadcastInDim S4352x2048 ![] bcast_S_S4352x2048 : (⟨S_, .f32⟩ : BufTy).Contents (Elt F) → (⟨S4352x2048, .f32⟩ : BufTy).Contents (Elt F)),
    StableHlo.nullary main_cst_2 (constant S_ .f32 0x00000000#32),
    StableHlo.unary main_cst_2 main_v7 (broadcastInDim S4352x2048 ![] bcast_S_S4352x2048 : (⟨S_, .f32⟩ : BufTy).Contents (Elt F) → (⟨S4352x2048, .f32⟩ : BufTy).Contents (Elt F)),
    StableHlo.nullary main_c (constantI S_ 32 0#32),
    StableHlo.unary main_arg0 main_v8_0 id,
    StableHlo.unary main_v1 main_v8_1 id,
    StableHlo.unary main_v3 main_v8_2 id,
    StableHlo.unary main_c main_v8_3 id,
    StableHlo.unary main_v4 main_v8_4 id,
    StableHlo.unary main_v4 main_v8_5 id,
    StableHlo.unary main_v5 main_v8_6 id,
    StableHlo.unary main_v6 main_v8_7 id,
    StableHlo.unary main_v7 main_v8_8 id ]

theorem preOps_sub : (preOps : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

theorem preOps_fresh : (preOps : List (HloOp τ sig (Elt F))).Forall fun op => op.fresh = ∅ :=
  StableHlo.forall_fresh_of_map rfl

/-- What `preOps` writes, in order. -/
abbrev preOps_W : List (Ref sig .tc) := [main_v0, main_v1, main_v2, main_v3, main_cst, main_v4, main_cst_0, main_v5, main_cst_1, main_v6, main_cst_2, main_v7, main_c, main_v8_0, main_v8_1, main_v8_2, main_v8_3, main_v8_4, main_v8_5, main_v8_6, main_v8_7, main_v8_8]

theorem preOps_writes : (preOps : List (HloOp τ sig (Elt F))).Forall fun op => op.writes ⊆ (preOps_W.map (Proc.devRef (τ := τ) .tc)).toFinset :=
  StableHlo.forall_writes_sub_of_map rfl

/-- The host operations between the two loops. -/
abbrev midOps : List (HloOp τ sig (Elt F)) :=
  [ StableHlo.nullary main_cst_3 (constant S_ .f32 0x00000000#32),
    StableHlo.unary main_cst_3 main_v9 (broadcastInDim S2048 ![] bcast_S_S2048 : (⟨S_, .f32⟩ : BufTy).Contents (Elt F) → (⟨S2048, .f32⟩ : BufTy).Contents (Elt F)),
    StableHlo.nullary main_cst_4 (constant S_ .f32 0x00000000#32),
    StableHlo.unary main_cst_4 main_v10 (broadcastInDim S2048 ![] bcast_S_S2048 : (⟨S_, .f32⟩ : BufTy).Contents (Elt F) → (⟨S2048, .f32⟩ : BufTy).Contents (Elt F)),
    StableHlo.nullary main_cst_5 (constant S_ .f32 0x00000000#32),
    StableHlo.unary main_cst_5 main_v11 (broadcastInDim S2048 ![] bcast_S_S2048 : (⟨S_, .f32⟩ : BufTy).Contents (Elt F) → (⟨S2048, .f32⟩ : BufTy).Contents (Elt F)),
    StableHlo.nullary main_cst_6 (constant S_ .f32 0x00000000#32),
    StableHlo.unary main_cst_6 main_v12 (broadcastInDim S2048 ![] bcast_S_S2048 : (⟨S_, .f32⟩ : BufTy).Contents (Elt F) → (⟨S2048, .f32⟩ : BufTy).Contents (Elt F)),
    StableHlo.nullary main_cst_7 (constant S_ .f32 0x00000000#32),
    StableHlo.unary main_cst_7 main_v13 (broadcastInDim S2048 ![] bcast_S_S2048 : (⟨S_, .f32⟩ : BufTy).Contents (Elt F) → (⟨S2048, .f32⟩ : BufTy).Contents (Elt F)),
    StableHlo.nullary main_cst_8 (constant S_ .f32 0x00000000#32),
    StableHlo.unary main_cst_8 main_v14 (broadcastInDim S2048 ![] bcast_S_S2048 : (⟨S_, .f32⟩ : BufTy).Contents (Elt F) → (⟨S2048, .f32⟩ : BufTy).Contents (Elt F)),
    StableHlo.nullary main_cst_9 (constant S_ .f32 0x00000000#32),
    StableHlo.unary main_cst_9 main_v15 (broadcastInDim S4352x4096 ![] bcast_S_S4352x4096 : (⟨S_, .f32⟩ : BufTy).Contents (Elt F) → (⟨S4352x4096, .f32⟩ : BufTy).Contents (Elt F)),
    StableHlo.nullary main_c_10 (constantI S_ 32 0#32),
    StableHlo.unary main_arg2 main_v16_0 id,
    StableHlo.unary main_v8_7 main_v16_1 id,
    StableHlo.unary main_v8_8 main_v16_2 id,
    StableHlo.unary main_v1 main_v16_3 id,
    StableHlo.unary main_v3 main_v16_4 id,
    StableHlo.unary main_c_10 main_v16_5 id,
    StableHlo.unary main_v13 main_v16_6 id,
    StableHlo.unary main_v14 main_v16_7 id,
    StableHlo.unary main_v11 main_v16_8 id,
    StableHlo.unary main_v12 main_v16_9 id,
    StableHlo.unary main_v15 main_v16_10 id ]

theorem midOps_sub : (midOps : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

theorem midOps_fresh : (midOps : List (HloOp τ sig (Elt F))).Forall fun op => op.fresh = ∅ :=
  StableHlo.forall_fresh_of_map rfl

/-- What `midOps` writes, in order. -/
abbrev midOps_W : List (Ref sig .tc) := [main_cst_3, main_v9, main_cst_4, main_v10, main_cst_5, main_v11, main_cst_6, main_v12, main_cst_7, main_v13, main_cst_8, main_v14, main_cst_9, main_v15, main_c_10, main_v16_0, main_v16_1, main_v16_2, main_v16_3, main_v16_4, main_v16_5, main_v16_6, main_v16_7, main_v16_8, main_v16_9, main_v16_10]

theorem midOps_writes : (midOps : List (HloOp τ sig (Elt F))).Forall fun op => op.writes ⊆ (midOps_W.map (Proc.devRef (τ := τ) .tc)).toFinset :=
  StableHlo.forall_writes_sub_of_map rfl

/-- The host operations after the second loop. -/
abbrev postOps : List (HloOp τ sig (Elt F)) :=
  [ StableHlo.unary main_v16_7 main_v17 (broadcastInDim S1x2048 ![1] bcast_S2048_S1x2048_1 : (⟨S2048, .f32⟩ : BufTy).Contents (Elt F) → (⟨S1x2048, .f32⟩ : BufTy).Contents (Elt F)),
    StableHlo.nullary main_cst_11 (constant S_ .f32 0x00000000#32),
    StableHlo.binary main_v17 main_cst_11 main_v18 ((fun x v => pad S1x4096 ![0, 2048] ![0, 0] ![0, 0] x v pads_S1x2048_S1x4096_000_204800 h_S_) : (⟨S1x2048, .f32⟩ : BufTy).Contents (Elt F) → (⟨S_, .f32⟩ : BufTy).Contents (Elt F) → (⟨S1x4096, .f32⟩ : BufTy).Contents (Elt F)),
    StableHlo.unary main_v16_6 main_v19 (broadcastInDim S1x2048 ![1] bcast_S2048_S1x2048_1 : (⟨S2048, .f32⟩ : BufTy).Contents (Elt F) → (⟨S1x2048, .f32⟩ : BufTy).Contents (Elt F)),
    StableHlo.nullary main_cst_12 (constant S_ .f32 0x00000000#32),
    StableHlo.binary main_v19 main_cst_12 main_v20 ((fun x v => pad S1x4096 ![0, 0] ![0, 2048] ![0, 0] x v pads_S1x2048_S1x4096_000_020480 h_S_) : (⟨S1x2048, .f32⟩ : BufTy).Contents (Elt F) → (⟨S_, .f32⟩ : BufTy).Contents (Elt F) → (⟨S1x4096, .f32⟩ : BufTy).Contents (Elt F)),
    StableHlo.binary main_v18 main_v20 main_v21 (addf : (⟨S1x4096, .f32⟩ : BufTy).Contents (Elt F) → (⟨S1x4096, .f32⟩ : BufTy).Contents (Elt F) → (⟨S1x4096, .f32⟩ : BufTy).Contents (Elt F)),
    StableHlo.unary main_v21 main_v22 (broadcastInDim S8x4096 ![0, 1] bcast_S1x4096_S8x4096_0_1 : (⟨S1x4096, .f32⟩ : BufTy).Contents (Elt F) → (⟨S8x4096, .f32⟩ : BufTy).Contents (Elt F)) ]

theorem postOps_sub : (postOps : List (HloOp τ sig (Elt F))).Forall fun op => op.bufs ⊆ StableHlo.tcRefs τ sig :=
  ⟨StableHlo.unary_bufs_sub .., StableHlo.nullary_bufs_sub .., StableHlo.binary_bufs_sub .., StableHlo.unary_bufs_sub .., StableHlo.nullary_bufs_sub .., StableHlo.binary_bufs_sub .., StableHlo.binary_bufs_sub .., StableHlo.unary_bufs_sub ..⟩

theorem postOps_fresh : (postOps : List (HloOp τ sig (Elt F))).Forall fun op => op.fresh = ∅ :=
  StableHlo.forall_fresh_of_map rfl

/-- What `postOps` writes, in order. -/
abbrev postOps_W : List (Ref sig .tc) := [main_v17, main_cst_11, main_v18, main_v19, main_cst_12, main_v20, main_v21, main_v22]

theorem postOps_writes : (postOps : List (HloOp τ sig (Elt F))).Forall fun op => op.writes ⊆ (postOps_W.map (Proc.devRef (τ := τ) .tc)).toFinset :=
  StableHlo.forall_writes_sub_of_map rfl

/-- The reference is its three stretches with the two loops between them. -/
theorem main_chain (c : Dev nD) : main (F := F) c = (Pipeline.chain
  [ StableHlo.seq preOps,
    HostLoop.enter 0,
    StableHlo.seq midOps,
    HostLoop.enter 1,
    StableHlo.seq postOps ] : (Prog (TpuEff nD τ sig (Elt F) (HostLoop.Sig (Pipeline.Sig Λ₀ (Fin 0) fun p => (pcfgs (F := F) p).Adm) 2) .tc) PUnit)) := by
  rewrite [StableHlo.chain_seq_cons, Pipeline.chain_cons, StableHlo.chain_seq_cons, Pipeline.chain_cons]
  chain_rfl

/-- Stretch 0 of the body of loop 0: one call of a module function. -/
abbrev body0_0 : List (HloOp τ sig (Elt F)) :=
  [ StableHlo.TRef.nullary (.of main_while0b_call0_c : StableHlo.TRef sig ⟨S_, .i32⟩) (constantI S_ 32 0#32),
    StableHlo.TRef.unaryIndexed (.of main_v8_0 : StableHlo.TRef sig ⟨S4352x4096, .f32⟩) ![(.of main_v8_3 : StableHlo.TRef sig ⟨S_, .i32⟩), (.of main_while0b_call0_c : StableHlo.TRef sig ⟨S_, .i32⟩)] (.of main_while0b_call0_v0 : StableHlo.TRef sig ⟨S1x4096, .f32⟩) (fun x i => Host.dynamicSlice S1x4096 x (fun k => (i k (Shape.Idx.first h_S_)).toInt) sliceFits_S4352x4096_S1x4096),
    StableHlo.TRef.reshape (.of main_while0b_call0_v0 : StableHlo.TRef sig ⟨S1x4096, .f32⟩) (.of main_while0b_v23 : StableHlo.TRef sig ⟨S4096, .f32⟩) (rfl : (.f32 : EltTy) = .f32) shapeCasts_S1x4096_S4096 ]

theorem body0_0_sub : (body0_0 : List (HloOp τ sig (Elt F))).Forall fun op => op.bufs ⊆ StableHlo.tcRefs τ sig :=
  ⟨StableHlo.nullary_bufs_sub .., StableHlo.unaryIndexed_bufs_sub .., StableHlo.reshape_bufs_sub ..⟩

theorem body0_0_fresh : (body0_0 : List (HloOp τ sig (Elt F))).Forall fun op => op.fresh = ∅ :=
  StableHlo.forall_fresh_of_map rfl

/-- What `body0_0` writes, in order. -/
abbrev body0_0_W : List (Ref sig .tc) := [main_while0b_call0_c, main_while0b_call0_v0, main_while0b_v23]

theorem body0_0_writes : (body0_0 : List (HloOp τ sig (Elt F))).Forall fun op => op.writes ⊆ (body0_0_W.map (Proc.devRef (τ := τ) .tc)).toFinset :=
  StableHlo.forall_writes_sub_of_map rfl

/-- Stretch 1 of the body of loop 0. -/
abbrev body0_1 : List (HloOp τ sig (Elt F)) :=
  [ StableHlo.binary main_v8_1 main_v8_4 main_while0b_v24 (mulf : (⟨S2048, .f32⟩ : BufTy).Contents (Elt F) → (⟨S2048, .f32⟩ : BufTy).Contents (Elt F) → (⟨S2048, .f32⟩ : BufTy).Contents (Elt F)),
    StableHlo.binary main_v8_2 main_v8_5 main_while0b_v25 (mulf : (⟨S2048, .f32⟩ : BufTy).Contents (Elt F) → (⟨S2048, .f32⟩ : BufTy).Contents (Elt F) → (⟨S2048, .f32⟩ : BufTy).Contents (Elt F)),
    StableHlo.binary main_while0b_v24 main_while0b_v25 main_while0b_v26 (subf : (⟨S2048, .f32⟩ : BufTy).Contents (Elt F) → (⟨S2048, .f32⟩ : BufTy).Contents (Elt F) → (⟨S2048, .f32⟩ : BufTy).Contents (Elt F)),
    StableHlo.unary main_while0b_v23 main_while0b_v27 ((extractStridedSlice S2048 ![0] · slices_S4096_S2048_0) : (⟨S4096, .f32⟩ : BufTy).Contents (Elt F) → (⟨S2048, .f32⟩ : BufTy).Contents (Elt F)),
    StableHlo.binary main_while0b_v26 main_while0b_v27 main_while0b_v28 (addf : (⟨S2048, .f32⟩ : BufTy).Contents (Elt F) → (⟨S2048, .f32⟩ : BufTy).Contents (Elt F) → (⟨S2048, .f32⟩ : BufTy).Contents (Elt F)),
    StableHlo.binary main_v8_1 main_v8_5 main_while0b_v29 (mulf : (⟨S2048, .f32⟩ : BufTy).Contents (Elt F) → (⟨S2048, .f32⟩ : BufTy).Contents (Elt F) → (⟨S2048, .f32⟩ : BufTy).Contents (Elt F)),
    StableHlo.binary main_v8_2 main_v8_4 main_while0b_v30 (mulf : (⟨S2048, .f32⟩ : BufTy).Contents (Elt F) → (⟨S2048, .f32⟩ : BufTy).Contents (Elt F) → (⟨S2048, .f32⟩ : BufTy).Contents (Elt F)),
    StableHlo.binary main_while0b_v29 main_while0b_v30 main_while0b_v31 (addf : (⟨S2048, .f32⟩ : BufTy).Contents (Elt F) → (⟨S2048, .f32⟩ : BufTy).Contents (Elt F) → (⟨S2048, .f32⟩ : BufTy).Contents (Elt F)),
    StableHlo.unary main_while0b_v23 main_while0b_v32 ((extractStridedSlice S2048 ![2048] · slices_S4096_S2048_2048) : (⟨S4096, .f32⟩ : BufTy).Contents (Elt F) → (⟨S2048, .f32⟩ : BufTy).Contents (Elt F)),
    StableHlo.binary main_while0b_v31 main_while0b_v32 main_while0b_v33 (addf : (⟨S2048, .f32⟩ : BufTy).Contents (Elt F) → (⟨S2048, .f32⟩ : BufTy).Contents (Elt F) → (⟨S2048, .f32⟩ : BufTy).Contents (Elt F)),
    StableHlo.binary main_while0b_v28 main_while0b_v33 main_while0b_v34 ((fun a b => concatenate S4096 0 [⟨S2048, a⟩, ⟨S2048, b⟩] concatenates_S2048_S2048_S4096_d0) : (⟨S2048, .f32⟩ : BufTy).Contents (Elt F) → (⟨S2048, .f32⟩ : BufTy).Contents (Elt F) → (⟨S4096, .f32⟩ : BufTy).Contents (Elt F)) ]

theorem body0_1_sub : (body0_1 : List (HloOp τ sig (Elt F))).Forall fun op => op.bufs ⊆ StableHlo.tcRefs τ sig :=
  ⟨StableHlo.binary_bufs_sub .., StableHlo.binary_bufs_sub .., StableHlo.binary_bufs_sub .., StableHlo.unary_bufs_sub .., StableHlo.binary_bufs_sub .., StableHlo.binary_bufs_sub .., StableHlo.binary_bufs_sub .., StableHlo.binary_bufs_sub .., StableHlo.unary_bufs_sub .., StableHlo.binary_bufs_sub .., StableHlo.binary_bufs_sub ..⟩

theorem body0_1_fresh : (body0_1 : List (HloOp τ sig (Elt F))).Forall fun op => op.fresh = ∅ :=
  StableHlo.forall_fresh_of_map rfl

/-- What `body0_1` writes, in order. -/
abbrev body0_1_W : List (Ref sig .tc) := [main_while0b_v24, main_while0b_v25, main_while0b_v26, main_while0b_v27, main_while0b_v28, main_while0b_v29, main_while0b_v30, main_while0b_v31, main_while0b_v32, main_while0b_v33, main_while0b_v34]

theorem body0_1_writes : (body0_1 : List (HloOp τ sig (Elt F))).Forall fun op => op.writes ⊆ (body0_1_W.map (Proc.devRef (τ := τ) .tc)).toFinset :=
  StableHlo.forall_writes_sub_of_map rfl

/-- Stretch 2 of the body of loop 0: one call of a module function. -/
abbrev body0_2 : List (HloOp τ sig (Elt F)) :=
  [ StableHlo.TRef.unary (.of main_while0b_v34 : StableHlo.TRef sig ⟨S4096, .f32⟩) (.of main_while0b_call1_v0 : StableHlo.TRef sig ⟨S1x4096, .f32⟩) (broadcastInDim S1x4096 ![1] bcast_S4096_S1x4096_1),
    StableHlo.TRef.nullary (.of main_while0b_call1_c : StableHlo.TRef sig ⟨S_, .i32⟩) (constantI S_ 32 0#32),
    StableHlo.TRef.binaryIndexed (.of main_v8_6 : StableHlo.TRef sig ⟨S4352x4096, .f32⟩) (.of main_while0b_call1_v0 : StableHlo.TRef sig ⟨S1x4096, .f32⟩) ![(.of main_v8_3 : StableHlo.TRef sig ⟨S_, .i32⟩), (.of main_while0b_call1_c : StableHlo.TRef sig ⟨S_, .i32⟩)] (.of main_while0b_v35 : StableHlo.TRef sig ⟨S4352x4096, .f32⟩) (fun x u i => Host.dynamicUpdateSlice x u (fun k => (i k (Shape.Idx.first h_S_)).toInt) updateFits_S4352x4096_S1x4096) ]

theorem body0_2_sub : (body0_2 : List (HloOp τ sig (Elt F))).Forall fun op => op.bufs ⊆ StableHlo.tcRefs τ sig :=
  ⟨StableHlo.unary_bufs_sub .., StableHlo.nullary_bufs_sub .., StableHlo.binaryIndexed_bufs_sub ..⟩

theorem body0_2_fresh : (body0_2 : List (HloOp τ sig (Elt F))).Forall fun op => op.fresh = ∅ :=
  StableHlo.forall_fresh_of_map rfl

/-- What `body0_2` writes, in order. -/
abbrev body0_2_W : List (Ref sig .tc) := [main_while0b_call1_v0, main_while0b_call1_c, main_while0b_v35]

theorem body0_2_writes : (body0_2 : List (HloOp τ sig (Elt F))).Forall fun op => op.writes ⊆ (body0_2_W.map (Proc.devRef (τ := τ) .tc)).toFinset :=
  StableHlo.forall_writes_sub_of_map rfl

/-- Stretch 3 of the body of loop 0: one call of a module function. -/
abbrev body0_3 : List (HloOp τ sig (Elt F)) :=
  [ StableHlo.TRef.unary (.of main_v8_4 : StableHlo.TRef sig ⟨S2048, .f32⟩) (.of main_while0b_call2_v0 : StableHlo.TRef sig ⟨S1x2048, .f32⟩) (broadcastInDim S1x2048 ![1] bcast_S2048_S1x2048_1),
    StableHlo.TRef.nullary (.of main_while0b_call2_c : StableHlo.TRef sig ⟨S_, .i32⟩) (constantI S_ 32 0#32),
    StableHlo.TRef.binaryIndexed (.of main_v8_7 : StableHlo.TRef sig ⟨S4352x2048, .f32⟩) (.of main_while0b_call2_v0 : StableHlo.TRef sig ⟨S1x2048, .f32⟩) ![(.of main_v8_3 : StableHlo.TRef sig ⟨S_, .i32⟩), (.of main_while0b_call2_c : StableHlo.TRef sig ⟨S_, .i32⟩)] (.of main_while0b_v36 : StableHlo.TRef sig ⟨S4352x2048, .f32⟩) (fun x u i => Host.dynamicUpdateSlice x u (fun k => (i k (Shape.Idx.first h_S_)).toInt) updateFits_S4352x2048_S1x2048) ]

theorem body0_3_sub : (body0_3 : List (HloOp τ sig (Elt F))).Forall fun op => op.bufs ⊆ StableHlo.tcRefs τ sig :=
  ⟨StableHlo.unary_bufs_sub .., StableHlo.nullary_bufs_sub .., StableHlo.binaryIndexed_bufs_sub ..⟩

theorem body0_3_fresh : (body0_3 : List (HloOp τ sig (Elt F))).Forall fun op => op.fresh = ∅ :=
  StableHlo.forall_fresh_of_map rfl

/-- What `body0_3` writes, in order. -/
abbrev body0_3_W : List (Ref sig .tc) := [main_while0b_call2_v0, main_while0b_call2_c, main_while0b_v36]

theorem body0_3_writes : (body0_3 : List (HloOp τ sig (Elt F))).Forall fun op => op.writes ⊆ (body0_3_W.map (Proc.devRef (τ := τ) .tc)).toFinset :=
  StableHlo.forall_writes_sub_of_map rfl

/-- Stretch 4 of the body of loop 0: one call of a module function. -/
abbrev body0_4 : List (HloOp τ sig (Elt F)) :=
  [ StableHlo.TRef.unary (.of main_v8_5 : StableHlo.TRef sig ⟨S2048, .f32⟩) (.of main_while0b_call3_v0 : StableHlo.TRef sig ⟨S1x2048, .f32⟩) (broadcastInDim S1x2048 ![1] bcast_S2048_S1x2048_1),
    StableHlo.TRef.nullary (.of main_while0b_call3_c : StableHlo.TRef sig ⟨S_, .i32⟩) (constantI S_ 32 0#32),
    StableHlo.TRef.binaryIndexed (.of main_v8_8 : StableHlo.TRef sig ⟨S4352x2048, .f32⟩) (.of main_while0b_call3_v0 : StableHlo.TRef sig ⟨S1x2048, .f32⟩) ![(.of main_v8_3 : StableHlo.TRef sig ⟨S_, .i32⟩), (.of main_while0b_call3_c : StableHlo.TRef sig ⟨S_, .i32⟩)] (.of main_while0b_v37 : StableHlo.TRef sig ⟨S4352x2048, .f32⟩) (fun x u i => Host.dynamicUpdateSlice x u (fun k => (i k (Shape.Idx.first h_S_)).toInt) updateFits_S4352x2048_S1x2048) ]

theorem body0_4_sub : (body0_4 : List (HloOp τ sig (Elt F))).Forall fun op => op.bufs ⊆ StableHlo.tcRefs τ sig :=
  ⟨StableHlo.unary_bufs_sub .., StableHlo.nullary_bufs_sub .., StableHlo.binaryIndexed_bufs_sub ..⟩

theorem body0_4_fresh : (body0_4 : List (HloOp τ sig (Elt F))).Forall fun op => op.fresh = ∅ :=
  StableHlo.forall_fresh_of_map rfl

/-- What `body0_4` writes, in order. -/
abbrev body0_4_W : List (Ref sig .tc) := [main_while0b_call3_v0, main_while0b_call3_c, main_while0b_v37]

theorem body0_4_writes : (body0_4 : List (HloOp τ sig (Elt F))).Forall fun op => op.writes ⊆ (body0_4_W.map (Proc.devRef (τ := τ) .tc)).toFinset :=
  StableHlo.forall_writes_sub_of_map rfl

/-- Stretch 5 of the body of loop 0. -/
abbrev body0_5 : List (HloOp τ sig (Elt F)) :=
  [ StableHlo.nullary main_while0b_c_21 (constantI S_ 32 1#32),
    StableHlo.binary main_v8_3 main_while0b_c_21 main_while0b_v38 (addi : (⟨S_, .i32⟩ : BufTy).Contents (Elt F) → (⟨S_, .i32⟩ : BufTy).Contents (Elt F) → (⟨S_, .i32⟩ : BufTy).Contents (Elt F)),
    StableHlo.unary main_while0b_v38 main_v8_3 id,
    StableHlo.unary main_while0b_v28 main_v8_4 id,
    StableHlo.unary main_while0b_v33 main_v8_5 id,
    StableHlo.unary main_while0b_v35 main_v8_6 id,
    StableHlo.unary main_while0b_v36 main_v8_7 id,
    StableHlo.unary main_while0b_v37 main_v8_8 id ]

theorem body0_5_sub : (body0_5 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub ..⟩

theorem body0_5_fresh : (body0_5 : List (HloOp τ sig (Elt F))).Forall fun op => op.fresh = ∅ :=
  StableHlo.forall_fresh_of_map rfl

/-- What `body0_5` writes, in order. -/
abbrev body0_5_W : List (Ref sig .tc) := [main_while0b_c_21, main_while0b_v38, main_v8_3, main_v8_4, main_v8_5, main_v8_6, main_v8_7, main_v8_8]

theorem body0_5_writes : (body0_5 : List (HloOp τ sig (Elt F))).Forall fun op => op.writes ⊆ (body0_5_W.map (Proc.devRef (τ := τ) .tc)).toFinset :=
  StableHlo.forall_writes_sub_of_map rfl

/-- The body of loop 0 is its stretches in order. -/
theorem body0_chain : main_while0_body (F := F) = (Pipeline.chain
  [ StableHlo.seq body0_0,
    StableHlo.seq body0_1,
    StableHlo.seq body0_2,
    StableHlo.seq body0_3,
    StableHlo.seq body0_4,
    StableHlo.seq body0_5 ] : (Prog (TpuEff nD τ sig (Elt F) (HostLoop.Sig (Pipeline.Sig Λ₀ (Fin 0) fun p => (pcfgs (F := F) p).Adm) 2) .tc) PUnit)) := by
  rewrite [Pipeline.chain_cons, StableHlo.chain_seq_cons, Pipeline.chain_cons, Pipeline.chain_cons, Pipeline.chain_cons]
  chain_rfl

/-- The condition of loop 0: its bound, and the counter compared with it. -/
abbrev cond0 : List (HloOp τ sig (Elt F)) :=
  [ StableHlo.nullary main_while0c_c_21 (constantI S_ 32 4352#32),
    StableHlo.binary main_v8_3 main_while0c_c_21 main_while0c_v23 (cmpi .slt) ]

abbrev body0I : List (List (HloOp τ sig (Elt F))) := [body0_0, body0_1, body0_2, body0_3, body0_4, body0_5]

theorem body0I_plain : Plain (body0I (F := F)) := .cons body0_0_sub (hf := List.forall_iff_forall_mem.mp body0_0_fresh) (.cons body0_1_sub (hf := List.forall_iff_forall_mem.mp body0_1_fresh) (.cons body0_2_sub (hf := List.forall_iff_forall_mem.mp body0_2_fresh) (.cons body0_3_sub (hf := List.forall_iff_forall_mem.mp body0_3_fresh) (.cons body0_4_sub (hf := List.forall_iff_forall_mem.mp body0_4_fresh) (.cons body0_5_sub (hf := List.forall_iff_forall_mem.mp body0_5_fresh) (.nil))))))

/-- Stretch 0 of the body of loop 1. -/
abbrev body1_0 : List (HloOp τ sig (Elt F)) :=
  [ StableHlo.nullary main_while1b_c_23 (constantI S_ 32 4352#32),
    StableHlo.binary main_while1b_c_23 main_v16_5 main_while1b_v23 (subi : (⟨S_, .i32⟩ : BufTy).Contents (Elt F) → (⟨S_, .i32⟩ : BufTy).Contents (Elt F) → (⟨S_, .i32⟩ : BufTy).Contents (Elt F)),
    StableHlo.nullary main_while1b_c_24 (constantI S_ 32 1#32),
    StableHlo.binary main_while1b_v23 main_while1b_c_24 main_while1b_v24 (subi : (⟨S_, .i32⟩ : BufTy).Contents (Elt F) → (⟨S_, .i32⟩ : BufTy).Contents (Elt F) → (⟨S_, .i32⟩ : BufTy).Contents (Elt F)) ]

theorem body1_0_sub : (body1_0 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub ..⟩

theorem body1_0_fresh : (body1_0 : List (HloOp τ sig (Elt F))).Forall fun op => op.fresh = ∅ :=
  StableHlo.forall_fresh_of_map rfl

/-- What `body1_0` writes, in order. -/
abbrev body1_0_W : List (Ref sig .tc) := [main_while1b_c_23, main_while1b_v23, main_while1b_c_24, main_while1b_v24]

theorem body1_0_writes : (body1_0 : List (HloOp τ sig (Elt F))).Forall fun op => op.writes ⊆ (body1_0_W.map (Proc.devRef (τ := τ) .tc)).toFinset :=
  StableHlo.forall_writes_sub_of_map rfl

/-- Stretch 1 of the body of loop 1: one call of a module function. -/
abbrev body1_1 : List (HloOp τ sig (Elt F)) :=
  [ StableHlo.TRef.nullary (.of main_while1b_call4_c : StableHlo.TRef sig ⟨S_, .i32⟩) (constantI S_ 32 0#32),
    StableHlo.TRef.unaryIndexed (.of main_v16_0 : StableHlo.TRef sig ⟨S4352x4096, .f32⟩) ![(.of main_while1b_v24 : StableHlo.TRef sig ⟨S_, .i32⟩), (.of main_while1b_call4_c : StableHlo.TRef sig ⟨S_, .i32⟩)] (.of main_while1b_call4_v0 : StableHlo.TRef sig ⟨S1x4096, .f32⟩) (fun x i => Host.dynamicSlice S1x4096 x (fun k => (i k (Shape.Idx.first h_S_)).toInt) sliceFits_S4352x4096_S1x4096),
    StableHlo.TRef.reshape (.of main_while1b_call4_v0 : StableHlo.TRef sig ⟨S1x4096, .f32⟩) (.of main_while1b_v25 : StableHlo.TRef sig ⟨S4096, .f32⟩) (rfl : (.f32 : EltTy) = .f32) shapeCasts_S1x4096_S4096 ]

theorem body1_1_sub : (body1_1 : List (HloOp τ sig (Elt F))).Forall fun op => op.bufs ⊆ StableHlo.tcRefs τ sig :=
  ⟨StableHlo.nullary_bufs_sub .., StableHlo.unaryIndexed_bufs_sub .., StableHlo.reshape_bufs_sub ..⟩

theorem body1_1_fresh : (body1_1 : List (HloOp τ sig (Elt F))).Forall fun op => op.fresh = ∅ :=
  StableHlo.forall_fresh_of_map rfl

/-- What `body1_1` writes, in order. -/
abbrev body1_1_W : List (Ref sig .tc) := [main_while1b_call4_c, main_while1b_call4_v0, main_while1b_v25]

theorem body1_1_writes : (body1_1 : List (HloOp τ sig (Elt F))).Forall fun op => op.writes ⊆ (body1_1_W.map (Proc.devRef (τ := τ) .tc)).toFinset :=
  StableHlo.forall_writes_sub_of_map rfl

/-- Stretch 2 of the body of loop 1: one call of a module function. -/
abbrev body1_2 : List (HloOp τ sig (Elt F)) :=
  [ StableHlo.TRef.nullary (.of main_while1b_call5_c : StableHlo.TRef sig ⟨S_, .i32⟩) (constantI S_ 32 0#32),
    StableHlo.TRef.unaryIndexed (.of main_v16_1 : StableHlo.TRef sig ⟨S4352x2048, .f32⟩) ![(.of main_while1b_v24 : StableHlo.TRef sig ⟨S_, .i32⟩), (.of main_while1b_call5_c : StableHlo.TRef sig ⟨S_, .i32⟩)] (.of main_while1b_call5_v0 : StableHlo.TRef sig ⟨S1x2048, .f32⟩) (fun x i => Host.dynamicSlice S1x2048 x (fun k => (i k (Shape.Idx.first h_S_)).toInt) sliceFits_S4352x2048_S1x2048),
    StableHlo.TRef.reshape (.of main_while1b_call5_v0 : StableHlo.TRef sig ⟨S1x2048, .f32⟩) (.of main_while1b_v26 : StableHlo.TRef sig ⟨S2048, .f32⟩) (rfl : (.f32 : EltTy) = .f32) shapeCasts_S1x2048_S2048 ]

theorem body1_2_sub : (body1_2 : List (HloOp τ sig (Elt F))).Forall fun op => op.bufs ⊆ StableHlo.tcRefs τ sig :=
  ⟨StableHlo.nullary_bufs_sub .., StableHlo.unaryIndexed_bufs_sub .., StableHlo.reshape_bufs_sub ..⟩

theorem body1_2_fresh : (body1_2 : List (HloOp τ sig (Elt F))).Forall fun op => op.fresh = ∅ :=
  StableHlo.forall_fresh_of_map rfl

/-- What `body1_2` writes, in order. -/
abbrev body1_2_W : List (Ref sig .tc) := [main_while1b_call5_c, main_while1b_call5_v0, main_while1b_v26]

theorem body1_2_writes : (body1_2 : List (HloOp τ sig (Elt F))).Forall fun op => op.writes ⊆ (body1_2_W.map (Proc.devRef (τ := τ) .tc)).toFinset :=
  StableHlo.forall_writes_sub_of_map rfl

/-- Stretch 3 of the body of loop 1: one call of a module function. -/
abbrev body1_3 : List (HloOp τ sig (Elt F)) :=
  [ StableHlo.TRef.nullary (.of main_while1b_call6_c : StableHlo.TRef sig ⟨S_, .i32⟩) (constantI S_ 32 0#32),
    StableHlo.TRef.unaryIndexed (.of main_v16_2 : StableHlo.TRef sig ⟨S4352x2048, .f32⟩) ![(.of main_while1b_v24 : StableHlo.TRef sig ⟨S_, .i32⟩), (.of main_while1b_call6_c : StableHlo.TRef sig ⟨S_, .i32⟩)] (.of main_while1b_call6_v0 : StableHlo.TRef sig ⟨S1x2048, .f32⟩) (fun x i => Host.dynamicSlice S1x2048 x (fun k => (i k (Shape.Idx.first h_S_)).toInt) sliceFits_S4352x2048_S1x2048),
    StableHlo.TRef.reshape (.of main_while1b_call6_v0 : StableHlo.TRef sig ⟨S1x2048, .f32⟩) (.of main_while1b_v27 : StableHlo.TRef sig ⟨S2048, .f32⟩) (rfl : (.f32 : EltTy) = .f32) shapeCasts_S1x2048_S2048 ]

theorem body1_3_sub : (body1_3 : List (HloOp τ sig (Elt F))).Forall fun op => op.bufs ⊆ StableHlo.tcRefs τ sig :=
  ⟨StableHlo.nullary_bufs_sub .., StableHlo.unaryIndexed_bufs_sub .., StableHlo.reshape_bufs_sub ..⟩

theorem body1_3_fresh : (body1_3 : List (HloOp τ sig (Elt F))).Forall fun op => op.fresh = ∅ :=
  StableHlo.forall_fresh_of_map rfl

/-- What `body1_3` writes, in order. -/
abbrev body1_3_W : List (Ref sig .tc) := [main_while1b_call6_c, main_while1b_call6_v0, main_while1b_v27]

theorem body1_3_writes : (body1_3 : List (HloOp τ sig (Elt F))).Forall fun op => op.writes ⊆ (body1_3_W.map (Proc.devRef (τ := τ) .tc)).toFinset :=
  StableHlo.forall_writes_sub_of_map rfl

/-- Stretch 4 of the body of loop 1. -/
abbrev body1_4 : List (HloOp τ sig (Elt F)) :=
  [ StableHlo.unary main_while1b_v25 main_while1b_v28 ((extractStridedSlice S2048 ![0] · slices_S4096_S2048_0) : (⟨S4096, .f32⟩ : BufTy).Contents (Elt F) → (⟨S2048, .f32⟩ : BufTy).Contents (Elt F)),
    StableHlo.unary main_while1b_v25 main_while1b_v29 ((extractStridedSlice S2048 ![2048] · slices_S4096_S2048_2048) : (⟨S4096, .f32⟩ : BufTy).Contents (Elt F) → (⟨S2048, .f32⟩ : BufTy).Contents (Elt F)),
    StableHlo.binary main_v16_8 main_while1b_v28 main_while1b_v30 (addf : (⟨S2048, .f32⟩ : BufTy).Contents (Elt F) → (⟨S2048, .f32⟩ : BufTy).Contents (Elt F) → (⟨S2048, .f32⟩ : BufTy).Contents (Elt F)),
    StableHlo.binary main_v16_9 main_while1b_v29 main_while1b_v31 (addf : (⟨S2048, .f32⟩ : BufTy).Contents (Elt F) → (⟨S2048, .f32⟩ : BufTy).Contents (Elt F) → (⟨S2048, .f32⟩ : BufTy).Contents (Elt F)),
    StableHlo.nullary main_while1b_cst_25 (constant S_ .f32 0x00000000#32),
    StableHlo.binary main_while1b_v31 main_while1b_cst_25 main_while1b_v32 ((fun x v => pad S4096 ![2048] ![0] ![0] x v pads_S2048_S4096_204800 h_S_) : (⟨S2048, .f32⟩ : BufTy).Contents (Elt F) → (⟨S_, .f32⟩ : BufTy).Contents (Elt F) → (⟨S4096, .f32⟩ : BufTy).Contents (Elt F)),
    StableHlo.binary main_v16_4 main_while1b_v31 main_while1b_v33 (mulf : (⟨S2048, .f32⟩ : BufTy).Contents (Elt F) → (⟨S2048, .f32⟩ : BufTy).Contents (Elt F) → (⟨S2048, .f32⟩ : BufTy).Contents (Elt F)),
    StableHlo.binary main_while1b_v31 main_while1b_v26 main_while1b_v34 (mulf : (⟨S2048, .f32⟩ : BufTy).Contents (Elt F) → (⟨S2048, .f32⟩ : BufTy).Contents (Elt F) → (⟨S2048, .f32⟩ : BufTy).Contents (Elt F)),
    StableHlo.binary main_v16_7 main_while1b_v34 main_while1b_v35 (addf : (⟨S2048, .f32⟩ : BufTy).Contents (Elt F) → (⟨S2048, .f32⟩ : BufTy).Contents (Elt F) → (⟨S2048, .f32⟩ : BufTy).Contents (Elt F)),
    StableHlo.binary main_v16_3 main_while1b_v31 main_while1b_v36 (mulf : (⟨S2048, .f32⟩ : BufTy).Contents (Elt F) → (⟨S2048, .f32⟩ : BufTy).Contents (Elt F) → (⟨S2048, .f32⟩ : BufTy).Contents (Elt F)),
    StableHlo.binary main_while1b_v31 main_while1b_v27 main_while1b_v37 (mulf : (⟨S2048, .f32⟩ : BufTy).Contents (Elt F) → (⟨S2048, .f32⟩ : BufTy).Contents (Elt F) → (⟨S2048, .f32⟩ : BufTy).Contents (Elt F)),
    StableHlo.binary main_v16_6 main_while1b_v37 main_while1b_v38 (addf : (⟨S2048, .f32⟩ : BufTy).Contents (Elt F) → (⟨S2048, .f32⟩ : BufTy).Contents (Elt F) → (⟨S2048, .f32⟩ : BufTy).Contents (Elt F)),
    StableHlo.nullary main_while1b_cst_26 (constant S_ .f32 0x00000000#32),
    StableHlo.binary main_while1b_v30 main_while1b_cst_26 main_while1b_v39 ((fun x v => pad S4096 ![0] ![2048] ![0] x v pads_S2048_S4096_020480 h_S_) : (⟨S2048, .f32⟩ : BufTy).Contents (Elt F) → (⟨S_, .f32⟩ : BufTy).Contents (Elt F) → (⟨S4096, .f32⟩ : BufTy).Contents (Elt F)),
    StableHlo.binary main_while1b_v32 main_while1b_v39 main_while1b_v40 (addf : (⟨S4096, .f32⟩ : BufTy).Contents (Elt F) → (⟨S4096, .f32⟩ : BufTy).Contents (Elt F) → (⟨S4096, .f32⟩ : BufTy).Contents (Elt F)),
    StableHlo.unary main_while1b_v30 main_while1b_v41 (Host.negf : (⟨S2048, .f32⟩ : BufTy).Contents (Elt F) → (⟨S2048, .f32⟩ : BufTy).Contents (Elt F)),
    StableHlo.binary main_v16_4 main_while1b_v41 main_while1b_v42 (mulf : (⟨S2048, .f32⟩ : BufTy).Contents (Elt F) → (⟨S2048, .f32⟩ : BufTy).Contents (Elt F) → (⟨S2048, .f32⟩ : BufTy).Contents (Elt F)),
    StableHlo.binary main_while1b_v36 main_while1b_v42 main_while1b_v43 (addf : (⟨S2048, .f32⟩ : BufTy).Contents (Elt F) → (⟨S2048, .f32⟩ : BufTy).Contents (Elt F) → (⟨S2048, .f32⟩ : BufTy).Contents (Elt F)),
    StableHlo.binary main_while1b_v41 main_while1b_v27 main_while1b_v44 (mulf : (⟨S2048, .f32⟩ : BufTy).Contents (Elt F) → (⟨S2048, .f32⟩ : BufTy).Contents (Elt F) → (⟨S2048, .f32⟩ : BufTy).Contents (Elt F)),
    StableHlo.binary main_while1b_v35 main_while1b_v44 main_while1b_v45 (addf : (⟨S2048, .f32⟩ : BufTy).Contents (Elt F) → (⟨S2048, .f32⟩ : BufTy).Contents (Elt F) → (⟨S2048, .f32⟩ : BufTy).Contents (Elt F)),
    StableHlo.binary main_v16_3 main_while1b_v30 main_while1b_v46 (mulf : (⟨S2048, .f32⟩ : BufTy).Contents (Elt F) → (⟨S2048, .f32⟩ : BufTy).Contents (Elt F) → (⟨S2048, .f32⟩ : BufTy).Contents (Elt F)),
    StableHlo.binary main_while1b_v33 main_while1b_v46 main_while1b_v47 (addf : (⟨S2048, .f32⟩ : BufTy).Contents (Elt F) → (⟨S2048, .f32⟩ : BufTy).Contents (Elt F) → (⟨S2048, .f32⟩ : BufTy).Contents (Elt F)),
    StableHlo.binary main_while1b_v30 main_while1b_v26 main_while1b_v48 (mulf : (⟨S2048, .f32⟩ : BufTy).Contents (Elt F) → (⟨S2048, .f32⟩ : BufTy).Contents (Elt F) → (⟨S2048, .f32⟩ : BufTy).Contents (Elt F)),
    StableHlo.binary main_while1b_v38 main_while1b_v48 main_while1b_v49 (addf : (⟨S2048, .f32⟩ : BufTy).Contents (Elt F) → (⟨S2048, .f32⟩ : BufTy).Contents (Elt F) → (⟨S2048, .f32⟩ : BufTy).Contents (Elt F)) ]

theorem body1_4_sub : (body1_4 : List (HloOp τ sig (Elt F))).Forall fun op => op.bufs ⊆ StableHlo.tcRefs τ sig :=
  ⟨StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.nullary_bufs_sub .., StableHlo.binary_bufs_sub .., StableHlo.binary_bufs_sub .., StableHlo.unary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub ..⟩

theorem body1_4_fresh : (body1_4 : List (HloOp τ sig (Elt F))).Forall fun op => op.fresh = ∅ :=
  StableHlo.forall_fresh_of_map rfl

/-- What `body1_4` writes, in order. -/
abbrev body1_4_W : List (Ref sig .tc) := [main_while1b_v28, main_while1b_v29, main_while1b_v30, main_while1b_v31, main_while1b_cst_25, main_while1b_v32, main_while1b_v33, main_while1b_v34, main_while1b_v35, main_while1b_v36, main_while1b_v37, main_while1b_v38, main_while1b_cst_26, main_while1b_v39, main_while1b_v40, main_while1b_v41, main_while1b_v42, main_while1b_v43, main_while1b_v44, main_while1b_v45, main_while1b_v46, main_while1b_v47, main_while1b_v48, main_while1b_v49]

theorem body1_4_writes : (body1_4 : List (HloOp τ sig (Elt F))).Forall fun op => op.writes ⊆ (body1_4_W.map (Proc.devRef (τ := τ) .tc)).toFinset :=
  StableHlo.forall_writes_sub_of_map rfl

/-- Stretch 5 of the body of loop 1: one call of a module function. -/
abbrev body1_5 : List (HloOp τ sig (Elt F)) :=
  [ StableHlo.TRef.unary (.of main_while1b_v40 : StableHlo.TRef sig ⟨S4096, .f32⟩) (.of main_while1b_call7_v0 : StableHlo.TRef sig ⟨S1x4096, .f32⟩) (broadcastInDim S1x4096 ![1] bcast_S4096_S1x4096_1),
    StableHlo.TRef.nullary (.of main_while1b_call7_c : StableHlo.TRef sig ⟨S_, .i32⟩) (constantI S_ 32 0#32),
    StableHlo.TRef.binaryIndexed (.of main_v16_10 : StableHlo.TRef sig ⟨S4352x4096, .f32⟩) (.of main_while1b_call7_v0 : StableHlo.TRef sig ⟨S1x4096, .f32⟩) ![(.of main_while1b_v24 : StableHlo.TRef sig ⟨S_, .i32⟩), (.of main_while1b_call7_c : StableHlo.TRef sig ⟨S_, .i32⟩)] (.of main_while1b_v50 : StableHlo.TRef sig ⟨S4352x4096, .f32⟩) (fun x u i => Host.dynamicUpdateSlice x u (fun k => (i k (Shape.Idx.first h_S_)).toInt) updateFits_S4352x4096_S1x4096) ]

theorem body1_5_sub : (body1_5 : List (HloOp τ sig (Elt F))).Forall fun op => op.bufs ⊆ StableHlo.tcRefs τ sig :=
  ⟨StableHlo.unary_bufs_sub .., StableHlo.nullary_bufs_sub .., StableHlo.binaryIndexed_bufs_sub ..⟩

theorem body1_5_fresh : (body1_5 : List (HloOp τ sig (Elt F))).Forall fun op => op.fresh = ∅ :=
  StableHlo.forall_fresh_of_map rfl

/-- What `body1_5` writes, in order. -/
abbrev body1_5_W : List (Ref sig .tc) := [main_while1b_call7_v0, main_while1b_call7_c, main_while1b_v50]

theorem body1_5_writes : (body1_5 : List (HloOp τ sig (Elt F))).Forall fun op => op.writes ⊆ (body1_5_W.map (Proc.devRef (τ := τ) .tc)).toFinset :=
  StableHlo.forall_writes_sub_of_map rfl

/-- Stretch 6 of the body of loop 1. -/
abbrev body1_6 : List (HloOp τ sig (Elt F)) :=
  [ StableHlo.nullary main_while1b_c_27 (constantI S_ 32 1#32),
    StableHlo.binary main_v16_5 main_while1b_c_27 main_while1b_v51 (addi : (⟨S_, .i32⟩ : BufTy).Contents (Elt F) → (⟨S_, .i32⟩ : BufTy).Contents (Elt F) → (⟨S_, .i32⟩ : BufTy).Contents (Elt F)),
    StableHlo.unary main_while1b_v51 main_v16_5 id,
    StableHlo.unary main_while1b_v49 main_v16_6 id,
    StableHlo.unary main_while1b_v45 main_v16_7 id,
    StableHlo.unary main_while1b_v47 main_v16_8 id,
    StableHlo.unary main_while1b_v43 main_v16_9 id,
    StableHlo.unary main_while1b_v50 main_v16_10 id ]

theorem body1_6_sub : (body1_6 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub ..⟩

theorem body1_6_fresh : (body1_6 : List (HloOp τ sig (Elt F))).Forall fun op => op.fresh = ∅ :=
  StableHlo.forall_fresh_of_map rfl

/-- What `body1_6` writes, in order. -/
abbrev body1_6_W : List (Ref sig .tc) := [main_while1b_c_27, main_while1b_v51, main_v16_5, main_v16_6, main_v16_7, main_v16_8, main_v16_9, main_v16_10]

theorem body1_6_writes : (body1_6 : List (HloOp τ sig (Elt F))).Forall fun op => op.writes ⊆ (body1_6_W.map (Proc.devRef (τ := τ) .tc)).toFinset :=
  StableHlo.forall_writes_sub_of_map rfl

/-- The body of loop 1 is its stretches in order. -/
theorem body1_chain : main_while1_body (F := F) = (Pipeline.chain
  [ StableHlo.seq body1_0,
    StableHlo.seq body1_1,
    StableHlo.seq body1_2,
    StableHlo.seq body1_3,
    StableHlo.seq body1_4,
    StableHlo.seq body1_5,
    StableHlo.seq body1_6 ] : (Prog (TpuEff nD τ sig (Elt F) (HostLoop.Sig (Pipeline.Sig Λ₀ (Fin 0) fun p => (pcfgs (F := F) p).Adm) 2) .tc) PUnit)) := by
  rewrite [StableHlo.chain_seq_cons, Pipeline.chain_cons, Pipeline.chain_cons, Pipeline.chain_cons, StableHlo.chain_seq_cons, Pipeline.chain_cons]
  chain_rfl

/-- The condition of loop 1: its bound, and the counter compared with it. -/
abbrev cond1 : List (HloOp τ sig (Elt F)) :=
  [ StableHlo.nullary main_while1c_c_23 (constantI S_ 32 4352#32),
    StableHlo.binary main_v16_5 main_while1c_c_23 main_while1c_v23 (cmpi .slt) ]

abbrev body1I : List (List (HloOp τ sig (Elt F))) := [body1_0, body1_1, body1_2, body1_3, body1_4, body1_5, body1_6]

theorem body1I_plain : Plain (body1I (F := F)) := .cons body1_0_sub (hf := List.forall_iff_forall_mem.mp body1_0_fresh) (.cons body1_1_sub (hf := List.forall_iff_forall_mem.mp body1_1_fresh) (.cons body1_2_sub (hf := List.forall_iff_forall_mem.mp body1_2_fresh) (.cons body1_3_sub (hf := List.forall_iff_forall_mem.mp body1_3_fresh) (.cons body1_4_sub (hf := List.forall_iff_forall_mem.mp body1_4_fresh) (.cons body1_5_sub (hf := List.forall_iff_forall_mem.mp body1_5_fresh) (.cons body1_6_sub (hf := List.forall_iff_forall_mem.mp body1_6_fresh) (.nil)))))))

abbrev preI : List (List (HloOp τ sig (Elt F))) := [preOps]
theorem preI_plain : Plain (preI (F := F)) := .cons preOps_sub (hf := List.forall_iff_forall_mem.mp preOps_fresh) .nil

abbrev midI : List (List (HloOp τ sig (Elt F))) := [midOps]
theorem midI_plain : Plain (midI (F := F)) := .cons midOps_sub (hf := List.forall_iff_forall_mem.mp midOps_fresh) .nil

abbrev postI : List (List (HloOp τ sig (Elt F))) := [postOps]
theorem postI_plain : Plain (postI (F := F)) := .cons postOps_sub (hf := List.forall_iff_forall_mem.mp postOps_fresh) .nil

end Cert.ReferenceIdeal.Scan

end
-- ==== Proof.Scan.RefRun.lean ====
/-
  The run of the reference: every weakly fair execution terminates, and every buffer ends at the fold of the three stretches
  and the two counted loops of 4352 trips each.
-/
module

public import proofs.«01_k».proof.Proof.Scan.RefOps
public import Idealize.ShloMosaic.Lib.Scf.ExitTest
public import Idealize.ShloMosaic.Lib.Scf.Counter

@[expose] public section

noncomputable section

namespace Cert.ReferenceIdeal.Scan

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs CSeg)

variable {F : FTy → Type} [FloatOps F]

variable (m : (ℓ : Loc nD τ sig) → Buf (Elt F) ℓ) (ρ : Dev nD → PrngReg)

/-! ## The contents at each point -/

/-- The buffers when the first loop is entered. -/
abbrev E0 (c : Dev nD) : Valuation τ sig (Elt F) := afterL preI (launchContents m c)
/-- The buffers before the `k`-th test of the first loop. -/
abbrev at0 (k : ℕ) (c : Dev nD) : Valuation τ sig (Elt F) := atTrip cond0 body0I (E0 m) k c
/-- The buffers when the first loop is left. -/
abbrev X0 (c : Dev nD) : Valuation τ sig (Elt F) := after cond0 (at0 m 4352 c)
/-- The buffers when the second loop is entered. -/
abbrev E1 (c : Dev nD) : Valuation τ sig (Elt F) := afterL midI (X0 m c)
/-- The buffers before the `k`-th test of the second loop. -/
abbrev at1 (k : ℕ) (c : Dev nD) : Valuation τ sig (Elt F) := atTrip cond1 body1I (E1 m) k c
/-- The buffers when the second loop is left. -/
abbrev X1 (c : Dev nD) : Valuation τ sig (Elt F) := after cond1 (at1 m 4352 c)
/-- The buffers at the end. -/
abbrev Fin1 (c : Dev nD) : Valuation τ sig (Elt F) := afterL postI (X1 m c)

/-! ## The counters -/

theorem ctr0_entry (c : Dev nD) : E0 m c (Proc.devRef .tc main_v8_3) = fun _ => (0#32 : BitVec 32) := by
  simp only [E0, afterL_cons, afterL_nil]
  after_reads_simp
  rfl

theorem ctr0_step (X : Valuation τ sig (Elt F)) :
    afterL body0I (after cond0 X) (Proc.devRef .tc main_v8_3) = addi (X (Proc.devRef .tc main_v8_3)) (constantI S_ 32 1#32) := by
  simp only [afterL_cons, afterL_nil]
  after_reads_simp
  rfl

/-- Before the `k`-th test the first loop's counter is `k`. -/
theorem ctr0 (c : Dev nD) : ∀ k, at0 m k c (Proc.devRef .tc main_v8_3) = fun _ => Scf.iv 0#32 1#32 k
  | 0 => by rw [show at0 m 0 c = E0 m c from rfl, ctr0_entry, Scf.iv_zero]
  | k + 1 => by
    rw [show at0 m (k + 1) c = afterL body0I (after cond0 (at0 m k c)) from rfl, ctr0_step, ctr0 c k, Scf.iv_succ]
    rfl

theorem ctr1_entry (c : Dev nD) : E1 m c (Proc.devRef .tc main_v16_5) = fun _ => (0#32 : BitVec 32) := by
  simp only [E1, afterL_cons, afterL_nil]
  after_reads_simp
  rfl

theorem ctr1_step (X : Valuation τ sig (Elt F)) :
    afterL body1I (after cond1 X) (Proc.devRef .tc main_v16_5) = addi (X (Proc.devRef .tc main_v16_5)) (constantI S_ 32 1#32) := by
  simp only [afterL_cons, afterL_nil]
  after_reads_simp
  rfl

/-- Before the `k`-th test the second loop's counter is `k`. -/
theorem ctr1 (c : Dev nD) : ∀ k, at1 m k c (Proc.devRef .tc main_v16_5) = fun _ => Scf.iv 0#32 1#32 k
  | 0 => by rw [show at1 m 0 c = E1 m c from rfl, ctr1_entry, Scf.iv_zero]
  | k + 1 => by
    rw [show at1 m (k + 1) c = afterL body1I (after cond1 (at1 m k c)) from rfl, ctr1_step, ctr1 c k, Scf.iv_succ]
    rfl

/-! ## The run -/

local notation "𝕄" => MT nD τ sig Unit (Elt F) ℕ (Option PUnit) ℕ

/-- No pipeline: nothing is admitted. -/
abbrev adm : (p : Fin 0) → ((pcfgs (F := F)) p).Adm := fun p => p.elim0
/-- No pipeline: no ticket. -/
abbrev tk : Fin 0 → Pipeline.Ticket (Ix := Unit) (Name := ℕ) (U := Option PUnit) (Lvl := ℕ) (nD := nD) (τ := τ) (pcfgs (F := F)) adm :=
  fun j => j.elim0
abbrev LL : GSem nD τ sig → Finset Unit := fun _ => ∅
abbrev lvl : GSem nD τ sig → Unit → ℕ := fun _ _ => 0

/-- What a core carries beside its buffers. -/
abbrev Rw (c : Dev nD) : sProp 𝕄 := iprop(∃ W, owes (c : Thread nD τ) (0 : CellTallies nD τ sig Unit) W)

set_option backward.isDefEq.respectTransparency.types false in
/-- The first loop's test succeeds exactly while fewer than 4352 trips are done. -/
theorem cond0_spec : LoopCond (pcfgs (F := F)) defs₀ Variants.none loops (Rw (F := F)) (main_while0_cond (F := F)) cond0 body0I (E0 m) 4352 := by
  intro k hk c bd
  have hctr := ctr0 m c k
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at0 m k c) main_v8_3 HostLoop.idx0)
        (HloOp.result _ (at0 m k c) main_while0c_c_21 HostLoop.idx0) = 1#1) (k < 4352)
    rw [nullary_result_ne _ _ _ _ (by decide), nullary_result, hctr]
    exact Scf.cmpi_slt_iv_ub_iff (lb := 0#32) (ub := 4352#32) (st := 1#32) (by decide) (show k ≤ Scf.trips 0#32 4352#32 1#32 from hk)
  isplitl [Hb]; · iexact Hb
  isplitl [Hh]; · rw [after_cons, after_cons, after_nil]; iexact Hh
  iexact HR

set_option backward.isDefEq.respectTransparency.types false in
/-- The second loop's test succeeds exactly while fewer than 4352 trips are done. -/
theorem cond1_spec : LoopCond (pcfgs (F := F)) defs₀ Variants.none loops (Rw (F := F)) (main_while1_cond (F := F)) cond1 body1I (E1 m) 4352 := by
  intro k hk c bd
  have hctr := ctr1 m c k
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at1 m k c) main_v16_5 HostLoop.idx0)
        (HloOp.result _ (at1 m k c) main_while1c_c_23 HostLoop.idx0) = 1#1) (k < 4352)
    rw [nullary_result_ne _ _ _ _ (by decide), nullary_result, hctr]
    exact Scf.cmpi_slt_iv_ub_iff (lb := 0#32) (ub := 4352#32) (st := 1#32) (by decide) (show k ≤ Scf.trips 0#32 4352#32 1#32 from hk)
  isplitl [Hb]; · iexact Hb
  isplitl [Hh]; · rw [after_cons, after_cons, after_nil]; iexact Hh
  iexact HR

/-- The segments of the reference: stretch, loop, stretch, loop, stretch. -/
def segs : List (CSeg (pcfgs (F := F)) adm defs₀ Variants.none LL lvl loops tk) :=
  segsOf _ _ _ _ _ _ _ _ Rw preI preI_plain (launchContents m)
    ++ (loopSeg _ _ _ _ _ _ _ _ 0 main_while0_cond main_while0_body rfl cond0 body0I body0I_plain
          (by rw [body0_chain]; rfl) 4352 (E0 m) Rw (cond0_spec m)
      :: (segsOf _ _ _ _ _ _ _ _ Rw midI midI_plain (X0 m)
        ++ (loopSeg _ _ _ _ _ _ _ _ 1 main_while1_cond main_while1_body rfl cond1 body1I body1I_plain
              (by rw [body1_chain]; rfl) 4352 (E1 m) Rw (cond1_spec m)
          :: segsOf _ _ _ _ _ _ _ _ Rw postI postI_plain (X1 m))))

theorem segs_prog : (segs m).map CSeg.prog
    = [ (StableHlo.seq preOps : Prog _ PUnit), HostLoop.enter 0, StableHlo.seq midOps, HostLoop.enter 1, StableHlo.seq postOps ] := by
  unfold segs
  rw [List.map_append, List.map_cons, List.map_append, List.map_cons, segsOf_prog, segsOf_prog, segsOf_prog]
  rfl

theorem segs_chains : CSeg.Chains (fun c => iprop(held (c : Thread nD τ) (ucRefs τ sig) (launchContents m c) ∗ Rw c))
    (segs m) (fun c => iprop(iprop(held (c : Thread nD τ) (ucRefs τ sig) (Fin1 m c)) ∗ ∃ W, owes (c : Thread nD τ) (0 : CellTallies nD τ sig Unit) W)) := by
  unfold segs
  exact CSeg.Chains.append (segsOf_chains _ _ _ _ _ _ _ _ Rw preI preI_plain _)
    ⟨fun _ => .rfl, CSeg.Chains.append (segsOf_chains _ _ _ _ _ _ _ _ Rw midI midI_plain _)
      ⟨fun _ => .rfl, segsOf_chains _ _ _ _ _ _ _ _ Rw postI postI_plain _⟩⟩

set_option maxRecDepth 100000 in
/-- On every device, from any memory with zero counters, every weakly fair execution of the reference terminates with every
    unscoped buffer at the fold. -/
theorem run_fold [∀ e, Nonempty (Elt F e)] : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = Fin1 m c (Proc.devRef .tc b)) :=
  Pipeline.θ_run_regions_loop_kit (Ix := Unit) (Name := ℕ) (U := Option PUnit) (Lvl := ℕ) (J := Fin 0) (P := Fin 0) (Val := Elt F)
    pcfgs adm (fun k => k.1.elim0) defs₀ Variants.none LL lvl loops tk m ρ main
    (segs m)
    (fun c Q => by
      rw [main_chain c, show ([StableHlo.seq preOps, HostLoop.enter 0, StableHlo.seq midOps, HostLoop.enter 1, StableHlo.seq postOps] :
        List (Prog _ PUnit)) = (segs m).map CSeg.prog from (segs_prog m).symm]
      exact BIBase.Entails.rfl)
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Rw c))
    (Tₙ := fun c => iprop(held (c : Thread nD τ) (ucRefs τ sig) (Fin1 m c)))
    (hch := segs_chains m)
    (hinit := by
      refine Pipeline.initEach LL lvl fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = Fin1 m c b)
    (hfin := fun c s' => by
      unfold held
      iintro ⟨Hh, HSI⟩
      ihave Hr := (pointsTo_read_all (ucRefs τ sig) (fun b => ((c : Dev nD), b)) (fun b => Fin1 m c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

end Cert.ReferenceIdeal.Scan

end
-- ==== Proof.Scan.RefCalls.lean ====
/-
  The reference's calls that read or write one row of an array at a row number that a buffer holds: what each leaves, element
  by element, when that number is inside the array.
-/
module

public import proofs.«01_k».proof.Proof.Scan.RefRun
public import Idealize.ShloMosaic.Lib.ValueIdx
public import Idealize.ShloMosaic.Lib.ValueLayout
public import Idealize.ShloMosaic.Lib.Pipeline.Value

@[expose] public section

set_option maxRecDepth 8192

noncomputable section

namespace Cert.ReferenceIdeal.Scan

open Cert.ReferenceIdeal Cert.ReferenceIdeal.Gen
open Idealize.ShloMosaic Idealize.ShloMosaic.TcCoe Idealize.ShloMosaic.Tactic Idealize.ShloMosaic.ValueIdx
open Idealize.ShloMosaic.StableHlo

variable {F : FTy → Type} [FloatOps F]

/-- A row number below 4352, read signed and clamped to the array, is itself. -/
theorem row_clamp (t : ℕ) (ht : t < 4352) (d : ℕ) (hd : d = 4351) :
    (min (max (BitVec.ofNat 32 t).toInt 0) ((d : ℕ) : Int)).toNat = t := by
  subst hd
  have h : (BitVec.ofNat 32 t).toInt = t := by
    rw [BitVec.toInt_eq_toNat_of_lt (by rw [BitVec.toNat_ofNat, Nat.mod_eq_of_lt (by omega)]; omega), BitVec.toNat_ofNat,
      Nat.mod_eq_of_lt (by omega)]
  rw [h]; omega

/-- Row `t` of an array, as `n` numbers. -/
theorem slice_row {n : ℕ} (x : (⟨2, ![4352, n]⟩ : Shape).Idx → Elt F .f32) (st : Fin 2 → Int) (t : ℕ) (ht : t < 4352)
    (h0 : st 0 = (BitVec.ofNat 32 t).toInt) (h1 : st 1 = 0)
    (hf : (⟨2, ![4352, n]⟩ : Shape).Slices (fun _ => 0) ⟨2, ![1, n]⟩)
    (hs : (⟨2, ![1, n]⟩ : Shape).ShapeCasts ⟨1, ![n]⟩) (i : Fin n) :
    shapeCast ⟨1, ![n]⟩ (Host.dynamicSlice ⟨2, ![1, n]⟩ x st hf) hs (ix1 i) = x (ix2 ⟨t, ht⟩ i) := by
  rw [shapeCast_1a_a_apply]
  unfold Host.dynamicSlice extractStridedSlice
  refine congrArg x (funext fun a => Fin.ext ?_)
  match a with
  | ⟨0, _⟩ =>
    show (min (max (st 0) 0) ((4352 - 1 : ℕ) : Int)).toNat + 0 = t
    rw [h0, row_clamp t ht _ rfl]; rfl
  | ⟨1, _⟩ =>
    show (min (max (st 1) 0) ((n - n : ℕ) : Int)).toNat + i.val = i.val
    rw [h1, Nat.sub_self]; exact Nat.zero_add _

/-- An array with `n` numbers put into its row `t`. -/
theorem update_row {n : ℕ} (hn : n ≠ 1) (x : (⟨2, ![4352, n]⟩ : Shape).Idx → Elt F .f32) (u : (⟨1, ![n]⟩ : Shape).Idx → Elt F .f32)
    (st : Fin 2 → Int) (t : ℕ) (ht : t < 4352) (h0 : st 0 = (BitVec.ofNat 32 t).toInt) (h1 : st 1 = 0)
    (hb : (⟨1, ![n]⟩ : Shape).BroadcastsInDim ⟨2, ![1, n]⟩ (![1] : Fin 1 → Fin 2))
    (hf : (⟨2, ![4352, n]⟩ : Shape).Slices (fun _ => 0) ⟨2, ![1, n]⟩) (r : Fin 4352) (i : Fin n) :
    Host.dynamicUpdateSlice x (broadcastInDim ⟨2, ![1, n]⟩ (![1] : Fin 1 → Fin 2) hb u) st hf (ix2 r i)
      = if r.val = t then u (ix1 i) else x (ix2 r i) := by
  rw [Host.dynamicUpdateSlice_eq_updateSlice x _ st hf ![t, 0] (fun a => by
    match a with
    | ⟨0, _⟩ =>
      show (min (max (st 0) 0) ((4352 - 1 : ℕ) : Int)).toNat = t
      rw [h0, row_clamp t ht _ rfl]
    | ⟨1, _⟩ =>
      show (min (max (st 1) 0) ((n - n : ℕ) : Int)).toNat = 0
      rw [h1, Nat.sub_self]; rfl) ⟨rfl, fun a => by
    match a with
    | ⟨0, _⟩ => show t + 1 ≤ 4352; omega
    | ⟨1, _⟩ => show 0 + n ≤ n; omega⟩]
  unfold updateSlice
  by_cases h : r.val = t
  · rw [if_pos h, dif_pos (fun a => by
      match a with
      | ⟨0, _⟩ => show t ≤ r.val ∧ r.val < t + 1; omega
      | ⟨1, _⟩ => show 0 ≤ i.val ∧ i.val < 0 + n; have := i.isLt; omega)]
    unfold broadcastInDim
    refine congrArg u (funext fun a => Fin.ext ?_)
    match a with
    | ⟨0, _⟩ =>
      split
      · rename_i hh; exact absurd hh hn
      · rfl
  · rw [if_neg h, dif_neg (fun hc => h (by have := hc 0; change t ≤ r.val ∧ r.val < t + 1 at this; omega))]

/-- Trip `t` of the first loop reads row `t` of `bu`. -/
theorem call0 (V : Valuation τ sig (Elt F)) (t : ℕ) (ht : t < 4352) (hi : V (Proc.devRef .tc main_v8_3) = fun _ => BitVec.ofNat 32 t) (i : Fin 4096) :
    after body0_0 V (Proc.devRef .tc main_while0b_v23) (ix1 i) = V (Proc.devRef .tc main_v8_0) (ix2 ⟨t, ht⟩ i) := by
  have e : after body0_0 V (Proc.devRef .tc main_while0b_v23)
      = shapeCast S4096 (Host.dynamicSlice S1x4096 (V (Proc.devRef .tc main_v8_0)) (fun k => ((![V (Proc.devRef .tc main_v8_3), constantI S_ 32 0#32] : Fin 2 → (⟨S_, .i32⟩ : BufTy).Contents (Elt F)) k (Shape.Idx.first h_S_)).toInt) sliceFits_S4352x4096_S1x4096) shapeCasts_S1x4096_S4096 := by
    after_results_entrywise [cast_eq]
  rw [e, hi]
  exact slice_row _ _ t ht rfl rfl _ _ i

/-- It saves the real parts of the state before it. -/
theorem call2 (V : Valuation τ sig (Elt F)) (t : ℕ) (ht : t < 4352) (hi : V (Proc.devRef .tc main_v8_3) = fun _ => BitVec.ofNat 32 t) (r : Fin 4352) (i : Fin 2048) :
    after body0_3 V (Proc.devRef .tc main_while0b_v36) (ix2 r i) = if r.val = t then V (Proc.devRef .tc main_v8_4) (ix1 i) else V (Proc.devRef .tc main_v8_7) (ix2 r i) := by
  have e : after body0_3 V (Proc.devRef .tc main_while0b_v36)
      = Host.dynamicUpdateSlice (V (Proc.devRef .tc main_v8_7)) (broadcastInDim S1x2048 ![1] bcast_S2048_S1x2048_1 (V (Proc.devRef .tc main_v8_4))) (fun k => ((![V (Proc.devRef .tc main_v8_3), constantI S_ 32 0#32] : Fin 2 → (⟨S_, .i32⟩ : BufTy).Contents (Elt F)) k (Shape.Idx.first h_S_)).toInt) updateFits_S4352x2048_S1x2048 := by
    after_results_entrywise [cast_eq]
  rw [e, hi]
  exact update_row (by decide) _ _ _ t ht rfl rfl _ _ r i

/-- It saves the imaginary parts of the state before it. -/
theorem call3 (V : Valuation τ sig (Elt F)) (t : ℕ) (ht : t < 4352) (hi : V (Proc.devRef .tc main_v8_3) = fun _ => BitVec.ofNat 32 t) (r : Fin 4352) (i : Fin 2048) :
    after body0_4 V (Proc.devRef .tc main_while0b_v37) (ix2 r i) = if r.val = t then V (Proc.devRef .tc main_v8_5) (ix1 i) else V (Proc.devRef .tc main_v8_8) (ix2 r i) := by
  have e : after body0_4 V (Proc.devRef .tc main_while0b_v37)
      = Host.dynamicUpdateSlice (V (Proc.devRef .tc main_v8_8)) (broadcastInDim S1x2048 ![1] bcast_S2048_S1x2048_1 (V (Proc.devRef .tc main_v8_5))) (fun k => ((![V (Proc.devRef .tc main_v8_3), constantI S_ 32 0#32] : Fin 2 → (⟨S_, .i32⟩ : BufTy).Contents (Elt F)) k (Shape.Idx.first h_S_)).toInt) updateFits_S4352x2048_S1x2048 := by
    after_results_entrywise [cast_eq]
  rw [e, hi]
  exact update_row (by decide) _ _ _ t ht rfl rfl _ _ r i

/-- A trip of the second loop reads a row of the incoming gradient, -/
theorem call4 (V : Valuation τ sig (Elt F)) (t : ℕ) (ht : t < 4352) (hi : V (Proc.devRef .tc main_while1b_v24) = fun _ => BitVec.ofNat 32 t) (i : Fin 4096) :
    after body1_1 V (Proc.devRef .tc main_while1b_v25) (ix1 i) = V (Proc.devRef .tc main_v16_0) (ix2 ⟨t, ht⟩ i) := by
  have e : after body1_1 V (Proc.devRef .tc main_while1b_v25)
      = shapeCast S4096 (Host.dynamicSlice S1x4096 (V (Proc.devRef .tc main_v16_0)) (fun k => ((![V (Proc.devRef .tc main_while1b_v24), constantI S_ 32 0#32] : Fin 2 → (⟨S_, .i32⟩ : BufTy).Contents (Elt F)) k (Shape.Idx.first h_S_)).toInt) sliceFits_S4352x4096_S1x4096) shapeCasts_S1x4096_S4096 := by
    after_results_entrywise [cast_eq]
  rw [e, hi]
  exact slice_row _ _ t ht rfl rfl _ _ i

/-- the real parts of the saved state of that row, -/
theorem call5 (V : Valuation τ sig (Elt F)) (t : ℕ) (ht : t < 4352) (hi : V (Proc.devRef .tc main_while1b_v24) = fun _ => BitVec.ofNat 32 t) (i : Fin 2048) :
    after body1_2 V (Proc.devRef .tc main_while1b_v26) (ix1 i) = V (Proc.devRef .tc main_v16_1) (ix2 ⟨t, ht⟩ i) := by
  have e : after body1_2 V (Proc.devRef .tc main_while1b_v26)
      = shapeCast S2048 (Host.dynamicSlice S1x2048 (V (Proc.devRef .tc main_v16_1)) (fun k => ((![V (Proc.devRef .tc main_while1b_v24), constantI S_ 32 0#32] : Fin 2 → (⟨S_, .i32⟩ : BufTy).Contents (Elt F)) k (Shape.Idx.first h_S_)).toInt) sliceFits_S4352x2048_S1x2048) shapeCasts_S1x2048_S2048 := by
    after_results_entrywise [cast_eq]
  rw [e, hi]
  exact slice_row _ _ t ht rfl rfl _ _ i

/-- and its imaginary parts. -/
theorem call6 (V : Valuation τ sig (Elt F)) (t : ℕ) (ht : t < 4352) (hi : V (Proc.devRef .tc main_while1b_v24) = fun _ => BitVec.ofNat 32 t) (i : Fin 2048) :
    after body1_3 V (Proc.devRef .tc main_while1b_v27) (ix1 i) = V (Proc.devRef .tc main_v16_2) (ix2 ⟨t, ht⟩ i) := by
  have e : after body1_3 V (Proc.devRef .tc main_while1b_v27)
      = shapeCast S2048 (Host.dynamicSlice S1x2048 (V (Proc.devRef .tc main_v16_2)) (fun k => ((![V (Proc.devRef .tc main_while1b_v24), constantI S_ 32 0#32] : Fin 2 → (⟨S_, .i32⟩ : BufTy).Contents (Elt F)) k (Shape.Idx.first h_S_)).toInt) sliceFits_S4352x2048_S1x2048) shapeCasts_S1x2048_S2048 := by
    after_results_entrywise [cast_eq]
  rw [e, hi]
  exact slice_row _ _ t ht rfl rfl _ _ i

/-- It writes that row of the gradient. -/
theorem call7 (V : Valuation τ sig (Elt F)) (t : ℕ) (ht : t < 4352) (hi : V (Proc.devRef .tc main_while1b_v24) = fun _ => BitVec.ofNat 32 t) (r : Fin 4352) (i : Fin 4096) :
    after body1_5 V (Proc.devRef .tc main_while1b_v50) (ix2 r i) = if r.val = t then V (Proc.devRef .tc main_while1b_v40) (ix1 i) else V (Proc.devRef .tc main_v16_10) (ix2 r i) := by
  have e : after body1_5 V (Proc.devRef .tc main_while1b_v50)
      = Host.dynamicUpdateSlice (V (Proc.devRef .tc main_v16_10)) (broadcastInDim S1x4096 ![1] bcast_S4096_S1x4096_1 (V (Proc.devRef .tc main_while1b_v40))) (fun k => ((![V (Proc.devRef .tc main_while1b_v24), constantI S_ 32 0#32] : Fin 2 → (⟨S_, .i32⟩ : BufTy).Contents (Elt F)) k (Shape.Idx.first h_S_)).toInt) updateFits_S4352x4096_S1x4096 := by
    after_results_entrywise [cast_eq]
  rw [e, hi]
  exact update_row (by decide) _ _ _ t ht rfl rfl _ _ r i

end Cert.ReferenceIdeal.Scan

end
-- ==== Proof.Scan.RefTrip.lean ====
/-
  One trip of each loop of the reference on its carried buffers, element by element, over the extended reals.
-/
module

public import Idealize.ShloMosaic.PureOps.Ideal.Laws
public import proofs.«01_k».proof.Proof.Scan.RefCalls

@[expose] public section

set_option maxRecDepth 8192

noncomputable section

namespace Cert.ReferenceIdeal.Scan

open Cert.ReferenceIdeal Cert.ReferenceIdeal.Gen
open Idealize.ShloMosaic Idealize.ShloMosaic.TcCoe Idealize.ShloMosaic.Tactic Idealize.ShloMosaic.ValueIdx
open Idealize.ShloMosaic.StableHlo

/-- The buffers of one device, over the extended reals. -/
abbrev Vl : Type := Valuation τ sig (Elt Ideal)

/-! ## What a stretch does not write, it keeps -/

theorem keep_body0_0 (V : Vl) {r : Ref sig .tc} (h : r ∉ body0_0_W) : after body0_0 V (no_index (Proc.devRef .tc r)) = V (Proc.devRef .tc r) :=
  after_of_writes_sub body0_0 V body0_0_writes h

theorem keep_body0_1 (V : Vl) {r : Ref sig .tc} (h : r ∉ body0_1_W) : after body0_1 V (no_index (Proc.devRef .tc r)) = V (Proc.devRef .tc r) :=
  after_of_writes_sub body0_1 V body0_1_writes h

theorem keep_body0_2 (V : Vl) {r : Ref sig .tc} (h : r ∉ body0_2_W) : after body0_2 V (no_index (Proc.devRef .tc r)) = V (Proc.devRef .tc r) :=
  after_of_writes_sub body0_2 V body0_2_writes h

theorem keep_body0_3 (V : Vl) {r : Ref sig .tc} (h : r ∉ body0_3_W) : after body0_3 V (no_index (Proc.devRef .tc r)) = V (Proc.devRef .tc r) :=
  after_of_writes_sub body0_3 V body0_3_writes h

theorem keep_body0_4 (V : Vl) {r : Ref sig .tc} (h : r ∉ body0_4_W) : after body0_4 V (no_index (Proc.devRef .tc r)) = V (Proc.devRef .tc r) :=
  after_of_writes_sub body0_4 V body0_4_writes h

theorem keep_body0_5 (V : Vl) {r : Ref sig .tc} (h : r ∉ body0_5_W) : after body0_5 V (no_index (Proc.devRef .tc r)) = V (Proc.devRef .tc r) :=
  after_of_writes_sub body0_5 V body0_5_writes h

theorem keep_body1_0 (V : Vl) {r : Ref sig .tc} (h : r ∉ body1_0_W) : after body1_0 V (no_index (Proc.devRef .tc r)) = V (Proc.devRef .tc r) :=
  after_of_writes_sub body1_0 V body1_0_writes h

theorem keep_body1_1 (V : Vl) {r : Ref sig .tc} (h : r ∉ body1_1_W) : after body1_1 V (no_index (Proc.devRef .tc r)) = V (Proc.devRef .tc r) :=
  after_of_writes_sub body1_1 V body1_1_writes h

theorem keep_body1_2 (V : Vl) {r : Ref sig .tc} (h : r ∉ body1_2_W) : after body1_2 V (no_index (Proc.devRef .tc r)) = V (Proc.devRef .tc r) :=
  after_of_writes_sub body1_2 V body1_2_writes h

theorem keep_body1_3 (V : Vl) {r : Ref sig .tc} (h : r ∉ body1_3_W) : after body1_3 V (no_index (Proc.devRef .tc r)) = V (Proc.devRef .tc r) :=
  after_of_writes_sub body1_3 V body1_3_writes h

theorem keep_body1_4 (V : Vl) {r : Ref sig .tc} (h : r ∉ body1_4_W) : after body1_4 V (no_index (Proc.devRef .tc r)) = V (Proc.devRef .tc r) :=
  after_of_writes_sub body1_4 V body1_4_writes h

theorem keep_body1_5 (V : Vl) {r : Ref sig .tc} (h : r ∉ body1_5_W) : after body1_5 V (no_index (Proc.devRef .tc r)) = V (Proc.devRef .tc r) :=
  after_of_writes_sub body1_5 V body1_5_writes h

theorem keep_body1_6 (V : Vl) {r : Ref sig .tc} (h : r ∉ body1_6_W) : after body1_6 V (no_index (Proc.devRef .tc r)) = V (Proc.devRef .tc r) :=
  after_of_writes_sub body1_6 V body1_6_writes h

theorem keep_preOps (V : Vl) {r : Ref sig .tc} (h : r ∉ preOps_W) : after preOps V (no_index (Proc.devRef .tc r)) = V (Proc.devRef .tc r) :=
  after_of_writes_sub preOps V preOps_writes h

theorem keep_midOps (V : Vl) {r : Ref sig .tc} (h : r ∉ midOps_W) : after midOps V (no_index (Proc.devRef .tc r)) = V (Proc.devRef .tc r) :=
  after_of_writes_sub midOps V midOps_writes h

theorem keep_postOps (V : Vl) {r : Ref sig .tc} (h : r ∉ postOps_W) : after postOps V (no_index (Proc.devRef .tc r)) = V (Proc.devRef .tc r) :=
  after_of_writes_sub postOps V postOps_writes h

abbrev cond0_W : List (Ref sig .tc) := [main_while0c_c_21, main_while0c_v23]
theorem cond0_writes : (cond0 (F := Ideal)).Forall fun op => op.writes ⊆ (cond0_W.map (Proc.devRef (τ := τ) .tc)).toFinset :=
  StableHlo.forall_writes_sub_of_map rfl
theorem keep_cond0 (V : Vl) {r : Ref sig .tc} (h : r ∉ cond0_W) : after cond0 V (no_index (Proc.devRef .tc r)) = V (Proc.devRef .tc r) :=
  after_of_writes_sub cond0 V cond0_writes h

abbrev cond1_W : List (Ref sig .tc) := [main_while1c_c_23, main_while1c_v23]
theorem cond1_writes : (cond1 (F := Ideal)).Forall fun op => op.writes ⊆ (cond1_W.map (Proc.devRef (τ := τ) .tc)).toFinset :=
  StableHlo.forall_writes_sub_of_map rfl
theorem keep_cond1 (V : Vl) {r : Ref sig .tc} (h : r ∉ cond1_W) : after cond1 V (no_index (Proc.devRef .tc r)) = V (Proc.devRef .tc r) :=
  after_of_writes_sub cond1 V cond1_writes h

/-- A column of the left half, and its column of the right half. -/
abbrev loC (i : Fin 2048) : Fin 4096 := ⟨i.val, lt_trans i.isLt (by decide)⟩
abbrev hiC (i : Fin 2048) : Fin 4096 := ⟨2048 + i.val, by have := i.isLt; omega⟩

/-- A trip of the first loop. -/
abbrev T0 (X : Vl) : Vl := afterL body0I (after cond0 X)
/-- A trip of the second loop. -/
abbrev T1 (X : Vl) : Vl := afterL body1I (after cond1 X)

theorem T0_main_v8_0 (X : Vl) : T0 X (Proc.devRef .tc main_v8_0) = X (Proc.devRef .tc main_v8_0) := by
  simp (disch := decide) only [T0, afterL_cons, afterL_nil, keep_cond0, keep_body0_0, keep_body0_1, keep_body0_2, keep_body0_3, keep_body0_4, keep_body0_5]

theorem T0_main_v8_1 (X : Vl) : T0 X (Proc.devRef .tc main_v8_1) = X (Proc.devRef .tc main_v8_1) := by
  simp (disch := decide) only [T0, afterL_cons, afterL_nil, keep_cond0, keep_body0_0, keep_body0_1, keep_body0_2, keep_body0_3, keep_body0_4, keep_body0_5]

theorem T0_main_v8_2 (X : Vl) : T0 X (Proc.devRef .tc main_v8_2) = X (Proc.devRef .tc main_v8_2) := by
  simp (disch := decide) only [T0, afterL_cons, afterL_nil, keep_cond0, keep_body0_0, keep_body0_1, keep_body0_2, keep_body0_3, keep_body0_4, keep_body0_5]

theorem T0_main_v1 (X : Vl) : T0 X (Proc.devRef .tc main_v1) = X (Proc.devRef .tc main_v1) := by
  simp (disch := decide) only [T0, afterL_cons, afterL_nil, keep_cond0, keep_body0_0, keep_body0_1, keep_body0_2, keep_body0_3, keep_body0_4, keep_body0_5]

theorem T0_main_v3 (X : Vl) : T0 X (Proc.devRef .tc main_v3) = X (Proc.devRef .tc main_v3) := by
  simp (disch := decide) only [T0, afterL_cons, afterL_nil, keep_cond0, keep_body0_0, keep_body0_1, keep_body0_2, keep_body0_3, keep_body0_4, keep_body0_5]

theorem T0_main_arg0 (X : Vl) : T0 X (Proc.devRef .tc main_arg0) = X (Proc.devRef .tc main_arg0) := by
  simp (disch := decide) only [T0, afterL_cons, afterL_nil, keep_cond0, keep_body0_0, keep_body0_1, keep_body0_2, keep_body0_3, keep_body0_4, keep_body0_5]

theorem T0_main_arg1 (X : Vl) : T0 X (Proc.devRef .tc main_arg1) = X (Proc.devRef .tc main_arg1) := by
  simp (disch := decide) only [T0, afterL_cons, afterL_nil, keep_cond0, keep_body0_0, keep_body0_1, keep_body0_2, keep_body0_3, keep_body0_4, keep_body0_5]

theorem T0_main_arg2 (X : Vl) : T0 X (Proc.devRef .tc main_arg2) = X (Proc.devRef .tc main_arg2) := by
  simp (disch := decide) only [T0, afterL_cons, afterL_nil, keep_cond0, keep_body0_0, keep_body0_1, keep_body0_2, keep_body0_3, keep_body0_4, keep_body0_5]

theorem T1_main_v16_0 (X : Vl) : T1 X (Proc.devRef .tc main_v16_0) = X (Proc.devRef .tc main_v16_0) := by
  simp (disch := decide) only [T1, afterL_cons, afterL_nil, keep_cond1, keep_body1_0, keep_body1_1, keep_body1_2, keep_body1_3, keep_body1_4, keep_body1_5, keep_body1_6]

theorem T1_main_v16_1 (X : Vl) : T1 X (Proc.devRef .tc main_v16_1) = X (Proc.devRef .tc main_v16_1) := by
  simp (disch := decide) only [T1, afterL_cons, afterL_nil, keep_cond1, keep_body1_0, keep_body1_1, keep_body1_2, keep_body1_3, keep_body1_4, keep_body1_5, keep_body1_6]

theorem T1_main_v16_2 (X : Vl) : T1 X (Proc.devRef .tc main_v16_2) = X (Proc.devRef .tc main_v16_2) := by
  simp (disch := decide) only [T1, afterL_cons, afterL_nil, keep_cond1, keep_body1_0, keep_body1_1, keep_body1_2, keep_body1_3, keep_body1_4, keep_body1_5, keep_body1_6]

theorem T1_main_v16_3 (X : Vl) : T1 X (Proc.devRef .tc main_v16_3) = X (Proc.devRef .tc main_v16_3) := by
  simp (disch := decide) only [T1, afterL_cons, afterL_nil, keep_cond1, keep_body1_0, keep_body1_1, keep_body1_2, keep_body1_3, keep_body1_4, keep_body1_5, keep_body1_6]

theorem T1_main_v16_4 (X : Vl) : T1 X (Proc.devRef .tc main_v16_4) = X (Proc.devRef .tc main_v16_4) := by
  simp (disch := decide) only [T1, afterL_cons, afterL_nil, keep_cond1, keep_body1_0, keep_body1_1, keep_body1_2, keep_body1_3, keep_body1_4, keep_body1_5, keep_body1_6]

theorem T1_main_arg0 (X : Vl) : T1 X (Proc.devRef .tc main_arg0) = X (Proc.devRef .tc main_arg0) := by
  simp (disch := decide) only [T1, afterL_cons, afterL_nil, keep_cond1, keep_body1_0, keep_body1_1, keep_body1_2, keep_body1_3, keep_body1_4, keep_body1_5, keep_body1_6]

theorem T1_main_arg1 (X : Vl) : T1 X (Proc.devRef .tc main_arg1) = X (Proc.devRef .tc main_arg1) := by
  simp (disch := decide) only [T1, afterL_cons, afterL_nil, keep_cond1, keep_body1_0, keep_body1_1, keep_body1_2, keep_body1_3, keep_body1_4, keep_body1_5, keep_body1_6]

theorem T1_main_arg2 (X : Vl) : T1 X (Proc.devRef .tc main_arg2) = X (Proc.devRef .tc main_arg2) := by
  simp (disch := decide) only [T1, afterL_cons, afterL_nil, keep_cond1, keep_body1_0, keep_body1_1, keep_body1_2, keep_body1_3, keep_body1_4, keep_body1_5, keep_body1_6]

/-- An entry of a vector of 2048 numbers, of a vector of 4096, and of an array of 4352 rows of either length. -/
def e2 (x : (⟨S2048, .f32⟩ : BufTy).Contents (Elt Ideal)) (i : Fin 2048) : EReal := x (ix1 i)
def e4 (x : (⟨S4096, .f32⟩ : BufTy).Contents (Elt Ideal)) (i : Fin 4096) : EReal := x (ix1 i)
def a2 (x : (⟨S4352x2048, .f32⟩ : BufTy).Contents (Elt Ideal)) (r : Fin 4352) (i : Fin 2048) : EReal := x (ix2 r i)
def a4 (x : (⟨S4352x4096, .f32⟩ : BufTy).Contents (Elt Ideal)) (r : Fin 4352) (i : Fin 4096) : EReal := x (ix2 r i)
/-- What a buffer holds. -/
abbrev B (V : Vl) (r : Ref sig .tc) : (Proc.devRef .tc r : DevRef τ sig).ty.Contents (Elt Ideal) := V (Proc.devRef .tc r)

theorem slice_lo (x : (⟨S4096, .f32⟩ : BufTy).Contents (Elt Ideal)) (i : Fin 2048) :
    e2 (extractStridedSlice S2048 ![0] x slices_S4096_S2048_0) i = e4 x (loC i) :=
  congrArg x (funext fun a => Fin.ext (by match a with | ⟨0, _⟩ => exact Nat.zero_add _))
theorem slice_hi (x : (⟨S4096, .f32⟩ : BufTy).Contents (Elt Ideal)) (i : Fin 2048) :
    e2 (extractStridedSlice S2048 ![2048] x slices_S4096_S2048_2048) i = e4 x (hiC i) :=
  congrArg x (funext fun a => Fin.ext (by match a with | ⟨0, _⟩ => rfl))

/-! ## The stretches of arithmetic -/

theorem b01_re (V : Vl) (i : Fin 2048) : e2 (after body0_1 V (Proc.devRef .tc main_while0b_v28)) i = (e2 (B V main_v8_1) i * e2 (B V main_v8_4) i - e2 (B V main_v8_2) i * e2 (B V main_v8_5) i) + e4 (B V main_while0b_v23) (loC i) := by
  have e : (after body0_1 V (Proc.devRef .tc main_while0b_v28) : FVec Ideal S2048 .f32) = addf (F := Ideal) (φ := .f32) (subf (F := Ideal) (φ := .f32) (mulf (F := Ideal) (φ := .f32) (V (Proc.devRef .tc main_v8_1)) (V (Proc.devRef .tc main_v8_4))) (mulf (F := Ideal) (φ := .f32) (V (Proc.devRef .tc main_v8_2)) (V (Proc.devRef .tc main_v8_5)))) (extractStridedSlice S2048 ![0] (V (Proc.devRef .tc main_while0b_v23)) slices_S4096_S2048_0) := by
    after_results_entrywise [cast_eq]
  rw [e]
  rw [B, ← slice_lo]
  rfl

theorem b01_im (V : Vl) (i : Fin 2048) : e2 (after body0_1 V (Proc.devRef .tc main_while0b_v33)) i = (e2 (B V main_v8_1) i * e2 (B V main_v8_5) i + e2 (B V main_v8_2) i * e2 (B V main_v8_4) i) + e4 (B V main_while0b_v23) (hiC i) := by
  have e : (after body0_1 V (Proc.devRef .tc main_while0b_v33) : FVec Ideal S2048 .f32) = addf (F := Ideal) (φ := .f32) (addf (F := Ideal) (φ := .f32) (mulf (F := Ideal) (φ := .f32) (V (Proc.devRef .tc main_v8_1)) (V (Proc.devRef .tc main_v8_5))) (mulf (F := Ideal) (φ := .f32) (V (Proc.devRef .tc main_v8_2)) (V (Proc.devRef .tc main_v8_4)))) (extractStridedSlice S2048 ![2048] (V (Proc.devRef .tc main_while0b_v23)) slices_S4096_S2048_2048) := by
    after_results_entrywise [cast_eq]
  rw [e]
  rw [B, ← slice_hi]
  rfl

theorem b14_re (V : Vl) (i : Fin 2048) : e2 (after body1_4 V (Proc.devRef .tc main_while1b_v47)) i = e2 (B V main_v16_4) i * (e2 (B V main_v16_9) i + e4 (B V main_while1b_v25) (hiC i)) + e2 (B V main_v16_3) i * (e2 (B V main_v16_8) i + e4 (B V main_while1b_v25) (loC i)) := by
  have e : (after body1_4 V (Proc.devRef .tc main_while1b_v47) : FVec Ideal S2048 .f32) = addf (F := Ideal) (φ := .f32) (mulf (F := Ideal) (φ := .f32) (V (Proc.devRef .tc main_v16_4)) (addf (F := Ideal) (φ := .f32) (V (Proc.devRef .tc main_v16_9)) (extractStridedSlice S2048 ![2048] (V (Proc.devRef .tc main_while1b_v25)) slices_S4096_S2048_2048))) (mulf (F := Ideal) (φ := .f32) (V (Proc.devRef .tc main_v16_3)) (addf (F := Ideal) (φ := .f32) (V (Proc.devRef .tc main_v16_8)) (extractStridedSlice S2048 ![0] (V (Proc.devRef .tc main_while1b_v25)) slices_S4096_S2048_0))) := by
    after_results_entrywise [cast_eq]
  rw [e]
  rw [B, ← slice_lo, ← slice_hi]
  rfl

theorem b14_im (V : Vl) (i : Fin 2048) : e2 (after body1_4 V (Proc.devRef .tc main_while1b_v43)) i = e2 (B V main_v16_3) i * (e2 (B V main_v16_9) i + e4 (B V main_while1b_v25) (hiC i)) + e2 (B V main_v16_4) i * -(e2 (B V main_v16_8) i + e4 (B V main_while1b_v25) (loC i)) := by
  have e : (after body1_4 V (Proc.devRef .tc main_while1b_v43) : FVec Ideal S2048 .f32) = addf (F := Ideal) (φ := .f32) (mulf (F := Ideal) (φ := .f32) (V (Proc.devRef .tc main_v16_3)) (addf (F := Ideal) (φ := .f32) (V (Proc.devRef .tc main_v16_9)) (extractStridedSlice S2048 ![2048] (V (Proc.devRef .tc main_while1b_v25)) slices_S4096_S2048_2048))) (mulf (F := Ideal) (φ := .f32) (V (Proc.devRef .tc main_v16_4)) (Host.negf (F := Ideal) (φ := .f32) (addf (F := Ideal) (φ := .f32) (V (Proc.devRef .tc main_v16_8)) (extractStridedSlice S2048 ![0] (V (Proc.devRef .tc main_while1b_v25)) slices_S4096_S2048_0)))) := by
    after_results_entrywise [cast_eq]
  rw [e]
  rw [B, ← slice_lo, ← slice_hi]
  rfl

theorem b14_dr (V : Vl) (i : Fin 2048) : e2 (after body1_4 V (Proc.devRef .tc main_while1b_v49)) i = (e2 (B V main_v16_6) i + (e2 (B V main_v16_9) i + e4 (B V main_while1b_v25) (hiC i)) * e2 (B V main_while1b_v27) i) + (e2 (B V main_v16_8) i + e4 (B V main_while1b_v25) (loC i)) * e2 (B V main_while1b_v26) i := by
  have e : (after body1_4 V (Proc.devRef .tc main_while1b_v49) : FVec Ideal S2048 .f32) = addf (F := Ideal) (φ := .f32) (addf (F := Ideal) (φ := .f32) (V (Proc.devRef .tc main_v16_6)) (mulf (F := Ideal) (φ := .f32) (addf (F := Ideal) (φ := .f32) (V (Proc.devRef .tc main_v16_9)) (extractStridedSlice S2048 ![2048] (V (Proc.devRef .tc main_while1b_v25)) slices_S4096_S2048_2048)) (V (Proc.devRef .tc main_while1b_v27)))) (mulf (F := Ideal) (φ := .f32) (addf (F := Ideal) (φ := .f32) (V (Proc.devRef .tc main_v16_8)) (extractStridedSlice S2048 ![0] (V (Proc.devRef .tc main_while1b_v25)) slices_S4096_S2048_0)) (V (Proc.devRef .tc main_while1b_v26))) := by
    after_results_entrywise [cast_eq]
  rw [e]
  rw [B, ← slice_lo, ← slice_hi]
  rfl

theorem b14_di (V : Vl) (i : Fin 2048) : e2 (after body1_4 V (Proc.devRef .tc main_while1b_v45)) i = (e2 (B V main_v16_7) i + (e2 (B V main_v16_9) i + e4 (B V main_while1b_v25) (hiC i)) * e2 (B V main_while1b_v26) i) + -(e2 (B V main_v16_8) i + e4 (B V main_while1b_v25) (loC i)) * e2 (B V main_while1b_v27) i := by
  have e : (after body1_4 V (Proc.devRef .tc main_while1b_v45) : FVec Ideal S2048 .f32) = addf (F := Ideal) (φ := .f32) (addf (F := Ideal) (φ := .f32) (V (Proc.devRef .tc main_v16_7)) (mulf (F := Ideal) (φ := .f32) (addf (F := Ideal) (φ := .f32) (V (Proc.devRef .tc main_v16_9)) (extractStridedSlice S2048 ![2048] (V (Proc.devRef .tc main_while1b_v25)) slices_S4096_S2048_2048)) (V (Proc.devRef .tc main_while1b_v26)))) (mulf (F := Ideal) (φ := .f32) (Host.negf (F := Ideal) (φ := .f32) (addf (F := Ideal) (φ := .f32) (V (Proc.devRef .tc main_v16_8)) (extractStridedSlice S2048 ![0] (V (Proc.devRef .tc main_while1b_v25)) slices_S4096_S2048_0))) (V (Proc.devRef .tc main_while1b_v27))) := by
    after_results_entrywise [cast_eq]
  rw [e]
  rw [B, ← slice_lo, ← slice_hi]
  rfl

/-- The row of the gradient that a trip writes: the sum of two halves, each with zeros beside it. -/
theorem b14_row (V : Vl) : (after body1_4 V (Proc.devRef .tc main_while1b_v40) : FVec Ideal S4096 .f32)
    = addf (F := Ideal) (φ := .f32) (pad S4096 ![2048] ![0] ![0] (addf (F := Ideal) (φ := .f32) (V (Proc.devRef .tc main_v16_9)) (extractStridedSlice S2048 ![2048] (V (Proc.devRef .tc main_while1b_v25)) slices_S4096_S2048_2048)) (constant S_ .f32 0x00000000#32) pads_S2048_S4096_204800 h_S_)
        (pad S4096 ![0] ![2048] ![0] (addf (F := Ideal) (φ := .f32) (V (Proc.devRef .tc main_v16_8)) (extractStridedSlice S2048 ![0] (V (Proc.devRef .tc main_while1b_v25)) slices_S4096_S2048_0)) (constant S_ .f32 0x00000000#32) pads_S2048_S4096_020480 h_S_) := by
  after_results_entrywise [cast_eq]

theorem pad_left (x : (⟨S2048, .f32⟩ : BufTy).Contents (Elt Ideal)) (i : Fin 2048) :
    e4 (pad S4096 ![2048] ![0] ![0] x (constant (F := Ideal) S_ .f32 0x00000000#32) pads_S2048_S4096_204800 h_S_) (loC i) = 0 := by
  unfold e4 pad
  rw [dif_neg (fun h => by have h0 := (h 0).1; change 2048 ≤ i.val at h0; have := i.isLt; omega)]
  exact Ideal.ofBits_zero_f32
theorem pad_left' (x : (⟨S2048, .f32⟩ : BufTy).Contents (Elt Ideal)) (i : Fin 2048) :
    e4 (pad S4096 ![2048] ![0] ![0] x (constant (F := Ideal) S_ .f32 0x00000000#32) pads_S2048_S4096_204800 h_S_) (hiC i) = e2 x i := by
  unfold e4 pad
  rw [dif_pos (fun a => by
    match a with
    | ⟨0, _⟩ => exact ⟨Nat.le_add_right _ _, Nat.mod_one _, by show (2048 + i.val - 2048) / 1 < 2048; have := i.isLt; omega⟩)]
  refine congrArg x (funext fun a => Fin.ext ?_)
  match a with
  | ⟨0, _⟩ => show (2048 + i.val - 2048) / 1 = i.val; omega
theorem pad_right (x : (⟨S2048, .f32⟩ : BufTy).Contents (Elt Ideal)) (i : Fin 2048) :
    e4 (pad S4096 ![0] ![2048] ![0] x (constant (F := Ideal) S_ .f32 0x00000000#32) pads_S2048_S4096_020480 h_S_) (hiC i) = 0 := by
  unfold e4 pad
  rw [dif_neg (fun h => by have h0 := (h 0).2.2; change (2048 + i.val - 0) / 1 < 2048 at h0; omega)]
  exact Ideal.ofBits_zero_f32
theorem pad_right' (x : (⟨S2048, .f32⟩ : BufTy).Contents (Elt Ideal)) (i : Fin 2048) :
    e4 (pad S4096 ![0] ![2048] ![0] x (constant (F := Ideal) S_ .f32 0x00000000#32) pads_S2048_S4096_020480 h_S_) (loC i) = e2 x i := by
  unfold e4 pad
  rw [dif_pos (fun a => by
    match a with
    | ⟨0, _⟩ => exact ⟨Nat.zero_le _, Nat.mod_one _, by show (i.val - 0) / 1 < 2048; have := i.isLt; omega⟩)]
  refine congrArg x (funext fun a => Fin.ext ?_)
  match a with
  | ⟨0, _⟩ => show (i.val - 0) / 1 = i.val; omega

theorem b14_row_lo (V : Vl) (i : Fin 2048) : e4 (after body1_4 V (Proc.devRef .tc main_while1b_v40)) (loC i) = (e2 (B V main_v16_8) i + e4 (B V main_while1b_v25) (loC i)) := by
  have h := b14_row V
  have h1 := pad_left (addf (F := Ideal) (φ := .f32) (V (Proc.devRef .tc main_v16_9)) (extractStridedSlice S2048 ![2048] (V (Proc.devRef .tc main_while1b_v25)) slices_S4096_S2048_2048)) i
  have h2 := pad_right' (addf (F := Ideal) (φ := .f32) (V (Proc.devRef .tc main_v16_8)) (extractStridedSlice S2048 ![0] (V (Proc.devRef .tc main_while1b_v25)) slices_S4096_S2048_0)) i
  rw [show e4 (after body1_4 V (Proc.devRef .tc main_while1b_v40)) (loC i) = _ from congrFun h (ix1 (loC i))]
  refine (congrArg₂ (fun a b : EReal => a + b) h1 h2).trans ?_
  rw [zero_add, B, ← slice_lo]
  rfl
theorem b14_row_hi (V : Vl) (i : Fin 2048) : e4 (after body1_4 V (Proc.devRef .tc main_while1b_v40)) (hiC i) = (e2 (B V main_v16_9) i + e4 (B V main_while1b_v25) (hiC i)) := by
  have h := b14_row V
  have h1 := pad_left' (addf (F := Ideal) (φ := .f32) (V (Proc.devRef .tc main_v16_9)) (extractStridedSlice S2048 ![2048] (V (Proc.devRef .tc main_while1b_v25)) slices_S4096_S2048_2048)) i
  have h2 := pad_right (addf (F := Ideal) (φ := .f32) (V (Proc.devRef .tc main_v16_8)) (extractStridedSlice S2048 ![0] (V (Proc.devRef .tc main_while1b_v25)) slices_S4096_S2048_0)) i
  rw [show e4 (after body1_4 V (Proc.devRef .tc main_while1b_v40)) (hiC i) = _ from congrFun h (ix1 (hiC i))]
  refine (congrArg₂ (fun a b : EReal => a + b) h1 h2).trans ?_
  rw [add_zero, B, ← slice_hi]
  rfl

end Cert.ReferenceIdeal.Scan

end
-- ==== Proof.Scan.RefVal.lean ====
/-
  What the reference leaves in its two results, element by element, over the extended reals.
-/
module

public import proofs.«01_k».proof.Proof.Scan.RefTrip
public import proofs.«01_k».proof.Proof.Scan.Scalar

@[expose] public section

set_option maxRecDepth 8192

noncomputable section

namespace Cert.ReferenceIdeal.Scan

open Cert.ReferenceIdeal Cert.ReferenceIdeal.Gen
open Idealize.ShloMosaic Idealize.ShloMosaic.TcCoe Idealize.ShloMosaic.Tactic Idealize.ShloMosaic.ValueIdx
open Idealize.ShloMosaic.StableHlo
open Cert.Scalar

/-! ## The copies at the end of a trip -/

theorem cp0_4 (V : Vl) : after body0_5 V (Proc.devRef .tc main_v8_4) = V (Proc.devRef .tc main_while0b_v28) := by
  after_reads_simp
  rfl
theorem cp0_5 (V : Vl) : after body0_5 V (Proc.devRef .tc main_v8_5) = V (Proc.devRef .tc main_while0b_v33) := by
  after_reads_simp
  rfl
theorem cp0_7 (V : Vl) : after body0_5 V (Proc.devRef .tc main_v8_7) = V (Proc.devRef .tc main_while0b_v36) := by
  after_reads_simp
  rfl
theorem cp0_8 (V : Vl) : after body0_5 V (Proc.devRef .tc main_v8_8) = V (Proc.devRef .tc main_while0b_v37) := by
  after_reads_simp
  rfl
theorem cp1_6 (V : Vl) : after body1_6 V (Proc.devRef .tc main_v16_6) = V (Proc.devRef .tc main_while1b_v49) := by
  after_reads_simp
  rfl
theorem cp1_7 (V : Vl) : after body1_6 V (Proc.devRef .tc main_v16_7) = V (Proc.devRef .tc main_while1b_v45) := by
  after_reads_simp
  rfl
theorem cp1_8 (V : Vl) : after body1_6 V (Proc.devRef .tc main_v16_8) = V (Proc.devRef .tc main_while1b_v47) := by
  after_reads_simp
  rfl
theorem cp1_9 (V : Vl) : after body1_6 V (Proc.devRef .tc main_v16_9) = V (Proc.devRef .tc main_while1b_v43) := by
  after_reads_simp
  rfl
theorem cp1_10 (V : Vl) : after body1_6 V (Proc.devRef .tc main_v16_10) = V (Proc.devRef .tc main_while1b_v50) := by
  after_reads_simp
  rfl

/-! ## The copies between the loops -/

theorem cpm_0 (V : Vl) : after midOps V (Proc.devRef .tc main_v16_0) = V (Proc.devRef .tc main_arg2) := by
  after_reads_simp
  rfl
theorem cpm_1 (V : Vl) : after midOps V (Proc.devRef .tc main_v16_1) = V (Proc.devRef .tc main_v8_7) := by
  after_reads_simp
  rfl
theorem cpm_2 (V : Vl) : after midOps V (Proc.devRef .tc main_v16_2) = V (Proc.devRef .tc main_v8_8) := by
  after_reads_simp
  rfl
theorem cpm_3 (V : Vl) : after midOps V (Proc.devRef .tc main_v16_3) = V (Proc.devRef .tc main_v1) := by
  after_reads_simp
  rfl
theorem cpm_4 (V : Vl) : after midOps V (Proc.devRef .tc main_v16_4) = V (Proc.devRef .tc main_v3) := by
  after_reads_simp
  rfl

/-! ## A trip of the first loop -/

section
variable (X : Vl) (t : ℕ) (ht : t < 4352) (hi : X (Proc.devRef .tc main_v8_3) = fun _ => BitVec.ofNat 32 t)
include hi
include ht

theorem row0 (i : Fin 4096) : e4 (after body0_0 (after cond0 X) (Proc.devRef .tc main_while0b_v23)) i = a4 (B X main_v8_0) ⟨t, ht⟩ i := by
  have hk : after cond0 X (Proc.devRef .tc main_v8_3) = fun _ => BitVec.ofNat 32 t := by rw [keep_cond0 X (by decide)]; exact hi
  unfold e4 a4
  rw [call0 (after cond0 X) t ht hk, keep_cond0 X (by decide)]

theorem t0_re (i : Fin 2048) : e2 (B (T0 X) main_v8_4) i
    = (e2 (B X main_v8_1) i * e2 (B X main_v8_4) i - e2 (B X main_v8_2) i * e2 (B X main_v8_5) i) + a4 (B X main_v8_0) ⟨t, ht⟩ (loC i) := by
  simp only [B, T0, afterL_cons, afterL_nil]
  rw [cp0_4]
  simp (disch := decide) only [keep_body0_2, keep_body0_3, keep_body0_4]
  rw [b01_re, row0 X t ht hi]
  simp (disch := decide) only [B, keep_body0_0, keep_cond0]

theorem t0_im (i : Fin 2048) : e2 (B (T0 X) main_v8_5) i
    = (e2 (B X main_v8_1) i * e2 (B X main_v8_5) i + e2 (B X main_v8_2) i * e2 (B X main_v8_4) i) + a4 (B X main_v8_0) ⟨t, ht⟩ (hiC i) := by
  simp only [B, T0, afterL_cons, afterL_nil]
  rw [cp0_5]
  simp (disch := decide) only [keep_body0_2, keep_body0_3, keep_body0_4]
  rw [b01_im, row0 X t ht hi]
  simp (disch := decide) only [B, keep_body0_0, keep_cond0]

theorem t0_sr (r : Fin 4352) (i : Fin 2048) : a2 (B (T0 X) main_v8_7) r i
    = if r.val = t then e2 (B X main_v8_4) i else a2 (B X main_v8_7) r i := by
  simp only [B, T0, afterL_cons, afterL_nil]
  rw [cp0_7]
  simp (disch := decide) only [keep_body0_4]
  unfold a2 e2
  rw [call2 _ t ht (by simp (disch := decide) only [keep_body0_0, keep_body0_1, keep_body0_2, keep_cond0]; exact hi)]
  simp (disch := decide) only [keep_body0_0, keep_body0_1, keep_body0_2, keep_cond0]

theorem t0_si (r : Fin 4352) (i : Fin 2048) : a2 (B (T0 X) main_v8_8) r i
    = if r.val = t then e2 (B X main_v8_5) i else a2 (B X main_v8_8) r i := by
  simp only [B, T0, afterL_cons, afterL_nil]
  rw [cp0_8]
  unfold a2 e2
  rw [call3 _ t ht (by simp (disch := decide) only [keep_body0_0, keep_body0_1, keep_body0_2, keep_body0_3, keep_cond0]; exact hi)]
  simp (disch := decide) only [keep_body0_0, keep_body0_1, keep_body0_2, keep_body0_3, keep_cond0]

end

/-! ## A trip of the second loop -/

/-- The row that a trip of the second loop works on. -/
abbrev rowOf (k : ℕ) : Fin 4352 := ⟨4351 - k, by omega⟩

/-- The gradient of the row that a trip works on: what is carried, and the row of the incoming gradient. -/
abbrev lamR (X : Vl) (k : ℕ) (i : Fin 2048) : EReal := e2 (B X main_v16_8) i + a4 (B X main_v16_0) (rowOf k) (loC i)
abbrev lamI (X : Vl) (k : ℕ) (i : Fin 2048) : EReal := e2 (B X main_v16_9) i + a4 (B X main_v16_0) (rowOf k) (hiC i)

/-- The second loop computes its row's number from its counter. -/
theorem idx1 (X : Vl) (k : ℕ) (hk : k < 4352) (hi : X (Proc.devRef .tc main_v16_5) = fun _ => BitVec.ofNat 32 k) :
    after body1_0 (after cond1 X) (Proc.devRef .tc main_while1b_v24) = fun _ => BitVec.ofNat 32 (4351 - k) := by
  have e : after body1_0 (after cond1 X) (Proc.devRef .tc main_while1b_v24)
      = subi (subi (constantI S_ 32 4352#32) (after cond1 X (Proc.devRef .tc main_v16_5))) (constantI S_ 32 1#32) := by
    after_reads_simp
  rw [e, keep_cond1 X (by decide), hi]
  funext _
  show (4352#32 - BitVec.ofNat 32 k) - 1#32 = BitVec.ofNat 32 (4351 - k)
  apply BitVec.eq_of_toNat_eq
  simp only [BitVec.toNat_sub, BitVec.toNat_ofNat]
  omega

section
variable (X : Vl) (k : ℕ) (hk : k < 4352) (hi : X (Proc.devRef .tc main_v16_5) = fun _ => BitVec.ofNat 32 k)
include hi hk

theorem row1 (i : Fin 4096) : e4 (after body1_1 (after body1_0 (after cond1 X)) (Proc.devRef .tc main_while1b_v25)) i = a4 (B X main_v16_0) (rowOf k) i := by
  unfold e4 a4
  rw [call4 _ (4351 - k) (by omega) (idx1 X k hk hi)]
  simp (disch := decide) only [B, keep_body1_0, keep_cond1]

theorem row1_sr (i : Fin 2048) : e2 (after body1_2 (after body1_1 (after body1_0 (after cond1 X))) (Proc.devRef .tc main_while1b_v26)) i = a2 (B X main_v16_1) (rowOf k) i := by
  unfold e2 a2
  rw [call5 _ (4351 - k) (by omega) (by rw [keep_body1_1 _ (by decide)]; exact idx1 X k hk hi)]
  simp (disch := decide) only [B, keep_body1_0, keep_body1_1, keep_cond1]

theorem row1_si (i : Fin 2048) : e2 (after body1_3 (after body1_2 (after body1_1 (after body1_0 (after cond1 X)))) (Proc.devRef .tc main_while1b_v27)) i = a2 (B X main_v16_2) (rowOf k) i := by
  unfold e2 a2
  rw [call6 _ (4351 - k) (by omega) (by rw [keep_body1_2 _ (by decide), keep_body1_1 _ (by decide)]; exact idx1 X k hk hi)]
  simp (disch := decide) only [B, keep_body1_0, keep_body1_1, keep_body1_2, keep_cond1]

theorem t1_re (i : Fin 2048) : e2 (B (T1 X) main_v16_8) i = e2 (B X main_v16_4) i * lamI X k i + e2 (B X main_v16_3) i * lamR X k i := by
  simp only [B, T1, afterL_cons, afterL_nil]
  rw [cp1_8]
  simp (disch := decide) only [keep_body1_5]
  rw [b14_re]
  simp (disch := decide) only [B, keep_body1_2, keep_body1_3]
  rw [row1 X k hk hi, row1 X k hk hi]
  simp (disch := decide) only [B, keep_body1_0, keep_body1_1, keep_cond1]

theorem t1_im (i : Fin 2048) : e2 (B (T1 X) main_v16_9) i = e2 (B X main_v16_3) i * lamI X k i + e2 (B X main_v16_4) i * -lamR X k i := by
  simp only [B, T1, afterL_cons, afterL_nil]
  rw [cp1_9]
  simp (disch := decide) only [keep_body1_5]
  rw [b14_im]
  simp (disch := decide) only [B, keep_body1_2, keep_body1_3]
  rw [row1 X k hk hi, row1 X k hk hi]
  simp (disch := decide) only [B, keep_body1_0, keep_body1_1, keep_cond1]

theorem t1_dr (i : Fin 2048) : e2 (B (T1 X) main_v16_6) i
    = (e2 (B X main_v16_6) i + lamI X k i * a2 (B X main_v16_2) (rowOf k) i) + lamR X k i * a2 (B X main_v16_1) (rowOf k) i := by
  simp only [B, T1, afterL_cons, afterL_nil]
  rw [cp1_6]
  simp (disch := decide) only [keep_body1_5]
  rw [b14_dr, row1_si X k hk hi]
  simp (disch := decide) only [B, keep_body1_3]
  rw [row1_sr X k hk hi]
  simp (disch := decide) only [keep_body1_2]
  rw [row1 X k hk hi, row1 X k hk hi]
  simp (disch := decide) only [B, keep_body1_0, keep_body1_1, keep_cond1]

theorem t1_di (i : Fin 2048) : e2 (B (T1 X) main_v16_7) i
    = (e2 (B X main_v16_7) i + lamI X k i * a2 (B X main_v16_1) (rowOf k) i) + -lamR X k i * a2 (B X main_v16_2) (rowOf k) i := by
  simp only [B, T1, afterL_cons, afterL_nil]
  rw [cp1_7]
  simp (disch := decide) only [keep_body1_5]
  rw [b14_di, row1_si X k hk hi]
  simp (disch := decide) only [B, keep_body1_3]
  rw [row1_sr X k hk hi]
  simp (disch := decide) only [keep_body1_2]
  rw [row1 X k hk hi, row1 X k hk hi]
  simp (disch := decide) only [B, keep_body1_0, keep_body1_1, keep_cond1]

theorem t1_row (r : Fin 4352) (i : Fin 4096) : a4 (B (T1 X) main_v16_10) r i
    = if r.val = 4351 - k then e4 (after body1_4 (after body1_3 (after body1_2 (after body1_1 (after body1_0 (after cond1 X)))))
        (Proc.devRef .tc main_while1b_v40)) i else a4 (B X main_v16_10) r i := by
  simp only [B, T1, afterL_cons, afterL_nil]
  rw [cp1_10]
  unfold a4 e4
  rw [call7 _ (4351 - k) (by omega) (by
    simp (disch := decide) only [keep_body1_4, keep_body1_3, keep_body1_2, keep_body1_1]; exact idx1 X k hk hi)]
  simp (disch := decide) only [keep_body1_0, keep_body1_1, keep_body1_2, keep_body1_3, keep_body1_4, keep_cond1]

theorem t1_lo (r : Fin 4352) (i : Fin 2048) : a4 (B (T1 X) main_v16_10) r (loC i)
    = if r.val = 4351 - k then lamR X k i else a4 (B X main_v16_10) r (loC i) := by
  rw [t1_row X k hk hi, b14_row_lo]
  simp (disch := decide) only [B, keep_body1_2, keep_body1_3]
  rw [row1 X k hk hi]
  simp (disch := decide) only [B, keep_body1_0, keep_body1_1, keep_cond1]

theorem t1_hi (r : Fin 4352) (i : Fin 2048) : a4 (B (T1 X) main_v16_10) r (hiC i)
    = if r.val = 4351 - k then lamI X k i else a4 (B X main_v16_10) r (hiC i) := by
  rw [t1_row X k hk hi, b14_row_hi]
  simp (disch := decide) only [B, keep_body1_2, keep_body1_3]
  rw [row1 X k hk hi]
  simp (disch := decide) only [B, keep_body1_0, keep_body1_1, keep_cond1]

end

/-! ## The first loop -/

variable (m : (ℓ : Loc nD τ sig) → Buf (Elt Ideal) ℓ) (c : Dev nD)

/-- The three arguments on a device. -/
abbrev bu : (⟨S4352x4096, .f32⟩ : BufTy).Contents (Elt Ideal) := m ((c.tc : Thread nD τ).loc main_arg0)
abbrev ab : (⟨S1x4096, .f32⟩ : BufTy).Contents (Elt Ideal) := m ((c.tc : Thread nD τ).loc main_arg1)
abbrev gr : (⟨S4352x4096, .f32⟩ : BufTy).Contents (Elt Ideal) := m ((c.tc : Thread nD τ).loc main_arg2)

/-- An entry of the coefficient row; a row of an array at a column, counted from the first row and from the last. -/
def coef (a : (⟨S1x4096, .f32⟩ : BufTy).Contents (Elt Ideal)) (i : Fin 4096) : EReal := a (ix2 0 i)
def fwd (x : (⟨S4352x4096, .f32⟩ : BufTy).Contents (Elt Ideal)) (i : Fin 4096) (k : ℕ) : EReal := a4 x ⟨k % 4352, Nat.mod_lt _ (by decide)⟩ i
def bwd (x : (⟨S4352x4096, .f32⟩ : BufTy).Contents (Elt Ideal)) (i : Fin 4096) (k : ℕ) : EReal := a4 x (rowOf k) i

/-- The state before row `k`, and the gradient of the `k`-th row from the last, at a column of the left half and its partner. -/
abbrev S (i : Fin 2048) : ℕ → EReal × EReal :=
  state (coef (ab m c) (loC i)) (coef (ab m c) (hiC i)) (fwd (bu m c) (loC i)) (fwd (bu m c) (hiC i))
abbrev Lm (i : Fin 2048) : ℕ → EReal × EReal :=
  adj (coef (ab m c) (loC i)) (coef (ab m c) (hiC i)) (bwd (gr m c) (loC i)) (bwd (gr m c) (hiC i))
abbrev Bk (i : Fin 2048) : ℕ → EReal × EReal :=
  back (coef (ab m c) (loC i)) (coef (ab m c) (hiC i)) (bwd (gr m c) (loC i)) (bwd (gr m c) (hiC i))

theorem iv_ofNat (k : ℕ) : Scf.iv 0#32 1#32 k = BitVec.ofNat 32 k := by
  apply BitVec.eq_of_toNat_eq
  simp [Scf.iv]

theorem hi0 (k : ℕ) : at0 m k c (Proc.devRef .tc main_v8_3) = fun _ => BitVec.ofNat 32 k := by rw [ctr0, iv_ofNat]
theorem hi1 (k : ℕ) : at1 m k c (Proc.devRef .tc main_v16_5) = fun _ => BitVec.ofNat 32 k := by rw [ctr1, iv_ofNat]

theorem at0_v8_0 : ∀ k, B (at0 m k c) main_v8_0 = bu m c
  | 0 => by
    show afterL preI (launchContents m c) (Proc.devRef .tc main_v8_0) = _
    simp only [afterL_cons, afterL_nil]
    after_reads_simp
    rfl
  | k + 1 => (T0_main_v8_0 (at0 m k c)).trans (at0_v8_0 k)

theorem E0_v1 (i : Fin 2048) : e2 (B (E0 m c) main_v1) i = coef (ab m c) (loC i) := by
  have e : (B (E0 m c) main_v1) = shapeCast S2048 (extractStridedSlice S1x2048 ![0, 0] (ab m c) slices_S1x4096_S1x2048_0_0) shapeCasts_S1x2048_S2048 := by
    show after preOps (launchContents m c) (Proc.devRef .tc main_v1) = _
    after_results_entrywise [cast_eq]
  rw [e]
  unfold e2 coef
  rw [shapeCast_1a_a_apply]
  refine congrArg (ab m c) (funext fun a => Fin.ext ?_)
  match a with
  | ⟨0, _⟩ => rfl
  | ⟨1, _⟩ => exact Nat.zero_add _
theorem E0_v3 (i : Fin 2048) : e2 (B (E0 m c) main_v3) i = coef (ab m c) (hiC i) := by
  have e : (B (E0 m c) main_v3) = shapeCast S2048 (extractStridedSlice S1x2048 ![0, 2048] (ab m c) slices_S1x4096_S1x2048_0_2048) shapeCasts_S1x2048_S2048 := by
    show after preOps (launchContents m c) (Proc.devRef .tc main_v3) = _
    after_results_entrywise [cast_eq]
  rw [e]
  unfold e2 coef
  rw [shapeCast_1a_a_apply]
  refine congrArg (ab m c) (funext fun a => Fin.ext ?_)
  match a with
  | ⟨0, _⟩ => rfl
  | ⟨1, _⟩ => rfl

theorem at0_v1 (i : Fin 2048) : ∀ k, e2 (B (at0 m k c) main_v1) i = coef (ab m c) (loC i)
  | 0 => E0_v1 m c i
  | k + 1 => (congrArg (e2 · i) (T0_main_v1 (at0 m k c))).trans (at0_v1 i k)
theorem at0_v3 (i : Fin 2048) : ∀ k, e2 (B (at0 m k c) main_v3) i = coef (ab m c) (hiC i)
  | 0 => E0_v3 m c i
  | k + 1 => (congrArg (e2 · i) (T0_main_v3 (at0 m k c))).trans (at0_v3 i k)
theorem at0_v8_1 (i : Fin 2048) : ∀ k, e2 (B (at0 m k c) main_v8_1) i = coef (ab m c) (loC i)
  | 0 => by
    rw [← E0_v1 m c i]
    refine congrArg (e2 · i) ?_
    show after preOps (launchContents m c) (Proc.devRef .tc main_v8_1) = after preOps (launchContents m c) (Proc.devRef .tc main_v1)
    after_reads_simp
    rfl
  | k + 1 => (congrArg (e2 · i) (T0_main_v8_1 (at0 m k c))).trans (at0_v8_1 i k)
theorem at0_v8_2 (i : Fin 2048) : ∀ k, e2 (B (at0 m k c) main_v8_2) i = coef (ab m c) (hiC i)
  | 0 => by
    rw [← E0_v3 m c i]
    refine congrArg (e2 · i) ?_
    show after preOps (launchContents m c) (Proc.devRef .tc main_v8_2) = after preOps (launchContents m c) (Proc.devRef .tc main_v3)
    after_reads_simp
    rfl
  | k + 1 => (congrArg (e2 · i) (T0_main_v8_2 (at0 m k c))).trans (at0_v8_2 i k)

/-- The state before a trip of the first loop. -/
theorem at0_state (i : Fin 2048) : ∀ k, k ≤ 4352 →
    e2 (B (at0 m k c) main_v8_4) i = (S m c i k).1 ∧ e2 (B (at0 m k c) main_v8_5) i = (S m c i k).2
  | 0, _ => by
    constructor
    · have e : B (at0 m 0 c) main_v8_4 = broadcastInDim S2048 ![] bcast_S_S2048 (constant (F := Ideal) S_ .f32 0x00000000#32) := by
        show after preOps (launchContents m c) (Proc.devRef .tc main_v8_4) = _
        after_reads_simp
        rfl
      rw [e]
      exact Ideal.ofBits_zero_f32
    · have e : B (at0 m 0 c) main_v8_5 = broadcastInDim S2048 ![] bcast_S_S2048 (constant (F := Ideal) S_ .f32 0x00000000#32) := by
        show after preOps (launchContents m c) (Proc.devRef .tc main_v8_5) = _
        after_reads_simp
        rfl
      rw [e]
      exact Ideal.ofBits_zero_f32
  | k + 1, hk => by
    have h := at0_state i k (by omega)
    have hb : ∀ j, a4 (bu m c) ⟨k, by omega⟩ j = fwd (bu m c) j k := fun j => by
      unfold fwd; congr 2; exact (Nat.mod_eq_of_lt (by omega)).symm
    constructor
    · refine (t0_re (at0 m k c) k (by omega) (hi0 m c k) i).trans ?_
      rw [at0_v8_1, at0_v8_2, h.1, h.2, at0_v8_0, hb]; rfl
    · refine (t0_im (at0 m k c) k (by omega) (hi0 m c k) i).trans ?_
      rw [at0_v8_1, at0_v8_2, h.1, h.2, at0_v8_0, hb]; rfl

/-- The rows saved before a trip of the first loop are the states before them. -/
theorem at0_saved (i : Fin 2048) (r : Fin 4352) : ∀ k, k ≤ 4352 → r.val < k →
    a2 (B (at0 m k c) main_v8_7) r i = (S m c i r.val).1 ∧ a2 (B (at0 m k c) main_v8_8) r i = (S m c i r.val).2
  | 0, _, h => absurd h (Nat.not_lt_zero _)
  | k + 1, hk, hr => by
    have h := at0_state m c i k (by omega)
    constructor
    · refine (t0_sr (at0 m k c) k (by omega) (hi0 m c k) r i).trans ?_
      by_cases e : r.val = k
      · rw [if_pos e, h.1, e]
      · rw [if_neg e]; exact (at0_saved i r k (by omega) (by omega)).1
    · refine (t0_si (at0 m k c) k (by omega) (hi0 m c k) r i).trans ?_
      by_cases e : r.val = k
      · rw [if_pos e, h.2, e]
      · rw [if_neg e]; exact (at0_saved i r k (by omega) (by omega)).2

/-! ## The second loop -/

theorem at0_arg2 : ∀ k, B (at0 m k c) main_arg2 = gr m c
  | 0 => by
    show afterL preI (launchContents m c) (Proc.devRef .tc main_arg2) = _
    simp (disch := decide) only [afterL_cons, afterL_nil, keep_preOps]
  | k + 1 => (T0_main_arg2 (at0 m k c)).trans (at0_arg2 k)

theorem mid0 (r : Ref sig .tc) (hc : r ∉ cond0_W) : B (X0 m c) r = B (at0 m 4352 c) r := keep_cond0 _ hc

theorem at1_v16_0 : ∀ k, B (at1 m k c) main_v16_0 = gr m c
  | 0 => by
    rw [← at0_arg2 m c 4352, ← mid0 m c main_arg2 (by decide)]
    exact cpm_0 (X0 m c)
  | k + 1 => (T1_main_v16_0 (at1 m k c)).trans (at1_v16_0 k)
theorem at1_v16_1 : ∀ k, B (at1 m k c) main_v16_1 = B (at0 m 4352 c) main_v8_7
  | 0 => by
    rw [← mid0 m c main_v8_7 (by decide)]
    exact cpm_1 (X0 m c)
  | k + 1 => (T1_main_v16_1 (at1 m k c)).trans (at1_v16_1 k)
theorem at1_v16_2 : ∀ k, B (at1 m k c) main_v16_2 = B (at0 m 4352 c) main_v8_8
  | 0 => by
    rw [← mid0 m c main_v8_8 (by decide)]
    exact cpm_2 (X0 m c)
  | k + 1 => (T1_main_v16_2 (at1 m k c)).trans (at1_v16_2 k)
theorem at1_v16_3 (i : Fin 2048) : ∀ k, e2 (B (at1 m k c) main_v16_3) i = coef (ab m c) (loC i)
  | 0 => by
    rw [← at0_v1 m c i 4352, ← mid0 m c main_v1 (by decide)]
    refine congrArg (e2 · i) ?_
    exact cpm_3 (X0 m c)
  | k + 1 => (congrArg (e2 · i) (T1_main_v16_3 (at1 m k c))).trans (at1_v16_3 i k)
theorem at1_v16_4 (i : Fin 2048) : ∀ k, e2 (B (at1 m k c) main_v16_4) i = coef (ab m c) (hiC i)
  | 0 => by
    rw [← at0_v3 m c i 4352, ← mid0 m c main_v3 (by decide)]
    refine congrArg (e2 · i) ?_
    exact cpm_4 (X0 m c)
  | k + 1 => (congrArg (e2 · i) (T1_main_v16_4 (at1 m k c))).trans (at1_v16_4 i k)

/-- What the second loop carries to a trip. -/
theorem at1_back (i : Fin 2048) : ∀ k, k ≤ 4352 →
    e2 (B (at1 m k c) main_v16_8) i = (Bk m c i k).1 ∧ e2 (B (at1 m k c) main_v16_9) i = (Bk m c i k).2
  | 0, _ => by
    constructor
    · have e : B (at1 m 0 c) main_v16_8 = broadcastInDim S2048 ![] bcast_S_S2048 (constant (F := Ideal) S_ .f32 0x00000000#32) := by
        show after midOps (X0 m c) (Proc.devRef .tc main_v16_8) = _
        after_reads_simp
        rfl
      rw [e]
      exact Ideal.ofBits_zero_f32
    · have e : B (at1 m 0 c) main_v16_9 = broadcastInDim S2048 ![] bcast_S_S2048 (constant (F := Ideal) S_ .f32 0x00000000#32) := by
        show after midOps (X0 m c) (Proc.devRef .tc main_v16_9) = _
        after_reads_simp
        rfl
      rw [e]
      exact Ideal.ofBits_zero_f32
  | k + 1, hk => by
    have h := at1_back i k (by omega)
    constructor
    · refine (t1_re (at1 m k c) k (by omega) (hi1 m c k) i).trans ?_
      rw [lamR, lamI, at1_v16_3, at1_v16_4, h.1, h.2, at1_v16_0]; rfl
    · refine (t1_im (at1 m k c) k (by omega) (hi1 m c k) i).trans ?_
      rw [lamR, lamI, at1_v16_3, at1_v16_4, h.1, h.2, at1_v16_0]; rfl

/-- The row that a trip computes is the gradient of that row. -/
theorem lam_eq (i : Fin 2048) (k : ℕ) (hk : k ≤ 4352) :
    lamR (at1 m k c) k i = (Lm m c i (k + 1)).1 ∧ lamI (at1 m k c) k i = (Lm m c i (k + 1)).2 := by
  have h := at1_back m c i k hk
  have hb := back_add (coef (ab m c) (loC i)) (coef (ab m c) (hiC i)) (bwd (gr m c) (loC i)) (bwd (gr m c) (hiC i)) k
  constructor
  · rw [lamR, h.1, at1_v16_0]; exact hb.1
  · rw [lamI, h.2, at1_v16_0]; exact hb.2

/-- The rows written before a trip are the gradients of those rows. -/
theorem at1_rows (i : Fin 2048) (r : Fin 4352) : ∀ k, k ≤ 4352 → 4352 - k ≤ r.val →
    a4 (B (at1 m k c) main_v16_10) r (loC i) = (Lm m c i (4352 - r.val)).1
      ∧ a4 (B (at1 m k c) main_v16_10) r (hiC i) = (Lm m c i (4352 - r.val)).2
  | 0, _, h => absurd r.isLt (by omega)
  | k + 1, hk, hr => by
    have h := lam_eq m c i k (by omega)
    have hlt := r.isLt
    constructor
    · refine (t1_lo (at1 m k c) k (by omega) (hi1 m c k) r i).trans ?_
      by_cases e : r.val = 4351 - k
      · rw [if_pos e, h.1, show 4352 - r.val = k + 1 by omega]
      · rw [if_neg e]; exact (at1_rows i r k (by omega) (by omega)).1
    · refine (t1_hi (at1 m k c) k (by omega) (hi1 m c k) r i).trans ?_
      by_cases e : r.val = 4351 - k
      · rw [if_pos e, h.2, show 4352 - r.val = k + 1 by omega]
      · rw [if_neg e]; exact (at1_rows i r k (by omega) (by omega)).2

/-- The gradient of the coefficient before a trip. -/
theorem at1_sum (i : Fin 2048) : ∀ k, k ≤ 4352 →
    (e2 (B (at1 m k c) main_v16_6) i, e2 (B (at1 m k c) main_v16_7) i)
      = ∑ j ∈ Finset.range k, term (S m c i (4352 - 1 - j)) (Lm m c i (j + 1))
  | 0, _ => by
    rw [Finset.sum_range_zero]
    refine Prod.ext ?_ ?_
    · have e : B (at1 m 0 c) main_v16_6 = broadcastInDim S2048 ![] bcast_S_S2048 (constant (F := Ideal) S_ .f32 0x00000000#32) := by
        show after midOps (X0 m c) (Proc.devRef .tc main_v16_6) = _
        after_reads_simp
        rfl
      show e2 (B (at1 m 0 c) main_v16_6) i = 0
      rw [e]
      exact Ideal.ofBits_zero_f32
    · have e : B (at1 m 0 c) main_v16_7 = broadcastInDim S2048 ![] bcast_S_S2048 (constant (F := Ideal) S_ .f32 0x00000000#32) := by
        show after midOps (X0 m c) (Proc.devRef .tc main_v16_7) = _
        after_reads_simp
        rfl
      show e2 (B (at1 m 0 c) main_v16_7) i = 0
      rw [e]
      exact Ideal.ofBits_zero_f32
  | k + 1, hk => by
    have h := lam_eq m c i k (by omega)
    have hs := at0_saved m c i (rowOf k) 4352 le_rfl (rowOf k).isLt
    rw [Finset.sum_range_succ, ← at1_sum i k (by omega)]
    refine Prod.ext ?_ ?_
    · refine (t1_dr (at1 m k c) k (by omega) (hi1 m c k) i).trans ?_
      rw [h.1, h.2, at1_v16_1, at1_v16_2, hs.1, hs.2]
      show (e2 _ i + _ * _) + _ * _ = e2 _ i + (_ * _ + _ * _)
      rw [add_assoc, add_comm (_ * _), EReal.mul_comm (Lm m c i (k + 1)).1, EReal.mul_comm (Lm m c i (k + 1)).2]
    · refine (t1_di (at1 m k c) k (by omega) (hi1 m c k) i).trans ?_
      rw [h.1, h.2, at1_v16_1, at1_v16_2, hs.1, hs.2]
      show (e2 _ i + _ * _) + -_ * _ = e2 _ i + (_ * _ - _ * _)
      rw [add_assoc, neg_mul, ← sub_eq_add_neg, EReal.mul_comm (Lm m c i (k + 1)).1, EReal.mul_comm (Lm m c i (k + 1)).2]

/-! ## The results -/

theorem fin_keep (r : Ref sig .tc) (hr : r ∉ postOps_W) (hc : r ∉ cond1_W) : B (Fin1 m c) r = B (at1 m 4352 c) r := by
  show after postOps (after cond1 (at1 m 4352 c)) (Proc.devRef .tc r) = _
  rw [keep_postOps _ hr, keep_cond1 _ hc]

/-- Row `r` of the first result is the gradient of row `r`. -/
theorem res0 (i : Fin 2048) (r : Fin 4352) :
    a4 (B (Fin1 m c) main_v16_10) r (loC i) = (Lm m c i (4352 - r.val)).1
      ∧ a4 (B (Fin1 m c) main_v16_10) r (hiC i) = (Lm m c i (4352 - r.val)).2 := by
  rw [fin_keep m c _ (by decide) (by decide)]
  exact at1_rows m c i r 4352 le_rfl (by omega)

/-- An entry of an array of eight rows. -/
def a8 (x : (⟨S8x4096, .f32⟩ : BufTy).Contents (Elt Ideal)) (r : Fin 8) (i : Fin 4096) : EReal := x (ix2 r i)

theorem res1_term (V : Vl) : (after postOps V (Proc.devRef .tc main_v22) : FVec Ideal S8x4096 .f32)
    = broadcastInDim S8x4096 ![0, 1] bcast_S1x4096_S8x4096_0_1 (addf (F := Ideal) (φ := .f32)
        (pad S1x4096 ![0, 2048] ![0, 0] ![0, 0] (broadcastInDim S1x2048 ![1] bcast_S2048_S1x2048_1 (V (Proc.devRef .tc main_v16_7))) (constant S_ .f32 0x00000000#32) pads_S1x2048_S1x4096_000_204800 h_S_)
        (pad S1x4096 ![0, 0] ![0, 2048] ![0, 0] (broadcastInDim S1x2048 ![1] bcast_S2048_S1x2048_1 (V (Proc.devRef .tc main_v16_6))) (constant S_ .f32 0x00000000#32) pads_S1x2048_S1x4096_000_020480 h_S_)) := by
  after_results_entrywise [cast_eq]

theorem pad_row_left (x : (⟨S2048, .f32⟩ : BufTy).Contents (Elt Ideal)) (j : Fin 1) (i : Fin 2048) :
    pad S1x4096 ![0, 2048] ![0, 0] ![0, 0] (broadcastInDim S1x2048 ![1] bcast_S2048_S1x2048_1 x) (constant (F := Ideal) S_ .f32 0x00000000#32)
        pads_S1x2048_S1x4096_000_204800 h_S_ (ix2 j (loC i)) = (0 : EReal)
      ∧ pad S1x4096 ![0, 2048] ![0, 0] ![0, 0] (broadcastInDim S1x2048 ![1] bcast_S2048_S1x2048_1 x) (constant (F := Ideal) S_ .f32 0x00000000#32)
        pads_S1x2048_S1x4096_000_204800 h_S_ (ix2 j (hiC i)) = e2 x i := by
  have hj := j.isLt
  have hil := i.isLt
  constructor
  · unfold pad
    rw [dif_neg (fun h => by have h0 := (h 1).1; change 2048 ≤ i.val at h0; omega)]
    exact Ideal.ofBits_zero_f32
  · unfold pad
    rw [dif_pos (fun a => by
      match a with
      | ⟨0, _⟩ => exact ⟨Nat.zero_le _, Nat.mod_one _, by show (j.val - 0) / 1 < 1; omega⟩
      | ⟨1, _⟩ => exact ⟨Nat.le_add_right _ _, Nat.mod_one _, by show (2048 + i.val - 2048) / 1 < 2048; omega⟩)]
    unfold broadcastInDim
    refine congrArg x (funext fun a => Fin.ext ?_)
    match a with
    | ⟨0, _⟩ =>
      split
      · rename_i hh; exact absurd (show (2048 : ℕ) = 1 from hh) (by decide)
      · show (2048 + i.val - 2048) / 1 = i.val; omega

theorem pad_row_right (x : (⟨S2048, .f32⟩ : BufTy).Contents (Elt Ideal)) (j : Fin 1) (i : Fin 2048) :
    pad S1x4096 ![0, 0] ![0, 2048] ![0, 0] (broadcastInDim S1x2048 ![1] bcast_S2048_S1x2048_1 x) (constant (F := Ideal) S_ .f32 0x00000000#32)
        pads_S1x2048_S1x4096_000_020480 h_S_ (ix2 j (hiC i)) = (0 : EReal)
      ∧ pad S1x4096 ![0, 0] ![0, 2048] ![0, 0] (broadcastInDim S1x2048 ![1] bcast_S2048_S1x2048_1 x) (constant (F := Ideal) S_ .f32 0x00000000#32)
        pads_S1x2048_S1x4096_000_020480 h_S_ (ix2 j (loC i)) = e2 x i := by
  have hj := j.isLt
  have hil := i.isLt
  constructor
  · unfold pad
    rw [dif_neg (fun h => by have h0 := (h 1).2.2; change (2048 + i.val - 0) / 1 < 2048 at h0; omega)]
    exact Ideal.ofBits_zero_f32
  · unfold pad
    rw [dif_pos (fun a => by
      match a with
      | ⟨0, _⟩ => exact ⟨Nat.zero_le _, Nat.mod_one _, by show (j.val - 0) / 1 < 1; omega⟩
      | ⟨1, _⟩ => exact ⟨Nat.zero_le _, Nat.mod_one _, by show (i.val - 0) / 1 < 2048; omega⟩)]
    unfold broadcastInDim
    refine congrArg x (funext fun a => Fin.ext ?_)
    match a with
    | ⟨0, _⟩ =>
      split
      · rename_i hh; exact absurd (show (2048 : ℕ) = 1 from hh) (by decide)
      · show (i.val - 0) / 1 = i.val; omega

/-- Each row of the second result is the gradient of the coefficient: the sum over the rows. -/
theorem res1 (i : Fin 2048) (q : Fin 8) :
    (a8 (B (Fin1 m c) main_v22) q (loC i), a8 (B (Fin1 m c) main_v22) q (hiC i))
      = ∑ j ∈ Finset.range 4352, term (S m c i (4352 - 1 - j)) (Lm m c i (j + 1)) := by
  have k6 : B (at1 m 4352 c) main_v16_6 = B (X1 m c) main_v16_6 := (keep_cond1 _ (by decide)).symm
  have k7 : B (at1 m 4352 c) main_v16_7 = B (X1 m c) main_v16_7 := (keep_cond1 _ (by decide)).symm
  rw [← at1_sum m c i 4352 le_rfl, k6, k7]
  have hL := fun x : (⟨S2048, .f32⟩ : BufTy).Contents (Elt Ideal) => pad_row_left x 0 i
  have hR := fun x : (⟨S2048, .f32⟩ : BufTy).Contents (Elt Ideal) => pad_row_right x 0 i
  have hb : ∀ (x : (⟨S1x4096, .f32⟩ : BufTy).Contents (Elt Ideal)) (j : Fin 4096),
      broadcastInDim S8x4096 ![0, 1] bcast_S1x4096_S8x4096_0_1 x (ix2 q j) = x (ix2 0 j) := fun x j => by
    unfold broadcastInDim
    refine congrArg x (funext fun a => Fin.ext ?_)
    match a with
    | ⟨0, _⟩ =>
      split
      · rfl
      · rename_i hh; exact absurd rfl hh
    | ⟨1, _⟩ =>
      split
      · rename_i hh; exact absurd (show (4096 : ℕ) = 1 from hh) (by decide)
      · rfl
  refine Prod.ext ?_ ?_
  · refine (congrFun (res1_term (X1 m c)) (ix2 q (loC i))).trans ?_
    rw [hb]
    refine (congrArg₂ (fun a b : EReal => a + b) (hL _).1 (hR _).2).trans ?_
    rw [zero_add]
  · refine (congrFun (res1_term (X1 m c)) (ix2 q (hiC i))).trans ?_
    rw [hb]
    refine (congrArg₂ (fun a b : EReal => a + b) (hL _).2 (hR _).1).trans ?_
    rw [add_zero]

/-- The reference leaves its arguments as they were. -/
theorem fin_arg0 : Fin1 m c (Proc.devRef .tc main_arg0) = bu m c := by
  refine (fin_keep m c main_arg0 (by decide) (by decide)).trans ?_
  have h1 : ∀ k, B (at1 m k c) main_arg0 = B (E1 m c) main_arg0 := fun k => by
    induction k with
    | zero => rfl
    | succ k ih => exact (T1_main_arg0 (at1 m k c)).trans ih
  have h0 : ∀ k, B (at0 m k c) main_arg0 = bu m c := fun k => by
    induction k with
    | zero => exact keep_preOps (launchContents m c) (r := main_arg0) (by decide)
    | succ k ih => exact (T0_main_arg0 (at0 m k c)).trans ih
  rw [h1]
  exact (keep_midOps _ (by decide)).trans ((keep_cond0 _ (by decide)).trans (h0 4352))
theorem fin_arg1 : Fin1 m c (Proc.devRef .tc main_arg1) = ab m c := by
  refine (fin_keep m c main_arg1 (by decide) (by decide)).trans ?_
  have h1 : ∀ k, B (at1 m k c) main_arg1 = B (E1 m c) main_arg1 := fun k => by
    induction k with
    | zero => rfl
    | succ k ih => exact (T1_main_arg1 (at1 m k c)).trans ih
  have h0 : ∀ k, B (at0 m k c) main_arg1 = ab m c := fun k => by
    induction k with
    | zero => exact keep_preOps (launchContents m c) (r := main_arg1) (by decide)
    | succ k ih => exact (T0_main_arg1 (at0 m k c)).trans ih
  rw [h1]
  exact (keep_midOps _ (by decide)).trans ((keep_cond0 _ (by decide)).trans (h0 4352))
theorem fin_arg2 : Fin1 m c (Proc.devRef .tc main_arg2) = gr m c := by
  refine (fin_keep m c main_arg2 (by decide) (by decide)).trans ?_
  have h1 : ∀ k, B (at1 m k c) main_arg2 = B (E1 m c) main_arg2 := fun k => by
    induction k with
    | zero => rfl
    | succ k ih => exact (T1_main_arg2 (at1 m k c)).trans ih
  rw [h1]
  exact (keep_midOps _ (by decide)).trans ((keep_cond0 _ (by decide)).trans (at0_arg2 m c 4352))

end Cert.ReferenceIdeal.Scan

end
-- ==== Proof.Scan.Claims.lean ====
/-
  The claims about the gradient of the scan: the frames of the kernel and of the reference, and that their results are equal
  over the extended reals.
-/
module

public import proofs.«01_k».proof.Defs
public import proofs.«01_k».proof.Proof.Gen.Kernel
public import proofs.«01_k».proof.Proof.Scan.Cols
public import proofs.«01_k».proof.Proof.Scan.RefVal
public import Idealize.ShloMosaic.Lib.Quiescent
public import Idealize.ShloMosaic.Lib.Claim

@[expose] public section

set_option maxRecDepth 16384

noncomputable section

namespace Cert.Scan

open Idealize.ShloMosaic Idealize.ShloMosaic.TcCoe Idealize.ShloMosaic.Tactic Idealize.ShloMosaic.ValueIdx
open Idealize.SL.Sem
open Cert.Scalar
open Cert.KernelIdeal.Scan (col col8 sseq lseq rows row1 join)
open Cert.ReferenceIdeal.Scan (coef fwd bwd a4 a8 e2 loC hiC rowOf)

/-! ## The frames -/

instance kernel_facts : Cert.KernelIdeal.Facts := Cert.KernelIdeal.Gen.facts
instance kernel_bits_facts : Cert.Kernel.Facts := Cert.Kernel.Gen.facts
instance ref_facts : Cert.ReferenceIdeal.Facts := Cert.ReferenceIdeal.Gen.facts

/-- The two printed texts of the kernel give the same bodies. -/
theorem defs₀_eq : Cert.Kernel.defs₀ (F := Bits) = Cert.KernelIdeal.defs₀ (F := Bits) := by
  show Defs.onTc _ = Defs.onTc _
  refine congrArg Defs.onTc (funext fun l => ?_)
  match l with
  | 0 => funext x; obtain ⟨t, s⟩ := x; rfl
  | 1 => funext x; obtain ⟨t, s⟩ := x; rfl

/-- And the same table of calls. -/
theorem defs_eq : Cert.Kernel.defs (F := Bits) = Cert.KernelIdeal.defs (F := Bits) :=
  congrArg (Pipeline.defs (Cert.KernelIdeal.pcfgs (F := Bits))) defs₀_eq

/-- The kernel's frame, over the words of its floats. -/
theorem frame_kernel : Cert.quiescent_Kernel (hKernel := Cert.Kernel.Gen.facts) := by
  intro m g _
  rw [defs_eq]
  exact (θ_run Cert.KernelIdeal.defs _ _).mono (fun _ h => ⟨fun c => (h.1 c).1, h.2⟩) (Cert.KernelIdeal.Scan.run (F := Bits) m g)

/-- The kernel's frame over the extended reals. -/
theorem frame_kernelIdeal : Cert.quiescent_KernelIdeal (hKernelIdeal := Cert.KernelIdeal.Gen.facts) := fun m g _ =>
  (θ_run Cert.KernelIdeal.defs _ _).mono (fun _ h => ⟨fun c => (h.1 c).1, h.2⟩) (Cert.KernelIdeal.Scan.run (F := Ideal) m g)

/-- The reference's run: its arguments stay, and its results are read off its last contents. -/
theorem run_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v16_10)
            = Cert.ReferenceIdeal.Scan.B (Cert.ReferenceIdeal.Scan.Fin1 m c) Cert.ReferenceIdeal.main_v16_10
        ∧ r.2.mem ((c.tc : Thread Cert.ReferenceIdeal.nD Cert.ReferenceIdeal.τ).loc Cert.ReferenceIdeal.main_v22)
            = Cert.ReferenceIdeal.Scan.B (Cert.ReferenceIdeal.Scan.Fin1 m c) Cert.ReferenceIdeal.main_v22
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) :=
  (θ_run Cert.ReferenceIdeal.defs _ _).mono (fun _ h c =>
    ⟨h c _ rfl, h c _ rfl, (h c _ rfl).trans (Cert.ReferenceIdeal.Scan.fin_arg0 m c), (h c _ rfl).trans (Cert.ReferenceIdeal.Scan.fin_arg1 m c),
      (h c _ rfl).trans (Cert.ReferenceIdeal.Scan.fin_arg2 m c)⟩) (Cert.ReferenceIdeal.Scan.run_fold (F := Ideal) m g)

/-- The frame of the reference. -/
theorem frame_reference : Cert.quiescent_ReferenceIdeal (hReferenceIdeal := Cert.ReferenceIdeal.Gen.facts) := fun m g _ =>
  (θ_run Cert.ReferenceIdeal.defs _ _).mono (fun r h => ⟨fun c => (h c).2.2, sem_eq_zero_of_no_sems (by decide) r.2⟩) (run_reference m g)

/-! ## The results -/

section
variable (m : (ℓ : Loc Cert.KernelIdeal.nD Cert.KernelIdeal.τ Cert.KernelIdeal.sig) → Buf (Elt Ideal) ℓ)
  (g : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)
  (h0 : Cert.ReferenceIdeal.Scan.bu m' c = m ((c.tc : Thread Cert.KernelIdeal.nD Cert.KernelIdeal.τ).loc Cert.KernelIdeal.main_arg0))
  (h1 : Cert.ReferenceIdeal.Scan.ab m' c = m ((c.tc : Thread Cert.KernelIdeal.nD Cert.KernelIdeal.τ).loc Cert.KernelIdeal.main_arg1))
  (h2 : Cert.ReferenceIdeal.Scan.gr m' c = m ((c.tc : Thread Cert.KernelIdeal.nD Cert.KernelIdeal.τ).loc Cert.KernelIdeal.main_arg2))
include h0 h1 h2

/-- The kernel's state before a row is the reference's. -/
theorem state_eq (i : Fin 2048) (k : ℕ) : col (sseq (Cert.KernelIdeal.Scan.V0 m g) c k) i = Cert.ReferenceIdeal.Scan.S m' c i k := by
  unfold sseq
  rw [Cert.KernelIdeal.Scan.col_fscan, Cert.ReferenceIdeal.Scan.S, h0, h1]
  rfl

/-- The kernel's gradient of a row is the reference's. -/
theorem grad_eq (i : Fin 2048) (k : ℕ) : col (lseq (Cert.KernelIdeal.Scan.V1 m g) c k) i = Cert.ReferenceIdeal.Scan.Lm m' c i k := by
  have e1 : Cert.KernelIdeal.Scan.V1 m g c Cert.KernelIdeal.main_arg1 = Cert.ReferenceIdeal.Scan.ab m' c :=
    (Cert.KernelIdeal.Scan.W1_args m g c Cert.KernelIdeal.main_arg1 (by decide)).trans h1.symm
  have e2 : Cert.KernelIdeal.Scan.V1 m g c Cert.KernelIdeal.main_arg2 = Cert.ReferenceIdeal.Scan.gr m' c :=
    (Cert.KernelIdeal.Scan.W1_args m g c Cert.KernelIdeal.main_arg2 (by decide)).trans h2.symm
  unfold lseq
  rw [Cert.KernelIdeal.Scan.col_lscan, e1, e2, Cert.ReferenceIdeal.Scan.Lm]
  congr 1
  · funext k
    show a4 _ ⟨(4351 - k) % 4352, _⟩ _ = a4 _ _ _
    congr 1
    exact Fin.ext (Nat.mod_eq_of_lt (by omega))
  · funext k
    show a4 _ ⟨(4351 - k) % 4352, _⟩ _ = a4 _ _ _
    congr 1
    exact Fin.ext (Nat.mod_eq_of_lt (by omega))

/-- A column is a real part or an imaginary one. -/
theorem fin_cols (j : Fin 4096) : (∃ i : Fin 2048, j = loC i) ∨ ∃ i : Fin 2048, j = hiC i := by
  have hj := j.isLt
  by_cases h : j.val < 2048
  · exact .inl ⟨⟨j.val, h⟩, rfl⟩
  · exact .inr ⟨⟨j.val - 2048, by omega⟩, Fin.ext (by show j.val = 2048 + (j.val - 2048); omega)⟩

/-- The gradients of the rows are equal. -/
theorem result0 : (Cert.KernelIdeal.Scan.dat1 (Cert.KernelIdeal.Scan.V1 m g) c).arrAt 3 Cert.KernelIdeal.cfg1.N
    = Cert.ReferenceIdeal.Scan.B (Cert.ReferenceIdeal.Scan.Fin1 m' c) Cert.ReferenceIdeal.main_v16_10 := by
  refine (Cert.KernelIdeal.Scan.grad_result (Cert.KernelIdeal.Scan.V1 m g) c).trans ?_
  funext y
  obtain ⟨r, j, rfl⟩ : ∃ (r : Fin 4352) (j : Fin 4096), y = ix2 r j := ⟨y 0, y 1, (funext fun a => by match a with | ⟨0, _⟩ => rfl | ⟨1, _⟩ => rfl)⟩
  rcases fin_cols m m' c h0 h1 h2 j with ⟨i, rfl⟩ | ⟨i, rfl⟩
  · refine (Cert.KernelIdeal.Scan.join_lo _ _ r.val (ix2 0 i) rfl rfl).trans ?_
    exact (congrArg Prod.fst (grad_eq m g m' c h0 h1 h2 i (4352 - r.val))).trans (Cert.ReferenceIdeal.Scan.res0 m' c i r).1.symm
  · refine (Cert.KernelIdeal.Scan.join_hi _ _ r.val (ix2 0 i) rfl rfl).trans ?_
    exact (congrArg Prod.snd (grad_eq m g m' c h0 h1 h2 i (4352 - r.val))).trans (Cert.ReferenceIdeal.Scan.res0 m' c i r).2.symm

/-- The sums at a column are equal. -/
theorem sum_eq (q : Fin 8) (i : Fin 2048) : col8 (Cert.KernelIdeal.Scan.acc1 (Cert.KernelIdeal.Scan.V1 m g) c 17) q i
    = ∑ j ∈ Finset.range 4352, term (Cert.ReferenceIdeal.Scan.S m' c i (4352 - 1 - j)) (Cert.ReferenceIdeal.Scan.Lm m' c i (j + 1)) := by
  rw [Cert.KernelIdeal.Scan.col_acc _ _ q i 17 le_rfl, sum_shift _ _ rfl rfl]
  refine Finset.sum_congr rfl fun k hk => ?_
  have hk' := Finset.mem_range.mp hk
  have e : Cert.KernelIdeal.Scan.V1 m g c Cert.KernelIdeal.main_v0 = join (n := 4352) fun t => sseq (Cert.KernelIdeal.Scan.V0 m g) c (t + 1) :=
    (Cert.KernelIdeal.Scan.W1_arr m g c 2).trans (Cert.KernelIdeal.Scan.scan_result (Cert.KernelIdeal.Scan.V0 m g) c)
  rw [e, Cert.KernelIdeal.Scan.rows_join _ _ _ (by omega), state_eq m g m' c h0 h1 h2, grad_eq m g m' c h0 h1 h2,
    show 4351 - k + 1 = 4352 - k by omega]

/-- The gradients of the coefficient are equal. -/
theorem result1 : (Cert.KernelIdeal.Scan.dat1 (Cert.KernelIdeal.Scan.V1 m g) c).arrAt 4 Cert.KernelIdeal.cfg1.N
    = Cert.ReferenceIdeal.Scan.B (Cert.ReferenceIdeal.Scan.Fin1 m' c) Cert.ReferenceIdeal.main_v22 := by
  refine (Cert.KernelIdeal.Scan.sum_result (Cert.KernelIdeal.Scan.V1 m g) c).trans ?_
  funext y
  obtain ⟨q, j, rfl⟩ : ∃ (r : Fin 8) (j : Fin 4096), y = ix2 r j := ⟨y 0, y 1, (funext fun a => by match a with | ⟨0, _⟩ => rfl | ⟨1, _⟩ => rfl)⟩
  rcases fin_cols m m' c h0 h1 h2 j with ⟨i, rfl⟩ | ⟨i, rfl⟩
  · exact congrArg Prod.fst ((sum_eq m g m' c h0 h1 h2 q i).trans (Cert.ReferenceIdeal.Scan.res1 m' c i q).symm)
  · exact congrArg Prod.snd ((sum_eq m g m' c h0 h1 h2 q i).trans (Cert.ReferenceIdeal.Scan.res1 m' c i q).symm)

end

/-- From memories that agree on the arguments, the kernel and the reference end with equal results. -/
theorem algebraic : Cert.algebraic_KernelIdeal_ReferenceIdeal (hKernelIdeal := Cert.KernelIdeal.Gen.facts) (hReferenceIdeal := Cert.ReferenceIdeal.Gen.facts) := by
  intro m g m' g' _ hagree
  refine ⟨fun c => (Cert.KernelIdeal.Scan.dat1 (Cert.KernelIdeal.Scan.V1 m g) c).arrAt 3 Cert.KernelIdeal.cfg1.N,
    fun c => (Cert.KernelIdeal.Scan.dat1 (Cert.KernelIdeal.Scan.V1 m g) c).arrAt 4 Cert.KernelIdeal.cfg1.N, ?_, ?_⟩
  · exact (θ_run Cert.KernelIdeal.defs _ _).mono (fun _ h c => ⟨(h.1 c).2.1, (h.1 c).2.2, (h.1 c).1⟩) (Cert.KernelIdeal.Scan.run (F := Ideal) m g)
  · exact (θ_run Cert.ReferenceIdeal.defs _ _).mono (fun _ h c =>
      ⟨(h c).1.trans (result0 m g m' c (hagree c).1 (hagree c).2.1 (hagree c).2.2).symm,
        (h c).2.1.trans (result1 m g m' c (hagree c).1 (hagree c).2.1 (hagree c).2.2).symm, (h c).2.2⟩) (run_reference m' g')

end Cert.Scan

end
-- ==== Proof.Prod.Dots.lean ====
/-
  Products of matrices read at an entry, over the extended reals: the three ways in which the calls multiply (rows by columns,
  rows by rows, columns by columns), on the kernel's side and on the host's; and the split of a matrix' columns into parts of
  equal width.
-/
module

public import Idealize.ShloMosaic.Lib.ValueIdx
public import Idealize.ShloMosaic.Lib.ValueLayout
public import Idealize.ShloMosaic.Lib.Pipeline.Value
import Idealize.ShloMosaic.Lib.Pointwise.Contract
public import Idealize.ShloMosaic.PureOps.Ideal.Laws

@[expose] public section

noncomputable section

namespace Cert.Prod

open Idealize.ShloMosaic hiding ix2 ix3
open Idealize.ShloMosaic.ValueIdx
open scoped BigOperators

/-- A matrix of `a` rows and `b` columns. -/
abbrev Mx (a b : ℕ) : Shape := ⟨2, ![a, b]⟩

/-- Rows by columns. -/
abbrev nn (M K N : ℕ) (wf : DotDims.WF (Mx M K) (Mx K N) (Mx M N) [1] [0] [0] [1] [] []) : DotDims (Mx M K) (Mx K N) (Mx M N) where
  lhsContracting := [1]
  rhsContracting := [0]
  lhsNonContracting := [0]
  rhsNonContracting := [1]
  lhsBatch := []
  rhsBatch := []
  wf := wf

/-- Rows by rows. -/
abbrev nt (M K N : ℕ) (wf : DotDims.WF (Mx M K) (Mx N K) (Mx M N) [1] [1] [0] [0] [] []) : DotDims (Mx M K) (Mx N K) (Mx M N) where
  lhsContracting := [1]
  rhsContracting := [1]
  lhsNonContracting := [0]
  rhsNonContracting := [0]
  lhsBatch := []
  rhsBatch := []
  wf := wf

/-- Columns by columns. -/
abbrev tn (M K N : ℕ) (wf : DotDims.WF (Mx K M) (Mx K N) (Mx M N) [0] [0] [1] [1] [] []) : DotDims (Mx K M) (Mx K N) (Mx M N) where
  lhsContracting := [0]
  rhsContracting := [0]
  lhsNonContracting := [1]
  rhsNonContracting := [1]
  lhsBatch := []
  rhsBatch := []
  wf := wf

section
variable {M K N : ℕ}

theorem nn_apply (wf) (l : (Mx M K).Idx → EReal) (r : (Mx K N).Idx → EReal) (acc : (Mx M N).Idx → EReal) (i : Fin M) (j : Fin N) :
    Ideal.matmul (nn M K N wf) l r acc (ix2 i j) = acc (ix2 i j) + ∑ k : Fin K, l (ix2 i k) * r (ix2 k j) :=
  Ideal.matmul_apply₁_of (K := K) _ rfl rfl l r acc _ (fun k => ix2 i k) (fun k => ix2 k j)
    (fun k => by funext a; match a with | ⟨0, _⟩ => rfl | ⟨1, _⟩ => rfl)
    (fun k => by funext a; match a with | ⟨0, _⟩ => rfl | ⟨1, _⟩ => rfl)

theorem nt_apply (wf) (l : (Mx M K).Idx → EReal) (r : (Mx N K).Idx → EReal) (acc : (Mx M N).Idx → EReal) (i : Fin M) (j : Fin N) :
    Ideal.matmul (nt M K N wf) l r acc (ix2 i j) = acc (ix2 i j) + ∑ k : Fin K, l (ix2 i k) * r (ix2 j k) :=
  Ideal.matmul_apply₁_of (K := K) _ rfl rfl l r acc _ (fun k => ix2 i k) (fun k => ix2 j k)
    (fun k => by funext a; match a with | ⟨0, _⟩ => rfl | ⟨1, _⟩ => rfl)
    (fun k => by funext a; match a with | ⟨0, _⟩ => rfl | ⟨1, _⟩ => rfl)

theorem tn_apply (wf) (l : (Mx K M).Idx → EReal) (r : (Mx K N).Idx → EReal) (acc : (Mx M N).Idx → EReal) (i : Fin M) (j : Fin N) :
    Ideal.matmul (tn M K N wf) l r acc (ix2 i j) = acc (ix2 i j) + ∑ k : Fin K, l (ix2 k i) * r (ix2 k j) :=
  Ideal.matmul_apply₁_of (K := K) _ rfl rfl l r acc _ (fun k => ix2 k i) (fun k => ix2 k j)
    (fun k => by funext a; match a with | ⟨0, _⟩ => rfl | ⟨1, _⟩ => rfl)
    (fun k => by funext a; match a with | ⟨0, _⟩ => rfl | ⟨1, _⟩ => rfl)

/-- The kernel's product of two blocks added to a block of zeros. -/
theorem zero_word (s : Shape) (j : s.Idx) : constant (F := Ideal) s .f32 (0x00000000#32 : BitVec 32) j = 0 := Ideal.ofBits_zero_f32

variable {φ₁ φ₂ : FTy} (p : Option ContractPrecision)

theorem nn_zero (wf) (l : FVec Ideal (Mx M K) φ₁) (r : FVec Ideal (Mx K N) φ₂) (i : Fin M) (j : Fin N) :
    matmul (F := Ideal) (nn M K N wf) p l r (constant (F := Ideal) (Mx M N) .f32 (0x00000000#32 : BitVec 32)) (ix2 i j)
      = ∑ k : Fin K, l (ix2 i k) * r (ix2 k j) :=
  (nn_apply wf l r _ i j).trans ((congrArg (· + _) (zero_word _ _)).trans (zero_add _))

theorem nt_zero (wf) (l : FVec Ideal (Mx M K) φ₁) (r : FVec Ideal (Mx N K) φ₂) (i : Fin M) (j : Fin N) :
    matmul (F := Ideal) (nt M K N wf) p l r (constant (F := Ideal) (Mx M N) .f32 (0x00000000#32 : BitVec 32)) (ix2 i j)
      = ∑ k : Fin K, l (ix2 i k) * r (ix2 j k) :=
  (nt_apply wf l r _ i j).trans ((congrArg (· + _) (zero_word _ _)).trans (zero_add _))

theorem tn_zero (wf) (l : FVec Ideal (Mx K M) φ₁) (r : FVec Ideal (Mx K N) φ₂) (i : Fin M) (j : Fin N) :
    matmul (F := Ideal) (tn M K N wf) p l r (constant (F := Ideal) (Mx M N) .f32 (0x00000000#32 : BitVec 32)) (ix2 i j)
      = ∑ k : Fin K, l (ix2 k i) * r (ix2 k j) :=
  (tn_apply wf l r _ i j).trans ((congrArg (· + _) (zero_word _ _)).trans (zero_add _))

/-! ## The host's products -/

theorem nn_host (wf) (l : FVec Ideal (Mx M K) φ₁) (r : FVec Ideal (Mx K N) φ₂) (i : Fin M) (j : Fin N) :
    Host.dotGeneral (F := Ideal) (nn M K N wf) p l r (ix2 i j) = ∑ k : Fin K, l (ix2 i k) * r (ix2 k j) :=
  (nn_apply wf l r (fun _ => 0) i j).trans (zero_add _)

theorem nt_host (wf) (l : FVec Ideal (Mx M K) φ₁) (r : FVec Ideal (Mx N K) φ₂) (i : Fin M) (j : Fin N) :
    Host.dotGeneral (F := Ideal) (nt M K N wf) p l r (ix2 i j) = ∑ k : Fin K, l (ix2 i k) * r (ix2 j k) :=
  (nt_apply wf l r (fun _ => 0) i j).trans (zero_add _)

theorem tn_host (wf) (l : FVec Ideal (Mx K M) φ₁) (r : FVec Ideal (Mx K N) φ₂) (i : Fin M) (j : Fin N) :
    Host.dotGeneral (F := Ideal) (tn M K N wf) p l r (ix2 i j) = ∑ k : Fin K, l (ix2 k i) * r (ix2 k j) :=
  (tn_apply wf l r (fun _ => 0) i j).trans (zero_add _)

/-! ## Products of blocks as they were loaded, and the host's products as functions of the index -/

theorem nn_block (wf) (l : FVec Ideal (Mx M K) φ₁) (r : FVec Ideal (Mx K N) φ₂) (hl : (Mx M K).ShapeCasts (Mx M K))
    (hr : (Mx K N).ShapeCasts (Mx K N)) (i : Fin M) (j : Fin N) :
    matmul (F := Ideal) (nn M K N wf) p (shapeCast (Mx M K) l hl) (shapeCast (Mx K N) r hr)
      (constant (F := Ideal) (Mx M N) .f32 (0x00000000#32 : BitVec 32)) (ix2 i j) = ∑ k : Fin K, l (ix2 i k) * r (ix2 k j) := by
  rw [shapeCast_self, shapeCast_self]; exact nn_zero p wf l r i j

theorem nt_block (wf) (l : FVec Ideal (Mx M K) φ₁) (r : FVec Ideal (Mx N K) φ₂) (hl : (Mx M K).ShapeCasts (Mx M K))
    (hr : (Mx N K).ShapeCasts (Mx N K)) (i : Fin M) (j : Fin N) :
    matmul (F := Ideal) (nt M K N wf) p (shapeCast (Mx M K) l hl) (shapeCast (Mx N K) r hr)
      (constant (F := Ideal) (Mx M N) .f32 (0x00000000#32 : BitVec 32)) (ix2 i j) = ∑ k : Fin K, l (ix2 i k) * r (ix2 j k) := by
  rw [shapeCast_self, shapeCast_self]; exact nt_zero p wf l r i j

theorem tn_block (wf) (l : FVec Ideal (Mx K M) φ₁) (r : FVec Ideal (Mx K N) φ₂) (hl : (Mx K M).ShapeCasts (Mx K M))
    (hr : (Mx K N).ShapeCasts (Mx K N)) (i : Fin M) (j : Fin N) :
    matmul (F := Ideal) (tn M K N wf) p (shapeCast (Mx K M) l hl) (shapeCast (Mx K N) r hr)
      (constant (F := Ideal) (Mx M N) .f32 (0x00000000#32 : BitVec 32)) (ix2 i j) = ∑ k : Fin K, l (ix2 k i) * r (ix2 k j) := by
  rw [shapeCast_self, shapeCast_self]; exact tn_zero p wf l r i j

theorem nn_host_eq (wf) (l : FVec Ideal (Mx M K) φ₁) (r : FVec Ideal (Mx K N) φ₂) :
    Host.dotGeneral (F := Ideal) (nn M K N wf) p l r = fun i => (∑ k : Fin K, l (ix2 (i 0) k) * r (ix2 k (i 1)) : EReal) := by
  funext y; obtain ⟨i, j, rfl⟩ : ∃ (i : Fin M) (j : Fin N), y = ix2 i j := ⟨_, _, ValueIdx.eq_ix2 y⟩
  exact nn_host p wf l r i j

theorem nt_host_eq (wf) (l : FVec Ideal (Mx M K) φ₁) (r : FVec Ideal (Mx N K) φ₂) :
    Host.dotGeneral (F := Ideal) (nt M K N wf) p l r = fun i => (∑ k : Fin K, l (ix2 (i 0) k) * r (ix2 (i 1) k) : EReal) := by
  funext y; obtain ⟨i, j, rfl⟩ : ∃ (i : Fin M) (j : Fin N), y = ix2 i j := ⟨_, _, ValueIdx.eq_ix2 y⟩
  exact nt_host p wf l r i j

theorem tn_host_eq (wf) (l : FVec Ideal (Mx K M) φ₁) (r : FVec Ideal (Mx K N) φ₂) :
    Host.dotGeneral (F := Ideal) (tn M K N wf) p l r = fun i => (∑ k : Fin K, l (ix2 k (i 0)) * r (ix2 k (i 1)) : EReal) := by
  funext y; obtain ⟨i, j, rfl⟩ : ∃ (i : Fin M) (j : Fin N), y = ix2 i j := ⟨_, _, ValueIdx.eq_ix2 y⟩
  exact tn_host p wf l r i j

/-- The derivative of a product by its right factor, as the derivative's text has it: columns by columns the other way round,
    then transposed. -/
theorem tn_host_transposed (wf) (l : FVec Ideal (Mx K M) φ₁) (r : FVec Ideal (Mx K N) φ₂) (ht : (Mx N M).Transposes [1, 0] (Mx M N)) :
    transpose (Mx M N) [1, 0] (Host.dotGeneral (F := Ideal) (tn N K M wf) p r l) ht
      = fun i => (∑ k : Fin K, l (ix2 k (i 0)) * r (ix2 k (i 1)) : EReal) := by
  funext y; obtain ⟨i, j, rfl⟩ : ∃ (i : Fin M) (j : Fin N), y = ix2 i j := ⟨_, _, ValueIdx.eq_ix2 y⟩
  rw [transpose_ix2_apply, tn_host]
  exact Finset.sum_congr rfl fun k _ => mul_comm _ _

end

/-- Two sums of products are equal when their factors are. -/
theorem sum_eq {K : ℕ} {l l' r r' : Fin K → EReal} (hl : ∀ k, l k = l' k) (hr : ∀ k, r k = r' k) :
    ∑ k : Fin K, l k * r k = ∑ k : Fin K, l' k * r' k := by rw [funext hl, funext hr]

/-- An index from its coordinates' values. -/
theorem at2 {a b : ℕ} {x : (Mx a b).Idx} {i : Fin a} {j : Fin b} (h0 : (x 0).val = i.val) (h1 : (x 1).val = j.val) : x = ix2 i j := by
  funext d; apply Fin.ext
  match d with
  | ⟨0, _⟩ => exact h0
  | ⟨1, _⟩ => exact h1

theorem at3 {a b c : ℕ} {x : (⟨3, ![a, b, c]⟩ : Shape).Idx} {i : Fin a} {j : Fin b} {k : Fin c} (h0 : (x 0).val = i.val)
    (h1 : (x 1).val = j.val) (h2 : (x 2).val = k.val) : x = ix3 i j k := by
  funext d; apply Fin.ext
  match d with
  | ⟨0, _⟩ => exact h0
  | ⟨1, _⟩ => exact h1
  | ⟨2, _⟩ => exact h2

/-! ## The columns of a matrix in parts of equal width -/

section
variable {α : Type} {a s w n : ℕ}

/-- The column of the whole matrix that is column `j` of part `q`. -/
abbrev colOf (h : n = s * w) (q : Fin s) (j : Fin w) : Fin n :=
  ⟨q.val * w + j.val, by subst h; calc q.val * w + j.val < q.val * w + w := by have := j.isLt; omega
      _ = (q.val + 1) * w := by rw [Nat.add_mul, Nat.one_mul]
      _ ≤ s * w := Nat.mul_le_mul_right _ q.isLt⟩

/-- A matrix whose columns were cut into parts, the parts put first, read at a row and a column of a part. -/
theorem parts_apply (h : n = s * w) (x : (Mx a n).Idx → α) (hc : (Mx a n).ShapeCasts ⟨3, ![a, s, w]⟩)
    (ht : (⟨3, ![a, s, w]⟩ : Shape).Transposes [1, 0, 2] ⟨3, ![s, a, w]⟩) (q : Fin s) (i : Fin a) (j : Fin w) :
    transpose ⟨3, ![s, a, w]⟩ [1, 0, 2] (shapeCast ⟨3, ![a, s, w]⟩ x hc) ht (ix3 q i j) = x (ix2 i (colOf h q j)) := by
  have e : ht.src (ix3 q i j) = ix3 i q j := by
    funext b
    match b with
    | ⟨0, _⟩ => rfl
    | ⟨1, _⟩ => rfl
    | ⟨2, _⟩ => rfl
  show shapeCast ⟨3, ![a, s, w]⟩ x hc (ht.src (ix3 q i j)) = _
  rw [e]
  refine shapeCast_apply x hc _ _ ?_
  rw [Shape.rowMajor_val_two, Shape.rowMajor_val_three]
  subst h
  show i.val * (s * w) + (q.val * w + j.val) = (i.val * s + q.val) * w + j.val
  ring

end

end Cert.Prod

end
-- ==== Proof.Prod.Fwd.lean ====
/-
  The product of the residual stream with the input weight: what each point of the kernel's grid writes back, and the array it
  leaves, entry by entry.
-/
module

public import proofs.«01_k».proof.Defs
public import proofs.«01_k».proof.Proof.Gen.Kernel2
public import proofs.«01_k».proof.Proof.Gen.Kernel2Ideal.Value
public import proofs.«01_k».proof.Proof.Gen.Reference2Ideal.Run
public import proofs.«01_k».proof.Proof.Prod.Dots
public import Idealize.ShloMosaic.Lib.Pipeline.ValueKit.Geometry
public import Idealize.ShloMosaic.Lib.Pipeline.ValueKit.Acc
public import Idealize.ShloMosaic.Lib.StableHlo.Run
public import Idealize.ShloMosaic.Lib.Quiescent

@[expose] public section

noncomputable section

namespace Cert.Kernel2Ideal.Prod

open Idealize.ShloMosaic
open Idealize.ShloMosaic.ValueIdx Idealize.ShloMosaic.TcCoe Idealize.SL.Sem
open Idealize.ShloMosaic.Pipeline (Dat)
open Cert.Kernel2Ideal Cert.Kernel2Ideal.Gen Cert.Prod
open scoped BigOperators

variable (m : (ℓ : Loc nD τ sig) → Buf (Elt Ideal) ℓ) (c : Dev nD)

/-- The arguments. -/
abbrev lhs : (Mx 4352 2048).Idx → EReal := m ((c.tc : Thread nD τ).loc main_arg0)
abbrev wt : (Mx 2048 14336).Idx → EReal := m ((c.tc : Thread nD τ).loc main_arg1)

/-- Before the call the stream is as given … -/
theorem V_lhs : (V m c main_v0 : (Mx 4352 2048).Idx → EReal) = lhs m c := by
  unfold V; after_results <;> rfl

/-- … and the weight's columns are in four parts. -/
theorem V_wt (q : Fin 4) (k : Fin 2048) (j : Fin 3584) :
    (V m c main_v3 : S4x2048x3584.Idx → EReal) (ix3 q k j) = wt m c (ix2 k (colOf (by rfl : 14336 = 4 * 3584) q j)) := by
  have e : (V m c main_v3 : S4x2048x3584.Idx → EReal)
      = transpose S4x2048x3584 [1, 0, 2] (shapeCast S2048x4x3584 (wt m c) shapeCasts_S2048x14336_S2048x4x3584)
          transposes_S2048x4x3584_S4x2048x3584_1_0_2 := by
    unfold V; after_results <;> rfl
  rw [e]
  exact parts_apply (by rfl) (wt m c) _ _ q k j

/-- The blocks of the three windows at a point. -/
theorem idx0 : ∀ t : Fin cfg0.N, win0_0.index t = ![t.val / 8, 0] := (by decide +kernel : ∀ t : Fin grid0.N, _)
theorem idx1 : ∀ t : Fin cfg0.N, win0_1.index t = ![t.val % 8 / 2, 0, t.val % 2] := (by decide +kernel : ∀ t : Fin grid0.N, _)
theorem idx2 : ∀ t : Fin cfg0.N, win0_2.index t = ![t.val / 8, t.val % 8] := (by decide +kernel : ∀ t : Fin grid0.N, _)

/-- The product of a block of rows and a block of columns. -/
theorem pay_apply (x : Vec Ideal S544x2048 .bf16) (w : Vec Ideal S1x2048x1792 .bf16) (i : Fin 544) (j : Fin 1792) :
    k0_pay1 (F := Ideal) x w (ix2 i j) = ∑ k : Fin 2048, x (ix2 i k) * w (ix3 (0 : Fin 1) k j) := by
  show matmul (F := Ideal) (nn 544 2048 1792 _) none (shapeCast S544x2048 x shapeCasts_S544x2048_S544x2048)
    (shapeCast S2048x1792 w shapeCasts_S1x2048x1792_S2048x1792) (constant (F := Ideal) S544x1792 .f32 (0x00000000#32 : BitVec 32)) (ix2 i j) = _
  rw [nn_zero, shapeCast_self]
  exact Finset.sum_congr rfl fun k _ => congrArg _ (shapeCast_1ab_ab_apply w _ k j)

/-- What the body leaves in its result's buffer. -/
theorem out_eq (x : Vec Ideal S544x2048 .bf16) (w : Vec Ideal S1x2048x1792 .bf16) : out0_2 (F := Ideal) x w = k0_pay1 (F := Ideal) x w := by
  frame_out

/-- The array after the call. -/
theorem final : (dats m 0 c).arrAt 2 cfg0.N
    = fun i : (Mx 4352 14336).Idx => ∑ k : Fin 2048, lhs m c (ix2 (i 0) k) * wt m c (ix2 k (i 1)) := by
  refine (dats m 0 c).arrAt_eq_of_covers 2 _ (by decide +kernel) fun t hf y => ?_
  blk_simp
  rw [after0_2, out_eq]
  obtain ⟨i, j, rfl⟩ : ∃ (i : Fin 544) (j : Fin 1792), y = ix2 i j := ⟨_, _, eq_ix2 y⟩
  rw [pay_apply]
  have hN : t.val < 64 := t.isLt
  have hi := i.isLt
  have hj := j.isLt
  have h0 : (((win0_2.blk t).view.emb (ix2 i j) 0 : Fin 4352) : ℕ) = t.val / 8 * 544 + i.val := by blk_simp [idx2]; rfl
  have h1 : (((win0_2.blk t).view.emb (ix2 i j) 1 : Fin 14336) : ℕ) = t.val % 8 * 1792 + j.val := by blk_simp [idx2]; rfl
  refine sum_eq (fun k => ?_) (fun k => ?_)
  · rw [← V_lhs]
    blk_simp [iblk]
    refine congrArg _ (at2 ?_ ?_)
    · blk_simp [idx0, idx2]
    · blk_simp [idx0]
  · refine Eq.trans ?_ ((V_wt m c ⟨t.val % 8 / 2, by omega⟩ k ⟨t.val % 2 * 1792 + j.val, by omega⟩).trans ?_)
    · blk_simp [iblk]
      refine congrArg _ (at3 ?_ ?_ ?_)
      · blk_simp [idx1]
      · blk_simp [idx1]
      · blk_simp [idx1]
    · refine congrArg _ (at2 rfl ?_)
      exact Eq.trans (by show t.val % 8 / 2 * 3584 + (t.val % 2 * 1792 + j.val) = t.val % 8 * 1792 + j.val; omega) h1.symm

/-! ## The claims -/

instance : Cert.Kernel2.Facts := Cert.Kernel2.Gen.facts
instance : Cert.Kernel2Ideal.Facts := Cert.Kernel2Ideal.Gen.facts
instance : Cert.Reference2Ideal.Facts := Cert.Reference2Ideal.Gen.facts

/-- The two printed texts give the same table of calls. -/
theorem defs_eq : Cert.Kernel2.defs (F := Bits) = Cert.Kernel2Ideal.defs (F := Bits) := by
  refine congrArg (Pipeline.defs (Cert.Kernel2Ideal.pcfgs (F := Bits))) ?_
  show Defs.onTc _ = Defs.onTc _
  refine congrArg Defs.onTc (funext fun l => ?_)
  match l with
  | 0 => funext x; obtain ⟨t, s⟩ := x; rfl

/-- The frames of the kernel: one run, at any floats. -/
theorem frame_kernel : Cert.quiescent_Kernel2 (hKernel2 := Cert.Kernel2.Gen.facts) := by
  intro m g _
  rw [defs_eq]
  exact Cert.Kernel2Ideal.Gen.frame (F := Bits) m g

theorem frame_kernelIdeal : Cert.quiescent_Kernel2Ideal (hKernel2Ideal := Cert.Kernel2Ideal.Gen.facts) := fun m g _ =>
  Cert.Kernel2Ideal.Gen.frame (F := Ideal) m g

/-- The frame of the reference. -/
theorem frame_reference : Cert.quiescent_Reference2Ideal (hReference2Ideal := Cert.Reference2Ideal.Gen.facts) := fun m g _ =>
  (θ_run Cert.Reference2Ideal.defs _ _).mono (fun r h => ⟨fun c => (h c).2, sem_eq_zero_of_no_sems (by decide) r.2⟩)
    (Cert.Reference2Ideal.Value.run (F := Ideal) m g)

/-- The reference's result, entry by entry. -/
theorem reference_apply (x : FVec Ideal S4352x2048 .f32) (w : FVec Ideal S2048x14336 .f32) (wf)
    (i : (Mx 4352 14336).Idx) :
    Host.dotGeneral (F := Ideal) (nn 4352 2048 14336 wf) none x w i = ∑ k : Fin 2048, x (ix2 (i 0) k) * w (ix2 k (i 1)) := by
  obtain ⟨a, b, rfl⟩ : ∃ (a : Fin 4352) (b : Fin 14336), i = ix2 a b := ⟨_, _, eq_ix2 i⟩
  exact nn_host none wf x w a b

theorem algebraic : Cert.algebraic_Kernel2Ideal_Reference2Ideal (hKernel2Ideal := Cert.Kernel2Ideal.Gen.facts)
    (hReference2Ideal := Cert.Reference2Ideal.Gen.facts) := by
  intro m g m' g' _ hagree
  refine ⟨fun c => (dats m 0 c).arrAt 2 cfg0.N, Cert.Kernel2Ideal.Value.run_blocks m g, ?_⟩
  refine (θ_run Cert.Reference2Ideal.defs _ _).mono (fun _ h c => ⟨(h c).1.trans ?_, (h c).2⟩)
    (Cert.Reference2Ideal.Value.run (F := Ideal) m' g')
  rw [(hagree c).1, (hagree c).2]
  refine Eq.trans (funext fun i => ?_) (final m c).symm
  exact reference_apply (lhs m c) (wt m c) _ i

end Cert.Kernel2Ideal.Prod

end
-- ==== Proof.Prod.Dx.lean ====
/-
  The gradient of the residual stream at the projection: the gradient of the projection times the weight, transposed; eight
  parts of the columns are added up in turn.
-/
module

public import proofs.«01_k».proof.Defs
public import proofs.«01_k».proof.Proof.Gen.Kernel3
public import proofs.«01_k».proof.Proof.Gen.Kernel3Ideal.Value
public import proofs.«01_k».proof.Proof.Gen.Reference3Ideal.Run
public import proofs.«01_k».proof.Proof.Prod.Dots
public import Idealize.ShloMosaic.Lib.Pipeline.ValueKit.Geometry
public import Idealize.ShloMosaic.Lib.Pipeline.ValueKit.Acc
public import Idealize.ShloMosaic.Lib.StableHlo.Run
public import Idealize.ShloMosaic.Lib.Quiescent
public import Idealize.ShloMosaic.Lib.Pipeline.ReadBack

@[expose] public section

noncomputable section

namespace Cert.Kernel3Ideal.Prod

open Idealize.ShloMosaic
open Idealize.ShloMosaic.ValueIdx Idealize.ShloMosaic.TcCoe Idealize.SL.Sem
open Idealize.ShloMosaic.Pipeline (Dat)
open Cert.Kernel3Ideal Cert.Kernel3Ideal.Gen Cert.Prod
open scoped BigOperators

variable (m : (ℓ : Loc nD τ sig) → Buf (Elt Ideal) ℓ) (c : Dev nD)

/-- The arguments. -/
abbrev gr : (Mx 4352 14336).Idx → EReal := m ((c.tc : Thread nD τ).loc main_arg0)
abbrev wt : (Mx 2048 14336).Idx → EReal := m ((c.tc : Thread nD τ).loc main_arg1)

/-- Before the call the gradient is as given … -/
theorem V_gr : (V m c main_v0 : (Mx 4352 14336).Idx → EReal) = gr m c := by
  unfold V; after_results <;> rfl

/-- … and the weight's columns are in four parts. -/
theorem V_wt (q : Fin 4) (k : Fin 2048) (j : Fin 3584) :
    (V m c main_v3 : S4x2048x3584.Idx → EReal) (ix3 q k j) = wt m c (ix2 k (colOf (by rfl : 14336 = 4 * 3584) q j)) := by
  have e : (V m c main_v3 : S4x2048x3584.Idx → EReal)
      = transpose S4x2048x3584 [1, 0, 2] (shapeCast S2048x4x3584 (wt m c) shapeCasts_S2048x14336_S2048x4x3584)
          transposes_S2048x4x3584_S4x2048x3584_1_0_2 := by
    unfold V; after_results <;> rfl
  rw [e]
  exact parts_apply (by rfl) (wt m c) _ _ q k j

/-- The blocks of the three windows at a point. -/
theorem idx0 : ∀ t : Fin cfg0.N, win0_0.index t = ![t.val / 8, t.val % 8] := (by decide +kernel : ∀ t : Fin grid0.N, _)
theorem idx1 : ∀ t : Fin cfg0.N, win0_1.index t = ![t.val % 8 / 2, 0, t.val % 2] := (by decide +kernel : ∀ t : Fin grid0.N, _)
theorem idx2 : ∀ t : Fin cfg0.N, win0_2.index t = ![t.val / 8, 0] := (by decide +kernel : ∀ t : Fin grid0.N, _)

/-- The product of two blocks of rows. -/
theorem pay_apply (x : Vec Ideal S544x1792 .bf16) (w : Vec Ideal S1x2048x1792 .bf16) (i : Fin 544) (j : Fin 2048) :
    k0_pay1 (F := Ideal) x w (ix2 i j) = ∑ k : Fin 1792, x (ix2 i k) * w (ix3 (0 : Fin 1) j k) := by
  show matmul (F := Ideal) (nt 544 1792 2048 _) none (shapeCast S544x1792 x shapeCasts_S544x1792_S544x1792)
    (shapeCast S2048x1792 w shapeCasts_S1x2048x1792_S2048x1792) (constant (F := Ideal) S544x2048 .f32 (0x00000000#32 : BitVec 32)) (ix2 i j) = _
  rw [nt_zero, shapeCast_self]
  exact Finset.sum_congr rfl fun k _ => congrArg _ (shapeCast_1ab_ab_apply w _ j k)

/-- The product at a point. -/
def part (t : Fin cfg0.N) : S544x2048.Idx → EReal := k0_pay1 (F := Ideal) (iblk m c 0 t) (iblk m c 1 t)

/-- The accumulator starts at the first product … -/
theorem acc_first (t : Fin cfg0.N) (h : t.val % 8 = 0) (y : S544x2048.Idx) :
    (outsAt0 m c t.val t.isLt).2 y = (0 : EReal) + part m c t y := by
  rw [outsAt0_A m c t h (by omega) (by omega), zero_add]
  frame_out
  unfold k0_pay2 part
  rw [shapeCast_self]

/-- … adds the others … -/
theorem acc_next (t : Fin cfg0.N) (h : ¬t.val % 8 = 0) (y : S544x2048.Idx) :
    (outsAt0 m c t.val t.isLt).2 y
      = ((outsAt0 m c (t.val - 1) (Nat.lt_of_le_of_lt (Nat.sub_le _ _) t.isLt)).2 y + part m c t y : EReal) := by
  by_cases h2 : t.val % 8 = 7
  · rw [outsAt0_C m c t h (by omega) h2]
    frame_out
    unfold k0_pay3 part
    rw [shapeCast_self, read_unread_whole]
    rfl
  · rw [outsAt0_B m c t h (by omega) h2]
    frame_out
    unfold k0_pay3 part
    rw [shapeCast_self, read_unread_whole]
    rfl

/-- … and is written out at the last. -/
theorem out_last (t : Fin cfg0.N) (h : t.val % 8 = 7) : (outsAt0 m c t.val t.isLt).1 = (outsAt0 m c t.val t.isLt).2 := by
  rw [outsAt0_C m c t (by omega) (by omega) h]
  frame_out

/-- What is written back: the sum of the eight products. -/
theorem out_sum (t : Fin cfg0.N) (h : t.val % 8 = 7) (y : S544x2048.Idx) :
    (outsAt0 m c t.val t.isLt).1 y
      = ∑ s : Fin 8, part m c ⟨8 * (t.val / 8) + s.val, Pipeline.run_point_lt_of_flush t h s⟩ y := by
  rw [out_last m c t h]
  exact (Pipeline.eq_sum_fin_of_reset_step_apply_of_flush (M := EReal) (fun n h => (outsAt0 m c n h).2) 8 (fun _ => 0) (part m c)
    (acc_first m c) (acc_next m c) t h y).trans (zero_add _)

/-- A product at a point, on the arguments. -/
theorem part_apply (t : Fin cfg0.N) (i : Fin 544) (j : Fin 2048) (r : Fin 4352) (hr : r.val = t.val / 8 * 544 + i.val) :
    part m c t (ix2 i j) = ∑ k : Fin 1792, gr m c (ix2 r ⟨t.val % 8 * 1792 + k.val, by omega⟩) * wt m c (ix2 j ⟨t.val % 8 * 1792 + k.val, by omega⟩) := by
  have hN : t.val < 64 := t.isLt
  unfold part
  rw [pay_apply]
  refine sum_eq (fun k => ?_) (fun k => ?_)
  · rw [← V_gr]
    blk_simp [iblk]
    refine congrArg _ (at2 ?_ ?_)
    · blk_simp [idx0]; exact hr.symm
    · blk_simp [idx0]
  · refine Eq.trans ?_ ((V_wt m c ⟨t.val % 8 / 2, by omega⟩ j ⟨t.val % 2 * 1792 + k.val, by omega⟩).trans ?_)
    · blk_simp [iblk]
      refine congrArg _ (at3 ?_ ?_ ?_)
      · blk_simp [idx1]
      · blk_simp [idx1]
      · blk_simp [idx1]
    · refine congrArg _ (at2 rfl ?_)
      show t.val % 8 / 2 * 3584 + (t.val % 2 * 1792 + k.val) = t.val % 8 * 1792 + k.val; omega

/-- The eight products are the sum over all columns. -/
theorem sum_parts (t : Fin cfg0.N) (i : Fin 544) (j : Fin 2048) (r : Fin 4352) (q : Fin 2048) (hr : r.val = t.val / 8 * 544 + i.val)
    (hq : q.val = j.val) (hb : ∀ s : Fin 8, 8 * (t.val / 8) + s.val < cfg0.N) :
    ∑ s : Fin 8, part m c ⟨8 * (t.val / 8) + s.val, hb s⟩ (ix2 i j)
      = ∑ k : Fin 14336, gr m c (ix2 r k) * wt m c (ix2 q k) := by
  obtain rfl : q = j := Fin.ext hq
  have e : ∀ s : Fin 8, (8 * (t.val / 8) + s.val) / 8 = t.val / 8 := fun s => by omega
  have e' : ∀ s : Fin 8, (8 * (t.val / 8) + s.val) % 8 = s.val := fun s => by omega
  refine Eq.trans (Finset.sum_congr rfl fun s _ => part_apply m c ⟨8 * (t.val / 8) + s.val, hb s⟩ i q r (by rw [hr]; exact congrArg (· * 544 + i.val) (e s).symm)) ?_
  refine Fin.sum_mul_add_congr fun s k hl => ?_
  exact congrArg₂ (· * ·) (congrArg _ (at2 rfl (congrArg (· * 1792 + k.val) (e' s)))) (congrArg _ (at2 rfl (congrArg (· * 1792 + k.val) (e' s))))

/-- The array after the call. -/
theorem final : (dats m 0 c).arrAt 2 cfg0.N
    = fun i : (Mx 4352 2048).Idx => ∑ k : Fin 14336, gr m c (ix2 (i 0) k) * wt m c (ix2 (i 1) k) := by
  refine (dats m 0 c).arrAt_eq_of_covers 2 _ (by decide +kernel) fun t hf y => ?_
  blk_simp
  have h7 : t.val % 8 = 7 := (flush0_2 t).mp hf
  have hN : t.val < 64 := t.isLt
  rw [after0_2, out_sum m c t h7]
  obtain ⟨i, j, rfl⟩ : ∃ (i : Fin 544) (j : Fin 2048), y = ix2 i j := ⟨_, _, eq_ix2 y⟩
  have h0 : (((win0_2.blk t).view.emb (ix2 i j) 0 : Fin 4352) : ℕ) = t.val / 8 * 544 + i.val := by blk_simp [idx2]; rfl
  have h1 : ((win0_2.blk t).view.emb (ix2 i j) 1 : Fin 2048) = j := Fin.ext (by blk_simp [idx2]; rfl)
  exact sum_parts m c t i j _ _ h0 (congrArg Fin.val h1) (fun s => Pipeline.run_point_lt_of_flush t h7 s)

/-! ## The claims -/

instance : Cert.Kernel3.Facts := Cert.Kernel3.Gen.facts
instance : Cert.Kernel3Ideal.Facts := Cert.Kernel3Ideal.Gen.facts
instance : Cert.Reference3Ideal.Facts := Cert.Reference3Ideal.Gen.facts

/-- The two printed texts give the same table of calls. -/
theorem defs_eq : Cert.Kernel3.defs (F := Bits) = Cert.Kernel3Ideal.defs (F := Bits) := by
  refine congrArg (Pipeline.defs (Cert.Kernel3Ideal.pcfgs (F := Bits))) ?_
  show Defs.onTc _ = Defs.onTc _
  refine congrArg Defs.onTc (funext fun l => ?_)
  match l with
  | 0 => funext x; obtain ⟨t, s⟩ := x; rfl

/-- The frames of the kernel: one run, at any floats. -/
theorem frame_kernel : Cert.quiescent_Kernel3 (hKernel3 := Cert.Kernel3.Gen.facts) := by
  intro m g _
  rw [defs_eq]
  exact Cert.Kernel3Ideal.Gen.frame (F := Bits) m g

theorem frame_kernelIdeal : Cert.quiescent_Kernel3Ideal (hKernel3Ideal := Cert.Kernel3Ideal.Gen.facts) := fun m g _ =>
  Cert.Kernel3Ideal.Gen.frame (F := Ideal) m g

/-- The frame of the reference. -/
theorem frame_reference : Cert.quiescent_Reference3Ideal (hReference3Ideal := Cert.Reference3Ideal.Gen.facts) := fun m g _ =>
  (θ_run Cert.Reference3Ideal.defs _ _).mono (fun r h => ⟨fun c => (h c).2, sem_eq_zero_of_no_sems (by decide) r.2⟩)
    (Cert.Reference3Ideal.Value.run (F := Ideal) m g)

/-- The reference's result, entry by entry. -/
theorem reference_apply (x : FVec Ideal S4352x14336 .f32) (w : FVec Ideal S2048x14336 .f32) (wf)
    (i : (Mx 4352 2048).Idx) :
    Host.dotGeneral (F := Ideal) (nt 4352 14336 2048 wf) none x w i = ∑ k : Fin 14336, x (ix2 (i 0) k) * w (ix2 (i 1) k) := by
  obtain ⟨a, b, rfl⟩ : ∃ (a : Fin 4352) (b : Fin 2048), i = ix2 a b := ⟨_, _, eq_ix2 i⟩
  exact nt_host none wf x w a b

theorem algebraic : Cert.algebraic_Kernel3Ideal_Reference3Ideal (hKernel3Ideal := Cert.Kernel3Ideal.Gen.facts)
    (hReference3Ideal := Cert.Reference3Ideal.Gen.facts) := by
  intro m g m' g' _ hagree
  refine ⟨fun c => Cert.Kernel3Ideal.Value.G2 m c, Cert.Kernel3Ideal.Value.run m g, ?_⟩
  refine (θ_run Cert.Reference3Ideal.defs _ _).mono (fun _ h c => ⟨(h c).1.trans ?_, (h c).2⟩)
    (Cert.Reference3Ideal.Value.run (F := Ideal) m' g')
  rw [(hagree c).1, (hagree c).2]
  refine Eq.trans (funext fun i => ?_) ((final m c).symm.trans (Cert.Kernel3Ideal.Value.final2 m c))
  exact reference_apply (gr m c) (wt m c) _ i

end Cert.Kernel3Ideal.Prod

end
-- ==== Proof.Prod.Dw.lean ====
/-
  The gradient of the input weight: the product of the stream and the gradient of the projection over the rows, its columns in
  four parts.
-/
module

public import proofs.«01_k».proof.Defs
public import proofs.«01_k».proof.Proof.Gen.Kernel4
public import proofs.«01_k».proof.Proof.Gen.Kernel4Ideal.Value
public import proofs.«01_k».proof.Proof.Gen.Reference4Ideal.Run
public import proofs.«01_k».proof.Proof.Prod.Dots
public import Idealize.ShloMosaic.Lib.Pipeline.ValueKit.Geometry
public import Idealize.ShloMosaic.Lib.Pipeline.ValueKit.Acc
public import Idealize.ShloMosaic.Lib.StableHlo.Run
public import Idealize.ShloMosaic.Lib.Quiescent

@[expose] public section

noncomputable section

namespace Cert.Kernel4Ideal.Prod

open Idealize.ShloMosaic
open Idealize.ShloMosaic.ValueIdx Idealize.ShloMosaic.TcCoe Idealize.SL.Sem
open Idealize.ShloMosaic.Pipeline (Dat)
open Cert.Kernel4Ideal Cert.Kernel4Ideal.Gen Cert.Prod
open scoped BigOperators

variable (m : (ℓ : Loc nD τ sig) → Buf (Elt Ideal) ℓ) (c : Dev nD)

/-- The arguments. -/
abbrev lhs : (Mx 4352 2048).Idx → EReal := m ((c.tc : Thread nD τ).loc main_arg0)
abbrev gr : (Mx 4352 14336).Idx → EReal := m ((c.tc : Thread nD τ).loc main_arg1)

/-- The call reads them as given. -/
theorem V_lhs : (V m c main_v0 : (Mx 4352 2048).Idx → EReal) = lhs m c := by
  unfold V; after_results <;> rfl
theorem V_gr : (V m c main_v1 : (Mx 4352 14336).Idx → EReal) = gr m c := by
  unfold V; after_results <;> rfl

/-- The blocks of the three windows at a point. -/
theorem idx0 : ∀ t : Fin cfg0.N, win0_0.index t = ![0, t.val / 28] := (by decide +kernel : ∀ t : Fin grid0.N, _)
theorem idx1 : ∀ t : Fin cfg0.N, win0_1.index t = ![0, t.val % 28] := (by decide +kernel : ∀ t : Fin grid0.N, _)
theorem idx2 : ∀ t : Fin cfg0.N, win0_2.index t = ![t.val % 28 / 7, t.val / 28, t.val % 28 % 7] := (by decide +kernel : ∀ t : Fin grid0.N, _)

/-- The product of two blocks of columns over all rows. -/
theorem pay_apply (x : Vec Ideal S4352x512 .bf16) (w : Vec Ideal S4352x512 .bf16) (u : Fin 1) (i : Fin 512) (j : Fin 512) :
    k0_pay1 (F := Ideal) x w (ix3 u i j) = ∑ k : Fin 4352, x (ix2 k i) * w (ix2 k j) := by
  show shapeCast S1x512x512 (matmul (F := Ideal) (tn 512 4352 512 _) none (shapeCast S4352x512 x shapeCasts_S4352x512_S4352x512)
    (shapeCast S4352x512 w shapeCasts_S4352x512_S4352x512) (constant (F := Ideal) S512x512 .f32 (0x00000000#32 : BitVec 32))) _ (ix3 u i j) = _
  rw [shapeCast_ab_1ab_apply, tn_zero, shapeCast_self, shapeCast_self]

/-- What the body leaves in its result's buffer. -/
theorem out_eq (x : Vec Ideal S4352x512 .bf16) (w : Vec Ideal S4352x512 .bf16) : out0_2 (F := Ideal) x w = k0_pay1 (F := Ideal) x w := by
  frame_out

/-- The array after the call. -/
theorem final : (dats m 0 c).arrAt 2 cfg0.N
    = fun i : S4x2048x3584.Idx => ∑ k : Fin 4352, lhs m c (ix2 k (i 1)) * gr m c (ix2 k (colOf (by rfl : 14336 = 4 * 3584) (i 0) (i 2))) := by
  refine (dats m 0 c).arrAt_eq_of_covers 2 _ (by decide +kernel) fun t hf y => ?_
  blk_simp
  rw [after0_2, out_eq]
  obtain ⟨u, i, j, rfl⟩ : ∃ (u : Fin 1) (i : Fin 512) (j : Fin 512), y = ix3 u i j := ⟨_, _, _, eq_ix3 y⟩
  rw [pay_apply]
  have hu : u.val = 0 := by omega
  have h0 : (((win0_2.blk t).view.emb (ix3 u i j) 0 : Fin 4) : ℕ) = t.val % 28 / 7 := by blk_simp [idx2]
  have h1 : (((win0_2.blk t).view.emb (ix3 u i j) 1 : Fin 2048) : ℕ) = t.val / 28 * 512 + i.val := by blk_simp [idx2]; rfl
  have h2 : (((win0_2.blk t).view.emb (ix3 u i j) 2 : Fin 3584) : ℕ) = t.val % 28 % 7 * 512 + j.val := by blk_simp [idx2]; rfl
  refine sum_eq (fun k => ?_) (fun k => ?_)
  · rw [← V_lhs]
    blk_simp [iblk]
    refine congrArg _ (at2 ?_ ?_)
    · blk_simp [idx0]
    · blk_simp [idx0, idx2]
  · rw [← V_gr]
    refine Eq.trans (b := V m c main_v1 (ix2 (n1 := 14336) k ⟨t.val % 28 * 512 + j.val, by have := j.isLt; omega⟩)) ?_ (congrArg _ (at2 rfl ?_))
    · blk_simp [iblk]
      refine congrArg _ (at2 ?_ ?_)
      · blk_simp [idx1]
      · blk_simp [idx1]
    · show t.val % 28 * 512 + j.val = ((win0_2.blk t).view.emb (ix3 u i j) 0 : Fin 4).val * 3584 + ((win0_2.blk t).view.emb (ix3 u i j) 2 : Fin 3584).val
      rw [h0, h2]; omega

/-! ## The claims -/

instance : Cert.Kernel4.Facts := Cert.Kernel4.Gen.facts
instance : Cert.Kernel4Ideal.Facts := Cert.Kernel4Ideal.Gen.facts
instance : Cert.Reference4Ideal.Facts := Cert.Reference4Ideal.Gen.facts

/-- The two printed texts give the same table of calls. -/
theorem defs_eq : Cert.Kernel4.defs (F := Bits) = Cert.Kernel4Ideal.defs (F := Bits) := by
  refine congrArg (Pipeline.defs (Cert.Kernel4Ideal.pcfgs (F := Bits))) ?_
  show Defs.onTc _ = Defs.onTc _
  refine congrArg Defs.onTc (funext fun l => ?_)
  match l with
  | 0 => funext x; obtain ⟨t, s⟩ := x; rfl

/-- The frames of the kernel: one run, at any floats. -/
theorem frame_kernel : Cert.quiescent_Kernel4 (hKernel4 := Cert.Kernel4.Gen.facts) := by
  intro m g _
  rw [defs_eq]
  exact Cert.Kernel4Ideal.Gen.frame (F := Bits) m g

theorem frame_kernelIdeal : Cert.quiescent_Kernel4Ideal (hKernel4Ideal := Cert.Kernel4Ideal.Gen.facts) := fun m g _ =>
  Cert.Kernel4Ideal.Gen.frame (F := Ideal) m g

/-- The frame of the reference. -/
theorem frame_reference : Cert.quiescent_Reference4Ideal (hReference4Ideal := Cert.Reference4Ideal.Gen.facts) := fun m g _ =>
  (θ_run Cert.Reference4Ideal.defs _ _).mono (fun r h => ⟨fun c => (h c).2, sem_eq_zero_of_no_sems (by decide) r.2⟩)
    (Cert.Reference4Ideal.Value.run (F := Ideal) m g)

/-- The reference's result, entry by entry. -/
theorem reference_apply (x : FVec Ideal S4352x2048 .f32) (w : FVec Ideal S4352x14336 .f32) (wf) (h1) (h2) (h3)
    (i : S4x2048x3584.Idx) :
    transpose S4x2048x3584 [1, 0, 2] (shapeCast ⟨3, ![2048, 4, 3584]⟩ (transpose (Mx 2048 14336) [1, 0]
        (Host.dotGeneral (F := Ideal) (tn 14336 4352 2048 wf) none w x) h1) h2) h3 i
      = ∑ k : Fin 4352, x (ix2 k (i 1)) * w (ix2 k (colOf (by rfl : 14336 = 4 * 3584) (i 0) (i 2))) := by
  obtain ⟨q, a, b, rfl⟩ : ∃ (q : Fin 4) (a : Fin 2048) (b : Fin 3584), i = ix3 q a b := ⟨_, _, _, eq_ix3 i⟩
  rw [parts_apply (by rfl : 14336 = 4 * 3584), transpose_ix2_apply, tn_host]
  exact Finset.sum_congr rfl fun k _ => mul_comm _ _

theorem algebraic : Cert.algebraic_Kernel4Ideal_Reference4Ideal (hKernel4Ideal := Cert.Kernel4Ideal.Gen.facts)
    (hReference4Ideal := Cert.Reference4Ideal.Gen.facts) := by
  intro m g m' g' _ hagree
  refine ⟨fun c => (dats m 0 c).arrAt 2 cfg0.N, Cert.Kernel4Ideal.Value.run_blocks m g, ?_⟩
  refine (θ_run Cert.Reference4Ideal.defs _ _).mono (fun _ h c => ⟨(h c).1.trans ?_, (h c).2⟩)
    (Cert.Reference4Ideal.Value.run (F := Ideal) m' g')
  rw [(hagree c).1, (hagree c).2]
  refine Eq.trans (funext fun i => ?_) (final m c).symm
  exact reference_apply (lhs m c) (gr m c) _ _ _ _ i

end Cert.Kernel4Ideal.Prod

end
-- ==== Proof.Prod.Out.lean ====
/-
  The output projection: the merged stream times w_o.
-/
module

public import proofs.«01_k».proof.Defs
public import proofs.«01_k».proof.Proof.Gen.Kernel5
public import proofs.«01_k».proof.Proof.Gen.Kernel5Ideal.Value
public import proofs.«01_k».proof.Proof.Gen.Reference5Ideal.Run
public import proofs.«01_k».proof.Proof.Prod.Dots
public import Idealize.ShloMosaic.Lib.Pipeline.ValueKit.Geometry
public import Idealize.ShloMosaic.Lib.Pipeline.ValueKit.Acc
public import Idealize.ShloMosaic.Lib.StableHlo.Run
public import Idealize.ShloMosaic.Lib.Quiescent
public import Idealize.ShloMosaic.Lib.Pipeline.ReadBack

@[expose] public section

noncomputable section

namespace Cert.Kernel5Ideal.Prod

open Idealize.ShloMosaic
open Idealize.ShloMosaic.ValueIdx Idealize.ShloMosaic.TcCoe Idealize.SL.Sem
open Idealize.ShloMosaic.Pipeline (Dat)
open Cert.Kernel5Ideal Cert.Kernel5Ideal.Gen Cert.Prod
open scoped BigOperators

variable (m : (ℓ : Loc nD τ sig) → Buf (Elt Ideal) ℓ) (c : Dev nD)

/-- The arguments. -/
abbrev lhs : (Mx 4352 2048).Idx → EReal := m ((c.tc : Thread nD τ).loc main_arg0)
abbrev rhs : (Mx 2048 2048).Idx → EReal := m ((c.tc : Thread nD τ).loc main_arg1)

/-- The call reads them as given. -/
theorem V_lhs : (V m c main_v0 : (Mx 4352 2048).Idx → EReal) = lhs m c := by
  unfold V; after_results <;> rfl
theorem V_rhs : (V m c main_v1 : (Mx 2048 2048).Idx → EReal) = rhs m c := by
  unfold V; after_results <;> rfl

/-- The blocks of the three windows at a point. -/
theorem idx0 : ∀ t : Fin cfg0.N, win0_0.index t = ![t.val / 4, 0] := (by decide +kernel : ∀ t : Fin grid0.N, _)
theorem idx1 : ∀ t : Fin cfg0.N, win0_1.index t = ![0, t.val % 4] := (by decide +kernel : ∀ t : Fin grid0.N, _)
theorem idx2 : ∀ t : Fin cfg0.N, win0_2.index t = ![t.val / 4, t.val % 4] := (by decide +kernel : ∀ t : Fin grid0.N, _)

/-- The product of a block of rows and a block of columns. -/
theorem pay_apply (x : Vec Ideal S544x2048 .bf16) (w : Vec Ideal S2048x512 .bf16) (i : Fin 544) (j : Fin 512) :
    k0_pay1 (F := Ideal) x w (ix2 i j) = ∑ k : Fin 2048, x (ix2 i k) * w (ix2 k j) :=
  nn_block none (M := 544) (K := 2048) (N := 512) _ x w _ _ i j

/-- What the body leaves in its result's buffer. -/
theorem out_eq (x : Vec Ideal S544x2048 .bf16) (w : Vec Ideal S2048x512 .bf16) : out0_2 (F := Ideal) x w = k0_pay1 (F := Ideal) x w := by
  frame_out

/-- The array after the call. -/
theorem final : (dats m 0 c).arrAt 2 cfg0.N
    = fun i : (Mx 4352 2048).Idx => ∑ k : Fin 2048, lhs m c (ix2 (i 0) k) * rhs m c (ix2 k (i 1)) := by
  refine (dats m 0 c).arrAt_eq_of_covers 2 _ (by decide +kernel) fun t hf y => ?_
  blk_simp
  rw [after0_2, out_eq]
  obtain ⟨i, j, rfl⟩ : ∃ (i : Fin 544) (j : Fin 512), y = ix2 i j := ⟨_, _, eq_ix2 y⟩
  rw [pay_apply]
  refine sum_eq (fun k => ?_) (fun k => ?_)
  · rw [← V_lhs]
    blk_simp [iblk]
    refine congrArg _ (at2 ?_ ?_) <;> blk_simp [idx0, idx2]
  · rw [← V_rhs]
    blk_simp [iblk]
    refine congrArg _ (at2 ?_ ?_) <;> blk_simp [idx1, idx2]

/-! ## The claims -/

instance : Cert.Kernel5.Facts := Cert.Kernel5.Gen.facts
instance : Cert.Kernel5Ideal.Facts := Cert.Kernel5Ideal.Gen.facts
instance : Cert.Reference5Ideal.Facts := Cert.Reference5Ideal.Gen.facts

/-- The two printed texts give the same table of calls. -/
theorem defs_eq : Cert.Kernel5.defs (F := Bits) = Cert.Kernel5Ideal.defs (F := Bits) := by
  refine congrArg (Pipeline.defs (Cert.Kernel5Ideal.pcfgs (F := Bits))) ?_
  show Defs.onTc _ = Defs.onTc _
  refine congrArg Defs.onTc (funext fun l => ?_)
  match l with
  | 0 => funext x; obtain ⟨t, s⟩ := x; rfl

/-- The frames of the kernel: one run, at any floats. -/
theorem frame_kernel : Cert.quiescent_Kernel5 (hKernel5 := Cert.Kernel5.Gen.facts) := by
  intro m g _
  rw [defs_eq]
  exact Cert.Kernel5Ideal.Gen.frame (F := Bits) m g

theorem frame_kernelIdeal : Cert.quiescent_Kernel5Ideal (hKernel5Ideal := Cert.Kernel5Ideal.Gen.facts) := fun m g _ =>
  Cert.Kernel5Ideal.Gen.frame (F := Ideal) m g

/-- The frame of the reference. -/
theorem frame_reference : Cert.quiescent_Reference5Ideal (hReference5Ideal := Cert.Reference5Ideal.Gen.facts) := fun m g _ =>
  (θ_run Cert.Reference5Ideal.defs _ _).mono (fun r h => ⟨fun c => (h c).2, sem_eq_zero_of_no_sems (by decide) r.2⟩)
    (Cert.Reference5Ideal.Value.run (F := Ideal) m g)

theorem algebraic : Cert.algebraic_Kernel5Ideal_Reference5Ideal (hKernel5Ideal := Cert.Kernel5Ideal.Gen.facts)
    (hReference5Ideal := Cert.Reference5Ideal.Gen.facts) := by
  intro m g m' g' _ hagree
  refine ⟨fun c => (dats m 0 c).arrAt 2 cfg0.N, Cert.Kernel5Ideal.Value.run_blocks m g, ?_⟩
  refine (θ_run Cert.Reference5Ideal.defs _ _).mono (fun _ h c => ⟨(h c).1.trans ?_, (h c).2⟩)
    (Cert.Reference5Ideal.Value.run (F := Ideal) m' g')
  rw [(hagree c).1, (hagree c).2]
  exact (nn_host_eq none (M := 4352) (K := 2048) (N := 2048) _ (lhs m c) (rhs m c)).trans (final m c).symm

end Cert.Kernel5Ideal.Prod

end
-- ==== Proof.Prod.OutDx.lean ====
/-
  The gradient of the merged stream: the gradient of the output projection times w_o, transposed; two parts of the columns are
  added up.
-/
module

public import proofs.«01_k».proof.Defs
public import proofs.«01_k».proof.Proof.Gen.Kernel6
public import proofs.«01_k».proof.Proof.Gen.Kernel6Ideal.Value
public import proofs.«01_k».proof.Proof.Gen.Reference6Ideal.Run
public import proofs.«01_k».proof.Proof.Prod.Dots
public import Idealize.ShloMosaic.Lib.Pipeline.ValueKit.Geometry
public import Idealize.ShloMosaic.Lib.Pipeline.ValueKit.Acc
public import Idealize.ShloMosaic.Lib.StableHlo.Run
public import Idealize.ShloMosaic.Lib.Quiescent
public import Idealize.ShloMosaic.Lib.Pipeline.ReadBack

@[expose] public section

noncomputable section

namespace Cert.Kernel6Ideal.Prod

open Idealize.ShloMosaic
open Idealize.ShloMosaic.ValueIdx Idealize.ShloMosaic.TcCoe Idealize.SL.Sem
open Idealize.ShloMosaic.Pipeline (Dat)
open Cert.Kernel6Ideal Cert.Kernel6Ideal.Gen Cert.Prod
open scoped BigOperators

variable (m : (ℓ : Loc nD τ sig) → Buf (Elt Ideal) ℓ) (c : Dev nD)

/-- The arguments. -/
abbrev lhs : (Mx 4352 2048).Idx → EReal := m ((c.tc : Thread nD τ).loc main_arg0)
abbrev rhs : (Mx 2048 2048).Idx → EReal := m ((c.tc : Thread nD τ).loc main_arg1)

/-- The call reads them as given. -/
theorem V_lhs : (V m c main_v0 : (Mx 4352 2048).Idx → EReal) = lhs m c := by
  unfold V; after_results <;> rfl
theorem V_rhs : (V m c main_v1 : (Mx 2048 2048).Idx → EReal) = rhs m c := by
  unfold V; after_results <;> rfl

/-- The blocks of the three windows at a point. -/
theorem idx0 : ∀ t : Fin cfg0.N, win0_0.index t = ![t.val / 2, t.val % 2] := (by decide +kernel : ∀ t : Fin grid0.N, _)
theorem idx1 : ∀ t : Fin cfg0.N, win0_1.index t = ![0, t.val % 2] := (by decide +kernel : ∀ t : Fin grid0.N, _)
theorem idx2 : ∀ t : Fin cfg0.N, win0_2.index t = ![t.val / 2, 0] := (by decide +kernel : ∀ t : Fin grid0.N, _)

/-- The product of two blocks of rows at a point. -/
def part (t : Fin cfg0.N) : S544x2048.Idx → EReal := k0_pay1 (F := Ideal) (iblk m c 0 t) (iblk m c 1 t)

/-- The same on the arguments. -/
theorem part_apply (t : Fin cfg0.N) (i : Fin 544) (j : Fin 2048) (r : Fin 4352) (hr : r.val = t.val / 2 * 544 + i.val) :
    part m c t (ix2 i j) = ∑ k : Fin 1024, lhs m c (ix2 r ⟨t.val % 2 * 1024 + k.val, by omega⟩) * rhs m c (ix2 j ⟨t.val % 2 * 1024 + k.val, by omega⟩) := by
  refine (nt_block none (M := 544) (K := 1024) (N := 2048) _ (iblk m c 0 t) (iblk m c 1 t) _ _ i j).trans (sum_eq (fun k => ?_) (fun k => ?_))
  · rw [← V_lhs]
    blk_simp [iblk]
    refine congrArg _ (at2 ?_ ?_)
    · blk_simp [idx0]; exact hr.symm
    · blk_simp [idx0]
  · rw [← V_rhs]
    blk_simp [iblk]
    refine congrArg _ (at2 ?_ ?_) <;> blk_simp [idx1]

/-- What is written back after the second part: the sum of both. -/
theorem out_sum (t : Fin cfg0.N) (h : t.val % 2 = 1) (h' : t.val - 1 < cfg0.N) (y : S544x2048.Idx) :
    (outsAt0 m c t.val t.isLt).1 y = (part m c ⟨t.val - 1, h'⟩ y + part m c t y : EReal) := by
  have e : (outsAt0 m c (t.val - 1) h').2 = part m c ⟨t.val - 1, h'⟩ := by
    rw [outsAt0_A m c ⟨t.val - 1, h'⟩ (by show (t.val - 1) % 2 = 0; omega) (by show ¬(t.val - 1) % 2 = 1; omega) (by show ¬(t.val - 1) % 2 = 1; omega)]
    frame_out
    unfold k0_pay2 part
    rw [shapeCast_self]
  rw [outsAt0_B m c t (by omega) h h]
  frame_out
  unfold k0_pay3 part
  rw [shapeCast_self, read_unread_whole, e]
  rfl

/-- Both parts are the sum over all columns. -/
theorem sum_parts (t : Fin cfg0.N) (h : t.val % 2 = 1) (h' : t.val - 1 < cfg0.N) (i : Fin 544) (j : Fin 2048) (r : Fin 4352) (q : Fin 2048)
    (hr : r.val = t.val / 2 * 544 + i.val) (hq : q = j) :
    (part m c ⟨t.val - 1, h'⟩ (ix2 i j) + part m c t (ix2 i j) : EReal) = ∑ k : Fin 2048, lhs m c (ix2 r k) * rhs m c (ix2 q k) := by
  subst hq
  rw [part_apply m c ⟨t.val - 1, h'⟩ i q r (by show r.val = (t.val - 1) / 2 * 544 + i.val; rw [hr]; omega), part_apply m c t i q r hr]
  refine Eq.trans ?_ (Fin.sum_univ_add (a := 1024) (b := 1024) fun k : Fin 2048 => lhs m c (ix2 r k) * rhs m c (ix2 q k)).symm
  refine congrArg₂ (· + ·) (sum_eq (fun k => congrArg _ (at2 rfl ?_)) (fun k => congrArg _ (at2 rfl ?_)))
    (sum_eq (fun k => congrArg _ (at2 rfl ?_)) (fun k => congrArg _ (at2 rfl ?_)))
  · show (t.val - 1) % 2 * 1024 + k.val = k.val; omega
  · show (t.val - 1) % 2 * 1024 + k.val = k.val; omega
  · show t.val % 2 * 1024 + k.val = 1024 + k.val; omega
  · show t.val % 2 * 1024 + k.val = 1024 + k.val; omega

/-- The array after the call. -/
theorem final : (dats m 0 c).arrAt 2 cfg0.N
    = fun i : (Mx 4352 2048).Idx => ∑ k : Fin 2048, lhs m c (ix2 (i 0) k) * rhs m c (ix2 (i 1) k) := by
  refine (dats m 0 c).arrAt_eq_of_covers 2 _ (by decide +kernel) fun t hf y => ?_
  blk_simp
  have h1 : t.val % 2 = 1 := (flush0_2 t).mp hf
  have h' : t.val - 1 < cfg0.N := Nat.lt_of_le_of_lt (Nat.sub_le _ _) t.isLt
  rw [after0_2, out_sum m c t h1 h']
  obtain ⟨i, j, rfl⟩ : ∃ (i : Fin 544) (j : Fin 2048), y = ix2 i j := ⟨_, _, eq_ix2 y⟩
  exact sum_parts m c t h1 h' i j _ _ (by blk_simp [idx2]) (Fin.ext (by blk_simp [idx2]))

/-! ## The claims -/

instance : Cert.Kernel6.Facts := Cert.Kernel6.Gen.facts
instance : Cert.Kernel6Ideal.Facts := Cert.Kernel6Ideal.Gen.facts
instance : Cert.Reference6Ideal.Facts := Cert.Reference6Ideal.Gen.facts

/-- The two printed texts give the same table of calls. -/
theorem defs_eq : Cert.Kernel6.defs (F := Bits) = Cert.Kernel6Ideal.defs (F := Bits) := by
  refine congrArg (Pipeline.defs (Cert.Kernel6Ideal.pcfgs (F := Bits))) ?_
  show Defs.onTc _ = Defs.onTc _
  refine congrArg Defs.onTc (funext fun l => ?_)
  match l with
  | 0 => funext x; obtain ⟨t, s⟩ := x; rfl

/-- The frames of the kernel: one run, at any floats. -/
theorem frame_kernel : Cert.quiescent_Kernel6 (hKernel6 := Cert.Kernel6.Gen.facts) := by
  intro m g _
  rw [defs_eq]
  exact Cert.Kernel6Ideal.Gen.frame (F := Bits) m g

theorem frame_kernelIdeal : Cert.quiescent_Kernel6Ideal (hKernel6Ideal := Cert.Kernel6Ideal.Gen.facts) := fun m g _ =>
  Cert.Kernel6Ideal.Gen.frame (F := Ideal) m g

/-- The frame of the reference. -/
theorem frame_reference : Cert.quiescent_Reference6Ideal (hReference6Ideal := Cert.Reference6Ideal.Gen.facts) := fun m g _ =>
  (θ_run Cert.Reference6Ideal.defs _ _).mono (fun r h => ⟨fun c => (h c).2, sem_eq_zero_of_no_sems (by decide) r.2⟩)
    (Cert.Reference6Ideal.Value.run (F := Ideal) m g)

theorem algebraic : Cert.algebraic_Kernel6Ideal_Reference6Ideal (hKernel6Ideal := Cert.Kernel6Ideal.Gen.facts)
    (hReference6Ideal := Cert.Reference6Ideal.Gen.facts) := by
  intro m g m' g' _ hagree
  refine ⟨fun c => (dats m 0 c).arrAt 2 cfg0.N, Cert.Kernel6Ideal.Value.run_blocks m g, ?_⟩
  refine (θ_run Cert.Reference6Ideal.defs _ _).mono (fun _ h c => ⟨(h c).1.trans ?_, (h c).2⟩)
    (Cert.Reference6Ideal.Value.run (F := Ideal) m' g')
  rw [(hagree c).1, (hagree c).2]
  exact (nt_host_eq none (M := 4352) (K := 2048) (N := 2048) _ (lhs m c) (rhs m c)).trans (final m c).symm

end Cert.Kernel6Ideal.Prod

end
-- ==== Proof.Prod.OutDw.lean ====
/-
  The gradient of w_o: the merged stream against the gradient of the output projection, over the rows.
-/
module

public import proofs.«01_k».proof.Defs
public import proofs.«01_k».proof.Proof.Gen.Kernel7
public import proofs.«01_k».proof.Proof.Gen.Kernel7Ideal.Value
public import proofs.«01_k».proof.Proof.Gen.Reference7Ideal.Run
public import proofs.«01_k».proof.Proof.Prod.Dots
public import Idealize.ShloMosaic.Lib.Pipeline.ValueKit.Geometry
public import Idealize.ShloMosaic.Lib.Pipeline.ValueKit.Acc
public import Idealize.ShloMosaic.Lib.StableHlo.Run
public import Idealize.ShloMosaic.Lib.Quiescent
public import Idealize.ShloMosaic.Lib.Pipeline.ReadBack

@[expose] public section

noncomputable section

namespace Cert.Kernel7Ideal.Prod

open Idealize.ShloMosaic
open Idealize.ShloMosaic.ValueIdx Idealize.ShloMosaic.TcCoe Idealize.SL.Sem
open Idealize.ShloMosaic.Pipeline (Dat)
open Cert.Kernel7Ideal Cert.Kernel7Ideal.Gen Cert.Prod
open scoped BigOperators

variable (m : (ℓ : Loc nD τ sig) → Buf (Elt Ideal) ℓ) (c : Dev nD)

/-- The arguments. -/
abbrev lhs : (Mx 4352 2048).Idx → EReal := m ((c.tc : Thread nD τ).loc main_arg0)
abbrev rhs : (Mx 4352 2048).Idx → EReal := m ((c.tc : Thread nD τ).loc main_arg1)

/-- The call reads them as given. -/
theorem V_lhs : (V m c main_v0 : (Mx 4352 2048).Idx → EReal) = lhs m c := by
  unfold V; after_results <;> rfl
theorem V_rhs : (V m c main_v1 : (Mx 4352 2048).Idx → EReal) = rhs m c := by
  unfold V; after_results <;> rfl

/-- The blocks of the three windows at a point. -/
theorem idx0 : ∀ t : Fin cfg0.N, win0_0.index t = ![0, t.val / 2] := (by decide +kernel : ∀ t : Fin grid0.N, _)
theorem idx1 : ∀ t : Fin cfg0.N, win0_1.index t = ![0, t.val % 2] := (by decide +kernel : ∀ t : Fin grid0.N, _)
theorem idx2 : ∀ t : Fin cfg0.N, win0_2.index t = ![t.val / 2, t.val % 2] := (by decide +kernel : ∀ t : Fin grid0.N, _)

/-- The product of a block of columns and a block of columns. -/
theorem pay_apply (x : Vec Ideal S4352x512 .bf16) (w : Vec Ideal S4352x1024 .bf16) (i : Fin 512) (j : Fin 1024) :
    k0_pay1 (F := Ideal) x w (ix2 i j) = ∑ k : Fin 4352, x (ix2 k i) * w (ix2 k j) :=
  tn_block none (M := 512) (K := 4352) (N := 1024) _ x w _ _ i j

/-- What the body leaves in its result's buffer. -/
theorem out_eq (x : Vec Ideal S4352x512 .bf16) (w : Vec Ideal S4352x1024 .bf16) : out0_2 (F := Ideal) x w = k0_pay1 (F := Ideal) x w := by
  frame_out

/-- The array after the call. -/
theorem final : (dats m 0 c).arrAt 2 cfg0.N
    = fun i : (Mx 2048 2048).Idx => ∑ k : Fin 4352, lhs m c (ix2 k (i 0)) * rhs m c (ix2 k (i 1)) := by
  refine (dats m 0 c).arrAt_eq_of_covers 2 _ (by decide +kernel) fun t hf y => ?_
  blk_simp
  rw [after0_2, out_eq]
  obtain ⟨i, j, rfl⟩ : ∃ (i : Fin 512) (j : Fin 1024), y = ix2 i j := ⟨_, _, eq_ix2 y⟩
  rw [pay_apply]
  refine sum_eq (fun k => ?_) (fun k => ?_)
  · rw [← V_lhs]
    blk_simp [iblk]
    refine congrArg _ (at2 ?_ ?_) <;> blk_simp [idx0, idx2]
  · rw [← V_rhs]
    blk_simp [iblk]
    refine congrArg _ (at2 ?_ ?_) <;> blk_simp [idx1, idx2]

/-! ## The claims -/

instance : Cert.Kernel7.Facts := Cert.Kernel7.Gen.facts
instance : Cert.Kernel7Ideal.Facts := Cert.Kernel7Ideal.Gen.facts
instance : Cert.Reference7Ideal.Facts := Cert.Reference7Ideal.Gen.facts

/-- The two printed texts give the same table of calls. -/
theorem defs_eq : Cert.Kernel7.defs (F := Bits) = Cert.Kernel7Ideal.defs (F := Bits) := by
  refine congrArg (Pipeline.defs (Cert.Kernel7Ideal.pcfgs (F := Bits))) ?_
  show Defs.onTc _ = Defs.onTc _
  refine congrArg Defs.onTc (funext fun l => ?_)
  match l with
  | 0 => funext x; obtain ⟨t, s⟩ := x; rfl

/-- The frames of the kernel: one run, at any floats. -/
theorem frame_kernel : Cert.quiescent_Kernel7 (hKernel7 := Cert.Kernel7.Gen.facts) := by
  intro m g _
  rw [defs_eq]
  exact Cert.Kernel7Ideal.Gen.frame (F := Bits) m g

theorem frame_kernelIdeal : Cert.quiescent_Kernel7Ideal (hKernel7Ideal := Cert.Kernel7Ideal.Gen.facts) := fun m g _ =>
  Cert.Kernel7Ideal.Gen.frame (F := Ideal) m g

/-- The frame of the reference. -/
theorem frame_reference : Cert.quiescent_Reference7Ideal (hReference7Ideal := Cert.Reference7Ideal.Gen.facts) := fun m g _ =>
  (θ_run Cert.Reference7Ideal.defs _ _).mono (fun r h => ⟨fun c => (h c).2, sem_eq_zero_of_no_sems (by decide) r.2⟩)
    (Cert.Reference7Ideal.Value.run (F := Ideal) m g)

theorem algebraic : Cert.algebraic_Kernel7Ideal_Reference7Ideal (hKernel7Ideal := Cert.Kernel7Ideal.Gen.facts)
    (hReference7Ideal := Cert.Reference7Ideal.Gen.facts) := by
  intro m g m' g' _ hagree
  refine ⟨fun c => (dats m 0 c).arrAt 2 cfg0.N, Cert.Kernel7Ideal.Value.run_blocks m g, ?_⟩
  refine (θ_run Cert.Reference7Ideal.defs _ _).mono (fun _ h c => ⟨(h c).1.trans ?_, (h c).2⟩)
    (Cert.Reference7Ideal.Value.run (F := Ideal) m' g')
  rw [(hagree c).1, (hagree c).2]
  exact (tn_host_transposed none (M := 2048) (K := 4352) (N := 2048) _ (lhs m c) (rhs m c) _).trans (final m c).symm

end Cert.Kernel7Ideal.Prod

end
-- ==== Proof.Prod.Pads.lean ====
/-
  A block of columns, or of rows, of a matrix that is zero elsewhere: the piece read at an index, and four neighbouring pieces
  added up.
-/
module

public import proofs.«01_k».proof.Proof.Prod.Dots
public import Idealize.ShloMosaic.Lib.KernelVsHost

@[expose] public section

noncomputable section

namespace Cert.Prod

open Idealize.ShloMosaic
open Idealize.ShloMosaic.ValueIdx

section
variable {α : Type} {a n w lo hi : ℕ}

/-- A piece of columns put at column `lo`. -/
theorem pad_cols (x : (Mx a w).Idx → α) {u : Shape} (v : u.Idx → α) (h : (Mx a w).Pads ![0, lo] ![0, hi] ![0, 0] (Mx a n))
    (hu : 0 < u.numel) (i : Fin a) (j : Fin n) :
    pad (Mx a n) ![0, lo] ![0, hi] ![0, 0] x v h hu (ix2 i j)
      = if hj : lo ≤ j.val ∧ j.val < lo + w then x (ix2 i ⟨j.val - lo, by omega⟩) else v (Shape.Idx.first hu) := by
  split
  · next hj =>
    refine pad_apply_of_inside _ _ _ x v h hu _ _ fun b => ?_
    match b with
    | ⟨0, _⟩ => show i.val = 0 + i.val * (0 + 1); omega
    | ⟨1, _⟩ => show j.val = lo + (j.val - lo) * (0 + 1); omega
  · next hj =>
    refine pad_apply_of_not_inside _ _ _ x v h hu _ (1 : Fin 2) ?_
    show ¬(lo ≤ j.val ∧ (j.val - lo) % (0 + 1) = 0 ∧ (j.val - lo) / (0 + 1) < w)
    omega

/-- A piece of rows put at row `lo`. -/
theorem pad_rows (x : (Mx w a).Idx → α) {u : Shape} (v : u.Idx → α) (h : (Mx w a).Pads ![lo, 0] ![hi, 0] ![0, 0] (Mx n a))
    (hu : 0 < u.numel) (j : Fin n) (i : Fin a) :
    pad (Mx n a) ![lo, 0] ![hi, 0] ![0, 0] x v h hu (ix2 j i)
      = if hj : lo ≤ j.val ∧ j.val < lo + w then x (ix2 ⟨j.val - lo, by omega⟩ i) else v (Shape.Idx.first hu) := by
  split
  · next hj =>
    refine pad_apply_of_inside _ _ _ x v h hu _ _ fun b => ?_
    match b with
    | ⟨0, _⟩ => show j.val = lo + (j.val - lo) * (0 + 1); omega
    | ⟨1, _⟩ => show i.val = 0 + i.val * (0 + 1); omega
  · next hj =>
    refine pad_apply_of_not_inside _ _ _ x v h hu _ (0 : Fin 2) ?_
    show ¬(lo ≤ j.val ∧ (j.val - lo) % (0 + 1) = 0 ∧ (j.val - lo) / (0 + 1) < w)
    omega

end

/-- Of four neighbouring parts of equal width, zero elsewhere, one is there at each place. -/
theorem four_parts (w j : ℕ) (hj : j < 4 * w) (g : EReal) :
    (((if 3 * w ≤ j ∧ j < 3 * w + w then g else 0) + (if 2 * w ≤ j ∧ j < 2 * w + w then g else 0))
      + (if w ≤ j ∧ j < w + w then g else 0)) + (if 0 ≤ j ∧ j < 0 + w then g else 0) = g := by
  rcases (by omega : j < w ∨ w ≤ j ∧ j < 2 * w ∨ 2 * w ≤ j ∧ j < 3 * w ∨ 3 * w ≤ j) with h | h | h | h
  · rw [if_neg (by omega), if_neg (by omega), if_neg (by omega), if_pos (by omega)]
    simp only [zero_add]
  · rw [if_neg (by omega), if_neg (by omega), if_pos (by omega), if_neg (by omega)]
    simp only [zero_add, add_zero]
  · rw [if_neg (by omega), if_pos (by omega), if_neg (by omega), if_neg (by omega)]
    simp only [zero_add, add_zero]
  · rw [if_pos (by omega), if_neg (by omega), if_neg (by omega), if_neg (by omega)]
    simp only [add_zero]

/-- Of four neighbouring pieces of width 512, zero elsewhere, one is there at each place. -/
theorem four_pieces (j : ℕ) (hj : j < 2048) (g : EReal) :
    (((if 1536 ≤ j ∧ j < 1536 + 512 then g else 0) + (if 1024 ≤ j ∧ j < 1024 + 512 then g else 0))
      + (if 512 ≤ j ∧ j < 512 + 512 then g else 0)) + (if 0 ≤ j ∧ j < 0 + 512 then g else 0) = g :=
  four_parts 512 j hj g

end Cert.Prod

end
-- ==== Proof.Prod.BranchDx.lean ====
/-
  The gradient of the gated branches: each block of 512 columns is a branch's gradient times its rows of w_br, transposed.
-/
module

public import proofs.«01_k».proof.Defs
public import proofs.«01_k».proof.Proof.Gen.Kernel8
public import proofs.«01_k».proof.Proof.Gen.Kernel8Ideal.Value
public import proofs.«01_k».proof.Proof.Gen.Reference8Ideal.Run
public import proofs.«01_k».proof.Proof.Prod.Pads
public import Idealize.ShloMosaic.Lib.Pipeline.ValueKit.Geometry
public import Idealize.ShloMosaic.Lib.Pipeline.ValueKit.Acc
public import Idealize.ShloMosaic.Lib.StableHlo.Run
public import Idealize.ShloMosaic.Lib.Quiescent
public import Idealize.ShloMosaic.Lib.Pipeline.ReadBack

@[expose] public section

noncomputable section

namespace Cert.Kernel8Ideal.Prod

open Idealize.ShloMosaic
open Idealize.ShloMosaic.ValueIdx Idealize.ShloMosaic.TcCoe Idealize.SL.Sem
open Idealize.ShloMosaic.Pipeline (Dat)
open Cert.Kernel8Ideal Cert.Kernel8Ideal.Gen Cert.Prod
open scoped BigOperators

variable (m : (ℓ : Loc nD τ sig) → Buf (Elt Ideal) ℓ) (c : Dev nD)

/-- The arguments. -/
abbrev lhs : (Mx 4352 8192).Idx → EReal := m ((c.tc : Thread nD τ).loc main_arg0)
abbrev rhs : (Mx 2048 2048).Idx → EReal := m ((c.tc : Thread nD τ).loc main_arg1)

/-- The call reads them as given. -/
theorem V_lhs : (V m c main_v0 : (Mx 4352 8192).Idx → EReal) = lhs m c := by
  unfold V; after_results <;> rfl
theorem V_rhs : (V m c main_v1 : (Mx 2048 2048).Idx → EReal) = rhs m c := by
  unfold V; after_results <;> rfl

/-- The blocks of the three windows at a point. -/
theorem idx0 : ∀ t : Fin cfg0.N, win0_0.index t = ![t.val / 4, t.val % 4] := (by decide +kernel : ∀ t : Fin grid0.N, _)
theorem idx1 : ∀ t : Fin cfg0.N, win0_1.index t = ![t.val % 4, 0] := (by decide +kernel : ∀ t : Fin grid0.N, _)
theorem idx2 : ∀ t : Fin cfg0.N, win0_2.index t = ![t.val / 4, t.val % 4] := (by decide +kernel : ∀ t : Fin grid0.N, _)

/-- The product of a block of rows and a block of rows. -/
theorem pay_apply (x : Vec Ideal S544x2048 .bf16) (w : Vec Ideal S512x2048 .bf16) (i : Fin 544) (j : Fin 512) :
    k0_pay1 (F := Ideal) x w (ix2 i j) = ∑ k : Fin 2048, x (ix2 i k) * w (ix2 j k) :=
  nt_block none (M := 544) (K := 2048) (N := 512) _ x w _ _ i j

/-- What the body leaves in its result's buffer. -/
theorem out_eq (x : Vec Ideal S544x2048 .bf16) (w : Vec Ideal S512x2048 .bf16) : out0_2 (F := Ideal) x w = k0_pay1 (F := Ideal) x w := by
  frame_out

/-- Column `k` of the part of the gradients that belongs to the branch of channel `j`. -/
abbrev of (j : Fin 2048) (k : Fin 2048) : Fin 8192 := ⟨j.val / 512 * 2048 + k.val, by have := j.isLt; have := k.isLt; omega⟩

/-- The array after the call. -/
theorem final : (dats m 0 c).arrAt 2 cfg0.N
    = fun i : (Mx 4352 2048).Idx => ∑ k : Fin 2048, lhs m c (ix2 (i 0) (of (i 1) k)) * rhs m c (ix2 (i 1) k) := by
  refine (dats m 0 c).arrAt_eq_of_covers 2 _ (by decide +kernel) fun t hf y => ?_
  blk_simp
  rw [after0_2, out_eq]
  obtain ⟨i, j, rfl⟩ : ∃ (i : Fin 544) (j : Fin 512), y = ix2 i j := ⟨_, _, eq_ix2 y⟩
  rw [pay_apply]
  have hN : t.val < 32 := t.isLt
  have hj := j.isLt
  have h1 : (((win0_2.blk t).view.emb (ix2 i j) 1 : Fin 2048) : ℕ) = t.val % 4 * 512 + j.val := by blk_simp [idx2]; rfl
  refine sum_eq (fun k => ?_) (fun k => ?_)
  · rw [← V_lhs]
    blk_simp [iblk]
    refine congrArg _ (at2 ?_ ?_)
    · blk_simp [idx0, idx2]
    · refine Eq.trans (b := t.val % 4 * 2048 + k.val) (by blk_simp [idx0]) ?_
      show _ = ((win0_2.blk t).view.emb (ix2 i j) 1 : Fin 2048).val / 512 * 2048 + k.val
      rw [h1]; omega
  · rw [← V_rhs]
    blk_simp [iblk]
    refine congrArg _ (at2 ?_ ?_) <;> blk_simp [idx1, idx2]

/-! ## The claims -/

instance : Cert.Kernel8.Facts := Cert.Kernel8.Gen.facts
instance : Cert.Kernel8Ideal.Facts := Cert.Kernel8Ideal.Gen.facts
instance : Cert.Reference8Ideal.Facts := Cert.Reference8Ideal.Gen.facts

/-- The two printed texts give the same table of calls. -/
theorem defs_eq : Cert.Kernel8.defs (F := Bits) = Cert.Kernel8Ideal.defs (F := Bits) := by
  refine congrArg (Pipeline.defs (Cert.Kernel8Ideal.pcfgs (F := Bits))) ?_
  show Defs.onTc _ = Defs.onTc _
  refine congrArg Defs.onTc (funext fun l => ?_)
  match l with
  | 0 => funext x; obtain ⟨t, s⟩ := x; rfl

/-- The frames of the kernel: one run, at any floats. -/
theorem frame_kernel : Cert.quiescent_Kernel8 (hKernel8 := Cert.Kernel8.Gen.facts) := by
  intro m g _
  rw [defs_eq]
  exact Cert.Kernel8Ideal.Gen.frame (F := Bits) m g

theorem frame_kernelIdeal : Cert.quiescent_Kernel8Ideal (hKernel8Ideal := Cert.Kernel8Ideal.Gen.facts) := fun m g _ =>
  Cert.Kernel8Ideal.Gen.frame (F := Ideal) m g

/-- The frame of the reference. -/
theorem frame_reference : Cert.quiescent_Reference8Ideal (hReference8Ideal := Cert.Reference8Ideal.Gen.facts) := fun m g _ =>
  (θ_run Cert.Reference8Ideal.defs _ _).mono (fun r h => ⟨fun c => (h c).2, sem_eq_zero_of_no_sems (by decide) r.2⟩)
    (Cert.Reference8Ideal.Value.run (F := Ideal) m g)

/-- A branch's part of the reference: the product of its columns of the gradients with its rows of the weight. -/
theorem piece (q : ℕ) {lo hi off : ℕ} (hlo : lo = 512 * q) (hoff : off = 2048 * q) (x : FVec Ideal (Mx 4352 8192) .f32)
    (w : FVec Ideal (Mx 2048 2048) .f32) (wf) (hs : (Mx 4352 8192).Slices ![0, off] (Mx 4352 2048))
    (hs' : (Mx 2048 2048).Slices ![lo, 0] (Mx 512 2048)) (hp : (Mx 4352 512).Pads ![0, lo] ![0, hi] ![0, 0] (Mx 4352 2048))
    {u : Shape} (hu : 0 < u.numel) (i : Fin 4352) (j : Fin 2048) :
    pad (Mx 4352 2048) ![0, lo] ![0, hi] ![0, 0] (Host.dotGeneral (F := Ideal) (nt 4352 2048 512 wf) none
        (extractStridedSlice (Mx 4352 2048) ![0, off] x hs) (extractStridedSlice (Mx 512 2048) ![lo, 0] w hs'))
        (constant (F := Ideal) u .f32 (0x00000000#32 : BitVec 32)) hp hu (ix2 i j)
      = if lo ≤ j.val ∧ j.val < lo + 512 then (∑ k : Fin 2048, x (ix2 i (of j k)) * w (ix2 j k) : EReal) else 0 := by
  rw [pad_cols]
  by_cases hj : lo ≤ j.val ∧ j.val < lo + 512
  · rw [dif_pos hj, if_pos hj, nt_host]
    refine sum_eq (fun k => ?_) (fun k => ?_)
    · exact slice2_axis1_apply off x hs i k (of j k) (by show j.val / 512 * 2048 + k.val = off + k.val; omega)
    · exact slice2_axis0_apply lo w hs' _ k j (by show j.val = lo + (j.val - lo); omega)
  · rw [dif_neg hj, if_neg hj]; exact zero_word _ _

theorem algebraic : Cert.algebraic_Kernel8Ideal_Reference8Ideal (hKernel8Ideal := Cert.Kernel8Ideal.Gen.facts)
    (hReference8Ideal := Cert.Reference8Ideal.Gen.facts) := by
  intro m g m' g' _ hagree
  refine ⟨fun c => (dats m 0 c).arrAt 2 cfg0.N, Cert.Kernel8Ideal.Value.run_blocks m g, ?_⟩
  refine (θ_run Cert.Reference8Ideal.defs _ _).mono (fun _ h c => ⟨(h c).1.trans ?_, (h c).2⟩)
    (Cert.Reference8Ideal.Value.run (F := Ideal) m' g')
  rw [(hagree c).1, (hagree c).2]
  refine Eq.trans (funext fun y => ?_) (final m c).symm
  obtain ⟨i, j, rfl⟩ : ∃ (i : Fin 4352) (j : Fin 2048), y = ix2 i j := ⟨_, _, eq_ix2 y⟩
  refine Eq.trans ?_ (four_pieces j.val j.isLt _)
  exact congrArg₂ (· + ·) (congrArg₂ (· + ·) (congrArg₂ (· + ·) (piece 3 rfl rfl (lhs m c) (rhs m c) _ _ _ _ _ i j)
    (piece 2 rfl rfl (lhs m c) (rhs m c) _ _ _ _ _ i j)) (piece 1 rfl rfl (lhs m c) (rhs m c) _ _ _ _ _ i j))
    (piece 0 rfl rfl (lhs m c) (rhs m c) _ _ _ _ _ i j)

end Cert.Kernel8Ideal.Prod

end
-- ==== Proof.Prod.BranchDw.lean ====
/-
  The gradient of w_br: a branch's gated columns against its part of the gradients, over the rows.
-/
module

public import proofs.«01_k».proof.Defs
public import proofs.«01_k».proof.Proof.Gen.Kernel9
public import proofs.«01_k».proof.Proof.Gen.Kernel9Ideal.Value
public import proofs.«01_k».proof.Proof.Gen.Reference9Ideal.Run
public import proofs.«01_k».proof.Proof.Prod.Pads
public import Idealize.ShloMosaic.Lib.Pipeline.ValueKit.Geometry
public import Idealize.ShloMosaic.Lib.Pipeline.ValueKit.Acc
public import Idealize.ShloMosaic.Lib.StableHlo.Run
public import Idealize.ShloMosaic.Lib.Quiescent
public import Idealize.ShloMosaic.Lib.Pipeline.ReadBack

@[expose] public section

noncomputable section

namespace Cert.Kernel9Ideal.Prod

open Idealize.ShloMosaic
open Idealize.ShloMosaic.ValueIdx Idealize.ShloMosaic.TcCoe Idealize.SL.Sem
open Idealize.ShloMosaic.Pipeline (Dat)
open Cert.Kernel9Ideal Cert.Kernel9Ideal.Gen Cert.Prod
open scoped BigOperators

variable (m : (ℓ : Loc nD τ sig) → Buf (Elt Ideal) ℓ) (c : Dev nD)

/-- The arguments. -/
abbrev lhs : (Mx 4352 2048).Idx → EReal := m ((c.tc : Thread nD τ).loc main_arg0)
abbrev rhs : (Mx 4352 8192).Idx → EReal := m ((c.tc : Thread nD τ).loc main_arg1)

/-- The call reads them as given. -/
theorem V_lhs : (V m c main_v0 : (Mx 4352 2048).Idx → EReal) = lhs m c := by
  unfold V; after_results <;> rfl
theorem V_rhs : (V m c main_v1 : (Mx 4352 8192).Idx → EReal) = rhs m c := by
  unfold V; after_results <;> rfl

/-- The blocks of the three windows at a point. -/
theorem idx0 : ∀ t : Fin cfg0.N, win0_0.index t = ![0, t.val / 2] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![t.val / 2, t.val % 2] := (by decide +kernel : ∀ t : Fin grid0.N, _)

/-- The product of a block of columns and a block of columns. -/
theorem pay_apply (x : Vec Ideal S4352x512 .bf16) (w : Vec Ideal S4352x1024 .bf16) (i : Fin 512) (j : Fin 1024) :
    k0_pay1 (F := Ideal) x w (ix2 i j) = ∑ k : Fin 4352, x (ix2 k i) * w (ix2 k j) :=
  tn_block none (M := 512) (K := 4352) (N := 1024) _ x w _ _ i j

/-- What the body leaves in its result's buffer. -/
theorem out_eq (x : Vec Ideal S4352x512 .bf16) (w : Vec Ideal S4352x1024 .bf16) : out0_2 (F := Ideal) x w = k0_pay1 (F := Ideal) x w := by
  frame_out

/-- Column `k` of the part of the gradients that belongs to the branch of channel `j`. -/
abbrev of (j : Fin 2048) (k : Fin 2048) : Fin 8192 := ⟨j.val / 512 * 2048 + k.val, by have := j.isLt; have := k.isLt; omega⟩

/-- The array after the call. -/
theorem final : (dats m 0 c).arrAt 2 cfg0.N
    = fun i : (Mx 2048 2048).Idx => ∑ k : Fin 4352, lhs m c (ix2 k (i 0)) * rhs m c (ix2 k (of (i 0) (i 1))) := by
  refine (dats m 0 c).arrAt_eq_of_covers 2 _ (by decide +kernel) fun t hf y => ?_
  blk_simp
  rw [after0_2, out_eq]
  obtain ⟨i, j, rfl⟩ : ∃ (i : Fin 512) (j : Fin 1024), y = ix2 i j := ⟨_, _, eq_ix2 y⟩
  rw [pay_apply]
  have hN : t.val < 8 := t.isLt
  have hi := i.isLt
  have hj := j.isLt
  have h0 : (((win0_2.blk t).view.emb (ix2 i j) 0 : Fin 2048) : ℕ) = t.val / 2 * 512 + i.val := by blk_simp [idx2]; rfl
  have h1 : (((win0_2.blk t).view.emb (ix2 i j) 1 : Fin 2048) : ℕ) = t.val % 2 * 1024 + j.val := by blk_simp [idx2]; rfl
  refine sum_eq (fun k => ?_) (fun k => ?_)
  · rw [← V_lhs]
    blk_simp [iblk]
    refine congrArg _ (at2 ?_ ?_) <;> blk_simp [idx0, idx2]
  · rw [← V_rhs]
    blk_simp [iblk]
    refine congrArg _ (at2 ?_ ?_)
    · blk_simp [idx1]
    · refine Eq.trans (b := t.val * 1024 + j.val) (by blk_simp [idx1]) ?_
      show _ = ((win0_2.blk t).view.emb (ix2 i j) 0 : Fin 2048).val / 512 * 2048 + ((win0_2.blk t).view.emb (ix2 i j) 1 : Fin 2048).val
      rw [h0, h1]; omega

/-! ## The claims -/

instance : Cert.Kernel9.Facts := Cert.Kernel9.Gen.facts
instance : Cert.Kernel9Ideal.Facts := Cert.Kernel9Ideal.Gen.facts
instance : Cert.Reference9Ideal.Facts := Cert.Reference9Ideal.Gen.facts

/-- The two printed texts give the same table of calls. -/
theorem defs_eq : Cert.Kernel9.defs (F := Bits) = Cert.Kernel9Ideal.defs (F := Bits) := by
  refine congrArg (Pipeline.defs (Cert.Kernel9Ideal.pcfgs (F := Bits))) ?_
  show Defs.onTc _ = Defs.onTc _
  refine congrArg Defs.onTc (funext fun l => ?_)
  match l with
  | 0 => funext x; obtain ⟨t, s⟩ := x; rfl

/-- The frames of the kernel: one run, at any floats. -/
theorem frame_kernel : Cert.quiescent_Kernel9 (hKernel9 := Cert.Kernel9.Gen.facts) := by
  intro m g _
  rw [defs_eq]
  exact Cert.Kernel9Ideal.Gen.frame (F := Bits) m g

theorem frame_kernelIdeal : Cert.quiescent_Kernel9Ideal (hKernel9Ideal := Cert.Kernel9Ideal.Gen.facts) := fun m g _ =>
  Cert.Kernel9Ideal.Gen.frame (F := Ideal) m g

/-- The frame of the reference. -/
theorem frame_reference : Cert.quiescent_Reference9Ideal (hReference9Ideal := Cert.Reference9Ideal.Gen.facts) := fun m g _ =>
  (θ_run Cert.Reference9Ideal.defs _ _).mono (fun r h => ⟨fun c => (h c).2, sem_eq_zero_of_no_sems (by decide) r.2⟩)
    (Cert.Reference9Ideal.Value.run (F := Ideal) m g)

/-- A branch's part of the reference: the product of its columns with its part of the gradients. -/
theorem piece (q : ℕ) {lo hi off : ℕ} (hlo : lo = 512 * q) (hoff : off = 2048 * q) (x : FVec Ideal (Mx 4352 2048) .f32)
    (w : FVec Ideal (Mx 4352 8192) .f32) (wf) (hs : (Mx 4352 8192).Slices ![0, off] (Mx 4352 2048))
    (hs' : (Mx 4352 2048).Slices ![0, lo] (Mx 4352 512)) (ht : (Mx 2048 512).Transposes [1, 0] (Mx 512 2048))
    (hp : (Mx 512 2048).Pads ![lo, 0] ![hi, 0] ![0, 0] (Mx 2048 2048)) {u : Shape} (hu : 0 < u.numel) (j : Fin 2048) (i : Fin 2048) :
    pad (Mx 2048 2048) ![lo, 0] ![hi, 0] ![0, 0] (transpose (Mx 512 2048) [1, 0] (Host.dotGeneral (F := Ideal) (tn 2048 4352 512 wf) none
        (extractStridedSlice (Mx 4352 2048) ![0, off] w hs) (extractStridedSlice (Mx 4352 512) ![0, lo] x hs')) ht)
        (constant (F := Ideal) u .f32 (0x00000000#32 : BitVec 32)) hp hu (ix2 j i)
      = if lo ≤ j.val ∧ j.val < lo + 512 then (∑ k : Fin 4352, x (ix2 k j) * w (ix2 k (of j i)) : EReal) else 0 := by
  rw [pad_rows]
  by_cases hj : lo ≤ j.val ∧ j.val < lo + 512
  · rw [dif_pos hj, if_pos hj, tn_host_transposed]
    refine sum_eq (fun k => ?_) (fun k => ?_)
    · exact slice2_axis1_apply lo x hs' k _ j (by show j.val = lo + (j.val - lo); omega)
    · exact slice2_axis1_apply off w hs k i (of j i) (by show j.val / 512 * 2048 + i.val = off + i.val; omega)
  · rw [dif_neg hj, if_neg hj]; exact zero_word _ _

theorem algebraic : Cert.algebraic_Kernel9Ideal_Reference9Ideal (hKernel9Ideal := Cert.Kernel9Ideal.Gen.facts)
    (hReference9Ideal := Cert.Reference9Ideal.Gen.facts) := by
  intro m g m' g' _ hagree
  refine ⟨fun c => (dats m 0 c).arrAt 2 cfg0.N, Cert.Kernel9Ideal.Value.run_blocks m g, ?_⟩
  refine (θ_run Cert.Reference9Ideal.defs _ _).mono (fun _ h c => ⟨(h c).1.trans ?_, (h c).2⟩)
    (Cert.Reference9Ideal.Value.run (F := Ideal) m' g')
  rw [(hagree c).1, (hagree c).2]
  refine Eq.trans (funext fun y => ?_) (final m c).symm
  obtain ⟨j, i, rfl⟩ : ∃ (j : Fin 2048) (i : Fin 2048), y = ix2 j i := ⟨_, _, eq_ix2 y⟩
  refine Eq.trans ?_ (four_pieces j.val j.isLt _)
  exact congrArg₂ (· + ·) (congrArg₂ (· + ·) (congrArg₂ (· + ·) (piece 3 rfl rfl (lhs m c) (rhs m c) _ _ _ _ _ _ j i)
    (piece 2 rfl rfl (lhs m c) (rhs m c) _ _ _ _ _ _ j i)) (piece 1 rfl rfl (lhs m c) (rhs m c) _ _ _ _ _ _ j i))
    (piece 0 rfl rfl (lhs m c) (rhs m c) _ _ _ _ _ _ j i)

end Cert.Kernel9Ideal.Prod

end
-- ==== Proof.Prod.Glu.lean ====
/-
  The product of the state-space branch with the weight of its gated linear unit.
-/
module

public import proofs.«01_k».proof.Defs
public import proofs.«01_k».proof.Proof.Gen.Kernel10
public import proofs.«01_k».proof.Proof.Gen.Kernel10Ideal.Value
public import proofs.«01_k».proof.Proof.Gen.Reference10Ideal.Run
public import proofs.«01_k».proof.Proof.Prod.Dots
public import Idealize.ShloMosaic.Lib.Pipeline.ValueKit.Geometry
public import Idealize.ShloMosaic.Lib.Pipeline.ValueKit.Acc
public import Idealize.ShloMosaic.Lib.StableHlo.Run
public import Idealize.ShloMosaic.Lib.Quiescent
public import Idealize.ShloMosaic.Lib.Pipeline.ReadBack

@[expose] public section

noncomputable section

namespace Cert.Kernel10Ideal.Prod

open Idealize.ShloMosaic
open Idealize.ShloMosaic.ValueIdx Idealize.ShloMosaic.TcCoe Idealize.SL.Sem
open Idealize.ShloMosaic.Pipeline (Dat)
open Cert.Kernel10Ideal Cert.Kernel10Ideal.Gen Cert.Prod
open scoped BigOperators

variable (m : (ℓ : Loc nD τ sig) → Buf (Elt Ideal) ℓ) (c : Dev nD)

/-- The arguments. -/
abbrev lhs : (Mx 4352 512).Idx → EReal := m ((c.tc : Thread nD τ).loc main_arg0)
abbrev rhs : (Mx 512 1024).Idx → EReal := m ((c.tc : Thread nD τ).loc main_arg1)

/-- The call reads them as given. -/
theorem V_lhs : (V m c main_v0 : (Mx 4352 512).Idx → EReal) = lhs m c := by
  unfold V; after_results <;> rfl
theorem V_rhs : (V m c main_v1 : (Mx 512 1024).Idx → EReal) = rhs m c := by
  unfold V; after_results <;> rfl

/-- The blocks of the three windows at a point. -/
theorem idx0 : ∀ t : Fin cfg0.N, win0_0.index t = ![t.val / 2, 0] := (by decide +kernel : ∀ t : Fin grid0.N, _)
theorem idx1 : ∀ t : Fin cfg0.N, win0_1.index t = ![0, t.val % 2] := (by decide +kernel : ∀ t : Fin grid0.N, _)
theorem idx2 : ∀ t : Fin cfg0.N, win0_2.index t = ![t.val / 2, t.val % 2] := (by decide +kernel : ∀ t : Fin grid0.N, _)

/-- The product of a block of rows and a block of columns. -/
theorem pay_apply (x : Vec Ideal S544x512 .bf16) (w : Vec Ideal S512x512 .bf16) (i : Fin 544) (j : Fin 512) :
    k0_pay1 (F := Ideal) x w (ix2 i j) = ∑ k : Fin 512, x (ix2 i k) * w (ix2 k j) :=
  nn_block none (M := 544) (K := 512) (N := 512) _ x w _ _ i j

/-- What the body leaves in its result's buffer. -/
theorem out_eq (x : Vec Ideal S544x512 .bf16) (w : Vec Ideal S512x512 .bf16) : out0_2 (F := Ideal) x w = k0_pay1 (F := Ideal) x w := by
  frame_out

/-- The array after the call. -/
theorem final : (dats m 0 c).arrAt 2 cfg0.N
    = fun i : (Mx 4352 1024).Idx => ∑ k : Fin 512, lhs m c (ix2 (i 0) k) * rhs m c (ix2 k (i 1)) := by
  refine (dats m 0 c).arrAt_eq_of_covers 2 _ (by decide +kernel) fun t hf y => ?_
  blk_simp
  rw [after0_2, out_eq]
  obtain ⟨i, j, rfl⟩ : ∃ (i : Fin 544) (j : Fin 512), y = ix2 i j := ⟨_, _, eq_ix2 y⟩
  rw [pay_apply]
  refine sum_eq (fun k => ?_) (fun k => ?_)
  · rw [← V_lhs]
    blk_simp [iblk]
    refine congrArg _ (at2 ?_ ?_) <;> blk_simp [idx0, idx2]
  · rw [← V_rhs]
    blk_simp [iblk]
    refine congrArg _ (at2 ?_ ?_) <;> blk_simp [idx1, idx2]

/-! ## The claims -/

instance : Cert.Kernel10.Facts := Cert.Kernel10.Gen.facts
instance : Cert.Kernel10Ideal.Facts := Cert.Kernel10Ideal.Gen.facts
instance : Cert.Reference10Ideal.Facts := Cert.Reference10Ideal.Gen.facts

/-- The two printed texts give the same table of calls. -/
theorem defs_eq : Cert.Kernel10.defs (F := Bits) = Cert.Kernel10Ideal.defs (F := Bits) := by
  refine congrArg (Pipeline.defs (Cert.Kernel10Ideal.pcfgs (F := Bits))) ?_
  show Defs.onTc _ = Defs.onTc _
  refine congrArg Defs.onTc (funext fun l => ?_)
  match l with
  | 0 => funext x; obtain ⟨t, s⟩ := x; rfl

/-- The frames of the kernel: one run, at any floats. -/
theorem frame_kernel : Cert.quiescent_Kernel10 (hKernel10 := Cert.Kernel10.Gen.facts) := by
  intro m g _
  rw [defs_eq]
  exact Cert.Kernel10Ideal.Gen.frame (F := Bits) m g

theorem frame_kernelIdeal : Cert.quiescent_Kernel10Ideal (hKernel10Ideal := Cert.Kernel10Ideal.Gen.facts) := fun m g _ =>
  Cert.Kernel10Ideal.Gen.frame (F := Ideal) m g

/-- The frame of the reference. -/
theorem frame_reference : Cert.quiescent_Reference10Ideal (hReference10Ideal := Cert.Reference10Ideal.Gen.facts) := fun m g _ =>
  (θ_run Cert.Reference10Ideal.defs _ _).mono (fun r h => ⟨fun c => (h c).2, sem_eq_zero_of_no_sems (by decide) r.2⟩)
    (Cert.Reference10Ideal.Value.run (F := Ideal) m g)

theorem algebraic : Cert.algebraic_Kernel10Ideal_Reference10Ideal (hKernel10Ideal := Cert.Kernel10Ideal.Gen.facts)
    (hReference10Ideal := Cert.Reference10Ideal.Gen.facts) := by
  intro m g m' g' _ hagree
  refine ⟨fun c => (dats m 0 c).arrAt 2 cfg0.N, Cert.Kernel10Ideal.Value.run_blocks m g, ?_⟩
  refine (θ_run Cert.Reference10Ideal.defs _ _).mono (fun _ h c => ⟨(h c).1.trans ?_, (h c).2⟩)
    (Cert.Reference10Ideal.Value.run (F := Ideal) m' g')
  rw [(hagree c).1, (hagree c).2]
  exact (nn_host_eq none (M := 4352) (K := 512) (N := 1024) _ (lhs m c) (rhs m c)).trans (final m c).symm

end Cert.Kernel10Ideal.Prod

end
-- ==== Proof.Prod.GluDx.lean ====
/-
  The gradient of that product by its left factor.
-/
module

public import proofs.«01_k».proof.Defs
public import proofs.«01_k».proof.Proof.Gen.Kernel11
public import proofs.«01_k».proof.Proof.Gen.Kernel11Ideal.Value
public import proofs.«01_k».proof.Proof.Gen.Reference11Ideal.Run
public import proofs.«01_k».proof.Proof.Prod.Dots
public import Idealize.ShloMosaic.Lib.Pipeline.ValueKit.Geometry
public import Idealize.ShloMosaic.Lib.Pipeline.ValueKit.Acc
public import Idealize.ShloMosaic.Lib.StableHlo.Run
public import Idealize.ShloMosaic.Lib.Quiescent
public import Idealize.ShloMosaic.Lib.Pipeline.ReadBack

@[expose] public section

noncomputable section

namespace Cert.Kernel11Ideal.Prod

open Idealize.ShloMosaic
open Idealize.ShloMosaic.ValueIdx Idealize.ShloMosaic.TcCoe Idealize.SL.Sem
open Idealize.ShloMosaic.Pipeline (Dat)
open Cert.Kernel11Ideal Cert.Kernel11Ideal.Gen Cert.Prod
open scoped BigOperators

variable (m : (ℓ : Loc nD τ sig) → Buf (Elt Ideal) ℓ) (c : Dev nD)

/-- The arguments. -/
abbrev lhs : (Mx 4352 1024).Idx → EReal := m ((c.tc : Thread nD τ).loc main_arg0)
abbrev rhs : (Mx 512 1024).Idx → EReal := m ((c.tc : Thread nD τ).loc main_arg1)

/-- The call reads them as given. -/
theorem V_lhs : (V m c main_v0 : (Mx 4352 1024).Idx → EReal) = lhs m c := by
  unfold V; after_results <;> rfl
theorem V_rhs : (V m c main_v1 : (Mx 512 1024).Idx → EReal) = rhs m c := by
  unfold V; after_results <;> rfl

/-- The blocks of the three windows at a point. -/
theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

/-- The product of a block of rows and a block of rows. -/
theorem pay_apply (x : Vec Ideal S544x1024 .bf16) (w : Vec Ideal S512x1024 .bf16) (i : Fin 544) (j : Fin 512) :
    k0_pay1 (F := Ideal) x w (ix2 i j) = ∑ k : Fin 1024, x (ix2 i k) * w (ix2 j k) :=
  nt_block none (M := 544) (K := 1024) (N := 512) _ x w _ _ i j

/-- What the body leaves in its result's buffer. -/
theorem out_eq (x : Vec Ideal S544x1024 .bf16) (w : Vec Ideal S512x1024 .bf16) : out0_2 (F := Ideal) x w = k0_pay1 (F := Ideal) x w := by
  frame_out

/-- The array after the call. -/
theorem final : (dats m 0 c).arrAt 2 cfg0.N
    = fun i : (Mx 4352 512).Idx => ∑ k : Fin 1024, lhs m c (ix2 (i 0) k) * rhs m c (ix2 (i 1) k) := by
  refine (dats m 0 c).arrAt_eq_of_covers 2 _ (by decide +kernel) fun t hf y => ?_
  blk_simp
  rw [after0_2, out_eq]
  obtain ⟨i, j, rfl⟩ : ∃ (i : Fin 544) (j : Fin 512), y = ix2 i j := ⟨_, _, eq_ix2 y⟩
  rw [pay_apply]
  refine sum_eq (fun k => ?_) (fun k => ?_)
  · rw [← V_lhs]
    blk_simp [iblk]
    refine congrArg _ (at2 ?_ ?_) <;> blk_simp [idx0, idx2]
  · rw [← V_rhs]
    blk_simp [iblk]
    refine congrArg _ (at2 ?_ ?_) <;> blk_simp [idx1, idx2]

/-! ## The claims -/

instance : Cert.Kernel11.Facts := Cert.Kernel11.Gen.facts
instance : Cert.Kernel11Ideal.Facts := Cert.Kernel11Ideal.Gen.facts
instance : Cert.Reference11Ideal.Facts := Cert.Reference11Ideal.Gen.facts

/-- The two printed texts give the same table of calls. -/
theorem defs_eq : Cert.Kernel11.defs (F := Bits) = Cert.Kernel11Ideal.defs (F := Bits) := by
  refine congrArg (Pipeline.defs (Cert.Kernel11Ideal.pcfgs (F := Bits))) ?_
  show Defs.onTc _ = Defs.onTc _
  refine congrArg Defs.onTc (funext fun l => ?_)
  match l with
  | 0 => funext x; obtain ⟨t, s⟩ := x; rfl

/-- The frames of the kernel: one run, at any floats. -/
theorem frame_kernel : Cert.quiescent_Kernel11 (hKernel11 := Cert.Kernel11.Gen.facts) := by
  intro m g _
  rw [defs_eq]
  exact Cert.Kernel11Ideal.Gen.frame (F := Bits) m g

theorem frame_kernelIdeal : Cert.quiescent_Kernel11Ideal (hKernel11Ideal := Cert.Kernel11Ideal.Gen.facts) := fun m g _ =>
  Cert.Kernel11Ideal.Gen.frame (F := Ideal) m g

/-- The frame of the reference. -/
theorem frame_reference : Cert.quiescent_Reference11Ideal (hReference11Ideal := Cert.Reference11Ideal.Gen.facts) := fun m g _ =>
  (θ_run Cert.Reference11Ideal.defs _ _).mono (fun r h => ⟨fun c => (h c).2, sem_eq_zero_of_no_sems (by decide) r.2⟩)
    (Cert.Reference11Ideal.Value.run (F := Ideal) m g)

theorem algebraic : Cert.algebraic_Kernel11Ideal_Reference11Ideal (hKernel11Ideal := Cert.Kernel11Ideal.Gen.facts)
    (hReference11Ideal := Cert.Reference11Ideal.Gen.facts) := by
  intro m g m' g' _ hagree
  refine ⟨fun c => (dats m 0 c).arrAt 2 cfg0.N, Cert.Kernel11Ideal.Value.run_blocks m g, ?_⟩
  refine (θ_run Cert.Reference11Ideal.defs _ _).mono (fun _ h c => ⟨(h c).1.trans ?_, (h c).2⟩)
    (Cert.Reference11Ideal.Value.run (F := Ideal) m' g')
  rw [(hagree c).1, (hagree c).2]
  exact (nt_host_eq none (M := 4352) (K := 1024) (N := 512) _ (lhs m c) (rhs m c)).trans (final m c).symm

end Cert.Kernel11Ideal.Prod

end
-- ==== Proof.Prod.GluDw.lean ====
/-
  The gradient of that product by the weight.
-/
module

public import proofs.«01_k».proof.Defs
public import proofs.«01_k».proof.Proof.Gen.Kernel12
public import proofs.«01_k».proof.Proof.Gen.Kernel12Ideal.Value
public import proofs.«01_k».proof.Proof.Gen.Reference12Ideal.Run
public import proofs.«01_k».proof.Proof.Prod.Dots
public import Idealize.ShloMosaic.Lib.Pipeline.ValueKit.Geometry
public import Idealize.ShloMosaic.Lib.Pipeline.ValueKit.Acc
public import Idealize.ShloMosaic.Lib.StableHlo.Run
public import Idealize.ShloMosaic.Lib.Quiescent
public import Idealize.ShloMosaic.Lib.Pipeline.ReadBack

@[expose] public section

noncomputable section

namespace Cert.Kernel12Ideal.Prod

open Idealize.ShloMosaic
open Idealize.ShloMosaic.ValueIdx Idealize.ShloMosaic.TcCoe Idealize.SL.Sem
open Idealize.ShloMosaic.Pipeline (Dat)
open Cert.Kernel12Ideal Cert.Kernel12Ideal.Gen Cert.Prod
open scoped BigOperators

variable (m : (ℓ : Loc nD τ sig) → Buf (Elt Ideal) ℓ) (c : Dev nD)

/-- The arguments. -/
abbrev lhs : (Mx 4352 512).Idx → EReal := m ((c.tc : Thread nD τ).loc main_arg0)
abbrev rhs : (Mx 4352 1024).Idx → EReal := m ((c.tc : Thread nD τ).loc main_arg1)

/-- The call reads them as given. -/
theorem V_lhs : (V m c main_v0 : (Mx 4352 512).Idx → EReal) = lhs m c := by
  unfold V; after_results <;> rfl
theorem V_rhs : (V m c main_v1 : (Mx 4352 1024).Idx → EReal) = rhs m c := by
  unfold V; after_results <;> rfl

/-- The blocks of the three windows at a point. -/
theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)

/-- The product of a block of columns and a block of columns. -/
theorem pay_apply (x : Vec Ideal S4352x512 .bf16) (w : Vec Ideal S4352x1024 .bf16) (i : Fin 512) (j : Fin 1024) :
    k0_pay1 (F := Ideal) x w (ix2 i j) = ∑ k : Fin 4352, x (ix2 k i) * w (ix2 k j) :=
  tn_block none (M := 512) (K := 4352) (N := 1024) _ x w _ _ i j

/-- What the body leaves in its result's buffer. -/
theorem out_eq (x : Vec Ideal S4352x512 .bf16) (w : Vec Ideal S4352x1024 .bf16) : out0_2 (F := Ideal) x w = k0_pay1 (F := Ideal) x w := by
  frame_out

/-- The array after the call. -/
theorem final : (dats m 0 c).arrAt 2 cfg0.N
    = fun i : (Mx 512 1024).Idx => ∑ k : Fin 4352, lhs m c (ix2 k (i 0)) * rhs m c (ix2 k (i 1)) := by
  refine (dats m 0 c).arrAt_eq_of_covers 2 _ (by decide +kernel) fun t hf y => ?_
  blk_simp
  rw [after0_2, out_eq]
  obtain ⟨i, j, rfl⟩ : ∃ (i : Fin 512) (j : Fin 1024), y = ix2 i j := ⟨_, _, eq_ix2 y⟩
  rw [pay_apply]
  refine sum_eq (fun k => ?_) (fun k => ?_)
  · rw [← V_lhs]
    blk_simp [iblk]
    refine congrArg _ (at2 ?_ ?_) <;> blk_simp [idx0, idx2]
  · rw [← V_rhs]
    blk_simp [iblk]
    refine congrArg _ (at2 ?_ ?_) <;> blk_simp [idx1, idx2]

/-! ## The claims -/

instance : Cert.Kernel12.Facts := Cert.Kernel12.Gen.facts
instance : Cert.Kernel12Ideal.Facts := Cert.Kernel12Ideal.Gen.facts
instance : Cert.Reference12Ideal.Facts := Cert.Reference12Ideal.Gen.facts

/-- The two printed texts give the same table of calls. -/
theorem defs_eq : Cert.Kernel12.defs (F := Bits) = Cert.Kernel12Ideal.defs (F := Bits) := by
  refine congrArg (Pipeline.defs (Cert.Kernel12Ideal.pcfgs (F := Bits))) ?_
  show Defs.onTc _ = Defs.onTc _
  refine congrArg Defs.onTc (funext fun l => ?_)
  match l with
  | 0 => funext x; obtain ⟨t, s⟩ := x; rfl

/-- The frames of the kernel: one run, at any floats. -/
theorem frame_kernel : Cert.quiescent_Kernel12 (hKernel12 := Cert.Kernel12.Gen.facts) := by
  intro m g _
  rw [defs_eq]
  exact Cert.Kernel12Ideal.Gen.frame (F := Bits) m g

theorem frame_kernelIdeal : Cert.quiescent_Kernel12Ideal (hKernel12Ideal := Cert.Kernel12Ideal.Gen.facts) := fun m g _ =>
  Cert.Kernel12Ideal.Gen.frame (F := Ideal) m g

/-- The frame of the reference. -/
theorem frame_reference : Cert.quiescent_Reference12Ideal (hReference12Ideal := Cert.Reference12Ideal.Gen.facts) := fun m g _ =>
  (θ_run Cert.Reference12Ideal.defs _ _).mono (fun r h => ⟨fun c => (h c).2, sem_eq_zero_of_no_sems (by decide) r.2⟩)
    (Cert.Reference12Ideal.Value.run (F := Ideal) m g)

theorem algebraic : Cert.algebraic_Kernel12Ideal_Reference12Ideal (hKernel12Ideal := Cert.Kernel12Ideal.Gen.facts)
    (hReference12Ideal := Cert.Reference12Ideal.Gen.facts) := by
  intro m g m' g' _ hagree
  refine ⟨fun c => (dats m 0 c).arrAt 2 cfg0.N, Cert.Kernel12Ideal.Value.run_blocks m g, ?_⟩
  refine (θ_run Cert.Reference12Ideal.defs _ _).mono (fun _ h c => ⟨(h c).1.trans ?_, (h c).2⟩)
    (Cert.Reference12Ideal.Value.run (F := Ideal) m' g')
  rw [(hagree c).1, (hagree c).2]
  exact (tn_host_transposed none (M := 512) (K := 4352) (N := 1024) _ (lhs m c) (rhs m c) _).trans (final m c).symm

end Cert.Kernel12Ideal.Prod

end
-- ==== Proof.Prod.Gate.lean ====
/-
  The sigmoid of an extended real as kernel and host compute it, and four matrices put side by side.
-/
module

public import proofs.«01_k».proof.Proof.Prod.Pads
public import Idealize.ShloMosaic.Lib.StableHlo.Run

@[expose] public section

noncomputable section

namespace Cert.Prod

open Idealize.ShloMosaic
open Idealize.ShloMosaic.ValueIdx
open scoped BigOperators

/-- The word of the number one. -/
abbrev one : EReal := Ideal.ofBits .f32 0x3F800000#32

/-- The sigmoid. -/
def sg (x : EReal) : EReal := Ideal.div one (one + Ideal.exp (-x))

/-- The kernel subtracts from zero where the host negates. -/
theorem sg_sub (x : EReal) : Ideal.div one (one + Ideal.exp (Ideal.ofBits .f32 0x00000000#32 - x)) = sg x := by
  rw [Ideal.ofBits_zero_f32, zero_sub]; rfl

section
variable {α : Type} {a w n : ℕ}

/-- Four matrices side by side, read in column `k` of the one numbered `q`. -/
theorem concat4 (p0 p1 p2 p3 : (Mx a w).Idx → α)
    (h : Shape.Concatenates (List.map (fun x => x.fst) [(⟨Mx a w, p0⟩ : (s : Shape) × (s.Idx → α)), ⟨Mx a w, p1⟩, ⟨Mx a w, p2⟩, ⟨Mx a w, p3⟩]) (Mx a n) 1)
    (q : Fin 4) (i : Fin a) (k : Fin w) (j : Fin n) (hj : j.val = q.val * w + k.val) :
    concatenate (Mx a n) 1 [⟨Mx a w, p0⟩, ⟨Mx a w, p1⟩, ⟨Mx a w, p2⟩, ⟨Mx a w, p3⟩] h (ix2 i j) = (![p0, p1, p2, p3] q) (ix2 i k) := by
  have hb : ∀ b : Fin (Mx a w).rank, Fin.cast (rfl : (Mx a w).rank = (Mx a n).rank) b ≠ 1 → ((ix2 i k : (Mx a w).Idx) b).val = ((ix2 i j : (Mx a n).Idx) (Fin.cast rfl b)).val := by
    intro b hb
    match b with
    | ⟨0, _⟩ => rfl
    | ⟨1, _⟩ => exact absurd rfl hb
  match q with
  | 0 => exact concatenate_apply_piece 1 _ h _ 0 (by simp) _ p0 rfl rfl 0 rfl _ hb (by show 0 + k.val = j.val; rw [hj]; simp)
  | 1 => exact concatenate_apply_piece 1 _ h _ 1 (by simp) _ p1 rfl rfl w (by simp) _ hb (by show w + k.val = j.val; rw [hj]; simp)
  | 2 => exact concatenate_apply_piece 1 _ h _ 2 (by simp) _ p2 rfl rfl (2 * w) (by simp; ring) _ hb (by show 2 * w + k.val = j.val; rw [hj]; simp)
  | 3 => exact concatenate_apply_piece 1 _ h _ 3 (by simp) _ p3 rfl rfl (3 * w) (by simp; ring) _ hb (by show 3 * w + k.val = j.val; rw [hj]; simp)

/-- The same, when the four are the four parts of one row. -/
theorem concat4_eq (p0 p1 p2 p3 : (Mx a w).Idx → α)
    (h : Shape.Concatenates (List.map (fun x => x.fst) [(⟨Mx a w, p0⟩ : (s : Shape) × (s.Idx → α)), ⟨Mx a w, p1⟩, ⟨Mx a w, p2⟩, ⟨Mx a w, p3⟩]) (Mx a n) 1)
    (hn : n = 4 * w) (i : Fin a) (f : Fin n → α) (h0 : ∀ (k : Fin w) (j : Fin n), j.val = k.val → p0 (ix2 i k) = f j)
    (h1 : ∀ (k : Fin w) (j : Fin n), j.val = w + k.val → p1 (ix2 i k) = f j) (h2 : ∀ (k : Fin w) (j : Fin n), j.val = 2 * w + k.val → p2 (ix2 i k) = f j)
    (h3 : ∀ (k : Fin w) (j : Fin n), j.val = 3 * w + k.val → p3 (ix2 i k) = f j) (j : Fin n) :
    concatenate (Mx a n) 1 [⟨Mx a w, p0⟩, ⟨Mx a w, p1⟩, ⟨Mx a w, p2⟩, ⟨Mx a w, p3⟩] h (ix2 i j) = f j := by
  have hj := j.isLt
  have hw : 0 < w := by omega
  obtain ⟨q, k, e⟩ : ∃ (q : Fin 4) (k : Fin w), j.val = q.val * w + k.val :=
    ⟨⟨j.val / w, Nat.div_lt_of_lt_mul (by rw [Nat.mul_comm]; omega)⟩, ⟨j.val % w, Nat.mod_lt _ hw⟩, (Nat.div_add_mod' _ _).symm⟩
  refine (concat4 p0 p1 p2 p3 h q i k j e).trans ?_
  match q, e with
  | 0, e => exact h0 k j (by simpa using e)
  | 1, e => exact h1 k j (by simpa using e)
  | 2, e => exact h2 k j (by simpa using e)
  | 3, e => exact h3 k j (by simpa using e)

end

/-- The gates, one for each column of the four branches: from the last 8192 columns of the projection and a bias. -/
abbrev gateAt (l : (Mx 4352 14336).Idx → EReal) (b : (Mx 1 8192).Idx → EReal) (i : Fin 4352) (j : Fin 8192) : EReal :=
  sg (l (ix2 i ⟨6144 + j.val, by omega⟩) + b (ix2 (0 : Fin 1) j))

/-- The sum of a columns' bias and an entry, on the host. -/
theorem logit_host (l : FVec Ideal (Mx 4352 14336) .f32) (b : FVec Ideal (Mx 1 8192) .f32) (hs) (hb) (i : Fin 4352) (j : Fin 8192) :
    addf (F := Ideal) (extractStridedSlice (Mx 4352 8192) ![0, 6144] l hs) (broadcastInDim (Mx 4352 8192) ![0, 1] hb b) (ix2 i j)
      = (l (ix2 i ⟨6144 + j.val, by omega⟩) + b (ix2 (0 : Fin 1) j) : EReal) := by
  refine congrArg₂ (fun x y : EReal => x + y) (slice2_axis1_apply 6144 l hs i j ⟨6144 + j.val, by omega⟩ rfl)
    (broadcastInDim_apply _ hb b _ (ix2 (0 : Fin 1) j) fun d => ?_)
  match d with
  | ⟨0, _⟩ => rfl
  | ⟨1, _⟩ => rfl

/-- The gates on the host. -/
theorem gate_host (l : FVec Ideal (Mx 4352 14336) .f32) (b : FVec Ideal (Mx 1 8192) .f32) (hs) (hb) (h1) (h1') (i : Fin 4352) (j : Fin 8192) :
    Host.divf (F := Ideal) (broadcastInDim (Mx 4352 8192) ![] h1 (constant (F := Ideal) ⟨0, ![]⟩ .f32 (0x3F800000#32 : BitVec 32)))
      (addf (broadcastInDim (Mx 4352 8192) ![] h1' (constant (F := Ideal) ⟨0, ![]⟩ .f32 (0x3F800000#32 : BitVec 32)))
        (Host.exp (Host.negf (addf (F := Ideal) (extractStridedSlice (Mx 4352 8192) ![0, 6144] l hs) (broadcastInDim (Mx 4352 8192) ![0, 1] hb b))))) (ix2 i j)
      = gateAt l b i j :=
  congrArg sg (logit_host l b hs hb i j)

end Cert.Prod

end
-- ==== Proof.Prod.Merge.lean ====
/-
  The merged stream: each of the four branches is multiplied with its rows of w_br, put under its own gate, and added up.
-/
module

public import proofs.«01_k».proof.Defs
public import proofs.«01_k».proof.Proof.Gen.Kernel13
public import proofs.«01_k».proof.Proof.Gen.Kernel13Ideal.Value
public import proofs.«01_k».proof.Proof.Gen.Reference13Ideal.Run
public import proofs.«01_k».proof.Proof.Prod.Gate
public import Idealize.ShloMosaic.Lib.Pipeline.ValueKit.Geometry
public import Idealize.ShloMosaic.Lib.Pipeline.ValueKit.Acc
public import Idealize.ShloMosaic.Lib.StableHlo.Run
public import Idealize.ShloMosaic.Lib.Quiescent
public import Idealize.ShloMosaic.Lib.Pipeline.ReadBack

@[expose] public section

noncomputable section

namespace Cert.Kernel13Ideal.Prod

open Idealize.ShloMosaic
open Idealize.ShloMosaic.ValueIdx Idealize.ShloMosaic.TcCoe Idealize.SL.Sem
open Idealize.ShloMosaic.Pipeline (Dat)
open Cert.Kernel13Ideal Cert.Kernel13Ideal.Gen Cert.Prod
open scoped BigOperators

variable (m : (ℓ : Loc nD τ sig) → Buf (Elt Ideal) ℓ) (c : Dev nD)

/-- The arguments: the branches' outputs, w_br, the projection and the gates' bias. -/
abbrev act : (Mx 4352 2048).Idx → EReal := m ((c.tc : Thread nD τ).loc main_arg0)
abbrev wt : (Mx 2048 2048).Idx → EReal := m ((c.tc : Thread nD τ).loc main_arg1)
abbrev proj : (Mx 4352 14336).Idx → EReal := m ((c.tc : Thread nD τ).loc main_arg2)
abbrev bias : (Mx 1 8192).Idx → EReal := m ((c.tc : Thread nD τ).loc main_arg3)

/-- The call reads them as given. -/
theorem V_act : (V m c main_v0 : (Mx 4352 2048).Idx → EReal) = act m c := by
  unfold V; after_results <;> rfl
theorem V_wt : (V m c main_v1 : (Mx 2048 2048).Idx → EReal) = wt m c := by
  unfold V; after_results <;> rfl
theorem V_proj : (V m c main_v2 : (Mx 4352 14336).Idx → EReal) = proj m c := by
  unfold V; after_results <;> rfl
theorem V_bias : (V m c main_arg3 : (Mx 1 8192).Idx → EReal) = bias m c := by
  unfold V; after_results <;> rfl

/-- The blocks of the six windows at a point. -/
theorem idx0 : ∀ t : Fin cfg0.N, win0_0.index t = ![t.val / 8, t.val % 4] := (by decide +kernel : ∀ t : Fin grid0.N, _)
theorem idx1 : ∀ t : Fin cfg0.N, win0_1.index t = ![t.val % 4, t.val / 4 % 2] := (by decide +kernel : ∀ t : Fin grid0.N, _)
theorem idx2 : ∀ t : Fin cfg0.N, win0_2.index t = ![t.val / 8, 6 + (t.val % 4 * 2 + t.val / 4 % 2)] := (by decide +kernel : ∀ t : Fin grid0.N, _)
theorem idx3 : ∀ t : Fin cfg0.N, win0_3.index t = ![0, t.val % 4 * 2 + t.val / 4 % 2] := (by decide +kernel : ∀ t : Fin grid0.N, _)
theorem idx4 : ∀ t : Fin cfg0.N, win0_4.index t = ![t.val / 8, t.val / 4 % 2] := (by decide +kernel : ∀ t : Fin grid0.N, _)
theorem idx5 : ∀ t : Fin cfg0.N, win0_5.index t = ![t.val / 8, t.val % 4 * 2 + t.val / 4 % 2] := (by decide +kernel : ∀ t : Fin grid0.N, _)

/-- Row `k` of the part of the weight that belongs to column `j` of the branches' products. -/
abbrev of (j : Fin 8192) (k : Fin 512) : Fin 2048 := ⟨j.val / 2048 * 512 + k.val, by have := j.isLt; have := k.isLt; omega⟩

/-- The branches' products, the four side by side. -/
abbrev branchAt (a : (Mx 4352 2048).Idx → EReal) (w : (Mx 2048 2048).Idx → EReal) (i : Fin 4352) (j : Fin 8192) : EReal :=
  ∑ k : Fin 512, a (ix2 i (of j k)) * w (ix2 (of j k) ⟨j.val % 2048, Nat.mod_lt _ (by decide)⟩)

/-- The product of a point's blocks. -/
theorem prod_apply (t : Fin cfg0.N) (i : Fin 544) (j : Fin 1024) (r : Fin 4352) (q : Fin 8192) (hr : r.val = t.val / 8 * 544 + i.val)
    (hq : q.val = (t.val % 4 * 2 + t.val / 4 % 2) * 1024 + j.val) :
    k0_pay1 (F := Ideal) (iblk m c 0 t) (iblk m c 1 t) (ix2 i j) = branchAt (act m c) (wt m c) r q := by
  have hj := j.isLt
  refine (nn_block none (M := 544) (K := 512) (N := 1024) _ (iblk m c 0 t) (iblk m c 1 t) _ _ i j).trans (sum_eq (fun k => ?_) (fun k => ?_))
  · rw [← V_act]
    blk_simp [iblk]
    refine congrArg _ (at2 ?_ ?_)
    · blk_simp [idx0]; exact hr.symm
    · refine Eq.trans (b := t.val % 4 * 512 + k.val) (by blk_simp [idx0]) ?_
      show _ = q.val / 2048 * 512 + k.val
      omega
  · rw [← V_wt]
    blk_simp [iblk]
    refine congrArg _ (at2 ?_ ?_)
    · refine Eq.trans (b := t.val % 4 * 512 + k.val) (by blk_simp [idx1]) ?_
      show _ = q.val / 2048 * 512 + k.val
      omega
    · refine Eq.trans (b := t.val / 4 % 2 * 1024 + j.val) (by blk_simp [idx1]) ?_
      show _ = q.val % 2048
      omega

/-- A branch's gated product at a point. -/
def term (t : Fin cfg0.N) : S544x1024.Idx → EReal := k0_pay3 (F := Ideal) (iblk m c 0 t) (iblk m c 1 t) (iblk m c 2 t) (iblk m c 3 t)

theorem pay_apply (x : Vec Ideal S544x512 .bf16) (w : Vec Ideal S512x1024 .bf16) (l : Vec Ideal S544x1024 .bf16) (b : Vec Ideal S1x1024 .f32)
    (i : Fin 544) (j : Fin 1024) :
    k0_pay3 (F := Ideal) x w l b (ix2 i j) = (sg (l (ix2 i j) + b (ix2 (0 : Fin 1) j)) * k0_pay1 (F := Ideal) x w (ix2 i j) : EReal) := by
  refine congrArg (· * (k0_pay1 (F := Ideal) x w (ix2 i j) : EReal)) ?_
  refine (sg_sub _).trans (congrArg sg (congrArg₂ (fun x y : EReal => x + y) ?_ (broadcastTo_1b_ab_apply b _ i j)))
  exact congrFun (shapeCast_self l _) (ix2 i j)

/-- The same on the arguments. -/
theorem term_apply (t : Fin cfg0.N) (i : Fin 544) (j : Fin 1024) (r : Fin 4352) (q : Fin 8192) (hr : r.val = t.val / 8 * 544 + i.val)
    (hq : q.val = (t.val % 4 * 2 + t.val / 4 % 2) * 1024 + j.val) :
    term m c t (ix2 i j) = gateAt (proj m c) (bias m c) r q * branchAt (act m c) (wt m c) r q := by
  unfold term
  rw [pay_apply, prod_apply m c t i j r q hr hq]
  refine congrArg (fun x : EReal => sg x * branchAt (act m c) (wt m c) r q) (congrArg₂ (fun x y : EReal => x + y) ?_ ?_)
  · rw [← V_proj]
    blk_simp [iblk]
    refine congrArg _ (at2 ?_ ?_)
    · blk_simp [idx2]; exact hr.symm
    · refine Eq.trans (b := (6 + (t.val % 4 * 2 + t.val / 4 % 2)) * 1024 + j.val) (by blk_simp [idx2]) ?_
      show _ = 6144 + q.val
      omega
  · rw [← V_bias]
    blk_simp [iblk]
    refine congrArg _ (at2 ?_ ?_)
    · refine Eq.trans (b := 0) (by blk_simp [idx3]) rfl
    · blk_simp [idx3]; exact hq.symm

/-- The accumulator starts at the first branch … -/
theorem acc_first (t : Fin cfg0.N) (h : t.val % 4 = 0) (y : S544x1024.Idx) :
    (outsAt0 m c t.val t.isLt).2.2 y = (0 : EReal) + term m c t y := by
  rw [outsAt0_A m c t h (by omega) (by omega), zero_add]
  frame_out
  unfold k0_pay4 term
  rw [shapeCast_self]

/-- … adds the others … -/
theorem acc_next (t : Fin cfg0.N) (h : ¬t.val % 4 = 0) (y : S544x1024.Idx) :
    (outsAt0 m c t.val t.isLt).2.2 y
      = ((outsAt0 m c (t.val - 1) (Nat.lt_of_le_of_lt (Nat.sub_le _ _) t.isLt)).2.2 y + term m c t y : EReal) := by
  by_cases h2 : t.val % 4 = 3
  · rw [outsAt0_C m c t h (by omega) h2]
    frame_out
    unfold k0_pay5 term
    rw [shapeCast_self, read_unread_whole]
    rfl
  · rw [outsAt0_B m c t h (by omega) h2]
    frame_out
    unfold k0_pay5 term
    rw [shapeCast_self, read_unread_whole]
    rfl

/-- … and is written out at the last. -/
theorem out_last (t : Fin cfg0.N) (h : t.val % 4 = 3) : (outsAt0 m c t.val t.isLt).1 = (outsAt0 m c t.val t.isLt).2.2 := by
  rw [outsAt0_C m c t (by omega) (by omega) h]
  frame_out
  rfl

/-- What is written back: the sum of the four. -/
theorem out_sum (t : Fin cfg0.N) (h : t.val % 4 = 3) (y : S544x1024.Idx) :
    (outsAt0 m c t.val t.isLt).1 y
      = ∑ s : Fin 4, term m c ⟨4 * (t.val / 4) + s.val, Pipeline.run_point_lt_of_flush t h s⟩ y := by
  rw [out_last m c t h]
  exact (Pipeline.eq_sum_fin_of_reset_step_apply_of_flush (M := EReal) (fun n h => (outsAt0 m c n h).2.2) 4 (fun _ => 0) (term m c)
    (acc_first m c) (acc_next m c) t h y).trans (zero_add _)

/-- The branches' products are written out at every point. -/
theorem out_branch (t : Fin cfg0.N) : (outsAt0 m c t.val t.isLt).2.1 = k0_pay1 (F := Ideal) (iblk m c 0 t) (iblk m c 1 t) := by
  by_cases h0 : t.val % 4 = 0
  · rw [outsAt0_A m c t h0 (by omega) (by omega)]
    frame_out
    rfl
  · by_cases h2 : t.val % 4 = 3
    · rw [outsAt0_C m c t h0 (by omega) h2]
      frame_out
      rfl
    · rw [outsAt0_B m c t h0 (by omega) h2]
      frame_out
      rfl

/-- Two sums of four, term by term. -/
theorem sum4 {f g : Fin 4 → EReal} (h : ∀ s, f s = g s) : (∑ s, f s) = ∑ s, g s := Finset.sum_congr rfl fun s _ => h s

/-- Column `j` of branch `s`. -/
abbrev col (s : Fin 4) (j : Fin 2048) : Fin 8192 := ⟨s.val * 2048 + j.val, by have := s.isLt; have := j.isLt; omega⟩

/-- The merged stream after the call. -/
theorem final4 : (dats m 0 c).arrAt 4 cfg0.N
    = fun i : (Mx 4352 2048).Idx => (∑ s : Fin 4, gateAt (proj m c) (bias m c) (i 0) (col s (i 1)) * branchAt (act m c) (wt m c) (i 0) (col s (i 1)) : EReal) := by
  refine (dats m 0 c).arrAt_eq_of_covers 4 _ (by decide +kernel) fun t hf y => ?_
  blk_simp
  have h3 : t.val % 4 = 3 := (flush0_4 t).mp hf
  have hN : t.val < 64 := t.isLt
  rw [after0_4, out_sum m c t h3]
  obtain ⟨i, j, rfl⟩ : ∃ (i : Fin 544) (j : Fin 1024), y = ix2 i j := ⟨_, _, eq_ix2 y⟩
  have hj := j.isLt
  have h0 : (((win0_4.blk t).view.emb (ix2 i j) 0 : Fin 4352) : ℕ) = t.val / 8 * 544 + i.val := by blk_simp [idx4]; rfl
  have h1 : (((win0_4.blk t).view.emb (ix2 i j) 1 : Fin 2048) : ℕ) = t.val / 4 % 2 * 1024 + j.val := by blk_simp [idx4]; rfl
  refine sum4 fun s => ?_
  have hs := s.isLt
  refine term_apply m c _ i j _ _ (h0.trans ?_) ?_
  · show t.val / 8 * 544 + i.val = (4 * (t.val / 4) + s.val) / 8 * 544 + i.val
    omega
  · show s.val * 2048 + ((win0_4.blk t).view.emb (ix2 i j) 1 : Fin 2048).val = ((4 * (t.val / 4) + s.val) % 4 * 2 + (4 * (t.val / 4) + s.val) / 4 % 2) * 1024 + j.val
    rw [h1]
    omega

/-- The branches' products after the call. -/
theorem final5 : (dats m 0 c).arrAt 5 cfg0.N = fun i : (Mx 4352 8192).Idx => branchAt (act m c) (wt m c) (i 0) (i 1) := by
  refine (dats m 0 c).arrAt_eq_of_covers 5 _ (by decide +kernel) fun t hf y => ?_
  blk_simp
  rw [after0_5, out_branch]
  obtain ⟨i, j, rfl⟩ : ∃ (i : Fin 544) (j : Fin 1024), y = ix2 i j := ⟨_, _, eq_ix2 y⟩
  exact prod_apply m c t i j _ _ (by blk_simp [idx5]) (by blk_simp [idx5])

/-! ## The claims -/

instance : Cert.Kernel13.Facts := Cert.Kernel13.Gen.facts
instance : Cert.Kernel13Ideal.Facts := Cert.Kernel13Ideal.Gen.facts
instance : Cert.Reference13Ideal.Facts := Cert.Reference13Ideal.Gen.facts

/-- The two printed texts give the same table of calls. -/
theorem defs_eq : Cert.Kernel13.defs (F := Bits) = Cert.Kernel13Ideal.defs (F := Bits) := by
  refine congrArg (Pipeline.defs (Cert.Kernel13Ideal.pcfgs (F := Bits))) ?_
  show Defs.onTc _ = Defs.onTc _
  refine congrArg Defs.onTc (funext fun l => ?_)
  match l with
  | 0 => funext x; obtain ⟨t, s⟩ := x; rfl

/-- The frames of the kernel: one run, at any floats. -/
theorem frame_kernel : Cert.quiescent_Kernel13 (hKernel13 := Cert.Kernel13.Gen.facts) := by
  intro m g _
  rw [defs_eq]
  exact Cert.Kernel13Ideal.Gen.frame (F := Bits) m g

theorem frame_kernelIdeal : Cert.quiescent_Kernel13Ideal (hKernel13Ideal := Cert.Kernel13Ideal.Gen.facts) := fun m g _ =>
  Cert.Kernel13Ideal.Gen.frame (F := Ideal) m g

/-- The frame of the reference. -/
theorem frame_reference : Cert.quiescent_Reference13Ideal (hReference13Ideal := Cert.Reference13Ideal.Gen.facts) := fun m g _ =>
  (θ_run Cert.Reference13Ideal.defs _ _).mono (fun r h => ⟨fun c => (h c).2.2, sem_eq_zero_of_no_sems (by decide) r.2⟩)
    (Cert.Reference13Ideal.Value.run (F := Ideal) m g)

/-- A branch's product in the reference. -/
theorem piece (lo : ℕ) (x : FVec Ideal (Mx 4352 2048) .f32) (w : FVec Ideal (Mx 2048 2048) .f32) (wf)
    (hs : (Mx 4352 2048).Slices ![0, lo] (Mx 4352 512)) (hs' : (Mx 2048 2048).Slices ![lo, 0] (Mx 512 2048)) (i : Fin 4352) (k : Fin 2048)
    (j : Fin 8192) (hj : j.val = 4 * lo + k.val) (hlo : lo % 512 = 0) :
    Host.dotGeneral (F := Ideal) (nn 4352 512 2048 wf) none (extractStridedSlice (Mx 4352 512) ![0, lo] x hs)
      (extractStridedSlice (Mx 512 2048) ![lo, 0] w hs') (ix2 i k) = branchAt x w i j := by
  have hk := k.isLt
  have e : ∀ l : Fin 512, j.val / 2048 * 512 + l.val = lo + l.val := fun l => by omega
  rw [nn_host]
  refine sum_eq (fun l => ?_) (fun l => ?_)
  · exact slice2_axis1_apply lo x hs i l (of j l) (e l)
  · refine (slice2_axis0_apply lo w hs' l k (of j l) (e l)).trans (congrArg _ (at2 rfl ?_))
    show k.val = j.val % 2048
    omega

theorem algebraic : Cert.algebraic_Kernel13Ideal_Reference13Ideal (hKernel13Ideal := Cert.Kernel13Ideal.Gen.facts)
    (hReference13Ideal := Cert.Reference13Ideal.Gen.facts) := by
  intro m g m' g' _ hagree
  refine ⟨fun c => (dats m 0 c).arrAt 4 cfg0.N, fun c => (dats m 0 c).arrAt 5 cfg0.N, Cert.Kernel13Ideal.Value.run_blocks m g, ?_⟩
  refine (θ_run Cert.Reference13Ideal.defs _ _).mono (fun _ h c => ⟨(h c).1.trans ?_, (h c).2.1.trans ?_, (h c).2.2⟩)
    (Cert.Reference13Ideal.Value.run (F := Ideal) m' g')
  · unfold Cert.Reference13Ideal.Value.res_main_v37
    rw [(hagree c).1, (hagree c).2.1, (hagree c).2.2.1, (hagree c).2.2.2]
    refine Eq.trans (funext fun y => ?_) (final4 m c).symm
    obtain ⟨i, j, rfl⟩ : ∃ (i : Fin 4352) (j : Fin 2048), y = ix2 i j := ⟨_, _, eq_ix2 y⟩
    refine Eq.trans ?_ (Fin.sum_univ_four _).symm
    have e : ∀ (s : Fin 4) {off : ℕ} (ho : off = s.val * 2048) (x : (Mx 4352 8192).Idx → EReal) (hs : (Mx 4352 8192).Slices ![0, off] (Mx 4352 2048)),
        extractStridedSlice (Mx 4352 2048) ![0, off] x hs (ix2 i j) = x (ix2 i (col s j)) := fun s off ho x hs =>
      slice2_axis1_apply off x hs i j (col s j) (by rw [ho])
    have p : ∀ (s : Fin 4) {off : ℕ} (ho : off = s.val * 2048) (x z : (Mx 4352 8192).Idx → EReal) (hs hs' : (Mx 4352 8192).Slices ![0, off] (Mx 4352 2048))
        (hx : ∀ j, x (ix2 i j) = gateAt (proj m c) (bias m c) i j) (hz : ∀ j, z (ix2 i j) = branchAt (act m c) (wt m c) i j),
        mulf (F := Ideal) (φ := .f32) (extractStridedSlice (Mx 4352 2048) ![0, off] x hs) (extractStridedSlice (Mx 4352 2048) ![0, off] z hs') (ix2 i j)
          = (gateAt (proj m c) (bias m c) i (col s j) * branchAt (act m c) (wt m c) i (col s j) : EReal) := fun s off ho x z hs hs' hx hz =>
      congrArg₂ (fun x y : EReal => x * y) ((e s ho x hs).trans (hx _)) ((e s ho z hs').trans (hz _))
    have gx := fun j => gate_host (proj m c) (bias m c) Cert.Reference13Ideal.Gen.slices_S4352x14336_S4352x8192_0_6144 Cert.Reference13Ideal.Gen.bcast_S1x8192_S4352x8192_0_1
      Cert.Reference13Ideal.Gen.bcast_S_S4352x8192 Cert.Reference13Ideal.Gen.bcast_S_S4352x8192 i j
    refine congrArg₂ (fun x y : EReal => x + y) (congrArg₂ (fun x y : EReal => x + y) (congrArg₂ (fun x y : EReal => x + y)
      (p 0 rfl _ _ _ _ gx ?_) (p 1 rfl _ _ _ _ gx ?_)) (p 2 rfl _ _ _ _ gx ?_)) (p 3 rfl _ _ _ _ gx ?_) <;>
    exact fun j => concat4_eq _ _ _ _ Cert.Reference13Ideal.Gen.concatenates_S4352x2048_S4352x2048_S4352x2048_S4352x2048_S4352x8192_d1 rfl i (branchAt (act m c) (wt m c) i)
      (fun k j h => piece 0 _ _ _ _ _ i k j (by omega) rfl) (fun k j h => piece 512 _ _ _ _ _ i k j (by omega) rfl)
      (fun k j h => piece 1024 _ _ _ _ _ i k j (by omega) rfl) (fun k j h => piece 1536 _ _ _ _ _ i k j (by omega) rfl) j
  · rw [(hagree c).1, (hagree c).2.1]
    refine Eq.trans (funext fun y => ?_) (final5 m c).symm
    obtain ⟨i, j, rfl⟩ : ∃ (i : Fin 4352) (j : Fin 8192), y = ix2 i j := ⟨_, _, eq_ix2 y⟩
    exact concat4_eq _ _ _ _ Cert.Reference13Ideal.Gen.concatenates_S4352x2048_S4352x2048_S4352x2048_S4352x2048_S4352x8192_d1 rfl i (branchAt (act m c) (wt m c) i)
      (fun k j h => piece 0 _ _ _ _ _ i k j (by omega) rfl) (fun k j h => piece 512 _ _ _ _ _ i k j (by omega) rfl)
      (fun k j h => piece 1024 _ _ _ _ _ i k j (by omega) rfl) (fun k j h => piece 1536 _ _ _ _ _ i k j (by omega) rfl) j

end Cert.Kernel13Ideal.Prod

end
-- ==== Proof.Prod.MergeDx.lean ====
/-
  The backward pass of the merge: each branch's gradient, the gates' gradient and its sum over the rows.
-/
module

public import proofs.«01_k».proof.Defs
public import proofs.«01_k».proof.Proof.Gen.Kernel14
public import proofs.«01_k».proof.Proof.Gen.Kernel14Ideal.Value
public import proofs.«01_k».proof.Proof.Gen.Reference14Ideal.Run
public import proofs.«01_k».proof.Proof.Prod.Gate
public import Idealize.ShloMosaic.Lib.Pipeline.ValueKit.Geometry
public import Idealize.ShloMosaic.Lib.Pipeline.ValueKit.Acc
public import Idealize.ShloMosaic.Lib.StableHlo.Run
public import Idealize.ShloMosaic.Lib.Pointwise.Reduce
public import Idealize.ShloMosaic.Lib.Pointwise.Sums
public import Idealize.ShloMosaic.Lib.Quiescent
public import Idealize.ShloMosaic.Lib.Pipeline.ReadBack

@[expose] public section

noncomputable section

namespace Cert.Kernel14Ideal.Prod

open Idealize.ShloMosaic hiding ix1 ix2 ix3 eq_ix2
open Idealize.ShloMosaic.ValueIdx Idealize.ShloMosaic.TcCoe Idealize.SL.Sem
open Idealize.ShloMosaic.Pipeline (Dat)
open Cert.Kernel14Ideal Cert.Kernel14Ideal.Gen Cert.Prod
open scoped BigOperators

variable (m : (ℓ : Loc nD τ sig) → Buf (Elt Ideal) ℓ) (c : Dev nD)

/-- The arguments: the merged stream's gradient, the branches' products, the projection and the gates' bias. -/
abbrev up : (Mx 4352 2048).Idx → EReal := m ((c.tc : Thread nD τ).loc main_arg0)
abbrev br : (Mx 4352 8192).Idx → EReal := m ((c.tc : Thread nD τ).loc main_arg1)
abbrev proj : (Mx 4352 14336).Idx → EReal := m ((c.tc : Thread nD τ).loc main_arg2)
abbrev bias : (Mx 1 8192).Idx → EReal := m ((c.tc : Thread nD τ).loc main_arg3)

/-- The call reads them as given. -/
theorem V_up : (V m c main_arg0 : (Mx 4352 2048).Idx → EReal) = up m c := by
  unfold V; after_results <;> rfl
theorem V_br : (V m c main_v0 : (Mx 4352 8192).Idx → EReal) = br m c := by
  unfold V; after_results <;> rfl
theorem V_proj : (V m c main_v1 : (Mx 4352 14336).Idx → EReal) = proj m c := by
  unfold V; after_results <;> rfl
theorem V_bias : (V m c main_arg3 : (Mx 1 8192).Idx → EReal) = bias m c := by
  unfold V; after_results <;> rfl

/-- The blocks of the seven windows at a point. -/
theorem idx0 : ∀ t : Fin cfg0.N, win0_0.index t = ![t.val % 17, 0] := (by decide +kernel : ∀ t : Fin grid0.N, _)
theorem idx1 : ∀ t : Fin cfg0.N, win0_1.index t = ![t.val % 17, t.val / 17] := (by decide +kernel : ∀ t : Fin grid0.N, _)
theorem idx2 : ∀ t : Fin cfg0.N, win0_2.index t = ![t.val % 17, 3 + t.val / 17] := (by decide +kernel : ∀ t : Fin grid0.N, _)
theorem idx3 : ∀ t : Fin cfg0.N, win0_3.index t = ![0, t.val / 17] := (by decide +kernel : ∀ t : Fin grid0.N, _)
theorem idx4 : ∀ t : Fin cfg0.N, win0_4.index t = ![t.val % 17, t.val / 17] := (by decide +kernel : ∀ t : Fin grid0.N, _)
theorem idx5 : ∀ t : Fin cfg0.N, win0_5.index t = ![t.val % 17, t.val / 17] := (by decide +kernel : ∀ t : Fin grid0.N, _)
theorem idx6 : ∀ t : Fin cfg0.N, win0_6.index t = ![0, t.val / 17] := (by decide +kernel : ∀ t : Fin grid0.N, _)

/-- The column of the merged stream to which a branch's column is added. -/
abbrev base (j : Fin 8192) : Fin 2048 := ⟨j.val % 2048, Nat.mod_lt _ (by decide)⟩

/-- A branch's gradient and a gate's. -/
abbrev dbr (d : (Mx 4352 2048).Idx → EReal) (l : (Mx 4352 14336).Idx → EReal) (b : (Mx 1 8192).Idx → EReal) (i : Fin 4352) (j : Fin 8192) : EReal :=
  d (ix2 i (base j)) * gateAt l b i j
abbrev dgate (d : (Mx 4352 2048).Idx → EReal) (p : (Mx 4352 8192).Idx → EReal) (l : (Mx 4352 14336).Idx → EReal) (b : (Mx 1 8192).Idx → EReal)
    (i : Fin 4352) (j : Fin 8192) : EReal :=
  d (ix2 i (base j)) * p (ix2 i j) * (gateAt l b i j * (one - gateAt l b i j))

/-! ## A point -/

/-- The gate from a block of the projection and of the bias. -/
abbrev rawGate (l : S256x2048.Idx → EReal) (b : S1x2048.Idx → EReal) (i : Fin 256) (j : Fin 2048) : EReal :=
  sg (l (ix2 i j) + b (ix2 (0 : Fin 1) j))

theorem gate_pay (l : Vec Ideal S256x2048 .bf16) (b : Vec Ideal S1x2048 .f32) (i : Fin 256) (j : Fin 2048) :
    (k0_pay2 (F := Ideal) l b (ix2 i j) : EReal) = sg (l (ix2 i j) + b (ix2 (0 : Fin 1) j)) := by
  refine (sg_sub _).trans (congrArg sg (congrArg₂ (fun x y : EReal => x + y) ?_ (broadcastTo_1b_ab_apply b _ i j)))
  exact congrFun (shapeCast_self l _) (ix2 i j)

theorem dgate_pay (d : Vec Ideal S256x2048 .f32) (l : Vec Ideal S256x2048 .bf16) (b : Vec Ideal S1x2048 .f32) (p : Vec Ideal S256x2048 .bf16)
    (i : Fin 256) (j : Fin 2048) :
    (k0_pay4 (F := Ideal) d l b p (ix2 i j) : EReal)
      = d (ix2 i j) * p (ix2 i j) * (sg (l (ix2 i j) + b (ix2 (0 : Fin 1) j)) * (one - sg (l (ix2 i j) + b (ix2 (0 : Fin 1) j)))) := by
  rw [← gate_pay, ← mul_assoc]
  have e : shapeCast S256x2048 p shapeCasts_S256x2048_S256x2048 = p := shapeCast_self p _
  show (d (ix2 i j) * shapeCast S256x2048 p shapeCasts_S256x2048_S256x2048 (ix2 i j) * k0_pay2 (F := Ideal) l b (ix2 i j) * (one - k0_pay2 (F := Ideal) l b (ix2 i j)) : EReal) = _
  rw [e]

/-- The sum over a point's rows, written into eight equal rows. -/
theorem sum_pay (d : Vec Ideal S256x2048 .f32) (l : Vec Ideal S256x2048 .bf16) (b : Vec Ideal S1x2048 .f32) (p : Vec Ideal S256x2048 .bf16)
    (i : Fin 8) (j : Fin 2048) :
    (k0_pay6 (F := Ideal) d l b p (ix2 i j) : EReal) = ∑ k : Fin 256, (k0_pay4 (F := Ideal) d l b p (ix2 k j) : EReal) := by
  unfold k0_pay6
  refine (broadcastTo_1b_ab_apply _ _ i j).trans ?_
  rw [shapeCast_self]
  refine (shapeCast_apply _ _ (ix2 (0 : Fin 1) j) (ix1 j) ?_).trans ?_
  · rw [Shape.rowMajor_val_one, Shape.rowMajor_val_two]
    show j.val = 0 * 2048 + j.val
    omega
  · exact Ideal.reduceAdd_r2_a0 (n0 := 256) (n1 := 2048) reduces_S256x2048_S2048 (k0_pay4 (F := Ideal) d l b p) (ix1 j)

section
variable (t : Fin cfg0.N) (i : Fin 256) (j : Fin 2048) (r : Fin 4352) (q : Fin 8192) (hr : r.val = t.val % 17 * 256 + i.val)
  (hq : q.val = t.val / 17 * 2048 + j.val)
include hr hq

theorem up_at : (iblk m c 0 t : S256x2048.Idx → EReal) (ix2 i j) = up m c (ix2 r (base q)) := by
  have hj := j.isLt
  rw [← V_up]
  blk_simp [iblk]
  refine congrArg _ (at2 ?_ ?_)
  · blk_simp [idx0]; exact hr.symm
  · refine Eq.trans (b := j.val) (by blk_simp [idx0]) ?_
    show _ = q.val % 2048
    omega

theorem br_at : (iblk m c 1 t : S256x2048.Idx → EReal) (ix2 i j) = br m c (ix2 r q) := by
  rw [← V_br]
  blk_simp [iblk]
  refine congrArg _ (at2 ?_ ?_)
  · blk_simp [idx1]; exact hr.symm
  · blk_simp [idx1]; exact hq.symm

theorem gate_at : rawGate (iblk m c 2 t) (iblk m c 3 t) i j
    = gateAt (proj m c) (bias m c) r q := by
  refine congrArg sg (congrArg₂ (fun x y : EReal => x + y) ?_ ?_)
  · rw [← V_proj]
    blk_simp [iblk]
    refine congrArg _ (at2 ?_ ?_)
    · blk_simp [idx2]; exact hr.symm
    · refine Eq.trans (b := (3 + t.val / 17) * 2048 + j.val) (by blk_simp [idx2]) ?_
      show _ = 6144 + q.val
      omega
  · rw [← V_bias]
    blk_simp [iblk]
    refine congrArg _ (at2 ?_ ?_)
    · refine Eq.trans (b := 0) (by blk_simp [idx3]) rfl
    · blk_simp [idx3]; exact hq.symm

theorem dbr_at : (k0_pay3 (F := Ideal) (iblk m c 0 t) (iblk m c 2 t) (iblk m c 3 t) (ix2 i j) : EReal) = dbr (up m c) (proj m c) (bias m c) r q :=
  congrArg₂ (fun x y : EReal => x * y) (up_at m c t i j r q hr hq) ((gate_pay _ _ i j).trans (gate_at m c t i j r q hr hq))

theorem dgate_at : (k0_pay4 (F := Ideal) (iblk m c 0 t) (iblk m c 2 t) (iblk m c 3 t) (iblk m c 1 t) (ix2 i j) : EReal)
    = dgate (up m c) (br m c) (proj m c) (bias m c) r q := by
  refine (dgate_pay _ _ _ _ i j).trans ?_
  refine congrArg₂ (fun x y : EReal => x * y) (congrArg₂ (fun x y : EReal => x * y) (up_at m c t i j r q hr hq) (br_at m c t i j r q hr hq)) ?_
  exact congrArg (fun x : EReal => x * (one - x)) (gate_at m c t i j r q hr hq)

end

/-! ## The call -/

/-- The first two results, written at every point. -/
theorem out_dbr (t : Fin cfg0.N) : (outsAt0 m c t.val t.isLt).1 = k0_pay3 (F := Ideal) (iblk m c 0 t) (iblk m c 2 t) (iblk m c 3 t) := by
  by_cases h0 : t.val % 17 = 0
  · rw [outsAt0_A m c t h0 (by omega)]
    frame_out
  · rw [outsAt0_B m c t h0 (by omega)]
    frame_out

theorem out_dgate (t : Fin cfg0.N) :
    (outsAt0 m c t.val t.isLt).2.1 = k0_pay5 (F := Ideal) (iblk m c 0 t) (iblk m c 2 t) (iblk m c 3 t) (iblk m c 1 t) := by
  by_cases h0 : t.val % 17 = 0
  · rw [outsAt0_A m c t h0 (by omega)]
    frame_out
  · rw [outsAt0_B m c t h0 (by omega)]
    frame_out

/-- What a point adds to the bias' gradient. -/
def term (t : Fin cfg0.N) : S8x2048.Idx → EReal := k0_pay6 (F := Ideal) (iblk m c 0 t) (iblk m c 2 t) (iblk m c 3 t) (iblk m c 1 t)

theorem acc_first (t : Fin cfg0.N) (h : t.val % 17 = 0) (y : S8x2048.Idx) :
    (outsAt0 m c t.val t.isLt).2.2 y = (0 : EReal) + term m c t y := by
  rw [outsAt0_A m c t h (by omega), zero_add]
  frame_out
  rfl

theorem acc_next (t : Fin cfg0.N) (h : ¬t.val % 17 = 0) (y : S8x2048.Idx) :
    (outsAt0 m c t.val t.isLt).2.2 y
      = ((outsAt0 m c (t.val - 1) (Nat.lt_of_le_of_lt (Nat.sub_le _ _) t.isLt)).2.2 y + term m c t y : EReal) := by
  rw [outsAt0_B m c t h (by omega)]
  frame_out
  unfold k0_pay1 term
  rw [shapeCast_self]
  rfl

theorem out_sum (t : Fin cfg0.N) (h : t.val % 17 = 16) (y : S8x2048.Idx) :
    (outsAt0 m c t.val t.isLt).2.2 y = ∑ s : Fin 17, term m c ⟨17 * (t.val / 17) + s.val, Pipeline.run_point_lt_of_flush t h s⟩ y :=
  (Pipeline.eq_sum_fin_of_reset_step_apply_of_flush (M := EReal) (fun n h => (outsAt0 m c n h).2.2) 17 (fun _ => 0) (term m c)
    (acc_first m c) (acc_next m c) t h y).trans (zero_add _)

theorem final4 : (dats m 0 c).arrAt 4 cfg0.N = fun i : (Mx 4352 8192).Idx => dbr (up m c) (proj m c) (bias m c) (i 0) (i 1) := by
  refine (dats m 0 c).arrAt_eq_of_covers 4 _ (by decide +kernel) fun t hf y => ?_
  blk_simp
  rw [after0_4, out_dbr]
  obtain ⟨i, j, rfl⟩ : ∃ (i : Fin 256) (j : Fin 2048), y = ix2 i j := ⟨_, _, eq_ix2 y⟩
  exact dbr_at m c t i j _ _ (by blk_simp [idx4]) (by blk_simp [idx4])

theorem final5 : (dats m 0 c).arrAt 5 cfg0.N = fun i : (Mx 4352 8192).Idx => dgate (up m c) (br m c) (proj m c) (bias m c) (i 0) (i 1) := by
  refine (dats m 0 c).arrAt_eq_of_covers 5 _ (by decide +kernel) fun t hf y => ?_
  blk_simp
  rw [after0_5, out_dgate]
  obtain ⟨i, j, rfl⟩ : ∃ (i : Fin 256) (j : Fin 2048), y = ix2 i j := ⟨_, _, eq_ix2 y⟩
  exact dgate_at m c t i j _ _ (by blk_simp [idx5]) (by blk_simp [idx5])

/-- A sum over all rows, from its parts. -/
theorem sum_rows (f : Fin 4352 → EReal) (g : Fin 17 → EReal) (h : Fin 17 → Fin 256 → EReal) (hg : ∀ s, g s = ∑ k, h s k)
    (hf : ∀ (s : Fin 17) (k : Fin 256) (r : Fin 4352), r.val = s.val * 256 + k.val → h s k = f r) : (∑ s, g s) = ∑ r, f r := by
  rw [Fin.sum_univ_tiles (N := 4352) 17 256 rfl f]
  exact Finset.sum_congr rfl fun s _ => (hg s).trans (Finset.sum_congr rfl fun k _ => hf s k _ rfl)

theorem final6 : (dats m 0 c).arrAt 6 cfg0.N
    = fun i : (Mx 8 8192).Idx => (∑ r : Fin 4352, dgate (up m c) (br m c) (proj m c) (bias m c) r (i 1) : EReal) := by
  refine (dats m 0 c).arrAt_eq_of_covers 6 _ (by decide +kernel) fun t hf y => ?_
  blk_simp
  have h3 : t.val % 17 = 16 := (flush0_6 t).mp hf
  have hN : t.val < 68 := t.isLt
  rw [after0_6, out_sum m c t h3]
  obtain ⟨i, j, rfl⟩ : ∃ (i : Fin 8) (j : Fin 2048), y = ix2 i j := ⟨_, _, eq_ix2 y⟩
  have h1 : (((win0_6.blk t).view.emb (ix2 i j) 1 : Fin 8192) : ℕ) = t.val / 17 * 2048 + j.val := by blk_simp [idx6]; rfl
  refine sum_rows _ _ _ (fun s => sum_pay _ _ _ _ i j) fun s k r hr => ?_
  have hs := s.isLt
  have hk := k.isLt
  refine dgate_at m c _ k j _ _ (hr.trans ?_) (h1.trans ?_)
  · show s.val * 256 + k.val = (17 * (t.val / 17) + s.val) % 17 * 256 + k.val
    omega
  · show t.val / 17 * 2048 + j.val = (17 * (t.val / 17) + s.val) / 17 * 2048 + j.val
    omega

/-! ## The claims -/

instance : Cert.Kernel14.Facts := Cert.Kernel14.Gen.facts
instance : Cert.Kernel14Ideal.Facts := Cert.Kernel14Ideal.Gen.facts
instance : Cert.Reference14Ideal.Facts := Cert.Reference14Ideal.Gen.facts

/-- The two printed texts give the same table of calls. -/
theorem defs_eq : Cert.Kernel14.defs (F := Bits) = Cert.Kernel14Ideal.defs (F := Bits) := by
  refine congrArg (Pipeline.defs (Cert.Kernel14Ideal.pcfgs (F := Bits))) ?_
  show Defs.onTc _ = Defs.onTc _
  refine congrArg Defs.onTc (funext fun l => ?_)
  match l with
  | 0 => funext x; obtain ⟨t, s⟩ := x; rfl

/-- The frames of the kernel: one run, at any floats. -/
theorem frame_kernel : Cert.quiescent_Kernel14 (hKernel14 := Cert.Kernel14.Gen.facts) := by
  intro m g _
  rw [defs_eq]
  exact Cert.Kernel14Ideal.Gen.frame (F := Bits) m g

theorem frame_kernelIdeal : Cert.quiescent_Kernel14Ideal (hKernel14Ideal := Cert.Kernel14Ideal.Gen.facts) := fun m g _ =>
  Cert.Kernel14Ideal.Gen.frame (F := Ideal) m g

/-- The frame of the reference. -/
theorem frame_reference : Cert.quiescent_Reference14Ideal (hReference14Ideal := Cert.Reference14Ideal.Gen.facts) := fun m g _ =>
  (θ_run Cert.Reference14Ideal.defs _ _).mono (fun r h => ⟨fun c => (h c).2.2.2, sem_eq_zero_of_no_sems (by decide) r.2⟩)
    (Cert.Reference14Ideal.Value.run (F := Ideal) m g)

/-- A piece of 2048 columns put at column `lo` of a row, zero elsewhere. -/
theorem spread (x : (Mx 4352 2048).Idx → EReal) {lo hi : ℕ} (hp : (Mx 4352 2048).Pads ![0, lo] ![0, hi] ![0, 0] (Mx 4352 8192))
    {u : Shape} (hu : 0 < u.numel) (i : Fin 4352) (f : Fin 8192 → EReal)
    (hx : ∀ (k : Fin 2048) (j : Fin 8192), j.val = lo + k.val → x (ix2 i k) = f j) (j : Fin 8192) :
    pad (Mx 4352 8192) ![0, lo] ![0, hi] ![0, 0] x (constant (F := Ideal) u .f32 (0x00000000#32 : BitVec 32)) hp hu (ix2 i j)
      = if lo ≤ j.val ∧ j.val < lo + 2048 then f j else 0 := by
  rw [pad_cols]
  by_cases hj : lo ≤ j.val ∧ j.val < lo + 2048
  · rw [dif_pos hj, if_pos hj]
    exact hx _ j (by show j.val = lo + (j.val - lo); omega)
  · rw [dif_neg hj, if_neg hj]; exact zero_word _ _

/-- Four such pieces added up, one for each branch. -/
theorem spread4 (x0 x1 x2 x3 : FVec Ideal (Mx 4352 2048) .f32) (h0 : (Mx 4352 2048).Pads ![0, 0] ![0, 6144] ![0, 0] (Mx 4352 8192))
    (h1 : (Mx 4352 2048).Pads ![0, 2048] ![0, 4096] ![0, 0] (Mx 4352 8192)) (h2 : (Mx 4352 2048).Pads ![0, 4096] ![0, 2048] ![0, 0] (Mx 4352 8192))
    (h3 : (Mx 4352 2048).Pads ![0, 6144] ![0, 0] ![0, 0] (Mx 4352 8192)) {u : Shape} (hu : 0 < u.numel) (i : Fin 4352) (f : Fin 8192 → EReal)
    (e0 : ∀ (k : Fin 2048) (j : Fin 8192), j.val = 0 + k.val → x0 (ix2 i k) = f j) (e1 : ∀ (k : Fin 2048) (j : Fin 8192), j.val = 2048 + k.val → x1 (ix2 i k) = f j)
    (e2 : ∀ (k : Fin 2048) (j : Fin 8192), j.val = 4096 + k.val → x2 (ix2 i k) = f j) (e3 : ∀ (k : Fin 2048) (j : Fin 8192), j.val = 6144 + k.val → x3 (ix2 i k) = f j)
    (j : Fin 8192) :
    addf (F := Ideal) (φ := .f32) (addf (addf (pad (Mx 4352 8192) ![0, 6144] ![0, 0] ![0, 0] x3 (constant (F := Ideal) u .f32 (0x00000000#32 : BitVec 32)) h3 hu)
      (pad (Mx 4352 8192) ![0, 4096] ![0, 2048] ![0, 0] x2 (constant (F := Ideal) u .f32 (0x00000000#32 : BitVec 32)) h2 hu))
      (pad (Mx 4352 8192) ![0, 2048] ![0, 4096] ![0, 0] x1 (constant (F := Ideal) u .f32 (0x00000000#32 : BitVec 32)) h1 hu))
      (pad (Mx 4352 8192) ![0, 0] ![0, 6144] ![0, 0] x0 (constant (F := Ideal) u .f32 (0x00000000#32 : BitVec 32)) h0 hu) (ix2 i j) = f j := by
  refine Eq.trans (congrArg₂ (fun x y : EReal => x + y) (congrArg₂ (fun x y : EReal => x + y) (congrArg₂ (fun x y : EReal => x + y)
    (spread x3 h3 hu i f e3 j) (spread x2 h2 hu i f e2 j)) (spread x1 h1 hu i f e1 j)) (spread x0 h0 hu i f e0 j)) ?_
  exact four_parts 2048 j.val (by have := j.isLt; omega) (f j)

section
variable (d : FVec Ideal (Mx 4352 2048) .f32) (p : FVec Ideal (Mx 4352 8192) .f32) {off : ℕ} (ho : off % 2048 = 0)
  (hs : (Mx 4352 8192).Slices ![0, off] (Mx 4352 2048)) (hc : (Mx 4352 2048).ShapeCasts (Mx 4352 2048)) (i : Fin 4352)
include ho

/-- A branch's part of the gates times the gradient … -/
theorem gate_part (x : (Mx 4352 8192).Idx → EReal) (f : Fin 8192 → EReal) (hx : ∀ j, x (ix2 i j) = f j) (k : Fin 2048) (j : Fin 8192) (hj : j.val = off + k.val) :
    mulf (F := Ideal) (φ := .f32) (extractStridedSlice (Mx 4352 2048) ![0, off] x hs) (shapeCast (Mx 4352 2048) d hc) (ix2 i k)
      = (d (ix2 i (base j)) * f j : EReal) := by
  have hk := k.isLt
  refine (mul_comm (_ : EReal) _).trans (congrArg₂ (fun x y : EReal => x * y) ?_ ?_)
  · exact (congrFun (shapeCast_self d hc) (ix2 i k)).trans (congrArg d (at2 rfl (by show k.val = j.val % 2048; omega)))
  · exact (slice2_axis1_apply off x hs i k j hj).trans (hx j)

/-- … and the gradient times a branch's product. -/
theorem br_part (k : Fin 2048) (j : Fin 8192) (hj : j.val = off + k.val) :
    mulf (F := Ideal) (φ := .f32) (shapeCast (Mx 4352 2048) d hc) (extractStridedSlice (Mx 4352 2048) ![0, off] p hs) (ix2 i k)
      = (d (ix2 i (base j)) * p (ix2 i j) : EReal) :=
  (mul_comm (_ : EReal) _).trans (gate_part d ho hs hc i p (fun j => p (ix2 i j)) (fun _ => rfl) k j hj)

end

/-- The gates' gradient in the reference. -/
theorem dgate_host (d : FVec Ideal (Mx 4352 2048) .f32) (p : FVec Ideal (Mx 4352 8192) .f32) (l : (Mx 4352 14336).Idx → EReal) (b : (Mx 1 8192).Idx → EReal)
    (x y o : FVec Ideal (Mx 4352 8192) .f32) (i : Fin 4352) (j : Fin 8192) (hx : x (ix2 i j) = d (ix2 i (base j)) * p (ix2 i j)) (hy : y (ix2 i j) = gateAt l b i j)
    (ho : o (ix2 i j) = one) : mulf x (mulf y (subf o y)) (ix2 i j) = dgate d p l b i j := by
  show (x (ix2 i j) * (y (ix2 i j) * (o (ix2 i j) - y (ix2 i j))) : EReal) = _
  rw [hx, hy, ho]

theorem algebraic : Cert.algebraic_Kernel14Ideal_Reference14Ideal (hKernel14Ideal := Cert.Kernel14Ideal.Gen.facts)
    (hReference14Ideal := Cert.Reference14Ideal.Gen.facts) := by
  intro m g m' g' _ hagree
  have hg := fun (c : Dev nD) (i : Fin 4352) (j : Fin 8192) => gate_host (proj m c) (bias m c) Cert.Reference14Ideal.Gen.slices_S4352x14336_S4352x8192_0_6144 Cert.Reference14Ideal.Gen.bcast_S1x8192_S4352x8192_0_1
      Cert.Reference14Ideal.Gen.bcast_S_S4352x8192 Cert.Reference14Ideal.Gen.bcast_S_S4352x8192 i j
  have hb := fun (c : Dev nD) (i : Fin 4352) (j : Fin 8192) => spread4 _ _ _ _ Cert.Reference14Ideal.Gen.pads_S4352x2048_S4352x8192_000_061440 Cert.Reference14Ideal.Gen.pads_S4352x2048_S4352x8192_000_204840960
      Cert.Reference14Ideal.Gen.pads_S4352x2048_S4352x8192_000_409620480 Cert.Reference14Ideal.Gen.pads_S4352x2048_S4352x8192_000_614400 Cert.Reference14Ideal.Gen.h_S_ i (fun j => up m c (ix2 i (base j)) * br m c (ix2 i j))
      (br_part (up m c) (br m c) (off := 0) rfl Cert.Reference14Ideal.Gen.slices_S4352x8192_S4352x2048_0_0 Cert.Reference14Ideal.Gen.shapeCasts_S4352x2048_S4352x2048 i)
      (br_part (up m c) (br m c) (off := 2048) rfl Cert.Reference14Ideal.Gen.slices_S4352x8192_S4352x2048_0_2048 Cert.Reference14Ideal.Gen.shapeCasts_S4352x2048_S4352x2048 i)
      (br_part (up m c) (br m c) (off := 4096) rfl Cert.Reference14Ideal.Gen.slices_S4352x8192_S4352x2048_0_4096 Cert.Reference14Ideal.Gen.shapeCasts_S4352x2048_S4352x2048 i)
      (br_part (up m c) (br m c) (off := 6144) rfl Cert.Reference14Ideal.Gen.slices_S4352x8192_S4352x2048_0_6144 Cert.Reference14Ideal.Gen.shapeCasts_S4352x2048_S4352x2048 i) j
  have hd := fun (c : Dev nD) (i : Fin 4352) (j : Fin 8192) => dgate_host (up m c) (br m c) (proj m c) (bias m c) _ _
      (broadcastInDim (Mx 4352 8192) ![] Cert.Reference14Ideal.Gen.bcast_S_S4352x8192 (constant (F := Ideal) ⟨0, ![]⟩ .f32 (0x3F800000#32 : BitVec 32))) i j (hb c i j) (hg c i j) rfl
  refine ⟨fun c => (dats m 0 c).arrAt 4 cfg0.N, fun c => (dats m 0 c).arrAt 5 cfg0.N, fun c => (dats m 0 c).arrAt 6 cfg0.N, Cert.Kernel14Ideal.Value.run_blocks m g, ?_⟩
  refine (θ_run Cert.Reference14Ideal.defs _ _).mono (fun _ h c => ?_) (Cert.Reference14Ideal.Value.run (F := Ideal) m' g')
  refine ⟨(h c).1.trans ?_, (h c).2.1.trans ?_, (h c).2.2.1.trans ?_, (h c).2.2.2⟩ <;> clear h
  · rw [(hagree c).1, (hagree c).2.2.1, (hagree c).2.2.2]
    refine Eq.trans (funext fun y => ?_) (final4 m c).symm
    obtain ⟨i, j, rfl⟩ : ∃ (i : Fin 4352) (j : Fin 8192), y = ix2 i j := ⟨_, _, eq_ix2 y⟩
    exact spread4 _ _ _ _ Cert.Reference14Ideal.Gen.pads_S4352x2048_S4352x8192_000_061440 Cert.Reference14Ideal.Gen.pads_S4352x2048_S4352x8192_000_204840960
      Cert.Reference14Ideal.Gen.pads_S4352x2048_S4352x8192_000_409620480 Cert.Reference14Ideal.Gen.pads_S4352x2048_S4352x8192_000_614400 Cert.Reference14Ideal.Gen.h_S_ i (dbr (up m c) (proj m c) (bias m c) i)
      (gate_part (up m c) (off := 0) rfl Cert.Reference14Ideal.Gen.slices_S4352x8192_S4352x2048_0_0 Cert.Reference14Ideal.Gen.shapeCasts_S4352x2048_S4352x2048 i _ _ (hg c i))
      (gate_part (up m c) (off := 2048) rfl Cert.Reference14Ideal.Gen.slices_S4352x8192_S4352x2048_0_2048 Cert.Reference14Ideal.Gen.shapeCasts_S4352x2048_S4352x2048 i _ _ (hg c i))
      (gate_part (up m c) (off := 4096) rfl Cert.Reference14Ideal.Gen.slices_S4352x8192_S4352x2048_0_4096 Cert.Reference14Ideal.Gen.shapeCasts_S4352x2048_S4352x2048 i _ _ (hg c i))
      (gate_part (up m c) (off := 6144) rfl Cert.Reference14Ideal.Gen.slices_S4352x8192_S4352x2048_0_6144 Cert.Reference14Ideal.Gen.shapeCasts_S4352x2048_S4352x2048 i _ _ (hg c i)) j
  · rw [(hagree c).1, (hagree c).2.1, (hagree c).2.2.1, (hagree c).2.2.2]
    refine Eq.trans (funext fun y => ?_) (final5 m c).symm
    obtain ⟨i, j, rfl⟩ : ∃ (i : Fin 4352) (j : Fin 8192), y = ix2 i j := ⟨_, _, eq_ix2 y⟩
    exact hd c i j
  · rw [(hagree c).1, (hagree c).2.1, (hagree c).2.2.1, (hagree c).2.2.2]
    refine Eq.trans (funext fun y => ?_) (final6 m c).symm
    obtain ⟨i, j, rfl⟩ : ∃ (i : Fin 8) (j : Fin 8192), y = ix2 i j := ⟨_, _, eq_ix2 y⟩
    refine (broadcastInDim_apply _ _ _ _ (ix2 (0 : Fin 1) j) fun d => ?_).trans ?_
    · match d with
      | ⟨0, _⟩ => rfl
      | ⟨1, _⟩ => rfl
    refine (shapeCast_apply _ _ (ix2 (0 : Fin 1) j) (ix1 j) ?_).trans ?_
    · rw [Shape.rowMajor_val_one, Shape.rowMajor_val_two]
      show j.val = 0 * 8192 + j.val
      omega
    refine (Ideal.hostReduceAdd_r2_a0 (n0 := 4352) (n1 := 8192) Cert.Reference14Ideal.Gen.reducesTo_S4352x8192_S8192_d0 _ _ (ix1 j)).trans ?_
    refine Eq.trans (congrArg₂ (fun x y : EReal => x + y) (zero_word _ _) (Finset.sum_congr rfl fun k _ => hd c k j)) (zero_add _)

end Cert.Kernel14Ideal.Prod

end
-- ==== Proof.Prod.GateCols.lean ====
/-
  The four branches' gate inputs: 512 columns of the projection at each of four places, put side by side.
-/
module

public import proofs.«01_k».proof.Proof.Prod.Gate

@[expose] public section

noncomputable section

namespace Cert.Prod

open Idealize.ShloMosaic
open Idealize.ShloMosaic.ValueIdx
open scoped BigOperators

/-- The column of the projection that is column `j` of the gate inputs. -/
def gcol (j : Fin 2048) : Fin 14336 :=
  ⟨(if j.val < 512 then 1536 else if j.val < 1024 then 2048 else if j.val < 1536 then 3584 else 4096) + j.val, by
    have := j.isLt
    split
    · omega
    · split
      · omega
      · split <;> omega⟩

theorem gcol0 {j : Fin 2048} {k : ℕ} (h : j.val = k) (hk : k < 512) : (gcol j).val = 1536 + k := by
  show (if _ then _ else _) + _ = _
  rw [if_pos (by omega)]; omega
theorem gcol1 {j : Fin 2048} {k : ℕ} (h : j.val = 512 + k) (hk : k < 512) : (gcol j).val = 2560 + k := by
  show (if _ then _ else _) + _ = _
  rw [if_neg (by omega), if_pos (by omega)]; omega
theorem gcol2 {j : Fin 2048} {k : ℕ} (h : j.val = 2 * 512 + k) (hk : k < 512) : (gcol j).val = 4608 + k := by
  show (if _ then _ else _) + _ = _
  rw [if_neg (by omega), if_neg (by omega), if_pos (by omega)]; omega
theorem gcol3 {j : Fin 2048} {k : ℕ} (h : j.val = 3 * 512 + k) (hk : k < 512) : (gcol j).val = 5632 + k := by
  show (if _ then _ else _) + _ = _
  rw [if_neg (by omega), if_neg (by omega), if_neg (by omega)]; omega

/-- Four blocks side by side, each from its place of the projection's row `r`. -/
theorem gates_blocks {a : ℕ} (p : (Mx 4352 14336).Idx → EReal) (r : Fin 4352) (i : Fin a) (z0 z1 z2 z3 : (Mx a 512).Idx → EReal)
    (h : Shape.Concatenates (List.map (fun x => x.fst) [(⟨Mx a 512, z0⟩ : (s : Shape) × (s.Idx → EReal)), ⟨Mx a 512, z1⟩, ⟨Mx a 512, z2⟩, ⟨Mx a 512, z3⟩]) (Mx a 2048) 1)
    (h0 : ∀ (k : Fin 512) (q : Fin 14336), q.val = 1536 + k.val → z0 (ix2 i k) = p (ix2 r q))
    (h1 : ∀ (k : Fin 512) (q : Fin 14336), q.val = 2560 + k.val → z1 (ix2 i k) = p (ix2 r q))
    (h2 : ∀ (k : Fin 512) (q : Fin 14336), q.val = 4608 + k.val → z2 (ix2 i k) = p (ix2 r q))
    (h3 : ∀ (k : Fin 512) (q : Fin 14336), q.val = 5632 + k.val → z3 (ix2 i k) = p (ix2 r q)) (j : Fin 2048) :
    concatenate (Mx a 2048) 1 [⟨Mx a 512, z0⟩, ⟨Mx a 512, z1⟩, ⟨Mx a 512, z2⟩, ⟨Mx a 512, z3⟩] h (ix2 i j) = p (ix2 r (gcol j)) :=
  concat4_eq z0 z1 z2 z3 h rfl i (fun j => p (ix2 r (gcol j))) (fun k j e => h0 k _ (gcol0 e k.isLt)) (fun k j e => h1 k _ (gcol1 e k.isLt))
    (fun k j e => h2 k _ (gcol2 e k.isLt)) (fun k j e => h3 k _ (gcol3 e k.isLt)) j

/-- The host's four slices side by side. -/
theorem gates_host (p : (Mx 4352 14336).Idx → EReal) (h0 : (Mx 4352 14336).Slices ![0, 1536] (Mx 4352 512)) (h1 : (Mx 4352 14336).Slices ![0, 2560] (Mx 4352 512))
    (h2 : (Mx 4352 14336).Slices ![0, 4608] (Mx 4352 512)) (h3 : (Mx 4352 14336).Slices ![0, 5632] (Mx 4352 512)) (h) (i : Fin 4352) (j : Fin 2048) :
    concatenate (Mx 4352 2048) 1 [⟨Mx 4352 512, extractStridedSlice (Mx 4352 512) ![0, 1536] p h0⟩, ⟨Mx 4352 512, extractStridedSlice (Mx 4352 512) ![0, 2560] p h1⟩,
      ⟨Mx 4352 512, extractStridedSlice (Mx 4352 512) ![0, 4608] p h2⟩, ⟨Mx 4352 512, extractStridedSlice (Mx 4352 512) ![0, 5632] p h3⟩] h (ix2 i j)
      = p (ix2 i (gcol j)) :=
  gates_blocks p i i _ _ _ _ h (fun k q e => slice2_axis1_apply _ p h0 i k q e) (fun k q e => slice2_axis1_apply _ p h1 i k q e)
    (fun k q e => slice2_axis1_apply _ p h2 i k q e) (fun k q e => slice2_axis1_apply _ p h3 i k q e) j

end Cert.Prod

end
-- ==== Proof.Prod.GateAct.lean ====
/-
  The branches' outputs times their gates.
-/
module

public import proofs.«01_k».proof.Defs
public import proofs.«01_k».proof.Proof.Gen.Kernel15
public import proofs.«01_k».proof.Proof.Gen.Kernel15Ideal.Value
public import proofs.«01_k».proof.Proof.Gen.Reference15Ideal.Run
public import proofs.«01_k».proof.Proof.Prod.GateCols
public import Idealize.ShloMosaic.Lib.Pipeline.ValueKit.Geometry
public import Idealize.ShloMosaic.Lib.Pipeline.ValueKit.Acc
public import Idealize.ShloMosaic.Lib.StableHlo.Run
public import Idealize.ShloMosaic.Lib.Quiescent
public import Idealize.ShloMosaic.Lib.Pipeline.ReadBack

@[expose] public section

noncomputable section

namespace Cert.Kernel15Ideal.Prod

open Idealize.ShloMosaic
open Idealize.ShloMosaic.ValueIdx Idealize.ShloMosaic.TcCoe Idealize.SL.Sem
open Idealize.ShloMosaic.Pipeline (Dat)
open Cert.Kernel15Ideal Cert.Kernel15Ideal.Gen Cert.Prod
open scoped BigOperators

variable (m : (ℓ : Loc nD τ sig) → Buf (Elt Ideal) ℓ) (c : Dev nD)

/-- The arguments: the branches' outputs and the projection. -/
abbrev outs : (Mx 4352 2048).Idx → EReal := m ((c.tc : Thread nD τ).loc main_arg0)
abbrev proj : (Mx 4352 14336).Idx → EReal := m ((c.tc : Thread nD τ).loc main_arg1)

/-- The call reads them as given. -/
theorem V_outs : (V m c main_arg0 : (Mx 4352 2048).Idx → EReal) = outs m c := by
  unfold V; after_results <;> rfl
theorem V_proj : (V m c main_v0 : (Mx 4352 14336).Idx → EReal) = proj m c := by
  unfold V; after_results <;> rfl

/-- All windows walk through blocks of 256 rows; four of them stand at the branches' gate inputs. -/
theorem idx0 : ∀ t : Fin cfg0.N, win0_0.index t = ![t.val, 0] := (by decide +kernel : ∀ t : Fin grid0.N, _)
theorem idx1 : ∀ t : Fin cfg0.N, win0_1.index t = ![t.val, 3] := (by decide +kernel : ∀ t : Fin grid0.N, _)
theorem idx2 : ∀ t : Fin cfg0.N, win0_2.index t = ![t.val, 5] := (by decide +kernel : ∀ t : Fin grid0.N, _)
theorem idx3 : ∀ t : Fin cfg0.N, win0_3.index t = ![t.val, 9] := (by decide +kernel : ∀ t : Fin grid0.N, _)
theorem idx4 : ∀ t : Fin cfg0.N, win0_4.index t = ![t.val, 11] := (by decide +kernel : ∀ t : Fin grid0.N, _)
theorem idx5 : ∀ t : Fin cfg0.N, win0_5.index t = ![t.val, 0] := (by decide +kernel : ∀ t : Fin grid0.N, _)

section
variable (t : Fin cfg0.N) (i : Fin 256) (k : Fin 512) (r : Fin 4352) (hr : r.val = t.val * 256 + i.val) (q : Fin 14336)
include hr

theorem z0_at (hq : q.val = 1536 + k.val) : (iblk m c 1 t : S256x512.Idx → EReal) (ix2 i k) = proj m c (ix2 r q) := by
  rw [← V_proj]; blk_simp [iblk]
  refine congrArg _ (at2 ?_ ?_) <;> blk_simp [idx1] <;> first | exact hr.symm | exact hq.symm
theorem z1_at (hq : q.val = 2560 + k.val) : (iblk m c 2 t : S256x512.Idx → EReal) (ix2 i k) = proj m c (ix2 r q) := by
  rw [← V_proj]; blk_simp [iblk]
  refine congrArg _ (at2 ?_ ?_) <;> blk_simp [idx2] <;> first | exact hr.symm | exact hq.symm
theorem z2_at (hq : q.val = 4608 + k.val) : (iblk m c 3 t : S256x512.Idx → EReal) (ix2 i k) = proj m c (ix2 r q) := by
  rw [← V_proj]; blk_simp [iblk]
  refine congrArg _ (at2 ?_ ?_) <;> blk_simp [idx3] <;> first | exact hr.symm | exact hq.symm
theorem z3_at (hq : q.val = 5632 + k.val) : (iblk m c 4 t : S256x512.Idx → EReal) (ix2 i k) = proj m c (ix2 r q) := by
  rw [← V_proj]; blk_simp [iblk]
  refine congrArg _ (at2 ?_ ?_) <;> blk_simp [idx4] <;> first | exact hr.symm | exact hq.symm

theorem o_at (j : Fin 2048) : (iblk m c 0 t : S256x2048.Idx → EReal) (ix2 i j) = outs m c (ix2 r j) := by
  rw [← V_outs]; blk_simp [iblk]
  refine congrArg _ (at2 ?_ ?_) <;> blk_simp [idx0]
  exact hr.symm

end

/-- The gated outputs. -/
abbrev gatedAt (o : (Mx 4352 2048).Idx → EReal) (p : (Mx 4352 14336).Idx → EReal) (i : Fin 4352) (j : Fin 2048) : EReal :=
  o (ix2 i j) * (p (ix2 i (gcol j)) * sg (p (ix2 i (gcol j))))

theorem gated_of {x z x' z' : EReal} (hx : x = x') (hz : z = z') :
    x * (z * Ideal.div one (one + Ideal.exp (Ideal.ofBits .f32 0x00000000#32 - z))) = x' * (z' * sg z') := by
  rw [sg_sub, hx, hz]

theorem host_of {x z z' : EReal} (hz : z = z') : x * (z * Ideal.div one (one + Ideal.exp (-z))) = x * (z' * sg z') := by
  rw [hz]; rfl

/-- What a point writes. -/
theorem out_apply (t : Fin cfg0.N) (i : Fin 256) (j : Fin 2048) (r : Fin 4352) (hr : r.val = t.val * 256 + i.val) :
    (out0_5 (F := Ideal) (iblk m c 0 t) (iblk m c 1 t) (iblk m c 2 t) (iblk m c 3 t) (iblk m c 4 t) (ix2 i j) : EReal)
      = gatedAt (outs m c) (proj m c) r j := by
  have e : out0_5 (F := Ideal) (iblk m c 0 t) (iblk m c 1 t) (iblk m c 2 t) (iblk m c 3 t) (iblk m c 4 t)
      = k0_pay1 (iblk m c 0 t) (iblk m c 1 t) (iblk m c 2 t) (iblk m c 3 t) (iblk m c 4 t) := by frame_out
  rw [e]
  refine gated_of (o_at m c t i r hr j) (gates_blocks (proj m c) r i _ _ _ _ concatenates_S256x512_S256x512_S256x512_S256x512_S256x2048_d1
    (fun k q h => ?_) (fun k q h => ?_) (fun k q h => ?_) (fun k q h => ?_) j)
  · exact (congrFun (shapeCast_self _ _) _).trans (z0_at m c t i k r hr q h)
  · exact (congrFun (shapeCast_self _ _) _).trans (z1_at m c t i k r hr q h)
  · exact (congrFun (shapeCast_self _ _) _).trans (z2_at m c t i k r hr q h)
  · exact (congrFun (shapeCast_self _ _) _).trans (z3_at m c t i k r hr q h)

/-- The array after the call. -/
theorem final : (dats m 0 c).arrAt 5 cfg0.N = fun i : (Mx 4352 2048).Idx => gatedAt (outs m c) (proj m c) (i 0) (i 1) := by
  refine (dats m 0 c).arrAt_eq_of_covers 5 _ (by decide +kernel) fun t hf y => ?_
  blk_simp
  rw [after0_5]
  obtain ⟨i, j, rfl⟩ : ∃ (i : Fin 256) (j : Fin 2048), y = ix2 i j := ⟨_, _, eq_ix2 y⟩
  refine (out_apply m c t i j ((win0_5.blk t).view.emb (ix2 i j) 0) (by blk_simp [idx5]; rfl)).trans ?_
  have e : ((win0_5.blk t).view.emb (ix2 i j) 1 : Fin 2048) = j := Fin.ext (by blk_simp [idx5]; rfl)
  show _ = gatedAt _ _ _ ((win0_5.blk t).view.emb (ix2 i j) 1 : Fin 2048)
  rw [e]

/-! ## The claims -/

instance : Cert.Kernel15.Facts := Cert.Kernel15.Gen.facts
instance : Cert.Kernel15Ideal.Facts := Cert.Kernel15Ideal.Gen.facts
instance : Cert.Reference15Ideal.Facts := Cert.Reference15Ideal.Gen.facts

/-- The two printed texts give the same table of calls. -/
theorem defs_eq : Cert.Kernel15.defs (F := Bits) = Cert.Kernel15Ideal.defs (F := Bits) := by
  refine congrArg (Pipeline.defs (Cert.Kernel15Ideal.pcfgs (F := Bits))) ?_
  show Defs.onTc _ = Defs.onTc _
  refine congrArg Defs.onTc (funext fun l => ?_)
  match l with
  | 0 => funext x; obtain ⟨t, s⟩ := x; rfl

/-- The frames of the kernel: one run, at any floats. -/
theorem frame_kernel : Cert.quiescent_Kernel15 (hKernel15 := Cert.Kernel15.Gen.facts) := by
  intro m g _
  rw [defs_eq]
  exact Cert.Kernel15Ideal.Gen.frame (F := Bits) m g

theorem frame_kernelIdeal : Cert.quiescent_Kernel15Ideal (hKernel15Ideal := Cert.Kernel15Ideal.Gen.facts) := fun m g _ =>
  Cert.Kernel15Ideal.Gen.frame (F := Ideal) m g

/-- The frame of the reference. -/
theorem frame_reference : Cert.quiescent_Reference15Ideal (hReference15Ideal := Cert.Reference15Ideal.Gen.facts) := fun m g _ =>
  (θ_run Cert.Reference15Ideal.defs _ _).mono (fun r h => ⟨fun c => (h c).2, sem_eq_zero_of_no_sems (by decide) r.2⟩)
    (Cert.Reference15Ideal.Value.run (F := Ideal) m g)

theorem algebraic : Cert.algebraic_Kernel15Ideal_Reference15Ideal (hKernel15Ideal := Cert.Kernel15Ideal.Gen.facts)
    (hReference15Ideal := Cert.Reference15Ideal.Gen.facts) := by
  intro m g m' g' _ hagree
  refine ⟨fun c => (dats m 0 c).arrAt 5 cfg0.N, Cert.Kernel15Ideal.Value.run_blocks m g, ?_⟩
  refine (θ_run Cert.Reference15Ideal.defs _ _).mono (fun _ h c => ⟨(h c).1.trans ?_, (h c).2⟩)
    (Cert.Reference15Ideal.Value.run (F := Ideal) m' g')
  clear h
  rw [(hagree c).1, (hagree c).2]
  refine Eq.trans (funext fun y => ?_) (final m c).symm
  obtain ⟨i, j, rfl⟩ : ∃ (i : Fin 4352) (j : Fin 2048), y = ix2 i j := ⟨_, _, eq_ix2 y⟩
  exact host_of (gates_host (proj m c) Cert.Reference15Ideal.Gen.slices_S4352x14336_S4352x512_0_1536 Cert.Reference15Ideal.Gen.slices_S4352x14336_S4352x512_0_2560
    Cert.Reference15Ideal.Gen.slices_S4352x14336_S4352x512_0_4608 Cert.Reference15Ideal.Gen.slices_S4352x14336_S4352x512_0_5632
    Cert.Reference15Ideal.Gen.concatenates_S4352x512_S4352x512_S4352x512_S4352x512_S4352x2048_d1 i j)

end Cert.Kernel15Ideal.Prod

end
-- ==== Proof.Prod.Adam.lean ====
/-
  One step of the optimiser on an entry of a weight: the new running means and the change.
-/
module

public import proofs.«01_k».proof.Proof.Prod.Dots
public import Idealize.ShloMosaic.Lib.StableHlo.Run

@[expose] public section

noncomputable section

namespace Cert.Prod

open Idealize.ShloMosaic

/-- The number of a word. -/
abbrev num (b : BitVec 32) : EReal := Ideal.ofBits .f32 b

/-- The running mean of the gradient and of its square. -/
def newM (g m : EReal) : EReal := num 0x3F666666#32 * m + num 0x3DCCCCCD#32 * g
def newV (g v : EReal) : EReal := num 0x3F7FBE77#32 * v + num 0x3A83126F#32 * (g * g)

/-- The change of a weight. -/
def delta (w g m v : EReal) : EReal :=
  num 0xBA83126F#32 * (Ideal.div (Ideal.div (newM g m) (num 0x3F26BD02#32))
    (Ideal.sqrt (Ideal.div (newV g v) (num 0x3C231ACC#32)) + num 0x322BCC77#32) + num 0x3C23D70A#32 * w)

section
variable {s : Shape} (w g m v : FVec Ideal s .f32)

/-- A number written into every entry of an array, on the host. -/
abbrev all (h : (⟨0, ![]⟩ : Shape).BroadcastsInDim s ![]) (b : BitVec 32) : FVec Ideal s .f32 :=
  broadcastInDim s ![] h (constant (F := Ideal) ⟨0, ![]⟩ .f32 b)

variable (h : (⟨0, ![]⟩ : Shape).BroadcastsInDim s ![])

/-- The three arrays as the host computes them. -/
abbrev hostM : FVec Ideal s .f32 := addf (mulf (all h 0x3F666666#32) m) (mulf (all h 0x3DCCCCCD#32) g)
abbrev hostV : FVec Ideal s .f32 := addf (mulf (all h 0x3F7FBE77#32) v) (mulf (all h 0x3A83126F#32) (mulf g g))
abbrev hostDelta : FVec Ideal s .f32 :=
  mulf (all h 0xBA83126F#32) (addf (Host.divf (Host.divf (hostM g m h) (all h 0x3F26BD02#32))
    (addf (Host.sqrt (Host.divf (hostV g v h) (all h 0x3C231ACC#32))) (all h 0x322BCC77#32))) (mulf (all h 0x3C23D70A#32) w))

theorem hostM_apply (i : s.Idx) : hostM g m h i = newM (g i) (m i) := rfl
theorem hostV_apply (i : s.Idx) : hostV g v h i = newV (g i) (v i) := rfl
theorem hostDelta_apply (i : s.Idx) : hostDelta w g m v h i = delta (w i) (g i) (m i) (v i) := rfl

end

end Cert.Prod

end
-- ==== Proof.Prod.AdamW_in.lean ====
/-
  The optimiser's step on w_in, its rows one after the other.
-/
module

public import proofs.«01_k».proof.Defs
public import proofs.«01_k».proof.Proof.Gen.Kernel17
public import proofs.«01_k».proof.Proof.Gen.Kernel17Ideal.Value
public import proofs.«01_k».proof.Proof.Gen.Reference17Ideal.Run
public import proofs.«01_k».proof.Proof.Prod.Adam
public import Idealize.ShloMosaic.Lib.Pipeline.ValueKit.Geometry
public import Idealize.ShloMosaic.Lib.Pipeline.ValueKit.Acc
public import Idealize.ShloMosaic.Lib.StableHlo.Run
public import Idealize.ShloMosaic.Lib.Quiescent
public import Idealize.ShloMosaic.Lib.Pipeline.ReadBack

@[expose] public section

noncomputable section

namespace Cert.Kernel17Ideal.Prod

open Idealize.ShloMosaic
open Idealize.ShloMosaic.ValueIdx Idealize.ShloMosaic.TcCoe Idealize.SL.Sem
open Idealize.ShloMosaic.Pipeline (Dat)
open Cert.Kernel17Ideal Cert.Kernel17Ideal.Gen Cert.Prod
open scoped BigOperators

variable (m : (ℓ : Loc nD τ sig) → Buf (Elt Ideal) ℓ) (c : Dev nD)

/-- The arguments: the weight, its gradient and the two running means, as the call reads them. -/
abbrev wt : (Mx 8192 3584).Idx → EReal := shapeCast S8192x3584 (m ((c.tc : Thread nD τ).loc main_arg0)) shapeCasts_S4x2048x3584_S8192x3584
abbrev gr : (Mx 8192 3584).Idx → EReal := shapeCast S8192x3584 (m ((c.tc : Thread nD τ).loc main_arg1)) shapeCasts_S4x2048x3584_S8192x3584
abbrev mo : (Mx 8192 3584).Idx → EReal := shapeCast S8192x3584 (m ((c.tc : Thread nD τ).loc main_arg2)) shapeCasts_S4x2048x3584_S8192x3584
abbrev va : (Mx 8192 3584).Idx → EReal := shapeCast S8192x3584 (m ((c.tc : Thread nD τ).loc main_arg3)) shapeCasts_S4x2048x3584_S8192x3584

theorem V_wt : (V m c main_v0 : (Mx 8192 3584).Idx → EReal) = wt m c := by
  unfold V; after_results <;> rfl
theorem V_gr : (V m c main_v1 : (Mx 8192 3584).Idx → EReal) = gr m c := by
  unfold V; after_results <;> rfl
theorem V_mo : (V m c main_v2 : (Mx 8192 3584).Idx → EReal) = mo m c := by
  unfold V; after_results <;> rfl
theorem V_va : (V m c main_v3 : (Mx 8192 3584).Idx → EReal) = va m c := by
  unfold V; after_results <;> rfl

/-- What a point computes. -/
theorem out4 (w g a v : Vec Ideal S64x3584 .f32) (y : S64x3584.Idx) : (out0_4 (F := Ideal) w g a v y : EReal) = delta (w y) (g y) (a y) (v y) := by
  have e : out0_4 (F := Ideal) w g a v = k0_pay4 w g a v := by frame_out
  rw [e]
  unfold k0_pay4 k0_pay3 k0_pay2 k0_pay1
  simp only [shapeCast_self]
  rfl

theorem out5 (w g a v : Vec Ideal S64x3584 .f32) (y : S64x3584.Idx) : (out0_5 (F := Ideal) w g a v y : EReal) = newM (g y) (a y) := by
  have e : out0_5 (F := Ideal) w g a v = k0_pay2 g a := by frame_out
  rw [e]
  unfold k0_pay2 k0_pay1
  simp only [shapeCast_self]
  rfl

theorem out6 (w g a v : Vec Ideal S64x3584 .f32) (y : S64x3584.Idx) : (out0_6 (F := Ideal) w g a v y : EReal) = newV (g y) (v y) := by
  have e : out0_6 (F := Ideal) w g a v = k0_pay3 g v := by frame_out
  rw [e]
  unfold k0_pay3 k0_pay1
  simp only [shapeCast_self]
  rfl

/-- All windows walk through the rows together. -/
theorem wt_at (t : Fin cfg0.N) (y : S64x3584.Idx) : (iblk m c 0 t : S64x3584.Idx → EReal) y = wt m c ((win0_4.blk t).view.emb y) := by
  rw [← V_wt]; blk_simp [iblk]; rfl
theorem gr_at (t : Fin cfg0.N) (y : S64x3584.Idx) : (iblk m c 1 t : S64x3584.Idx → EReal) y = gr m c ((win0_4.blk t).view.emb y) := by
  rw [← V_gr]; blk_simp [iblk]; rfl
theorem mo_at (t : Fin cfg0.N) (y : S64x3584.Idx) : (iblk m c 2 t : S64x3584.Idx → EReal) y = mo m c ((win0_4.blk t).view.emb y) := by
  rw [← V_mo]; blk_simp [iblk]; rfl
theorem va_at (t : Fin cfg0.N) (y : S64x3584.Idx) : (iblk m c 3 t : S64x3584.Idx → EReal) y = va m c ((win0_4.blk t).view.emb y) := by
  rw [← V_va]; blk_simp [iblk]; rfl

/-- The three arrays after the call. -/
theorem final4 : (dats m 0 c).arrAt 4 cfg0.N = fun i : (Mx 8192 3584).Idx => delta (wt m c i) (gr m c i) (mo m c i) (va m c i) := by
  refine (dats m 0 c).arrAt_eq_of_covers 4 _ (by decide +kernel) fun t hf y => ?_
  blk_simp
  rw [after0_4]
  refine (out4 _ _ _ _ y).trans ?_
  rw [wt_at, gr_at, mo_at, va_at]

theorem final5 : (dats m 0 c).arrAt 5 cfg0.N = fun i : (Mx 8192 3584).Idx => newM (gr m c i) (mo m c i) := by
  refine (dats m 0 c).arrAt_eq_of_covers 5 _ (by decide +kernel) fun t hf y => ?_
  blk_simp
  rw [after0_5]
  refine (out5 _ _ _ _ y).trans ?_
  rw [gr_at, mo_at]
  rfl

theorem final6 : (dats m 0 c).arrAt 6 cfg0.N = fun i : (Mx 8192 3584).Idx => newV (gr m c i) (va m c i) := by
  refine (dats m 0 c).arrAt_eq_of_covers 6 _ (by decide +kernel) fun t hf y => ?_
  blk_simp
  rw [after0_6]
  refine (out6 _ _ _ _ y).trans ?_
  rw [gr_at, va_at]
  rfl

/-! ## The claims -/

instance : Cert.Kernel17.Facts := Cert.Kernel17.Gen.facts
instance : Cert.Kernel17Ideal.Facts := Cert.Kernel17Ideal.Gen.facts
instance : Cert.Reference17Ideal.Facts := Cert.Reference17Ideal.Gen.facts

/-- The two printed texts give the same table of calls. -/
theorem defs_eq : Cert.Kernel17.defs (F := Bits) = Cert.Kernel17Ideal.defs (F := Bits) := by
  refine congrArg (Pipeline.defs (Cert.Kernel17Ideal.pcfgs (F := Bits))) ?_
  show Defs.onTc _ = Defs.onTc _
  refine congrArg Defs.onTc (funext fun l => ?_)
  match l with
  | 0 => funext x; obtain ⟨t, s⟩ := x; rfl

/-- The frames of the kernel: one run, at any floats. -/
theorem frame_kernel : Cert.quiescent_Kernel17 (hKernel17 := Cert.Kernel17.Gen.facts) := by
  intro m g _
  rw [defs_eq]
  exact Cert.Kernel17Ideal.Gen.frame (F := Bits) m g

theorem frame_kernelIdeal : Cert.quiescent_Kernel17Ideal (hKernel17Ideal := Cert.Kernel17Ideal.Gen.facts) := fun m g _ =>
  Cert.Kernel17Ideal.Gen.frame (F := Ideal) m g

/-- The frame of the reference. -/
theorem frame_reference : Cert.quiescent_Reference17Ideal (hReference17Ideal := Cert.Reference17Ideal.Gen.facts) := fun m g _ =>
  (θ_run Cert.Reference17Ideal.defs _ _).mono (fun r h => ⟨fun c => (h c).2.2.2, sem_eq_zero_of_no_sems (by decide) r.2⟩)
    (Cert.Reference17Ideal.Value.run (F := Ideal) m g)

theorem algebraic : Cert.algebraic_Kernel17Ideal_Reference17Ideal (hKernel17Ideal := Cert.Kernel17Ideal.Gen.facts)
    (hReference17Ideal := Cert.Reference17Ideal.Gen.facts) := by
  intro m g m' g' _ hagree
  refine ⟨fun c => (dats m 0 c).arrAt 4 cfg0.N, fun c => (dats m 0 c).arrAt 5 cfg0.N, fun c => (dats m 0 c).arrAt 6 cfg0.N, Cert.Kernel17Ideal.Value.run_blocks m g, ?_⟩
  refine (θ_run Cert.Reference17Ideal.defs _ _).mono (fun _ h c => ⟨(h c).1.trans ?_, (h c).2.1.trans ?_, (h c).2.2.1.trans ?_, (h c).2.2.2⟩)
    (Cert.Reference17Ideal.Value.run (F := Ideal) m' g') <;> clear h
  · rw [(hagree c).1, (hagree c).2.1, (hagree c).2.2.1, (hagree c).2.2.2]
    exact Eq.trans (funext fun i => hostDelta_apply _ _ _ _ _ _) (final4 m c).symm
  · rw [(hagree c).2.1, (hagree c).2.2.1]
    exact Eq.trans (funext fun i => hostM_apply _ _ _ _) (final5 m c).symm
  · rw [(hagree c).2.1, (hagree c).2.2.2]
    exact Eq.trans (funext fun i => hostV_apply _ _ _ _) (final6 m c).symm

end Cert.Kernel17Ideal.Prod

end
-- ==== Proof.Prod.AdamGluW.lean ====
/-
  The optimiser's step on glu_w, its rows one after the other.
-/
module

public import proofs.«01_k».proof.Defs
public import proofs.«01_k».proof.Proof.Gen.Kernel18
public import proofs.«01_k».proof.Proof.Gen.Kernel18Ideal.Value
public import proofs.«01_k».proof.Proof.Gen.Reference18Ideal.Run
public import proofs.«01_k».proof.Proof.Prod.Adam
public import Idealize.ShloMosaic.Lib.Pipeline.ValueKit.Geometry
public import Idealize.ShloMosaic.Lib.Pipeline.ValueKit.Acc
public import Idealize.ShloMosaic.Lib.StableHlo.Run
public import Idealize.ShloMosaic.Lib.Quiescent
public import Idealize.ShloMosaic.Lib.Pipeline.ReadBack

@[expose] public section

noncomputable section

namespace Cert.Kernel18Ideal.Prod

open Idealize.ShloMosaic
open Idealize.ShloMosaic.ValueIdx Idealize.ShloMosaic.TcCoe Idealize.SL.Sem
open Idealize.ShloMosaic.Pipeline (Dat)
open Cert.Kernel18Ideal Cert.Kernel18Ideal.Gen Cert.Prod
open scoped BigOperators

variable (m : (ℓ : Loc nD τ sig) → Buf (Elt Ideal) ℓ) (c : Dev nD)

/-- The arguments: the weight, its gradient and the two running means, as the call reads them. -/
abbrev wt : (Mx 2048 256).Idx → EReal := shapeCast S2048x256 (m ((c.tc : Thread nD τ).loc main_arg0)) shapeCasts_S4x512x256_S2048x256
abbrev gr : (Mx 2048 256).Idx → EReal := shapeCast S2048x256 (m ((c.tc : Thread nD τ).loc main_arg1)) shapeCasts_S4x512x256_S2048x256
abbrev mo : (Mx 2048 256).Idx → EReal := shapeCast S2048x256 (m ((c.tc : Thread nD τ).loc main_arg2)) shapeCasts_S4x512x256_S2048x256
abbrev va : (Mx 2048 256).Idx → EReal := shapeCast S2048x256 (m ((c.tc : Thread nD τ).loc main_arg3)) shapeCasts_S4x512x256_S2048x256

theorem V_wt : (V m c main_v0 : (Mx 2048 256).Idx → EReal) = wt m c := by
  unfold V; after_results <;> rfl
theorem V_gr : (V m c main_v1 : (Mx 2048 256).Idx → EReal) = gr m c := by
  unfold V; after_results <;> rfl
theorem V_mo : (V m c main_v2 : (Mx 2048 256).Idx → EReal) = mo m c := by
  unfold V; after_results <;> rfl
theorem V_va : (V m c main_v3 : (Mx 2048 256).Idx → EReal) = va m c := by
  unfold V; after_results <;> rfl

/-- What a point computes. -/
theorem out4 (w g a v : Vec Ideal S256x256 .f32) (y : S256x256.Idx) : (out0_4 (F := Ideal) w g a v y : EReal) = delta (w y) (g y) (a y) (v y) := by
  have e : out0_4 (F := Ideal) w g a v = k0_pay4 w g a v := by frame_out
  rw [e]
  unfold k0_pay4 k0_pay3 k0_pay2 k0_pay1
  simp only [shapeCast_self]
  rfl

theorem out5 (w g a v : Vec Ideal S256x256 .f32) (y : S256x256.Idx) : (out0_5 (F := Ideal) w g a v y : EReal) = newM (g y) (a y) := by
  have e : out0_5 (F := Ideal) w g a v = k0_pay2 g a := by frame_out
  rw [e]
  unfold k0_pay2 k0_pay1
  simp only [shapeCast_self]
  rfl

theorem out6 (w g a v : Vec Ideal S256x256 .f32) (y : S256x256.Idx) : (out0_6 (F := Ideal) w g a v y : EReal) = newV (g y) (v y) := by
  have e : out0_6 (F := Ideal) w g a v = k0_pay3 g v := by frame_out
  rw [e]
  unfold k0_pay3 k0_pay1
  simp only [shapeCast_self]
  rfl

/-- All windows walk through the rows together. -/
theorem wt_at (t : Fin cfg0.N) (y : S256x256.Idx) : (iblk m c 0 t : S256x256.Idx → EReal) y = wt m c ((win0_4.blk t).view.emb y) := by
  rw [← V_wt]; blk_simp [iblk]; rfl
theorem gr_at (t : Fin cfg0.N) (y : S256x256.Idx) : (iblk m c 1 t : S256x256.Idx → EReal) y = gr m c ((win0_4.blk t).view.emb y) := by
  rw [← V_gr]; blk_simp [iblk]; rfl
theorem mo_at (t : Fin cfg0.N) (y : S256x256.Idx) : (iblk m c 2 t : S256x256.Idx → EReal) y = mo m c ((win0_4.blk t).view.emb y) := by
  rw [← V_mo]; blk_simp [iblk]; rfl
theorem va_at (t : Fin cfg0.N) (y : S256x256.Idx) : (iblk m c 3 t : S256x256.Idx → EReal) y = va m c ((win0_4.blk t).view.emb y) := by
  rw [← V_va]; blk_simp [iblk]; rfl

/-- The three arrays after the call. -/
theorem final4 : (dats m 0 c).arrAt 4 cfg0.N = fun i : (Mx 2048 256).Idx => delta (wt m c i) (gr m c i) (mo m c i) (va m c i) := by
  refine (dats m 0 c).arrAt_eq_of_covers 4 _ (by decide +kernel) fun t hf y => ?_
  blk_simp
  rw [after0_4]
  refine (out4 _ _ _ _ y).trans ?_
  rw [wt_at, gr_at, mo_at, va_at]

theorem final5 : (dats m 0 c).arrAt 5 cfg0.N = fun i : (Mx 2048 256).Idx => newM (gr m c i) (mo m c i) := by
  refine (dats m 0 c).arrAt_eq_of_covers 5 _ (by decide +kernel) fun t hf y => ?_
  blk_simp
  rw [after0_5]
  refine (out5 _ _ _ _ y).trans ?_
  rw [gr_at, mo_at]
  rfl

theorem final6 : (dats m 0 c).arrAt 6 cfg0.N = fun i : (Mx 2048 256).Idx => newV (gr m c i) (va m c i) := by
  refine (dats m 0 c).arrAt_eq_of_covers 6 _ (by decide +kernel) fun t hf y => ?_
  blk_simp
  rw [after0_6]
  refine (out6 _ _ _ _ y).trans ?_
  rw [gr_at, va_at]
  rfl

/-! ## The claims -/

instance : Cert.Kernel18.Facts := Cert.Kernel18.Gen.facts
instance : Cert.Kernel18Ideal.Facts := Cert.Kernel18Ideal.Gen.facts
instance : Cert.Reference18Ideal.Facts := Cert.Reference18Ideal.Gen.facts

/-- The two printed texts give the same table of calls. -/
theorem defs_eq : Cert.Kernel18.defs (F := Bits) = Cert.Kernel18Ideal.defs (F := Bits) := by
  refine congrArg (Pipeline.defs (Cert.Kernel18Ideal.pcfgs (F := Bits))) ?_
  show Defs.onTc _ = Defs.onTc _
  refine congrArg Defs.onTc (funext fun l => ?_)
  match l with
  | 0 => funext x; obtain ⟨t, s⟩ := x; rfl

/-- The frames of the kernel: one run, at any floats. -/
theorem frame_kernel : Cert.quiescent_Kernel18 (hKernel18 := Cert.Kernel18.Gen.facts) := by
  intro m g _
  rw [defs_eq]
  exact Cert.Kernel18Ideal.Gen.frame (F := Bits) m g

theorem frame_kernelIdeal : Cert.quiescent_Kernel18Ideal (hKernel18Ideal := Cert.Kernel18Ideal.Gen.facts) := fun m g _ =>
  Cert.Kernel18Ideal.Gen.frame (F := Ideal) m g

/-- The frame of the reference. -/
theorem frame_reference : Cert.quiescent_Reference18Ideal (hReference18Ideal := Cert.Reference18Ideal.Gen.facts) := fun m g _ =>
  (θ_run Cert.Reference18Ideal.defs _ _).mono (fun r h => ⟨fun c => (h c).2.2.2, sem_eq_zero_of_no_sems (by decide) r.2⟩)
    (Cert.Reference18Ideal.Value.run (F := Ideal) m g)

theorem algebraic : Cert.algebraic_Kernel18Ideal_Reference18Ideal (hKernel18Ideal := Cert.Kernel18Ideal.Gen.facts)
    (hReference18Ideal := Cert.Reference18Ideal.Gen.facts) := by
  intro m g m' g' _ hagree
  refine ⟨fun c => (dats m 0 c).arrAt 4 cfg0.N, fun c => (dats m 0 c).arrAt 5 cfg0.N, fun c => (dats m 0 c).arrAt 6 cfg0.N, Cert.Kernel18Ideal.Value.run_blocks m g, ?_⟩
  refine (θ_run Cert.Reference18Ideal.defs _ _).mono (fun _ h c => ⟨(h c).1.trans ?_, (h c).2.1.trans ?_, (h c).2.2.1.trans ?_, (h c).2.2.2⟩)
    (Cert.Reference18Ideal.Value.run (F := Ideal) m' g') <;> clear h
  · rw [(hagree c).1, (hagree c).2.1, (hagree c).2.2.1, (hagree c).2.2.2]
    exact Eq.trans (funext fun i => hostDelta_apply _ _ _ _ _ _) (final4 m c).symm
  · rw [(hagree c).2.1, (hagree c).2.2.1]
    exact Eq.trans (funext fun i => hostM_apply _ _ _ _) (final5 m c).symm
  · rw [(hagree c).2.1, (hagree c).2.2.2]
    exact Eq.trans (funext fun i => hostV_apply _ _ _ _) (final6 m c).symm

end Cert.Kernel18Ideal.Prod

end
-- ==== Proof.Prod.AdamW_o.lean ====
/-
  The optimiser's step on a weight of the size of w_o and w_br, its rows one after the other.
-/
module

public import proofs.«01_k».proof.Defs
public import proofs.«01_k».proof.Proof.Gen.Kernel19
public import proofs.«01_k».proof.Proof.Gen.Kernel19Ideal.Value
public import proofs.«01_k».proof.Proof.Gen.Reference19Ideal.Run
public import proofs.«01_k».proof.Proof.Prod.Adam
public import Idealize.ShloMosaic.Lib.Pipeline.ValueKit.Geometry
public import Idealize.ShloMosaic.Lib.Pipeline.ValueKit.Acc
public import Idealize.ShloMosaic.Lib.StableHlo.Run
public import Idealize.ShloMosaic.Lib.Quiescent
public import Idealize.ShloMosaic.Lib.Pipeline.ReadBack

@[expose] public section

noncomputable section

namespace Cert.Kernel19Ideal.Prod

open Idealize.ShloMosaic
open Idealize.ShloMosaic.ValueIdx Idealize.ShloMosaic.TcCoe Idealize.SL.Sem
open Idealize.ShloMosaic.Pipeline (Dat)
open Cert.Kernel19Ideal Cert.Kernel19Ideal.Gen Cert.Prod
open scoped BigOperators

variable (m : (ℓ : Loc nD τ sig) → Buf (Elt Ideal) ℓ) (c : Dev nD)

/-- The arguments: the weight, its gradient and the two running means, as the call reads them. -/
abbrev wt : (Mx 2048 2048).Idx → EReal := shapeCast S2048x2048 (m ((c.tc : Thread nD τ).loc main_arg0)) shapeCasts_S4x512x2048_S2048x2048
abbrev gr : (Mx 2048 2048).Idx → EReal := shapeCast S2048x2048 (m ((c.tc : Thread nD τ).loc main_arg1)) shapeCasts_S4x512x2048_S2048x2048
abbrev mo : (Mx 2048 2048).Idx → EReal := shapeCast S2048x2048 (m ((c.tc : Thread nD τ).loc main_arg2)) shapeCasts_S4x512x2048_S2048x2048
abbrev va : (Mx 2048 2048).Idx → EReal := shapeCast S2048x2048 (m ((c.tc : Thread nD τ).loc main_arg3)) shapeCasts_S4x512x2048_S2048x2048

theorem V_wt : (V m c main_v0 : (Mx 2048 2048).Idx → EReal) = wt m c := by
  unfold V; after_results <;> rfl
theorem V_gr : (V m c main_v1 : (Mx 2048 2048).Idx → EReal) = gr m c := by
  unfold V; after_results <;> rfl
theorem V_mo : (V m c main_v2 : (Mx 2048 2048).Idx → EReal) = mo m c := by
  unfold V; after_results <;> rfl
theorem V_va : (V m c main_v3 : (Mx 2048 2048).Idx → EReal) = va m c := by
  unfold V; after_results <;> rfl

/-- What a point computes. -/
theorem out4 (w g a v : Vec Ideal S128x2048 .f32) (y : S128x2048.Idx) : (out0_4 (F := Ideal) w g a v y : EReal) = delta (w y) (g y) (a y) (v y) := by
  have e : out0_4 (F := Ideal) w g a v = k0_pay4 w g a v := by frame_out
  rw [e]
  unfold k0_pay4 k0_pay3 k0_pay2 k0_pay1
  simp only [shapeCast_self]
  rfl

theorem out5 (w g a v : Vec Ideal S128x2048 .f32) (y : S128x2048.Idx) : (out0_5 (F := Ideal) w g a v y : EReal) = newM (g y) (a y) := by
  have e : out0_5 (F := Ideal) w g a v = k0_pay2 g a := by frame_out
  rw [e]
  unfold k0_pay2 k0_pay1
  simp only [shapeCast_self]
  rfl

theorem out6 (w g a v : Vec Ideal S128x2048 .f32) (y : S128x2048.Idx) : (out0_6 (F := Ideal) w g a v y : EReal) = newV (g y) (v y) := by
  have e : out0_6 (F := Ideal) w g a v = k0_pay3 g v := by frame_out
  rw [e]
  unfold k0_pay3 k0_pay1
  simp only [shapeCast_self]
  rfl

/-- All windows walk through the rows together. -/
theorem wt_at (t : Fin cfg0.N) (y : S128x2048.Idx) : (iblk m c 0 t : S128x2048.Idx → EReal) y = wt m c ((win0_4.blk t).view.emb y) := by
  rw [← V_wt]; blk_simp [iblk]; rfl
theorem gr_at (t : Fin cfg0.N) (y : S128x2048.Idx) : (iblk m c 1 t : S128x2048.Idx → EReal) y = gr m c ((win0_4.blk t).view.emb y) := by
  rw [← V_gr]; blk_simp [iblk]; rfl
theorem mo_at (t : Fin cfg0.N) (y : S128x2048.Idx) : (iblk m c 2 t : S128x2048.Idx → EReal) y = mo m c ((win0_4.blk t).view.emb y) := by
  rw [← V_mo]; blk_simp [iblk]; rfl
theorem va_at (t : Fin cfg0.N) (y : S128x2048.Idx) : (iblk m c 3 t : S128x2048.Idx → EReal) y = va m c ((win0_4.blk t).view.emb y) := by
  rw [← V_va]; blk_simp [iblk]; rfl

/-- The three arrays after the call. -/
theorem final4 : (dats m 0 c).arrAt 4 cfg0.N = fun i : (Mx 2048 2048).Idx => delta (wt m c i) (gr m c i) (mo m c i) (va m c i) := by
  refine (dats m 0 c).arrAt_eq_of_covers 4 _ (by decide +kernel) fun t hf y => ?_
  blk_simp
  rw [after0_4]
  refine (out4 _ _ _ _ y).trans ?_
  rw [wt_at, gr_at, mo_at, va_at]

theorem final5 : (dats m 0 c).arrAt 5 cfg0.N = fun i : (Mx 2048 2048).Idx => newM (gr m c i) (mo m c i) := by
  refine (dats m 0 c).arrAt_eq_of_covers 5 _ (by decide +kernel) fun t hf y => ?_
  blk_simp
  rw [after0_5]
  refine (out5 _ _ _ _ y).trans ?_
  rw [gr_at, mo_at]
  rfl

theorem final6 : (dats m 0 c).arrAt 6 cfg0.N = fun i : (Mx 2048 2048).Idx => newV (gr m c i) (va m c i) := by
  refine (dats m 0 c).arrAt_eq_of_covers 6 _ (by decide +kernel) fun t hf y => ?_
  blk_simp
  rw [after0_6]
  refine (out6 _ _ _ _ y).trans ?_
  rw [gr_at, va_at]
  rfl

/-! ## The claims -/

instance : Cert.Kernel19.Facts := Cert.Kernel19.Gen.facts
instance : Cert.Kernel19Ideal.Facts := Cert.Kernel19Ideal.Gen.facts
instance : Cert.Reference19Ideal.Facts := Cert.Reference19Ideal.Gen.facts

/-- The two printed texts give the same table of calls. -/
theorem defs_eq : Cert.Kernel19.defs (F := Bits) = Cert.Kernel19Ideal.defs (F := Bits) := by
  refine congrArg (Pipeline.defs (Cert.Kernel19Ideal.pcfgs (F := Bits))) ?_
  show Defs.onTc _ = Defs.onTc _
  refine congrArg Defs.onTc (funext fun l => ?_)
  match l with
  | 0 => funext x; obtain ⟨t, s⟩ := x; rfl

/-- The frames of the kernel: one run, at any floats. -/
theorem frame_kernel : Cert.quiescent_Kernel19 (hKernel19 := Cert.Kernel19.Gen.facts) := by
  intro m g _
  rw [defs_eq]
  exact Cert.Kernel19Ideal.Gen.frame (F := Bits) m g

theorem frame_kernelIdeal : Cert.quiescent_Kernel19Ideal (hKernel19Ideal := Cert.Kernel19Ideal.Gen.facts) := fun m g _ =>
  Cert.Kernel19Ideal.Gen.frame (F := Ideal) m g

/-- The frame of the reference. -/
theorem frame_reference : Cert.quiescent_Reference19Ideal (hReference19Ideal := Cert.Reference19Ideal.Gen.facts) := fun m g _ =>
  (θ_run Cert.Reference19Ideal.defs _ _).mono (fun r h => ⟨fun c => (h c).2.2.2, sem_eq_zero_of_no_sems (by decide) r.2⟩)
    (Cert.Reference19Ideal.Value.run (F := Ideal) m g)

theorem algebraic : Cert.algebraic_Kernel19Ideal_Reference19Ideal (hKernel19Ideal := Cert.Kernel19Ideal.Gen.facts)
    (hReference19Ideal := Cert.Reference19Ideal.Gen.facts) := by
  intro m g m' g' _ hagree
  refine ⟨fun c => (dats m 0 c).arrAt 4 cfg0.N, fun c => (dats m 0 c).arrAt 5 cfg0.N, fun c => (dats m 0 c).arrAt 6 cfg0.N, Cert.Kernel19Ideal.Value.run_blocks m g, ?_⟩
  refine (θ_run Cert.Reference19Ideal.defs _ _).mono (fun _ h c => ⟨(h c).1.trans ?_, (h c).2.1.trans ?_, (h c).2.2.1.trans ?_, (h c).2.2.2⟩)
    (Cert.Reference19Ideal.Value.run (F := Ideal) m' g') <;> clear h
  · rw [(hagree c).1, (hagree c).2.1, (hagree c).2.2.1, (hagree c).2.2.2]
    exact Eq.trans (funext fun i => hostDelta_apply _ _ _ _ _ _) (final4 m c).symm
  · rw [(hagree c).2.1, (hagree c).2.2.1]
    exact Eq.trans (funext fun i => hostM_apply _ _ _ _) (final5 m c).symm
  · rw [(hagree c).2.1, (hagree c).2.2.2]
    exact Eq.trans (funext fun i => hostV_apply _ _ _ _) (final6 m c).symm

end Cert.Kernel19Ideal.Prod

end
-- ==== Proof.Prod.AdamSmall.lean ====
/-
  The optimiser's step on the small weights, laid one after the other in a matrix.
-/
module

public import proofs.«01_k».proof.Defs
public import proofs.«01_k».proof.Proof.Gen.Kernel20
public import proofs.«01_k».proof.Proof.Gen.Kernel20Ideal.Value
public import proofs.«01_k».proof.Proof.Gen.Reference20Ideal.Run
public import proofs.«01_k».proof.Proof.Prod.Adam
public import Idealize.ShloMosaic.Lib.Pipeline.ValueKit.Geometry
public import Idealize.ShloMosaic.Lib.Pipeline.ValueKit.Acc
public import Idealize.ShloMosaic.Lib.StableHlo.Run
public import Idealize.ShloMosaic.Lib.Quiescent
public import Idealize.ShloMosaic.Lib.Pipeline.ReadBack

@[expose] public section

noncomputable section

namespace Cert.Kernel20Ideal.Prod

open Idealize.ShloMosaic
open Idealize.ShloMosaic.ValueIdx Idealize.ShloMosaic.TcCoe Idealize.SL.Sem
open Idealize.ShloMosaic.Pipeline (Dat)
open Cert.Kernel20Ideal Cert.Kernel20Ideal.Gen Cert.Prod
open scoped BigOperators

variable (m : (ℓ : Loc nD τ sig) → Buf (Elt Ideal) ℓ) (c : Dev nD)

/-- The arguments: the weight, its gradient and the two running means. -/
abbrev wt : (Mx 1408 1024).Idx → EReal := m ((c.tc : Thread nD τ).loc main_arg0)
abbrev gr : (Mx 1408 1024).Idx → EReal := m ((c.tc : Thread nD τ).loc main_arg1)
abbrev mo : (Mx 1408 1024).Idx → EReal := m ((c.tc : Thread nD τ).loc main_arg2)
abbrev va : (Mx 1408 1024).Idx → EReal := m ((c.tc : Thread nD τ).loc main_arg3)

theorem V_wt : (V m c main_arg0 : (Mx 1408 1024).Idx → EReal) = wt m c := by
  unfold V; after_results <;> rfl
theorem V_gr : (V m c main_arg1 : (Mx 1408 1024).Idx → EReal) = gr m c := by
  unfold V; after_results <;> rfl
theorem V_mo : (V m c main_arg2 : (Mx 1408 1024).Idx → EReal) = mo m c := by
  unfold V; after_results <;> rfl
theorem V_va : (V m c main_arg3 : (Mx 1408 1024).Idx → EReal) = va m c := by
  unfold V; after_results <;> rfl

/-- What a point computes. -/
theorem out4 (w g a v : Vec Ideal S128x1024 .f32) (y : S128x1024.Idx) : (out0_4 (F := Ideal) w g a v y : EReal) = delta (w y) (g y) (a y) (v y) := by
  have e : out0_4 (F := Ideal) w g a v = k0_pay3 w g a v := by frame_out
  rw [e]
  unfold k0_pay3 k0_pay2 k0_pay1
  rfl

theorem out5 (w g a v : Vec Ideal S128x1024 .f32) (y : S128x1024.Idx) : (out0_5 (F := Ideal) w g a v y : EReal) = newM (g y) (a y) := by
  have e : out0_5 (F := Ideal) w g a v = k0_pay1 g a := by frame_out
  rw [e]
  unfold k0_pay1
  rfl

theorem out6 (w g a v : Vec Ideal S128x1024 .f32) (y : S128x1024.Idx) : (out0_6 (F := Ideal) w g a v y : EReal) = newV (g y) (v y) := by
  have e : out0_6 (F := Ideal) w g a v = k0_pay2 g v := by frame_out
  rw [e]
  unfold k0_pay2
  rfl

/-- All windows walk through the rows together. -/
theorem wt_at (t : Fin cfg0.N) (y : S128x1024.Idx) : (iblk m c 0 t : S128x1024.Idx → EReal) y = wt m c ((win0_4.blk t).view.emb y) := by
  rw [← V_wt]; blk_simp [iblk]; rfl
theorem gr_at (t : Fin cfg0.N) (y : S128x1024.Idx) : (iblk m c 1 t : S128x1024.Idx → EReal) y = gr m c ((win0_4.blk t).view.emb y) := by
  rw [← V_gr]; blk_simp [iblk]; rfl
theorem mo_at (t : Fin cfg0.N) (y : S128x1024.Idx) : (iblk m c 2 t : S128x1024.Idx → EReal) y = mo m c ((win0_4.blk t).view.emb y) := by
  rw [← V_mo]; blk_simp [iblk]; rfl
theorem va_at (t : Fin cfg0.N) (y : S128x1024.Idx) : (iblk m c 3 t : S128x1024.Idx → EReal) y = va m c ((win0_4.blk t).view.emb y) := by
  rw [← V_va]; blk_simp [iblk]; rfl

/-- The three arrays after the call. -/
theorem final4 : (dats m 0 c).arrAt 4 cfg0.N = fun i : (Mx 1408 1024).Idx => delta (wt m c i) (gr m c i) (mo m c i) (va m c i) := by
  refine (dats m 0 c).arrAt_eq_of_covers 4 _ (by decide +kernel) fun t hf y => ?_
  blk_simp
  rw [after0_4]
  refine (out4 _ _ _ _ y).trans ?_
  rw [wt_at, gr_at, mo_at, va_at]

theorem final5 : (dats m 0 c).arrAt 5 cfg0.N = fun i : (Mx 1408 1024).Idx => newM (gr m c i) (mo m c i) := by
  refine (dats m 0 c).arrAt_eq_of_covers 5 _ (by decide +kernel) fun t hf y => ?_
  blk_simp
  rw [after0_5]
  refine (out5 _ _ _ _ y).trans ?_
  rw [gr_at, mo_at]
  rfl

theorem final6 : (dats m 0 c).arrAt 6 cfg0.N = fun i : (Mx 1408 1024).Idx => newV (gr m c i) (va m c i) := by
  refine (dats m 0 c).arrAt_eq_of_covers 6 _ (by decide +kernel) fun t hf y => ?_
  blk_simp
  rw [after0_6]
  refine (out6 _ _ _ _ y).trans ?_
  rw [gr_at, va_at]
  rfl

/-! ## The claims -/

instance : Cert.Kernel20.Facts := Cert.Kernel20.Gen.facts
instance : Cert.Kernel20Ideal.Facts := Cert.Kernel20Ideal.Gen.facts
instance : Cert.Reference20Ideal.Facts := Cert.Reference20Ideal.Gen.facts

/-- The two printed texts give the same table of calls. -/
theorem defs_eq : Cert.Kernel20.defs (F := Bits) = Cert.Kernel20Ideal.defs (F := Bits) := by
  refine congrArg (Pipeline.defs (Cert.Kernel20Ideal.pcfgs (F := Bits))) ?_
  show Defs.onTc _ = Defs.onTc _
  refine congrArg Defs.onTc (funext fun l => ?_)
  match l with
  | 0 => funext x; obtain ⟨t, s⟩ := x; rfl

/-- The frames of the kernel: one run, at any floats. -/
theorem frame_kernel : Cert.quiescent_Kernel20 (hKernel20 := Cert.Kernel20.Gen.facts) := by
  intro m g _
  rw [defs_eq]
  exact Cert.Kernel20Ideal.Gen.frame (F := Bits) m g

theorem frame_kernelIdeal : Cert.quiescent_Kernel20Ideal (hKernel20Ideal := Cert.Kernel20Ideal.Gen.facts) := fun m g _ =>
  Cert.Kernel20Ideal.Gen.frame (F := Ideal) m g

/-- The frame of the reference. -/
theorem frame_reference : Cert.quiescent_Reference20Ideal (hReference20Ideal := Cert.Reference20Ideal.Gen.facts) := fun m g _ =>
  (θ_run Cert.Reference20Ideal.defs _ _).mono (fun r h => ⟨fun c => (h c).2.2.2, sem_eq_zero_of_no_sems (by decide) r.2⟩)
    (Cert.Reference20Ideal.Value.run (F := Ideal) m g)

theorem algebraic : Cert.algebraic_Kernel20Ideal_Reference20Ideal (hKernel20Ideal := Cert.Kernel20Ideal.Gen.facts)
    (hReference20Ideal := Cert.Reference20Ideal.Gen.facts) := by
  intro m g m' g' _ hagree
  refine ⟨fun c => (dats m 0 c).arrAt 4 cfg0.N, fun c => (dats m 0 c).arrAt 5 cfg0.N, fun c => (dats m 0 c).arrAt 6 cfg0.N, Cert.Kernel20Ideal.Value.run_blocks m g, ?_⟩
  refine (θ_run Cert.Reference20Ideal.defs _ _).mono (fun _ h c => ⟨(h c).1.trans ?_, (h c).2.1.trans ?_, (h c).2.2.1.trans ?_, (h c).2.2.2⟩)
    (Cert.Reference20Ideal.Value.run (F := Ideal) m' g') <;> clear h
  · rw [(hagree c).1, (hagree c).2.1, (hagree c).2.2.1, (hagree c).2.2.2]
    exact Eq.trans (funext fun i => hostDelta_apply _ _ _ _ _ _) (final4 m c).symm
  · rw [(hagree c).2.1, (hagree c).2.2.1]
    exact Eq.trans (funext fun i => hostM_apply _ _ _ _) (final5 m c).symm
  · rw [(hagree c).2.1, (hagree c).2.2.2]
    exact Eq.trans (funext fun i => hostV_apply _ _ _ _) (final6 m c).symm

end Cert.Kernel20Ideal.Prod

end
-- ==== Proof.Prod.ModUpdate.lean ====
/-
  The gradient of w_mod, whose rows go through the sigmoid, and the optimiser's step on it.
-/
module

public import proofs.«01_k».proof.Defs
public import proofs.«01_k».proof.Proof.Gen.Kernel21
public import proofs.«01_k».proof.Proof.Gen.Kernel21Ideal.Value
public import proofs.«01_k».proof.Proof.Gen.Reference21Ideal.Run
public import proofs.«01_k».proof.Proof.Prod.Adam
public import proofs.«01_k».proof.Proof.Prod.Gate
public import Idealize.ShloMosaic.Lib.Pipeline.ValueKit.Geometry
public import Idealize.ShloMosaic.Lib.Pipeline.ValueKit.Acc
public import Idealize.ShloMosaic.Lib.StableHlo.Run
public import Idealize.ShloMosaic.Lib.Quiescent
public import Idealize.ShloMosaic.Lib.Pipeline.ReadBack
public import Idealize.ShloMosaic.Lib.KernelVsHost

@[expose] public section

noncomputable section

namespace Cert.Kernel21Ideal.Prod

open Idealize.ShloMosaic
open Idealize.ShloMosaic.ValueIdx Idealize.ShloMosaic.TcCoe Idealize.SL.Sem
open Idealize.ShloMosaic.Pipeline (Dat)
open Cert.Kernel21Ideal Cert.Kernel21Ideal.Gen Cert.Prod
open scoped BigOperators

variable (m : (ℓ : Loc nD τ sig) → Buf (Elt Ideal) ℓ) (c : Dev nD)

/-- The arguments: the context rows, the gradients of the modulations, the weight and its two running means. -/
abbrev ctx : (Mx 16 2048).Idx → EReal := m ((c.tc : Thread nD τ).loc main_arg0)
abbrev dmod : S4x16x1536.Idx → EReal := m ((c.tc : Thread nD τ).loc main_arg1)
abbrev wt : S4x2048x1536.Idx → EReal := m ((c.tc : Thread nD τ).loc main_arg2)
abbrev mo : S4x2048x1536.Idx → EReal := m ((c.tc : Thread nD τ).loc main_arg3)
abbrev va : S4x2048x1536.Idx → EReal := m ((c.tc : Thread nD τ).loc main_arg4)

/-- The gradient of w_mod. -/
def gradAt (x : (Mx 16 2048).Idx → EReal) (d : S4x16x1536.Idx → EReal) (i : Fin 4) (k : Fin 2048) (j : Fin 1536) : EReal :=
  ∑ l : Fin 16, (x (ix2 l k) * sg (x (ix2 l k))) * d (ix3 i l j)

abbrev grad : S4x2048x1536.Idx → EReal := fun y => gradAt (ctx m c) (dmod m c) (y 0) (y 1) (y 2)

/-! ## What a point computes -/

theorem pay5 (x : Vec Ideal S16x256 .f32) (d : Vec Ideal S1x16x512 .f32) (i : Fin 256) (j : Fin 512) :
    (k0_pay5 (F := Ideal) x d (ix2 i j) : EReal) = ∑ l : Fin 16, (x (ix2 l i) * sg (x (ix2 l i))) * d (ix3 (0 : Fin 1) l j) := by
  unfold k0_pay5
  refine (tn_zero none (M := 256) (K := 16) (N := 512) _ _ _ i j).trans (sum_eq (fun l => ?_) fun l => shapeCast_1ab_ab_apply d _ l j)
  exact congrArg (x (ix2 l i) * ·) (sg_sub _)

section
variable (x : Vec Ideal S16x256 .f32) (d : Vec Ideal S1x16x512 .f32) (w a v : Vec Ideal S1x256x512 .f32) (i : Fin 256) (j : Fin 512)

theorem out5 : (out0_5 (F := Ideal) x d w a v (ix3 (0 : Fin 1) i j) : EReal) = k0_pay5 (F := Ideal) x d (ix2 i j) := by
  have e : out0_5 (F := Ideal) x d w a v = k0_pay6 x d := by frame_out
  rw [e]
  unfold k0_pay6
  exact shapeCast_ab_1ab_apply _ _ 0 i j

theorem out7 : (out0_7 (F := Ideal) x d w a v (ix3 (0 : Fin 1) i j) : EReal)
    = newM (k0_pay5 (F := Ideal) x d (ix2 i j)) (a (ix3 (0 : Fin 1) i j)) := by
  have e : out0_7 (F := Ideal) x d w a v = k0_pay3 (k0_pay8 x d a) := by
    frame_out; unfold k0_pay11; frame_out
  rw [e]
  unfold k0_pay3
  refine (shapeCast_ab_1ab_apply _ _ 0 i j).trans ?_
  exact congrArg (newM _) (shapeCast_1ab_ab_apply a _ i j)

theorem out8 : (out0_8 (F := Ideal) x d w a v (ix3 (0 : Fin 1) i j) : EReal)
    = newV (k0_pay5 (F := Ideal) x d (ix2 i j)) (v (ix3 (0 : Fin 1) i j)) := by
  have e : out0_8 (F := Ideal) x d w a v = k0_pay4 (k0_pay9 v) (k0_pay10 x d) (Scalar.ofBits .f32 0x3A83126F#32) := by
    frame_out; unfold k0_pay12 k0_pay13; frame_out
  rw [e]
  unfold k0_pay4
  refine (shapeCast_ab_1ab_apply _ _ 0 i j).trans ?_
  exact congrArg (newV _) (shapeCast_1ab_ab_apply v _ i j)

theorem out6 : (out0_6 (F := Ideal) x d w a v (ix3 (0 : Fin 1) i j) : EReal)
    = delta (w (ix3 (0 : Fin 1) i j)) (k0_pay5 (F := Ideal) x d (ix2 i j)) (a (ix3 (0 : Fin 1) i j)) (v (ix3 (0 : Fin 1) i j)) := by
  have e : out0_6 (F := Ideal) x d w a v = k0_pay2 (k0_pay7 w) (k0_pay8 x d a) (k0_pay9 v) (k0_pay10 x d) (Scalar.ofBits .f32 0x3A83126F#32) := by
    frame_out; unfold k0_pay11 k0_pay12 k0_pay13; frame_out
  rw [e]
  unfold k0_pay2
  refine (shapeCast_ab_1ab_apply _ _ 0 i j).trans ?_
  rw [← shapeCast_1ab_ab_apply w shapeCasts_S1x256x512_S256x512 i j, ← shapeCast_1ab_ab_apply a shapeCasts_S1x256x512_S256x512 i j,
    ← shapeCast_1ab_ab_apply v shapeCasts_S1x256x512_S256x512 i j]
  rfl

end

/-! ## The windows: a layer, a block of its rows, a block of its columns -/

theorem idx0 : ∀ t : Fin cfg0.N, win0_0.index t = ![0, t.val / 3 % 8] := (by decide +kernel : ∀ t : Fin grid0.N, _)
theorem idx1 : ∀ t : Fin cfg0.N, win0_1.index t = ![t.val / 24, 0, t.val % 3] := (by decide +kernel : ∀ t : Fin grid0.N, _)
theorem idx5 : ∀ t : Fin cfg0.N, win0_5.index t = ![t.val / 24, t.val / 3 % 8, t.val % 3] := (by decide +kernel : ∀ t : Fin grid0.N, _)

/-- The gradient's block at a point. -/
theorem grad_at (t : Fin cfg0.N) (i : Fin 256) (j : Fin 512) :
    (k0_pay5 (F := Ideal) (iblk m c 0 t) (iblk m c 1 t) (ix2 i j) : EReal) = grad m c ((win0_5.blk t).view.emb (ix3 (0 : Fin 1) i j)) := by
  rw [pay5]
  show _ = gradAt _ _ _ _ _
  unfold gradAt
  have hx : ∀ l : Fin 16, (iblk m c 0 t : S16x256.Idx → EReal) (ix2 l i) = ctx m c (ix2 l ((win0_5.blk t).view.emb (ix3 (0 : Fin 1) i j) 1)) := by
    intro l
    blk_simp [iblk]
    refine congrArg _ (at2 ?_ ?_) <;> blk_simp [idx0, idx5]
    rfl
  refine sum_eq (fun l => ?_) fun l => ?_
  · rw [hx]
  · blk_simp [iblk]
    refine congrArg _ (at3 ?_ ?_ ?_) <;> blk_simp [idx1, idx5]

/-- The other windows walk with the result's. -/
theorem wt_at (t : Fin cfg0.N) (y : S1x256x512.Idx) : (iblk m c 2 t : S1x256x512.Idx → EReal) y = wt m c ((win0_5.blk t).view.emb y) := by
  blk_simp [iblk]; rfl
theorem mo_at (t : Fin cfg0.N) (y : S1x256x512.Idx) : (iblk m c 3 t : S1x256x512.Idx → EReal) y = mo m c ((win0_5.blk t).view.emb y) := by
  blk_simp [iblk]; rfl
theorem va_at (t : Fin cfg0.N) (y : S1x256x512.Idx) : (iblk m c 4 t : S1x256x512.Idx → EReal) y = va m c ((win0_5.blk t).view.emb y) := by
  blk_simp [iblk]; rfl

theorem at_block (y : S1x256x512.Idx) : ∃ (i : Fin 256) (j : Fin 512), y = ix3 (0 : Fin 1) i j :=
  ⟨y 1, y 2, at3 (Nat.lt_one_iff.mp (y 0).isLt) rfl rfl⟩

/-! ## The four arrays after the call -/

theorem final5 : (dats m 0 c).arrAt 5 cfg0.N = grad m c := by
  refine (dats m 0 c).arrAt_eq_of_covers 5 _ (by decide +kernel) fun t hf y => ?_
  blk_simp
  rw [after0_5]
  obtain ⟨i, j, rfl⟩ := at_block y
  refine (out5 _ _ _ _ _ i j).trans ?_
  rw [grad_at]

theorem final6 : (dats m 0 c).arrAt 6 cfg0.N = fun i : S4x2048x1536.Idx => delta (wt m c i) (grad m c i) (mo m c i) (va m c i) := by
  refine (dats m 0 c).arrAt_eq_of_covers 6 _ (by decide +kernel) fun t hf y => ?_
  blk_simp
  rw [after0_6]
  obtain ⟨i, j, rfl⟩ := at_block y
  refine (out6 _ _ _ _ _ i j).trans ?_
  rw [grad_at, wt_at, mo_at, va_at]
  rfl

theorem final7 : (dats m 0 c).arrAt 7 cfg0.N = fun i : S4x2048x1536.Idx => newM (grad m c i) (mo m c i) := by
  refine (dats m 0 c).arrAt_eq_of_covers 7 _ (by decide +kernel) fun t hf y => ?_
  blk_simp
  rw [after0_7]
  obtain ⟨i, j, rfl⟩ := at_block y
  refine (out7 _ _ _ _ _ i j).trans ?_
  rw [grad_at, mo_at]
  rfl

theorem final8 : (dats m 0 c).arrAt 8 cfg0.N = fun i : S4x2048x1536.Idx => newV (grad m c i) (va m c i) := by
  refine (dats m 0 c).arrAt_eq_of_covers 8 _ (by decide +kernel) fun t hf y => ?_
  blk_simp
  rw [after0_8]
  obtain ⟨i, j, rfl⟩ := at_block y
  refine (out8 _ _ _ _ _ i j).trans ?_
  rw [grad_at, va_at]
  rfl

/-! ## The reference's gradient: one layer after the other, zero in the other three -/

/-- A layer put at place `lo` of four. -/
theorem pad_layer {α : Type} {a b lo hi : ℕ} (x : (⟨3, ![1, a, b]⟩ : Shape).Idx → α) {u : Shape} (v : u.Idx → α)
    (h : (⟨3, ![1, a, b]⟩ : Shape).Pads ![lo, 0, 0] ![hi, 0, 0] ![0, 0, 0] ⟨3, ![4, a, b]⟩) (hu : 0 < u.numel) (i : Fin 4) (k : Fin a) (j : Fin b) :
    pad ⟨3, ![4, a, b]⟩ ![lo, 0, 0] ![hi, 0, 0] ![0, 0, 0] x v h hu (ix3 i k j)
      = if lo * 1 ≤ i.val ∧ i.val < lo * 1 + 1 then x (ix3 (0 : Fin 1) k j) else v (Shape.Idx.first hu) := by
  split
  · next hj =>
    refine pad_apply_of_inside _ _ _ x v h hu _ _ fun e => ?_
    match e with
    | ⟨0, _⟩ => show i.val = lo + 0 * (0 + 1); omega
    | ⟨1, _⟩ => show k.val = 0 + k.val * (0 + 1); omega
    | ⟨2, _⟩ => show j.val = 0 + j.val * (0 + 1); omega
  · next hj =>
    refine pad_apply_of_not_inside _ _ _ x v h hu _ (0 : Fin 3) ?_
    show ¬(lo ≤ i.val ∧ (i.val - lo) % (0 + 1) = 0 ∧ (i.val - lo) / (0 + 1) < 1)
    omega

section
variable (x : FVec Ideal (Mx 16 2048) .f32) (d : FVec Ideal S4x16x1536 .f32)

/-- The context rows through the sigmoid, on the host. -/
abbrev siluH : FVec Ideal (Mx 16 2048) .f32 :=
  mulf x (Host.divf (all Cert.Reference21Ideal.Gen.bcast_S_S16x2048 0x3F800000#32)
    (addf (all Cert.Reference21Ideal.Gen.bcast_S_S16x2048 0x3F800000#32) (Host.exp (Host.negf x))))

/-- Layer `q`'s gradient as the reference puts it among four. -/
abbrev layer (q hi : ℕ) (hs : S4x16x1536.Slices ![q, 0, 0] Cert.Reference21Ideal.S1x16x1536)
    (hp : Cert.Reference21Ideal.S1x2048x1536.Pads ![q, 0, 0] ![hi, 0, 0] ![0, 0, 0] S4x2048x1536) : FVec Ideal S4x2048x1536 .f32 :=
  pad S4x2048x1536 ![q, 0, 0] ![hi, 0, 0] ![0, 0, 0]
    (broadcastInDim Cert.Reference21Ideal.S1x2048x1536 ![1, 2] Cert.Reference21Ideal.Gen.bcast_S2048x1536_S1x2048x1536_1_2
      (transpose Cert.Reference21Ideal.S2048x1536 [1, 0]
        (Host.dotGeneral Cert.Reference21Ideal.dot_S16x1536_S16x2048_S1536x2048_0_0_1_1_n_n none
          (shapeCast Cert.Reference21Ideal.S16x1536 (extractStridedSlice Cert.Reference21Ideal.S1x16x1536 ![q, 0, 0] d hs)
            Cert.Reference21Ideal.Gen.shapeCasts_S1x16x1536_S16x1536) (siluH x))
        Cert.Reference21Ideal.Gen.transposes_S1536x2048_S2048x1536_1_0))
    (constant Cert.Reference21Ideal.S_ .f32 0x00000000#32) hp Cert.Reference21Ideal.Gen.h_S_

theorem layer_apply (q hi : ℕ) (hs) (hp) (i : Fin 4) (k : Fin 2048) (j : Fin 1536) :
    (layer x d q hi hs hp (ix3 i k j) : EReal) = if q * 1 ≤ i.val ∧ i.val < q * 1 + 1 then gradAt x d i k j else 0 := by
  unfold layer
  rw [pad_layer]
  split
  · next hi =>
    refine (broadcastInDim_apply _ _ _ _ (ix2 k j) fun e => ?_).trans ?_
    · match e with
      | ⟨0, _⟩ => rfl
      | ⟨1, _⟩ => rfl
    · refine (congrFun (tn_host_transposed none _ _ _ _) (ix2 k j)).trans (sum_eq (fun l => rfl) fun l => ?_)
      refine (shapeCast_1ab_ab_apply _ _ l j).trans (extractStridedSlice_apply _ _ _ _ _ fun e => ?_)
      match e with
      | ⟨0, _⟩ => show i.val = q + 0; omega
      | ⟨1, _⟩ => show l.val = 0 + l.val; omega
      | ⟨2, _⟩ => show j.val = 0 + j.val; omega
  · exact Ideal.ofBits_zero_f32

/-- The four layers added up. -/
abbrev gradH : FVec Ideal S4x2048x1536 .f32 :=
  addf (addf (addf
    (layer x d 3 0 Cert.Reference21Ideal.Gen.slices_S4x16x1536_S1x16x1536_3_0_0 Cert.Reference21Ideal.Gen.pads_S1x2048x1536_S4x2048x1536_300_000_000)
    (layer x d 2 1 Cert.Reference21Ideal.Gen.slices_S4x16x1536_S1x16x1536_2_0_0 Cert.Reference21Ideal.Gen.pads_S1x2048x1536_S4x2048x1536_210_000_000))
    (layer x d 1 2 Cert.Reference21Ideal.Gen.slices_S4x16x1536_S1x16x1536_1_0_0 Cert.Reference21Ideal.Gen.pads_S1x2048x1536_S4x2048x1536_120_000_000))
    (layer x d 0 3 Cert.Reference21Ideal.Gen.slices_S4x16x1536_S1x16x1536_0_0_0 Cert.Reference21Ideal.Gen.pads_S1x2048x1536_S4x2048x1536_030_000_000)

theorem sum_layers (p q r s : FVec Ideal S4x2048x1536 .f32) (i : S4x2048x1536.Idx) {g : EReal} {P Q R S : EReal} (hp : p i = P) (hq : q i = Q)
    (hr : r i = R) (hs : s i = S) (h : ((P + Q) + R) + S = g) : addf (addf (addf p q) r) s i = g := by
  subst hp hq hr hs; exact h

theorem gradH_apply (y : S4x2048x1536.Idx) : (gradH x d y : EReal) = gradAt x d (y 0) (y 1) (y 2) := by
  have hy : y = ix3 (y 0) (y 1) (y 2) := at3 rfl rfl rfl
  have h := fun q hi hs hp => (congrArg (layer x d q hi hs hp) hy).trans (layer_apply x d q hi hs hp (y 0) (y 1) (y 2))
  refine sum_layers _ _ _ _ y (h _ _ _ _) (h _ _ _ _) (h _ _ _ _) (h _ _ _ _) ?_
  exact four_parts 1 (y 0).val (y 0).isLt _

end

/-! ## The claims -/

instance : Cert.Kernel21.Facts := Cert.Kernel21.Gen.facts
instance : Cert.Kernel21Ideal.Facts := Cert.Kernel21Ideal.Gen.facts
instance : Cert.Reference21Ideal.Facts := Cert.Reference21Ideal.Gen.facts

/-- The two printed texts give the same table of calls. -/
theorem defs_eq : Cert.Kernel21.defs (F := Bits) = Cert.Kernel21Ideal.defs (F := Bits) := by
  refine congrArg (Pipeline.defs (Cert.Kernel21Ideal.pcfgs (F := Bits))) ?_
  show Defs.onTc _ = Defs.onTc _
  refine congrArg Defs.onTc (funext fun l => ?_)
  match l with
  | 0 => funext x; obtain ⟨t, s⟩ := x; rfl

/-- The frames of the kernel: one run, at any floats. -/
theorem frame_kernel : Cert.quiescent_Kernel21 (hKernel21 := Cert.Kernel21.Gen.facts) := by
  intro m g _
  rw [defs_eq]
  exact Cert.Kernel21Ideal.Gen.frame (F := Bits) m g

theorem frame_kernelIdeal : Cert.quiescent_Kernel21Ideal (hKernel21Ideal := Cert.Kernel21Ideal.Gen.facts) := fun m g _ =>
  Cert.Kernel21Ideal.Gen.frame (F := Ideal) m g

/-- The frame of the reference. -/
theorem frame_reference : Cert.quiescent_Reference21Ideal (hReference21Ideal := Cert.Reference21Ideal.Gen.facts) := fun m g _ =>
  (θ_run Cert.Reference21Ideal.defs _ _).mono (fun r h => ⟨fun c => (h c).2.2.2.2, sem_eq_zero_of_no_sems (by decide) r.2⟩)
    (Cert.Reference21Ideal.Value.run (F := Ideal) m g)

theorem algebraic : Cert.algebraic_Kernel21Ideal_Reference21Ideal (hKernel21Ideal := Cert.Kernel21Ideal.Gen.facts)
    (hReference21Ideal := Cert.Reference21Ideal.Gen.facts) := by
  intro m g m' g' _ hagree
  refine ⟨fun c => (dats m 0 c).arrAt 5 cfg0.N, fun c => (dats m 0 c).arrAt 6 cfg0.N, fun c => (dats m 0 c).arrAt 7 cfg0.N,
    fun c => (dats m 0 c).arrAt 8 cfg0.N, Cert.Kernel21Ideal.Value.run_blocks m g, ?_⟩
  refine (θ_run Cert.Reference21Ideal.defs _ _).mono
    (fun _ h c => ⟨(h c).1.trans ?_, (h c).2.1.trans ?_, (h c).2.2.1.trans ?_, (h c).2.2.2.1.trans ?_, (h c).2.2.2.2⟩)
    (Cert.Reference21Ideal.Value.run (F := Ideal) m' g') <;> clear h
  · rw [(hagree c).1, (hagree c).2.1]
    exact Eq.trans (funext fun i => gradH_apply (ctx m c) (dmod m c) i) (final5 m c).symm
  · unfold Cert.Reference21Ideal.Value.res_main_v71
    rw [(hagree c).1, (hagree c).2.1, (hagree c).2.2.1, (hagree c).2.2.2.1, (hagree c).2.2.2.2]
    exact Eq.trans (funext fun i => (hostDelta_apply (wt m c) (gradH (ctx m c) (dmod m c)) (mo m c) (va m c) _ i).trans
      (by rw [gradH_apply])) (final6 m c).symm
  · rw [(hagree c).1, (hagree c).2.1, (hagree c).2.2.2.1]
    exact Eq.trans (funext fun i => (hostM_apply (gradH (ctx m c) (dmod m c)) (mo m c) _ i).trans (by rw [gradH_apply])) (final7 m c).symm
  · unfold Cert.Reference21Ideal.Value.res_main_v58
    rw [(hagree c).1, (hagree c).2.1, (hagree c).2.2.2.2]
    exact Eq.trans (funext fun i => (hostV_apply (gradH (ctx m c) (dmod m c)) (va m c) _ i).trans (by rw [gradH_apply])) (final8 m c).symm

end Cert.Kernel21Ideal.Prod

end
-- ==== Proof.Prod.Blocks.lean ====
/-
  Tables of thirty-two small matrices as the calls of the state space model take them: four matrices of eight blocks on the
  diagonal each, zeros elsewhere; a row of such a matrix times a vector, and the thirty-two products on the host.
-/
module

public import proofs.«01_k».proof.Proof.Prod.Pads
import Idealize.ShloMosaic.Lib.Pointwise.Contract
public import Idealize.ShloMosaic.Lib.Pointwise.Sums

@[expose] public section

noncomputable section

namespace Cert.Prod

open Idealize.ShloMosaic hiding ix1 ix2 ix3 ix4 ix5 eq_ix2
open Idealize.ShloMosaic.ValueIdx
open scoped BigOperators

/-- A table of `n` matrices of `a` rows and `b` columns. -/
abbrev Tx (n a b : ℕ) : Shape := ⟨3, ![n, a, b]⟩

/-- The diagonal of eight by eight. -/
theorem diagonal (h : (⟨0, ![]⟩ : Shape).BroadcastsInDim (Mx 8 8) ![]) (p q : Fin 8) :
    cmpi .eq (addi (iotaInDim (Mx 8 8) 32 0) (broadcastInDim (Mx 8 8) ![] h (constantI ⟨0, ![]⟩ 32 0x00000000#32)))
      (iotaInDim (Mx 8 8) 32 1) (ix2 p q) = if p = q then 1#1 else 0#1 := by
  show cmpi .eq (addi (iotaInDim (Mx 8 8) 32 0) (fun _ => 0x00000000#32)) (iotaInDim (Mx 8 8) 32 1) (ix2 p q) = _
  revert p q; decide +kernel

/-- Zeros everywhere. -/
theorem zeros_apply (s : Shape) (h : (⟨0, ![]⟩ : Shape).BroadcastsInDim s ![]) (i : s.Idx) :
    broadcastInDim s ![] h (constant (F := Ideal) ⟨0, ![]⟩ .f32 (0x00000000#32 : BitVec 32)) i = (0 : EReal) := zero_word _ _

section
variable {a b A B : ℕ}

/-- The layout read at a place: the block's entry on the diagonal, zero elsewhere. -/
theorem blocks_apply (hA : A = 8 * a) (hB : B = 8 * b) (t : FVec Ideal (Tx 32 a b) .f32) (mk : IVec (Mx 8 8) 1)
    (hmk : ∀ p q, mk (ix2 p q) = if p = q then 1#1 else 0#1)
    (h1 : (Mx 8 8).BroadcastsInDim ⟨5, ![1, 8, 1, 8, 1]⟩ ![1, 3])
    (h2 : (⟨5, ![1, 8, 1, 8, 1]⟩ : Shape).BroadcastsInDim ⟨5, ![4, 8, a, 8, b]⟩ ![0, 1, 2, 3, 4])
    (h3 : (⟨5, ![4, 8, a, 1, b]⟩ : Shape).BroadcastsInDim ⟨5, ![4, 8, a, 8, b]⟩ ![0, 1, 2, 3, 4])
    (h4 : (Tx 32 a b).ShapeCasts ⟨5, ![4, 8, a, 1, b]⟩) (h5 : (⟨5, ![4, 8, a, 8, b]⟩ : Shape).ShapeCasts (Tx 4 A B))
    (z : FVec Ideal ⟨5, ![4, 8, a, 8, b]⟩ .f32) (hz : ∀ i, z i = (0 : EReal)) (j : Fin 4) (p : Fin 8) (r : Fin a) (q : Fin 8) (k : Fin b) :
    shapeCast (Tx 4 A B) (select (broadcastInDim ⟨5, ![4, 8, a, 8, b]⟩ ![0, 1, 2, 3, 4] h2 (broadcastInDim ⟨5, ![1, 8, 1, 8, 1]⟩ ![1, 3] h1 mk))
        (broadcastInDim ⟨5, ![4, 8, a, 8, b]⟩ ![0, 1, 2, 3, 4] h3 (shapeCast ⟨5, ![4, 8, a, 1, b]⟩ t h4)) z) h5 (ix3 j (colOf hA p r) (colOf hB q k))
      = (if p = q then t (ix3 (colOf (by decide : 32 = 4 * 8) j p) r k) else 0 : EReal) := by
  refine (shapeCast_apply _ h5 _ (ix5 j p r q k) ?_).trans ?_
  · rw [Shape.rowMajor_val_three, Shape.rowMajor_val_five]
    subst hA hB
    show (((j.val * 8 + p.val) * a + r.val) * 8 + q.val) * b + k.val = (j.val * (8 * a) + (p.val * a + r.val)) * (8 * b) + (q.val * b + k.val)
    ring
  · rw [select_apply]
    rw [broadcastInDim_apply _ h2 _ _ (ix5 (0 : Fin 1) p (0 : Fin 1) q (0 : Fin 1)) (fun d => by
      match d with
      | ⟨0, _⟩ => rfl
      | ⟨1, _⟩ => rfl
      | ⟨2, _⟩ => rfl
      | ⟨3, _⟩ => rfl
      | ⟨4, _⟩ => rfl)]
    rw [broadcastInDim_apply _ h1 _ _ (ix2 p q) (fun d => by
      match d with
      | ⟨0, _⟩ => rfl
      | ⟨1, _⟩ => rfl)]
    rw [hmk, hz]
    rw [broadcastInDim_apply _ h3 _ _ (ix5 j p r (0 : Fin 1) k) (fun d => by
      match d with
      | ⟨0, _⟩ => rfl
      | ⟨1, _⟩ => rfl
      | ⟨2, _⟩ => show r.val = if a = 1 then 0 else r.val; have := r.isLt; split <;> omega
      | ⟨3, _⟩ => rfl
      | ⟨4, _⟩ => show k.val = if b = 1 then 0 else k.val; have := k.isLt; split <;> omega)]
    rw [shapeCast_apply t h4 _ (ix3 (colOf (by decide : 32 = 4 * 8) j p) r k) (by
      rw [Shape.rowMajor_val_three, Shape.rowMajor_val_five]
      show ((j.val * 8 + p.val) * a + r.val) * b + k.val = (((j.val * 8 + p.val) * a + r.val) * 1 + 0) * b + k.val
      ring)]
    by_cases e : p = q
    · rw [if_pos e, if_pos e]; rfl
    · rw [if_neg e, if_neg e]; rfl

/-- A sum over the columns of the eight blocks of which only one block's are not zero. -/
theorem one_block (hB : B = 8 * b) (p : Fin 8) (f : Fin B → EReal) (g : Fin b → EReal) (w : Fin B → EReal)
    (hw : ∀ q k, w (colOf hB q k) = if p = q then g k else 0) :
    ∑ s : Fin B, f s * w s = ∑ k : Fin b, f (colOf hB p k) * g k := by
  subst hB
  rw [Fin.sum_univ_tiles (N := 8 * b) 8 b rfl]
  refine (Finset.sum_eq_single p (fun q _ hq => ?_) (fun h => absurd (Finset.mem_univ p) h)).trans ?_
  · refine Finset.sum_eq_zero fun k _ => ?_
    refine (congrArg (f _ * ·) ((hw q k).trans (if_neg (Ne.symm hq)))).trans (mul_zero _)
  · refine Finset.sum_congr rfl fun k _ => ?_
    exact congrArg (f _ * ·) ((hw p k).trans (if_pos rfl))

/-- Two tables of four, one after the other. -/
theorem two_tables (x y : (Tx 4 a b).Idx → EReal)
    (h : Shape.Concatenates (List.map (fun x => x.fst) [(⟨Tx 4 a b, x⟩ : (s : Shape) × (s.Idx → EReal)), ⟨Tx 4 a b, y⟩]) (Tx 8 a b) 0)
    (e : Fin 2) (j : Fin 4) (r : Fin a) (k : Fin b) :
    concatenate (Tx 8 a b) 0 [⟨Tx 4 a b, x⟩, ⟨Tx 4 a b, y⟩] h (ix3 (colOf (by decide : 8 = 2 * 4) e j) r k) = (![x, y] e) (ix3 j r k) := by
  have hb : ∀ d : Fin (Tx 4 a b).rank, Fin.cast (rfl : (Tx 4 a b).rank = (Tx 8 a b).rank) d ≠ 0
      → ((ix3 j r k : (Tx 4 a b).Idx) d).val = ((ix3 (colOf (by decide : 8 = 2 * 4) e j) r k : (Tx 8 a b).Idx) (Fin.cast rfl d)).val := by
    intro d hd
    match d with
    | ⟨0, _⟩ => exact absurd rfl hd
    | ⟨1, _⟩ => rfl
    | ⟨2, _⟩ => rfl
  match e with
  | 0 => exact concatenate_apply_piece 0 _ h _ 0 (by simp) _ x rfl rfl 0 rfl _ hb (by show 0 + j.val = 0 * 4 + j.val; omega)
  | 1 => exact concatenate_apply_piece 0 _ h _ 1 (by simp) _ y rfl rfl 4 (by simp) _ hb (by show 4 + j.val = 1 * 4 + j.val; omega)

/-- The matrices transposed. -/
theorem tables_transposed {n : ℕ} (x : (Tx n b a).Idx → EReal) (h : (Tx n b a).Transposes [0, 2, 1] (Tx n a b)) (g : Fin n) (r : Fin a) (k : Fin b) :
    transpose (Tx n a b) [0, 2, 1] x h (ix3 g r k) = x (ix3 g k r) := by
  refine congrArg x (funext fun d => ?_)
  match d with
  | ⟨0, _⟩ => rfl
  | ⟨1, _⟩ => rfl
  | ⟨2, _⟩ => rfl

/-- The groups put first. -/
theorem groups_first {n g w : ℕ} (x : (Tx n g w).Idx → EReal) (h : (Tx n g w).Transposes [1, 0, 2] (Tx g n w)) (q : Fin g) (i : Fin n) (k : Fin w) :
    transpose (Tx g n w) [1, 0, 2] x h (ix3 q i k) = x (ix3 i q k) := by
  refine congrArg x (funext fun d => ?_)
  match d with
  | ⟨0, _⟩ => rfl
  | ⟨1, _⟩ => rfl
  | ⟨2, _⟩ => rfl

/-- The groups put first and the rows last. -/
theorem rows_behind {n g w : ℕ} (x : (Tx n g w).Idx → EReal) (h : (Tx n g w).Transposes [1, 2, 0] (Tx g w n)) (q : Fin g) (k : Fin w) (i : Fin n) :
    transpose (Tx g w n) [1, 2, 0] x h (ix3 q k i) = x (ix3 i q k) := by
  refine congrArg x (funext fun d => ?_)
  match d with
  | ⟨0, _⟩ => rfl
  | ⟨1, _⟩ => rfl
  | ⟨2, _⟩ => rfl

/-- The columns of a matrix in groups, and back. -/
theorem grouped {n s w N : ℕ} (h : N = s * w) (x : (Mx n N).Idx → EReal) (hc : (Mx n N).ShapeCasts (Tx n s w)) (i : Fin n) (g : Fin s) (k : Fin w) :
    shapeCast (Tx n s w) x hc (ix3 i g k) = x (ix2 i (colOf h g k)) := by
  refine shapeCast_apply x hc _ _ ?_
  rw [Shape.rowMajor_val_two, Shape.rowMajor_val_three]
  subst h
  show i.val * (s * w) + (g.val * w + k.val) = (i.val * s + g.val) * w + k.val
  ring

theorem ungrouped {n s w N : ℕ} (h : N = s * w) (x : (Tx n s w).Idx → EReal) (hc : (Tx n s w).ShapeCasts (Mx n N)) (i : Fin n) (g : Fin s) (k : Fin w) :
    shapeCast (Mx n N) x hc (ix2 i (colOf h g k)) = x (ix3 i g k) := by
  refine shapeCast_apply x hc _ _ ?_
  rw [Shape.rowMajor_val_two, Shape.rowMajor_val_three]
  subst h
  show (i.val * s + g.val) * w + k.val = i.val * (s * w) + (g.val * w + k.val)
  ring

end

/-! ## The products on the host, a group at a time -/

section
variable {G K M N : ℕ} {φ₁ φ₂ : FTy} (p : Option ContractPrecision)

/-- Columns by columns in each group. -/
theorem group_tn (wf : DotDims.WF (Tx G K M) (Tx G K N) (Tx G M N) [1] [1] [2] [2] [0] [0]) (l : FVec Ideal (Tx G K M) φ₁)
    (r : FVec Ideal (Tx G K N) φ₂) (g : Fin G) (i : Fin M) (j : Fin N) :
    Host.dotGeneral (F := Ideal) { lhsContracting := [1], rhsContracting := [1], lhsNonContracting := [2], rhsNonContracting := [2], lhsBatch := [0], rhsBatch := [0], wf := wf } p l r (ix3 g i j)
      = ∑ k : Fin K, l (ix3 g k i) * r (ix3 g k j) :=
  (Ideal.matmul_apply₁_of (K := K) { lhsContracting := [1], rhsContracting := [1], lhsNonContracting := [2], rhsNonContracting := [2], lhsBatch := [0], rhsBatch := [0], wf := wf } rfl rfl l r (fun _ => 0) (ix3 g i j) (fun k => ix3 g k i) (fun k => ix3 g k j)
    (fun k => by funext a; match a with | ⟨0, _⟩ => rfl | ⟨1, _⟩ => rfl | ⟨2, _⟩ => rfl)
    (fun k => by funext a; match a with | ⟨0, _⟩ => rfl | ⟨1, _⟩ => rfl | ⟨2, _⟩ => rfl)).trans (zero_add _)

end

/-! ## The rows in the model's order, and back -/

/-- The row of the call's input that a row of its result comes from: the context's rows are last. -/
abbrev rowOf (t : Fin 4352) : Fin 4352 := ⟨(t.val + 256) % 4352, Nat.mod_lt _ (by decide)⟩

/-- The first 256 rows put last, as the derivative's text has it: two pieces, zero elsewhere, added. -/
theorem rows_last {n : ℕ} (y : FVec Ideal (Mx 4352 n) .f32) (hs : (Mx 4352 n).Slices ![256, 0] (Mx 4096 n)) (hs' : (Mx 4352 n).Slices ![0, 0] (Mx 256 n))
    {u : Shape} (v : FVec Ideal u .f32) (hp : (Mx 4096 n).Pads ![0, 0] ![256, 0] ![0, 0] (Mx 4352 n))
    (hp' : (Mx 256 n).Pads ![4096, 0] ![0, 0] ![0, 0] (Mx 4352 n)) (hu : 0 < u.numel) (hv : ∀ i, v i = (0 : EReal)) (t : Fin 4352) (j : Fin n) :
    addf (pad (Mx 4352 n) ![0, 0] ![256, 0] ![0, 0] (extractStridedSlice (Mx 4096 n) ![256, 0] y hs) v hp hu)
      (pad (Mx 4352 n) ![4096, 0] ![0, 0] ![0, 0] (extractStridedSlice (Mx 256 n) ![0, 0] y hs') v hp' hu) (ix2 t j) = y (ix2 (rowOf t) j) := by
  show (pad (Mx 4352 n) ![0, 0] ![256, 0] ![0, 0] (extractStridedSlice (Mx 4096 n) ![256, 0] y hs) v hp hu (ix2 t j) : EReal)
    + pad (Mx 4352 n) ![4096, 0] ![0, 0] ![0, 0] (extractStridedSlice (Mx 256 n) ![0, 0] y hs') v hp' hu (ix2 t j) = _
  have ht := t.isLt
  rw [pad_rows, pad_rows]
  by_cases h : t.val < 4096
  · rw [dif_pos (by omega), dif_neg (by omega), hv, add_zero]
    refine congrArg y (at2 ?_ (Nat.zero_add _))
    show 256 + (t.val - 0) = (t.val + 256) % 4352
    omega
  · rw [dif_neg (by omega), dif_pos (by omega), hv, zero_add]
    refine congrArg y (at2 ?_ (Nat.zero_add _))
    show 0 + (t.val - 4096) = (t.val + 256) % 4352
    omega

/-- The row of the call's input that a row of its result comes from, the other way. -/
abbrev rowBack (t : Fin 4352) : Fin 4352 := ⟨(t.val + 4096) % 4352, Nat.mod_lt _ (by decide)⟩

/-- The last 256 rows put first, as the derivative's text has it. -/
theorem rows_first {n : ℕ} (y : FVec Ideal (Mx 4352 n) .f32) (hs : (Mx 4352 n).Slices ![4096, 0] (Mx 256 n)) (hs' : (Mx 4352 n).Slices ![0, 0] (Mx 4096 n))
    {u : Shape} (v : FVec Ideal u .f32) (hp : (Mx 256 n).Pads ![0, 0] ![4096, 0] ![0, 0] (Mx 4352 n))
    (hp' : (Mx 4096 n).Pads ![256, 0] ![0, 0] ![0, 0] (Mx 4352 n)) (hu : 0 < u.numel) (hv : ∀ i, v i = (0 : EReal)) (t : Fin 4352) (j : Fin n) :
    addf (pad (Mx 4352 n) ![0, 0] ![4096, 0] ![0, 0] (extractStridedSlice (Mx 256 n) ![4096, 0] y hs) v hp hu)
      (pad (Mx 4352 n) ![256, 0] ![0, 0] ![0, 0] (extractStridedSlice (Mx 4096 n) ![0, 0] y hs') v hp' hu) (ix2 t j) = y (ix2 (rowBack t) j) := by
  show (pad (Mx 4352 n) ![0, 0] ![4096, 0] ![0, 0] (extractStridedSlice (Mx 256 n) ![4096, 0] y hs) v hp hu (ix2 t j) : EReal)
    + pad (Mx 4352 n) ![256, 0] ![0, 0] ![0, 0] (extractStridedSlice (Mx 4096 n) ![0, 0] y hs') v hp' hu (ix2 t j) = _
  have ht := t.isLt
  rw [pad_rows, pad_rows]
  by_cases h : t.val < 256
  · rw [dif_pos (by omega), dif_neg (by omega), hv, add_zero]
    refine congrArg y (at2 ?_ (Nat.zero_add _))
    show 4096 + (t.val - 0) = (t.val + 4096) % 4352
    omega
  · rw [dif_neg (by omega), dif_pos (by omega), hv, zero_add]
    refine congrArg y (at2 ?_ (Nat.zero_add _))
    show 0 + (t.val - 256) = (t.val + 4096) % 4352
    omega

/-- A product of some columns of a block and a matrix, rows by rows. -/
theorem lanes_nt {a n K N : ℕ} (o : ℕ) (ho : o + K ≤ n) (x : FVec Ideal (Mx a n) .bf16) (w : FVec Ideal (Tx 1 N K) .f32)
    (hs : (Mx a n).Slices ![0, o] (Mx a K)) (hc : (Tx 1 N K).ShapeCasts (Mx N K)) (hb) (wf) (i : Fin a) (k : Fin N) :
    matmul (F := Ideal) (nt a K N wf) none (extractStridedSlice (Mx a K) ![0, o] x hs) (truncf .bf16 (shapeCast (Mx N K) w hc) hb)
      (constant (F := Ideal) (Mx a N) .f32 (0x00000000#32 : BitVec 32)) (ix2 i k)
      = ∑ s : Fin K, x (ix2 i ⟨o + s.val, by omega⟩) * w (ix3 (0 : Fin 1) k s) := by
  refine (nt_zero none wf _ _ i k).trans (sum_eq (fun s => ?_) fun s => ?_)
  · exact congrArg x (at2 (Nat.zero_add _) rfl)
  · exact shapeCast_1ab_ab_apply w hc k s

/-- A product of some columns of a block and a matrix. -/
theorem lanes_nn {a n K N : ℕ} (o : ℕ) (ho : o + K ≤ n) (x : FVec Ideal (Mx a n) .bf16) (w : FVec Ideal (Tx 1 K N) .f32)
    (hs : (Mx a n).Slices ![0, o] (Mx a K)) (hc : (Tx 1 K N).ShapeCasts (Mx K N)) (hb) (wf) (i : Fin a) (k : Fin N) :
    matmul (F := Ideal) (nn a K N wf) none (extractStridedSlice (Mx a K) ![0, o] x hs) (truncf .bf16 (shapeCast (Mx K N) w hc) hb)
      (constant (F := Ideal) (Mx a N) .f32 (0x00000000#32 : BitVec 32)) (ix2 i k)
      = ∑ s : Fin K, x (ix2 i ⟨o + s.val, by omega⟩) * w (ix3 (0 : Fin 1) s k) := by
  refine (nn_zero none wf _ _ i k).trans (sum_eq (fun s => ?_) fun s => ?_)
  · exact congrArg x (at2 (Nat.zero_add _) rfl)
  · exact shapeCast_1ab_ab_apply w hc s k

/-- The groups put between the rows and the columns, from groups by columns by rows. -/
theorem groups_back {n g w : ℕ} (x : (Tx g w n).Idx → EReal) (h : (Tx g w n).Transposes [2, 0, 1] (Tx n g w)) (i : Fin n) (q : Fin g) (k : Fin w) :
    transpose (Tx n g w) [2, 0, 1] x h (ix3 i q k) = x (ix3 q k i) := by
  refine congrArg x (funext fun d => ?_)
  match d with
  | ⟨0, _⟩ => rfl
  | ⟨1, _⟩ => rfl
  | ⟨2, _⟩ => rfl

/-- Rows by rows in each group, the second factor's groups in the middle. -/
theorem group_nt {G K M N : ℕ} (wf : DotDims.WF (Tx G N K) (Tx M G K) (Tx G N M) [2] [2] [1] [0] [0] [1]) (l : FVec Ideal (Tx G N K) .f32)
    (r : FVec Ideal (Tx M G K) .f32) (g : Fin G) (i : Fin N) (j : Fin M) :
    Host.dotGeneral (F := Ideal) { lhsContracting := [2], rhsContracting := [2], lhsNonContracting := [1], rhsNonContracting := [0], lhsBatch := [0], rhsBatch := [1], wf := wf } none l r (ix3 g i j)
      = ∑ k : Fin K, l (ix3 g i k) * r (ix3 j g k) :=
  (Ideal.matmul_apply₁_of (K := K) { lhsContracting := [2], rhsContracting := [2], lhsNonContracting := [1], rhsNonContracting := [0], lhsBatch := [0], rhsBatch := [1], wf := wf } rfl rfl l r (fun _ => 0) (ix3 g i j) (fun k => ix3 g i k) (fun k => ix3 j g k)
    (fun k => by funext a; match a with | ⟨0, _⟩ => rfl | ⟨1, _⟩ => rfl | ⟨2, _⟩ => rfl)
    (fun k => by funext a; match a with | ⟨0, _⟩ => rfl | ⟨1, _⟩ => rfl | ⟨2, _⟩ => rfl)).trans (zero_add _)

/-- Two pieces of the rows, one after the other. -/
theorem two_rows {a b n w : ℕ} (x : (Mx a w).Idx → EReal) (y : (Mx b w).Idx → EReal)
    (h : Shape.Concatenates (List.map (fun x => x.fst) [(⟨Mx a w, x⟩ : (s : Shape) × (s.Idx → EReal)), ⟨Mx b w, y⟩]) (Mx n w) 0)
    (t : Fin n) (j : Fin w) (hn : n = a + b) :
    concatenate (Mx n w) 0 [⟨Mx a w, x⟩, ⟨Mx b w, y⟩] h (ix2 t j)
      = if ht : t.val < a then x (ix2 ⟨t.val, ht⟩ j) else y (ix2 ⟨t.val - a, by omega⟩ j) := by
  by_cases ht : t.val < a
  · rw [dif_pos ht]
    refine concatenate_apply_piece 0 _ h _ 0 (by simp) _ x rfl rfl 0 rfl (ix2 ⟨t.val, ht⟩ j) (fun d hd => ?_) (by show 0 + t.val = t.val; omega)
    match d with
    | ⟨0, _⟩ => exact absurd rfl hd
    | ⟨1, _⟩ => rfl
  · rw [dif_neg ht]
    refine concatenate_apply_piece 0 _ h _ 1 (by simp) _ y rfl rfl a (by simp) (ix2 ⟨t.val - a, by omega⟩ j) (fun d hd => ?_) (by show a + (t.val - a) = t.val; omega)
    match d with
    | ⟨0, _⟩ => exact absurd rfl hd
    | ⟨1, _⟩ => rfl

/-- The context's rows put first. -/
theorem context_rows {n : ℕ} (y : (Mx 4352 n).Idx → EReal) (hs : (Mx 4352 n).Slices ![4096, 0] (Mx 256 n)) (hs' : (Mx 4352 n).Slices ![0, 0] (Mx 4096 n)) (h)
    (t : Fin 4352) (j : Fin n) :
    concatenate (Mx 4352 n) 0 [⟨Mx 256 n, extractStridedSlice (Mx 256 n) ![4096, 0] y hs⟩, ⟨Mx 4096 n, extractStridedSlice (Mx 4096 n) ![0, 0] y hs'⟩] h (ix2 t j)
      = y (ix2 (rowBack t) j) := by
  refine (two_rows _ _ h t j rfl).trans ?_
  by_cases ht : t.val < 256
  · rw [dif_pos ht]
    refine congrArg y (at2 ?_ (Nat.zero_add _))
    show 4096 + t.val = (t.val + 4096) % 4352
    omega
  · rw [dif_neg ht]
    refine congrArg y (at2 ?_ (Nat.zero_add _))
    show 0 + (t.val - 256) = (t.val + 4096) % 4352
    omega

/-- The context's rows put last. -/
theorem latent_rows {n : ℕ} (y : (Mx 4352 n).Idx → EReal) (hs : (Mx 4352 n).Slices ![256, 0] (Mx 4096 n)) (hs' : (Mx 4352 n).Slices ![0, 0] (Mx 256 n)) (h)
    (t : Fin 4352) (j : Fin n) :
    concatenate (Mx 4352 n) 0 [⟨Mx 4096 n, extractStridedSlice (Mx 4096 n) ![256, 0] y hs⟩, ⟨Mx 256 n, extractStridedSlice (Mx 256 n) ![0, 0] y hs'⟩] h (ix2 t j)
      = y (ix2 (rowOf t) j) := by
  refine (two_rows _ _ h t j rfl).trans ?_
  by_cases ht : t.val < 4096
  · rw [dif_pos ht]
    refine congrArg y (at2 ?_ (Nat.zero_add _))
    show 256 + t.val = (t.val + 256) % 4352
    omega
  · rw [dif_neg ht]
    refine congrArg y (at2 ?_ (Nat.zero_add _))
    show 0 + (t.val - 4096) = (t.val + 256) % 4352
    omega

/-- The two halves of the columns, one beside the other. -/
theorem two_sides {a w n : ℕ} (hn : n = 2 * w) (x y : (Mx a w).Idx → EReal)
    (h : Shape.Concatenates (List.map (fun x => x.fst) [(⟨Mx a w, x⟩ : (s : Shape) × (s.Idx → EReal)), ⟨Mx a w, y⟩]) (Mx a n) 1)
    (s : Fin a) (e : Fin 2) (j : Fin w) :
    concatenate (Mx a n) 1 [⟨Mx a w, x⟩, ⟨Mx a w, y⟩] h (ix2 s (colOf hn e j)) = (![x, y] e) (ix2 s j) := by
  have hb : ∀ d : Fin (Mx a w).rank, Fin.cast (rfl : (Mx a w).rank = (Mx a n).rank) d ≠ 1
      → ((ix2 s j : (Mx a w).Idx) d).val = ((ix2 s (colOf hn e j) : (Mx a n).Idx) (Fin.cast rfl d)).val := by
    intro d hd
    match d with
    | ⟨0, _⟩ => rfl
    | ⟨1, _⟩ => exact absurd rfl hd
  match e with
  | 0 => exact concatenate_apply_piece 1 _ h _ 0 (by simp) _ x rfl rfl 0 rfl _ hb (by show 0 + j.val = 0 * w + j.val; omega)
  | 1 => exact concatenate_apply_piece 1 _ h _ 1 (by simp) _ y rfl rfl w (by simp) _ hb (by show w + j.val = 1 * w + j.val; omega)

end Cert.Prod

end
-- ==== Proof.Prod.SsmOutDx.lean ====
/-
  `ssm_out_dx`: the derivative of the state-space branch's output product by the states, for the direction that starts with
  the context rows. A point of the grid takes 256 rows of the derivative by the heads' outputs and writes eight pieces, one
  for each matrix of eight groups' blocks. The reference multiplies group by group.
-/
module

public import proofs.«01_k».proof.Defs
public import proofs.«01_k».proof.Proof.Gen.Kernel22
public import proofs.«01_k».proof.Proof.Gen.Kernel22Ideal.Value
public import proofs.«01_k».proof.Proof.Gen.Reference22Ideal.Run
public import proofs.«01_k».proof.Proof.Prod.Blocks
public import Idealize.ShloMosaic.Lib.Pipeline.ValueKit.Geometry
public import Idealize.ShloMosaic.Lib.Pipeline.ValueKit.Acc
public import Idealize.ShloMosaic.Lib.Pipeline.ValueKit.Tiles
public import Idealize.ShloMosaic.Lib.StableHlo.Run
public import Idealize.ShloMosaic.Lib.Quiescent
public import Idealize.ShloMosaic.Lib.Pipeline.ReadBack

@[expose] public section

noncomputable section

namespace Cert.Kernel22Ideal.Prod

open Idealize.ShloMosaic hiding ix1 ix2 ix3 ix4 ix5 eq_ix2
open Idealize.ShloMosaic.ValueIdx Idealize.ShloMosaic.TcCoe Idealize.SL.Sem
open Idealize.ShloMosaic.Pipeline (Dat)
open Cert.Kernel22Ideal Cert.Kernel22Ideal.Gen Cert.Prod
open scoped BigOperators

variable (m : (ℓ : Loc nD τ sig) → Buf (Elt Ideal) ℓ) (c : Dev nD)

theorem idx0 : ∀ t : Fin cfg0.N, win0_0.index t = ![(t.val + 16) % 17, 0] := (by decide +kernel : ∀ t : Fin grid0.N, _)
theorem idx1 : ∀ t : Fin cfg0.N, win0_1.index t = ![0, 0, 0] := (by decide +kernel : ∀ t : Fin grid0.N, _)
theorem idx2 : ∀ t : Fin cfg0.N, win0_2.index t = ![t.val, 0] := (by decide +kernel : ∀ t : Fin grid0.N, _)

/-- The arguments: the derivative by the heads' outputs, the real and the imaginary table. -/
def dy : (Mx 4352 512).Idx → EReal := m ((c : Thread nD τ).loc main_arg0)
def cRe : (Tx 32 16 64).Idx → EReal := m ((c : Thread nD τ).loc main_arg1)
def cIm : (Tx 32 16 64).Idx → EReal := m ((c : Thread nD τ).loc main_arg2)

/-- The eight matrices of blocks that the call is given. -/
def mats : (Tx 8 512 128).Idx → EReal := V (F := Ideal) m c main_v22

theorem V_dy : (V m c main_v0 : (Mx 4352 512).Idx → EReal) = dy m c := by
  unfold V
  simp only [hostOps0, hostOps0_1, hostOps0_2, hostOps0_3, hostOps0_4, List.flatten_cons, List.flatten_nil, List.append_nil, List.cons_append, List.nil_append]
  after_results_simp <;> rfl

/-- The layout of a table. -/
def laid (b : (Tx 32 16 64).Idx → EReal) : (Tx 4 512 128).Idx → EReal :=
  shapeCast S4x512x128 (select (broadcastInDim S4x8x64x8x16 ![0, 1, 2, 3, 4] bcast_S1x8x1x8x1_S4x8x64x8x16_0_1_2_3_4
      (broadcastInDim S1x8x1x8x1 ![1, 3] bcast_S8x8_S1x8x1x8x1_1_3
        (cmpi .eq (addi (iotaInDim S8x8 32 0) (broadcastInDim S8x8 ![] bcast_S_S8x8 (constantI S_ 32 0x00000000#32))) (iotaInDim S8x8 32 1))))
    (broadcastInDim S4x8x64x8x16 ![0, 1, 2, 3, 4] bcast_S4x8x64x1x16_S4x8x64x8x16_0_1_2_3_4
      (shapeCast S4x8x64x1x16 (transpose S32x64x16 [0, 2, 1] b transposes_S32x16x64_S32x64x16_0_2_1) shapeCasts_S32x64x16_S4x8x64x1x16))
    (broadcastInDim S4x8x64x8x16 ![] bcast_S_S4x8x64x8x16 (constant (F := Ideal) S_ .f32 0x00000000#32))) shapeCasts_S4x8x64x8x16_S4x512x128

theorem laid_apply (b : (Tx 32 16 64).Idx → EReal) (j : Fin 4) (p : Fin 8) (k : Fin 64) (q : Fin 8) (h : Fin 16) :
    laid b (ix3 j (colOf (by decide : 512 = 8 * 64) p k) (colOf (by decide : 128 = 8 * 16) q h))
      = if p = q then b (ix3 (colOf (by decide : 32 = 4 * 8) j p) h k) else 0 := by
  refine (blocks_apply (a := 64) (b := 16) (A := 512) (B := 128) (by decide) (by decide) (transpose S32x64x16 [0, 2, 1] b transposes_S32x16x64_S32x64x16_0_2_1) _ (diagonal _) _ _ _ _ _ _ (zeros_apply _ _) j p k q h).trans ?_
  rw [tables_transposed]

/-- The entry that a lane's derivative takes of the tables: the real part's, or minus the imaginary part's. -/
abbrev entry (re im : (Tx 32 16 64).Idx → EReal) (e : Fin 2) (g : Fin 32) (h : Fin 16) (k : Fin 64) : EReal :=
  if e = 0 then re (ix3 g h k) else -im (ix3 g h k)

/-- The layout of the real table, then minus that of the imaginary one. -/
def stacked (re im : (Tx 32 16 64).Idx → EReal) : (Tx 8 512 128).Idx → EReal :=
  concatenate S8x512x128 0 [⟨S4x512x128, laid re⟩, ⟨S4x512x128, Host.negf (F := Ideal) (φ := .f32) (laid im)⟩] concatenates_S4x512x128_S4x512x128_S8x512x128_d0

theorem stacked_apply (re im : (Tx 32 16 64).Idx → EReal) (e : Fin 2) (j : Fin 4) (p : Fin 8) (k : Fin 64) (q : Fin 8) (h : Fin 16) :
    stacked re im (ix3 (colOf (by decide : 8 = 2 * 4) e j) (colOf (by decide : 512 = 8 * 64) p k) (colOf (by decide : 128 = 8 * 16) q h))
      = if p = q then entry re im e (colOf (by decide : 32 = 4 * 8) j p) h k else 0 := by
  refine (two_tables _ _ _ e j _ _).trans ?_
  match e with
  | 0 => exact laid_apply _ j p k q h
  | 1 =>
    refine (congrArg (fun x : EReal => -x) (laid_apply im j p k q h)).trans ?_
    by_cases hp : p = q
    · rw [if_pos hp, if_pos hp]; rfl
    · rw [if_neg hp, if_neg hp]; exact neg_zero

theorem mats_eq : mats m c = stacked (cRe m c) (cIm m c) := by
  unfold mats V
  simp only [hostOps0, hostOps0_1, hostOps0_2, hostOps0_3, hostOps0_4, List.flatten_cons, List.flatten_nil, List.append_nil, List.cons_append, List.nil_append]
  after_results_simp <;> rfl

/-- The derivative by a lane: over the group's heads. -/
abbrev dlAt (d : (Mx 4352 512).Idx → EReal) (re im : (Tx 32 16 64).Idx → EReal) (s : Fin 4352) (e : Fin 2) (g : Fin 32) (k : Fin 64) : EReal :=
  ∑ h : Fin 16, d (ix2 s ⟨g.val * 16 + h.val, by omega⟩) * entry re im e g h k

/-- The whole, by the columns. -/
abbrev dl (d : (Mx 4352 512).Idx → EReal) (re im : (Tx 32 16 64).Idx → EReal) (s : Fin 4352) (q : Fin 4096) : EReal :=
  dlAt d re im s ⟨q.val / 2048, by omega⟩ ⟨q.val / 64 % 32, by omega⟩ ⟨q.val % 64, by omega⟩

/-- A piece of a point's result. -/
theorem piece (x : FVec Ideal (Mx 256 512) .bf16) (i : Fin 256) (s : Fin 4352) (hx : ∀ k, (x (ix2 i k) : EReal) = dy m c (ix2 s k))
    (e : Fin 2) (j : Fin 4) (w : FVec Ideal (Tx 1 512 128) .f32)
    (hw : ∀ r k, (w (ix3 (0 : Fin 1) r k) : EReal) = mats m c (ix3 (colOf (by decide : 8 = 2 * 4) e j) r k))
    (o : ℕ) (ho : o = j.val * 128) (hs : (Mx 256 512).Slices ![0, o] (Mx 256 128))
    (hc : (Tx 1 512 128).ShapeCasts (Mx 512 128)) (hb) (wf) (r : Fin 512) (q : Fin 4096) (hq : q.val = (e.val * 4 + j.val) * 512 + r.val) :
    matmul (F := Ideal) (nt 256 128 512 wf) none (extractStridedSlice (Mx 256 128) ![0, o] x hs) (truncf .bf16 (shapeCast (Mx 512 128) w hc) hb)
        (constant (F := Ideal) (Mx 256 512) .f32 (0x00000000#32 : BitVec 32)) (ix2 i r) = dl (dy m c) (cRe m c) (cIm m c) s q := by
  obtain ⟨p, k, er⟩ : ∃ (p : Fin 8) (k : Fin 64), r = colOf (by decide : 512 = 8 * 64) p k :=
    ⟨⟨r.val / 64, by omega⟩, ⟨r.val % 64, by omega⟩, Fin.ext (by show r.val = r.val / 64 * 64 + r.val % 64; omega)⟩
  have hk : r.val = p.val * 64 + k.val := by rw [er]
  have he : (⟨q.val / 2048, by omega⟩ : Fin 2) = e := Fin.ext (by show q.val / 2048 = e.val; omega)
  have hg : (⟨q.val / 64 % 32, by omega⟩ : Fin 32) = colOf (by decide : 32 = 4 * 8) j p := Fin.ext (by show q.val / 64 % 32 = j.val * 8 + p.val; omega)
  have hh : (⟨q.val % 64, by omega⟩ : Fin 64) = k := Fin.ext (by show q.val % 64 = k.val; omega)
  show _ = dlAt _ _ _ s (⟨q.val / 2048, by omega⟩ : Fin 2) (⟨q.val / 64 % 32, by omega⟩ : Fin 32) (⟨q.val % 64, by omega⟩ : Fin 64)
  rw [he, hg, hh, er]
  refine (lanes_nt o (by omega) x w hs hc hb wf i _).trans ?_
  refine (one_block (b := 16) (B := 128) (by decide) p _ (fun h => entry (cRe m c) (cIm m c) e (colOf (by decide : 32 = 4 * 8) j p) h k) _ fun n h => ?_).trans (sum_eq (fun h => ?_) fun h => rfl)
  · rw [hw, mats_eq, stacked_apply]
  · rw [hx]
    subst ho
    refine congrArg (dy m c) (at2 rfl ?_)
    show j.val * 128 + (p.val * 16 + h.val) = (j.val * 8 + p.val) * 16 + h.val
    omega

/-- One matrix of the eight, as a point loads it. -/
theorem mat_apply (t : Fin cfg0.N) (n : Fin 8) (h) (r : Fin 512) (k : Fin 128) :
    (View.ld (iblk m c 1 t) (Rect.unit (s := S8x512x128) ![n.val, 0, 0] S1x512x128.size h) (ix3 (0 : Fin 1) r k) : EReal) = mats m c (ix3 n r k) := by
  refine (View.ld_unit_apply_of (iblk m c 1 t) _ _ _ (ix3 (0 : Fin 1) r k) (ix3 n r k) fun a => ?_).trans ?_
  · match a with
    | ⟨0, _⟩ => rfl
    | ⟨1, _⟩ => exact (Nat.zero_add _).symm
    | ⟨2, _⟩ => exact (Nat.zero_add _).symm
  · unfold mats
    blk_simp [iblk]
    refine congrArg _ (at3 ?_ ?_ ?_) <;> blk_simp [idx1]

theorem dy_apply (t : Fin cfg0.N) (i : Fin 256) (s : Fin 4352) (hs : s.val = (t.val + 16) % 17 * 256 + i.val) (k : Fin 512) :
    (k0_pay5 (F := Ideal) (View.ld (iblk m c 0 t) r0_0) (ix2 i k) : EReal) = dy m c (ix2 s k) := by
  unfold k0_pay5
  rw [shapeCast_self]
  refine (View.ld_unit_apply_of (iblk m c 0 t) _ _ _ (ix2 i k) (ix2 i k) fun a => ?_).trans ?_
  · match a with
    | ⟨0, _⟩ => exact (Nat.zero_add _).symm
    | ⟨1, _⟩ => exact (Nat.zero_add _).symm
  · rw [← V_dy]
    blk_simp [iblk]
    refine congrArg _ (at2 ?_ ?_)
    · blk_simp [idx0]; exact hs.symm
    · blk_simp [idx0]

/-- A piece stored at its columns. -/
theorem tile (P : Vec Ideal (Mx 256 512) .f32) (i : Fin 256) (q : Fin 4096) (v : EReal) (o : ℕ)
    (h : ∀ r : Fin 512, q.val = o + r.val → P (ix2 i r) = v) :
    View.TileAt (S := S256x4096) (Val := Elt Ideal) (e := .f32) (ix2 i q) ![0, o] S256x512.size P v := by
  intro x hx
  obtain ⟨i', r, rfl⟩ : ∃ (i' : Fin 256) (r : Fin 512), x = ix2 i' r := ⟨_, _, eq_ix2 x⟩
  have h0 : i.val = 0 + i'.val := hx 0
  have h1 : q.val = o + r.val := hx 1
  have e : i' = i := Fin.ext (by omega)
  rw [e]
  exact h r h1

/-- A point's result. -/
theorem out_apply (t : Fin cfg0.N) (i : Fin 256) (q : Fin 4096) (s : Fin 4352) (hs : s.val = (t.val + 16) % 17 * 256 + i.val) :
    (out0_2 (F := Ideal) (iblk m c 0 t) (iblk m c 1 t) (ix2 i q) : EReal) = dl (dy m c) (cRe m c) (cIm m c) s q := by
  have hx := dy_apply m c t i s hs
  refine View.canon_eq_of_allAt _ _ _ (cover0_2 _ _ _ _ _ _ _ _ _) ?_
  refine View.allAt_cons_unit _ _ _ _ _ (tile _ i q _ _ fun r hr => piece m c _ i s hx 1 3 _ (mat_apply m c t 7 _) 384 rfl _ _ _ _ r q (by rw [hr]; rfl)) ?_
  refine View.allAt_cons_unit _ _ _ _ _ (tile _ i q _ _ fun r hr => piece m c _ i s hx 1 2 _ (mat_apply m c t 6 _) 256 rfl _ _ _ _ r q (by rw [hr]; rfl)) ?_
  refine View.allAt_cons_unit _ _ _ _ _ (tile _ i q _ _ fun r hr => piece m c _ i s hx 1 1 _ (mat_apply m c t 5 _) 128 rfl _ _ _ _ r q (by rw [hr]; rfl)) ?_
  refine View.allAt_cons_unit _ _ _ _ _ (tile _ i q _ _ fun r hr => piece m c _ i s hx 1 0 _ (mat_apply m c t 4 _) 0 rfl slices_S256x512_o0_0_S256x128 _ _ _ r q (by rw [hr]; rfl)) ?_
  refine View.allAt_cons_unit _ _ _ _ _ (tile _ i q _ _ fun r hr => piece m c _ i s hx 0 3 _ (mat_apply m c t 3 _) 384 rfl _ _ _ _ r q (by rw [hr]; rfl)) ?_
  refine View.allAt_cons_unit _ _ _ _ _ (tile _ i q _ _ fun r hr => piece m c _ i s hx 0 2 _ (mat_apply m c t 2 _) 256 rfl _ _ _ _ r q (by rw [hr]; rfl)) ?_
  refine View.allAt_cons_unit _ _ _ _ _ (tile _ i q _ _ fun r hr => piece m c _ i s hx 0 1 _ (mat_apply m c t 1 _) 128 rfl _ _ _ _ r q (by rw [hr]; rfl)) ?_
  refine View.allAt_cons_unit _ _ _ _ _ (tile _ i q _ _ fun r hr => piece m c _ i s hx 0 0 _ (mat_apply m c t 0 _) 0 rfl _ _ _ _ r q (by rw [hr]; rfl)) ?_
  exact View.allAt_nil _ _

theorem final : (dats m 0 c).arrAt 2 cfg0.N = fun i : (Mx 4352 4096).Idx => dl (dy m c) (cRe m c) (cIm m c) (rowBack (i 0)) (i 1) := by
  refine (dats m 0 c).arrAt_eq_of_covers 2 _ (by decide +kernel) fun t hf y => ?_
  blk_simp
  rw [after0_2]
  obtain ⟨i, q, rfl⟩ : ∃ (i : Fin 256) (q : Fin 4096), y = ix2 i q := ⟨_, _, eq_ix2 y⟩
  have ht : t.val < 17 := t.isLt
  refine (out_apply m c t i q ⟨(t.val + 16) % 17 * 256 + i.val, by omega⟩ rfl).trans ?_
  refine congrArg₂ (dl (dy m c) (cRe m c) (cIm m c)) (Fin.ext ?_) (Fin.ext ?_)
  · show (t.val + 16) % 17 * 256 + i.val = (((win0_2.blk t).view.emb (ix2 i q) 0).val + 4096) % 4352
    have e : ((win0_2.blk t).view.emb (ix2 i q) 0).val = t.val * 256 + i.val := by blk_simp [idx2]; rfl
    rw [e]
    omega
  · blk_simp [idx2]

/-! ## The reference -/

/-- One of the two products, by lanes. -/
theorem ref_half (y : FVec Ideal (Tx 4352 32 16) .f32) (b : FVec Ideal (Tx 32 16 64) .f32)
    (ht : (Tx 4352 32 16).Transposes [1, 2, 0] (Tx 32 16 4352)) (ht' : (Tx 32 4352 64).Transposes [1, 0, 2] (Tx 4352 32 64)) (wf)
    (hc : (Tx 4352 32 64).ShapeCasts (Mx 4352 2048)) (s : Fin 4352) (g : Fin 32) (k : Fin 64) :
    shapeCast (Mx 4352 2048) (transpose (Tx 4352 32 64) [1, 0, 2] (Host.dotGeneral (F := Ideal) { lhsContracting := [1], rhsContracting := [1], lhsNonContracting := [2], rhsNonContracting := [2], lhsBatch := [0], rhsBatch := [0], wf := wf } none
        (transpose (Tx 32 16 4352) [1, 2, 0] y ht) b) ht') hc (ix2 s (colOf (by decide : 2048 = 32 * 64) g k))
      = ∑ h : Fin 16, y (ix3 s g h) * b (ix3 g h k) := by
  refine (ungrouped (by decide : 2048 = 32 * 64) _ hc s g k).trans ((groups_first _ ht' s g k).trans ((group_tn none wf _ b g s k).trans (sum_eq (fun h => ?_) fun h => rfl)))
  exact rows_behind _ ht g h s

/-- The two halves of the columns, each zero elsewhere, added. -/
theorem two_halves (x y : FVec Ideal (Mx 4352 2048) .f32) {u : Shape} (v : FVec Ideal u .f32) (hp : (Mx 4352 2048).Pads ![0, 2048] ![0, 0] ![0, 0] (Mx 4352 4096))
    (hp' : (Mx 4352 2048).Pads ![0, 0] ![0, 2048] ![0, 0] (Mx 4352 4096)) (hu : 0 < u.numel) (hv : ∀ i, v i = (0 : EReal)) (s : Fin 4352) (e : Fin 2) (j : Fin 2048) :
    addf (pad (Mx 4352 4096) ![0, 2048] ![0, 0] ![0, 0] x v hp hu) (pad (Mx 4352 4096) ![0, 0] ![0, 2048] ![0, 0] y v hp' hu) (ix2 s (colOf (by decide : 4096 = 2 * 2048) e j))
      = (if e = 0 then y (ix2 s j) else x (ix2 s j) : EReal) := by
  show (pad (Mx 4352 4096) ![0, 2048] ![0, 0] ![0, 0] x v hp hu (ix2 s (colOf (by decide : 4096 = 2 * 2048) e j)) : EReal)
    + pad (Mx 4352 4096) ![0, 0] ![0, 2048] ![0, 0] y v hp' hu (ix2 s (colOf (by decide : 4096 = 2 * 2048) e j)) = _
  have hj := j.isLt
  rw [pad_cols, pad_cols]
  match e with
  | 0 =>
    rw [dif_neg (by show ¬(2048 ≤ 0 * 2048 + j.val ∧ _); omega), dif_pos (by show 0 ≤ 0 * 2048 + j.val ∧ 0 * 2048 + j.val < 0 + 2048; omega), hv, zero_add, if_pos rfl]
    refine congrArg y (at2 rfl ?_)
    show 0 * 2048 + j.val - 0 = j.val
    omega
  | 1 =>
    rw [dif_pos (by show 2048 ≤ 1 * 2048 + j.val ∧ 1 * 2048 + j.val < 2048 + 2048; omega), dif_neg (by show ¬(0 ≤ 1 * 2048 + j.val ∧ 1 * 2048 + j.val < 0 + 2048); omega), hv, add_zero, if_neg (by decide)]
    refine congrArg x (at2 rfl ?_)
    show 1 * 2048 + j.val - 2048 = j.val
    omega

/-! ## The claims -/

instance : Cert.Kernel22.Facts := Cert.Kernel22.Gen.facts
instance : Cert.Kernel22Ideal.Facts := Cert.Kernel22Ideal.Gen.facts
instance : Cert.Reference22Ideal.Facts := Cert.Reference22Ideal.Gen.facts

/-- The two printed texts give the same table of calls. -/
theorem defs_eq : Cert.Kernel22.defs (F := Bits) = Cert.Kernel22Ideal.defs (F := Bits) := by
  refine congrArg (Pipeline.defs (Cert.Kernel22Ideal.pcfgs (F := Bits))) ?_
  show Defs.onTc _ = Defs.onTc _
  refine congrArg Defs.onTc (funext fun l => ?_)
  match l with
  | 0 => funext x; obtain ⟨t, s⟩ := x; rfl

/-- The frames of the kernel: one run, at any floats. -/
theorem frame_kernel : Cert.quiescent_Kernel22 (hKernel22 := Cert.Kernel22.Gen.facts) := by
  intro m g _
  rw [defs_eq]
  exact Cert.Kernel22Ideal.Gen.frame (F := Bits) m g

theorem frame_kernelIdeal : Cert.quiescent_Kernel22Ideal (hKernel22Ideal := Cert.Kernel22Ideal.Gen.facts) := fun m g _ =>
  Cert.Kernel22Ideal.Gen.frame (F := Ideal) m g

/-- The frame of the reference. -/
theorem frame_reference : Cert.quiescent_Reference22Ideal (hReference22Ideal := Cert.Reference22Ideal.Gen.facts) := fun m g _ =>
  (θ_run Cert.Reference22Ideal.defs _ _).mono (fun r h => ⟨fun c => (h c).2, sem_eq_zero_of_no_sems (by decide) r.2⟩)
    (Cert.Reference22Ideal.Value.run (F := Ideal) m g)

theorem algebraic : Cert.algebraic_Kernel22Ideal_Reference22Ideal (hKernel22Ideal := Cert.Kernel22Ideal.Gen.facts)
    (hReference22Ideal := Cert.Reference22Ideal.Gen.facts) := by
  intro m g m' g' _ hagree
  refine ⟨fun c => (dats m 0 c).arrAt 2 cfg0.N, Cert.Kernel22Ideal.Value.run_blocks m g, ?_⟩
  refine (θ_run Cert.Reference22Ideal.defs _ _).mono (fun _ h c => ⟨(h c).1.trans ?_, (h c).2⟩)
    (Cert.Reference22Ideal.Value.run (F := Ideal) m' g')
  clear h
  rw [(hagree c).1, (hagree c).2.1, (hagree c).2.2]
  refine Eq.trans ?_ (final m c).symm
  funext y; obtain ⟨t, q, rfl⟩ : ∃ (t : Fin 4352) (q : Fin 4096), y = ix2 t q := ⟨_, _, eq_ix2 y⟩
  have hq : q = colOf (by decide : 4096 = 2 * 2048) ⟨q.val / 2048, by omega⟩ (colOf (by decide : 2048 = 32 * 64) ⟨q.val / 64 % 32, by omega⟩ ⟨q.val % 64, by omega⟩) :=
    Fin.ext (by show q.val = q.val / 2048 * 2048 + (q.val / 64 % 32 * 64 + q.val % 64); omega)
  refine (congrArg _ (congrArg (ix2 t) hq)).trans ((two_halves _ _ _ _ _ _ (fun _ => zero_word _ _) t _ _).trans ?_)
  have hy : ∀ h : Fin 16, _ = dy m c (ix2 (rowBack t) (colOf (by decide : 512 = 32 * 16) ⟨q.val / 64 % 32, by omega⟩ h)) := fun h =>
    (grouped (by decide : 512 = 32 * 16) _ Cert.Reference22Ideal.Gen.shapeCasts_S4352x512_S4352x32x16 t ⟨q.val / 64 % 32, by omega⟩ h).trans
      (rows_first (n := 512) (dy m c) Cert.Reference22Ideal.Gen.slices_S4352x512_S256x512_4096_0 Cert.Reference22Ideal.Gen.slices_S4352x512_S4096x512_0_0
        (constant (F := Ideal) Cert.Reference22Ideal.S_ .f32 0x00000000#32) Cert.Reference22Ideal.Gen.pads_S256x512_S4352x512_040960_000
        Cert.Reference22Ideal.Gen.pads_S4096x512_S4352x512_25600_000 Cert.Reference22Ideal.Gen.h_S_ (fun _ => zero_word _ _) t _)
  by_cases he : (⟨q.val / 2048, by omega⟩ : Fin 2) = 0
  · rw [if_pos he]
    refine (ref_half _ (cRe m c) _ _ _ _ t _ _).trans (sum_eq (fun h => ?_) fun h => ?_)
    · exact hy h
    · exact (if_pos he).symm
  · rw [if_neg he]
    refine (ref_half _ (cIm m c) _ _ _ _ t _ _).trans (Finset.sum_congr rfl fun h _ => ?_)
    refine Eq.trans (congrArg (fun x : EReal => -x * cIm m c _) (hy h)) ?_
    rw [neg_mul, ← mul_neg]
    exact congrArg (dy m c _ * ·) (if_neg he).symm

end Cert.Kernel22Ideal.Prod

end
-- ==== Proof.Prod.SsmInDx.lean ====
/-
  `ssm_in_dx`: the derivative of the state-space branch's input products by the branch's input, for the direction that starts
  with the context rows. A point of the grid takes 256 rows of the states' derivative; each quarter of its result is a product
  with the real parts' blocks plus one with the imaginary parts'. The reference multiplies group by group.
-/
module

public import proofs.«01_k».proof.Defs
public import proofs.«01_k».proof.Proof.Gen.Kernel23
public import proofs.«01_k».proof.Proof.Gen.Kernel23Ideal.Value
public import proofs.«01_k».proof.Proof.Gen.Reference23Ideal.Run
public import proofs.«01_k».proof.Proof.Prod.Blocks
public import proofs.«01_k».proof.Proof.Prod.Gate
public import Idealize.ShloMosaic.Lib.Pipeline.ValueKit.Geometry
public import Idealize.ShloMosaic.Lib.Pipeline.ValueKit.Acc
public import Idealize.ShloMosaic.Lib.Pipeline.ValueKit.Tiles
public import Idealize.ShloMosaic.Lib.StableHlo.Run
public import Idealize.ShloMosaic.Lib.Quiescent
public import Idealize.ShloMosaic.Lib.Pipeline.ReadBack

@[expose] public section

noncomputable section

namespace Cert.Kernel23Ideal.Prod

open Idealize.ShloMosaic hiding ix1 ix2 ix3 ix4 ix5 eq_ix2
open Idealize.ShloMosaic.ValueIdx Idealize.ShloMosaic.TcCoe Idealize.SL.Sem
open Idealize.ShloMosaic.Pipeline (Dat)
open Cert.Kernel23Ideal Cert.Kernel23Ideal.Gen Cert.Prod
open scoped BigOperators

variable (m : (ℓ : Loc nD τ sig) → Buf (Elt Ideal) ℓ) (c : Dev nD)

theorem idx0 : ∀ t : Fin cfg0.N, win0_0.index t = ![t.val, 0] := (by decide +kernel : ∀ t : Fin grid0.N, _)
theorem idx1 : ∀ t : Fin cfg0.N, win0_1.index t = ![0, 0, 0] := (by decide +kernel : ∀ t : Fin grid0.N, _)
theorem idx2 : ∀ t : Fin cfg0.N, win0_2.index t = ![(t.val + 16) % 17, 0] := (by decide +kernel : ∀ t : Fin grid0.N, _)

/-- The arguments: the derivative by the lanes, the real and the imaginary table. -/
def lam : (Mx 4352 4096).Idx → EReal := m ((c : Thread nD τ).loc main_arg0)
def bRe : (Tx 32 64 16).Idx → EReal := m ((c : Thread nD τ).loc main_arg1)
def bIm : (Tx 32 64 16).Idx → EReal := m ((c : Thread nD τ).loc main_arg2)

/-- The eight matrices of blocks that the call is given. -/
def mats : (Tx 8 128 512).Idx → EReal := V (F := Ideal) m c main_v20

theorem V_lam : (V m c main_arg0 : (Mx 4352 4096).Idx → EReal) = lam m c := V_main_arg0 m c

/-- The layout of a table. -/
def laid (b : (Tx 32 64 16).Idx → EReal) : (Tx 4 128 512).Idx → EReal :=
  shapeCast S4x128x512 (select (broadcastInDim S4x8x16x8x64 ![0, 1, 2, 3, 4] bcast_S1x8x1x8x1_S4x8x16x8x64_0_1_2_3_4
      (broadcastInDim S1x8x1x8x1 ![1, 3] bcast_S8x8_S1x8x1x8x1_1_3
        (cmpi .eq (addi (iotaInDim S8x8 32 0) (broadcastInDim S8x8 ![] bcast_S_S8x8 (constantI S_ 32 0x00000000#32))) (iotaInDim S8x8 32 1))))
    (broadcastInDim S4x8x16x8x64 ![0, 1, 2, 3, 4] bcast_S4x8x16x1x64_S4x8x16x8x64_0_1_2_3_4
      (shapeCast S4x8x16x1x64 (transpose S32x16x64 [0, 2, 1] b transposes_S32x64x16_S32x16x64_0_2_1) shapeCasts_S32x16x64_S4x8x16x1x64))
    (broadcastInDim S4x8x16x8x64 ![] bcast_S_S4x8x16x8x64 (constant (F := Ideal) S_ .f32 0x00000000#32))) shapeCasts_S4x8x16x8x64_S4x128x512

theorem laid_apply (b : (Tx 32 64 16).Idx → EReal) (j : Fin 4) (p : Fin 8) (h : Fin 16) (q : Fin 8) (k : Fin 64) :
    laid b (ix3 j (colOf (by decide : 128 = 8 * 16) p h) (colOf (by decide : 512 = 8 * 64) q k))
      = if p = q then b (ix3 (colOf (by decide : 32 = 4 * 8) j p) k h) else 0 := by
  refine (blocks_apply (a := 16) (b := 64) (A := 128) (B := 512) (by decide) (by decide) (transpose S32x16x64 [0, 2, 1] b transposes_S32x64x16_S32x16x64_0_2_1) _ (diagonal _) _ _ _ _ _ _ (zeros_apply _ _) j p h q k).trans ?_
  rw [tables_transposed]

/-- The layouts of the real and of the imaginary table, one after the other. -/
def stacked (re im : (Tx 32 64 16).Idx → EReal) : (Tx 8 128 512).Idx → EReal :=
  concatenate S8x128x512 0 [⟨S4x128x512, laid re⟩, ⟨S4x128x512, laid im⟩] concatenates_S4x128x512_S4x128x512_S8x128x512_d0

theorem stacked_apply (re im : (Tx 32 64 16).Idx → EReal) (e : Fin 2) (j : Fin 4) (p : Fin 8) (h : Fin 16) (q : Fin 8) (k : Fin 64) :
    stacked re im (ix3 (colOf (by decide : 8 = 2 * 4) e j) (colOf (by decide : 128 = 8 * 16) p h) (colOf (by decide : 512 = 8 * 64) q k))
      = if p = q then (![re, im] e) (ix3 (colOf (by decide : 32 = 4 * 8) j p) k h) else 0 := by
  refine (two_tables _ _ _ e j _ _).trans ?_
  match e with
  | 0 => exact laid_apply _ j p h q k
  | 1 => exact laid_apply _ j p h q k

theorem mats_eq : mats m c = stacked (bRe m c) (bIm m c) := by
  unfold mats V
  simp only [hostOps0, hostOps0_1, hostOps0_2, hostOps0_3, hostOps0_4, List.flatten_cons, List.flatten_nil, List.append_nil, List.cons_append, List.nil_append]
  after_results_simp <;> rfl

/-- The derivative by a head's input: over the group's lanes, the real and the imaginary ones. -/
abbrev dxAt (l : (Mx 4352 4096).Idx → EReal) (re im : (Tx 32 64 16).Idx → EReal) (s : Fin 4352) (g : Fin 32) (h : Fin 16) : EReal :=
  (∑ k : Fin 64, l (ix2 s ⟨g.val * 64 + k.val, by omega⟩) * re (ix3 g k h))
    + ∑ k : Fin 64, l (ix2 s ⟨2048 + (g.val * 64 + k.val), by omega⟩) * im (ix3 g k h)

/-- The whole, by the columns. -/
abbrev dx (l : (Mx 4352 4096).Idx → EReal) (re im : (Tx 32 64 16).Idx → EReal) (s : Fin 4352) (j : Fin 512) : EReal :=
  dxAt l re im s ⟨j.val / 16, by omega⟩ ⟨j.val % 16, by omega⟩

/-- A row of a point's block, some of its columns, by a row of a matrix of blocks. -/
theorem half (x : (Mx 256 4096).Idx → EReal) (e : Fin 2) (j : Fin 4) (p : Fin 8) (h : Fin 16) (i : Fin 256) (s : Fin 4352)
    (hx : ∀ k, x (ix2 i k) = lam m c (ix2 s k))
    (g : Fin 32) (hg : g.val = j.val * 8 + p.val) (w : FVec Ideal (Tx 1 128 512) .f32)
    (hw : ∀ r k, w (ix3 (0 : Fin 1) r k) = mats m c (ix3 (colOf (by decide : 8 = 2 * 4) e j) r k)) :
    ∑ k : Fin 512, x (ix2 i ⟨(e.val * 2048 + j.val * 512) + k.val, by omega⟩) * w (ix3 (0 : Fin 1) (colOf (by decide : 128 = 8 * 16) p h) k)
      = ∑ k : Fin 64, lam m c (ix2 s ⟨e.val * 2048 + (g.val * 64 + k.val), by omega⟩) * (![bRe m c, bIm m c] e) (ix3 g k h) := by
  refine (one_block (b := 64) (B := 512) (by decide) p _ (fun k => (![bRe m c, bIm m c] e) (ix3 g k h)) _ fun q k => ?_).trans (sum_eq (fun k => ?_) fun k => rfl)
  · rw [hw, mats_eq, stacked_apply]
    have : (colOf (by decide : 32 = 4 * 8) j p) = g := Fin.ext hg.symm
    rw [this]
  · rw [hx]
    refine congrArg _ (at2 rfl ?_)
    show e.val * 2048 + j.val * 512 + (p.val * 64 + k.val) = e.val * 2048 + (g.val * 64 + k.val)
    omega
/-- A piece of a point's result. -/
theorem piece (x : FVec Ideal (Mx 256 4096) .bf16) (i : Fin 256) (s : Fin 4352) (hx : ∀ k, (x (ix2 i k) : EReal) = lam m c (ix2 s k))
    (j : Fin 4) (w w' : FVec Ideal (Tx 1 128 512) .f32)
    (hw : ∀ r k, (w (ix3 (0 : Fin 1) r k) : EReal) = mats m c (ix3 (colOf (by decide : 8 = 2 * 4) 0 j) r k))
    (hw' : ∀ r k, (w' (ix3 (0 : Fin 1) r k) : EReal) = mats m c (ix3 (colOf (by decide : 8 = 2 * 4) 1 j) r k))
    (o o' : ℕ) (ho : o = j.val * 512) (ho' : o' = 2048 + j.val * 512)
    (hs : (Mx 256 4096).Slices ![0, o] (Mx 256 512)) (hs' : (Mx 256 4096).Slices ![0, o'] (Mx 256 512))
    (hc : (Tx 1 128 512).ShapeCasts (Mx 128 512)) (hb) (wf) (k : Fin 128) (q : Fin 512) (hq : q.val = j.val * 128 + k.val) :
    addf (matmul (F := Ideal) (nt 256 512 128 wf) none (extractStridedSlice (Mx 256 512) ![0, o] x hs) (truncf .bf16 (shapeCast (Mx 128 512) w hc) hb)
        (constant (F := Ideal) (Mx 256 128) .f32 (0x00000000#32 : BitVec 32)))
      (matmul (F := Ideal) (nt 256 512 128 wf) none (extractStridedSlice (Mx 256 512) ![0, o'] x hs') (truncf .bf16 (shapeCast (Mx 128 512) w' hc) hb)
        (constant (F := Ideal) (Mx 256 128) .f32 (0x00000000#32 : BitVec 32))) (ix2 i k) = dx (lam m c) (bRe m c) (bIm m c) s q := by
  obtain ⟨p, h, e⟩ : ∃ (p : Fin 8) (h : Fin 16), k = colOf (by decide : 128 = 8 * 16) p h :=
    ⟨⟨k.val / 16, by omega⟩, ⟨k.val % 16, by omega⟩, Fin.ext (by show k.val = k.val / 16 * 16 + k.val % 16; omega)⟩
  have hk : k.val = p.val * 16 + h.val := by rw [e]
  have hg : q.val / 16 = j.val * 8 + p.val := by omega
  have hh : (⟨q.val % 16, by omega⟩ : Fin 16) = h := Fin.ext (by show q.val % 16 = h.val; omega)
  rw [e]
  refine (congrArg₂ (fun a b : EReal => a + b) (lanes_nt o (by omega) x w hs hc hb wf i _) (lanes_nt o' (by omega) x w' hs' hc hb wf i _)).trans ?_
  subst ho ho'
  refine congrArg₂ (fun a b : EReal => a + b) ?_ ?_
  · refine Eq.trans ?_ ((half m c x 0 j p h i s hx ⟨q.val / 16, by omega⟩ hg w hw).trans ?_)
    · exact sum_eq (fun n => congrArg x (at2 rfl (by show j.val * 512 + n.val = 0 * 2048 + j.val * 512 + n.val; omega))) fun n => rfl
    · exact sum_eq (fun n => congrArg (lam m c) (at2 rfl (by show 0 * 2048 + (q.val / 16 * 64 + n.val) = q.val / 16 * 64 + n.val; omega))) fun n => congrArg (bRe m c) (at3 rfl rfl (congrArg Fin.val hh.symm))
  · refine Eq.trans ?_ ((half m c x 1 j p h i s hx ⟨q.val / 16, by omega⟩ hg w' hw').trans ?_)
    · exact sum_eq (fun n => congrArg x (at2 rfl (by show 2048 + j.val * 512 + n.val = 1 * 2048 + j.val * 512 + n.val; omega))) fun n => rfl
    · exact sum_eq (fun n => congrArg (lam m c) (at2 rfl (by show 1 * 2048 + (q.val / 16 * 64 + n.val) = 2048 + (q.val / 16 * 64 + n.val); omega))) fun n => congrArg (bIm m c) (at3 rfl rfl (congrArg Fin.val hh.symm))

/-- One matrix of the eight, as a point loads it. -/
theorem mat_apply (t : Fin cfg0.N) (n : Fin 8) (h) (r : Fin 128) (k : Fin 512) :
    (View.ld (iblk m c 1 t) (Rect.unit (s := S8x128x512) ![n.val, 0, 0] S1x128x512.size h) (ix3 (0 : Fin 1) r k) : EReal) = mats m c (ix3 n r k) := by
  refine (View.ld_unit_apply_of (iblk m c 1 t) _ _ _ (ix3 (0 : Fin 1) r k) (ix3 n r k) fun a => ?_).trans ?_
  · match a with
    | ⟨0, _⟩ => rfl
    | ⟨1, _⟩ => exact (Nat.zero_add _).symm
    | ⟨2, _⟩ => exact (Nat.zero_add _).symm
  · unfold mats
    blk_simp [iblk]
    refine congrArg _ (at3 ?_ ?_ ?_) <;> blk_simp [idx1]

theorem lam_apply (t : Fin cfg0.N) (i : Fin 256) (s : Fin 4352) (hs : s.val = t.val * 256 + i.val) (k : Fin 4096) :
    (iblk m c 0 t (ix2 i k) : EReal) = lam m c (ix2 s k) := by
  rw [← V_lam]
  blk_simp [iblk]
  refine congrArg _ (at2 ?_ ?_)
  · blk_simp [idx0]; exact hs.symm
  · blk_simp [idx0]

/-- A point's result. -/
theorem out_apply (t : Fin cfg0.N) (i : Fin 256) (q : Fin 512) (s : Fin 4352) (hs : s.val = t.val * 256 + i.val) :
    (out0_2 (F := Ideal) (iblk m c 0 t) (iblk m c 1 t) (ix2 i q) : EReal) = dx (lam m c) (bRe m c) (bIm m c) s q := by
  have hx := lam_apply m c t i s hs
  frame_out
  unfold k0_pay1 k0_pay3 k0_pay4 k0_pay5 k0_pay6 k0_pay7
  refine concat4_eq _ _ _ _ _ (by decide) i (fun q => dx (lam m c) (bRe m c) (bIm m c) s q) (fun k q hq => ?_) (fun k q hq => ?_) (fun k q hq => ?_) (fun k q hq => ?_) q
  · exact piece m c _ i s hx 0 _ _ (mat_apply m c t 0 _) (mat_apply m c t 4 _) 0 2048 rfl rfl _ _ _ _ _ k q (by rw [hq]; simp)
  · exact piece m c _ i s hx 1 _ _ (mat_apply m c t 1 _) (mat_apply m c t 5 _) 512 2560 rfl rfl _ _ _ _ _ k q (by rw [hq]; simp)
  · exact piece m c _ i s hx 2 _ _ (mat_apply m c t 2 _) (mat_apply m c t 6 _) 1024 3072 rfl rfl _ _ _ _ _ k q (by rw [hq]; simp)
  · exact piece m c _ i s hx 3 _ _ (mat_apply m c t 3 _) (mat_apply m c t 7 _) 1536 3584 rfl rfl _ _ _ _ _ k q (by rw [hq]; simp)

theorem final : (dats m 0 c).arrAt 2 cfg0.N = fun i : (Mx 4352 512).Idx => dx (lam m c) (bRe m c) (bIm m c) (rowOf (i 0)) (i 1) := by
  refine (dats m 0 c).arrAt_eq_of_covers 2 _ (by decide +kernel) fun t hf y => ?_
  blk_simp
  rw [after0_2]
  obtain ⟨i, q, rfl⟩ : ∃ (i : Fin 256) (q : Fin 512), y = ix2 i q := ⟨_, _, eq_ix2 y⟩
  have ht : t.val < 17 := t.isLt
  refine (out_apply m c t i q ⟨t.val * 256 + i.val, by omega⟩ rfl).trans ?_
  refine congrArg₂ (dx (lam m c) (bRe m c) (bIm m c)) (Fin.ext ?_) (Fin.ext ?_)
  · show t.val * 256 + i.val = (((win0_2.blk t).view.emb (ix2 i q) 0).val + 256) % 4352
    have e : ((win0_2.blk t).view.emb (ix2 i q) 0).val = (t.val + 16) % 17 * 256 + i.val := by blk_simp [idx2]; rfl
    rw [e]
    omega
  · blk_simp [idx2]

/-! ## The reference -/

/-- One of the two products, by heads. -/
theorem ref_half (x : FVec Ideal (Mx 4352 4096) .f32) (b : FVec Ideal (Tx 32 64 16) .f32) (o : ℕ) (ho : o + 2048 ≤ 4096)
    (hs : (Mx 4352 4096).Slices ![0, o] (Mx 4352 2048)) (hc : (Mx 4352 2048).ShapeCasts (Tx 4352 32 64))
    (ht : (Tx 4352 32 64).Transposes [1, 2, 0] (Tx 32 64 4352)) (ht' : (Tx 32 4352 16).Transposes [1, 0, 2] (Tx 4352 32 16)) (wf)
    (s : Fin 4352) (g : Fin 32) (h : Fin 16) :
    transpose (Tx 4352 32 16) [1, 0, 2] (Host.dotGeneral (F := Ideal) { lhsContracting := [1], rhsContracting := [1], lhsNonContracting := [2], rhsNonContracting := [2], lhsBatch := [0], rhsBatch := [0], wf := wf } none
        (transpose (Tx 32 64 4352) [1, 2, 0] (shapeCast (Tx 4352 32 64) (extractStridedSlice (Mx 4352 2048) ![0, o] x hs) hc) ht) b) ht' (ix3 s g h)
      = ∑ k : Fin 64, x (ix2 s ⟨o + (g.val * 64 + k.val), by omega⟩) * b (ix3 g k h) := by
  refine (groups_first _ ht' s g h).trans ((group_tn none wf _ b g s h).trans (sum_eq (fun k => ?_) fun k => rfl))
  refine (rows_behind _ ht g k s).trans ((grouped (by decide : 2048 = 32 * 64) _ hc s g k).trans ?_)
  exact congrArg x (at2 (Nat.zero_add _) rfl)

/-! ## The claims -/

instance : Cert.Kernel23.Facts := Cert.Kernel23.Gen.facts
instance : Cert.Kernel23Ideal.Facts := Cert.Kernel23Ideal.Gen.facts
instance : Cert.Reference23Ideal.Facts := Cert.Reference23Ideal.Gen.facts

/-- The two printed texts give the same table of calls. -/
theorem defs_eq : Cert.Kernel23.defs (F := Bits) = Cert.Kernel23Ideal.defs (F := Bits) := by
  refine congrArg (Pipeline.defs (Cert.Kernel23Ideal.pcfgs (F := Bits))) ?_
  show Defs.onTc _ = Defs.onTc _
  refine congrArg Defs.onTc (funext fun l => ?_)
  match l with
  | 0 => funext x; obtain ⟨t, s⟩ := x; rfl

/-- The frames of the kernel: one run, at any floats. -/
theorem frame_kernel : Cert.quiescent_Kernel23 (hKernel23 := Cert.Kernel23.Gen.facts) := by
  intro m g _
  rw [defs_eq]
  exact Cert.Kernel23Ideal.Gen.frame (F := Bits) m g

theorem frame_kernelIdeal : Cert.quiescent_Kernel23Ideal (hKernel23Ideal := Cert.Kernel23Ideal.Gen.facts) := fun m g _ =>
  Cert.Kernel23Ideal.Gen.frame (F := Ideal) m g

/-- The frame of the reference. -/
theorem frame_reference : Cert.quiescent_Reference23Ideal (hReference23Ideal := Cert.Reference23Ideal.Gen.facts) := fun m g _ =>
  (θ_run Cert.Reference23Ideal.defs _ _).mono (fun r h => ⟨fun c => (h c).2, sem_eq_zero_of_no_sems (by decide) r.2⟩)
    (Cert.Reference23Ideal.Value.run (F := Ideal) m g)

theorem algebraic : Cert.algebraic_Kernel23Ideal_Reference23Ideal (hKernel23Ideal := Cert.Kernel23Ideal.Gen.facts)
    (hReference23Ideal := Cert.Reference23Ideal.Gen.facts) := by
  intro m g m' g' _ hagree
  refine ⟨fun c => (dats m 0 c).arrAt 2 cfg0.N, Cert.Kernel23Ideal.Value.run_blocks m g, ?_⟩
  refine (θ_run Cert.Reference23Ideal.defs _ _).mono (fun _ h c => ⟨(h c).1.trans ?_, (h c).2⟩)
    (Cert.Reference23Ideal.Value.run (F := Ideal) m' g')
  clear h
  rw [(hagree c).1, (hagree c).2.1, (hagree c).2.2]
  refine Eq.trans ?_ (final m c).symm
  funext y; obtain ⟨t, q, rfl⟩ : ∃ (t : Fin 4352) (q : Fin 512), y = ix2 t q := ⟨_, _, eq_ix2 y⟩
  refine (rows_last (n := 512) _ _ _ _ _ _ _ (fun _ => zero_word _ _) t q).trans ?_
  have hq : q = colOf (by decide : 512 = 32 * 16) ⟨q.val / 16, by omega⟩ ⟨q.val % 16, by omega⟩ := Fin.ext (by show q.val = q.val / 16 * 16 + q.val % 16; omega)
  refine (congrArg _ (congrArg (ix2 (rowOf t)) hq)).trans ((ungrouped (by decide : 512 = 32 * 16) _ _ _ _ _).trans ?_)
  refine Eq.trans (congrArg₂ (fun a b : EReal => a + b) (ref_half (lam m c) (bIm m c) 2048 (by decide) _ _ _ _ _ _ _ _) (ref_half (lam m c) (bRe m c) 0 (by decide) _ _ _ _ _ _ _ _)) ?_
  refine (add_comm _ _).trans (congrArg (· + _) ?_)
  exact sum_eq (fun k => congrArg (lam m c) (at2 rfl (Nat.zero_add _))) fun k => rfl

end Cert.Kernel23Ideal.Prod

end
-- ==== Proof.Prod.SsmDw.lean ====
/-
  The derivatives of the state-space branch's products by the matrices of blocks, as both calls compute them: seventeen grid
  points, each adding to eight slabs the products of columns and columns over its 256 rows. Stated for slabs of any size.
-/
module

public import proofs.«01_k».proof.Proof.Prod.Blocks
public import proofs.«01_k».proof.Proof.Prod.MergeDx
public import Idealize.ShloMosaic.Lib.Pipeline.ReadBack

@[expose] public section

noncomputable section

namespace Cert.Prod

open Idealize.ShloMosaic hiding ix1 ix2 ix3 ix4 ix5 eq_ix2
open Idealize.ShloMosaic.ValueIdx
open scoped BigOperators

/-- A slab with a product of columns and columns added to it. -/
theorem slab_adds {K A B a b : ℕ} (o o' : ℕ) (ho : o + a ≤ A) (ho' : o' + b ≤ B) (x : FVec Ideal (Mx K A) .bf16) (y : FVec Ideal (Mx K B) .bf16)
    (w : FVec Ideal (Tx 1 a b) .f32) (hs : (Mx K A).Slices ![0, o] (Mx K a)) (hs' : (Mx K B).Slices ![0, o'] (Mx K b))
    (hc : (Tx 1 a b).ShapeCasts (Mx a b)) (hc' : (Mx a b).ShapeCasts (Tx 1 a b)) (wf) (i : Fin a) (j : Fin b) :
    shapeCast (Tx 1 a b) (addf (shapeCast (Mx a b) w hc) (matmul (F := Ideal) (tn a K b wf) none (extractStridedSlice (Mx K a) ![0, o] x hs)
        (extractStridedSlice (Mx K b) ![0, o'] y hs') (constant (F := Ideal) (Mx a b) .f32 (0x00000000#32 : BitVec 32)))) hc' (ix3 (0 : Fin 1) i j)
      = (w (ix3 (0 : Fin 1) i j) + ∑ k : Fin K, x (ix2 k ⟨o + i.val, by omega⟩) * y (ix2 k ⟨o' + j.val, by omega⟩) : EReal) := by
  refine (shapeCast_apply _ hc' _ (ix2 i j) ?_).trans ?_
  · rw [Shape.rowMajor_val_two, Shape.rowMajor_val_three]
    show i.val * b + j.val = (0 * a + i.val) * b + j.val
    ring
  · refine congrArg₂ (fun p q : EReal => p + q) (shapeCast_1ab_ab_apply w hc i j) ((tn_zero none wf _ _ i j).trans (sum_eq (fun k => ?_) fun k => ?_))
    · exact congrArg x (at2 (Nat.zero_add _) rfl)
    · exact congrArg y (at2 (Nat.zero_add _) rfl)

/-- A slab of a whole. -/
theorem slab_at {N a b : ℕ} (G : (Tx N a b).Idx → EReal) (P : (Tx 1 a b).Idx → EReal) (n : Fin N) (inb)
    (h : ∀ i j, P (ix3 (0 : Fin 1) i j) = G (ix3 n i j)) (x : (Tx 1 a b).Idx) :
    P x = G ((Rect.unit (s := Tx N a b) ![n.val, 0, 0] (Tx 1 a b).size inb).emb x) := by
  obtain ⟨z, i, j, rfl⟩ : ∃ (z : Fin 1) (i : Fin a) (j : Fin b), x = ix3 z i j := ⟨_, _, _, ValueIdx.eq_ix3 x⟩
  obtain rfl : z = 0 := Subsingleton.elim _ _
  refine (h i j).trans (congrArg G (at3 ?_ ?_ ?_).symm)
  · rw [Rect.emb_apply]; show n.val + 1 * 0 = n.val; omega
  · rw [Rect.emb_apply]; show 0 + 1 * i.val = i.val; omega
  · rw [Rect.emb_apply]; show 0 + 1 * j.val = j.val; omega

/-- A load of a slab. -/
theorem ld_slab {N a b : ℕ} {e : EltTy} (Z : (Tx N a b).Idx → Elt Ideal e) (n : Fin N) (inb) (i : Fin a) (j : Fin b) :
    View.ld Z (Rect.unit (s := Tx N a b) ![n.val, 0, 0] (Tx 1 a b).size inb) (ix3 (0 : Fin 1) i j) = Z (ix3 n i j) := by
  refine congrArg Z (at3 ?_ ?_ ?_)
  · show n.val + 1 * 0 = n.val; omega
  · show 0 + 1 * i.val = i.val; omega
  · show 0 + 1 * j.val = j.val; omega

/-- The columns of a matrix's channels, and of its states. -/
abbrev chanCol (n : Fin 8) (i : Fin 128) : Fin 512 := ⟨n.val % 4 * 128 + i.val, by omega⟩
abbrev stateCol (n : Fin 8) (j : Fin 512) : Fin 4096 := ⟨n.val * 512 + j.val, by omega⟩

/-- The first column of each. -/
abbrev chanOff : Fin 8 → ℕ := ![0, 128, 256, 384, 0, 128, 256, 384]
abbrev stateOff : Fin 8 → ℕ := ![0, 512, 1024, 1536, 2048, 2560, 3072, 3584]

theorem chan_off (n : Fin 8) (i : Fin 128) : (chanCol n i).val = chanOff n + i.val :=
  congrArg (· + i.val) ((by decide : ∀ n : Fin 8, n.val % 4 * 128 = chanOff n) n)

theorem state_off (n : Fin 8) (j : Fin 512) : (stateCol n j).val = stateOff n + j.val :=
  congrArg (· + j.val) ((by decide : ∀ n : Fin 8, n.val * 512 = stateOff n) n)

variable {A B a b : ℕ} {f : Fin 8 → Fin a → Fin A} {g : Fin 8 → Fin b → Fin B}

/-- The products over a tile's rows, for each of the eight matrices. -/
def gain (f : Fin 8 → Fin a → Fin A) (g : Fin 8 → Fin b → Fin B) (x : (Mx 256 A).Idx → EReal) (y : (Mx 256 B).Idx → EReal) : (Tx 8 a b).Idx → EReal :=
  fun v => ∑ k : Fin 256, x (ix2 k (f (v 0) (v 1))) * y (ix2 k (g (v 0) (v 2)))

/-- What is stored in a slab. -/
def slabOf (o o' : ℕ) (x : FVec Ideal (Mx 256 A) .bf16) (y : FVec Ideal (Mx 256 B) .bf16) (w : FVec Ideal (Tx 1 a b) .f32) (hs : (Mx 256 A).Slices ![0, o] (Mx 256 a))
    (hs' : (Mx 256 B).Slices ![0, o'] (Mx 256 b)) (hc : (Tx 1 a b).ShapeCasts (Mx a b)) (hc' : (Mx a b).ShapeCasts (Tx 1 a b))
    (wf : DotDims.WF (Mx 256 a) (Mx 256 b) (Mx a b) [0] [0] [1] [1] [] []) : FVec Ideal (Tx 1 a b) .f32 :=
  shapeCast (Tx 1 a b) (addf (shapeCast (Mx a b) w hc) (matmul (F := Ideal) (tn a 256 b wf) none (extractStridedSlice (Mx 256 a) ![0, o] x hs)
    (extractStridedSlice (Mx 256 b) ![0, o'] y hs') (constant (F := Ideal) (Mx a b) .f32 (0x00000000#32 : BitVec 32)))) hc'

theorem slab_gain (o o' : Fin 8 → ℕ) (hf : ∀ n i, (f n i).val = o n + i.val) (hg : ∀ n j, (g n j).val = o' n + j.val)
    (x : FVec Ideal (Mx 256 A) .bf16) (y : FVec Ideal (Mx 256 B) .bf16) (z : (Tx 8 a b).Idx → EReal) (n : Fin 8) (w : FVec Ideal (Tx 1 a b) .f32)
    (hw : ∀ i j, (w (ix3 (0 : Fin 1) i j) : EReal) = z (ix3 n i j)) (hs hs' hc hc' wf inb) (v : (Tx 1 a b).Idx) :
    slabOf (o n) (o' n) x y w hs hs' hc hc' wf v = (fun v => z v + gain f g x y v : (Tx 8 a b).Idx → EReal) ((Rect.unit (s := Tx 8 a b) ![n.val, 0, 0] (Tx 1 a b).size inb).emb v) := by
  refine slab_at (fun v => (z v + gain f g x y v : EReal)) (slabOf (o n) (o' n) x y w hs hs' hc hc' wf) n inb (fun i j => ?_) v
  refine (slab_adds (o n) (o' n) (hs.2 1) (hs'.2 1) x y w hs hs' hc hc' wf i j).trans ?_
  refine congrArg₂ (fun p q : EReal => p + q) (hw i j) (Finset.sum_congr rfl fun k _ => congrArg₂ (fun p q : EReal => p * q) (congrArg x (at2 rfl ?_)) (congrArg y (at2 rfl ?_)))
  · exact (hf n i).symm
  · exact (hg n j).symm

/-- The eight slabs, over what was there. -/
theorem eight_slabs (o o' : Fin 8 → ℕ) (hf : ∀ n i, (f n i).val = o n + i.val) (hg : ∀ n j, (g n j).val = o' n + j.val)
    (x : FVec Ideal (Mx 256 A) .bf16) (y : FVec Ideal (Mx 256 B) .bf16) (z : (Tx 8 a b).Idx → EReal) (w0 w1 w2 w3 w4 w5 w6 w7 : FVec Ideal (Tx 1 a b) .f32)
    (h0 : ∀ i j, (w0 (ix3 (0 : Fin 1) i j) : EReal) = z (ix3 (⟨0, by decide⟩ : Fin 8) i j))
    (h1 : ∀ i j, (w1 (ix3 (0 : Fin 1) i j) : EReal) = z (ix3 (⟨1, by decide⟩ : Fin 8) i j))
    (h2 : ∀ i j, (w2 (ix3 (0 : Fin 1) i j) : EReal) = z (ix3 (⟨2, by decide⟩ : Fin 8) i j))
    (h3 : ∀ i j, (w3 (ix3 (0 : Fin 1) i j) : EReal) = z (ix3 (⟨3, by decide⟩ : Fin 8) i j))
    (h4 : ∀ i j, (w4 (ix3 (0 : Fin 1) i j) : EReal) = z (ix3 (⟨4, by decide⟩ : Fin 8) i j))
    (h5 : ∀ i j, (w5 (ix3 (0 : Fin 1) i j) : EReal) = z (ix3 (⟨5, by decide⟩ : Fin 8) i j))
    (h6 : ∀ i j, (w6 (ix3 (0 : Fin 1) i j) : EReal) = z (ix3 (⟨6, by decide⟩ : Fin 8) i j))
    (h7 : ∀ i j, (w7 (ix3 (0 : Fin 1) i j) : EReal) = z (ix3 (⟨7, by decide⟩ : Fin 8) i j))
    (hs : ∀ n : Fin 8, (Mx 256 A).Slices ![0, o n] (Mx 256 a)) (hs' : ∀ n : Fin 8, (Mx 256 B).Slices ![0, o' n] (Mx 256 b)) (hc hc' wf)
    (inb : ∀ (n : Fin 8) (d : Fin 3), (![n.val, 0, 0] : Fin 3 → ℕ) d + (Tx 1 a b).size d ≤ (Tx 8 a b).size d) (L : List (View.Piece (Elt Ideal) (Tx 8 a b) .f32)) (v : (Tx 8 a b).Idx) :
    (View.canon ([
      ⟨Rect.unit (s := Tx 8 a b) ![7, 0, 0] (Tx 1 a b).size (inb 7), slabOf (o 7) (o' 7) x y w7 (hs 7) (hs' 7) hc hc' wf⟩,
      ⟨Rect.unit (s := Tx 8 a b) ![6, 0, 0] (Tx 1 a b).size (inb 6), slabOf (o 6) (o' 6) x y w6 (hs 6) (hs' 6) hc hc' wf⟩,
      ⟨Rect.unit (s := Tx 8 a b) ![5, 0, 0] (Tx 1 a b).size (inb 5), slabOf (o 5) (o' 5) x y w5 (hs 5) (hs' 5) hc hc' wf⟩,
      ⟨Rect.unit (s := Tx 8 a b) ![4, 0, 0] (Tx 1 a b).size (inb 4), slabOf (o 4) (o' 4) x y w4 (hs 4) (hs' 4) hc hc' wf⟩,
      ⟨Rect.unit (s := Tx 8 a b) ![3, 0, 0] (Tx 1 a b).size (inb 3), slabOf (o 3) (o' 3) x y w3 (hs 3) (hs' 3) hc hc' wf⟩,
      ⟨Rect.unit (s := Tx 8 a b) ![2, 0, 0] (Tx 1 a b).size (inb 2), slabOf (o 2) (o' 2) x y w2 (hs 2) (hs' 2) hc hc' wf⟩,
      ⟨Rect.unit (s := Tx 8 a b) ![1, 0, 0] (Tx 1 a b).size (inb 1), slabOf (o 1) (o' 1) x y w1 (hs 1) (hs' 1) hc hc' wf⟩,
      ⟨Rect.unit (s := Tx 8 a b) ![0, 0, 0] (Tx 1 a b).size (inb 0), slabOf (o 0) (o' 0) x y w0 (hs 0) (hs' 0) hc hc' wf⟩] ++ L) v : EReal) = z v + gain f g x y v := by
  refine View.canon_append_of_piecesOf (fun v => (z v + gain f g x y v : EReal)) L [_, _, _, _, _, _, _, _] ?_ v ?_
  · exact ⟨slab_gain o o' hf hg x y z 7 w7 h7 _ _ hc hc' wf (inb 7),
      slab_gain o o' hf hg x y z 6 w6 h6 _ _ hc hc' wf (inb 6),
      slab_gain o o' hf hg x y z 5 w5 h5 _ _ hc hc' wf (inb 5),
      slab_gain o o' hf hg x y z 4 w4 h4 _ _ hc hc' wf (inb 4),
      slab_gain o o' hf hg x y z 3 w3 h3 _ _ hc hc' wf (inb 3),
      slab_gain o o' hf hg x y z 2 w2 h2 _ _ hc hc' wf (inb 2),
      slab_gain o o' hf hg x y z 1 w1 h1 _ _ hc hc' wf (inb 1),
      slab_gain o o' hf hg x y z 0 w0 h0 _ _ hc hc' wf (inb 0), trivial⟩
  · obtain ⟨n, i, j, rfl⟩ : ∃ (n : Fin 8) (i : Fin a) (j : Fin b), v = ix3 n i j := ⟨_, _, _, ValueIdx.eq_ix3 v⟩
    have hm : ix3 n i j ∈ (Rect.unit (s := Tx 8 a b) ![n.val, 0, 0] (Tx 1 a b).size (inb n)).set := Rect.mem_set_unit.mpr fun d => by
      match d with
      | ⟨0, _⟩ => exact ⟨le_rfl, Nat.lt_succ_self _⟩
      | ⟨1, _⟩ => exact ⟨Nat.zero_le _, by show i.val < 0 + a; omega⟩
      | ⟨2, _⟩ => exact ⟨Nat.zero_le _, by show j.val < 0 + b; omega⟩
    match n, hm with
    | 0, hm => exact ⟨_, .tail _ (.tail _ (.tail _ (.tail _ (.tail _ (.tail _ (.tail _ (.head _))))))), hm⟩
    | 1, hm => exact ⟨_, .tail _ (.tail _ (.tail _ (.tail _ (.tail _ (.tail _ (.head _)))))), hm⟩
    | 2, hm => exact ⟨_, .tail _ (.tail _ (.tail _ (.tail _ (.tail _ (.head _))))), hm⟩
    | 3, hm => exact ⟨_, .tail _ (.tail _ (.tail _ (.tail _ (.head _)))), hm⟩
    | 4, hm => exact ⟨_, .tail _ (.tail _ (.tail _ (.head _))), hm⟩
    | 5, hm => exact ⟨_, .tail _ (.tail _ (.head _)), hm⟩
    | 6, hm => exact ⟨_, .tail _ (.head _), hm⟩
    | 7, hm => exact ⟨_, .head _, hm⟩

/-- A load after the zeros are stored. -/
theorem filled {sig : RefSig} {κ : Kind} {sp : Space} (v : View sig κ sp (Tx 8 a b) .f32) (inb) (L : List (View.Piece (Elt Ideal) (Tx 8 a b) .f32)) (r : Rect (Tx 8 a b)) (x : r.shape.Idx) :
    (v.readCov (⟨Rect.unit (s := Tx 8 a b) ![0, 0, 0] (Tx 8 a b).size inb, broadcast (Tx 8 a b) (Scalar.ofBits (F := Ideal) .f32 0x00000000#32)⟩ :: L) r.toLoadRect x : EReal) = 0 :=
  (congrFun (View.readCov_fill v _ _ _ _ fun d => by match d with | ⟨0, _⟩ => rfl | ⟨1, _⟩ => rfl | ⟨2, _⟩ => rfl) x).trans Ideal.ofBits_zero_f32

/-- The seventeen points' products are those over all rows. -/
theorem sum_gain (x : Fin 17 → (Mx 256 A).Idx → EReal) (y : Fin 17 → (Mx 256 B).Idx → EReal) (X : Fin 4352 → Fin A → EReal) (Y : Fin 4352 → Fin B → EReal)
    (hx : ∀ (s : Fin 17) (k : Fin 256) (r : Fin 4352) (q : Fin A), r.val = s.val * 256 + k.val → x s (ix2 k q) = X r q)
    (hy : ∀ (s : Fin 17) (k : Fin 256) (r : Fin 4352) (q : Fin B), r.val = s.val * 256 + k.val → y s (ix2 k q) = Y r q) (v : (Tx 8 a b).Idx) :
    (∑ s, gain f g (x s) (y s) v) = ∑ r : Fin 4352, X r (f (v 0) (v 1)) * Y r (g (v 0) (v 2)) :=
  Cert.Kernel14Ideal.Prod.sum_rows _ _ (fun s k => x s (ix2 k (f (v 0) (v 1))) * y s (ix2 k (g (v 0) (v 2)))) (fun s => rfl) fun s k r hr =>
    congrArg₂ (fun p q : EReal => p * q) (hx s k r _ hr) (hy s k r _ hr)

/-- Eight tables as two by four, and back. -/
theorem eight {a b : ℕ} (x : (⟨4, ![2, 4, a, b]⟩ : Shape).Idx → EReal) (h : (⟨4, ![2, 4, a, b]⟩ : Shape).ShapeCasts (Tx 8 a b)) (e : Fin 2) (q : Fin 4) (i : Fin a) (j : Fin b) :
    shapeCast (Tx 8 a b) x h (ix3 (colOf (by decide : 8 = 2 * 4) e q) i j) = x (ix4 e q i j) := by
  refine shapeCast_apply x h _ _ ?_
  rw [Shape.rowMajor_val_three, Shape.rowMajor_val_four]
  rfl

/-- The columns of the states in two halves of four blocks. -/
theorem halves_blocks {n w N : ℕ} (hN : N = (2 * 4) * w) (x : (Mx n N).Idx → EReal) (h : (Mx n N).ShapeCasts ⟨4, ![n, 2, 4, w]⟩) (t : Fin n) (e : Fin 2) (q : Fin 4) (j : Fin w) :
    shapeCast ⟨4, ![n, 2, 4, w]⟩ x h (ix4 t e q j) = x (ix2 t (colOf hN (colOf (by decide : 2 * 4 = 2 * 4) e q) j)) := by
  refine shapeCast_apply x h _ _ ?_
  rw [Shape.rowMajor_val_two, Shape.rowMajor_val_four]
  subst hN
  show t.val * (2 * 4 * w) + ((e.val * 4 + q.val) * w + j.val) = ((t.val * 2 + e.val) * 4 + q.val) * w + j.val
  ring

end Cert.Prod

end
-- ==== Proof.Prod.SsmInDw.lean ====
/-
  `ssm_in_dw`: the derivative of the state-space branch's input products by the matrices of blocks, for the direction that starts
  with the context rows. Each of seventeen grid points adds to eight slabs the products over its 256 rows.
-/
module

public import proofs.«01_k».proof.Defs
public import proofs.«01_k».proof.Proof.Gen.Kernel24
public import proofs.«01_k».proof.Proof.Gen.Kernel24Ideal.Value
public import proofs.«01_k».proof.Proof.Gen.Reference24Ideal.Run
public import proofs.«01_k».proof.Proof.Prod.SsmDw
public import Idealize.ShloMosaic.Lib.Pipeline.ValueKit.Geometry
public import Idealize.ShloMosaic.Lib.Pipeline.ValueKit.Acc
public import Idealize.ShloMosaic.Lib.Pipeline.ValueKit.Tiles
import Idealize.ShloMosaic.Lib.Pointwise.Contract
public import Idealize.ShloMosaic.Lib.StableHlo.Run
public import Idealize.ShloMosaic.Lib.Quiescent
public import Idealize.ShloMosaic.Lib.Pipeline.ReadBack

@[expose] public section

noncomputable section

namespace Cert.Kernel24Ideal.Prod

open Idealize.ShloMosaic hiding ix1 ix2 ix3 ix4 ix5 eq_ix2
open Idealize.ShloMosaic.ValueIdx Idealize.ShloMosaic.TcCoe Idealize.SL.Sem
open Idealize.ShloMosaic.Pipeline (Dat)
open Cert.Kernel24Ideal Cert.Kernel24Ideal.Gen Cert.Prod
open scoped BigOperators

variable (m : (ℓ : Loc nD τ sig) → Buf (Elt Ideal) ℓ) (c : Dev nD)

theorem idx0 : ∀ t : Fin cfg0.N, win0_0.index t = ![(t.val + 16) % 17, 10] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0, 0] := (by decide +kernel : ∀ t : Fin grid0.N, _)

/-- The arguments: the projection and the derivative by the scan's input. -/
def proj : (Mx 4352 14336).Idx → EReal := m ((c : Thread nD τ).loc main_arg0)
def lam : (Mx 4352 4096).Idx → EReal := m ((c : Thread nD τ).loc main_arg1)

theorem V_proj : (V m c main_v0 : (Mx 4352 14336).Idx → EReal) = proj m c := by
  unfold V; after_results <;> rfl

/-- What a point adds. -/
def term (t : Fin cfg0.N) : (Tx 8 128 512).Idx → EReal := gain chanCol stateCol (k0_pay4 (F := Ideal) (iblk m c 0 t)) (k0_pay5 (F := Ideal) (iblk m c 1 t))

theorem acc_first (t : Fin cfg0.N) (h : t.val % 17 = 0) (y : S8x128x512.Idx) :
    outsAt0 m c t.val t.isLt y = (0 : EReal) + term m c t y := by
  rw [outsAt0_A m c t h]
  frame_out
  refine eight_slabs chanOff stateOff chan_off state_off (k0_pay4 (F := Ideal) (iblk m c 0 t)) (k0_pay5 (F := Ideal) (iblk m c 1 t)) (fun _ => 0)
    _ _ _ _ _ _ _ _ (fun i j => ?_) (fun i j => ?_) (fun i j => ?_) (fun i j => ?_) (fun i j => ?_) (fun i j => ?_) (fun i j => ?_) (fun i j => ?_) (by decide) (by decide) _ _ _ (by decide) [_] y
  all_goals
    repeat refine (congrFun (View.readCov_skip _ _ _ _ _ (by rfl)) _).trans ?_
    exact filled _ _ _ _ _

theorem acc_next (t : Fin cfg0.N) (h : ¬t.val % 17 = 0) (y : S8x128x512.Idx) :
    outsAt0 m c t.val t.isLt y = (outsAt0 m c (t.val - 1) (Nat.lt_of_le_of_lt (Nat.sub_le _ _) t.isLt) y + term m c t y : EReal) := by
  rw [outsAt0_B m c t h]
  frame_out
  generalize outsAt0 m c (t.val - 1) (Nat.lt_of_le_of_lt (Nat.sub_le _ _) t.isLt) = z
  exact eight_slabs chanOff stateOff chan_off state_off (k0_pay4 (F := Ideal) (iblk m c 0 t)) (k0_pay5 (F := Ideal) (iblk m c 1 t)) z
    _ _ _ _ _ _ _ _ (ld_slab z _ _) (ld_slab z _ _) (ld_slab z _ _) (ld_slab z _ _) (ld_slab z _ _) (ld_slab z _ _) (ld_slab z _ _) (ld_slab z _ _) (by decide) (by decide) _ _ _ (by decide) [] y

theorem out_sum (t : Fin cfg0.N) (h : t.val % 17 = 16) (y : S8x128x512.Idx) :
    outsAt0 m c t.val t.isLt y = ∑ s : Fin 17, term m c ⟨17 * (t.val / 17) + s.val, Pipeline.run_point_lt_of_flush t h s⟩ y :=
  (Pipeline.eq_sum_fin_of_reset_step_apply_of_flush (M := EReal) (fun n h => outsAt0 m c n h) 17 (fun _ => 0) (term m c)
    (acc_first m c) (acc_next m c) t h y).trans (zero_add _)

theorem proj_apply (t : Fin cfg0.N) (k : Fin 256) (s : Fin 4352) (hs : s.val = (t.val + 16) % 17 * 256 + k.val) (q : Fin 512) :
    (k0_pay4 (F := Ideal) (iblk m c 0 t) (ix2 k q) : EReal) = proj m c (ix2 s ⟨5120 + q.val, by omega⟩) := by
  unfold k0_pay4
  rw [shapeCast_self]
  rw [← V_proj]
  blk_simp [iblk]
  refine congrArg _ (at2 ?_ ?_)
  · blk_simp [idx0]; exact hs.symm
  · blk_simp [idx0]

theorem lam_apply (t : Fin cfg0.N) (k : Fin 256) (s : Fin 4352) (hs : s.val = t.val * 256 + k.val) (q : Fin 4096) :
    (k0_pay5 (F := Ideal) (iblk m c 1 t) (ix2 k q) : EReal) = lam m c (ix2 s q) := by
  show (iblk m c 1 t (ix2 k q) : EReal) = _
  rw [show lam m c = V m c main_arg1 from (V_main_arg1 m c).symm]
  blk_simp [iblk]
  refine congrArg _ (at2 ?_ ?_)
  · blk_simp [idx1]; exact hs.symm
  · blk_simp [idx1]

/-- The derivative by the matrices of blocks: over all rows. -/
abbrev dwAt (x : (Mx 4352 14336).Idx → EReal) (l : (Mx 4352 4096).Idx → EReal) (n : Fin 8) (i : Fin 128) (j : Fin 512) : EReal :=
  ∑ s : Fin 4352, x (ix2 (rowBack s) ⟨5120 + (chanCol n i).val, by omega⟩) * l (ix2 s (stateCol n j))

theorem final : (dats m 0 c).arrAt 2 cfg0.N = fun y : (Tx 8 128 512).Idx => dwAt (proj m c) (lam m c) (y 0) (y 1) (y 2) := by
  refine (dats m 0 c).arrAt_eq_of_covers 2 _ (by decide +kernel) fun t hf y => ?_
  blk_simp
  have h3 : t.val % 17 = 16 := (flush0_2 t).mp hf
  have hN : t.val < 17 := t.isLt
  rw [after0_2, out_sum m c t h3]
  obtain ⟨n, i, j, rfl⟩ : ∃ (n : Fin 8) (i : Fin 128) (j : Fin 512), y = ix3 n i j := ⟨_, _, _, ValueIdx.eq_ix3 y⟩
  have e0 : (((win0_2.blk t).view.emb (ix3 n i j) 0 : Fin 8)) = n := Fin.ext (by blk_simp [idx2]; rfl)
  have e1 : (((win0_2.blk t).view.emb (ix3 n i j) 1 : Fin 128)) = i := Fin.ext (by blk_simp [idx2]; rfl)
  have e2 : (((win0_2.blk t).view.emb (ix3 n i j) 2 : Fin 512)) = j := Fin.ext (by blk_simp [idx2]; rfl)
  refine Eq.trans ?_ (congr (congr (congrArg (dwAt (proj m c) (lam m c)) e0.symm) e1.symm) e2.symm)
  refine sum_gain _ _ (fun r q => proj m c (ix2 (rowBack r) ⟨5120 + q.val, by omega⟩)) (fun r q => lam m c (ix2 r q)) (fun s k r q hr => ?_) (fun s k r q hr => ?_) (ix3 n i j)
  · refine proj_apply m c _ k (rowBack r) ?_ q
    have hs := s.isLt
    have hk := k.isLt
    show (r.val + 4096) % 4352 = (17 * (t.val / 17) + s.val + 16) % 17 * 256 + k.val
    omega
  · refine lam_apply m c _ k r ?_ q
    show r.val = (17 * (t.val / 17) + s.val) * 256 + k.val
    omega

/-! ## The claims -/

instance : Cert.Kernel24.Facts := Cert.Kernel24.Gen.facts
instance : Cert.Kernel24Ideal.Facts := Cert.Kernel24Ideal.Gen.facts
instance : Cert.Reference24Ideal.Facts := Cert.Reference24Ideal.Gen.facts

/-- The two printed texts give the same table of calls. -/
theorem defs_eq : Cert.Kernel24.defs (F := Bits) = Cert.Kernel24Ideal.defs (F := Bits) := by
  refine congrArg (Pipeline.defs (Cert.Kernel24Ideal.pcfgs (F := Bits))) ?_
  show Defs.onTc _ = Defs.onTc _
  refine congrArg Defs.onTc (funext fun l => ?_)
  match l with
  | 0 => funext x; obtain ⟨t, s⟩ := x; rfl

/-- The frames of the kernel: one run, at any floats. -/
theorem frame_kernel : Cert.quiescent_Kernel24 (hKernel24 := Cert.Kernel24.Gen.facts) := by
  intro m g _
  rw [defs_eq]
  exact Cert.Kernel24Ideal.Gen.frame (F := Bits) m g

theorem frame_kernelIdeal : Cert.quiescent_Kernel24Ideal (hKernel24Ideal := Cert.Kernel24Ideal.Gen.facts) := fun m g _ =>
  Cert.Kernel24Ideal.Gen.frame (F := Ideal) m g

/-- The frame of the reference. -/
theorem frame_reference : Cert.quiescent_Reference24Ideal (hReference24Ideal := Cert.Reference24Ideal.Gen.facts) := fun m g _ =>
  (θ_run Cert.Reference24Ideal.defs _ _).mono (fun r h => ⟨fun c => (h c).2, sem_eq_zero_of_no_sems (by decide) r.2⟩)
    (Cert.Reference24Ideal.Value.run (F := Ideal) m g)

/-- The reference's product, at an index. -/
theorem ref_apply (x : FVec Ideal (Mx 4352 14336) .f32) (l : FVec Ideal (Mx 4352 4096) .f32)
    (h0 : (Mx 4352 14336).Slices ![0, 5120] (Mx 4352 512)) (hs : (Mx 4352 512).Slices ![4096, 0] (Mx 256 512)) (hs' : (Mx 4352 512).Slices ![0, 0] (Mx 4096 512)) (hcc)
    (hu : (Mx 4352 512).ShapeCasts (Tx 4352 4 128)) (hl : (Mx 4352 4096).ShapeCasts ⟨4, ![4352, 2, 4, 512]⟩)
    (ht : (⟨4, ![4352, 2, 4, 512]⟩ : Shape).Transposes [2, 1, 3, 0] ⟨4, ![4, 2, 512, 4352]⟩) (wf)
    (ht' : (⟨4, ![4, 2, 512, 128]⟩ : Shape).Transposes [1, 0, 3, 2] ⟨4, ![2, 4, 128, 512]⟩) (e : Fin 2) (q : Fin 4) (i : Fin 128) (j : Fin 512) :
    transpose ⟨4, ![2, 4, 128, 512]⟩ [1, 0, 3, 2] (Host.dotGeneral (F := Ideal) (sl := ⟨4, ![4, 2, 512, 4352]⟩) (sr := Tx 4352 4 128) (so := ⟨4, ![4, 2, 512, 128]⟩)
        { lhsContracting := [3], rhsContracting := [0], lhsNonContracting := [1, 2], rhsNonContracting := [2], lhsBatch := [0], rhsBatch := [1], wf := wf } none
        (transpose ⟨4, ![4, 2, 512, 4352]⟩ [2, 1, 3, 0] (shapeCast ⟨4, ![4352, 2, 4, 512]⟩ l hl) ht)
        (shapeCast (Tx 4352 4 128) (concatenate (Mx 4352 512) 0 [⟨Mx 256 512, extractStridedSlice (Mx 256 512) ![4096, 0] (extractStridedSlice (Mx 4352 512) ![0, 5120] x h0) hs⟩,
          ⟨Mx 4096 512, extractStridedSlice (Mx 4096 512) ![0, 0] (extractStridedSlice (Mx 4352 512) ![0, 5120] x h0) hs'⟩] hcc) hu)) ht' (ix4 e q i j)
      = dwAt x l (colOf (by decide : 8 = 2 * 4) e q) i j := by
  refine (congrArg _ (?_ : _ = ix4 q e j i)).trans ?_
  · funext d; match d with | ⟨0, _⟩ => rfl | ⟨1, _⟩ => rfl | ⟨2, _⟩ => rfl | ⟨3, _⟩ => rfl
  refine ((Ideal.matmul_apply₁_of (K := 4352) { lhsContracting := [3], rhsContracting := [0], lhsNonContracting := [1, 2], rhsNonContracting := [2], lhsBatch := [0], rhsBatch := [1], wf := wf } rfl rfl _ _ (fun _ => 0) (ix4 q e j i) (fun t => ix4 q e j t) (fun t => ix3 t q i)
    (fun k => by funext a; match a with | ⟨0, _⟩ => rfl | ⟨1, _⟩ => rfl | ⟨2, _⟩ => rfl | ⟨3, _⟩ => rfl)
    (fun k => by funext a; match a with | ⟨0, _⟩ => rfl | ⟨1, _⟩ => rfl | ⟨2, _⟩ => rfl)).trans (zero_add _)).trans (Finset.sum_congr rfl fun t _ => ?_)
  refine (mul_comm _ _).trans (congrArg₂ (fun p q : EReal => p * q) ?_ ?_)
  · refine (grouped (by decide : 512 = 4 * 128) _ hu t q i).trans ((context_rows _ hs hs' hcc t _).trans ?_)
    refine congrArg x (at2 (Nat.zero_add _) ?_)
    show 5120 + (q.val * 128 + i.val) = 5120 + ((e.val * 4 + q.val) % 4 * 128 + i.val)
    omega
  · refine (congrArg _ (?_ : _ = ix4 t e q j)).trans ((halves_blocks (by decide : 4096 = 2 * 4 * 512) l hl t e q j).trans rfl)
    funext d; match d with | ⟨0, _⟩ => rfl | ⟨1, _⟩ => rfl | ⟨2, _⟩ => rfl | ⟨3, _⟩ => rfl

/-! ## The reference -/

theorem algebraic : Cert.algebraic_Kernel24Ideal_Reference24Ideal (hKernel24Ideal := Cert.Kernel24Ideal.Gen.facts)
    (hReference24Ideal := Cert.Reference24Ideal.Gen.facts) := by
  intro m g m' g' _ hagree
  refine ⟨fun c => (dats m 0 c).arrAt 2 cfg0.N, Cert.Kernel24Ideal.Value.run_blocks m g, ?_⟩
  refine (θ_run Cert.Reference24Ideal.defs _ _).mono (fun _ h c => ⟨(h c).1.trans ?_, (h c).2⟩)
    (Cert.Reference24Ideal.Value.run (F := Ideal) m' g')
  clear h
  rw [(hagree c).1, (hagree c).2]
  refine Eq.trans ?_ (final m c).symm
  funext y; obtain ⟨n, i, j, rfl⟩ : ∃ (n : Fin 8) (i : Fin 128) (j : Fin 512), y = ix3 n i j := ⟨_, _, _, ValueIdx.eq_ix3 y⟩
  obtain ⟨e, q, rfl⟩ : ∃ (e : Fin 2) (q : Fin 4), n = colOf (by decide : 8 = 2 * 4) e q :=
    ⟨⟨n.val / 4, by omega⟩, ⟨n.val % 4, by omega⟩, Fin.ext (by show n.val = n.val / 4 * 4 + n.val % 4; omega)⟩
  refine (eight _ _ e q i j).trans ?_
  exact ref_apply (proj m c) (lam m c) _ _ _ _ _ _ _ _ _ e q i j

end Cert.Kernel24Ideal.Prod

end
-- ==== Proof.Prod.SsmIn.lean ====
/-
  `ssm_in`: the input products of the state-space branch, for the direction that starts with the context rows. A point of the
  grid takes 256 rows of the branch's columns of the projection and writes eight pieces, one for each matrix of eight groups'
  blocks. The reference multiplies group by group.
-/
module

public import proofs.«01_k».proof.Defs
public import proofs.«01_k».proof.Proof.Gen.Kernel25
public import proofs.«01_k».proof.Proof.Gen.Kernel25Ideal.Value
public import proofs.«01_k».proof.Proof.Gen.Reference25Ideal.Run
public import proofs.«01_k».proof.Proof.Prod.SsmInDx
public import proofs.«01_k».proof.Proof.Prod.SsmOutDx
public import Idealize.ShloMosaic.Lib.Pipeline.ValueKit.Geometry
public import Idealize.ShloMosaic.Lib.Pipeline.ValueKit.Acc
public import Idealize.ShloMosaic.Lib.Pipeline.ValueKit.Tiles
public import Idealize.ShloMosaic.Lib.StableHlo.Run
public import Idealize.ShloMosaic.Lib.Quiescent
public import Idealize.ShloMosaic.Lib.Pipeline.ReadBack

@[expose] public section

noncomputable section

namespace Cert.Kernel25Ideal.Prod

open Idealize.ShloMosaic hiding ix1 ix2 ix3 ix4 ix5 eq_ix2
open Idealize.ShloMosaic.ValueIdx Idealize.ShloMosaic.TcCoe Idealize.SL.Sem
open Idealize.ShloMosaic.Pipeline (Dat)
open Cert.Kernel25Ideal Cert.Kernel25Ideal.Gen Cert.Prod
open scoped BigOperators

variable (m : (ℓ : Loc nD τ sig) → Buf (Elt Ideal) ℓ) (c : Dev nD)

open Cert.Kernel23Ideal.Prod (stacked stacked_apply)
open Cert.Kernel22Ideal.Prod (tile)

theorem idx0 : ∀ t : Fin cfg0.N, win0_0.index t = ![(t.val + 16) % 17, 10] := (by decide +kernel : ∀ t : Fin grid0.N, _)
theorem idx1 : ∀ t : Fin cfg0.N, win0_1.index t = ![0, 0, 0] := (by decide +kernel : ∀ t : Fin grid0.N, _)
theorem idx2 : ∀ t : Fin cfg0.N, win0_2.index t = ![t.val, 0] := (by decide +kernel : ∀ t : Fin grid0.N, _)

/-- The arguments: the projection, the real and the imaginary table. -/
def proj : (Mx 4352 14336).Idx → EReal := m ((c : Thread nD τ).loc main_arg0)
def bRe : (Tx 32 64 16).Idx → EReal := m ((c : Thread nD τ).loc main_arg1)
def bIm : (Tx 32 64 16).Idx → EReal := m ((c : Thread nD τ).loc main_arg2)

/-- The eight matrices of blocks that the call is given. -/
def mats : (Tx 8 128 512).Idx → EReal := V (F := Ideal) m c main_v21

theorem V_proj : (V m c main_v0 : (Mx 4352 14336).Idx → EReal) = proj m c := by
  unfold V
  simp only [hostOps0, hostOps0_1, hostOps0_2, hostOps0_3, hostOps0_4, List.flatten_cons, List.flatten_nil, List.append_nil, List.cons_append, List.nil_append]
  after_results_simp <;> rfl

theorem mats_eq : mats m c = stacked (bRe m c) (bIm m c) := by
  unfold mats V
  simp only [hostOps0, hostOps0_1, hostOps0_2, hostOps0_3, hostOps0_4, List.flatten_cons, List.flatten_nil, List.append_nil, List.cons_append, List.nil_append]
  after_results_simp <;> rfl

/-- A lane's input: over the group's heads. -/
abbrev buAt (x : (Mx 4352 14336).Idx → EReal) (re im : (Tx 32 64 16).Idx → EReal) (s : Fin 4352) (e : Fin 2) (g : Fin 32) (k : Fin 64) : EReal :=
  ∑ h : Fin 16, x (ix2 s ⟨5120 + (g.val * 16 + h.val), by omega⟩) * (![re, im] e) (ix3 g k h)

/-- The whole, by the columns. -/
abbrev bu (x : (Mx 4352 14336).Idx → EReal) (re im : (Tx 32 64 16).Idx → EReal) (s : Fin 4352) (q : Fin 4096) : EReal :=
  buAt x re im s ⟨q.val / 2048, by omega⟩ ⟨q.val / 64 % 32, by omega⟩ ⟨q.val % 64, by omega⟩

/-- A piece of a point's result. -/
theorem piece (x : FVec Ideal (Mx 256 512) .bf16) (i : Fin 256) (s : Fin 4352) (hx : ∀ k : Fin 512, (x (ix2 i k) : EReal) = proj m c (ix2 s ⟨5120 + k.val, by omega⟩))
    (e : Fin 2) (j : Fin 4) (w : FVec Ideal (Tx 1 128 512) .f32)
    (hw : ∀ r k, (w (ix3 (0 : Fin 1) r k) : EReal) = mats m c (ix3 (colOf (by decide : 8 = 2 * 4) e j) r k))
    (o : ℕ) (ho : o = j.val * 128) (hs : (Mx 256 512).Slices ![0, o] (Mx 256 128))
    (hc : (Tx 1 128 512).ShapeCasts (Mx 128 512)) (hb) (wf) (r : Fin 512) (q : Fin 4096) (hq : q.val = (e.val * 4 + j.val) * 512 + r.val) :
    matmul (F := Ideal) (nn 256 128 512 wf) none (extractStridedSlice (Mx 256 128) ![0, o] x hs) (truncf .bf16 (shapeCast (Mx 128 512) w hc) hb)
        (constant (F := Ideal) (Mx 256 512) .f32 (0x00000000#32 : BitVec 32)) (ix2 i r) = bu (proj m c) (bRe m c) (bIm m c) s q := by
  obtain ⟨p, k, er⟩ : ∃ (p : Fin 8) (k : Fin 64), r = colOf (by decide : 512 = 8 * 64) p k :=
    ⟨⟨r.val / 64, by omega⟩, ⟨r.val % 64, by omega⟩, Fin.ext (by show r.val = r.val / 64 * 64 + r.val % 64; omega)⟩
  have hk : r.val = p.val * 64 + k.val := by rw [er]
  have he : (⟨q.val / 2048, by omega⟩ : Fin 2) = e := Fin.ext (by show q.val / 2048 = e.val; omega)
  have hg : (⟨q.val / 64 % 32, by omega⟩ : Fin 32) = colOf (by decide : 32 = 4 * 8) j p := Fin.ext (by show q.val / 64 % 32 = j.val * 8 + p.val; omega)
  have hh : (⟨q.val % 64, by omega⟩ : Fin 64) = k := Fin.ext (by show q.val % 64 = k.val; omega)
  show _ = buAt _ _ _ s (⟨q.val / 2048, by omega⟩ : Fin 2) (⟨q.val / 64 % 32, by omega⟩ : Fin 32) (⟨q.val % 64, by omega⟩ : Fin 64)
  rw [he, hg, hh, er]
  refine (lanes_nn o (by omega) x w hs hc hb wf i _).trans ?_
  refine (one_block (b := 16) (B := 128) (by decide) p _ (fun h => (![bRe m c, bIm m c] e) (ix3 (colOf (by decide : 32 = 4 * 8) j p) k h)) _ fun n h => ?_).trans (sum_eq (fun h => ?_) fun h => rfl)
  · rw [hw, mats_eq, stacked_apply]
    by_cases hn : n = p
    · rw [if_pos hn, if_pos hn.symm, hn]
    · rw [if_neg hn, if_neg (Ne.symm hn)]
  · rw [hx]
    subst ho
    refine congrArg (proj m c) (at2 rfl ?_)
    show 5120 + (j.val * 128 + (p.val * 16 + h.val)) = 5120 + ((j.val * 8 + p.val) * 16 + h.val)
    omega

/-- One matrix of the eight, as a point loads it. -/
theorem mat_apply (t : Fin cfg0.N) (n : Fin 8) (h) (r : Fin 128) (k : Fin 512) :
    (View.ld (iblk m c 1 t) (Rect.unit (s := S8x128x512) ![n.val, 0, 0] S1x128x512.size h) (ix3 (0 : Fin 1) r k) : EReal) = mats m c (ix3 n r k) := by
  refine (View.ld_unit_apply_of (iblk m c 1 t) _ _ _ (ix3 (0 : Fin 1) r k) (ix3 n r k) fun a => ?_).trans ?_
  · match a with
    | ⟨0, _⟩ => rfl
    | ⟨1, _⟩ => exact (Nat.zero_add _).symm
    | ⟨2, _⟩ => exact (Nat.zero_add _).symm
  · unfold mats
    blk_simp [iblk]
    refine congrArg _ (at3 ?_ ?_ ?_) <;> blk_simp [idx1]

theorem proj_apply (t : Fin cfg0.N) (i : Fin 256) (s : Fin 4352) (hs : s.val = (t.val + 16) % 17 * 256 + i.val) (k : Fin 512) :
    (k0_pay5 (F := Ideal) (View.ld (iblk m c 0 t) r0_0) (ix2 i k) : EReal) = proj m c (ix2 s ⟨5120 + k.val, by omega⟩) := by
  unfold k0_pay5
  rw [shapeCast_self]
  refine (View.ld_unit_apply_of (iblk m c 0 t) _ _ _ (ix2 i k) (ix2 i k) fun a => ?_).trans ?_
  · match a with
    | ⟨0, _⟩ => exact (Nat.zero_add _).symm
    | ⟨1, _⟩ => exact (Nat.zero_add _).symm
  · rw [← V_proj]
    blk_simp [iblk]
    refine congrArg _ (at2 ?_ ?_)
    · blk_simp [idx0]; exact hs.symm
    · blk_simp [idx0]

/-- A point's result. -/
theorem out_apply (t : Fin cfg0.N) (i : Fin 256) (q : Fin 4096) (s : Fin 4352) (hs : s.val = (t.val + 16) % 17 * 256 + i.val) :
    (out0_2 (F := Ideal) (iblk m c 0 t) (iblk m c 1 t) (ix2 i q) : EReal) = bu (proj m c) (bRe m c) (bIm m c) s q := by
  have hx := proj_apply m c t i s hs
  refine View.canon_eq_of_allAt _ _ _ (cover0_2 _ _ _ _ _ _ _ _ _) ?_
  refine View.allAt_cons_unit _ _ _ _ _ (tile _ i q _ _ fun r hr => piece m c _ i s hx 1 3 _ (mat_apply m c t 7 _) 384 rfl _ _ _ _ r q (by rw [hr]; rfl)) ?_
  refine View.allAt_cons_unit _ _ _ _ _ (tile _ i q _ _ fun r hr => piece m c _ i s hx 1 2 _ (mat_apply m c t 6 _) 256 rfl _ _ _ _ r q (by rw [hr]; rfl)) ?_
  refine View.allAt_cons_unit _ _ _ _ _ (tile _ i q _ _ fun r hr => piece m c _ i s hx 1 1 _ (mat_apply m c t 5 _) 128 rfl _ _ _ _ r q (by rw [hr]; rfl)) ?_
  refine View.allAt_cons_unit _ _ _ _ _ (tile _ i q _ _ fun r hr => piece m c _ i s hx 1 0 _ (mat_apply m c t 4 _) 0 rfl slices_S256x512_o0_0_S256x128 _ _ _ r q (by rw [hr]; rfl)) ?_
  refine View.allAt_cons_unit _ _ _ _ _ (tile _ i q _ _ fun r hr => piece m c _ i s hx 0 3 _ (mat_apply m c t 3 _) 384 rfl _ _ _ _ r q (by rw [hr]; rfl)) ?_
  refine View.allAt_cons_unit _ _ _ _ _ (tile _ i q _ _ fun r hr => piece m c _ i s hx 0 2 _ (mat_apply m c t 2 _) 256 rfl _ _ _ _ r q (by rw [hr]; rfl)) ?_
  refine View.allAt_cons_unit _ _ _ _ _ (tile _ i q _ _ fun r hr => piece m c _ i s hx 0 1 _ (mat_apply m c t 1 _) 128 rfl _ _ _ _ r q (by rw [hr]; rfl)) ?_
  refine View.allAt_cons_unit _ _ _ _ _ (tile _ i q _ _ fun r hr => piece m c _ i s hx 0 0 _ (mat_apply m c t 0 _) 0 rfl _ _ _ _ r q (by rw [hr]; rfl)) ?_
  exact View.allAt_nil _ _

theorem final : (dats m 0 c).arrAt 2 cfg0.N = fun i : (Mx 4352 4096).Idx => bu (proj m c) (bRe m c) (bIm m c) (rowBack (i 0)) (i 1) := by
  refine (dats m 0 c).arrAt_eq_of_covers 2 _ (by decide +kernel) fun t hf y => ?_
  blk_simp
  rw [after0_2]
  obtain ⟨i, q, rfl⟩ : ∃ (i : Fin 256) (q : Fin 4096), y = ix2 i q := ⟨_, _, eq_ix2 y⟩
  have ht : t.val < 17 := t.isLt
  refine (out_apply m c t i q ⟨(t.val + 16) % 17 * 256 + i.val, by omega⟩ rfl).trans ?_
  refine congrArg₂ (bu (proj m c) (bRe m c) (bIm m c)) (Fin.ext ?_) (Fin.ext ?_)
  · show (t.val + 16) % 17 * 256 + i.val = (((win0_2.blk t).view.emb (ix2 i q) 0).val + 4096) % 4352
    have e : ((win0_2.blk t).view.emb (ix2 i q) 0).val = t.val * 256 + i.val := by blk_simp [idx2]; rfl
    rw [e]
    omega
  · blk_simp [idx2]

/-! ## The reference -/

/-- One of the two products, by lanes. -/
theorem ref_half (x : FVec Ideal (Mx 4352 14336) .f32) (b : FVec Ideal (Tx 32 64 16) .f32)
    (h0 : (Mx 4352 14336).Slices ![0, 5120] (Mx 4352 512)) (hs : (Mx 4352 512).Slices ![4096, 0] (Mx 256 512)) (hs' : (Mx 4352 512).Slices ![0, 0] (Mx 4096 512)) (hcc)
    (hu : (Mx 4352 512).ShapeCasts (Tx 4352 32 16)) (wf) (ht : (Tx 32 64 4352).Transposes [2, 0, 1] (Tx 4352 32 64))
    (hc : (Tx 4352 32 64).ShapeCasts (Mx 4352 2048)) (s : Fin 4352) (g : Fin 32) (k : Fin 64) :
    shapeCast (Mx 4352 2048) (transpose (Tx 4352 32 64) [2, 0, 1] (Host.dotGeneral (F := Ideal) { lhsContracting := [2], rhsContracting := [2], lhsNonContracting := [1], rhsNonContracting := [0], lhsBatch := [0], rhsBatch := [1], wf := wf } none
        b (shapeCast (Tx 4352 32 16) (concatenate (Mx 4352 512) 0 [⟨Mx 256 512, extractStridedSlice (Mx 256 512) ![4096, 0] (extractStridedSlice (Mx 4352 512) ![0, 5120] x h0) hs⟩,
          ⟨Mx 4096 512, extractStridedSlice (Mx 4096 512) ![0, 0] (extractStridedSlice (Mx 4352 512) ![0, 5120] x h0) hs'⟩] hcc) hu)) ht) hc (ix2 s (colOf (by decide : 2048 = 32 * 64) g k))
      = ∑ h : Fin 16, (x (ix2 (rowBack s) ⟨5120 + (g.val * 16 + h.val), by omega⟩) * b (ix3 g k h) : EReal) := by
  refine (ungrouped (by decide : 2048 = 32 * 64) _ hc s g k).trans ((groups_back _ ht s g k).trans ((group_nt wf b _ g k s).trans (Finset.sum_congr rfl fun h _ => ?_)))
  refine (mul_comm _ _).trans (congrArg (fun y : EReal => y * b (ix3 g k h)) ?_)
  refine (grouped (by decide : 512 = 32 * 16) _ hu s g h).trans ((context_rows _ hs hs' hcc s _).trans ?_)
  exact congrArg x (at2 (Nat.zero_add _) rfl)

/-! ## The claims -/

instance : Cert.Kernel25.Facts := Cert.Kernel25.Gen.facts
instance : Cert.Kernel25Ideal.Facts := Cert.Kernel25Ideal.Gen.facts
instance : Cert.Reference25Ideal.Facts := Cert.Reference25Ideal.Gen.facts

/-- The two printed texts give the same table of calls. -/
theorem defs_eq : Cert.Kernel25.defs (F := Bits) = Cert.Kernel25Ideal.defs (F := Bits) := by
  refine congrArg (Pipeline.defs (Cert.Kernel25Ideal.pcfgs (F := Bits))) ?_
  show Defs.onTc _ = Defs.onTc _
  refine congrArg Defs.onTc (funext fun l => ?_)
  match l with
  | 0 => funext x; obtain ⟨t, s⟩ := x; rfl

/-- The frames of the kernel: one run, at any floats. -/
theorem frame_kernel : Cert.quiescent_Kernel25 (hKernel25 := Cert.Kernel25.Gen.facts) := by
  intro m g _
  rw [defs_eq]
  exact Cert.Kernel25Ideal.Gen.frame (F := Bits) m g

theorem frame_kernelIdeal : Cert.quiescent_Kernel25Ideal (hKernel25Ideal := Cert.Kernel25Ideal.Gen.facts) := fun m g _ =>
  Cert.Kernel25Ideal.Gen.frame (F := Ideal) m g

/-- The frame of the reference. -/
theorem frame_reference : Cert.quiescent_Reference25Ideal (hReference25Ideal := Cert.Reference25Ideal.Gen.facts) := fun m g _ =>
  (θ_run Cert.Reference25Ideal.defs _ _).mono (fun r h => ⟨fun c => (h c).2, sem_eq_zero_of_no_sems (by decide) r.2⟩)
    (Cert.Reference25Ideal.Value.run (F := Ideal) m g)

theorem algebraic : Cert.algebraic_Kernel25Ideal_Reference25Ideal (hKernel25Ideal := Cert.Kernel25Ideal.Gen.facts)
    (hReference25Ideal := Cert.Reference25Ideal.Gen.facts) := by
  intro m g m' g' _ hagree
  refine ⟨fun c => (dats m 0 c).arrAt 2 cfg0.N, Cert.Kernel25Ideal.Value.run_blocks m g, ?_⟩
  refine (θ_run Cert.Reference25Ideal.defs _ _).mono (fun _ h c => ⟨(h c).1.trans ?_, (h c).2⟩)
    (Cert.Reference25Ideal.Value.run (F := Ideal) m' g')
  clear h
  rw [(hagree c).1, (hagree c).2.1, (hagree c).2.2]
  refine Eq.trans ?_ (final m c).symm
  funext y; obtain ⟨t, q, rfl⟩ : ∃ (t : Fin 4352) (q : Fin 4096), y = ix2 t q := ⟨_, _, eq_ix2 y⟩
  have hq : q = colOf (by decide : 4096 = 2 * 2048) ⟨q.val / 2048, by omega⟩ (colOf (by decide : 2048 = 32 * 64) ⟨q.val / 64 % 32, by omega⟩ ⟨q.val % 64, by omega⟩) :=
    Fin.ext (by show q.val = q.val / 2048 * 2048 + (q.val / 64 % 32 * 64 + q.val % 64); omega)
  refine (congrArg _ (congrArg (ix2 t) hq)).trans ((two_sides (by decide : 4096 = 2 * 2048) _ _ _ t _ _).trans ?_)
  show _ = buAt _ _ _ (rowBack t) (⟨q.val / 2048, by omega⟩ : Fin 2) (⟨q.val / 64 % 32, by omega⟩ : Fin 32) (⟨q.val % 64, by omega⟩ : Fin 64)
  generalize (⟨q.val / 2048, by omega⟩ : Fin 2) = e
  match e with
  | 0 => exact ref_half (proj m c) (bRe m c) _ _ _ _ _ _ _ _ t _ _
  | 1 => exact ref_half (proj m c) (bIm m c) _ _ _ _ _ _ _ _ t _ _

end Cert.Kernel25Ideal.Prod

end
-- ==== Proof.Prod.SsmOutDw.lean ====
/-
  `ssm_out_dw`: the derivative of the state-space branch's output products by the matrices of blocks, for the direction that starts
  with the context rows. Each of seventeen grid points adds to eight slabs the products over its 256 rows.
-/
module

public import proofs.«01_k».proof.Defs
public import proofs.«01_k».proof.Proof.Gen.Kernel26
public import proofs.«01_k».proof.Proof.Gen.Kernel26Ideal.Value
public import proofs.«01_k».proof.Proof.Gen.Reference26Ideal.Run
public import proofs.«01_k».proof.Proof.Prod.SsmDw
public import Idealize.ShloMosaic.Lib.Pipeline.ValueKit.Geometry
public import Idealize.ShloMosaic.Lib.Pipeline.ValueKit.Acc
public import Idealize.ShloMosaic.Lib.Pipeline.ValueKit.Tiles
import Idealize.ShloMosaic.Lib.Pointwise.Contract
public import Idealize.ShloMosaic.Lib.StableHlo.Run
public import Idealize.ShloMosaic.Lib.Quiescent
public import Idealize.ShloMosaic.Lib.Pipeline.ReadBack

@[expose] public section

noncomputable section

namespace Cert.Kernel26Ideal.Prod

open Idealize.ShloMosaic hiding ix1 ix2 ix3 ix4 ix5 eq_ix2
open Idealize.ShloMosaic.ValueIdx Idealize.ShloMosaic.TcCoe Idealize.SL.Sem
open Idealize.ShloMosaic.Pipeline (Dat)
open Cert.Kernel26Ideal Cert.Kernel26Ideal.Gen Cert.Prod
open scoped BigOperators

variable (m : (ℓ : Loc nD τ sig) → Buf (Elt Ideal) ℓ) (c : Dev nD)

theorem idx0 : ∀ t : Fin cfg0.N, win0_0.index t = ![(t.val + 16) % 17, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0, 0] := (by decide +kernel : ∀ t : Fin grid0.N, _)

/-- The arguments: the scan's states and the derivative by the outputs. -/
def states : (Mx 4352 4096).Idx → EReal := m ((c : Thread nD τ).loc main_arg0)
def dy : (Mx 4352 512).Idx → EReal := m ((c : Thread nD τ).loc main_arg1)

theorem V_dy : (V m c main_v0 : (Mx 4352 512).Idx → EReal) = dy m c := by
  unfold V; after_results <;> rfl

/-- What a point adds. -/
def term (t : Fin cfg0.N) : (Tx 8 512 128).Idx → EReal := gain stateCol chanCol (k0_pay5 (F := Ideal) (iblk m c 1 t)) (k0_pay4 (F := Ideal) (iblk m c 0 t))

theorem acc_first (t : Fin cfg0.N) (h : t.val % 17 = 0) (y : S8x512x128.Idx) :
    outsAt0 m c t.val t.isLt y = (0 : EReal) + term m c t y := by
  rw [outsAt0_A m c t h]
  frame_out
  refine eight_slabs stateOff chanOff state_off chan_off (k0_pay5 (F := Ideal) (iblk m c 1 t)) (k0_pay4 (F := Ideal) (iblk m c 0 t)) (fun _ => 0)
    _ _ _ _ _ _ _ _ (fun i j => ?_) (fun i j => ?_) (fun i j => ?_) (fun i j => ?_) (fun i j => ?_) (fun i j => ?_) (fun i j => ?_) (fun i j => ?_) (by decide) (by decide) _ _ _ (by decide) [_] y
  all_goals
    repeat refine (congrFun (View.readCov_skip _ _ _ _ _ (by rfl)) _).trans ?_
    exact filled _ _ _ _ _

theorem acc_next (t : Fin cfg0.N) (h : ¬t.val % 17 = 0) (y : S8x512x128.Idx) :
    outsAt0 m c t.val t.isLt y = (outsAt0 m c (t.val - 1) (Nat.lt_of_le_of_lt (Nat.sub_le _ _) t.isLt) y + term m c t y : EReal) := by
  rw [outsAt0_B m c t h]
  frame_out
  generalize outsAt0 m c (t.val - 1) (Nat.lt_of_le_of_lt (Nat.sub_le _ _) t.isLt) = z
  exact eight_slabs stateOff chanOff state_off chan_off (k0_pay5 (F := Ideal) (iblk m c 1 t)) (k0_pay4 (F := Ideal) (iblk m c 0 t)) z
    _ _ _ _ _ _ _ _ (ld_slab z _ _) (ld_slab z _ _) (ld_slab z _ _) (ld_slab z _ _) (ld_slab z _ _) (ld_slab z _ _) (ld_slab z _ _) (ld_slab z _ _) (by decide) (by decide) _ _ _ (by decide) [] y

theorem out_sum (t : Fin cfg0.N) (h : t.val % 17 = 16) (y : S8x512x128.Idx) :
    outsAt0 m c t.val t.isLt y = ∑ s : Fin 17, term m c ⟨17 * (t.val / 17) + s.val, Pipeline.run_point_lt_of_flush t h s⟩ y :=
  (Pipeline.eq_sum_fin_of_reset_step_apply_of_flush (M := EReal) (fun n h => outsAt0 m c n h) 17 (fun _ => 0) (term m c)
    (acc_first m c) (acc_next m c) t h y).trans (zero_add _)

theorem dy_apply (t : Fin cfg0.N) (k : Fin 256) (s : Fin 4352) (hs : s.val = (t.val + 16) % 17 * 256 + k.val) (q : Fin 512) :
    (k0_pay4 (F := Ideal) (iblk m c 0 t) (ix2 k q) : EReal) = dy m c (ix2 s q) := by
  unfold k0_pay4
  rw [shapeCast_self]
  rw [← V_dy]
  blk_simp [iblk]
  refine congrArg _ (at2 ?_ ?_)
  · blk_simp [idx0]; exact hs.symm
  · blk_simp [idx0]

theorem states_apply (t : Fin cfg0.N) (k : Fin 256) (s : Fin 4352) (hs : s.val = t.val * 256 + k.val) (q : Fin 4096) :
    (k0_pay5 (F := Ideal) (iblk m c 1 t) (ix2 k q) : EReal) = states m c (ix2 s q) := by
  show (iblk m c 1 t (ix2 k q) : EReal) = _
  rw [show states m c = V m c main_arg0 from (V_main_arg0 m c).symm]
  blk_simp [iblk]
  refine congrArg _ (at2 ?_ ?_)
  · blk_simp [idx1]; exact hs.symm
  · blk_simp [idx1]

/-- The derivative by the matrices of blocks: over all rows. -/
abbrev dwAt (l : (Mx 4352 4096).Idx → EReal) (x : (Mx 4352 512).Idx → EReal) (n : Fin 8) (i : Fin 512) (j : Fin 128) : EReal :=
  ∑ s : Fin 4352, l (ix2 s (stateCol n i)) * x (ix2 (rowBack s) (chanCol n j))

theorem final : (dats m 0 c).arrAt 2 cfg0.N = fun y : (Tx 8 512 128).Idx => dwAt (states m c) (dy m c) (y 0) (y 1) (y 2) := by
  refine (dats m 0 c).arrAt_eq_of_covers 2 _ (by decide +kernel) fun t hf y => ?_
  blk_simp
  have h3 : t.val % 17 = 16 := (flush0_2 t).mp hf
  have hN : t.val < 17 := t.isLt
  rw [after0_2, out_sum m c t h3]
  obtain ⟨n, i, j, rfl⟩ : ∃ (n : Fin 8) (i : Fin 512) (j : Fin 128), y = ix3 n i j := ⟨_, _, _, ValueIdx.eq_ix3 y⟩
  have e0 : (((win0_2.blk t).view.emb (ix3 n i j) 0 : Fin 8)) = n := Fin.ext (by blk_simp [idx2]; rfl)
  have e1 : (((win0_2.blk t).view.emb (ix3 n i j) 1 : Fin 512)) = i := Fin.ext (by blk_simp [idx2]; rfl)
  have e2 : (((win0_2.blk t).view.emb (ix3 n i j) 2 : Fin 128)) = j := Fin.ext (by blk_simp [idx2]; rfl)
  refine Eq.trans ?_ (congr (congr (congrArg (dwAt (states m c) (dy m c)) e0.symm) e1.symm) e2.symm)
  refine sum_gain _ _ (fun r q => states m c (ix2 r q)) (fun r q => dy m c (ix2 (rowBack r) q)) (fun s k r q hr => ?_) (fun s k r q hr => ?_) (ix3 n i j)
  · refine states_apply m c _ k r ?_ q
    show r.val = (17 * (t.val / 17) + s.val) * 256 + k.val
    omega
  · refine dy_apply m c _ k (rowBack r) ?_ q
    have hs := s.isLt
    have hk := k.isLt
    show (r.val + 4096) % 4352 = (17 * (t.val / 17) + s.val + 16) % 17 * 256 + k.val
    omega

/-! ## The claims -/

instance : Cert.Kernel26.Facts := Cert.Kernel26.Gen.facts
instance : Cert.Kernel26Ideal.Facts := Cert.Kernel26Ideal.Gen.facts
instance : Cert.Reference26Ideal.Facts := Cert.Reference26Ideal.Gen.facts

/-- The two printed texts give the same table of calls. -/
theorem defs_eq : Cert.Kernel26.defs (F := Bits) = Cert.Kernel26Ideal.defs (F := Bits) := by
  refine congrArg (Pipeline.defs (Cert.Kernel26Ideal.pcfgs (F := Bits))) ?_
  show Defs.onTc _ = Defs.onTc _
  refine congrArg Defs.onTc (funext fun l => ?_)
  match l with
  | 0 => funext x; obtain ⟨t, s⟩ := x; rfl

/-- The frames of the kernel: one run, at any floats. -/
theorem frame_kernel : Cert.quiescent_Kernel26 (hKernel26 := Cert.Kernel26.Gen.facts) := by
  intro m g _
  rw [defs_eq]
  exact Cert.Kernel26Ideal.Gen.frame (F := Bits) m g

theorem frame_kernelIdeal : Cert.quiescent_Kernel26Ideal (hKernel26Ideal := Cert.Kernel26Ideal.Gen.facts) := fun m g _ =>
  Cert.Kernel26Ideal.Gen.frame (F := Ideal) m g

/-- The frame of the reference. -/
theorem frame_reference : Cert.quiescent_Reference26Ideal (hReference26Ideal := Cert.Reference26Ideal.Gen.facts) := fun m g _ =>
  (θ_run Cert.Reference26Ideal.defs _ _).mono (fun r h => ⟨fun c => (h c).2, sem_eq_zero_of_no_sems (by decide) r.2⟩)
    (Cert.Reference26Ideal.Value.run (F := Ideal) m g)

/-- The reference's product, at an index. -/
theorem ref_apply (l : FVec Ideal (Mx 4352 4096) .f32) (d : FVec Ideal (Mx 4352 512) .f32)
    (y : FVec Ideal (Mx 4352 512) .f32) (hy : ∀ t k, (y (ix2 t k) : EReal) = d (ix2 (rowBack t) k))
    (hu : (Mx 4352 512).ShapeCasts (Tx 4352 4 128)) (hl : (Mx 4352 4096).ShapeCasts ⟨4, ![4352, 2, 4, 512]⟩)
    (ht : (Tx 4352 4 128).Transposes [1, 2, 0] (Tx 4 128 4352)) (wf)
    (ht' : (⟨4, ![4, 128, 2, 512]⟩ : Shape).Transposes [2, 0, 3, 1] ⟨4, ![2, 4, 512, 128]⟩) (e : Fin 2) (q : Fin 4) (i : Fin 512) (j : Fin 128) :
    transpose ⟨4, ![2, 4, 512, 128]⟩ [2, 0, 3, 1] (Host.dotGeneral (F := Ideal) (sl := Tx 4 128 4352) (sr := ⟨4, ![4352, 2, 4, 512]⟩) (so := ⟨4, ![4, 128, 2, 512]⟩)
        { lhsContracting := [2], rhsContracting := [0], lhsNonContracting := [1], rhsNonContracting := [1, 3], lhsBatch := [0], rhsBatch := [2], wf := wf } none
        (transpose (Tx 4 128 4352) [1, 2, 0] (shapeCast (Tx 4352 4 128) y hu) ht) (shapeCast ⟨4, ![4352, 2, 4, 512]⟩ l hl)) ht' (ix4 e q i j)
      = dwAt l d (colOf (by decide : 8 = 2 * 4) e q) i j := by
  refine (congrArg _ (?_ : _ = ix4 q j e i)).trans ?_
  · funext d; match d with | ⟨0, _⟩ => rfl | ⟨1, _⟩ => rfl | ⟨2, _⟩ => rfl | ⟨3, _⟩ => rfl
  refine ((Ideal.matmul_apply₁_of (K := 4352) { lhsContracting := [2], rhsContracting := [0], lhsNonContracting := [1], rhsNonContracting := [1, 3], lhsBatch := [0], rhsBatch := [2], wf := wf } rfl rfl _ _ (fun _ => 0) (ix4 q j e i) (fun t => ix3 q j t) (fun t => ix4 t e q i)
    (fun k => by funext a; match a with | ⟨0, _⟩ => rfl | ⟨1, _⟩ => rfl | ⟨2, _⟩ => rfl)
    (fun k => by funext a; match a with | ⟨0, _⟩ => rfl | ⟨1, _⟩ => rfl | ⟨2, _⟩ => rfl | ⟨3, _⟩ => rfl)).trans (zero_add _)).trans (Finset.sum_congr rfl fun t _ => ?_)
  refine (mul_comm _ _).trans (congrArg₂ (fun p q : EReal => p * q) ?_ ?_)
  · exact (halves_blocks (by decide : 4096 = 2 * 4 * 512) l hl t e q i).trans rfl
  · refine (rows_behind _ ht q j t).trans ((grouped (by decide : 512 = 4 * 128) _ hu t q j).trans ((hy t _).trans ?_))
    refine congrArg d (at2 rfl ?_)
    show q.val * 128 + j.val = (e.val * 4 + q.val) % 4 * 128 + j.val
    omega

/-! ## The reference -/

theorem algebraic : Cert.algebraic_Kernel26Ideal_Reference26Ideal (hKernel26Ideal := Cert.Kernel26Ideal.Gen.facts)
    (hReference26Ideal := Cert.Reference26Ideal.Gen.facts) := by
  intro m g m' g' _ hagree
  refine ⟨fun c => (dats m 0 c).arrAt 2 cfg0.N, Cert.Kernel26Ideal.Value.run_blocks m g, ?_⟩
  refine (θ_run Cert.Reference26Ideal.defs _ _).mono (fun _ h c => ⟨(h c).1.trans ?_, (h c).2⟩)
    (Cert.Reference26Ideal.Value.run (F := Ideal) m' g')
  clear h
  rw [(hagree c).1, (hagree c).2]
  refine Eq.trans ?_ (final m c).symm
  funext y; obtain ⟨n, i, j, rfl⟩ : ∃ (n : Fin 8) (i : Fin 512) (j : Fin 128), y = ix3 n i j := ⟨_, _, _, ValueIdx.eq_ix3 y⟩
  obtain ⟨e, q, rfl⟩ : ∃ (e : Fin 2) (q : Fin 4), n = colOf (by decide : 8 = 2 * 4) e q :=
    ⟨⟨n.val / 4, by omega⟩, ⟨n.val % 4, by omega⟩, Fin.ext (by show n.val = n.val / 4 * 4 + n.val % 4; omega)⟩
  refine (eight _ _ e q i j).trans ?_
  exact ref_apply (states m c) (dy m c) _ (fun t k => rows_first (n := 512) (dy m c) Cert.Reference26Ideal.Gen.slices_S4352x512_S256x512_4096_0 Cert.Reference26Ideal.Gen.slices_S4352x512_S4096x512_0_0
    (constant (F := Ideal) Cert.Reference26Ideal.S_ .f32 0x00000000#32) Cert.Reference26Ideal.Gen.pads_S256x512_S4352x512_040960_000
    Cert.Reference26Ideal.Gen.pads_S4096x512_S4352x512_25600_000 Cert.Reference26Ideal.Gen.h_S_ (fun _ => zero_word _ _) t k) _ _ _ _ _ e q i j

end Cert.Kernel26Ideal.Prod

end
-- ==== Proof.Prod.SsmOut.lean ====
/-
  `ssm_out`: the output product of the state-space branch, for the direction that starts with the context rows. A point of the
  grid takes 256 rows of the states; each quarter of its result is a product with the real parts' blocks plus one with minus the
  imaginary parts'. The reference multiplies group by group.
-/
module

public import proofs.«01_k».proof.Defs
public import proofs.«01_k».proof.Proof.Gen.Kernel27
public import proofs.«01_k».proof.Proof.Gen.Kernel27Ideal.Value
public import proofs.«01_k».proof.Proof.Gen.Reference27Ideal.Run
public import proofs.«01_k».proof.Proof.Prod.SsmOutDx
public import proofs.«01_k».proof.Proof.Prod.Gate
public import Idealize.ShloMosaic.Lib.Pipeline.ValueKit.Geometry
public import Idealize.ShloMosaic.Lib.Pipeline.ValueKit.Acc
public import Idealize.ShloMosaic.Lib.Pipeline.ValueKit.Tiles
public import Idealize.ShloMosaic.Lib.StableHlo.Run
public import Idealize.ShloMosaic.Lib.Quiescent
public import Idealize.ShloMosaic.Lib.Pipeline.ReadBack

@[expose] public section

noncomputable section

namespace Cert.Kernel27Ideal.Prod

open Idealize.ShloMosaic hiding ix1 ix2 ix3 ix4 ix5 eq_ix2
open Idealize.ShloMosaic.ValueIdx Idealize.ShloMosaic.TcCoe Idealize.SL.Sem
open Idealize.ShloMosaic.Pipeline (Dat)
open Cert.Kernel27Ideal Cert.Kernel27Ideal.Gen Cert.Prod
open scoped BigOperators

variable (m : (ℓ : Loc nD τ sig) → Buf (Elt Ideal) ℓ) (c : Dev nD)

open Cert.Kernel22Ideal.Prod (stacked stacked_apply entry)

theorem idx0 : ∀ t : Fin cfg0.N, win0_0.index t = ![t.val, 0] := (by decide +kernel : ∀ t : Fin grid0.N, _)
theorem idx1 : ∀ t : Fin cfg0.N, win0_1.index t = ![0, 0, 0] := (by decide +kernel : ∀ t : Fin grid0.N, _)
theorem idx2 : ∀ t : Fin cfg0.N, win0_2.index t = ![(t.val + 16) % 17, 0] := (by decide +kernel : ∀ t : Fin grid0.N, _)

/-- The arguments: the states, the real and the imaginary table. -/
def st : (Mx 4352 4096).Idx → EReal := m ((c : Thread nD τ).loc main_arg0)
def cRe : (Tx 32 16 64).Idx → EReal := m ((c : Thread nD τ).loc main_arg1)
def cIm : (Tx 32 16 64).Idx → EReal := m ((c : Thread nD τ).loc main_arg2)

/-- The eight matrices of blocks that the call is given. -/
def mats : (Tx 8 512 128).Idx → EReal := V (F := Ideal) m c main_v21

theorem mats_eq : mats m c = stacked (cRe m c) (cIm m c) := by
  unfold mats V
  simp only [hostOps0, hostOps0_1, hostOps0_2, hostOps0_3, hostOps0_4, List.flatten_cons, List.flatten_nil, List.append_nil, List.cons_append, List.nil_append]
  after_results_simp <;> rfl

/-- A head's output's half: over the group's lanes. -/
abbrev halfAt (x : (Mx 4352 4096).Idx → EReal) (re im : (Tx 32 16 64).Idx → EReal) (s : Fin 4352) (e : Fin 2) (g : Fin 32) (h : Fin 16) : EReal :=
  ∑ k : Fin 64, x (ix2 s ⟨e.val * 2048 + (g.val * 64 + k.val), by omega⟩) * entry re im e g h k

/-- The outputs, by the columns. -/
abbrev ys (x : (Mx 4352 4096).Idx → EReal) (re im : (Tx 32 16 64).Idx → EReal) (s : Fin 4352) (j : Fin 512) : EReal :=
  halfAt x re im s 0 ⟨j.val / 16, by omega⟩ ⟨j.val % 16, by omega⟩ + halfAt x re im s 1 ⟨j.val / 16, by omega⟩ ⟨j.val % 16, by omega⟩

/-- A row of a point's block, some of its columns, by a column of a matrix of blocks. -/
theorem half (x : FVec Ideal (Mx 256 4096) .bf16) (i : Fin 256) (s : Fin 4352) (hx : ∀ k, (x (ix2 i k) : EReal) = st m c (ix2 s k))
    (e : Fin 2) (j : Fin 4) (w : FVec Ideal (Tx 1 512 128) .f32)
    (hw : ∀ r k, (w (ix3 (0 : Fin 1) r k) : EReal) = mats m c (ix3 (colOf (by decide : 8 = 2 * 4) e j) r k))
    (o : ℕ) (ho : o = e.val * 2048 + j.val * 512) (hs : (Mx 256 4096).Slices ![0, o] (Mx 256 512))
    (hc : (Tx 1 512 128).ShapeCasts (Mx 512 128)) (hb) (wf) (k : Fin 128) (q : Fin 512) (hq : q.val = j.val * 128 + k.val) :
    matmul (F := Ideal) (nn 256 512 128 wf) none (extractStridedSlice (Mx 256 512) ![0, o] x hs) (truncf .bf16 (shapeCast (Mx 512 128) w hc) hb)
        (constant (F := Ideal) (Mx 256 128) .f32 (0x00000000#32 : BitVec 32)) (ix2 i k)
      = halfAt (st m c) (cRe m c) (cIm m c) s e ⟨q.val / 16, by omega⟩ ⟨q.val % 16, by omega⟩ := by
  obtain ⟨p, h, er⟩ : ∃ (p : Fin 8) (h : Fin 16), k = colOf (by decide : 128 = 8 * 16) p h :=
    ⟨⟨k.val / 16, by omega⟩, ⟨k.val % 16, by omega⟩, Fin.ext (by show k.val = k.val / 16 * 16 + k.val % 16; omega)⟩
  have hk : k.val = p.val * 16 + h.val := by rw [er]
  have hg : (⟨q.val / 16, by omega⟩ : Fin 32) = colOf (by decide : 32 = 4 * 8) j p := Fin.ext (by show q.val / 16 = j.val * 8 + p.val; omega)
  have hh : (⟨q.val % 16, by omega⟩ : Fin 16) = h := Fin.ext (by show q.val % 16 = h.val; omega)
  rw [hg, hh, er]
  refine (lanes_nn o (by omega) x w hs hc hb wf i _).trans ?_
  refine (one_block (b := 64) (B := 512) (by decide) p _ (fun k => entry (cRe m c) (cIm m c) e (colOf (by decide : 32 = 4 * 8) j p) h k) _ fun n k => ?_).trans (sum_eq (fun k => ?_) fun k => rfl)
  · rw [hw, mats_eq, stacked_apply]
    by_cases hn : n = p
    · rw [if_pos hn, if_pos hn.symm, hn]
    · rw [if_neg hn, if_neg (Ne.symm hn)]
  · rw [hx]
    subst ho
    refine congrArg (st m c) (at2 rfl ?_)
    show e.val * 2048 + j.val * 512 + (p.val * 64 + k.val) = e.val * 2048 + ((j.val * 8 + p.val) * 64 + k.val)
    omega

/-- A piece of a point's result. -/
theorem piece (x : FVec Ideal (Mx 256 4096) .bf16) (i : Fin 256) (s : Fin 4352) (hx : ∀ k, (x (ix2 i k) : EReal) = st m c (ix2 s k))
    (j : Fin 4) (w w' : FVec Ideal (Tx 1 512 128) .f32)
    (hw : ∀ r k, (w (ix3 (0 : Fin 1) r k) : EReal) = mats m c (ix3 (colOf (by decide : 8 = 2 * 4) 0 j) r k))
    (hw' : ∀ r k, (w' (ix3 (0 : Fin 1) r k) : EReal) = mats m c (ix3 (colOf (by decide : 8 = 2 * 4) 1 j) r k))
    (o o' : ℕ) (ho : o = 0 * 2048 + j.val * 512) (ho' : o' = 1 * 2048 + j.val * 512)
    (hs : (Mx 256 4096).Slices ![0, o] (Mx 256 512)) (hs' : (Mx 256 4096).Slices ![0, o'] (Mx 256 512))
    (hc : (Tx 1 512 128).ShapeCasts (Mx 512 128)) (hb) (wf) (k : Fin 128) (q : Fin 512) (hq : q.val = j.val * 128 + k.val) :
    addf (matmul (F := Ideal) (nn 256 512 128 wf) none (extractStridedSlice (Mx 256 512) ![0, o] x hs) (truncf .bf16 (shapeCast (Mx 512 128) w hc) hb)
        (constant (F := Ideal) (Mx 256 128) .f32 (0x00000000#32 : BitVec 32)))
      (matmul (F := Ideal) (nn 256 512 128 wf) none (extractStridedSlice (Mx 256 512) ![0, o'] x hs') (truncf .bf16 (shapeCast (Mx 512 128) w' hc) hb)
        (constant (F := Ideal) (Mx 256 128) .f32 (0x00000000#32 : BitVec 32))) (ix2 i k) = ys (st m c) (cRe m c) (cIm m c) s q :=
  congrArg₂ (fun a b : EReal => a + b) (half m c x i s hx 0 j w hw o ho hs hc hb wf k q hq) (half m c x i s hx 1 j w' hw' o' ho' hs' hc hb wf k q hq)

/-- One matrix of the eight, as a point loads it. -/
theorem mat_apply (t : Fin cfg0.N) (n : Fin 8) (h) (r : Fin 512) (k : Fin 128) :
    (View.ld (iblk m c 1 t) (Rect.unit (s := S8x512x128) ![n.val, 0, 0] S1x512x128.size h) (ix3 (0 : Fin 1) r k) : EReal) = mats m c (ix3 n r k) := by
  refine (View.ld_unit_apply_of (iblk m c 1 t) _ _ _ (ix3 (0 : Fin 1) r k) (ix3 n r k) fun a => ?_).trans ?_
  · match a with
    | ⟨0, _⟩ => rfl
    | ⟨1, _⟩ => exact (Nat.zero_add _).symm
    | ⟨2, _⟩ => exact (Nat.zero_add _).symm
  · unfold mats
    blk_simp [iblk]
    refine congrArg _ (at3 ?_ ?_ ?_) <;> blk_simp [idx1]

theorem st_apply (t : Fin cfg0.N) (i : Fin 256) (s : Fin 4352) (hs : s.val = t.val * 256 + i.val) (k : Fin 4096) :
    (iblk m c 0 t (ix2 i k) : EReal) = st m c (ix2 s k) := by
  rw [show st m c = V m c main_arg0 from (V_main_arg0 m c).symm]
  blk_simp [iblk]
  refine congrArg _ (at2 ?_ ?_)
  · blk_simp [idx0]; exact hs.symm
  · blk_simp [idx0]

/-- A point's result. -/
theorem out_apply (t : Fin cfg0.N) (i : Fin 256) (q : Fin 512) (s : Fin 4352) (hs : s.val = t.val * 256 + i.val) :
    (out0_2 (F := Ideal) (iblk m c 0 t) (iblk m c 1 t) (ix2 i q) : EReal) = ys (st m c) (cRe m c) (cIm m c) s q := by
  have hx := st_apply m c t i s hs
  frame_out
  unfold k0_pay1 k0_pay2 k0_pay3 k0_pay4 k0_pay5 k0_pay6 k0_pay7
  refine concat4_eq _ _ _ _ _ (by decide) i (fun q => ys (st m c) (cRe m c) (cIm m c) s q) (fun k q hq => ?_) (fun k q hq => ?_) (fun k q hq => ?_) (fun k q hq => ?_) q
  · exact piece m c _ i s hx 0 _ _ (mat_apply m c t 0 _) (mat_apply m c t 4 _) 0 2048 rfl rfl _ _ _ _ _ k q (by rw [hq]; simp)
  · exact piece m c _ i s hx 1 _ _ (mat_apply m c t 1 _) (mat_apply m c t 5 _) 512 2560 rfl rfl _ _ _ _ _ k q (by rw [hq]; simp)
  · exact piece m c _ i s hx 2 _ _ (mat_apply m c t 2 _) (mat_apply m c t 6 _) 1024 3072 rfl rfl _ _ _ _ _ k q (by rw [hq]; simp)
  · exact piece m c _ i s hx 3 _ _ (mat_apply m c t 3 _) (mat_apply m c t 7 _) 1536 3584 rfl rfl _ _ _ _ _ k q (by rw [hq]; simp)

theorem final : (dats m 0 c).arrAt 2 cfg0.N = fun i : (Mx 4352 512).Idx => ys (st m c) (cRe m c) (cIm m c) (rowOf (i 0)) (i 1) := by
  refine (dats m 0 c).arrAt_eq_of_covers 2 _ (by decide +kernel) fun t hf y => ?_
  blk_simp
  rw [after0_2]
  obtain ⟨i, q, rfl⟩ : ∃ (i : Fin 256) (q : Fin 512), y = ix2 i q := ⟨_, _, eq_ix2 y⟩
  have ht : t.val < 17 := t.isLt
  refine (out_apply m c t i q ⟨t.val * 256 + i.val, by omega⟩ rfl).trans ?_
  refine congrArg₂ (ys (st m c) (cRe m c) (cIm m c)) (Fin.ext ?_) (Fin.ext ?_)
  · show t.val * 256 + i.val = (((win0_2.blk t).view.emb (ix2 i q) 0).val + 256) % 4352
    have e : ((win0_2.blk t).view.emb (ix2 i q) 0).val = (t.val + 16) % 17 * 256 + i.val := by blk_simp [idx2]; rfl
    rw [e]
    omega
  · blk_simp [idx2]

/-! ## The reference -/

/-- One of the two products, by heads. -/
theorem ref_half (x : FVec Ideal (Mx 4352 4096) .f32) (b : FVec Ideal (Tx 32 16 64) .f32) (o : ℕ) (ho : o + 2048 ≤ 4096)
    (hs : (Mx 4352 4096).Slices ![0, o] (Mx 4352 2048)) (hc : (Mx 4352 2048).ShapeCasts (Tx 4352 32 64)) (wf)
    (ht : (Tx 32 16 4352).Transposes [2, 0, 1] (Tx 4352 32 16)) (s : Fin 4352) (g : Fin 32) (h : Fin 16) :
    transpose (Tx 4352 32 16) [2, 0, 1] (Host.dotGeneral (F := Ideal) { lhsContracting := [2], rhsContracting := [2], lhsNonContracting := [1], rhsNonContracting := [0], lhsBatch := [0], rhsBatch := [1], wf := wf } none
        b (shapeCast (Tx 4352 32 64) (extractStridedSlice (Mx 4352 2048) ![0, o] x hs) hc)) ht (ix3 s g h)
      = ∑ k : Fin 64, (x (ix2 s ⟨o + (g.val * 64 + k.val), by omega⟩) * b (ix3 g h k) : EReal) := by
  refine (groups_back _ ht s g h).trans ((group_nt wf b _ g h s).trans (Finset.sum_congr rfl fun k _ => ?_))
  refine (mul_comm _ _).trans (congrArg (fun y : EReal => y * b (ix3 g h k)) ?_)
  exact (grouped (by decide : 2048 = 32 * 64) _ hc s g k).trans (congrArg x (at2 (Nat.zero_add _) rfl))

/-! ## The claims -/

instance : Cert.Kernel27.Facts := Cert.Kernel27.Gen.facts
instance : Cert.Kernel27Ideal.Facts := Cert.Kernel27Ideal.Gen.facts
instance : Cert.Reference27Ideal.Facts := Cert.Reference27Ideal.Gen.facts

/-- The two printed texts give the same table of calls. -/
theorem defs_eq : Cert.Kernel27.defs (F := Bits) = Cert.Kernel27Ideal.defs (F := Bits) := by
  refine congrArg (Pipeline.defs (Cert.Kernel27Ideal.pcfgs (F := Bits))) ?_
  show Defs.onTc _ = Defs.onTc _
  refine congrArg Defs.onTc (funext fun l => ?_)
  match l with
  | 0 => funext x; obtain ⟨t, s⟩ := x; rfl

/-- The frames of the kernel: one run, at any floats. -/
theorem frame_kernel : Cert.quiescent_Kernel27 (hKernel27 := Cert.Kernel27.Gen.facts) := by
  intro m g _
  rw [defs_eq]
  exact Cert.Kernel27Ideal.Gen.frame (F := Bits) m g

theorem frame_kernelIdeal : Cert.quiescent_Kernel27Ideal (hKernel27Ideal := Cert.Kernel27Ideal.Gen.facts) := fun m g _ =>
  Cert.Kernel27Ideal.Gen.frame (F := Ideal) m g

/-- The frame of the reference. -/
theorem frame_reference : Cert.quiescent_Reference27Ideal (hReference27Ideal := Cert.Reference27Ideal.Gen.facts) := fun m g _ =>
  (θ_run Cert.Reference27Ideal.defs _ _).mono (fun r h => ⟨fun c => (h c).2, sem_eq_zero_of_no_sems (by decide) r.2⟩)
    (Cert.Reference27Ideal.Value.run (F := Ideal) m g)

theorem algebraic : Cert.algebraic_Kernel27Ideal_Reference27Ideal (hKernel27Ideal := Cert.Kernel27Ideal.Gen.facts)
    (hReference27Ideal := Cert.Reference27Ideal.Gen.facts) := by
  intro m g m' g' _ hagree
  refine ⟨fun c => (dats m 0 c).arrAt 2 cfg0.N, Cert.Kernel27Ideal.Value.run_blocks m g, ?_⟩
  refine (θ_run Cert.Reference27Ideal.defs _ _).mono (fun _ h c => ⟨(h c).1.trans ?_, (h c).2⟩)
    (Cert.Reference27Ideal.Value.run (F := Ideal) m' g')
  clear h
  rw [(hagree c).1, (hagree c).2.1, (hagree c).2.2]
  refine Eq.trans ?_ (final m c).symm
  funext y; obtain ⟨t, q, rfl⟩ : ∃ (t : Fin 4352) (q : Fin 512), y = ix2 t q := ⟨_, _, eq_ix2 y⟩
  refine (latent_rows (n := 512) _ _ _ _ t q).trans ?_
  have hq : q = colOf (by decide : 512 = 32 * 16) ⟨q.val / 16, by omega⟩ ⟨q.val % 16, by omega⟩ := Fin.ext (by show q.val = q.val / 16 * 16 + q.val % 16; omega)
  refine (congrArg _ (congrArg (ix2 (rowOf t)) hq)).trans ((ungrouped (by decide : 512 = 32 * 16) _ _ _ _ _).trans ?_)
  refine Eq.trans (congrArg₂ (fun a b : EReal => a + b) (ref_half (st m c) (cRe m c) 0 (by decide) _ _ _ _ _ _ _)
    (ref_half (st m c) (Host.negf (F := Ideal) (φ := .f32) (cIm m c)) 2048 (by decide) _ _ _ _ _ _ _)) ?_
  refine congrArg₂ (fun a b : EReal => a + b) (sum_eq (fun k => congrArg (st m c) (at2 rfl ?_)) fun k => (if_pos rfl).symm)
    (sum_eq (fun k => congrArg (st m c) (at2 rfl ?_)) fun k => (if_neg (by decide)).symm)
  · show 0 + (q.val / 16 * 64 + k.val) = 0 * 2048 + (q.val / 16 * 64 + k.val); omega
  · show 2048 + (q.val / 16 * 64 + k.val) = 1 * 2048 + (q.val / 16 * 64 + k.val); omega

end Cert.Kernel27Ideal.Prod

end
-- ==== Proof.lean ====
module

public import proofs.«01_k».proof.Defs
public import proofs.«01_k».proof.Proof.Scan.Claims
public import proofs.«01_k».proof.Proof.Prod.Fwd
public import proofs.«01_k».proof.Proof.Prod.Dx
public import proofs.«01_k».proof.Proof.Prod.Dw
public import proofs.«01_k».proof.Proof.Prod.Out
public import proofs.«01_k».proof.Proof.Prod.OutDx
public import proofs.«01_k».proof.Proof.Prod.OutDw
public import proofs.«01_k».proof.Proof.Prod.BranchDx
public import proofs.«01_k».proof.Proof.Prod.BranchDw
public import proofs.«01_k».proof.Proof.Prod.Glu
public import proofs.«01_k».proof.Proof.Prod.GluDx
public import proofs.«01_k».proof.Proof.Prod.GluDw
public import proofs.«01_k».proof.Proof.Prod.Merge
public import proofs.«01_k».proof.Proof.Prod.MergeDx
public import proofs.«01_k».proof.Proof.Prod.GateAct
public import proofs.«01_k».proof.Proof.Prod.AdamW_in
public import proofs.«01_k».proof.Proof.Prod.AdamGluW
public import proofs.«01_k».proof.Proof.Prod.AdamW_o
public import proofs.«01_k».proof.Proof.Prod.AdamSmall
public import proofs.«01_k».proof.Proof.Prod.ModUpdate
public import proofs.«01_k».proof.Proof.Prod.SsmOutDx
public import proofs.«01_k».proof.Proof.Prod.SsmInDx
public import proofs.«01_k».proof.Proof.Prod.SsmInDw
public import proofs.«01_k».proof.Proof.Prod.SsmIn
public import proofs.«01_k».proof.Proof.Prod.SsmOutDw
public import proofs.«01_k».proof.Proof.Prod.SsmOut

@[expose] public section

noncomputable section

namespace Cert.Proof

open Idealize.ShloMosaic Idealize.SL.Sem

/-- Every claim of this certificate holds. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Scan.frame_kernel, Cert.Scan.frame_kernelIdeal, Cert.Scan.frame_reference,
    Cert.Kernel2Ideal.Prod.frame_kernel, Cert.Kernel2Ideal.Prod.frame_kernelIdeal, Cert.Kernel2Ideal.Prod.frame_reference,
    Cert.Kernel3Ideal.Prod.frame_kernel, Cert.Kernel3Ideal.Prod.frame_kernelIdeal, Cert.Kernel3Ideal.Prod.frame_reference,
    Cert.Kernel4Ideal.Prod.frame_kernel, Cert.Kernel4Ideal.Prod.frame_kernelIdeal, Cert.Kernel4Ideal.Prod.frame_reference,
    Cert.Kernel5Ideal.Prod.frame_kernel, Cert.Kernel5Ideal.Prod.frame_kernelIdeal, Cert.Kernel5Ideal.Prod.frame_reference,
    Cert.Kernel6Ideal.Prod.frame_kernel, Cert.Kernel6Ideal.Prod.frame_kernelIdeal, Cert.Kernel6Ideal.Prod.frame_reference,
    Cert.Kernel7Ideal.Prod.frame_kernel, Cert.Kernel7Ideal.Prod.frame_kernelIdeal, Cert.Kernel7Ideal.Prod.frame_reference,
    Cert.Kernel8Ideal.Prod.frame_kernel, Cert.Kernel8Ideal.Prod.frame_kernelIdeal, Cert.Kernel8Ideal.Prod.frame_reference,
    Cert.Kernel9Ideal.Prod.frame_kernel, Cert.Kernel9Ideal.Prod.frame_kernelIdeal, Cert.Kernel9Ideal.Prod.frame_reference,
    Cert.Kernel10Ideal.Prod.frame_kernel, Cert.Kernel10Ideal.Prod.frame_kernelIdeal, Cert.Kernel10Ideal.Prod.frame_reference,
    Cert.Kernel11Ideal.Prod.frame_kernel, Cert.Kernel11Ideal.Prod.frame_kernelIdeal, Cert.Kernel11Ideal.Prod.frame_reference,
    Cert.Kernel12Ideal.Prod.frame_kernel, Cert.Kernel12Ideal.Prod.frame_kernelIdeal, Cert.Kernel12Ideal.Prod.frame_reference,
    Cert.Kernel13Ideal.Prod.frame_kernel, Cert.Kernel13Ideal.Prod.frame_kernelIdeal, Cert.Kernel13Ideal.Prod.frame_reference,
    Cert.Kernel14Ideal.Prod.frame_kernel, Cert.Kernel14Ideal.Prod.frame_kernelIdeal, Cert.Kernel14Ideal.Prod.frame_reference,
    Cert.Kernel15Ideal.Prod.frame_kernel, Cert.Kernel15Ideal.Prod.frame_kernelIdeal, Cert.Kernel15Ideal.Prod.frame_reference,
    Cert.Kernel17Ideal.Prod.frame_kernel, Cert.Kernel17Ideal.Prod.frame_kernelIdeal, Cert.Kernel17Ideal.Prod.frame_reference,
    Cert.Kernel18Ideal.Prod.frame_kernel, Cert.Kernel18Ideal.Prod.frame_kernelIdeal, Cert.Kernel18Ideal.Prod.frame_reference,
    Cert.Kernel19Ideal.Prod.frame_kernel, Cert.Kernel19Ideal.Prod.frame_kernelIdeal, Cert.Kernel19Ideal.Prod.frame_reference,
    Cert.Kernel20Ideal.Prod.frame_kernel, Cert.Kernel20Ideal.Prod.frame_kernelIdeal, Cert.Kernel20Ideal.Prod.frame_reference,
    Cert.Kernel21Ideal.Prod.frame_kernel, Cert.Kernel21Ideal.Prod.frame_kernelIdeal, Cert.Kernel21Ideal.Prod.frame_reference,
    Cert.Kernel22Ideal.Prod.frame_kernel, Cert.Kernel22Ideal.Prod.frame_kernelIdeal, Cert.Kernel22Ideal.Prod.frame_reference,
    Cert.Kernel23Ideal.Prod.frame_kernel, Cert.Kernel23Ideal.Prod.frame_kernelIdeal, Cert.Kernel23Ideal.Prod.frame_reference,
    Cert.Kernel24Ideal.Prod.frame_kernel, Cert.Kernel24Ideal.Prod.frame_kernelIdeal, Cert.Kernel24Ideal.Prod.frame_reference,
    Cert.Kernel25Ideal.Prod.frame_kernel, Cert.Kernel25Ideal.Prod.frame_kernelIdeal, Cert.Kernel25Ideal.Prod.frame_reference,
    Cert.Kernel26Ideal.Prod.frame_kernel, Cert.Kernel26Ideal.Prod.frame_kernelIdeal, Cert.Kernel26Ideal.Prod.frame_reference,
    Cert.Kernel27Ideal.Prod.frame_kernel, Cert.Kernel27Ideal.Prod.frame_kernelIdeal, Cert.Kernel27Ideal.Prod.frame_reference,
    trivial, Cert.Scan.algebraic,
    trivial, Cert.Kernel2Ideal.Prod.algebraic,
    trivial, Cert.Kernel3Ideal.Prod.algebraic,
    trivial, Cert.Kernel4Ideal.Prod.algebraic,
    trivial, Cert.Kernel5Ideal.Prod.algebraic,
    trivial, Cert.Kernel6Ideal.Prod.algebraic,
    trivial, Cert.Kernel7Ideal.Prod.algebraic,
    trivial, Cert.Kernel8Ideal.Prod.algebraic,
    trivial, Cert.Kernel9Ideal.Prod.algebraic,
    trivial, Cert.Kernel10Ideal.Prod.algebraic,
    trivial, Cert.Kernel11Ideal.Prod.algebraic,
    trivial, Cert.Kernel12Ideal.Prod.algebraic,
    trivial, Cert.Kernel13Ideal.Prod.algebraic,
    trivial, Cert.Kernel14Ideal.Prod.algebraic,
    trivial, Cert.Kernel15Ideal.Prod.algebraic,
    trivial, Cert.Kernel17Ideal.Prod.algebraic,
    trivial, Cert.Kernel18Ideal.Prod.algebraic,
    trivial, Cert.Kernel19Ideal.Prod.algebraic,
    trivial, Cert.Kernel20Ideal.Prod.algebraic,
    trivial, Cert.Kernel21Ideal.Prod.algebraic,
    trivial, Cert.Kernel22Ideal.Prod.algebraic,
    trivial, Cert.Kernel23Ideal.Prod.algebraic,
    trivial, Cert.Kernel24Ideal.Prod.algebraic,
    trivial, Cert.Kernel25Ideal.Prod.algebraic,
    trivial, Cert.Kernel26Ideal.Prod.algebraic,
    trivial, Cert.Kernel27Ideal.Prod.algebraic⟩

end Cert.Proof

end
